-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)) (v2 : (c : Dev Cert.Kernel2Ideal.nD) → Buf (Elt Ideal) ((c.tc : Thread Cert.Kernel2Ideal.nD Cert.Kernel2Ideal.τ).loc Cert.Kernel2Ideal.main_v44_2)) (v3 : (c : Dev Cert.Kernel2Ideal.nD) → Buf (Elt Ideal) ((c.tc : Thread Cert.Kernel2Ideal.nD Cert.Kernel2Ideal.τ).loc Cert.Kernel2Ideal.main_v44_3)) (v4 : (c : Dev Cert.Kernel2Ideal.nD) → Buf (Elt Ideal) ((c.tc : Thread Cert.Kernel2Ideal.nD Cert.Kernel2Ideal.τ).loc Cert.Kernel2Ideal.main_v44_4)) (v5 : (c : Dev Cert.Kernel2Ideal.nD) → Buf (Elt Ideal) ((c.tc : Thread Cert.Kernel2Ideal.nD Cert.Kernel2Ideal.τ).loc Cert.Kernel2Ideal.main_v44_5)) (v6 : (c : Dev Cert.Kernel2Ideal.nD) → Buf (Elt Ideal) ((c.tc : Thread Cert.Kernel2Ideal.nD Cert.Kernel2Ideal.τ).loc Cert.Kernel2Ideal.main_v44_6)) (v7 : (c : Dev Cert.Kernel2Ideal.nD) → Buf (Elt Ideal) ((c.tc : Thread Cert.Kernel2Ideal.nD Cert.Kernel2Ideal.τ).loc Cert.Kernel2Ideal.main_v44_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_v44_2) = v2 c
          ∧ r.2.mem ((c.tc : Thread Cert.Kernel2Ideal.nD Cert.Kernel2Ideal.τ).loc Cert.Kernel2Ideal.main_v44_3) = v3 c
          ∧ r.2.mem ((c.tc : Thread Cert.Kernel2Ideal.nD Cert.Kernel2Ideal.τ).loc Cert.Kernel2Ideal.main_v44_4) = v4 c
          ∧ r.2.mem ((c.tc : Thread Cert.Kernel2Ideal.nD Cert.Kernel2Ideal.τ).loc Cert.Kernel2Ideal.main_v44_5) = v5 c
          ∧ r.2.mem ((c.tc : Thread Cert.Kernel2Ideal.nD Cert.Kernel2Ideal.τ).loc Cert.Kernel2Ideal.main_v44_6) = v6 c
          ∧ r.2.mem ((c.tc : Thread Cert.Kernel2Ideal.nD Cert.Kernel2Ideal.τ).loc Cert.Kernel2Ideal.main_v44_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v82) = v4 c
          ∧ r.2.mem ((c.tc : Thread Cert.Reference2Ideal.nD Cert.Reference2Ideal.τ).loc Cert.Reference2Ideal.main_v83) = v5 c
          ∧ r.2.mem ((c.tc : Thread Cert.Reference2Ideal.nD Cert.Reference2Ideal.τ).loc Cert.Reference2Ideal.main_v84) = v6 c
          ∧ r.2.mem ((c.tc : Thread Cert.Reference2Ideal.nD Cert.Reference2Ideal.τ).loc Cert.Reference2Ideal.main_v85) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v46_0)) (v1 : (c : Dev Cert.Kernel8Ideal.nD) → Buf (Elt Ideal) ((c.tc : Thread Cert.Kernel8Ideal.nD Cert.Kernel8Ideal.τ).loc Cert.Kernel8Ideal.main_v46_1)) (v2 : (c : Dev Cert.Kernel8Ideal.nD) → Buf (Elt Ideal) ((c.tc : Thread Cert.Kernel8Ideal.nD Cert.Kernel8Ideal.τ).loc Cert.Kernel8Ideal.main_v46_2)) (v3 : (c : Dev Cert.Kernel8Ideal.nD) → Buf (Elt Ideal) ((c.tc : Thread Cert.Kernel8Ideal.nD Cert.Kernel8Ideal.τ).loc Cert.Kernel8Ideal.main_v46_3)) (v4 : (c : Dev Cert.Kernel8Ideal.nD) → Buf (Elt Ideal) ((c.tc : Thread Cert.Kernel8Ideal.nD Cert.Kernel8Ideal.τ).loc Cert.Kernel8Ideal.main_v46_4)) (v5 : (c : Dev Cert.Kernel8Ideal.nD) → Buf (Elt Ideal) ((c.tc : Thread Cert.Kernel8Ideal.nD Cert.Kernel8Ideal.τ).loc Cert.Kernel8Ideal.main_v46_5)) (v6 : (c : Dev Cert.Kernel8Ideal.nD) → Buf (Elt Ideal) ((c.tc : Thread Cert.Kernel8Ideal.nD Cert.Kernel8Ideal.τ).loc Cert.Kernel8Ideal.main_v46_6)) (v7 : (c : Dev Cert.Kernel8Ideal.nD) → Buf (Elt Ideal) ((c.tc : Thread Cert.Kernel8Ideal.nD Cert.Kernel8Ideal.τ).loc Cert.Kernel8Ideal.main_v46_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v46_0) = v0 c
          ∧ r.2.mem ((c.tc : Thread Cert.Kernel8Ideal.nD Cert.Kernel8Ideal.τ).loc Cert.Kernel8Ideal.main_v46_1) = v1 c
          ∧ r.2.mem ((c.tc : Thread Cert.Kernel8Ideal.nD Cert.Kernel8Ideal.τ).loc Cert.Kernel8Ideal.main_v46_2) = v2 c
          ∧ r.2.mem ((c.tc : Thread Cert.Kernel8Ideal.nD Cert.Kernel8Ideal.τ).loc Cert.Kernel8Ideal.main_v46_3) = v3 c
          ∧ r.2.mem ((c.tc : Thread Cert.Kernel8Ideal.nD Cert.Kernel8Ideal.τ).loc Cert.Kernel8Ideal.main_v46_4) = v4 c
          ∧ r.2.mem ((c.tc : Thread Cert.Kernel8Ideal.nD Cert.Kernel8Ideal.τ).loc Cert.Kernel8Ideal.main_v46_5) = v5 c
          ∧ r.2.mem ((c.tc : Thread Cert.Kernel8Ideal.nD Cert.Kernel8Ideal.τ).loc Cert.Kernel8Ideal.main_v46_6) = v6 c
          ∧ r.2.mem ((c.tc : Thread Cert.Kernel8Ideal.nD Cert.Kernel8Ideal.τ).loc Cert.Kernel8Ideal.main_v46_7) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v80) = v0 c
          ∧ r.2.mem ((c.tc : Thread Cert.Reference8Ideal.nD Cert.Reference8Ideal.τ).loc Cert.Reference8Ideal.main_v81) = v1 c
          ∧ r.2.mem ((c.tc : Thread Cert.Reference8Ideal.nD Cert.Reference8Ideal.τ).loc Cert.Reference8Ideal.main_v82) = v2 c
          ∧ r.2.mem ((c.tc : Thread Cert.Reference8Ideal.nD Cert.Reference8Ideal.τ).loc Cert.Reference8Ideal.main_v83) = v3 c
          ∧ r.2.mem ((c.tc : Thread Cert.Reference8Ideal.nD Cert.Reference8Ideal.τ).loc Cert.Reference8Ideal.main_v84) = v4 c
          ∧ r.2.mem ((c.tc : Thread Cert.Reference8Ideal.nD Cert.Reference8Ideal.τ).loc Cert.Reference8Ideal.main_v85) = v5 c
          ∧ r.2.mem ((c.tc : Thread Cert.Reference8Ideal.nD Cert.Reference8Ideal.τ).loc Cert.Reference8Ideal.main_v86) = v6 c
          ∧ r.2.mem ((c.tc : Thread Cert.Reference8Ideal.nD Cert.Reference8Ideal.τ).loc Cert.Reference8Ideal.main_v87) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v33)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v33) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v27) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)) →
    ∃ (v0 : (c : Dev Cert.Kernel13Ideal.nD) → Buf (Elt Ideal) ((c.tc : Thread Cert.Kernel13Ideal.nD Cert.Kernel13Ideal.τ).loc Cert.Kernel13Ideal.main_v15_0)) (v1 : (c : Dev Cert.Kernel13Ideal.nD) → Buf (Elt Ideal) ((c.tc : Thread Cert.Kernel13Ideal.nD Cert.Kernel13Ideal.τ).loc Cert.Kernel13Ideal.main_v15_1)) (v2 : (c : Dev Cert.Kernel13Ideal.nD) → Buf (Elt Ideal) ((c.tc : Thread Cert.Kernel13Ideal.nD Cert.Kernel13Ideal.τ).loc Cert.Kernel13Ideal.main_v15_2)) (v3 : (c : Dev Cert.Kernel13Ideal.nD) → Buf (Elt Ideal) ((c.tc : Thread Cert.Kernel13Ideal.nD Cert.Kernel13Ideal.τ).loc Cert.Kernel13Ideal.main_v15_3)) (v4 : (c : Dev Cert.Kernel13Ideal.nD) → Buf (Elt Ideal) ((c.tc : Thread Cert.Kernel13Ideal.nD Cert.Kernel13Ideal.τ).loc Cert.Kernel13Ideal.main_v15_4)) (v5 : (c : Dev Cert.Kernel13Ideal.nD) → Buf (Elt Ideal) ((c.tc : Thread Cert.Kernel13Ideal.nD Cert.Kernel13Ideal.τ).loc Cert.Kernel13Ideal.main_v15_5)) (v6 : (c : Dev Cert.Kernel13Ideal.nD) → Buf (Elt Ideal) ((c.tc : Thread Cert.Kernel13Ideal.nD Cert.Kernel13Ideal.τ).loc Cert.Kernel13Ideal.main_v15_6)) (v7 : (c : Dev Cert.Kernel13Ideal.nD) → Buf (Elt Ideal) ((c.tc : Thread Cert.Kernel13Ideal.nD Cert.Kernel13Ideal.τ).loc Cert.Kernel13Ideal.main_v15_7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v15_0) = v0 c
          ∧ r.2.mem ((c.tc : Thread Cert.Kernel13Ideal.nD Cert.Kernel13Ideal.τ).loc Cert.Kernel13Ideal.main_v15_1) = v1 c
          ∧ r.2.mem ((c.tc : Thread Cert.Kernel13Ideal.nD Cert.Kernel13Ideal.τ).loc Cert.Kernel13Ideal.main_v15_2) = v2 c
          ∧ r.2.mem ((c.tc : Thread Cert.Kernel13Ideal.nD Cert.Kernel13Ideal.τ).loc Cert.Kernel13Ideal.main_v15_3) = v3 c
          ∧ r.2.mem ((c.tc : Thread Cert.Kernel13Ideal.nD Cert.Kernel13Ideal.τ).loc Cert.Kernel13Ideal.main_v15_4) = v4 c
          ∧ r.2.mem ((c.tc : Thread Cert.Kernel13Ideal.nD Cert.Kernel13Ideal.τ).loc Cert.Kernel13Ideal.main_v15_5) = v5 c
          ∧ r.2.mem ((c.tc : Thread Cert.Kernel13Ideal.nD Cert.Kernel13Ideal.τ).loc Cert.Kernel13Ideal.main_v15_6) = v6 c
          ∧ r.2.mem ((c.tc : Thread Cert.Kernel13Ideal.nD Cert.Kernel13Ideal.τ).loc Cert.Kernel13Ideal.main_v15_7) = v7 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v80) = v0 c
          ∧ r.2.mem ((c.tc : Thread Cert.Reference13Ideal.nD Cert.Reference13Ideal.τ).loc Cert.Reference13Ideal.main_v81) = v1 c
          ∧ r.2.mem ((c.tc : Thread Cert.Reference13Ideal.nD Cert.Reference13Ideal.τ).loc Cert.Reference13Ideal.main_v82) = v2 c
          ∧ r.2.mem ((c.tc : Thread Cert.Reference13Ideal.nD Cert.Reference13Ideal.τ).loc Cert.Reference13Ideal.main_v83) = v3 c
          ∧ r.2.mem ((c.tc : Thread Cert.Reference13Ideal.nD Cert.Reference13Ideal.τ).loc Cert.Reference13Ideal.main_v84) = v4 c
          ∧ r.2.mem ((c.tc : Thread Cert.Reference13Ideal.nD Cert.Reference13Ideal.τ).loc Cert.Reference13Ideal.main_v85) = v5 c
          ∧ r.2.mem ((c.tc : Thread Cert.Reference13Ideal.nD Cert.Reference13Ideal.τ).loc Cert.Reference13Ideal.main_v43) = v6 c
          ∧ r.2.mem ((c.tc : Thread Cert.Reference13Ideal.nD Cert.Reference13Ideal.τ).loc Cert.Reference13Ideal.main_v86) = v7 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4x4096x8x256 : Shape := ⟨4, ![4, 4096, 8, 256]⟩
abbrev S4x4096x8x32 : Shape := ⟨4, ![4, 4096, 8, 32]⟩
abbrev S4x4096x256 : Shape := ⟨3, ![4, 4096, 256]⟩
abbrev S4x4096x32 : Shape := ⟨3, ![4, 4096, 32]⟩
abbrev S4x4096x8x288 : Shape := ⟨4, ![4, 4096, 8, 288]⟩
abbrev S4x4096x288 : Shape := ⟨3, ![4, 4096, 288]⟩
abbrev S_ : Shape := ⟨0, ![]⟩
abbrev S4x4096x1x288 : Shape := ⟨4, ![4, 4096, 1, 288]⟩

class Facts : Prop where
  concatenates_S4x4096x8x256_S4x4096x8x32_S4x4096x8x288_d3 : Shape.Concatenates [S4x4096x8x256, S4x4096x8x32] S4x4096x8x288 3
  concatenates_S4x4096x256_S4x4096x32_S4x4096x288_d2 : Shape.Concatenates [S4x4096x256, S4x4096x32] S4x4096x288 2
  bcast_S_S4x4096x8x288 : S_.BroadcastsInDim S4x4096x8x288 (![] : Fin 0 → Fin S4x4096x8x288.rank)
  bcast_S_S4x4096x288 : S_.BroadcastsInDim S4x4096x288 (![] : Fin 0 → Fin S4x4096x288.rank)
  bcast_S4x4096x288_S4x4096x1x288_0_1_3 : S4x4096x288.BroadcastsInDim S4x4096x1x288 (![0, 1, 3] : Fin 3 → Fin S4x4096x1x288.rank)
  bcast_S4x4096x1x288_S4x4096x8x288_0_1_2_3 : S4x4096x1x288.BroadcastsInDim S4x4096x8x288 (![0, 1, 2, 3] : Fin 4 → Fin S4x4096x8x288.rank)

variable [Facts]

def fn {F : FTy → Type} [FloatOps F] (main_arg0 : FVec F S4x4096x8x256 .f32) (main_arg1 : FVec F S4x4096x8x32 .f32) (main_arg2 : FVec F S4x4096x256 .f32) (main_arg3 : FVec F S4x4096x32 .f32) : IVec S4x4096x8x288 1 :=
  let main_v0 : FVec F S4x4096x8x288 .f32 := (fun a b => concatenate S4x4096x8x288 3 [⟨S4x4096x8x256, a⟩, ⟨S4x4096x8x32, b⟩] concatenates_S4x4096x8x256_S4x4096x8x32_S4x4096x8x288_d3) main_arg0 main_arg1
  let main_v1 : FVec F S4x4096x288 .f32 := (fun a b => concatenate S4x4096x288 2 [⟨S4x4096x256, a⟩, ⟨S4x4096x32, b⟩] concatenates_S4x4096x256_S4x4096x32_S4x4096x288_d2) main_arg2 main_arg3
  let main_v2 : FVec F S4x4096x8x288 .f32 := Host.absf main_v0
  let main_cst : FVec F S_ .f32 := constant S_ .f32 0x7F800000#32
  let main_v3 : FVec F S4x4096x8x288 .f32 := broadcastInDim S4x4096x8x288 ![] bcast_S_S4x4096x8x288 main_cst
  let main_v4 : IVec S4x4096x8x288 1 := cmpf .olt main_v2 main_v3
  let main_v5 : FVec F S4x4096x288 .f32 := Host.absf main_v1
  let main_cst_0 : FVec F S_ .f32 := constant S_ .f32 0x7F800000#32
  let main_v6 : FVec F S4x4096x288 .f32 := broadcastInDim S4x4096x288 ![] bcast_S_S4x4096x288 main_cst_0
  let main_v7 : IVec S4x4096x288 1 := cmpf .olt main_v5 main_v6
  let main_v8 : IVec S4x4096x1x288 1 := broadcastInDim S4x4096x1x288 ![0, 1, 3] bcast_S4x4096x288_S4x4096x1x288_0_1_3 main_v7
  let main_v9 : IVec S4x4096x8x288 1 := broadcastInDim S4x4096x8x288 ![0, 1, 2, 3] bcast_S4x4096x1x288_S4x4096x8x288_0_1_2_3 main_v8
  let main_v10 : IVec S4x4096x8x288 1 := andi main_v4 main_v9
  main_v10
-- ==== Kernel.lean ====
abbrev S4x4096x8x256 : Shape := ⟨4, ![4, 4096, 8, 256]⟩
abbrev S4x4096x8x32 : Shape := ⟨4, ![4, 4096, 8, 32]⟩
abbrev S4x4096x256 : Shape := ⟨3, ![4, 4096, 256]⟩
abbrev S4x4096x32 : Shape := ⟨3, ![4, 4096, 32]⟩
abbrev S4x4096x8x288 : Shape := ⟨4, ![4, 4096, 8, 288]⟩
abbrev S_ : Shape := ⟨0, ![]⟩
abbrev S16384x8x288 : Shape := ⟨3, ![16384, 8, 288]⟩
abbrev S8x16384x288 : Shape := ⟨3, ![8, 16384, 288]⟩
abbrev S16384x256 : Shape := ⟨2, ![16384, 256]⟩
abbrev S16384x32 : Shape := ⟨2, ![16384, 32]⟩
abbrev S8x16384x256 : Shape := ⟨3, ![8, 16384, 256]⟩
abbrev S8x256x288 : Shape := ⟨3, ![8, 256, 288]⟩
abbrev S512x256 : Shape := ⟨2, ![512, 256]⟩
abbrev S512x32 : Shape := ⟨2, ![512, 32]⟩
abbrev S8x256x256 : Shape := ⟨3, ![8, 256, 256]⟩
abbrev S8x256x32 : Shape := ⟨3, ![8, 256, 32]⟩
abbrev S8x1x256 : Shape := ⟨3, ![8, 1, 256]⟩
abbrev S1x256x256 : Shape := ⟨3, ![1, 256, 256]⟩
abbrev S256x256 : Shape := ⟨2, ![256, 256]⟩
abbrev S1x256x32 : Shape := ⟨3, ![1, 256, 32]⟩
abbrev S256x32 : Shape := ⟨2, ![256, 32]⟩
abbrev S256x512 : Shape := ⟨2, ![256, 512]⟩
abbrev S1x1x256 : Shape := ⟨3, ![1, 1, 256]⟩
abbrev S1x256 : Shape := ⟨2, ![1, 256]⟩
abbrev S256 : Shape := ⟨1, ![256]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x8x256, .f32⟩
  | .hbm, ⟨1, _⟩ => ⟨S4x4096x8x32, .f32⟩
  | .hbm, ⟨2, _⟩ => ⟨S4x4096x256, .f32⟩
  | .hbm, ⟨3, _⟩ => ⟨S4x4096x32, .f32⟩
  | .hbm, ⟨4, _⟩ => ⟨S4x4096x8x288, .f32⟩
  | .hbm, ⟨5, _⟩ => ⟨S_, .f32⟩
  | .hbm, ⟨6, _⟩ => ⟨S4x4096x8x288, .f32⟩
  | .hbm, ⟨7, _⟩ => ⟨S4x4096x8x288, .f32⟩
  | .hbm, ⟨8, _⟩ => ⟨S16384x8x288, .f32⟩
  | .hbm, ⟨9, _⟩ => ⟨S8x16384x288, .f32⟩
  | .hbm, ⟨10, _⟩ => ⟨S16384x256, .f32⟩
  | .hbm, ⟨11, _⟩ => ⟨S16384x32, .f32⟩
  | .hbm, ⟨12, _⟩ => ⟨S8x16384x256, .f32⟩
  | .local _ .vmem, ⟨0, _⟩ => ⟨S8x256x288, .f32⟩
  | .local _ .vmem, ⟨1, _⟩ => ⟨S8x256x288, .f32⟩
  | .local _ .vmem, ⟨2, _⟩ => ⟨S512x256, .f32⟩
  | .local _ .vmem, ⟨3, _⟩ => ⟨S512x256, .f32⟩
  | .local _ .vmem, ⟨4, _⟩ => ⟨S512x32, .f32⟩
  | .local _ .vmem, ⟨5, _⟩ => ⟨S512x32, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .bf16⟩
  | .local _ .vmem, ⟨9, _⟩ => ⟨S8x256x32, .bf16⟩
  | .local _ .vmem, ⟨10, _⟩ => ⟨S8x1x256, .f32⟩
  | .local _ .vmem, ⟨11, _⟩ => ⟨S8x1x256, .f32⟩
  | .local _ .vmem, ⟨12, _⟩ => ⟨S8x256x256, .f32⟩
  | _, _ => ⟨S4x4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_cond4 (i : grid0.Coords) : BitVec 1 :=
  let arg2 : BitVec 32 := BitVec.ofNat 32 (i 2).val
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v28 : BitVec 1 := Scalar.cmpi .eq arg2 v16
  let v29 : BitVec 32 := Scalar.extui v28
  let c0_i32_10 : BitVec 32 := 0#32
  let v30 : BitVec 1 := Scalar.cmpi .ne v29 c0_i32_10
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.subi v17 arg2
  let c0_i32_4 : BitVec 32 := 0#32
  let v19 : BitVec 32 := Scalar.maxsi v18 c0_i32_4
  let v20 : BitVec 32 := Scalar.addi v0 v19
  let c0_i32_5 : BitVec 32 := 0#32
  let c0_i32_6 : BitVec 32 := 0#32
  ![v20.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.subi v17 arg2
  let c0_i32_4 : BitVec 32 := 0#32
  let v19 : BitVec 32 := Scalar.maxsi v18 c0_i32_4
  let v20 : BitVec 32 := Scalar.addi v0 v19
  let c0_i32_5 : BitVec 32 := 0#32
  let c0_i32_6 : BitVec 32 := 0#32
  ![v20.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x256x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4x4096x8x256 : Shape := ⟨4, ![4, 4096, 8, 256]⟩
abbrev S4x4096x8x32 : Shape := ⟨4, ![4, 4096, 8, 32]⟩
abbrev S4x4096x256 : Shape := ⟨3, ![4, 4096, 256]⟩
abbrev S4x4096x32 : Shape := ⟨3, ![4, 4096, 32]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x256x8x4096 : Shape := ⟨4, ![4, 256, 8, 4096]⟩
abbrev S8x4x4096x256 : Shape := ⟨4, ![8, 4, 4096, 256]⟩
abbrev S8x16384x256 : Shape := ⟨3, ![8, 16384, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x8x256, .f32⟩
  | .hbm, ⟨1, _⟩ => ⟨S4x4096x8x32, .f32⟩
  | .hbm, ⟨2, _⟩ => ⟨S4x4096x256, .f32⟩
  | .hbm, ⟨3, _⟩ => ⟨S4x4096x32, .f32⟩
  | .hbm, ⟨4, _⟩ => ⟨S4x4096x4096x8, .f32⟩
  | .hbm, ⟨5, _⟩ => ⟨S4x8x4096x4096, .f32⟩
  | .hbm, ⟨6, _⟩ => ⟨S4x4096x4096x8, .f32⟩
  | .hbm, ⟨7, _⟩ => ⟨S4x8x4096x4096, .f32⟩
  | .hbm, ⟨8, _⟩ => ⟨S4x8x4096x4096, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x256x8x4096, .f32⟩
  | .hbm, ⟨38, _⟩ => ⟨S4x4096x8x256, .f32⟩
  | .hbm, ⟨39, _⟩ => ⟨S8x4x4096x256, .f32⟩
  | .hbm, ⟨40, _⟩ => ⟨S8x16384x256, .f32⟩
  | _, _ => ⟨S4x4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x6208 : Shape := ⟨2, ![1024, 6208]⟩
abbrev S256 : Shape := ⟨1, ![256]⟩
abbrev S1024x1824 : Shape := ⟨2, ![1024, 1824]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x3072 : Shape := ⟨2, ![1024, 3072]⟩
abbrev S1024x16 : Shape := ⟨2, ![1024, 16]⟩
abbrev S1024x64 : Shape := ⟨2, ![1024, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S4x4096x1x64 : Shape := ⟨4, ![4, 4096, 1, 64]⟩
abbrev S16384x64 : Shape := ⟨2, ![16384, 64]⟩
abbrev S16384x1024 : Shape := ⟨2, ![16384, 1024]⟩
abbrev S1x1024 : Shape := ⟨2, ![1, 1024]⟩
abbrev S1x256 : Shape := ⟨2, ![1, 256]⟩
abbrev S16384x1824 : Shape := ⟨2, ![16384, 1824]⟩
abbrev S16384x512 : Shape := ⟨2, ![16384, 512]⟩
abbrev S16384x128 : Shape := ⟨2, ![16384, 128]⟩
abbrev S16384x256 : Shape := ⟨2, ![16384, 256]⟩
abbrev S16384x32 : Shape := ⟨2, ![16384, 32]⟩
abbrev S16384x3072 : Shape := ⟨2, ![16384, 3072]⟩
abbrev S256x1024 : Shape := ⟨2, ![256, 1024]⟩
abbrev S256x64 : Shape := ⟨2, ![256, 64]⟩
abbrev S256x1824 : Shape := ⟨2, ![256, 1824]⟩
abbrev S256x512 : Shape := ⟨2, ![256, 512]⟩
abbrev S256x128 : Shape := ⟨2, ![256, 128]⟩
abbrev S256x256 : Shape := ⟨2, ![256, 256]⟩
abbrev S256x32 : Shape := ⟨2, ![256, 32]⟩
abbrev S256x3072 : Shape := ⟨2, ![256, 3072]⟩
abbrev S256x1 : Shape := ⟨2, ![256, 1]⟩

abbrev nBuf : Space → Nat
  | .hbm => 59
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6208, .f32⟩
  | .hbm, ⟨3, _⟩ => ⟨S256, .f32⟩
  | .hbm, ⟨4, _⟩ => ⟨S256, .f32⟩
  | .hbm, ⟨5, _⟩ => ⟨S1024x1824, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x256, .f32⟩
  | .hbm, ⟨10, _⟩ => ⟨S1024x256, .f32⟩
  | .hbm, ⟨11, _⟩ => ⟨S1024x32, .f32⟩
  | .hbm, ⟨12, _⟩ => ⟨S1024x3072, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x64, .f32⟩
  | .hbm, ⟨17, _⟩ => ⟨S4096, .i32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S4096, .f32⟩
  | .hbm, ⟨27, _⟩ => ⟨S4096x1, .f32⟩
  | .hbm, ⟨28, _⟩ => ⟨S1x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x64, .f32⟩
  | .hbm, ⟨36, _⟩ => ⟨S1x4096x1x64, .f32⟩
  | .hbm, ⟨37, _⟩ => ⟨S4x4096x1x64, .f32⟩
  | .hbm, ⟨38, _⟩ => ⟨S16384x64, .f32⟩
  | .hbm, ⟨39, _⟩ => ⟨S16384x1024, .f32⟩
  | .hbm, ⟨40, _⟩ => ⟨S1x1024, .f32⟩
  | .hbm, ⟨41, _⟩ => ⟨S1x256, .f32⟩
  | .hbm, ⟨42, _⟩ => ⟨S1x256, .f32⟩
  | .hbm, ⟨43, _⟩ => ⟨S1024x1824, .bf16⟩
  | .hbm, ⟨44, _⟩ => ⟨S1024x512, .bf16⟩
  | .hbm, ⟨45, _⟩ => ⟨S1024x128, .bf16⟩
  | .hbm, ⟨46, _⟩ => ⟨S1024x128, .bf16⟩
  | .hbm, ⟨47, _⟩ => ⟨S1024x256, .bf16⟩
  | .hbm, ⟨48, _⟩ => ⟨S1024x256, .bf16⟩
  | .hbm, ⟨49, _⟩ => ⟨S1024x64, .bf16⟩
  | .hbm, ⟨50, _⟩ => ⟨S1024x3072, .bf16⟩
  | .hbm, ⟨51, _⟩ => ⟨S16384x1824, .f32⟩
  | .hbm, ⟨52, _⟩ => ⟨S16384x512, .f32⟩
  | .hbm, ⟨53, _⟩ => ⟨S16384x128, .f32⟩
  | .hbm, ⟨54, _⟩ => ⟨S16384x128, .f32⟩
  | .hbm, ⟨55, _⟩ => ⟨S16384x256, .f32⟩
  | .hbm, ⟨56, _⟩ => ⟨S16384x256, .f32⟩
  | .hbm, ⟨57, _⟩ => ⟨S16384x32, .f32⟩
  | .hbm, ⟨58, _⟩ => ⟨S16384x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S1024x1824, .bf16⟩
  | .local _ .vmem, ⟨8, _⟩ => ⟨S1024x512, .bf16⟩
  | .local _ .vmem, ⟨9, _⟩ => ⟨S1024x128, .bf16⟩
  | .local _ .vmem, ⟨10, _⟩ => ⟨S1024x128, .bf16⟩
  | .local _ .vmem, ⟨11, _⟩ => ⟨S1024x256, .bf16⟩
  | .local _ .vmem, ⟨12, _⟩ => ⟨S1024x256, .bf16⟩
  | .local _ .vmem, ⟨13, _⟩ => ⟨S1024x64, .bf16⟩
  | .local _ .vmem, ⟨14, _⟩ => ⟨S1024x3072, .bf16⟩
  | .local _ .vmem, ⟨15, _⟩ => ⟨S256x1824, .f32⟩
  | .local _ .vmem, ⟨16, _⟩ => ⟨S256x1824, .f32⟩
  | .local _ .vmem, ⟨17, _⟩ => ⟨S256x512, .f32⟩
  | .local _ .vmem, ⟨18, _⟩ => ⟨S256x512, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x32, .f32⟩
  | .local _ .vmem, ⟨28, _⟩ => ⟨S256x32, .f32⟩
  | .local _ .vmem, ⟨29, _⟩ => ⟨S256x3072, .f32⟩
  | .local _ .vmem, ⟨30, _⟩ => ⟨S256x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev main_v44_3 : Ref sig .tc := ⟨.hbm, 54, rfl⟩
abbrev main_v44_4 : Ref sig .tc := ⟨.hbm, 55, rfl⟩
abbrev main_v44_5 : Ref sig .tc := ⟨.hbm, 56, rfl⟩
abbrev main_v44_6 : Ref sig .tc := ⟨.hbm, 57, rfl⟩
abbrev main_v44_7 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1824 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1824 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S4x4096x1024 : Shape := ⟨3, ![4, 4096, 1024]⟩
abbrev S1024 : Shape := ⟨1, ![1024]⟩
abbrev S1024x6208 : Shape := ⟨2, ![1024, 6208]⟩
abbrev S256 : Shape := ⟨1, ![256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6208 : Shape := ⟨3, ![4, 4096, 6208]⟩
abbrev S4x4096x1824 : Shape := ⟨3, ![4, 4096, 1824]⟩
abbrev S4x4096x512 : Shape := ⟨3, ![4, 4096, 512]⟩
abbrev S4x4096x128 : Shape := ⟨3, ![4, 4096, 128]⟩
abbrev S4x4096x256 : Shape := ⟨3, ![4, 4096, 256]⟩
abbrev S4x4096x32 : Shape := ⟨3, ![4, 4096, 32]⟩
abbrev S4x4096x3072 : Shape := ⟨3, ![4, 4096, 3072]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x16 : Shape := ⟨3, ![1, 4096, 16]⟩
abbrev S4x4096x16 : Shape := ⟨3, ![4, 4096, 16]⟩
abbrev S1x1x256 : Shape := ⟨3, ![1, 1, 256]⟩
abbrev S16384x1824 : Shape := ⟨2, ![16384, 1824]⟩
abbrev S16384x512 : Shape := ⟨2, ![16384, 512]⟩
abbrev S16384x128 : Shape := ⟨2, ![16384, 128]⟩
abbrev S16384x256 : Shape := ⟨2, ![16384, 256]⟩
abbrev S16384x32 : Shape := ⟨2, ![16384, 32]⟩
abbrev S16384x3072 : Shape := ⟨2, ![16384, 3072]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6208, .f32⟩
  | .hbm, ⟨3, _⟩ => ⟨S256, .f32⟩
  | .hbm, ⟨4, _⟩ => ⟨S256, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x6208, .f32⟩
  | .hbm, ⟨22, _⟩ => ⟨S4x4096x1824, .f32⟩
  | .hbm, ⟨23, _⟩ => ⟨S4x4096x512, .f32⟩
  | .hbm, ⟨24, _⟩ => ⟨S4x4096x128, .f32⟩
  | .hbm, ⟨25, _⟩ => ⟨S4x4096x128, .f32⟩
  | .hbm, ⟨26, _⟩ => ⟨S4x4096x256, .f32⟩
  | .hbm, ⟨27, _⟩ => ⟨S4x4096x256, .f32⟩
  | .hbm, ⟨28, _⟩ => ⟨S4x4096x32, .f32⟩
  | .hbm, ⟨29, _⟩ => ⟨S4x4096x3072, .f32⟩
  | .hbm, ⟨30, _⟩ => ⟨S4096, .i32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S4096, .f32⟩
  | .hbm, ⟨40, _⟩ => ⟨S4096x1, .f32⟩
  | .hbm, ⟨41, _⟩ => ⟨S1x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S1x4096x16, .f32⟩
  | .hbm, ⟨47, _⟩ => ⟨S4096x16, .f32⟩
  | .hbm, ⟨48, _⟩ => ⟨S1x4096x16, .f32⟩
  | .hbm, ⟨49, _⟩ => ⟨S4x4096x16, .f32⟩
  | .hbm, ⟨50, _⟩ => ⟨S4x4096x16, .f32⟩
  | .hbm, ⟨51, _⟩ => ⟨S4x4096x16, .f32⟩
  | .hbm, ⟨52, _⟩ => ⟨S4x4096x16, .f32⟩
  | .hbm, ⟨53, _⟩ => ⟨S4x4096x16, .f32⟩
  | .hbm, ⟨54, _⟩ => ⟨S4x4096x16, .f32⟩
  | .hbm, ⟨55, _⟩ => ⟨S4x4096x16, .f32⟩
  | .hbm, ⟨56, _⟩ => ⟨S4x4096x16, .f32⟩
  | .hbm, ⟨57, _⟩ => ⟨S4x4096x16, .f32⟩
  | .hbm, ⟨58, _⟩ => ⟨S4x4096x16, .f32⟩
  | .hbm, ⟨59, _⟩ => ⟨S4x4096x16, .f32⟩
  | .hbm, ⟨60, _⟩ => ⟨S4x4096x16, .f32⟩
  | .hbm, ⟨61, _⟩ => ⟨S4x4096x32, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x256, .f32⟩
  | .hbm, ⟨74, _⟩ => ⟨S4x4096x256, .f32⟩
  | .hbm, ⟨75, _⟩ => ⟨S1x1x256, .f32⟩
  | .hbm, ⟨76, _⟩ => ⟨S4x4096x256, .f32⟩
  | .hbm, ⟨77, _⟩ => ⟨S4x4096x256, .f32⟩
  | .hbm, ⟨78, _⟩ => ⟨S4x4096x256, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S_, .f32⟩
  | .hbm, ⟨86, _⟩ => ⟨S4x4096x1, .f32⟩
  | .hbm, ⟨87, _⟩ => ⟨S4x4096x1, .f32⟩
  | .hbm, ⟨88, _⟩ => ⟨S4x4096x1, .f32⟩
  | .hbm, ⟨89, _⟩ => ⟨S4x4096x256, .f32⟩
  | .hbm, ⟨90, _⟩ => ⟨S4x4096x256, .f32⟩
  | .hbm, ⟨91, _⟩ => ⟨S1x1x256, .f32⟩
  | .hbm, ⟨92, _⟩ => ⟨S4x4096x256, .f32⟩
  | .hbm, ⟨93, _⟩ => ⟨S4x4096x256, .f32⟩
  | .hbm, ⟨94, _⟩ => ⟨S16384x1824, .f32⟩
  | .hbm, ⟨95, _⟩ => ⟨S16384x512, .f32⟩
  | .hbm, ⟨96, _⟩ => ⟨S16384x128, .f32⟩
  | .hbm, ⟨97, _⟩ => ⟨S16384x128, .f32⟩
  | .hbm, ⟨98, _⟩ => ⟨S16384x256, .f32⟩
  | .hbm, ⟨99, _⟩ => ⟨S16384x256, .f32⟩
  | .hbm, ⟨100, _⟩ => ⟨S16384x32, .f32⟩
  | .hbm, ⟨101, _⟩ => ⟨S16384x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2816 : Shape := ⟨2, ![1024, 2816]⟩
abbrev S16384x1024 : Shape := ⟨2, ![16384, 1024]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S16384x2816, .f32⟩
  | .hbm, ⟨9, _⟩ => ⟨S16384x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x1024 : Shape := ⟨3, ![4, 4096, 1024]⟩
abbrev S1024 : Shape := ⟨1, ![1024]⟩
abbrev S1024x2816 : Shape := ⟨2, ![1024, 2816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x2816 : Shape := ⟨2, ![16384, 2816]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x2816, .f32⟩
  | .hbm, ⟨21, _⟩ => ⟨S16384x2816, .f32⟩
  | .hbm, ⟨22, _⟩ => ⟨S4x4096x2816, .f32⟩
  | .hbm, ⟨23, _⟩ => ⟨S16384x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x2816 : Shape := ⟨3, ![4, 4096, 2816]⟩
abbrev S4x2x2816 : Shape := ⟨3, ![4, 2, 2816]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S1x256x1024 : Shape := ⟨3, ![1, 256, 1024]⟩
abbrev S1x256x2816 : Shape := ⟨3, ![1, 256, 2816]⟩
abbrev S1x8x2816 : Shape := ⟨3, ![1, 8, 2816]⟩
abbrev S1x2x2816 : Shape := ⟨3, ![1, 2, 2816]⟩
abbrev S256x2816 : Shape := ⟨2, ![256, 2816]⟩
abbrev S1x1x2816 : Shape := ⟨3, ![1, 1, 2816]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x2x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x2816, .f32⟩
  | .hbm, ⟨8, _⟩ => ⟨S2816x1024, .bf16⟩
  | .hbm, ⟨9, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2816, .f32⟩
  | .local _ .vmem, ⟨3, _⟩ => ⟨S1x256x2816, .f32⟩
  | .local _ .vmem, ⟨4, _⟩ => ⟨S1x8x2816, .f32⟩
  | .local _ .vmem, ⟨5, _⟩ => ⟨S1x8x2816, .f32⟩
  | .local _ .vmem, ⟨6, _⟩ => ⟨S1x2x2816, .f32⟩
  | .local _ .vmem, ⟨7, _⟩ => ⟨S1x2x2816, .f32⟩
  | .local _ .vmem, ⟨8, _⟩ => ⟨S1x256x2816, .f32⟩
  | .local _ .vmem, ⟨9, _⟩ => ⟨S1x256x2816, .f32⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x1024 : Shape := ⟨3, ![4, 4096, 1024]⟩
abbrev S4x4096x2816 : Shape := ⟨3, ![4, 4096, 2816]⟩
abbrev S4x2x2816 : Shape := ⟨3, ![4, 2, 2816]⟩
abbrev S3x2816 : Shape := ⟨2, ![3, 2816]⟩
abbrev S2816 : Shape := ⟨1, ![2816]⟩
abbrev S2816x1024 : Shape := ⟨2, ![2816, 1024]⟩
abbrev S4x4098x2816 : Shape := ⟨3, ![4, 4098, 2816]⟩
abbrev S1x2816 : Shape := ⟨2, ![1, 2816]⟩
abbrev S1x1x2816 : Shape := ⟨3, ![1, 1, 2816]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x2x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x4098x2816, .f32⟩
  | .hbm, ⟨8, _⟩ => ⟨S1x2816, .f32⟩
  | .hbm, ⟨9, _⟩ => ⟨S2816, .f32⟩
  | .hbm, ⟨10, _⟩ => ⟨S4x4096x2816, .f32⟩
  | .hbm, ⟨11, _⟩ => ⟨S1x1x2816, .f32⟩
  | .hbm, ⟨12, _⟩ => ⟨S4x4096x2816, .f32⟩
  | .hbm, ⟨13, _⟩ => ⟨S4x4096x2816, .f32⟩
  | .hbm, ⟨14, _⟩ => ⟨S1x1x2816, .f32⟩
  | .hbm, ⟨15, _⟩ => ⟨S4x4096x2816, .f32⟩
  | .hbm, ⟨16, _⟩ => ⟨S4x4096x2816, .f32⟩
  | .hbm, ⟨17, _⟩ => ⟨S1x2816, .f32⟩
  | .hbm, ⟨18, _⟩ => ⟨S2816, .f32⟩
  | .hbm, ⟨19, _⟩ => ⟨S4x4096x2816, .f32⟩
  | .hbm, ⟨20, _⟩ => ⟨S1x1x2816, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S1x2816, .f32⟩
  | .hbm, ⟨25, _⟩ => ⟨S2816, .f32⟩
  | .hbm, ⟨26, _⟩ => ⟨S4x4096x2816, .f32⟩
  | .hbm, ⟨27, _⟩ => ⟨S1x1x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x1024, .f32⟩
  | .hbm, ⟨50, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x4096x1024, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x4096x3072 : Shape := ⟨3, ![4, 4096, 3072]⟩
abbrev S4x4096x512 : Shape := ⟨3, ![4, 4096, 512]⟩
abbrev S4x4096x8x256 : Shape := ⟨4, ![4, 4096, 8, 256]⟩
abbrev S256x8x64 : Shape := ⟨3, ![256, 8, 64]⟩
abbrev S512x1024 : Shape := ⟨2, ![512, 1024]⟩
abbrev S1024x1024 : Shape := ⟨2, ![1024, 1024]⟩
abbrev S8x256x64 : Shape := ⟨3, ![8, 256, 64]⟩
abbrev S16384x8x256 : Shape := ⟨3, ![16384, 8, 256]⟩
abbrev S8x16384x256 : Shape := ⟨3, ![8, 16384, 256]⟩
abbrev S16384x1024 : Shape := ⟨2, ![16384, 1024]⟩
abbrev S16384x3072 : Shape := ⟨2, ![16384, 3072]⟩
abbrev S16384x512 : Shape := ⟨2, ![16384, 512]⟩
abbrev S256x1024 : Shape := ⟨2, ![256, 1024]⟩
abbrev S256x3072 : Shape := ⟨2, ![256, 3072]⟩
abbrev S256x512 : Shape := ⟨2, ![256, 512]⟩
abbrev S8x256x256 : Shape := ⟨3, ![8, 256, 256]⟩
abbrev S1x256x256 : Shape := ⟨3, ![1, 256, 256]⟩
abbrev S256x256 : Shape := ⟨2, ![256, 256]⟩
abbrev S1x256x64 : Shape := ⟨3, ![1, 256, 64]⟩
abbrev S256x64 : Shape := ⟨2, ![256, 64]⟩

abbrev nBuf : Space → Nat
  | .hbm => 23
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x3072, .f32⟩
  | .hbm, ⟨2, _⟩ => ⟨S4x4096x512, .f32⟩
  | .hbm, ⟨3, _⟩ => ⟨S4x4096x512, .f32⟩
  | .hbm, ⟨4, _⟩ => ⟨S4x4096x8x256, .f32⟩
  | .hbm, ⟨5, _⟩ => ⟨S256x8x64, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x256x64, .f32⟩
  | .hbm, ⟨11, _⟩ => ⟨S8x256x64, .bf16⟩
  | .hbm, ⟨12, _⟩ => ⟨S16384x8x256, .f32⟩
  | .hbm, ⟨13, _⟩ => ⟨S8x16384x256, .f32⟩
  | .hbm, ⟨14, _⟩ => ⟨S16384x1024, .f32⟩
  | .hbm, ⟨15, _⟩ => ⟨S16384x3072, .f32⟩
  | .hbm, ⟨16, _⟩ => ⟨S16384x512, .f32⟩
  | .hbm, ⟨17, _⟩ => ⟨S16384x512, .f32⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x256x256, .f32⟩
  | .local _ .vmem, ⟨9, _⟩ => ⟨S8x256x256, .f32⟩
  | .local _ .vmem, ⟨10, _⟩ => ⟨S8x256x64, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x4096x1024 : Shape := ⟨3, ![4, 4096, 1024]⟩
abbrev S4x4096x3072 : Shape := ⟨3, ![4, 4096, 3072]⟩
abbrev S4x4096x512 : Shape := ⟨3, ![4, 4096, 512]⟩
abbrev S4x4096x8x256 : Shape := ⟨4, ![4, 4096, 8, 256]⟩
abbrev S256x8x64 : Shape := ⟨3, ![256, 8, 64]⟩
abbrev S512x1024 : Shape := ⟨2, ![512, 1024]⟩
abbrev S1024x1024 : Shape := ⟨2, ![1024, 1024]⟩
abbrev S8x64x4x4096 : Shape := ⟨4, ![8, 64, 4, 4096]⟩
abbrev S4x4096x8x64 : Shape := ⟨4, ![4, 4096, 8, 64]⟩
abbrev S_ : Shape := ⟨0, ![]⟩
abbrev S4x4096x3x1024 : Shape := ⟨4, ![4, 4096, 3, 1024]⟩
abbrev S4x4096x1x1024 : Shape := ⟨4, ![4, 4096, 1, 1024]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x3072, .f32⟩
  | .hbm, ⟨2, _⟩ => ⟨S4x4096x512, .f32⟩
  | .hbm, ⟨3, _⟩ => ⟨S4x4096x512, .f32⟩
  | .hbm, ⟨4, _⟩ => ⟨S4x4096x8x256, .f32⟩
  | .hbm, ⟨5, _⟩ => ⟨S256x8x64, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x64x4x4096, .f32⟩
  | .hbm, ⟨11, _⟩ => ⟨S4x4096x8x64, .f32⟩
  | .hbm, ⟨12, _⟩ => ⟨S4x4096x512, .f32⟩
  | .hbm, ⟨13, _⟩ => ⟨S4x4096x3072, .f32⟩
  | .hbm, ⟨14, _⟩ => ⟨S4x4096x3072, .f32⟩
  | .hbm, ⟨15, _⟩ => ⟨S_, .f32⟩
  | .hbm, ⟨16, _⟩ => ⟨S4x4096x3072, .f32⟩
  | .hbm, ⟨17, _⟩ => ⟨S4x4096x3072, .f32⟩
  | .hbm, ⟨18, _⟩ => ⟨S_, .f32⟩
  | .hbm, ⟨19, _⟩ => ⟨S4x4096x3072, .f32⟩
  | .hbm, ⟨20, _⟩ => ⟨S4x4096x3072, .f32⟩
  | .hbm, ⟨21, _⟩ => ⟨S4x4096x3x1024, .f32⟩
  | .hbm, ⟨22, _⟩ => ⟨S4x4096x1x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel7.lean ====
abbrev S4x4096x2x4x64 : Shape := ⟨5, ![4, 4096, 2, 4, 64]⟩
abbrev S4x4096x2x64 : Shape := ⟨4, ![4, 4096, 2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S4x4096x512 : Shape := ⟨3, ![4, 4096, 512]⟩
abbrev S4x4096x128 : Shape := ⟨3, ![4, 4096, 128]⟩
abbrev S1x256x512 : Shape := ⟨3, ![1, 256, 512]⟩
abbrev S1x256x128 : Shape := ⟨3, ![1, 256, 128]⟩
abbrev S2x1024x64 : Shape := ⟨3, ![2, 1024, 64]⟩
abbrev S2x1024x1 : Shape := ⟨3, ![2, 1024, 1]⟩
abbrev S1x256x64 : Shape := ⟨3, ![1, 256, 64]⟩
abbrev S256x64 : Shape := ⟨2, ![256, 64]⟩
abbrev S1x1024x64 : Shape := ⟨3, ![1, 1024, 64]⟩
abbrev S1024x64 : Shape := ⟨2, ![1024, 64]⟩
abbrev S1x1024x1 : Shape := ⟨3, ![1, 1024, 1]⟩
abbrev S1024x1 : Shape := ⟨2, ![1024, 1]⟩
abbrev S1x128x64 : Shape := ⟨3, ![1, 128, 64]⟩
abbrev S128x64 : Shape := ⟨2, ![128, 64]⟩
abbrev S1024x128 : Shape := ⟨2, ![1024, 128]⟩
abbrev S1024x256 : Shape := ⟨2, ![1024, 256]⟩

abbrev nBuf : Space → Nat
  | .hbm => 15
  | .vmem => 12
  | .smem => 0
  | _ => 0

abbrev bufTy : (tb : Table) → Fin (tcTables nBuf tb) → BufTy
  | .hbm, ⟨0, _⟩ => ⟨S4x4096x2x4x64, .f32⟩
  | .hbm, ⟨1, _⟩ => ⟨S4x4096x2x64, .f32⟩
  | .hbm, ⟨2, _⟩ => ⟨S4x4096x2x64, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S256x128, .f32⟩
  | .hbm, ⟨11, _⟩ => ⟨S4x4096x512, .f32⟩
  | .hbm, ⟨12, _⟩ => ⟨S4x4096x128, .f32⟩
  | .hbm, ⟨13, _⟩ => ⟨S4x4096x128, .f32⟩
  | .hbm, ⟨14, _⟩ => ⟨S4x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S256x128, .f32⟩
  | .local _ .vmem, ⟨7, _⟩ => ⟨S1x256x512, .f32⟩
  | .local _ .vmem, ⟨8, _⟩ => ⟨S1x256x512, .f32⟩
  | .local _ .vmem, ⟨9, _⟩ => ⟨S2x1024x64, .bf16⟩
  | .local _ .vmem, ⟨10, _⟩ => ⟨S2x1024x1, .f32⟩
  | .local _ .vmem, ⟨11, _⟩ => ⟨S2x1024x64, .f32⟩
  | _, _ => ⟨S4x4096x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 16], ![false, false, false]⟩

def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.subi arg1 arg2
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.subi arg1 arg2
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4x4096x2x4x64 : Shape := ⟨5, ![4, 4096, 2, 4, 64]⟩
abbrev S4x4096x2x64 : Shape := ⟨4, ![4, 4096, 2, 64]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x64x4x4096 : Shape := ⟨5, ![4, 2, 64, 4, 4096]⟩
abbrev S4x4096x512 : Shape := ⟨3, ![4, 4096, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x2x4x64, .f32⟩
  | .hbm, ⟨1, _⟩ => ⟨S4x4096x2x64, .f32⟩
  | .hbm, ⟨2, _⟩ => ⟨S4x4096x2x64, .f32⟩
  | .hbm, ⟨3, _⟩ => ⟨S4x2x4096x4096x4, .f32⟩
  | .hbm, ⟨4, _⟩ => ⟨S4x2x4x4096x4096, .f32⟩
  | .hbm, ⟨5, _⟩ => ⟨S_, .f32⟩
  | .hbm, ⟨6, _⟩ => ⟨S4x2x4x4096x4096, .f32⟩
  | .hbm, ⟨7, _⟩ => ⟨S4x2x4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4x2x4x4096x4096, .f32⟩
  | .hbm, ⟨15, _⟩ => ⟨S4x2x4x4096x4096, .f32⟩
  | .hbm, ⟨16, _⟩ => ⟨S_, .f32⟩
  | .hbm, ⟨17, _⟩ => ⟨S4x2x4x4096x4096, .f32⟩
  | .hbm, ⟨18, _⟩ => ⟨S4x2x4x4096x4096, .f32⟩
  | .hbm, ⟨19, _⟩ => ⟨S4x2x4x4096x4096, .f32⟩
  | .hbm, ⟨20, _⟩ => ⟨S4x2x4x4096x4096, .f32⟩
  | .hbm, ⟨21, _⟩ => ⟨S4x2x4x4096x4096, .i1⟩
  | .hbm, ⟨22, _⟩ => ⟨S4x2x4x4096x4096, .f32⟩
  | .hbm, ⟨23, _⟩ => ⟨S4x2x4x4096x4096, .f32⟩
  | .hbm, ⟨24, _⟩ => ⟨S4x2x4x4096x4096, .f32⟩
  | .hbm, ⟨25, _⟩ => ⟨S4x2x4x4096x4096, .f32⟩
  | .hbm, ⟨26, _⟩ => ⟨S4x2x4x4096x4096, .f32⟩
  | .hbm, ⟨27, _⟩ => ⟨S4x2x4x4096x4096, .f32⟩
  | .hbm, ⟨28, _⟩ => ⟨S4x2x4x4096x4096, .f32⟩
  | .hbm, ⟨29, _⟩ => ⟨S4x2x4x4096x4096, .f32⟩
  | .hbm, ⟨30, _⟩ => ⟨S4x2x4x4096x4096, .f32⟩
  | .hbm, ⟨31, _⟩ => ⟨S_, .f32⟩
  | .hbm, ⟨32, _⟩ => ⟨S_, .f32⟩
  | .hbm, ⟨33, _⟩ => ⟨S4x2x4x4096x4096, .i1⟩
  | .hbm, ⟨34, _⟩ => ⟨S4x2x4x4096x4096, .f32⟩
  | .hbm, ⟨35, _⟩ => ⟨S4x2x4x4096x4096, .f32⟩
  | .hbm, ⟨36, _⟩ => ⟨S_, .f32⟩
  | .hbm, ⟨37, _⟩ => ⟨S_, .f32⟩
  | .hbm, ⟨38, _⟩ => ⟨S4x2x4x4096x4096, .f32⟩
  | .hbm, ⟨39, _⟩ => ⟨S4x2x4x4096x4096, .f32⟩
  | .hbm, ⟨40, _⟩ => ⟨S4x2x4x4096x4096, .f32⟩
  | .hbm, ⟨41, _⟩ => ⟨S_, .f32⟩
  | .hbm, ⟨42, _⟩ => ⟨S4x2x4x4096x4096, .f32⟩
  | .hbm, ⟨43, _⟩ => ⟨S4x2x4x4096x4096, .f32⟩
  | .hbm, ⟨44, _⟩ => ⟨S4x2x4x4096x4096, .f32⟩
  | .hbm, ⟨45, _⟩ => ⟨S4x2x4x4096x4096, .f32⟩
  | .hbm, ⟨46, _⟩ => ⟨S4x2x4x4096x4096, .i1⟩
  | .hbm, ⟨47, _⟩ => ⟨S4x2x4x4096x4096, .f32⟩
  | .hbm, ⟨48, _⟩ => ⟨S4x2x4x4096x4096, .f32⟩
  | .hbm, ⟨49, _⟩ => ⟨S4x2x4x4096x4096, .f32⟩
  | .hbm, ⟨50, _⟩ => ⟨S4x2x4x4096x4096, .f32⟩
  | .hbm, ⟨51, _⟩ => ⟨S4x2x4x4096x4096, .f32⟩
  | .hbm, ⟨52, _⟩ => ⟨S4x2x4x4096x4096, .f32⟩
  | .hbm, ⟨53, _⟩ => ⟨S4x2x4x4096x4096, .f32⟩
  | .hbm, ⟨54, _⟩ => ⟨S4x2x4x4096x4096, .f32⟩
  | .hbm, ⟨55, _⟩ => ⟨S4x2x4x4096x4096, .f32⟩
  | .hbm, ⟨56, _⟩ => ⟨S4x2x4x4096x4096, .f32⟩
  | .hbm, ⟨57, _⟩ => ⟨S4x2x4x4096x4096, .f32⟩
  | .hbm, ⟨58, _⟩ => ⟨S_, .f32⟩
  | .hbm, ⟨59, _⟩ => ⟨S_, .f32⟩
  | .hbm, ⟨60, _⟩ => ⟨S4x2x4x4096x4096, .i1⟩
  | .hbm, ⟨61, _⟩ => ⟨S4x2x4x4096x4096, .f32⟩
  | .hbm, ⟨62, _⟩ => ⟨S4x2x4x4096x4096, .f32⟩
  | .hbm, ⟨63, _⟩ => ⟨S4x2x64x4x4096, .f32⟩
  | .hbm, ⟨64, _⟩ => ⟨S4x4096x2x4x64, .f32⟩
  | .hbm, ⟨65, _⟩ => ⟨S4x4096x512, .f32⟩
  | _, _ => ⟨S4x4096x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_call2_cst : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Kernel8.lean ====
abbrev S128x8x1024 : Shape := ⟨3, ![128, 8, 1024]⟩
abbrev S1024 : Shape := ⟨1, ![1024]⟩
abbrev S1024x6208 : Shape := ⟨2, ![1024, 6208]⟩
abbrev S256 : Shape := ⟨1, ![256]⟩
abbrev S1024x1824 : Shape := ⟨2, ![1024, 1824]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x3072 : Shape := ⟨2, ![1024, 3072]⟩
abbrev S1024x16 : Shape := ⟨2, ![1024, 16]⟩
abbrev S1024x64 : Shape := ⟨2, ![1024, 64]⟩
abbrev S8 : Shape := ⟨1, ![8]⟩
abbrev S_ : Shape := ⟨0, ![]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x64 : Shape := ⟨2, ![8, 64]⟩
abbrev S1x8x1x64 : Shape := ⟨4, ![1, 8, 1, 64]⟩
abbrev S128x8x1x64 : Shape := ⟨4, ![128, 8, 1, 64]⟩
abbrev S1024x1024 : Shape := ⟨2, ![1024, 1024]⟩
abbrev S1x1024 : Shape := ⟨2, ![1, 1024]⟩
abbrev S1x256 : Shape := ⟨2, ![1, 256]⟩
abbrev S256x1024 : Shape := ⟨2, ![256, 1024]⟩
abbrev S256x64 : Shape := ⟨2, ![256, 64]⟩
abbrev S256x1824 : Shape := ⟨2, ![256, 1824]⟩
abbrev S256x512 : Shape := ⟨2, ![256, 512]⟩
abbrev S256x128 : Shape := ⟨2, ![256, 128]⟩
abbrev S256x256 : Shape := ⟨2, ![256, 256]⟩
abbrev S256x32 : Shape := ⟨2, ![256, 32]⟩
abbrev S256x3072 : Shape := ⟨2, ![256, 3072]⟩
abbrev S256x1 : Shape := ⟨2, ![256, 1]⟩

abbrev nBuf : Space → Nat
  | .hbm => 62
  | .vmem => 31
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6208, .f32⟩
  | .hbm, ⟨3, _⟩ => ⟨S256, .f32⟩
  | .hbm, ⟨4, _⟩ => ⟨S256, .f32⟩
  | .hbm, ⟨5, _⟩ => ⟨S1024x1824, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x256, .f32⟩
  | .hbm, ⟨10, _⟩ => ⟨S1024x256, .f32⟩
  | .hbm, ⟨11, _⟩ => ⟨S1024x32, .f32⟩
  | .hbm, ⟨12, _⟩ => ⟨S1024x3072, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x64, .f32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S8, .f32⟩
  | .hbm, ⟨30, _⟩ => ⟨S8x1, .f32⟩
  | .hbm, ⟨31, _⟩ => ⟨S1x16, .f32⟩
  | .hbm, ⟨32, _⟩ => ⟨S8x16, .f32⟩
  | .hbm, ⟨33, _⟩ => ⟨S8x16, .f32⟩
  | .hbm, ⟨34, _⟩ => ⟨S8x16, .f32⟩
  | .hbm, ⟨35, _⟩ => ⟨S8x16, .f32⟩
  | .hbm, ⟨36, _⟩ => ⟨S8x16, .f32⟩
  | .hbm, ⟨37, _⟩ => ⟨S8x16, .f32⟩
  | .hbm, ⟨38, _⟩ => ⟨S8x64, .f32⟩
  | .hbm, ⟨39, _⟩ => ⟨S1x8x1x64, .f32⟩
  | .hbm, ⟨40, _⟩ => ⟨S128x8x1x64, .f32⟩
  | .hbm, ⟨41, _⟩ => ⟨S1024x64, .f32⟩
  | .hbm, ⟨42, _⟩ => ⟨S1024x1024, .f32⟩
  | .hbm, ⟨43, _⟩ => ⟨S1x1024, .f32⟩
  | .hbm, ⟨44, _⟩ => ⟨S1x256, .f32⟩
  | .hbm, ⟨45, _⟩ => ⟨S1x256, .f32⟩
  | .hbm, ⟨46, _⟩ => ⟨S1024x1824, .bf16⟩
  | .hbm, ⟨47, _⟩ => ⟨S1024x512, .bf16⟩
  | .hbm, ⟨48, _⟩ => ⟨S1024x128, .bf16⟩
  | .hbm, ⟨49, _⟩ => ⟨S1024x128, .bf16⟩
  | .hbm, ⟨50, _⟩ => ⟨S1024x256, .bf16⟩
  | .hbm, ⟨51, _⟩ => ⟨S1024x256, .bf16⟩
  | .hbm, ⟨52, _⟩ => ⟨S1024x64, .bf16⟩
  | .hbm, ⟨53, _⟩ => ⟨S1024x3072, .bf16⟩
  | .hbm, ⟨54, _⟩ => ⟨S1024x1824, .f32⟩
  | .hbm, ⟨55, _⟩ => ⟨S1024x512, .f32⟩
  | .hbm, ⟨56, _⟩ => ⟨S1024x128, .f32⟩
  | .hbm, ⟨57, _⟩ => ⟨S1024x128, .f32⟩
  | .hbm, ⟨58, _⟩ => ⟨S1024x256, .f32⟩
  | .hbm, ⟨59, _⟩ => ⟨S1024x256, .f32⟩
  | .hbm, ⟨60, _⟩ => ⟨S1024x32, .f32⟩
  | .hbm, ⟨61, _⟩ => ⟨S1024x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S1024x1824, .bf16⟩
  | .local _ .vmem, ⟨8, _⟩ => ⟨S1024x512, .bf16⟩
  | .local _ .vmem, ⟨9, _⟩ => ⟨S1024x128, .bf16⟩
  | .local _ .vmem, ⟨10, _⟩ => ⟨S1024x128, .bf16⟩
  | .local _ .vmem, ⟨11, _⟩ => ⟨S1024x256, .bf16⟩
  | .local _ .vmem, ⟨12, _⟩ => ⟨S1024x256, .bf16⟩
  | .local _ .vmem, ⟨13, _⟩ => ⟨S1024x64, .bf16⟩
  | .local _ .vmem, ⟨14, _⟩ => ⟨S1024x3072, .bf16⟩
  | .local _ .vmem, ⟨15, _⟩ => ⟨S256x1824, .f32⟩
  | .local _ .vmem, ⟨16, _⟩ => ⟨S256x1824, .f32⟩
  | .local _ .vmem, ⟨17, _⟩ => ⟨S256x512, .f32⟩
  | .local _ .vmem, ⟨18, _⟩ => ⟨S256x512, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x32, .f32⟩
  | .local _ .vmem, ⟨28, _⟩ => ⟨S256x32, .f32⟩
  | .local _ .vmem, ⟨29, _⟩ => ⟨S256x3072, .f32⟩
  | .local _ .vmem, ⟨30, _⟩ => ⟨S256x3072, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46_0 : Ref sig .tc := ⟨.hbm, 54, rfl⟩
abbrev main_v46_1 : Ref sig .tc := ⟨.hbm, 55, rfl⟩
abbrev main_v46_2 : Ref sig .tc := ⟨.hbm, 56, rfl⟩
abbrev main_v46_3 : Ref sig .tc := ⟨.hbm, 57, rfl⟩
abbrev main_v46_4 : Ref sig .tc := ⟨.hbm, 58, rfl⟩
abbrev main_v46_5 : Ref sig .tc := ⟨.hbm, 59, rfl⟩
abbrev main_v46_6 : Ref sig .tc := ⟨.hbm, 60, rfl⟩
abbrev main_v46_7 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1824 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1824 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference8Ideal.lean ====
abbrev S128x8x1024 : Shape := ⟨3, ![128, 8, 1024]⟩
abbrev S1024 : Shape := ⟨1, ![1024]⟩
abbrev S1024x6208 : Shape := ⟨2, ![1024, 6208]⟩
abbrev S256 : Shape := ⟨1, ![256]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6208 : Shape := ⟨3, ![128, 8, 6208]⟩
abbrev S128x8x1824 : Shape := ⟨3, ![128, 8, 1824]⟩
abbrev S128x8x512 : Shape := ⟨3, ![128, 8, 512]⟩
abbrev S128x8x128 : Shape := ⟨3, ![128, 8, 128]⟩
abbrev S128x8x256 : Shape := ⟨3, ![128, 8, 256]⟩
abbrev S128x8x32 : Shape := ⟨3, ![128, 8, 32]⟩
abbrev S128x8x3072 : Shape := ⟨3, ![128, 8, 3072]⟩
abbrev S8 : Shape := ⟨1, ![8]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x16 : Shape := ⟨3, ![1, 8, 16]⟩
abbrev S128x8x16 : Shape := ⟨3, ![128, 8, 16]⟩
abbrev S1x1x256 : Shape := ⟨3, ![1, 1, 256]⟩
abbrev S1024x1824 : Shape := ⟨2, ![1024, 1824]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x3072 : Shape := ⟨2, ![1024, 3072]⟩

abbrev nBuf : Space → Nat
  | .hbm => 105
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6208, .f32⟩
  | .hbm, ⟨3, _⟩ => ⟨S256, .f32⟩
  | .hbm, ⟨4, _⟩ => ⟨S256, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x6208, .f32⟩
  | .hbm, ⟨22, _⟩ => ⟨S128x8x1824, .f32⟩
  | .hbm, ⟨23, _⟩ => ⟨S128x8x512, .f32⟩
  | .hbm, ⟨24, _⟩ => ⟨S128x8x128, .f32⟩
  | .hbm, ⟨25, _⟩ => ⟨S128x8x128, .f32⟩
  | .hbm, ⟨26, _⟩ => ⟨S128x8x256, .f32⟩
  | .hbm, ⟨27, _⟩ => ⟨S128x8x256, .f32⟩
  | .hbm, ⟨28, _⟩ => ⟨S128x8x32, .f32⟩
  | .hbm, ⟨29, _⟩ => ⟨S128x8x3072, .f32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S8, .f32⟩
  | .hbm, ⟨43, _⟩ => ⟨S8x1, .f32⟩
  | .hbm, ⟨44, _⟩ => ⟨S1x16, .f32⟩
  | .hbm, ⟨45, _⟩ => ⟨S8x16, .f32⟩
  | .hbm, ⟨46, _⟩ => ⟨S8x16, .f32⟩
  | .hbm, ⟨47, _⟩ => ⟨S8x16, .f32⟩
  | .hbm, ⟨48, _⟩ => ⟨S8x16, .f32⟩
  | .hbm, ⟨49, _⟩ => ⟨S1x8x16, .f32⟩
  | .hbm, ⟨50, _⟩ => ⟨S8x16, .f32⟩
  | .hbm, ⟨51, _⟩ => ⟨S1x8x16, .f32⟩
  | .hbm, ⟨52, _⟩ => ⟨S128x8x16, .f32⟩
  | .hbm, ⟨53, _⟩ => ⟨S128x8x16, .f32⟩
  | .hbm, ⟨54, _⟩ => ⟨S128x8x16, .f32⟩
  | .hbm, ⟨55, _⟩ => ⟨S128x8x16, .f32⟩
  | .hbm, ⟨56, _⟩ => ⟨S128x8x16, .f32⟩
  | .hbm, ⟨57, _⟩ => ⟨S128x8x16, .f32⟩
  | .hbm, ⟨58, _⟩ => ⟨S128x8x16, .f32⟩
  | .hbm, ⟨59, _⟩ => ⟨S128x8x16, .f32⟩
  | .hbm, ⟨60, _⟩ => ⟨S128x8x16, .f32⟩
  | .hbm, ⟨61, _⟩ => ⟨S128x8x16, .f32⟩
  | .hbm, ⟨62, _⟩ => ⟨S128x8x16, .f32⟩
  | .hbm, ⟨63, _⟩ => ⟨S128x8x16, .f32⟩
  | .hbm, ⟨64, _⟩ => ⟨S128x8x32, .f32⟩
  | .hbm, ⟨65, _⟩ => ⟨S128x8x256, .f32⟩
  | .hbm, ⟨66, _⟩ => ⟨S_, .f32⟩
  | .hbm, ⟨67, _⟩ => ⟨S128x8, .f32⟩
  | .hbm, ⟨68, _⟩ => ⟨S128x8x1, .f32⟩
  | .hbm, ⟨69, _⟩ => ⟨S_, .f32⟩
  | .hbm, ⟨70, _⟩ => ⟨S128x8x1, .f32⟩
  | .hbm, ⟨71, _⟩ => ⟨S128x8x1, .f32⟩
  | .hbm, ⟨72, _⟩ => ⟨S_, .f32⟩
  | .hbm, ⟨73, _⟩ => ⟨S128x8x1, .f32⟩
  | .hbm, ⟨74, _⟩ => ⟨S128x8x1, .f32⟩
  | .hbm, ⟨75, _⟩ => ⟨S128x8x1, .f32⟩
  | .hbm, ⟨76, _⟩ => ⟨S128x8x256, .f32⟩
  | .hbm, ⟨77, _⟩ => ⟨S128x8x256, .f32⟩
  | .hbm, ⟨78, _⟩ => ⟨S1x1x256, .f32⟩
  | .hbm, ⟨79, _⟩ => ⟨S128x8x256, .f32⟩
  | .hbm, ⟨80, _⟩ => ⟨S128x8x256, .f32⟩
  | .hbm, ⟨81, _⟩ => ⟨S128x8x256, .f32⟩
  | .hbm, ⟨82, _⟩ => ⟨S_, .f32⟩
  | .hbm, ⟨83, _⟩ => ⟨S128x8, .f32⟩
  | .hbm, ⟨84, _⟩ => ⟨S128x8x1, .f32⟩
  | .hbm, ⟨85, _⟩ => ⟨S_, .f32⟩
  | .hbm, ⟨86, _⟩ => ⟨S128x8x1, .f32⟩
  | .hbm, ⟨87, _⟩ => ⟨S128x8x1, .f32⟩
  | .hbm, ⟨88, _⟩ => ⟨S_, .f32⟩
  | .hbm, ⟨89, _⟩ => ⟨S128x8x1, .f32⟩
  | .hbm, ⟨90, _⟩ => ⟨S128x8x1, .f32⟩
  | .hbm, ⟨91, _⟩ => ⟨S128x8x1, .f32⟩
  | .hbm, ⟨92, _⟩ => ⟨S128x8x256, .f32⟩
  | .hbm, ⟨93, _⟩ => ⟨S128x8x256, .f32⟩
  | .hbm, ⟨94, _⟩ => ⟨S1x1x256, .f32⟩
  | .hbm, ⟨95, _⟩ => ⟨S128x8x256, .f32⟩
  | .hbm, ⟨96, _⟩ => ⟨S128x8x256, .f32⟩
  | .hbm, ⟨97, _⟩ => ⟨S1024x1824, .f32⟩
  | .hbm, ⟨98, _⟩ => ⟨S1024x512, .f32⟩
  | .hbm, ⟨99, _⟩ => ⟨S1024x128, .f32⟩
  | .hbm, ⟨100, _⟩ => ⟨S1024x128, .f32⟩
  | .hbm, ⟨101, _⟩ => ⟨S1024x256, .f32⟩
  | .hbm, ⟨102, _⟩ => ⟨S1024x256, .f32⟩
  | .hbm, ⟨103, _⟩ => ⟨S1024x32, .f32⟩
  | .hbm, ⟨104, _⟩ => ⟨S1024x3072, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Kernel9.lean ====
abbrev S128x8x1024 : Shape := ⟨3, ![128, 8, 1024]⟩
abbrev S1024 : Shape := ⟨1, ![1024]⟩
abbrev S1024x2816 : Shape := ⟨2, ![1024, 2816]⟩
abbrev S1024x1024 : Shape := ⟨2, ![1024, 1024]⟩
abbrev S1x1024 : Shape := ⟨2, ![1, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1024x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S1024x2816, .f32⟩
  | .hbm, ⟨9, _⟩ => ⟨S1024x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S128x8x1024 : Shape := ⟨3, ![128, 8, 1024]⟩
abbrev S1024 : Shape := ⟨1, ![1024]⟩
abbrev S1024x2816 : Shape := ⟨2, ![1024, 2816]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2816 : Shape := ⟨3, ![128, 8, 2816]⟩

abbrev nBuf : Space → Nat
  | .hbm => 24
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S128x8x1024, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x1024, .f32⟩
  | .hbm, ⟨16, _⟩ => ⟨S128x8x1024, .f32⟩
  | .hbm, ⟨17, _⟩ => ⟨S1x1x1024, .f32⟩
  | .hbm, ⟨18, _⟩ => ⟨S128x8x1024, .f32⟩
  | .hbm, ⟨19, _⟩ => ⟨S128x8x1024, .f32⟩
  | .hbm, ⟨20, _⟩ => ⟨S128x8x2816, .f32⟩
  | .hbm, ⟨21, _⟩ => ⟨S1024x2816, .f32⟩
  | .hbm, ⟨22, _⟩ => ⟨S128x8x2816, .f32⟩
  | .hbm, ⟨23, _⟩ => ⟨S1024x2816, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S128x8x1024 : Shape := ⟨3, ![128, 8, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S128x8x1024 : Shape := ⟨3, ![128, 8, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x8x1024, .f32⟩
  | .hbm, ⟨3, _⟩ => ⟨S_, .f32⟩
  | .hbm, ⟨4, _⟩ => ⟨S128x8, .f32⟩
  | .hbm, ⟨5, _⟩ => ⟨S128x8x1, .f32⟩
  | .hbm, ⟨6, _⟩ => ⟨S_, .f32⟩
  | .hbm, ⟨7, _⟩ => ⟨S128x8x1, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S128x8x1, .f32⟩
  | .hbm, ⟨13, _⟩ => ⟨S128x8x1024, .f32⟩
  | .hbm, ⟨14, _⟩ => ⟨S128x8x1024, .f32⟩
  | .hbm, ⟨15, _⟩ => ⟨S1x1x1024, .f32⟩
  | .hbm, ⟨16, _⟩ => ⟨S128x8x1024, .f32⟩
  | .hbm, ⟨17, _⟩ => ⟨S128x8x1024, .f32⟩
  | .hbm, ⟨18, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S4x4096x256 : Shape := ⟨3, ![4, 4096, 256]⟩
abbrev S256x8x96 : Shape := ⟨3, ![256, 8, 96]⟩
abbrev S256x8x64 : Shape := ⟨3, ![256, 8, 64]⟩
abbrev S256x8x32 : Shape := ⟨3, ![256, 8, 32]⟩
abbrev S8x256x64 : Shape := ⟨3, ![8, 256, 64]⟩
abbrev S256x8x16 : Shape := ⟨3, ![256, 8, 16]⟩
abbrev S8x64x256 : Shape := ⟨3, ![8, 64, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S4x4096x1x64 : Shape := ⟨4, ![4, 4096, 1, 64]⟩
abbrev S16384x64 : Shape := ⟨2, ![16384, 64]⟩
abbrev S16384x256 : Shape := ⟨2, ![16384, 256]⟩
abbrev S8x16384x288 : Shape := ⟨3, ![8, 16384, 288]⟩
abbrev S256x256 : Shape := ⟨2, ![256, 256]⟩
abbrev S256x64 : Shape := ⟨2, ![256, 64]⟩
abbrev S8x256x288 : Shape := ⟨3, ![8, 256, 288]⟩
abbrev S1x256x64 : Shape := ⟨3, ![1, 256, 64]⟩
abbrev S1x64x256 : Shape := ⟨3, ![1, 64, 256]⟩
abbrev S64x256 : Shape := ⟨2, ![64, 256]⟩
abbrev S1x256x256 : Shape := ⟨3, ![1, 256, 256]⟩
abbrev S256x32 : Shape := ⟨2, ![256, 32]⟩
abbrev S1x256x32 : Shape := ⟨3, ![1, 256, 32]⟩

abbrev nBuf : Space → Nat
  | .hbm => 39
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S256x8x96, .f32⟩
  | .hbm, ⟨2, _⟩ => ⟨S256x8x64, .f32⟩
  | .hbm, ⟨3, _⟩ => ⟨S256x8x32, .f32⟩
  | .hbm, ⟨4, _⟩ => ⟨S256x8x64, .f32⟩
  | .hbm, ⟨5, _⟩ => ⟨S8x256x64, .f32⟩
  | .hbm, ⟨6, _⟩ => ⟨S8x256x64, .bf16⟩
  | .hbm, ⟨7, _⟩ => ⟨S256x8x16, .f32⟩
  | .hbm, ⟨8, _⟩ => ⟨S256x8x16, .f32⟩
  | .hbm, ⟨9, _⟩ => ⟨S256x8x32, .f32⟩
  | .hbm, ⟨10, _⟩ => ⟨S256x8x64, .f32⟩
  | .hbm, ⟨11, _⟩ => ⟨S8x256x64, .f32⟩
  | .hbm, ⟨12, _⟩ => ⟨S8x256x64, .bf16⟩
  | .hbm, ⟨13, _⟩ => ⟨S8x64x256, .f32⟩
  | .hbm, ⟨14, _⟩ => ⟨S8x64x256, .bf16⟩
  | .hbm, ⟨15, _⟩ => ⟨S4096, .i32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16, .f32⟩
  | .hbm, ⟨24, _⟩ => ⟨S4096, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x64, .f32⟩
  | .hbm, ⟨34, _⟩ => ⟨S1x4096x1x64, .f32⟩
  | .hbm, ⟨35, _⟩ => ⟨S4x4096x1x64, .f32⟩
  | .hbm, ⟨36, _⟩ => ⟨S16384x64, .f32⟩
  | .hbm, ⟨37, _⟩ => ⟨S16384x256, .f32⟩
  | .hbm, ⟨38, _⟩ => ⟨S8x16384x288, .f32⟩
  | .local _ .vmem, ⟨0, _⟩ => ⟨S256x256, .f32⟩
  | .local _ .vmem, ⟨1, _⟩ => ⟨S256x256, .f32⟩
  | .local _ .vmem, ⟨2, _⟩ => ⟨S256x64, .f32⟩
  | .local _ .vmem, ⟨3, _⟩ => ⟨S256x64, .f32⟩
  | .local _ .vmem, ⟨4, _⟩ => ⟨S8x256x64, .bf16⟩
  | .local _ .vmem, ⟨5, _⟩ => ⟨S8x256x64, .bf16⟩
  | .local _ .vmem, ⟨6, _⟩ => ⟨S8x64x256, .bf16⟩
  | .local _ .vmem, ⟨7, _⟩ => ⟨S8x256x288, .f32⟩
  | .local _ .vmem, ⟨8, _⟩ => ⟨S8x256x288, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4x4096x256 : Shape := ⟨3, ![4, 4096, 256]⟩
abbrev S256x8x96 : Shape := ⟨3, ![256, 8, 96]⟩
abbrev S256x8x64 : Shape := ⟨3, ![256, 8, 64]⟩
abbrev S4x4096x8x96 : Shape := ⟨4, ![4, 4096, 8, 96]⟩
abbrev S4x4096x8x64 : Shape := ⟨4, ![4, 4096, 8, 64]⟩
abbrev S4x4096x8x32 : Shape := ⟨4, ![4, 4096, 8, 32]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S8x256x4x4096 : Shape := ⟨4, ![8, 256, 4, 4096]⟩
abbrev S4x4096x8x256 : Shape := ⟨4, ![4, 4096, 8, 256]⟩
abbrev S4x4096x8x288 : Shape := ⟨4, ![4, 4096, 8, 288]⟩
abbrev S16384x8x288 : Shape := ⟨3, ![16384, 8, 288]⟩
abbrev S8x16384x288 : Shape := ⟨3, ![8, 16384, 288]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x8x96, .f32⟩
  | .hbm, ⟨2, _⟩ => ⟨S256x8x64, .f32⟩
  | .hbm, ⟨3, _⟩ => ⟨S4x4096x8x96, .f32⟩
  | .hbm, ⟨4, _⟩ => ⟨S4x4096x8x64, .f32⟩
  | .hbm, ⟨5, _⟩ => ⟨S4x4096x8x32, .f32⟩
  | .hbm, ⟨6, _⟩ => ⟨S4096, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S4096, .f32⟩
  | .hbm, ⟨16, _⟩ => ⟨S4096x1, .f32⟩
  | .hbm, ⟨17, _⟩ => ⟨S1x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S1x4096x1x16, .f32⟩
  | .hbm, ⟨23, _⟩ => ⟨S4096x16, .f32⟩
  | .hbm, ⟨24, _⟩ => ⟨S1x4096x1x16, .f32⟩
  | .hbm, ⟨25, _⟩ => ⟨S4x4096x8x16, .f32⟩
  | .hbm, ⟨26, _⟩ => ⟨S4x4096x8x16, .f32⟩
  | .hbm, ⟨27, _⟩ => ⟨S4x4096x8x16, .f32⟩
  | .hbm, ⟨28, _⟩ => ⟨S4x4096x8x16, .f32⟩
  | .hbm, ⟨29, _⟩ => ⟨S4x4096x8x16, .f32⟩
  | .hbm, ⟨30, _⟩ => ⟨S4x4096x8x16, .f32⟩
  | .hbm, ⟨31, _⟩ => ⟨S4x4096x8x16, .f32⟩
  | .hbm, ⟨32, _⟩ => ⟨S4x4096x8x16, .f32⟩
  | .hbm, ⟨33, _⟩ => ⟨S4x4096x8x16, .f32⟩
  | .hbm, ⟨34, _⟩ => ⟨S4x4096x8x16, .f32⟩
  | .hbm, ⟨35, _⟩ => ⟨S4x4096x8x16, .f32⟩
  | .hbm, ⟨36, _⟩ => ⟨S4x4096x8x16, .f32⟩
  | .hbm, ⟨37, _⟩ => ⟨S4x4096x8x32, .f32⟩
  | .hbm, ⟨38, _⟩ => ⟨S8x256x4x4096, .f32⟩
  | .hbm, ⟨39, _⟩ => ⟨S4x4096x8x256, .f32⟩
  | .hbm, ⟨40, _⟩ => ⟨S4x4096x8x288, .f32⟩
  | .hbm, ⟨41, _⟩ => ⟨S_, .f32⟩
  | .hbm, ⟨42, _⟩ => ⟨S4x4096x8x288, .f32⟩
  | .hbm, ⟨43, _⟩ => ⟨S4x4096x8x288, .f32⟩
  | .hbm, ⟨44, _⟩ => ⟨S16384x8x288, .f32⟩
  | .hbm, ⟨45, _⟩ => ⟨S8x16384x288, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel12.lean ====
abbrev S4x4096x8x64 : Shape := ⟨4, ![4, 4096, 8, 64]⟩
abbrev S4x4096x512 : Shape := ⟨3, ![4, 4096, 512]⟩
abbrev S512 : Shape := ⟨1, ![512]⟩
abbrev S16384x512 : Shape := ⟨2, ![16384, 512]⟩
abbrev S1x512 : Shape := ⟨2, ![1, 512]⟩
abbrev S8x64 : Shape := ⟨2, ![8, 64]⟩
abbrev S512x1 : Shape := ⟨2, ![512, 1]⟩
abbrev S512x512 : Shape := ⟨2, ![512, 512]⟩
abbrev S256x512 : Shape := ⟨2, ![256, 512]⟩

abbrev nBuf : Space → Nat
  | .hbm => 19
  | .vmem => 11
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S1x512, .f32⟩
  | .hbm, ⟨9, _⟩ => ⟨S1x512, .f32⟩
  | .hbm, ⟨10, _⟩ => ⟨S8x64, .i32⟩
  | .hbm, ⟨11, _⟩ => ⟨S512, .i32⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S256x512, .f32⟩
  | .local _ .vmem, ⟨10, _⟩ => ⟨S256x512, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4x4096x8x64 : Shape := ⟨4, ![4, 4096, 8, 64]⟩
abbrev S4x4096x512 : Shape := ⟨3, ![4, 4096, 512]⟩
abbrev S512 : Shape := ⟨1, ![512]⟩
abbrev S_ : Shape := ⟨0, ![]⟩
abbrev S4x4096x8 : Shape := ⟨3, ![4, 4096, 8]⟩
abbrev S4x4096x8x1 : Shape := ⟨4, ![4, 4096, 8, 1]⟩
abbrev S1x1x512 : Shape := ⟨3, ![1, 1, 512]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S4x4096x8, .f32⟩
  | .hbm, ⟨7, _⟩ => ⟨S4x4096x8x1, .f32⟩
  | .hbm, ⟨8, _⟩ => ⟨S_, .f32⟩
  | .hbm, ⟨9, _⟩ => ⟨S4x4096x8x1, .f32⟩
  | .hbm, ⟨10, _⟩ => ⟨S4x4096x8x1, .f32⟩
  | .hbm, ⟨11, _⟩ => ⟨S4x4096x8x64, .f32⟩
  | .hbm, ⟨12, _⟩ => ⟨S4x4096x8x64, .f32⟩
  | .hbm, ⟨13, _⟩ => ⟨S4x4096x8x64, .f32⟩
  | .hbm, ⟨14, _⟩ => ⟨S_, .f32⟩
  | .hbm, ⟨15, _⟩ => ⟨S4x4096x8, .f32⟩
  | .hbm, ⟨16, _⟩ => ⟨S4x4096x8x1, .f32⟩
  | .hbm, ⟨17, _⟩ => ⟨S_, .f32⟩
  | .hbm, ⟨18, _⟩ => ⟨S4x4096x8x1, .f32⟩
  | .hbm, ⟨19, _⟩ => ⟨S4x4096x8x1, .f32⟩
  | .hbm, ⟨20, _⟩ => ⟨S4x4096x8x64, .f32⟩
  | .hbm, ⟨21, _⟩ => ⟨S4x4096x8x64, .f32⟩
  | .hbm, ⟨22, _⟩ => ⟨S_, .f32⟩
  | .hbm, ⟨23, _⟩ => ⟨S4x4096x8x1, .f32⟩
  | .hbm, ⟨24, _⟩ => ⟨S4x4096x8x1, .f32⟩
  | .hbm, ⟨25, _⟩ => ⟨S4x4096x8x1, .f32⟩
  | .hbm, ⟨26, _⟩ => ⟨S4x4096x8x64, .f32⟩
  | .hbm, ⟨27, _⟩ => ⟨S4x4096x8x64, .f32⟩
  | .hbm, ⟨28, _⟩ => ⟨S4x4096x512, .f32⟩
  | .hbm, ⟨29, _⟩ => ⟨S1x1x512, .f32⟩
  | .hbm, ⟨30, _⟩ => ⟨S4x4096x512, .f32⟩
  | .hbm, ⟨31, _⟩ => ⟨S4x4096x512, .f32⟩
  | .hbm, ⟨32, _⟩ => ⟨S1x1x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S16384x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel13.lean ====
abbrev S4x4096x1824 : Shape := ⟨3, ![4, 4096, 1824]⟩
abbrev S4x1824 : Shape := ⟨2, ![4, 1824]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S4x1x1824 : Shape := ⟨3, ![4, 1, 1824]⟩
abbrev S1x1824 : Shape := ⟨2, ![1, 1824]⟩
abbrev S1x512 : Shape := ⟨2, ![1, 512]⟩
abbrev S512x1 : Shape := ⟨2, ![512, 1]⟩
abbrev S512x512 : Shape := ⟨2, ![512, 512]⟩
abbrev S4x4096x512 : Shape := ⟨3, ![4, 4096, 512]⟩
abbrev S1x256x1824 : Shape := ⟨3, ![1, 256, 1824]⟩
abbrev S1x8x1824 : Shape := ⟨3, ![1, 8, 1824]⟩
abbrev S1x1x1824 : Shape := ⟨3, ![1, 1, 1824]⟩
abbrev S1x256x512 : Shape := ⟨3, ![1, 256, 512]⟩
abbrev S256x1824 : Shape := ⟨2, ![256, 1824]⟩
abbrev S256x512 : Shape := ⟨2, ![256, 512]⟩
abbrev S256x64 : Shape := ⟨2, ![256, 64]⟩
abbrev S256x160 : Shape := ⟨2, ![256, 160]⟩

abbrev nBuf : Space → Nat
  | .hbm => 34
  | .vmem => 32
  | .smem => 0
  | _ => 0

abbrev bufTy : (tb : Table) → Fin (tcTables nBuf tb) → BufTy
  | .hbm, ⟨0, _⟩ => ⟨S4x4096x1824, .f32⟩
  | .hbm, ⟨1, _⟩ => ⟨S4x1824, .f32⟩
  | .hbm, ⟨2, _⟩ => ⟨S1824, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S160x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S4x1x1824, .f32⟩
  | .hbm, ⟨12, _⟩ => ⟨S1x1824, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x64, .i32⟩
  | .hbm, ⟨19, _⟩ => ⟨S512, .i32⟩
  | .hbm, ⟨20, _⟩ => ⟨S512x1, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .local _ .vmem, ⟨0, _⟩ => ⟨S1x256x1824, .f32⟩
  | .local _ .vmem, ⟨1, _⟩ => ⟨S1x256x1824, .f32⟩
  | .local _ .vmem, ⟨2, _⟩ => ⟨S1x8x1824, .f32⟩
  | .local _ .vmem, ⟨3, _⟩ => ⟨S1x8x1824, .f32⟩
  | .local _ .vmem, ⟨4, _⟩ => ⟨S1x1x1824, .f32⟩
  | .local _ .vmem, ⟨5, _⟩ => ⟨S1x1x1824, .f32⟩
  | .local _ .vmem, ⟨6, _⟩ => ⟨S1x1824, .f32⟩
  | .local _ .vmem, ⟨7, _⟩ => ⟨S1x512, .f32⟩
  | .local _ .vmem, ⟨8, _⟩ => ⟨S64x512, .f32⟩
  | .local _ .vmem, ⟨9, _⟩ => ⟨S1x512, .f32⟩
  | .local _ .vmem, ⟨10, _⟩ => ⟨S64x512, .f32⟩
  | .local _ .vmem, ⟨11, _⟩ => ⟨S160x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S4x4096x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S160x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference13Ideal.lean ====
abbrev S4x4096x1824 : Shape := ⟨3, ![4, 4096, 1824]⟩
abbrev S4x1824 : Shape := ⟨2, ![4, 1824]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S4x1x1824 : Shape := ⟨3, ![4, 1, 1824]⟩
abbrev S4x4095x1824 : Shape := ⟨3, ![4, 4095, 1824]⟩
abbrev S1x1x1824 : Shape := ⟨3, ![1, 1, 1824]⟩
abbrev S4x4096x512 : Shape := ⟨3, ![4, 4096, 512]⟩
abbrev S4x4096x64 : Shape := ⟨3, ![4, 4096, 64]⟩
abbrev S4x4096x160 : Shape := ⟨3, ![4, 4096, 160]⟩
abbrev S1x1x512 : Shape := ⟨3, ![1, 1, 512]⟩
abbrev S_ : Shape := ⟨0, ![]⟩
abbrev S4x4096x8x64 : Shape := ⟨4, ![4, 4096, 8, 64]⟩
abbrev S1x1x8x64 : Shape := ⟨4, ![1, 1, 8, 64]⟩
abbrev S4x4096x8 : Shape := ⟨3, ![4, 4096, 8]⟩
abbrev S4x4096x8x1 : Shape := ⟨4, ![4, 4096, 8, 1]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x1824, .f32⟩
  | .hbm, ⟨1, _⟩ => ⟨S4x1824, .f32⟩
  | .hbm, ⟨2, _⟩ => ⟨S1824, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S160x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S4x1x1824, .f32⟩
  | .hbm, ⟨12, _⟩ => ⟨S4x4095x1824, .f32⟩
  | .hbm, ⟨13, _⟩ => ⟨S4x4096x1824, .f32⟩
  | .hbm, ⟨14, _⟩ => ⟨S4x4096x1824, .f32⟩
  | .hbm, ⟨15, _⟩ => ⟨S1x1x1824, .f32⟩
  | .hbm, ⟨16, _⟩ => ⟨S4x4096x1824, .f32⟩
  | .hbm, ⟨17, _⟩ => ⟨S4x4096x1824, .f32⟩
  | .hbm, ⟨18, _⟩ => ⟨S4x4096x1824, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x64, .f32⟩
  | .hbm, ⟨23, _⟩ => ⟨S4x4096x64, .f32⟩
  | .hbm, ⟨24, _⟩ => ⟨S4x4096x160, .f32⟩
  | .hbm, ⟨25, _⟩ => ⟨S4x4096x64, .f32⟩
  | .hbm, ⟨26, _⟩ => ⟨S4x4096x512, .f32⟩
  | .hbm, ⟨27, _⟩ => ⟨S1x1x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .i1⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S1x1x512, .f32⟩
  | .hbm, ⟨54, _⟩ => ⟨S4x4096x512, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S_, .f32⟩
  | .hbm, ⟨59, _⟩ => ⟨S4x4096x512, .f32⟩
  | .hbm, ⟨60, _⟩ => ⟨S4x4096x512, .f32⟩
  | .hbm, ⟨61, _⟩ => ⟨S_, .f32⟩
  | .hbm, ⟨62, _⟩ => ⟨S4x4096x512, .f32⟩
  | .hbm, ⟨63, _⟩ => ⟨S4x4096x512, .f32⟩
  | .hbm, ⟨64, _⟩ => ⟨S4x4096x160, .f32⟩
  | .hbm, ⟨65, _⟩ => ⟨S4x4096x160, .f32⟩
  | .hbm, ⟨66, _⟩ => ⟨S_, .f32⟩
  | .hbm, ⟨67, _⟩ => ⟨S4x4096x160, .f32⟩
  | .hbm, ⟨68, _⟩ => ⟨S4x4096x160, .f32⟩
  | .hbm, ⟨69, _⟩ => ⟨S_, .f32⟩
  | .hbm, ⟨70, _⟩ => ⟨S4x4096x160, .f32⟩
  | .hbm, ⟨71, _⟩ => ⟨S4x4096x160, .f32⟩
  | .hbm, ⟨72, _⟩ => ⟨S4x4096x512, .f32⟩
  | .hbm, ⟨73, _⟩ => ⟨S4x4096x8x64, .f32⟩
  | .hbm, ⟨74, _⟩ => ⟨S4x4096x8x64, .f32⟩
  | .hbm, ⟨75, _⟩ => ⟨S4x4096x8x64, .f32⟩
  | .hbm, ⟨76, _⟩ => ⟨S4x4096x8x64, .f32⟩
  | .hbm, ⟨77, _⟩ => ⟨S4x4096x8x64, .f32⟩
  | .hbm, ⟨78, _⟩ => ⟨S8x64, .f32⟩
  | .hbm, ⟨79, _⟩ => ⟨S1x1x8x64, .f32⟩
  | .hbm, ⟨80, _⟩ => ⟨S4x4096x8x64, .f32⟩
  | .hbm, ⟨81, _⟩ => ⟨S4x4096x8x64, .f32⟩
  | .hbm, ⟨82, _⟩ => ⟨S4x4096x8x64, .f32⟩
  | .hbm, ⟨83, _⟩ => ⟨S_, .f32⟩
  | .hbm, ⟨84, _⟩ => ⟨S4x4096x8, .f32⟩
  | .hbm, ⟨85, _⟩ => ⟨S4x4096x8x1, .f32⟩
  | .hbm, ⟨86, _⟩ => ⟨S_, .f32⟩
  | .hbm, ⟨87, _⟩ => ⟨S4x4096x8x1, .f32⟩
  | .hbm, ⟨88, _⟩ => ⟨S4x4096x8x1, .f32⟩
  | .hbm, ⟨89, _⟩ => ⟨S4x4096x8x1, .f32⟩
  | .hbm, ⟨90, _⟩ => ⟨S4x4096x8x64, .f32⟩
  | .hbm, ⟨91, _⟩ => ⟨S4x4096x8x64, .f32⟩
  | .hbm, ⟨92, _⟩ => ⟨S_, .f32⟩
  | .hbm, ⟨93, _⟩ => ⟨S4x4096x8x64, .f32⟩
  | .hbm, ⟨94, _⟩ => ⟨S4x4096x8x64, .f32⟩
  | .hbm, ⟨95, _⟩ => ⟨S8x64, .f32⟩
  | .hbm, ⟨96, _⟩ => ⟨S1x1x8x64, .f32⟩
  | .hbm, ⟨97, _⟩ => ⟨S4x4096x8x64, .f32⟩
  | .hbm, ⟨98, _⟩ => ⟨S4x4096x8x64, .f32⟩
  | .hbm, ⟨99, _⟩ => ⟨S_, .f32⟩
  | .hbm, ⟨100, _⟩ => ⟨S4x4096x8x64, .f32⟩
  | .hbm, ⟨101, _⟩ => ⟨S4x4096x8x64, .f32⟩
  | .hbm, ⟨102, _⟩ => ⟨S4x4096x8x64, .f32⟩
  | .hbm, ⟨103, _⟩ => ⟨S4x4096x8x64, .f32⟩
  | .hbm, ⟨104, _⟩ => ⟨S1x1x8x64, .f32⟩
  | .hbm, ⟨105, _⟩ => ⟨S4x4096x8x64, .f32⟩
  | .hbm, ⟨106, _⟩ => ⟨S4x4096x8x64, .f32⟩
  | .hbm, ⟨107, _⟩ => ⟨S_, .f32⟩
  | .hbm, ⟨108, _⟩ => ⟨S4x4096x8, .f32⟩
  | .hbm, ⟨109, _⟩ => ⟨S4x4096x8x1, .f32⟩
  | .hbm, ⟨110, _⟩ => ⟨S4x4096x8x64, .f32⟩
  | .hbm, ⟨111, _⟩ => ⟨S4x4096x8x64, .f32⟩
  | .hbm, ⟨112, _⟩ => ⟨S4x4096x8x64, .f32⟩
  | .hbm, ⟨113, _⟩ => ⟨S4x4096x8x64, .f32⟩
  | .hbm, ⟨114, _⟩ => ⟨S4x4096x512, .f32⟩
  | .hbm, ⟨115, _⟩ => ⟨S4x4096x512, .f32⟩
  | .hbm, ⟨116, _⟩ => ⟨S4x4096x512, .f32⟩
  | .hbm, ⟨117, _⟩ => ⟨S4x4096x512, .f32⟩
  | .hbm, ⟨118, _⟩ => ⟨S4x4096x512, .f32⟩
  | .hbm, ⟨119, _⟩ => ⟨S4x4096x512, .f32⟩
  | .hbm, ⟨120, _⟩ => ⟨S4x4096x512, .f32⟩
  | _, _ => ⟨S4x4096x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_0 : Ref sig .tc := ⟨.hbm, 58, rfl⟩
abbrev main_v33 : Ref sig .tc := ⟨.hbm, 59, rfl⟩
abbrev main_v34 : Ref sig .tc := ⟨.hbm, 60, rfl⟩
abbrev main_cst_1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_8 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Proof.Blocks.lean ====
/- The four guarded branches of the attention kernel, each as a program of its own. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096
set_option maxRecDepth 65536

noncomputable section

namespace Cert.KernelIdeal.Att

open Idealize.ShloMosaic Idealize.SL.Sem Cert.KernelIdeal.Gen

variable {F : FTy → Type} [FloatOps F]

/-- The condition of the first branch, from the grid coordinates. -/
abbrev cond0_0 (i : grid0.Coords) : Prop := (Scalar.cmpi .ne (Scalar.extui (Scalar.cmpi .eq (BitVec.ofNat 32 (i 2).val) 0#32)) 0#32) = 1#1

/-- The condition of the second branch, from the grid coordinates. -/
abbrev cond0_1 (i : grid0.Coords) : Prop := (Scalar.cmpi .ne (Scalar.extui (Scalar.cmpi .eq (BitVec.ofNat 32 (i 2).val) 0#32)) 0#32) = 1#1

/-- The condition of the third branch, from the grid coordinates. -/
abbrev cond0_2 (i : grid0.Coords) : Prop := (Scalar.cmpi .ne (Scalar.extui (Scalar.andi (Scalar.cmpi .sgt (BitVec.ofNat 32 (i 2).val) 0#32) (Scalar.cmpi .sle (BitVec.ofNat 32 (i 2).val) (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32))))) 0#32) = 1#1

/-- The condition of the fourth branch, from the grid coordinates. -/
abbrev cond0_3 (i : grid0.Coords) : Prop := k0_cond4 i = 1#1

/-- The first branch of the kernel: store the rounded query block of every head and reset the running maximum, sum and accumulator. -/
def initP (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    Prog (TpuEff nD τ sig (Elt F) Λ₀ .tc) PUnit := do
  let v57 : FVec F S256x256 .bf16 ← k0_part1 i arg3 harg3 arg4 harg4 arg5 harg5 arg6 harg6 arg7 harg7 arg8 harg8 arg9 harg9 arg10 harg10 arg11 harg11
  k0_part2 i arg3 harg3 arg4 harg4 arg5 harg5 arg6 harg6 arg7 harg7 arg8 harg8 arg9 harg9 arg10 harg10 arg11 harg11 v57
  let v111 : FVec F S256x32 .bf16 ← k0_part3 i arg3 harg3 arg4 harg4 arg5 harg5 arg6 harg6 arg7 harg7 arg8 harg8 arg9 harg9 arg10 harg10 arg11 harg11
  Prog.lift (.store arg8 (Rect.unit (s := S8x256x32) ![6, 0, 0] S1x256x32.size inb_S8x256x32_S1x256x32_6_0_0) (k0_pay1 v111) Finset.univ (View.stores_vmem h_S1x256x32 (harg8.storeExact_slice rfl _ packedbf16_S8x256x32_S1x256x32_6_0_0) (fun _ => rfl)) (.inl rfl))
  let v115 : Vec F S1x256x256 .f32 ← Prog.lift (.load arg3 (Rect.unit (s := S8x256x288) ![7, 0, 0] S1x256x256.size inb_S8x256x288_S1x256x256_7_0_0).toLoadRect (View.loadsAt_vmem h_S1x256x256))
  let v118 : Vec F S1x256x256 .bf16 ← Prog.lift (.load arg7 (Rect.unit (s := S8x256x256) ![7, 0, 0] S1x256x256.size inb_S8x256x256_S1x256x256_7_0_0).toLoadRect (View.loadsAt_vmem h_S1x256x256))
  Prog.lift (.store arg7 (Rect.unit (s := S8x256x256) ![7, 0, 0] S1x256x256.size inb_S8x256x256_S1x256x256_7_0_0) (k0_pay2 v115) Finset.univ (View.stores_vmem h_S1x256x256 (harg7.storeExact_slice rfl _ packedbf16_S8x256x256_S1x256x256_7_0_0) (fun _ => rfl)) (.inl rfl))
  let v121 : Vec F S1x256x32 .f32 ← Prog.lift (.load arg3 (Rect.unit (s := S8x256x288) ![7, 0, 256] S1x256x32.size inb_S8x256x288_S1x256x32_7_0_256).toLoadRect (View.loadsAt_vmem h_S1x256x32))
  let v124 : Vec F S1x256x32 .bf16 ← Prog.lift (.load arg8 (Rect.unit (s := S8x256x32) ![7, 0, 0] S1x256x32.size inb_S8x256x32_S1x256x32_7_0_0).toLoadRect (View.loadsAt_vmem h_S1x256x32))
  Prog.lift (.store arg8 (Rect.unit (s := S8x256x32) ![7, 0, 0] S1x256x32.size inb_S8x256x32_S1x256x32_7_0_0) (k0_pay3 v121) Finset.univ (View.stores_vmem h_S1x256x32 (harg8.storeExact_slice rfl _ packedbf16_S8x256x32_S1x256x32_7_0_0) (fun _ => rfl)) (.inl rfl))
  let v128 : Vec F S8x1x256 .f32 ← Prog.lift (.load arg9 (Rect.unit (s := S8x1x256) ![0, 0, 0] S8x1x256.size inb_S8x1x256_S8x1x256_0_0_0).toLoadRect (View.loadsAt_vmem h_S8x1x256))
  Prog.lift (.store arg9 (Rect.unit (s := S8x1x256) ![0, 0, 0] S8x1x256.size inb_S8x1x256_S8x1x256_0_0_0) (k0_pay4 (F := F)) Finset.univ (View.stores_vmem_bits_univ h_S8x1x256 rfl) (.inl rfl))
  let v132 : Vec F S8x1x256 .f32 ← Prog.lift (.load arg10 (Rect.unit (s := S8x1x256) ![0, 0, 0] S8x1x256.size inb_S8x1x256_S8x1x256_0_0_0).toLoadRect (View.loadsAt_vmem h_S8x1x256))
  Prog.lift (.store arg10 (Rect.unit (s := S8x1x256) ![0, 0, 0] S8x1x256.size inb_S8x1x256_S8x1x256_0_0_0) (k0_pay5 (F := F)) Finset.univ (View.stores_vmem_bits_univ h_S8x1x256 rfl) (.inl rfl))
  let v136 : Vec F S8x256x256 .f32 ← Prog.lift (.load arg11 (Rect.unit (s := S8x256x256) ![0, 0, 0] S8x256x256.size inb_S8x256x256_S8x256x256_0_0_0).toLoadRect (View.loadsAt_vmem h_S8x256x256))
  Prog.lift (.store arg11 (Rect.unit (s := S8x256x256) ![0, 0, 0] S8x256x256.size inb_S8x256x256_S8x256x256_0_0_0) (k0_pay6 (F := F)) Finset.univ (View.stores_vmem_bits_univ h_S8x256x256 rfl) (.inl rfl))
  pure ⟨⟩

/-- The second branch: one pass over the block of keys on the diagonal, with the causal mask. -/
def diagP (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    Prog (TpuEff nD τ sig (Elt F) Λ₀ .tc) PUnit := do
  let ⟨v33, v35, v38, v54, v63, v65, v66⟩ : Σ' (v33 : FVec F S512x256 .bf16) (v35 : FVec F S256x512 .bf16) (v38 : FVec F S512x32 .bf16) (v54 : IVec S512x256 1) (v63 : FVec F S512x256 .f32) (v65 : FVec F S1x256 .f32), FVec F S256 .f32 ← k0_part4 i arg3 harg3 arg4 harg4 arg5 harg5 arg6 harg6 arg7 harg7 arg8 harg8 arg9 harg9 arg10 harg10 arg11 harg11 (BitVec.ofNat 32 (i 1).val)
  let ⟨v98, v99⟩ : Σ' (v98 : FVec F S512x256 .f32), Vec F S1x256x32 .bf16 ← k0_part5 i arg3 harg3 arg4 harg4 arg5 harg5 arg6 harg6 arg7 harg7 arg8 harg8 arg9 harg9 arg10 harg10 arg11 harg11 v33 v35 v63 v65 v66
  let ⟨v109, v134⟩ : Σ' (v109 : FVec F S1x256 .f32), Vec F S1x1x256 .f32 ← k0_part6 i arg3 harg3 arg4 harg4 arg5 harg5 arg6 harg6 arg7 harg7 arg8 harg8 arg9 harg9 arg10 harg10 arg11 harg11 v35 v38 v54 v98 v99
  let ⟨v150, v168, v169⟩ : Σ' (v150 : FVec F S1x256 .f32) (v168 : FVec F S256x256 .f32), FVec F S512x256 .bf16 ← k0_part7 i arg3 harg3 arg4 harg4 arg5 harg5 arg6 harg6 arg7 harg7 arg8 harg8 arg9 harg9 arg10 harg10 arg11 harg11 v33 v38 v54 v109 v134
  let ⟨v191, v193, v196, v202⟩ : Σ' (v191 : FVec F S1x256 .f32) (v193 : FVec F S1x256 .f32) (v196 : FVec F S512x256 .f32), FVec F S1x256 .f32 ← k0_part8 i arg3 harg3 arg4 harg4 arg5 harg5 arg6 harg6 arg7 harg7 arg8 harg8 arg9 harg9 arg10 harg10 arg11 harg11 v33 v35 v38 v54 v150 v168 v169
  let ⟨v227, v232, v234⟩ : Σ' (v227 : FVec F S512x256 .f32) (v232 : FVec F S1x256 .f32), FVec F S1x256 .f32 ← k0_part9 i arg3 harg3 arg4 harg4 arg5 harg5 arg6 harg6 arg7 harg7 arg8 harg8 arg9 harg9 arg10 harg10 arg11 harg11 v33 v35 v38 v54 v191 v193 v196 v202
  let v266 : FVec F S512x256 .f32 ← k0_part10 i arg3 harg3 arg4 harg4 arg5 harg5 arg6 harg6 arg7 harg7 arg8 harg8 arg9 harg9 arg10 harg10 arg11 harg11 v33 v35 v38 v227 v232 v234
  k0_part11 i arg3 harg3 arg4 harg4 arg5 harg5 arg6 harg6 arg7 harg7 arg8 harg8 arg9 harg9 arg10 harg10 arg11 harg11 v35 v54 v266
  let ⟨v314, v335⟩ : Σ' (v314 : FVec F S1x256 .f32), FVec F S256x256 .f32 ← k0_part12 i arg3 harg3 arg4 harg4 arg5 harg5 arg6 harg6 arg7 harg7 arg8 harg8 arg9 harg9 arg10 harg10 arg11 harg11 v33 v35 v38 v54
  let ⟨v355, v357, v360, v366⟩ : Σ' (v355 : FVec F S1x256 .f32) (v357 : FVec F S1x256 .f32) (v360 : FVec F S512x256 .f32), FVec F S1x256 .f32 ← k0_part13 i arg3 harg3 arg4 harg4 arg5 harg5 arg6 harg6 arg7 harg7 arg8 harg8 arg9 harg9 arg10 harg10 arg11 harg11 v33 v38 v54 v314 v335
  Prog.lift (.store arg10 (Rect.unit (s := S8x1x256) ![7, 0, 0] S1x1x256.size inb_S8x1x256_S1x1x256_7_0_0) (k0_pay7 v366) Finset.univ (View.stores_vmem_bits_univ h_S1x1x256 rfl) (.inl rfl))
  let v370 : Vec F S1x256x256 .f32 ← Prog.lift (.load arg11 (Rect.unit (s := S8x256x256) ![7, 0, 0] S1x256x256.size inb_S8x256x256_S1x256x256_7_0_0).toLoadRect (View.loadsAt_vmem h_S1x256x256))
  let v377 : Vec F S1x256x256 .f32 ← Prog.lift (.load arg11 (Rect.unit (s := S8x256x256) ![7, 0, 0] S1x256x256.size inb_S8x256x256_S1x256x256_7_0_0).toLoadRect (View.loadsAt_vmem h_S1x256x256))
  Prog.lift (.store arg11 (Rect.unit (s := S8x256x256) ![7, 0, 0] S1x256x256.size inb_S8x256x256_S1x256x256_7_0_0) (k0_pay8 v35 v357 v360 v370) Finset.univ (View.stores_vmem_bits_univ h_S1x256x256 rfl) (.inl rfl))
  let v380 : Vec F S1x1x256 .f32 ← Prog.lift (.load arg9 (Rect.unit (s := S8x1x256) ![7, 0, 0] S1x1x256.size inb_S8x1x256_S1x1x256_7_0_0).toLoadRect (View.loadsAt_vmem h_S1x1x256))
  Prog.lift (.store arg9 (Rect.unit (s := S8x1x256) ![7, 0, 0] S1x1x256.size inb_S8x1x256_S1x1x256_7_0_0) (k0_pay9 v355) Finset.univ (View.stores_vmem_bits_univ h_S1x1x256 rfl) (.inl rfl))
  pure ⟨⟩

/-- The third branch: one pass over a block of keys left of the diagonal, without a mask. -/
def fullP (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    Prog (TpuEff nD τ sig (Elt F) Λ₀ .tc) PUnit := do
  let ⟨v33, v35, v38, v50, v52, v55⟩ : Σ' (v33 : FVec F S512x256 .bf16) (v35 : FVec F S256x512 .bf16) (v38 : FVec F S512x32 .bf16) (v50 : FVec F S1x256 .f32) (v52 : FVec F S1x256 .f32), FVec F S512x256 .f32 ← k0_part14 i arg3 harg3 arg4 harg4 arg5 harg5 arg6 harg6 arg7 harg7 arg8 harg8 arg9 harg9 arg10 harg10 arg11 harg11
  let ⟨v89, v91, v94, v97, v98⟩ : Σ' (v89 : FVec F S1x256 .f32) (v91 : FVec F S1x256 .f32) (v94 : FVec F S512x256 .f32) (v97 : FVec F S1x256 .f32), FVec F S256 .f32 ← k0_part15 i arg3 harg3 arg4 harg4 arg5 harg5 arg6 harg6 arg7 harg7 arg8 harg8 arg9 harg9 arg10 harg10 arg11 harg11 v33 v35 v38 v50 v52 v55
  let ⟨v123, v128, v130⟩ : Σ' (v123 : FVec F S512x256 .f32) (v128 : FVec F S1x256 .f32), FVec F S1x256 .f32 ← k0_part16 i arg3 harg3 arg4 harg4 arg5 harg5 arg6 harg6 arg7 harg7 arg8 harg8 arg9 harg9 arg10 harg10 arg11 harg11 v33 v35 v38 v89 v91 v94 v97 v98
  let v162 : FVec F S512x256 .f32 ← k0_part17 i arg3 harg3 arg4 harg4 arg5 harg5 arg6 harg6 arg7 harg7 arg8 harg8 arg9 harg9 arg10 harg10 arg11 harg11 v33 v35 v38 v123 v128 v130
  let v195 : Vec F S1x256x256 .bf16 ← k0_part18 i arg3 harg3 arg4 harg4 arg5 harg5 arg6 harg6 arg7 harg7 arg8 harg8 arg9 harg9 arg10 harg10 arg11 harg11 v35 v162
  let v206 : FVec F S1x256 .f32 ← k0_part19 i arg3 harg3 arg4 harg4 arg5 harg5 arg6 harg6 arg7 harg7 arg8 harg8 arg9 harg9 arg10 harg10 arg11 harg11 v33 v35 v38 v195
  let ⟨v245, v250, v263⟩ : Σ' (v245 : FVec F S1x256 .f32) (v250 : FVec F S512x256 .f32), FVec F S256x256 .f32 ← k0_part20 i arg3 harg3 arg4 harg4 arg5 harg5 arg6 harg6 arg7 harg7 arg8 harg8 arg9 harg9 arg10 harg10 arg11 harg11 v33 v38 v206
  let ⟨v284, v286, v289, v295⟩ : Σ' (v284 : FVec F S1x256 .f32) (v286 : FVec F S1x256 .f32) (v289 : FVec F S512x256 .f32), FVec F S1x256 .f32 ← k0_part21 i arg3 harg3 arg4 harg4 arg5 harg5 arg6 harg6 arg7 harg7 arg8 harg8 arg9 harg9 arg10 harg10 arg11 harg11 v33 v35 v38 v245 v250 v263
  let ⟨v323, v325, v328⟩ : Σ' (v323 : FVec F S1x256 .f32) (v325 : FVec F S1x256 .f32), FVec F S512x256 .f32 ← k0_part22 i arg3 harg3 arg4 harg4 arg5 harg5 arg6 harg6 arg7 harg7 arg8 harg8 arg9 harg9 arg10 harg10 arg11 harg11 v33 v35 v38 v284 v286 v289 v295
  let v329 : Vec F S1x1x256 .f32 ← Prog.lift (.load arg10 (Rect.unit (s := S8x1x256) ![7, 0, 0] S1x1x256.size inb_S8x1x256_S1x1x256_7_0_0).toLoadRect (View.loadsAt_vmem h_S1x1x256))
  let v335 : Vec F S1x1x256 .f32 ← Prog.lift (.load arg10 (Rect.unit (s := S8x1x256) ![7, 0, 0] S1x1x256.size inb_S8x1x256_S1x1x256_7_0_0).toLoadRect (View.loadsAt_vmem h_S1x1x256))
  Prog.lift (.store arg10 (Rect.unit (s := S8x1x256) ![7, 0, 0] S1x1x256.size inb_S8x1x256_S1x1x256_7_0_0) (k0_pay10 v325 v328 v329) Finset.univ (View.stores_vmem_bits_univ h_S1x1x256 rfl) (.inl rfl))
  let v338 : Vec F S1x256x256 .f32 ← Prog.lift (.load arg11 (Rect.unit (s := S8x256x256) ![7, 0, 0] S1x256x256.size inb_S8x256x256_S1x256x256_7_0_0).toLoadRect (View.loadsAt_vmem h_S1x256x256))
  let v345 : Vec F S1x256x256 .f32 ← Prog.lift (.load arg11 (Rect.unit (s := S8x256x256) ![7, 0, 0] S1x256x256.size inb_S8x256x256_S1x256x256_7_0_0).toLoadRect (View.loadsAt_vmem h_S1x256x256))
  Prog.lift (.store arg11 (Rect.unit (s := S8x256x256) ![7, 0, 0] S1x256x256.size inb_S8x256x256_S1x256x256_7_0_0) (k0_pay11 v35 v325 v328 v338) Finset.univ (View.stores_vmem_bits_univ h_S1x256x256 rfl) (.inl rfl))
  let v348 : Vec F S1x1x256 .f32 ← Prog.lift (.load arg9 (Rect.unit (s := S8x1x256) ![7, 0, 0] S1x1x256.size inb_S8x1x256_S1x1x256_7_0_0).toLoadRect (View.loadsAt_vmem h_S1x1x256))
  Prog.lift (.store arg9 (Rect.unit (s := S8x1x256) ![7, 0, 0] S1x1x256.size inb_S8x1x256_S1x1x256_7_0_0) (k0_pay12 v323) Finset.univ (View.stores_vmem_bits_univ h_S1x1x256 rfl) (.inl rfl))
  pure ⟨⟩

/-- The fourth branch: divide the accumulator of every head by its sum and store the transpose. -/
def finP (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    Prog (TpuEff nD τ sig (Elt F) Λ₀ .tc) PUnit := do
  let ⟨v56, v61⟩ : Σ' (v56 : FVec F S256x256 .f32), FVec F S256x256 .f32 ← k0_part23 i arg3 harg3 arg4 harg4 arg5 harg5 arg6 harg6 arg7 harg7 arg8 harg8 arg9 harg9 arg10 harg10 arg11 harg11
  let v92 : FVec F S256x256 .f32 ← k0_part24 i arg3 harg3 arg4 harg4 arg5 harg5 arg6 harg6 arg7 harg7 arg8 harg8 arg9 harg9 arg10 harg10 arg11 harg11 v56 v61
  let v123 : FVec F S256x256 .f32 ← k0_part25 i arg3 harg3 arg4 harg4 arg5 harg5 arg6 harg6 arg7 harg7 arg8 harg8 arg9 harg9 arg10 harg10 arg11 harg11 v92
  let v124 : Vec F S1x256x256 .f32 ← Prog.lift (.load arg6 (Rect.unit (s := S8x256x256) ![7, 0, 0] S1x256x256.size inb_S8x256x256_S1x256x256_7_0_0).toLoadRect (View.loadsAt_vmem h_S1x256x256))
  Prog.lift (.store arg6 (Rect.unit (s := S8x256x256) ![7, 0, 0] S1x256x256.size inb_S8x256x256_S1x256x256_7_0_0) (k0_pay13 v123) Finset.univ (View.stores_vmem_bits_univ h_S1x256x256 rfl) (.inl rfl))
  pure ⟨⟩

/-- The kernel is its four branches, each behind its condition. -/
theorem kernel_eq (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    cc0__mla_prompt_kernel (F := F) i arg3 harg3 arg4 harg4 arg5 harg5 arg6 harg6 arg7 harg7 arg8 harg8 arg9 harg9 arg10 harg10 arg11 harg11 = (do
      if _h : cond0_0 i then initP i arg3 harg3 arg4 harg4 arg5 harg5 arg6 harg6 arg7 harg7 arg8 harg8 arg9 harg9 arg10 harg10 arg11 harg11 else pure ⟨⟩
      if _h : cond0_1 i then diagP i arg3 harg3 arg4 harg4 arg5 harg5 arg6 harg6 arg7 harg7 arg8 harg8 arg9 harg9 arg10 harg10 arg11 harg11 else pure ⟨⟩
      if _h : cond0_2 i then fullP i arg3 harg3 arg4 harg4 arg5 harg5 arg6 harg6 arg7 harg7 arg8 harg8 arg9 harg9 arg10 harg10 arg11 harg11 else pure ⟨⟩
      if _h : cond0_3 i then finP i arg3 harg3 arg4 harg4 arg5 harg5 arg6 harg6 arg7 harg7 arg8 harg8 arg9 harg9 arg10 harg10 arg11 harg11 else pure ⟨⟩
      pure ⟨⟩) := by
  rw [cc0__mla_prompt_kernel_eq_skeleton]
  rfl

end Cert.KernelIdeal.Att
-- ==== Proof.Heads.lean ====
/- Arrays of eight heads: one head of an array, an array put together from its heads, and what a buffer reads after a
   store to each head. -/
module

public import proofs.«01_k».proof.Proof.Blocks
public import Idealize.ShloMosaic.Lib.Writes

@[expose] public section

noncomputable section

namespace Cert.KernelIdeal.Att

open Idealize.ShloMosaic Idealize.SL.Sem

/-- An index of a rank three array from its three coordinates. -/
def ix3 {a b c : ℕ} (i : Fin a) (j : Fin b) (k : Fin c) : (⟨3, ![a, b, c]⟩ : Shape).Idx
  | ⟨0, _⟩ => i
  | ⟨1, _⟩ => j
  | ⟨2, _⟩ => k

theorem ix3_eta {a b c : ℕ} (y : (⟨3, ![a, b, c]⟩ : Shape).Idx) : ix3 (a := a) (b := b) (c := c) (y 0) (y 1) (y 2) = y := by
  funext k
  match k with
  | ⟨0, _⟩ => rfl
  | ⟨1, _⟩ => rfl
  | ⟨2, _⟩ => rfl

theorem ix3_eta1 {b c : ℕ} (y : (⟨3, ![1, b, c]⟩ : Shape).Idx) : ix3 (a := 1) (b := b) (c := c) 0 (y 1) (y 2) = y := by
  funext k
  match k with
  | ⟨0, _⟩ => exact Subsingleton.elim (α := Fin 1) _ _
  | ⟨1, _⟩ => rfl
  | ⟨2, _⟩ => rfl

/-- Head `h` of an array of eight heads, as the block a load of that head reads. -/
def hd {α : Type} {a b : ℕ} (x : (⟨3, ![8, a, b]⟩ : Shape).Idx → α) (h : Fin 8) : (⟨3, ![1, a, b]⟩ : Shape).Idx → α :=
  fun j => x (ix3 (a := 8) (b := a) (c := b) h (j 1) (j 2))

/-- The array whose head `h` is the block `G h`. -/
def hput {α : Type} {a b : ℕ} (G : Fin 8 → (⟨3, ![1, a, b]⟩ : Shape).Idx → α) : (⟨3, ![8, a, b]⟩ : Shape).Idx → α :=
  fun y => G (y 0) (ix3 (a := 1) (b := a) (c := b) 0 (y 1) (y 2))

theorem hd_hput {α : Type} {a b : ℕ} (G : Fin 8 → (⟨3, ![1, a, b]⟩ : Shape).Idx → α) (h : Fin 8) : hd (hput G) h = G h := by
  funext j
  exact congrArg (G h) (ix3_eta1 j)

variable {Val : EltTy → Type} {nD : ℕ}

/-- Where the rectangle of head `h` places an index. -/
theorem emb_head {a b : ℕ} (h : Fin 8) (inb) (x : (⟨3, ![1, a, b]⟩ : Shape).Idx) :
    (Rect.unit (s := ⟨3, ![8, a, b]⟩) ![h.val, 0, 0] ![1, a, b] inb).emb x = ix3 (a := 8) (b := a) (c := b) h (x 1) (x 2) := by
  funext k
  apply Fin.ext
  fin_cases k
  · show h.val + 1 * (x 0).val = h.val
    have := (x 0).isLt
    have e : (⟨3, ![1, a, b]⟩ : Shape).size 0 = 1 := rfl
    omega
  · show 0 + 1 * (x 1).val = (x 1).val
    omega
  · show 0 + 1 * (x 2).val = (x 2).val
    omega

/-- A load of head `h` of a whole buffer reads that head of its contents. -/
theorem readAt_head {sig : RefSig} {κ : Kind} {sp : Space} {e : EltTy} {a b : ℕ} (m : Memref sig κ sp ⟨3, ![8, a, b]⟩ e) (hm : m.IsWhole)
    (x : (⟨3, ![8, a, b]⟩ : Shape).Idx → Val e) (h : Fin 8) (inb) :
    View.readAt Val m.view (Rect.unit (s := ⟨3, ![8, a, b]⟩) ![h.val, 0, 0] ![1, a, b] inb).toLoadRect (hm.unread x) = hd x h := by
  funext j
  refine (congrFun (hm.read_unread x) _).trans ?_
  exact congrArg x (emb_head h inb j)

/-- The same, the head a numeral. -/
theorem readAt_headN {sig : RefSig} {κ : Kind} {sp : Space} {e : EltTy} {a b : ℕ} (m : Memref sig κ sp ⟨3, ![8, a, b]⟩ e) (hm : m.IsWhole)
    (x : (⟨3, ![8, a, b]⟩ : Shape).Idx → Val e) (n : ℕ) (hn : n < 8) (inb) :
    View.readAt Val m.view (Rect.unit (s := ⟨3, ![8, a, b]⟩) ![n, 0, 0] ![1, a, b] inb).toLoadRect (hm.unread x) = hd x ⟨n, hn⟩ :=
  readAt_head m hm x ⟨n, hn⟩ inb

/-- What a buffer reads after a store to each of its heads. -/
theorem read_heads {sig : RefSig} {κ : Kind} {sp : Space} {e : EltTy} {a b : ℕ} (v : View sig κ sp ⟨3, ![8, a, b]⟩ e) (f : v.ty.Contents Val)
    (G : Fin 8 → (⟨3, ![1, a, b]⟩ : Shape).Idx → Val e) (i0 i1 i2 i3 i4 i5 i6 i7) :
    v.read Val (v.writes Val f
      [⟨Rect.unit (s := ⟨3, ![8, a, b]⟩) ![7, 0, 0] ![1, a, b] i7, G 7⟩, ⟨Rect.unit (s := ⟨3, ![8, a, b]⟩) ![6, 0, 0] ![1, a, b] i6, G 6⟩,
       ⟨Rect.unit (s := ⟨3, ![8, a, b]⟩) ![5, 0, 0] ![1, a, b] i5, G 5⟩, ⟨Rect.unit (s := ⟨3, ![8, a, b]⟩) ![4, 0, 0] ![1, a, b] i4, G 4⟩,
       ⟨Rect.unit (s := ⟨3, ![8, a, b]⟩) ![3, 0, 0] ![1, a, b] i3, G 3⟩, ⟨Rect.unit (s := ⟨3, ![8, a, b]⟩) ![2, 0, 0] ![1, a, b] i2, G 2⟩,
       ⟨Rect.unit (s := ⟨3, ![8, a, b]⟩) ![1, 0, 0] ![1, a, b] i1, G 1⟩, ⟨Rect.unit (s := ⟨3, ![8, a, b]⟩) ![0, 0, 0] ![1, a, b] i0, G 0⟩]) = hput G := by
  have key : ∀ (h : Fin 8) (inb) (x : (⟨3, ![1, a, b]⟩ : Shape).Idx), G h x = hput G ((Rect.unit (s := ⟨3, ![8, a, b]⟩) ![h.val, 0, 0] ![1, a, b] inb).emb x) := by
    intro h inb x
    rw [emb_head]
    exact (congrFun (hd_hput G h) x).symm
  have mem : ∀ (h : Fin 8) (inb) (y : (⟨3, ![8, a, b]⟩ : Shape).Idx), y 0 = h → y ∈ (Rect.unit (s := ⟨3, ![8, a, b]⟩) ![h.val, 0, 0] ![1, a, b] inb).set := by
    intro h inb y hy
    refine Rect.mem_set_unit.mpr fun k => ?_
    have h0 : (y 0).val = h.val := congrArg Fin.val hy
    fin_cases k
    · show h.val ≤ (y 0).val ∧ (y 0).val < h.val + 1
      omega
    · show 0 ≤ (y 1).val ∧ (y 1).val < 0 + a
      exact ⟨Nat.zero_le _, by have := (y 1).isLt; rw [Nat.zero_add]; exact this⟩
    · show 0 ≤ (y 2).val ∧ (y 2).val < 0 + b
      exact ⟨Nat.zero_le _, by have := (y 2).isLt; rw [Nat.zero_add]; exact this⟩
  funext y
  refine View.read_writes_apply_of_pieces v f (hput G) _ ?_ y ?_
  · intro p hp
    simp only [List.mem_cons, List.not_mem_nil, or_false] at hp
    rcases hp with rfl | rfl | rfl | rfl | rfl | rfl | rfl | rfl
    · exact key 7 i7
    · exact key 6 i6
    · exact key 5 i5
    · exact key 4 i4
    · exact key 3 i3
    · exact key 2 i2
    · exact key 1 i1
    · exact key 0 i0
  · obtain ⟨h, hh⟩ : ∃ h : Fin 8, y 0 = h := ⟨_, rfl⟩
    match h, hh with
    | 0, hh => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem 0 i0 y hh⟩
    | 1, hh => exact ⟨_, List.mem_cons_of_mem _ (List.mem_cons_of_mem _ (List.mem_cons_of_mem _ (List.mem_cons_of_mem _ (List.mem_cons_of_mem _ (List.mem_cons_of_mem _ (List.mem_cons_self)))))), mem 1 i1 y hh⟩
    | 2, hh => exact ⟨_, List.mem_cons_of_mem _ (List.mem_cons_of_mem _ (List.mem_cons_of_mem _ (List.mem_cons_of_mem _ (List.mem_cons_of_mem _ (List.mem_cons_self))))), mem 2 i2 y hh⟩
    | 3, hh => exact ⟨_, List.mem_cons_of_mem _ (List.mem_cons_of_mem _ (List.mem_cons_of_mem _ (List.mem_cons_of_mem _ (List.mem_cons_self)))), mem 3 i3 y hh⟩
    | 4, hh => exact ⟨_, List.mem_cons_of_mem _ (List.mem_cons_of_mem _ (List.mem_cons_of_mem _ (List.mem_cons_self))), mem 4 i4 y hh⟩
    | 5, hh => exact ⟨_, List.mem_cons_of_mem _ (List.mem_cons_of_mem _ (List.mem_cons_self)), mem 5 i5 y hh⟩
    | 6, hh => exact ⟨_, List.mem_cons_of_mem _ (List.mem_cons_self), mem 6 i6 y hh⟩
    | 7, hh => exact ⟨_, List.mem_cons_self, mem 7 i7 y hh⟩

/-- The same, each stored block equal to its head of `G`. -/
theorem read_heads_of {sig : RefSig} {κ : Kind} {sp : Space} {e : EltTy} {a b : ℕ} (v : View sig κ sp ⟨3, ![8, a, b]⟩ e) (f : v.ty.Contents Val)
    (G : Fin 8 → (⟨3, ![1, a, b]⟩ : Shape).Idx → Val e) {i0 i1 i2 i3 i4 i5 i6 i7} {w0 w1 w2 w3 w4 w5 w6 w7 : (⟨3, ![1, a, b]⟩ : Shape).Idx → Val e}
    (h0 : w0 = G 0) (h1 : w1 = G 1) (h2 : w2 = G 2) (h3 : w3 = G 3) (h4 : w4 = G 4) (h5 : w5 = G 5) (h6 : w6 = G 6) (h7 : w7 = G 7) :
    v.read Val (v.writes Val f
      [⟨Rect.unit (s := ⟨3, ![8, a, b]⟩) ![7, 0, 0] ![1, a, b] i7, w7⟩,
       ⟨Rect.unit (s := ⟨3, ![8, a, b]⟩) ![6, 0, 0] ![1, a, b] i6, w6⟩,
       ⟨Rect.unit (s := ⟨3, ![8, a, b]⟩) ![5, 0, 0] ![1, a, b] i5, w5⟩,
       ⟨Rect.unit (s := ⟨3, ![8, a, b]⟩) ![4, 0, 0] ![1, a, b] i4, w4⟩,
       ⟨Rect.unit (s := ⟨3, ![8, a, b]⟩) ![3, 0, 0] ![1, a, b] i3, w3⟩,
       ⟨Rect.unit (s := ⟨3, ![8, a, b]⟩) ![2, 0, 0] ![1, a, b] i2, w2⟩,
       ⟨Rect.unit (s := ⟨3, ![8, a, b]⟩) ![1, 0, 0] ![1, a, b] i1, w1⟩,
       ⟨Rect.unit (s := ⟨3, ![8, a, b]⟩) ![0, 0, 0] ![1, a, b] i0, w0⟩]) = hput G := by
  subst h0 h1 h2 h3 h4 h5 h6 h7
  exact read_heads v f G i0 i1 i2 i3 i4 i5 i6 i7

end Cert.KernelIdeal.Att
-- ==== Proof.Step.lean ====
/- One pass of the running softmax over a block of keys, head by head: what the kernel leaves in its scratch buffers. -/
module

public import proofs.«01_k».proof.Proof.Heads

@[expose] public section

noncomputable section

namespace Cert.KernelIdeal.Att

open Idealize.ShloMosaic Idealize.SL.Sem Cert.KernelIdeal.Gen

variable {F : FTy → Type} [FloatOps F]

/-- The scores of one head: keys along the rows, queries along the columns. -/
def scF (x1 : Vec F S512x256 .f32) (x2 : Vec F S512x32 .f32) (q : Vec F S1x256x256 .bf16) (r : Vec F S1x256x32 .bf16) : FVec F S512x256 .f32 :=
  addf (matmul dot_S512x256_S256x256_S512x256_1_1_0_0_n_n none (k0_pay30 x1) (shapeCast S256x256 q shapeCasts_S1x256x256_S256x256) (constant S512x256 .f32 0x00000000#32))
    (matmul dot_S512x32_S256x32_S512x256_1_1_0_0_n_n none (k0_pay32 x2) (shapeCast S256x32 r shapeCasts_S1x256x32_S256x32) (constant S512x256 .f32 0x00000000#32))

/-- The same scores with the keys after the query's position masked. -/
def scD (a1 : BitVec 32) (x1 : Vec F S512x256 .f32) (x2 : Vec F S512x32 .f32) (q : Vec F S1x256x256 .bf16) (r : Vec F S1x256x32 .bf16) : FVec F S512x256 .f32 :=
  select (k0_pay33 a1) (scF x1 x2 q r) (broadcast S512x256 (Scalar.ofBits .f32 0xFF800000#32))

/-- The largest score of every query. -/
def mx (s : FVec F S512x256 .f32) : FVec F S256 .f32 :=
  multiReduction .maximumf [0] S256 s 0xFF800000#32 reduces_S512x256_S256 (.inl rfl) rfl

/-- The new running maximum of one head. -/
def nM (s : FVec F S512x256 .f32) (m : Vec F S1x1x256 .f32) : FVec F S1x1x256 .f32 := k0_pay42 (k0_pay35 m) (mx s)

/-- The new running sum of one head. -/
def nL (s : FVec F S512x256 .f32) (m l : Vec F S1x1x256 .f32) : FVec F S1x1x256 .f32 := k0_pay40 s (k0_pay35 m) (mx s) l

/-- The new accumulator of one head. -/
def nA (x1 : Vec F S512x256 .f32) (s : FVec F S512x256 .f32) (m : Vec F S1x1x256 .f32) (a : Vec F S1x256x256 .f32) : FVec F S1x256x256 .f32 :=
  k0_pay41 (k0_pay31 x1) s (k0_pay35 m) (mx s) a

/-- The running maxima of all heads after a pass with scores `s`. -/
def stM (s : Fin 8 → FVec F S512x256 .f32) (m : Vec F S8x1x256 .f32) : Vec F S8x1x256 .f32 := hput fun h => nM (s h) (hd m h)

/-- The running sums of all heads after a pass with scores `s`. -/
def stL (s : Fin 8 → FVec F S512x256 .f32) (m l : Vec F S8x1x256 .f32) : Vec F S8x1x256 .f32 := hput fun h => nL (s h) (hd m h) (hd l h)

/-- The accumulators of all heads after a pass with scores `s`. -/
def stA (x1 : Vec F S512x256 .f32) (s : Fin 8 → FVec F S512x256 .f32) (m : Vec F S8x1x256 .f32) (a : Vec F S8x256x256 .f32) : Vec F S8x256x256 .f32 :=
  hput fun h => nA x1 (s h) (hd m h) (hd a h)

/-- The scores of all heads against a block of keys left of the diagonal. -/
def ssF (x1 : Vec F S512x256 .f32) (x2 : Vec F S512x32 .f32) (q : Vec F S8x256x256 .bf16) (r : Vec F S8x256x32 .bf16) : Fin 8 → FVec F S512x256 .f32 :=
  fun h => scF x1 x2 (hd q h) (hd r h)

/-- The scores of all heads against the block of keys on the diagonal. -/
def ssD (a1 : BitVec 32) (x1 : Vec F S512x256 .f32) (x2 : Vec F S512x32 .f32) (q : Vec F S8x256x256 .bf16) (r : Vec F S8x256x32 .bf16) : Fin 8 → FVec F S512x256 .f32 :=
  fun h => scD a1 x1 x2 (hd q h) (hd r h)

/-- The result block of all heads: the accumulator divided by the sum, transposed. -/
def outO (l : Vec F S8x1x256 .f32) (a : Vec F S8x256x256 .f32) : Vec F S8x256x256 .f32 := hput fun h => k0_pay172 (hd a h) (hd l h)

/-- The latent part of one head of the query block, as a load from the query block reads it. -/
def hdQ (x0 : Vec F S8x256x288 .f32) (h : Fin 8) : Vec F S1x256x256 .f32 :=
  fun j => x0 (ix3 (a := 8) (b := 256) (c := 288) h (j 1) ((j 2).castLE (show 256 ≤ 288 by decide)))

/-- The rotary part of one head of the query block. -/
def hdR (x0 : Vec F S8x256x288 .f32) (h : Fin 8) : Vec F S1x256x32 .f32 :=
  fun j => x0 (ix3 (a := 8) (b := 256) (c := 288) h (j 1) ((j 2).natAdd 256))

/-- The rounded latent queries the kernel keeps. -/
def qL (x0 : Vec F S8x256x288 .f32) : Vec F S8x256x256 .bf16 := hput fun h => k0_pay14 (hdQ x0 h)

/-- The rounded rotary queries the kernel keeps. -/
def qR (x0 : Vec F S8x256x288 .f32) : Vec F S8x256x32 .bf16 := hput fun h => k0_pay15 (hdR x0 h)

/-- A load of the latent part of a head of the query block. -/
theorem readAt_hdQ {sig : RefSig} {κ : Kind} {sp : Space} (m : Memref sig κ sp S8x256x288 .f32) (hm : m.IsWhole) (x : Vec F S8x256x288 .f32) (h : Fin 8) (inb) :
    View.readAt (Elt F) m.view (Rect.unit (s := S8x256x288) ![h.val, 0, 0] ![1, 256, 256] inb).toLoadRect (hm.unread x) = hdQ x h := by
  funext j
  refine (congrFun (hm.read_unread x) _).trans (congrArg x (funext fun k => Fin.ext ?_))
  fin_cases k
  · show h.val + 1 * (j 0).val = h.val
    have h0 : (j 0).val < 1 := (j 0).isLt
    omega
  · show 0 + 1 * (j 1).val = (j 1).val
    omega
  · show 0 + 1 * (j 2).val = (j 2).val
    omega

/-- A load of the rotary part of a head of the query block. -/
theorem readAt_hdR {sig : RefSig} {κ : Kind} {sp : Space} (m : Memref sig κ sp S8x256x288 .f32) (hm : m.IsWhole) (x : Vec F S8x256x288 .f32) (h : Fin 8) (inb) :
    View.readAt (Elt F) m.view (Rect.unit (s := S8x256x288) ![h.val, 0, 256] ![1, 256, 32] inb).toLoadRect (hm.unread x) = hdR x h := by
  funext j
  refine (congrFun (hm.read_unread x) _).trans (congrArg x (funext fun k => Fin.ext ?_))
  fin_cases k
  · show h.val + 1 * (j 0).val = h.val
    have h0 : (j 0).val < 1 := (j 0).isLt
    omega
  · show 0 + 1 * (j 1).val = (j 1).val
    omega
  · show 256 + 1 * (j 2).val = 256 + (j 2).val
    omega

/-- The same loads, the head a numeral. -/
theorem readAt_hdQN {sig : RefSig} {κ : Kind} {sp : Space} (m : Memref sig κ sp S8x256x288 .f32) (hm : m.IsWhole) (x : Vec F S8x256x288 .f32) (n : ℕ) (hn : n < 8) (inb) :
    View.readAt (Elt F) m.view (Rect.unit (s := S8x256x288) ![n, 0, 0] ![1, 256, 256] inb).toLoadRect (hm.unread x) = hdQ x ⟨n, hn⟩ :=
  readAt_hdQ m hm x ⟨n, hn⟩ inb

theorem readAt_hdRN {sig : RefSig} {κ : Kind} {sp : Space} (m : Memref sig κ sp S8x256x288 .f32) (hm : m.IsWhole) (x : Vec F S8x256x288 .f32) (n : ℕ) (hn : n < 8) (inb) :
    View.readAt (Elt F) m.view (Rect.unit (s := S8x256x288) ![n, 0, 256] ![1, 256, 32] inb).toLoadRect (hm.unread x) = hdR x ⟨n, hn⟩ :=
  readAt_hdR m hm x ⟨n, hn⟩ inb

/-- What a buffer reads after a store to all of it. -/
theorem read_whole3 {sig : RefSig} {κ : Kind} {sp : Space} {e : EltTy} {a b d : ℕ} (v : View sig κ sp ⟨3, ![a, b, d]⟩ e) (f : v.ty.Contents (Elt F))
    (inb) (w : (⟨3, ![a, b, d]⟩ : Shape).Idx → Elt F e) :
    v.read (Elt F) (v.writes (Elt F) f [⟨Rect.unit (s := ⟨3, ![a, b, d]⟩) ![0, 0, 0] ![a, b, d] inb, w⟩]) = w := by
  funext y
  refine View.read_writes_cons_hit v f (Rect.unit (s := ⟨3, ![a, b, d]⟩) ![0, 0, 0] ![a, b, d] inb) w [] y y (funext fun k => Fin.ext ?_)
  fin_cases k
  · show 0 + 1 * (y 0).val = (y 0).val
    omega
  · show 0 + 1 * (y 1).val = (y 1).val
    omega
  · show 0 + 1 * (y 2).val = (y 2).val
    omega

/-- Every head's rectangle lies inside its array. -/
theorem inbH {a b : ℕ} (h : Fin 8) (k : Fin 3) : (![h.val, 0, 0] : Fin 3 → ℕ) k + (⟨3, ![1, a, b]⟩ : Shape).size k ≤ (⟨3, ![8, a, b]⟩ : Shape).size k := by
  fin_cases k
  · show h.val + 1 ≤ 8
    omega
  · show 0 + a ≤ a
    omega
  · show 0 + b ≤ b
    omega

/-- A load of a whole rank two buffer reads its contents. -/
theorem readAt_all2 {sig : RefSig} {κ : Kind} {sp : Space} {e : EltTy} {a b : ℕ} (m : Memref sig κ sp ⟨2, ![a, b]⟩ e) (hm : m.IsWhole)
    (x : (⟨2, ![a, b]⟩ : Shape).Idx → Elt F e) (inb) :
    View.readAt (Elt F) m.view (Rect.unit (s := ⟨2, ![a, b]⟩) ![0, 0] ![a, b] inb).toLoadRect (hm.unread x) = x := by
  funext j
  refine (congrFun (hm.read_unread x) _).trans (congrArg x (funext fun k => Fin.ext ?_))
  fin_cases k
  · show 0 + 1 * (j 0).val = (j 0).val
    omega
  · show 0 + 1 * (j 1).val = (j 1).val
    omega

end Cert.KernelIdeal.Att
-- ==== Proof.RunInit.lean ====
/- The first branch run: the rounded queries stored and the running state reset. -/
module

public import proofs.«01_k».proof.Proof.Step

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The first branch: the rounded queries and the empty running state. -/
theorem initP_run (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (xs0 : Vec F S8x256x256 .bf16) (xs1 : Vec F S8x256x32 .bf16) (xs2 : Vec F S8x1x256 .f32) (xs3 : Vec F S8x1x256 .f32) (xs4 : Vec F S8x256x256 .f32)
    (E : Set ℕ) (K : PUnit → sProp 𝕄) :
    iprop(owns (c : Thread nD τ) arg3 fullShare x0 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
        ∗ (iprop(owns (c : Thread nD τ) arg3 fullShare x0 ∗ owns (c : Thread nD τ) arg7 fullShare (qL x0) ∗ owns (c : Thread nD τ) arg8 fullShare (qR x0) ∗ owns (c : Thread nD τ) arg9 fullShare (k0_pay4 (F := F)) ∗ owns (c : Thread nD τ) arg10 fullShare (k0_pay5 (F := F)) ∗ owns (c : Thread nD τ) arg11 fullShare (k0_pay6 (F := F))) -∗ K ⟨⟩))
      ⊢ wp frame (wpE (defs₀ (F := F)) Variants.none c none) E (initP i arg3 harg3 arg4 harg4 arg5 harg5 arg6 harg6 arg7 harg7 arg8 harg8 arg9 harg9 arg10 harg10 arg11 harg11) K := by
  unfold initP
  simp only [k0_part1_eq_skeleton, k0_part2_eq_skeleton, k0_part3_eq_skeleton]
  unfold owns
  iintro ⟨⟨%f3, %hf3, H3⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H3]
  · iexists _; isplitr; · ipureintro; exact harg3.read_unread _
    iexact H3
  isplitl [H7]
  · iexists _; isplitr; swap; · iexact H7
    ipureintro
    refine read_heads_of (Val := Elt F) arg7.view _ (fun h => k0_pay14 (hdQ x0 h)) ?_ ?_ ?_ ?_ ?_ ?_ ?_ ?_ <;>
    · sl_unfold_run_names
      simp (disch := decide) only [readAt_hdQN]
      rfl
  isplitl [H8]
  · iexists _; isplitr; swap; · iexact H8
    ipureintro
    refine read_heads_of (Val := Elt F) arg8.view _ (fun h => k0_pay15 (hdR x0 h)) ?_ ?_ ?_ ?_ ?_ ?_ ?_ ?_ <;>
    · sl_unfold_run_names
      simp (disch := decide) only [readAt_hdRN]
      rfl
  isplitl [H9]
  · iexists _; isplitr; swap; · iexact H9
    ipureintro
    exact read_whole3 _ _ _ _
  isplitl [H10]
  · iexists _; isplitr; swap; · iexact H10
    ipureintro
    exact read_whole3 _ _ _ _
  · iexists _; isplitr; swap; · iexact H11
    ipureintro
    exact read_whole3 _ _ _ _

end Cert.KernelIdeal.Att
-- ==== Proof.RunDiag.lean ====
/- The second branch run: the masked pass over the block of keys on the diagonal. -/
module

public import proofs.«01_k».proof.Proof.Step

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- One masked pass: what it leaves in the scratch buffers. -/
theorem diagP_run (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x1 : Vec F S512x256 .f32) (x2 : Vec F S512x32 .f32) (xs0 : Vec F S8x256x256 .bf16) (xs1 : Vec F S8x256x32 .bf16) (xs2 : Vec F S8x1x256 .f32) (xs3 : Vec F S8x1x256 .f32) (xs4 : Vec F S8x256x256 .f32)
    (E : Set ℕ) (K : PUnit → sProp 𝕄) :
    iprop(owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
        ∗ (iprop(owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare (stM (ssD (BitVec.ofNat 32 (i 1).val) x1 x2 xs0 xs1) xs2) ∗ owns (c : Thread nD τ) arg10 fullShare (stL (ssD (BitVec.ofNat 32 (i 1).val) x1 x2 xs0 xs1) xs2 xs3) ∗ owns (c : Thread nD τ) arg11 fullShare (stA x1 (ssD (BitVec.ofNat 32 (i 1).val) x1 x2 xs0 xs1) xs2 xs4)) -∗ K ⟨⟩))
      ⊢ wp frame (wpE (defs₀ (F := F)) Variants.none c none) E (diagP i arg3 harg3 arg4 harg4 arg5 harg5 arg6 harg6 arg7 harg7 arg8 harg8 arg9 harg9 arg10 harg10 arg11 harg11) K := by
  unfold diagP
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4
  obtain rfl := harg5.eq_unread hf5
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine read_heads_of (Val := Elt F) arg9.view _ (fun h => nM (ssD (BitVec.ofNat 32 (i 1).val) x1 x2 xs0 xs1 h) (hd xs2 h)) ?_ ?_ ?_ ?_ ?_ ?_ ?_ ?_ <;>
    · sl_unfold_run_names
      simp (disch := decide) only [readAt_all2, readAt_headN]
      rfl
  isplitl [H10]
  · iexists _; isplitr; swap; · iexact H10
    ipureintro
    refine read_heads_of (Val := Elt F) arg10.view _ (fun h => nL (ssD (BitVec.ofNat 32 (i 1).val) x1 x2 xs0 xs1 h) (hd xs2 h) (hd xs3 h)) ?_ ?_ ?_ ?_ ?_ ?_ ?_ ?_ <;>
    · sl_unfold_run_names
      simp (disch := decide) only [readAt_all2, readAt_headN]
      rfl
  · iexists _; isplitr; swap; · iexact H11
    ipureintro
    refine read_heads_of (Val := Elt F) arg11.view _ (fun h => nA x1 (ssD (BitVec.ofNat 32 (i 1).val) x1 x2 xs0 xs1 h) (hd xs2 h) (hd xs4 h)) ?_ ?_ ?_ ?_ ?_ ?_ ?_ ?_ <;>
    · sl_unfold_run_names
      simp (disch := decide) only [readAt_all2, readAt_headN]
      rfl

end Cert.KernelIdeal.Att
-- ==== Proof.RunFull.lean ====
/- The third branch run: one unmasked pass over a block of keys. -/
module

public import proofs.«01_k».proof.Proof.Step

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- One unmasked pass: what it leaves in the scratch buffers. -/
theorem fullP_run (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x1 : Vec F S512x256 .f32) (x2 : Vec F S512x32 .f32) (xs0 : Vec F S8x256x256 .bf16) (xs1 : Vec F S8x256x32 .bf16) (xs2 : Vec F S8x1x256 .f32) (xs3 : Vec F S8x1x256 .f32) (xs4 : Vec F S8x256x256 .f32)
    (E : Set ℕ) (K : PUnit → sProp 𝕄) :
    iprop(owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
        ∗ (iprop(owns (c : Thread nD τ) arg4 fullShare x1 ∗ owns (c : Thread nD τ) arg5 fullShare x2 ∗ owns (c : Thread nD τ) arg7 fullShare xs0 ∗ owns (c : Thread nD τ) arg8 fullShare xs1 ∗ owns (c : Thread nD τ) arg9 fullShare (stM (ssF x1 x2 xs0 xs1) xs2) ∗ owns (c : Thread nD τ) arg10 fullShare (stL (ssF x1 x2 xs0 xs1) xs2 xs3) ∗ owns (c : Thread nD τ) arg11 fullShare (stA x1 (ssF x1 x2 xs0 xs1) xs2 xs4)) -∗ K ⟨⟩))
      ⊢ wp frame (wpE (defs₀ (F := F)) Variants.none c none) E (fullP i arg3 harg3 arg4 harg4 arg5 harg5 arg6 harg6 arg7 harg7 arg8 harg8 arg9 harg9 arg10 harg10 arg11 harg11) K := by
  unfold fullP
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4
  obtain rfl := harg5.eq_unread hf5
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine read_heads_of (Val := Elt F) arg9.view _ (fun h => nM (ssF x1 x2 xs0 xs1 h) (hd xs2 h)) ?_ ?_ ?_ ?_ ?_ ?_ ?_ ?_ <;>
    · sl_unfold_run_names
      simp (disch := decide) only [readAt_all2, readAt_headN]
      rfl
  isplitl [H10]
  · iexists _; isplitr; swap; · iexact H10
    ipureintro
    refine read_heads_of (Val := Elt F) arg10.view _ (fun h => nL (ssF x1 x2 xs0 xs1 h) (hd xs2 h) (hd xs3 h)) ?_ ?_ ?_ ?_ ?_ ?_ ?_ ?_ <;>
    · sl_unfold_run_names
      simp (disch := decide) only [readAt_all2, readAt_headN]
      rfl
  · iexists _; isplitr; swap; · iexact H11
    ipureintro
    refine read_heads_of (Val := Elt F) arg11.view _ (fun h => nA x1 (ssF x1 x2 xs0 xs1 h) (hd xs2 h) (hd xs4 h)) ?_ ?_ ?_ ?_ ?_ ?_ ?_ ?_ <;>
    · sl_unfold_run_names
      simp (disch := decide) only [readAt_all2, readAt_headN]
      rfl

end Cert.KernelIdeal.Att
-- ==== Proof.RunFin.lean ====
/- The fourth branch run: the accumulators divided by the sums and stored transposed. -/
module

public import proofs.«01_k».proof.Proof.Step

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The division by the sums: what it leaves in the result block. -/
theorem finP_run (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (xo : Vec F S8x256x256 .f32) (xs3 : Vec F S8x1x256 .f32) (xs4 : Vec F S8x256x256 .f32)
    (E : Set ℕ) (K : PUnit → sProp 𝕄) :
    iprop(owns (c : Thread nD τ) arg6 fullShare xo ∗ owns (c : Thread nD τ) arg10 fullShare xs3 ∗ owns (c : Thread nD τ) arg11 fullShare xs4
        ∗ (iprop(owns (c : Thread nD τ) arg6 fullShare (outO xs3 xs4) ∗ owns (c : Thread nD τ) arg10 fullShare xs3 ∗ owns (c : Thread nD τ) arg11 fullShare xs4) -∗ K ⟨⟩))
      ⊢ wp frame (wpE (defs₀ (F := F)) Variants.none c none) E (finP i arg3 harg3 arg4 harg4 arg5 harg5 arg6 harg6 arg7 harg7 arg8 harg8 arg9 harg9 arg10 harg10 arg11 harg11) K := by
  unfold finP
  simp only [k0_part23_eq_skeleton, k0_part24_eq_skeleton, k0_part25_eq_skeleton]
  unfold owns
  iintro ⟨⟨%f6, %hf6, H6⟩, ⟨%f10, %hf10, H10⟩, ⟨%f11, %hf11, H11⟩, Hk⟩
  obtain rfl := harg6.eq_unread hf6
  obtain rfl := harg10.eq_unread hf10
  obtain rfl := harg11.eq_unread hf11
  sl_exec
  sl_step
  iapply Hk
  isplitl [H6]
  · iexists _; isplitr; swap; · iexact H6
    ipureintro
    refine read_heads_of (Val := Elt F) arg6.view _ (fun h => k0_pay172 (hd xs4 h) (hd xs3 h)) ?_ ?_ ?_ ?_ ?_ ?_ ?_ ?_ <;>
    · sl_unfold_run_names
      simp (disch := decide) only [readAt_all2, readAt_headN]
      rfl
  isplitl [H10]
  · iexists _; isplitr; · ipureintro; exact harg10.read_unread _
    iexact H10
  · iexists _; isplitr; · ipureintro; exact harg11.read_unread _
    iexact H11

end Cert.KernelIdeal.Att
-- ==== Proof.Body.lean ====
/- The whole body of the attention kernel at one grid point: the four branches in sequence. -/
module

public import proofs.«01_k».proof.Proof.RunInit
public import proofs.«01_k».proof.Proof.RunDiag
public import proofs.«01_k».proof.Proof.RunFull
public import proofs.«01_k».proof.Proof.RunFin

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the kernel keeps between grid points: the rounded queries, the running maxima and sums, the accumulators. -/
structure St (F : FTy → Type) where
  q : Vec F S8x256x256 .bf16
  r : Vec F S8x256x32 .bf16
  m : Vec F S8x1x256 .f32
  l : Vec F S8x1x256 .f32
  a : Vec F S8x256x256 .f32

/-- The state the first branch sets up from a query block. -/
def st0 (x0 : Vec F S8x256x288 .f32) : St F := ⟨qL x0, qR x0, k0_pay4, k0_pay5, k0_pay6⟩

/-- One pass with scores `s` over the block of keys `x1`. -/
def St.pass (S : St F) (x1 : Vec F S512x256 .f32) (s : Fin 8 → FVec F S512x256 .f32) : St F :=
  ⟨S.q, S.r, stM s S.m, stL s S.m S.l, stA x1 s S.m S.a⟩

/-- After the first branch, -/
def stI (i : grid0.Coords) (x0 : Vec F S8x256x288 .f32) (S : St F) : St F := if cond0_0 i then st0 x0 else S

/-- the second, -/
def stD (i : grid0.Coords) (x1 : Vec F S512x256 .f32) (x2 : Vec F S512x32 .f32) (S : St F) : St F :=
  if cond0_1 i then S.pass x1 (ssD (BitVec.ofNat 32 (i 1).val) x1 x2 S.q S.r) else S

/-- the third. -/
def stF (i : grid0.Coords) (x1 : Vec F S512x256 .f32) (x2 : Vec F S512x32 .f32) (S : St F) : St F :=
  if cond0_2 i then S.pass x1 (ssF x1 x2 S.q S.r) else S

/-- What a grid point does to the state. -/
def step (i : grid0.Coords) (x0 : Vec F S8x256x288 .f32) (x1 : Vec F S512x256 .f32) (x2 : Vec F S512x32 .f32) (S : St F) : St F :=
  stF i x1 x2 (stD i x1 x2 (stI i x0 S))

/-- What a grid point leaves in the result block, the state after it being `S`. -/
def outB (i : grid0.Coords) (S : St F) (o : Vec F S8x256x256 .f32) : Vec F S8x256x256 .f32 := if cond0_3 i then outO S.l S.a else o

/-- The first branch behind its condition. -/
theorem initP_opt (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (x1 : Vec F S512x256 .f32) (x2 : Vec F S512x32 .f32) (o : Vec F S8x256x256 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (stI i x0 S).q ∗ owns (c : Thread nD τ) arg8 fullShare (stI i x0 S).r ∗ owns (c : Thread nD τ) arg9 fullShare (stI i x0 S).m ∗ owns (c : Thread nD τ) arg10 fullShare (stI i x0 S).l ∗ owns (c : Thread nD τ) arg11 fullShare (stI i x0 S).a) -∗ K ⟨⟩))
      ⊢ wp frame (wpE (defs₀ (F := F)) Variants.none c none) E (if _h : cond0_0 i then initP i arg3 harg3 arg4 harg4 arg5 harg5 arg6 harg6 arg7 harg7 arg8 harg8 arg9 harg9 arg10 harg10 arg11 harg11 else pure ⟨⟩) K := by
  by_cases h : cond0_0 i
  · rw [dif_pos h, show stI i x0 S = st0 x0 from if_pos h]
    refine BIBase.Entails.trans ?_ (initP_run c i arg3 harg3 arg4 harg4 arg5 harg5 arg6 harg6 arg7 harg7 arg8 harg8 arg9 harg9 arg10 harg10 arg11 harg11 x0 S.q S.r S.m S.l S.a E K)
    iintro ⟨H3, H4, H5, H6, H7, H8, H9, H10, H11, Hk⟩
    isplitl [H3]; · iexact H3
    isplitl [H7]; · iexact H7
    isplitl [H8]; · iexact H8
    isplitl [H9]; · iexact H9
    isplitl [H10]; · iexact H10
    isplitl [H11]; · iexact H11
    iintro ⟨H3, H7, H8, H9, H10, H11⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg h, show stI i x0 S = S from if_neg h]
    iintro ⟨H3, H4, H5, H6, H7, H8, H9, H10, H11, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The second branch behind its condition. -/
theorem diagP_opt (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (x1 : Vec F S512x256 .f32) (x2 : Vec F S512x32 .f32) (o : Vec F S8x256x256 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (stD i x1 x2 S).q ∗ owns (c : Thread nD τ) arg8 fullShare (stD i x1 x2 S).r ∗ owns (c : Thread nD τ) arg9 fullShare (stD i x1 x2 S).m ∗ owns (c : Thread nD τ) arg10 fullShare (stD i x1 x2 S).l ∗ owns (c : Thread nD τ) arg11 fullShare (stD i x1 x2 S).a) -∗ K ⟨⟩))
      ⊢ wp frame (wpE (defs₀ (F := F)) Variants.none c none) E (if _h : cond0_1 i then diagP i arg3 harg3 arg4 harg4 arg5 harg5 arg6 harg6 arg7 harg7 arg8 harg8 arg9 harg9 arg10 harg10 arg11 harg11 else pure ⟨⟩) K := by
  by_cases h : cond0_1 i
  · rw [dif_pos h, show stD i x1 x2 S = S.pass x1 (ssD (BitVec.ofNat 32 (i 1).val) x1 x2 S.q S.r) from if_pos h]
    refine BIBase.Entails.trans ?_ (diagP_run c i arg3 harg3 arg4 harg4 arg5 harg5 arg6 harg6 arg7 harg7 arg8 harg8 arg9 harg9 arg10 harg10 arg11 harg11 x1 x2 S.q S.r S.m S.l S.a E K)
    iintro ⟨H3, H4, H5, H6, H7, H8, H9, H10, H11, Hk⟩
    isplitl [H4]; · iexact H4
    isplitl [H5]; · iexact H5
    isplitl [H7]; · iexact H7
    isplitl [H8]; · iexact H8
    isplitl [H9]; · iexact H9
    isplitl [H10]; · iexact H10
    isplitl [H11]; · iexact H11
    iintro ⟨H4, H5, H7, H8, H9, H10, H11⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg h, show stD i x1 x2 S = S from if_neg h]
    iintro ⟨H3, H4, H5, H6, H7, H8, H9, H10, H11, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The third branch behind its condition. -/
theorem fullP_opt (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (x1 : Vec F S512x256 .f32) (x2 : Vec F S512x32 .f32) (o : Vec F S8x256x256 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (stF i x1 x2 S).q ∗ owns (c : Thread nD τ) arg8 fullShare (stF i x1 x2 S).r ∗ owns (c : Thread nD τ) arg9 fullShare (stF i x1 x2 S).m ∗ owns (c : Thread nD τ) arg10 fullShare (stF i x1 x2 S).l ∗ owns (c : Thread nD τ) arg11 fullShare (stF i x1 x2 S).a) -∗ K ⟨⟩))
      ⊢ wp frame (wpE (defs₀ (F := F)) Variants.none c none) E (if _h : cond0_2 i then fullP i arg3 harg3 arg4 harg4 arg5 harg5 arg6 harg6 arg7 harg7 arg8 harg8 arg9 harg9 arg10 harg10 arg11 harg11 else pure ⟨⟩) K := by
  by_cases h : cond0_2 i
  · rw [dif_pos h, show stF i x1 x2 S = S.pass x1 (ssF x1 x2 S.q S.r) from if_pos h]
    refine BIBase.Entails.trans ?_ (fullP_run c i arg3 harg3 arg4 harg4 arg5 harg5 arg6 harg6 arg7 harg7 arg8 harg8 arg9 harg9 arg10 harg10 arg11 harg11 x1 x2 S.q S.r S.m S.l S.a E K)
    iintro ⟨H3, H4, H5, H6, H7, H8, H9, H10, H11, Hk⟩
    isplitl [H4]; · iexact H4
    isplitl [H5]; · iexact H5
    isplitl [H7]; · iexact H7
    isplitl [H8]; · iexact H8
    isplitl [H9]; · iexact H9
    isplitl [H10]; · iexact H10
    isplitl [H11]; · iexact H11
    iintro ⟨H4, H5, H7, H8, H9, H10, H11⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg h, show stF i x1 x2 S = S from if_neg h]
    iintro ⟨H3, H4, H5, H6, H7, H8, H9, H10, H11, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The fourth branch behind its condition. -/
theorem finP_opt (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (x1 : Vec F S512x256 .f32) (x2 : Vec F S512x32 .f32) (o : Vec F S8x256x256 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare (outB i S o) ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a) -∗ K ⟨⟩))
      ⊢ wp frame (wpE (defs₀ (F := F)) Variants.none c none) E (if _h : cond0_3 i then finP i arg3 harg3 arg4 harg4 arg5 harg5 arg6 harg6 arg7 harg7 arg8 harg8 arg9 harg9 arg10 harg10 arg11 harg11 else pure ⟨⟩) K := by
  by_cases h : cond0_3 i
  · rw [dif_pos h, show outB i S o = outO S.l S.a from if_pos h]
    refine BIBase.Entails.trans ?_ (finP_run c i arg3 harg3 arg4 harg4 arg5 harg5 arg6 harg6 arg7 harg7 arg8 harg8 arg9 harg9 arg10 harg10 arg11 harg11 o S.l S.a E K)
    iintro ⟨H3, H4, H5, H6, H7, H8, H9, H10, H11, Hk⟩
    isplitl [H6]; · iexact H6
    isplitl [H10]; · iexact H10
    isplitl [H11]; · iexact H11
    iintro ⟨H6, H10, H11⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg h, show outB i S o = o from if_neg h]
    iintro ⟨H3, H4, H5, H6, H7, H8, H9, H10, H11, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- A branch followed by a continuation on both of its sides is the branch bound to it. -/
theorem dite_seq {c : Prop} [Decidable c] (p k : Prog (TpuEff nD τ sig (Elt F) Λ₀ .tc) PUnit) :
    (if _h : c then (p >>= fun _ => k) else k) = ((if _h : c then p else pure ⟨⟩) >>= fun _ => k) := by
  by_cases h : c
  · rw [dif_pos h, dif_pos h]
  · rw [dif_neg h, dif_neg h, pure_bind]

/-- The kernel's text as its four branches bound one after the other. -/
theorem kernel_seq (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole) :
    cc0__mla_prompt_kernel (F := F) i arg3 harg3 arg4 harg4 arg5 harg5 arg6 harg6 arg7 harg7 arg8 harg8 arg9 harg9 arg10 harg10 arg11 harg11
      = ((if _h : cond0_0 i then initP i arg3 harg3 arg4 harg4 arg5 harg5 arg6 harg6 arg7 harg7 arg8 harg8 arg9 harg9 arg10 harg10 arg11 harg11 else pure ⟨⟩ : Prog (TpuEff nD τ sig (Elt F) Λ₀ .tc) PUnit) >>= fun _ =>
        (if _h : cond0_1 i then diagP i arg3 harg3 arg4 harg4 arg5 harg5 arg6 harg6 arg7 harg7 arg8 harg8 arg9 harg9 arg10 harg10 arg11 harg11 else pure ⟨⟩ : Prog (TpuEff nD τ sig (Elt F) Λ₀ .tc) PUnit) >>= fun _ =>
        (if _h : cond0_2 i then fullP i arg3 harg3 arg4 harg4 arg5 harg5 arg6 harg6 arg7 harg7 arg8 harg8 arg9 harg9 arg10 harg10 arg11 harg11 else pure ⟨⟩ : Prog (TpuEff nD τ sig (Elt F) Λ₀ .tc) PUnit) >>= fun _ =>
        (if _h : cond0_3 i then finP i arg3 harg3 arg4 harg4 arg5 harg5 arg6 harg6 arg7 harg7 arg8 harg8 arg9 harg9 arg10 harg10 arg11 harg11 else pure ⟨⟩ : Prog (TpuEff nD τ sig (Elt F) Λ₀ .tc) PUnit) >>= fun _ => pure ⟨⟩) := by
  rw [kernel_eq]
  refine (dite_seq _ _).trans (congrArg _ (funext fun _ => ?_))
  refine (dite_seq _ _).trans (congrArg _ (funext fun _ => ?_))
  refine (dite_seq _ _).trans (congrArg _ (funext fun _ => ?_))
  exact dite_seq _ _
/-- The whole body: the state stepped, the result block stored at the last pass of a query block. -/
theorem body_run (c : Dev nD) (i : grid0.Coords) (arg3 : Memref sig .tc .vmem S8x256x288 .f32) (harg3 : arg3.IsWhole) (arg4 : Memref sig .tc .vmem S512x256 .f32) (harg4 : arg4.IsWhole) (arg5 : Memref sig .tc .vmem S512x32 .f32) (harg5 : arg5.IsWhole) (arg6 : Memref sig .tc .vmem S8x256x256 .f32) (harg6 : arg6.IsWhole) (arg7 : Memref sig .tc .vmem S8x256x256 .bf16) (harg7 : arg7.IsWhole) (arg8 : Memref sig .tc .vmem S8x256x32 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x256x256 .f32) (harg11 : arg11.IsWhole)
    (x0 : Vec F S8x256x288 .f32) (x1 : Vec F S512x256 .f32) (x2 : Vec F S512x32 .f32) (o : Vec F S8x256x256 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare (S).q ∗ owns (c : Thread nD τ) arg8 fullShare (S).r ∗ owns (c : Thread nD τ) arg9 fullShare (S).m ∗ owns (c : Thread nD τ) arg10 fullShare (S).l ∗ owns (c : Thread nD τ) arg11 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare (outB i (step i x0 x1 x2 S) o) ∗ owns (c : Thread nD τ) arg7 fullShare (step i x0 x1 x2 S).q ∗ owns (c : Thread nD τ) arg8 fullShare (step i x0 x1 x2 S).r ∗ owns (c : Thread nD τ) arg9 fullShare (step i x0 x1 x2 S).m ∗ owns (c : Thread nD τ) arg10 fullShare (step i x0 x1 x2 S).l ∗ owns (c : Thread nD τ) arg11 fullShare (step i x0 x1 x2 S).a) -∗ K ⟨⟩))
      ⊢ wp frame (wpE (defs₀ (F := F)) Variants.none c none) E (cc0__mla_prompt_kernel (F := F) i arg3 harg3 arg4 harg4 arg5 harg5 arg6 harg6 arg7 harg7 arg8 harg8 arg9 harg9 arg10 harg10 arg11 harg11) K := by
  rw [kernel_seq]
  iintro ⟨H3, H4, H5, H6, H7, H8, H9, H10, H11, Hk⟩
  rw [wp_bind]
  iapply (initP_opt c i arg3 harg3 arg4 harg4 arg5 harg5 arg6 harg6 arg7 harg7 arg8 harg8 arg9 harg9 arg10 harg10 arg11 harg11 x0 x1 x2 o S E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  rw [wp_bind]
  iapply (diagP_opt c i arg3 harg3 arg4 harg4 arg5 harg5 arg6 harg6 arg7 harg7 arg8 harg8 arg9 harg9 arg10 harg10 arg11 harg11 x0 x1 x2 o (stI i x0 S) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  rw [wp_bind]
  iapply (fullP_opt c i arg3 harg3 arg4 harg4 arg5 harg5 arg6 harg6 arg7 harg7 arg8 harg8 arg9 harg9 arg10 harg10 arg11 harg11 x0 x1 x2 o (stD i x1 x2 (stI i x0 S)) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  rw [wp_bind]
  iapply (finP_opt c i arg3 harg3 arg4 harg4 arg5 harg5 arg6 harg6 arg7 harg7 arg8 harg8 arg9 harg9 arg10 harg10 arg11 harg11 x0 x1 x2 o (step i x0 x1 x2 S) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Att
-- ==== Proof.Track.lean ====
/- The state of the attention kernel along the grid, the pipeline's proof data over it, and the run of the launch. -/
module

public import proofs.«01_k».proof.Proof.Body
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions at a grid point -/

theorem hcond0_0 : ∀ t : Fin cfg0.N, cond0_0 (grid0.coords t) ↔ t.val % 8 = 0 :=
  (by decide +kernel : ∀ t : Fin grid0.N, cond0_0 (grid0.coords t) ↔ t.val % 8 = 0)

theorem hcond0_1 : ∀ t : Fin cfg0.N, cond0_1 (grid0.coords t) ↔ t.val % 8 = 0 :=
  (by decide +kernel : ∀ t : Fin grid0.N, cond0_1 (grid0.coords t) ↔ t.val % 8 = 0)

/-- The unmasked pass runs at a query block's visits `1 … last`, `last` half the block's number. -/
theorem hcond0_2 : ∀ t : Fin cfg0.N, cond0_2 (grid0.coords t) ↔ (0 < t.val % 8 ∧ t.val % 8 ≤ t.val / 8 % 16 / 2) :=
  (by decide +kernel : ∀ t : Fin grid0.N, cond0_2 (grid0.coords t) ↔ (0 < t.val % 8 ∧ t.val % 8 ≤ t.val / 8 % 16 / 2))

/-- The result block is stored at visit `last`. -/
theorem hcond0_3 : ∀ t : Fin cfg0.N, cond0_3 (grid0.coords t) ↔ t.val % 8 = t.val / 8 % 16 / 2 :=
  (by decide +kernel : ∀ t : Fin grid0.N, cond0_3 (grid0.coords t) ↔ t.val % 8 = t.val / 8 % 16 / 2)

/-- The result window is idle where nothing is stored. -/
theorem hidle0_3 : ∀ t : Fin cfg0.N, cfg0.idle 3 (grid0.coords t) = decide (t.val % 8 ≠ t.val / 8 % 16 / 2) :=
  (by decide +kernel : ∀ t : Fin grid0.N, idle0 3 (grid0.coords t) = decide (t.val % 8 ≠ t.val / 8 % 16 / 2))

/-- The result's buffer holds nothing of the present query block up to visit `last`. -/
theorem fresh0_3 (n : ℕ) (h : n ≤ cfg0.N) : cfg0.fresh 3 n = decide (n % 8 ≤ n / 8 % 16 / 2) := by
  refine Pipeline.Cfg.fresh_tab cfg0 3 (fun n => decide (n % 8 ≤ n / 8 % 16 / 2)) rfl (fun t => ?_) n h
  have hN : t.val < 512 := lt_of_lt_of_eq t.isLt (show cfg0.N = 512 from N_0)
  have hf := flush0_3 t
  rw [show cfg0.idle 3 (cfg0.grid.coords t) = _ from hidle0_3 t]
  cases hfl : (cfg0.win 3).flush t
  · rw [hfl] at hf
    have h7 : t.val % 8 ≠ 7 := fun e => Bool.false_ne_true (hf.mpr e)
    have h8 : (t.val + 1) / 8 = t.val / 8 := by omega
    simp only [Bool.false_or, ← Bool.decide_and, decide_eq_decide, h8]
    omega
  · rw [hfl] at hf
    have h7 : t.val % 8 = 7 := hf.mp rfl
    simp only [Bool.true_or, eq_comm (a := true), decide_eq_true_eq]
    omega

/-! ## The memory the body is run on -/

abbrev ms0_0 (t : Fin cfg0.N) : Memref sig .tc .vmem S8x256x288 .f32 := win0_0.stage (cfg0.slots t 0)
abbrev ms0_1 (t : Fin cfg0.N) : Memref sig .tc .vmem S512x256 .f32 := win0_1.stage (cfg0.slots t 1)
abbrev ms0_2 (t : Fin cfg0.N) : Memref sig .tc .vmem S512x32 .f32 := win0_2.stage (cfg0.slots t 2)
abbrev ms0_3 (t : Fin cfg0.N) : Memref sig .tc .vmem S8x256x256 .f32 := win0_3.stage (cfg0.slots t 3)
abbrev scM0_0 : Memref sig .tc .vmem S8x256x256 .bf16 := Memref.whole cc0_scratch0
abbrev scM0_1 : Memref sig .tc .vmem S8x256x32 .bf16 := Memref.whole cc0_scratch1
abbrev scM0_2 : Memref sig .tc .vmem S8x1x256 .f32 := Memref.whole cc0_scratch2
abbrev scM0_3 : Memref sig .tc .vmem S8x1x256 .f32 := Memref.whole cc0_scratch3
abbrev scM0_4 : Memref sig .tc .vmem S8x256x256 .f32 := Memref.whole cc0_scratch4

/-- What the launch hands the pipeline beside the windows: the scratch at any contents, and the generator's register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The state along the grid -/

/-- The state before point `n`. -/
def tr (c : Dev nD) : ℕ → St F
  | 0 => st0 (iblk m c 0 ⟨0, lt_of_lt_of_eq (by decide) N_0.symm⟩)
  | n + 1 => if h : n < cfg0.N then step (grid0.coords ⟨n, h⟩) (iblk m c 0 ⟨n, h⟩) (iblk m c 1 ⟨n, h⟩) (iblk m c 2 ⟨n, h⟩) (tr c n) else tr c n

/-- The result block before point `n`. -/
def og (c : Dev nD) : ℕ → Vec F S8x256x256 .f32
  | 0 => k0_pay6
  | n + 1 => if h : n < cfg0.N then outB (grid0.coords ⟨n, h⟩) (tr m c (n + 1)) (og c n) else og c n

theorem tr_succ (c : Dev nD) (t : Fin cfg0.N) :
    tr m c (t.val + 1) = step (grid0.coords t) (iblk m c 0 t) (iblk m c 1 t) (iblk m c 2 t) (tr m c t.val) := by
  rw [tr, dif_pos t.isLt]

theorem og_succ (c : Dev nD) (t : Fin cfg0.N) : og m c (t.val + 1) = outB (grid0.coords t) (tr m c (t.val + 1)) (og m c t.val) := by
  rw [og, dif_pos t.isLt]

/-- Where a query block begins, the state before is forgotten. -/
theorem step_init (i : grid0.Coords) (x0 : Vec F S8x256x288 .f32) (x1 : Vec F S512x256 .f32) (x2 : Vec F S512x32 .f32) (S S' : St F)
    (h : cond0_0 i) : step i x0 x1 x2 S = step i x0 x1 x2 S' := by
  unfold step stI; rw [if_pos h, if_pos h]

theorem og_idle (c : Dev nD) (t : Fin cfg0.N) (h : cfg0.idle 3 (grid0.coords t) = true) : og m c (t.val + 1) = og m c t.val := by
  rw [hidle0_3] at h
  rw [og_succ, outB, if_neg (fun e => of_decide_eq_true h ((hcond0_3 t).mp e))]

/-! ## The pipeline's proof data -/

/-- Between points: the scratch at the state, the generator's register at anything. -/
def heldAt (c : Dev nD) (n : ℕ) : sProp 𝕄 :=
  iprop(iprop(owns (c : Thread nD τ) scM0_0 fullShare (tr m c n).q ∗ owns (c : Thread nD τ) scM0_1 fullShare (tr m c n).r ∗ owns (c : Thread nD τ) scM0_2 fullShare (tr m c n).m ∗ owns (c : Thread nD τ) scM0_3 fullShare (tr m c n).l ∗ owns (c : Thread nD τ) scM0_4 fullShare (tr m c n).a) ∗ (∃ r, prngReg c r))

def PhiS (c : Dev nD) : (n : ℕ) → n ≤ cfg0.N → sProp 𝕄
  | 0, _ => Pipeline.ΦA spec0 c
  | n + 1, _ => heldAt m c (n + 1)

theorem PhiS_pos (c : Dev nD) (n : ℕ) (h : n ≤ cfg0.N) (hz : n ≠ 0) : PhiS m c n h = heldAt m c n := by
  cases n with
  | zero => exact absurd rfl hz
  | succ n => rfl

theorem PhiS_zero (c : Dev nD) (n : ℕ) (h : n ≤ cfg0.N) (hz : n = 0) : PhiS m c n h = Pipeline.ΦA spec0 c := by
  subst hz; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => og m c (t.val + 1)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = og m c (t.val + 1) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Past visit `last` the result's buffer holds what visit `last` stored. -/
theorem before0_3 (c : Dev nD) (t : Fin cfg0.N) (d) (hf : cfg0.fresh 3 t.val = false) : (dats m 0 c).before 3 t d = og m c t.val := by
  have hz : t.val ≠ 0 := fun e => by
    rw [e, Pipeline.Cfg.fresh_zero] at hf; exact Bool.false_ne_true hf.symm
  rw [(dats m 0 c).before_out_traj 3 rfl (fun _ _ => rfl) (fun u hu hi _ => ?_) t.val t rfl d, hf, if_neg Bool.false_ne_true, after0_3]
  · exact congrArg (og m c) (Nat.sub_add_cancel (Nat.pos_of_ne_zero hz))
  · rw [after0_3, after0_3, og_idle m c u hi]
    exact congrArg (og m c) (Nat.sub_add_cancel (Nat.pos_of_ne_zero hu)).symm

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at a point from a state `S` whose step is the next one. -/
theorem body_at (c : Dev nD) (t : Fin cfg0.N) (o : Vec F S8x256x256 .f32) (S : St F)
    (hS : step (grid0.coords t) (iblk m c 0 t) (iblk m c 1 t) (iblk m c 2 t) S = tr m c (t.val + 1)) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare o
        ∗ owns (c : Thread nD τ) scM0_0 fullShare (S).q ∗ owns (c : Thread nD τ) scM0_1 fullShare (S).r ∗ owns (c : Thread nD τ) scM0_2 fullShare (S).m ∗ owns (c : Thread nD τ) scM0_3 fullShare (S).l ∗ owns (c : Thread nD τ) scM0_4 fullShare (S).a
        ∗ (iprop(owns (c : Thread nD τ) (ms0_0 t) fullShare (iblk m c 0 t) ∗ owns (c : Thread nD τ) (ms0_1 t) fullShare (iblk m c 1 t)
            ∗ owns (c : Thread nD τ) (ms0_2 t) fullShare (iblk m c 2 t)
            ∗ owns (c : Thread nD τ) (ms0_3 t) fullShare (outB (grid0.coords t) (tr m c (t.val + 1)) o)
            ∗ owns (c : Thread nD τ) scM0_0 fullShare (tr m c (t.val + 1)).q ∗ owns (c : Thread nD τ) scM0_1 fullShare (tr m c (t.val + 1)).r ∗ owns (c : Thread nD τ) scM0_2 fullShare (tr m c (t.val + 1)).m ∗ owns (c : Thread nD τ) scM0_3 fullShare (tr m c (t.val + 1)).l ∗ owns (c : Thread nD τ) scM0_4 fullShare (tr m c (t.val + 1)).a) -∗ K ⟨⟩))
      ⊢ wp frame (wpE (defs₀ (F := F)) Variants.none c none) Set.univ (bodyAt0 t) K := by
  rw [← hS]
  unfold bodyAt0
  exact body_run c (grid0.coords t) _ _ _ _ _ _ _ _ _ _ _ _ _ _ _ _ _ _ (iblk m c 0 t) (iblk m c 1 t) (iblk m c 2 t) o S Set.univ K

/-- What the body leaves in the result's buffer is what the pipeline asks. -/
theorem leaves0_3 (c : Dev nD) (t : Fin cfg0.N) (d) :
    owns (c : Thread nD τ) (ms0_3 t) fullShare (outB (grid0.coords t) (tr m c (t.val + 1)) ((dats m 0 c).before 3 t d))
      ⊢ ((dats m 0 c).leavesExact 3 t : sProp 𝕄) := by
  have hN : t.val < 512 := lt_of_lt_of_eq t.isLt (show cfg0.N = 512 from N_0)
  cases hi : cfg0.idle 3 (grid0.coords t)
  · have h3 : cond0_3 (grid0.coords t) := by
      rw [hidle0_3] at hi
      exact (hcond0_3 t).mpr (not_not.mp (of_decide_eq_false hi))
    unfold Dat.leavesExact
    rw [show cfg0.idle 3 (cfg0.grid.coords t) = false from hi]
    rw [after0_3, og_succ, outB, outB, if_pos h3, if_pos h3]
  · have h3 : ¬ cond0_3 (grid0.coords t) := by
      rw [hidle0_3] at hi
      exact fun e => of_decide_eq_true hi ((hcond0_3 t).mp e)
    rw [outB, if_neg h3]
    cases hf : (cfg0.win 3).flush t
    · rw [(dats m 0 c).leavesExact_idle 3 t hi hf]
      iintro H
      iexists d
      iexact H
    · unfold Dat.leavesExact
      rw [show cfg0.idle 3 (cfg0.grid.coords t) = true from hi, hf]
      have h7 := (flush0_3 t).mp hf
      have hfr : cfg0.fresh 3 t.val = false := by
        rw [fresh0_3 _ (Nat.le_of_lt t.isLt)]
        rw [hidle0_3] at hi
        have := of_decide_eq_true hi
        exact decide_eq_false (by omega)
      rw [before0_3 m c t d hfr, after0_3, og_idle m c t hi]

set_option maxHeartbeats 4000000 in
/-- The body from a state `S`, its post the pipeline's. -/
theorem body_post (c : Dev nD) (t : Fin cfg0.N) (S : St F)
    (hS : step (grid0.coords t) (iblk m c 0 t) (iblk m c 1 t) (iblk m c 2 t) S = tr m c (t.val + 1)) :
    iprop(iprop(iprop(owns (c : Thread nD τ) scM0_0 fullShare (S).q ∗ owns (c : Thread nD τ) scM0_1 fullShare (S).r ∗ owns (c : Thread nD τ) scM0_2 fullShare (S).m ∗ owns (c : Thread nD τ) scM0_3 fullShare (S).l ∗ owns (c : Thread nD τ) scM0_4 fullShare (S).a) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
      ⊢ wp frame (wpE (defs₀ (F := F)) Variants.none c none) Set.univ (bodyAt0 t) (fun _ => bodyPost m c t) := by
  unfold bodyPost
  simp only [before0_0, before0_1, before0_2]
  rw [show (dats m 0 c).owesAt () t.succ = (dats m 0 c).owesAt () t.castSucc from rfl]
  rw [show (dats m 0 c).Φ t.succ = heldAt m c (t.val + 1) from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  unfold heldAt
  iintro ⟨⟨⟨HS0, HS1, HS2, HS3, HS4⟩, Hg⟩, Ho, ⟨%d0, H0⟩, ⟨%d1, H1⟩, ⟨%d2, H2⟩, ⟨%d3, H3⟩⟩
  iapply (body_at m c t ((dats m 0 c).before 3 t d3) S hS _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  iapply (leaves0_3 m c t d3)
  iexact H3

/-- The body at any point: at the first from whatever the scratch holds, elsewhere from the state. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  by_cases hz : t.val = 0
  · rw [PhiS_zero m c _ _ hz, PhiA0_eq]
    iintro ⟨⟨⟨⟨%e0, HS0⟩, ⟨%e1, HS1⟩, ⟨%e2, HS2⟩, ⟨%e3, HS3⟩, ⟨%e4, HS4⟩⟩, Hg⟩, Hr⟩
    iapply (body_post m c t ⟨e0, e1, e2, e3, e4⟩
      ((step_init _ _ _ _ _ _ ((hcond0_0 t).mpr (by rw [hz]))).trans (tr_succ m c t).symm))
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    iexact Hr
  · rw [PhiS_pos m c _ _ hz]
    exact body_post m c t (tr m c t.val) (tr_succ m c t).symm

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 512 := N_0; omega), PhiA0_eq, heldAt]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

set_option backward.isDefEq.respectTransparency.types false in
/-- Every execution ends with the arrays at the proof data's contents and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame at any float values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run _ _ _).mono (fun _ h => h.1) (run_all m ρ)))
    ((θ_run _ _ _).mono (fun _ h => h.2) (run_all m ρ))

end Cert.KernelIdeal.Att
-- ==== Proof.Same.lean ====
/- The kernel as printed and its idealization are one text: their body tables are equal. -/
module

public import proofs.«01_k».proof.Proof.Gen.Kernel
public import proofs.«01_k».proof.Proof.Gen.KernelIdeal
public import Idealize.ShloMosaic.PureOps.BitExact

@[expose] public section

set_option maxRecDepth 16384

namespace Cert.Same

open Idealize.ShloMosaic Idealize.SL.Sem

theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) => rfl
  | ⟨n + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

end Cert.Same

end
-- ==== Proof.Soft.lean ====
/- The running softmax over the extended reals: the largest score, the sum and the weighted sum of the keys seen so far, and one more
   block of keys. -/
module

public import Idealize.ShloMosaic.PureOps.Ideal

@[expose] public section

noncomputable section

namespace Cert.Soft

open Idealize.ShloMosaic

variable {K : Type}

theorem mul_sum {a : EReal} (h0 : 0 ≤ a) (ht : a ≠ ⊤) (J : Finset K) (f : K → EReal) : a * ∑ k ∈ J, f k = ∑ k ∈ J, a * f k := by
  classical
  induction J using Finset.induction_on with
  | empty => simp
  | insert k J hk ih => rw [Finset.sum_insert hk, Finset.sum_insert hk, EReal.left_distrib_of_nonneg_of_ne_top h0 ht, ih]

theorem exp_bot : Ideal.exp ⊥ = 0 := rfl

theorem exp_top : Ideal.exp ⊤ = ⊤ := rfl

theorem exp_coe (r : ℝ) : Ideal.exp (r : EReal) = ((Real.exp r : ℝ) : EReal) := rfl

theorem exp_zero : Ideal.exp 0 = 1 := by
  rw [← EReal.coe_zero, exp_coe, Real.exp_zero, EReal.coe_one]

theorem exp_nonneg (x : EReal) : 0 ≤ Ideal.exp x := by
  induction x with
  | bot => rw [exp_bot]
  | top => rw [exp_top]; exact le_top
  | coe r => rw [exp_coe]; exact EReal.coe_nonneg.2 (Real.exp_pos r).le

theorem exp_ne_top {x : EReal} (h : x ≠ ⊤) : Ideal.exp x ≠ ⊤ := by
  induction x with
  | bot => rw [exp_bot]; exact EReal.zero_ne_top
  | top => exact absurd rfl h
  | coe r => rw [exp_coe]; exact EReal.coe_ne_top _

theorem sub_ne_top {x y : EReal} (hx : x ≠ ⊤) (hxy : x ≤ y) : x - y ≠ ⊤ := by
  induction x with
  | bot => simp
  | top => exact absurd rfl hx
  | coe r =>
    induction y with
    | bot => exact absurd hxy (by simp)
    | top => simp
    | coe q => rw [← EReal.coe_sub]; exact EReal.coe_ne_top _

/-- A weight taken at an earlier maximum, rescaled to a later one. -/
theorem exp_rescale {x M M' : EReal} (hx : x ≤ M) (hM : M ≤ M') (ht : M' ≠ ⊤) :
    Ideal.exp (M - M') * Ideal.exp (x - M) = Ideal.exp (x - M') := by
  induction x with
  | bot => simp [exp_bot]
  | top => exact absurd (top_le_iff.1 ((top_le_iff.1 hx) ▸ hM)) ht
  | coe r =>
    induction M with
    | bot => exact absurd hx (by simp)
    | top => exact absurd (top_le_iff.1 hM) ht
    | coe a =>
      induction M' with
      | bot => exact absurd hM (by simp)
      | top => exact absurd rfl ht
      | coe b =>
        rw [← EReal.coe_sub, ← EReal.coe_sub, ← EReal.coe_sub]
        rw [exp_coe, exp_coe, exp_coe, ← EReal.coe_mul, ← Real.exp_add]
        congr 2
        ring

/-- The sum of the weights of the keys of `J`. -/
def den (J : Finset K) (s : K → EReal) : EReal := ∑ k ∈ J, Ideal.exp (s k - J.sup s)

/-- The weighted sum of `v` over the keys of `J`. -/
def num (J : Finset K) (s v : K → EReal) : EReal := ∑ k ∈ J, v k * Ideal.exp (s k - J.sup s)

variable {J B : Finset K} {s v : K → EReal}

theorem sup_ne_top (hs : ∀ k, s k ≠ ⊤) (J : Finset K) : J.sup s ≠ ⊤ := by
  rw [← lt_top_iff_ne_top]
  exact (Finset.sup_lt_iff (by simp)).2 fun k _ => lt_top_iff_ne_top.2 (hs k)

variable [DecidableEq K]

theorem den_step (hs : ∀ k, s k ≠ ⊤) (hd : Disjoint J B) :
    Ideal.exp (J.sup s - max (J.sup s) (B.sup s)) * den J s + ∑ k ∈ B, Ideal.exp (s k - max (J.sup s) (B.sup s)) = den (J ∪ B) s := by
  have hM : (J ∪ B).sup s = max (J.sup s) (B.sup s) := Finset.sup_union
  have ht : max (J.sup s) (B.sup s) ≠ ⊤ := hM ▸ sup_ne_top hs _
  rw [den, den, hM, Finset.sum_union hd, mul_sum (exp_nonneg _) (exp_ne_top (sub_ne_top (sup_ne_top hs _) (le_max_left _ _)))]
  congr 1
  exact Finset.sum_congr rfl fun k hk => exp_rescale (Finset.le_sup hk) (le_max_left _ _) ht

theorem num_step (hs : ∀ k, s k ≠ ⊤) (hd : Disjoint J B) :
    Ideal.exp (J.sup s - max (J.sup s) (B.sup s)) * num J s v + ∑ k ∈ B, v k * Ideal.exp (s k - max (J.sup s) (B.sup s)) = num (J ∪ B) s v := by
  have hM : (J ∪ B).sup s = max (J.sup s) (B.sup s) := Finset.sup_union
  have ht : max (J.sup s) (B.sup s) ≠ ⊤ := hM ▸ sup_ne_top hs _
  rw [num, num, hM, Finset.sum_union hd, mul_sum (exp_nonneg _) (exp_ne_top (sub_ne_top (sup_ne_top hs _) (le_max_left _ _)))]
  congr 1
  refine Finset.sum_congr rfl fun k hk => ?_
  rw [mul_left_comm, exp_rescale (Finset.le_sup hk) (le_max_left _ _) ht]

theorem sup_hidden (h : ∀ k ∈ J, s k = ⊥) : J.sup s = ⊥ := by
  rw [Finset.sup_eq_bot_iff]
  exact h

theorem den_hidden (h : ∀ k ∈ J, s k = ⊥) : den J s = 0 :=
  Finset.sum_eq_zero fun k hk => by rw [h k hk]; simp [exp_bot]

theorem num_hidden (h : ∀ k ∈ J, s k = ⊥) : num J s v = 0 :=
  Finset.sum_eq_zero fun k hk => by rw [h k hk]; simp [exp_bot]

/-- A row with a finite score has a weight of one. -/
theorem den_ne_zero (hs : ∀ k, s k ≠ ⊤) {k₀ : K} (hk : k₀ ∈ J) (h : s k₀ ≠ ⊥) : den J s ≠ 0 := by
  obtain ⟨k, hkJ, he⟩ := Finset.exists_mem_eq_sup J ⟨k₀, hk⟩ s
  have hb : s k ≠ ⊥ := by
    intro hb
    have := Finset.le_sup (f := s) hk
    rw [he, hb, le_bot_iff] at this
    exact h this
  have h1 : Ideal.exp (s k - J.sup s) = 1 := by
    rw [he, EReal.sub_self (hs k) hb, exp_zero]
  intro h0
  have := Finset.single_le_sum (f := fun k => Ideal.exp (s k - J.sup s)) (fun k _ => exp_nonneg _) hkJ
  rw [show (∑ k ∈ J, Ideal.exp (s k - J.sup s)) = den J s from rfl, h0] at this
  simp only [h1] at this
  exact absurd this (by simp)

theorem den_nonneg : 0 ≤ den J s := Finset.sum_nonneg fun _ _ => exp_nonneg _

/-- The weighted sum times the reciprocal of the sum is the softmax average. -/
theorem num_div (h0 : den J s ≠ 0) :
    num J s v * Ideal.div 1 (den J s) = ∑ k ∈ J, v k * Ideal.div (Ideal.exp (s k - J.sup s)) (den J s) := by
  have hp : (0 : EReal) < den J s := lt_of_le_of_ne den_nonneg (Ne.symm h0)
  have hn : 0 ≤ (den J s)⁻¹ := EReal.inv_nonneg_of_nonneg den_nonneg
  have ht : (den J s)⁻¹ ≠ ⊤ := by
    generalize den J s = d at *
    induction d with
    | bot => exact absurd hp (by simp)
    | top => simp
    | coe r => rw [← EReal.coe_inv]; exact EReal.coe_ne_top _
  simp only [Ideal.div, if_neg h0, one_mul]
  rw [mul_comm, num, mul_sum hn ht]
  exact Finset.sum_congr rfl fun k _ => by rw [mul_left_comm, mul_comm (den J s)⁻¹]

end Cert.Soft

end
-- ==== Proof.Point.lean ====
/- What one pass over a block of keys leaves, read at an index at the ideal instance. -/
module

public import proofs.«01_k».proof.Proof.Body
public import proofs.«01_k».proof.Proof.Soft
public import Idealize.ShloMosaic.Lib.Pointwise
public import Idealize.ShloMosaic.PureOps.Ideal

@[expose] public section

set_option maxRecDepth 16384

noncomputable section

namespace Cert.KernelIdeal.Val

open Idealize.ShloMosaic Idealize.SL.Sem Cert.KernelIdeal.Gen

theorem att_ix3 {a b c : ℕ} (i : Fin a) (j : Fin b) (k : Fin c) : Att.ix3 i j k = ix3 i j k := by
  funext e
  match e with
  | ⟨0, _⟩ => rfl
  | ⟨1, _⟩ => rfl
  | ⟨2, _⟩ => rfl

theorem hd_at {α : Type} {a b : ℕ} (x : (⟨3, ![8, a, b]⟩ : Shape).Idx → α) (h : Fin 8) (u : Fin 1) (i : Fin a) (j : Fin b) :
    Att.hd x h (ix3 u i j) = x (ix3 h i j) := congrArg x (att_ix3 _ _ _)

theorem hput_at {α : Type} {a b : ℕ} (G : Fin 8 → (⟨3, ![1, a, b]⟩ : Shape).Idx → α) (h : Fin 8) (i : Fin a) (j : Fin b) :
    Att.hput G (ix3 h i j) = G h (ix3 0 i j) := congrArg (G h) (att_ix3 _ _ _)

theorem ofBits_neg_inf : Ideal.ofBits .f32 0xFF800000#32 = ⊥ := by
  simp [Ideal.ofBits, Ideal.ieee]

theorem fold_max (f : Fin 512 → EReal) : Finset.univ.fold max ⊥ f = Finset.univ.sup f := rfl

/-- The largest score of a query over a block. -/
def top (s : FVec Ideal S512x256 .f32) (r : Fin 256) : EReal := Finset.univ.sup fun l : Fin 512 => s (ix2 l r)

theorem mx_at (s : FVec Ideal S512x256 .f32) (r : Fin 256) : Att.mx s (ix1 r) = top s r := by
  pointwise [Att.mx]
  rw [ofBits_neg_inf, fold_max]
  rfl

theorem nM_at (s : FVec Ideal S512x256 .f32) (m : FVec Ideal S1x1x256 .f32) (r : Fin 256) :
    Att.nM s m (ix3 0 0 r) = max (m (ix3 0 0 r)) (top s r) := by
  pointwise [Att.nM, k0_pay42, k0_pay37, k0_pay35, mx_at]

theorem nL_at (s : FVec Ideal S512x256 .f32) (m l : FVec Ideal S1x1x256 .f32) (r : Fin 256) :
    Att.nL s m l (ix3 0 0 r) = Ideal.exp (m (ix3 0 0 r) - max (m (ix3 0 0 r)) (top s r)) * l (ix3 0 0 r)
      + ∑ k : Fin 512, Ideal.exp (s (ix2 k r) - max (m (ix3 0 0 r)) (top s r)) := by
  pointwise [Att.nL, k0_pay40, k0_pay39, k0_pay38, k0_pay37, k0_pay35, mx_at]

theorem nA_at (x1 : FVec Ideal S512x256 .f32) (s : FVec Ideal S512x256 .f32) (m : FVec Ideal S1x1x256 .f32) (a : FVec Ideal S1x256x256 .f32) (e r : Fin 256) :
    Att.nA x1 s m a (ix3 0 e r) = Ideal.exp (m (ix3 0 0 r) - max (m (ix3 0 0 r)) (top s r)) * a (ix3 0 e r)
      + ∑ k : Fin 512, x1 (ix2 k e) * Ideal.exp (s (ix2 k r) - max (m (ix3 0 0 r)) (top s r)) := by
  pointwise [Att.nA, k0_pay41, k0_pay39, k0_pay38, k0_pay37, k0_pay35, k0_pay31, k0_pay29, mx_at]

theorem scF_at (x1 : FVec Ideal S512x256 .f32) (x2 : FVec Ideal S512x32 .f32) (q : FVec Ideal S1x256x256 .bf16) (w : FVec Ideal S1x256x32 .bf16) (l : Fin 512) (r : Fin 256) :
    Att.scF x1 x2 q w (ix2 l r) = (∑ d : Fin 256, x1 (ix2 l d) * q (ix3 0 r d)) + ∑ d : Fin 32, x2 (ix2 l d) * w (ix3 0 r d) := by
  pointwise [Att.scF, k0_pay30, k0_pay29, k0_pay32]

theorem k0_pay33_at (n : ℕ) (hn : n < 16) (l : Fin 512) (r : Fin 256) :
    k0_pay33 (BitVec.ofNat 32 n) (ix2 l r) = if (l : ℕ) ≤ r + n % 2 * 256 then 1#1 else 0#1 := by
  pointwise [k0_pay33]
  generalize hw : Scalar.muli _ 256#32 = w
  have hw' : w = BitVec.ofNat 32 (n % 2 * 256) := by
    rw [← hw]
    clear hw w
    revert hn
    revert n
    decide
  rw [hw', WordCmp.addi_ofNat, WordCmp.cmpi_sle_ofNat (by omega) (by omega)]
  by_cases hle : (l : ℕ) ≤ r + n % 2 * 256 <;> simp [hle]

theorem outO_at (l : FVec Ideal S8x1x256 .f32) (a : FVec Ideal S8x256x256 .f32) (h : Fin 8) (r e : Fin 256) :
    Att.outO (F := Ideal) l a (ix3 h r e) = a (ix3 h e r) * Ideal.div 1 (l (ix3 h 0 r)) := by
  rw [Att.outO, hput_at]
  pointwise [k0_pay172, hd_at]

theorem qL_at (x0 : FVec Ideal S8x256x288 .f32) (h : Fin 8) (r : Fin 256) (d : Fin 256) :
    Att.qL (F := Ideal) x0 (ix3 h r d) = x0 (ix3 h r ⟨d.val, by omega⟩) := by
  rw [Att.qL, hput_at]
  pointwise [k0_pay14, Att.hdQ, att_ix3]
  rfl

theorem qR_at (x0 : FVec Ideal S8x256x288 .f32) (h : Fin 8) (r : Fin 256) (d : Fin 32) :
    Att.qR (F := Ideal) x0 (ix3 h r d) = x0 (ix3 h r ⟨256 + d.val, by omega⟩) := by
  rw [Att.qR, hput_at]
  pointwise [k0_pay15, Att.hdR, att_ix3]
  rfl

end Cert.KernelIdeal.Val

end
-- ==== Proof.Entry.lean ====
/- The blocks the kernel is given, in terms of the arguments. -/
module

public import proofs.«01_k».proof.Proof.Track
public import proofs.«01_k».proof.Proof.Point
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Idealize.SL.Sem Cert.KernelIdeal.Gen

variable (m : (ℓ : Loc nD τ sig) → Buf (Elt Ideal) ℓ) (c : Dev nD)

/-- The scale of the scores. -/
def sc : EReal := Ideal.ofBits .f32 0x3DD105EC#32

/-- The four arguments. -/
def aq : FVec Ideal S4x4096x8x256 .f32 := m ((c : Thread nD τ).loc main_arg0)
def ar : FVec Ideal S4x4096x8x32 .f32 := m ((c : Thread nD τ).loc main_arg1)
def av : FVec Ideal S4x4096x256 .f32 := m ((c : Thread nD τ).loc main_arg2)
def ak : FVec Ideal S4x4096x32 .f32 := m ((c : Thread nD τ).loc main_arg3)

theorem lt512 (t : Fin cfg0.N) : t.val < 512 := lt_of_lt_of_eq t.isLt (show cfg0.N = 512 from N_0)

/-- The sequence a point works on, -/
def bAt (t : Fin cfg0.N) : Fin 4 := ⟨t.val / 128, by have := lt512 t; omega⟩
/-- the position of a row of its query block, -/
def pAt (t : Fin cfg0.N) (r : Fin 256) : Fin 4096 := ⟨t.val / 8 % 16 * 256 + r.val, by omega⟩
/-- and the position of a row of its key block. -/
def kAt (t : Fin cfg0.N) (l : Fin 512) : Fin 4096 := ⟨(t.val / 8 % 16 / 2 - t.val % 8) * 512 + l.val, by omega⟩

theorem idx : ∀ t : Fin cfg0.N, win0_0.index t = ![0, t.val / 8, 0] ∧ win0_1.index t = ![t.val / 128 * 8 + (t.val / 8 % 16 / 2 - t.val % 8), 0]
    ∧ win0_2.index t = ![t.val / 128 * 8 + (t.val / 8 % 16 / 2 - t.val % 8), 0] ∧ win0_3.index t = ![0, t.val / 8, 0] :=
  (by decide +kernel : ∀ t : Fin grid0.N, _)

theorem ib0_lat (t : Fin cfg0.N) (h : Fin 8) (r d : Fin 256) :
    (show FVec Ideal S8x256x288 .f32 from iblk m c 0 t) (ix3 h r ⟨d.val, by omega⟩) = aq m c (ix4 (bAt t) (pAt t r) h d) * sc := by
  have hN := lt512 t
  blk_simp [iblk]
  entry_read
  pointwise
  rw [dif_pos (by blk_simp [idx t]; dsimp only; omega)]
  refine Ideal.mul_congr ?_ rfl
  rw [aq]
  blk_ext [bAt, pAt, idx t]

theorem ib0_rope (t : Fin cfg0.N) (h : Fin 8) (r : Fin 256) (d : Fin 32) :
    (show FVec Ideal S8x256x288 .f32 from iblk m c 0 t) (ix3 h r ⟨256 + d.val, by omega⟩) = ar m c (ix4 (bAt t) (pAt t r) h d) * sc := by
  have hN := lt512 t
  blk_simp [iblk]
  entry_read
  pointwise
  rw [dif_neg (by blk_simp [idx t]; dsimp only; omega)]
  refine Ideal.mul_congr ?_ rfl
  rw [ar]
  blk_ext [bAt, pAt, idx t]

theorem ib1 (t : Fin cfg0.N) (l : Fin 512) (d : Fin 256) :
    (show FVec Ideal S512x256 .f32 from iblk m c 1 t) (ix2 l d) = av m c (ix3 (bAt t) (kAt t l) d) := by
  have hN := lt512 t
  blk_simp [iblk]
  entry_read
  pointwise
  rw [av]
  blk_ext [bAt, kAt, idx t]

theorem ib2 (t : Fin cfg0.N) (l : Fin 512) (d : Fin 32) :
    (show FVec Ideal S512x32 .f32 from iblk m c 2 t) (ix2 l d) = ak m c (ix3 (bAt t) (kAt t l) d) := by
  have hN := lt512 t
  blk_simp [iblk]
  entry_read
  pointwise
  rw [ak]
  blk_ext [bAt, kAt, idx t]

end Cert.KernelIdeal.Val

end
-- ==== Proof.Inv.lean ====
/- The kernel's state after every grid point: the softmax of the keys visited, from the diagonal block down. -/
module

public import proofs.«01_k».proof.Proof.Entry

@[expose] public section

set_option maxRecDepth 16384

noncomputable section

namespace Cert.KernelIdeal.Val

open Idealize.ShloMosaic Idealize.ShloMosaic.TcCoe Idealize.SL.Sem Cert.KernelIdeal.Gen Cert.Soft

variable (m : (ℓ : Loc nD τ sig) → Buf (Elt Ideal) ℓ) (c : Dev nD)

/-- The score of a key for a query, -/
def sco (b : Fin 4) (h : Fin 8) (p k : Fin 4096) : EReal :=
  (∑ d : Fin 256, av m c (ix3 b k d) * (aq m c (ix4 b p h d) * sc)) + ∑ d : Fin 32, ak m c (ix3 b k d) * (ar m c (ix4 b p h d) * sc)

/-- the later keys hidden. -/
def scr (b : Fin 4) (h : Fin 8) (p k : Fin 4096) : EReal := if k.val ≤ p.val then sco m c b h p k else ⊥

/-- The key of row `l` of block `n`. -/
def key (n : ℕ) (hn : n < 8) : Fin 512 ↪ Fin 4096 :=
  ⟨fun l => ⟨n * 512 + l.val, by omega⟩, fun a b e => Fin.ext (by have := congrArg Fin.val e; simp only at this; omega)⟩

/-- The keys from block `n` on. -/
def from_ (n : ℕ) : Finset (Fin 4096) := Finset.univ.filter fun k => n * 512 ≤ k.val

theorem from_zero : from_ 0 = Finset.univ := by simp [from_]

theorem mem_blk (n : ℕ) (hn : n < 8) (k : Fin 4096) : k ∈ Finset.univ.map (key n hn) ↔ n * 512 ≤ k.val ∧ k.val < n * 512 + 512 := by
  simp only [Finset.mem_map, Finset.mem_univ, true_and]
  constructor
  · rintro ⟨l, rfl⟩
    show n * 512 ≤ n * 512 + l.val ∧ n * 512 + l.val < n * 512 + 512
    omega
  · intro hk
    exact ⟨⟨k.val - n * 512, by omega⟩, Fin.ext (show n * 512 + (k.val - n * 512) = k.val by omega)⟩

theorem from_succ (n : ℕ) (hn : n < 8) : from_ (n + 1) ∪ Finset.univ.map (key n hn) = from_ n := by
  ext k
  rw [Finset.mem_union, mem_blk]
  simp only [from_, Finset.mem_filter, Finset.mem_univ, true_and]
  omega

theorem from_disj (n : ℕ) (hn : n < 8) : Disjoint (from_ (n + 1)) (Finset.univ.map (key n hn)) := by
  rw [Finset.disjoint_left]
  intro k hk
  rw [mem_blk]
  simp only [from_, Finset.mem_filter, Finset.mem_univ, true_and] at hk
  omega

/-- The state holds the queries at positions `p` and the softmax of the keys from block `n` on. -/
structure Inv (b : Fin 4) (p : Fin 256 → Fin 4096) (n : ℕ) (S : Att.St Ideal) : Prop where
  hq : ∀ (h : Fin 8) (r d : Fin 256), S.q (ix3 h r d) = aq m c (ix4 b (p r) h d) * sc
  hr : ∀ (h : Fin 8) (r : Fin 256) (d : Fin 32), S.r (ix3 h r d) = ar m c (ix4 b (p r) h d) * sc
  hm : ∀ (h : Fin 8) (r : Fin 256), S.m (ix3 h 0 r) = (from_ n).sup (scr m c b h (p r))
  hl : ∀ (h : Fin 8) (r : Fin 256), S.l (ix3 h 0 r) = den (from_ n) (scr m c b h (p r))
  ha : ∀ (h : Fin 8) (e r : Fin 256), S.a (ix3 h e r) = num (from_ n) (scr m c b h (p r)) fun k => av m c (ix3 b k e)

variable {m c}

theorem scr_ne_top (hs : ∀ b h p k, sco m c b h p k ≠ ⊤) (b : Fin 4) (h : Fin 8) (p k : Fin 4096) : scr m c b h p k ≠ ⊤ := by
  unfold scr
  split
  · exact hs b h p k
  · exact bot_ne_top

/-- One pass over block `n`. -/
theorem Inv.pass (hs : ∀ b h p k, sco m c b h p k ≠ ⊤) {b : Fin 4} {p : Fin 256 → Fin 4096} {n : ℕ} (hn : n < 8) {S : Att.St Ideal}
    (I : Inv m c b p (n + 1) S) (x1 : FVec Ideal S512x256 .f32) (s : Fin 8 → FVec Ideal S512x256 .f32)
    (hx : ∀ l d, x1 (ix2 l d) = av m c (ix3 b (key n hn l) d)) (hsc : ∀ h l r, s h (ix2 l r) = scr m c b h (p r) (key n hn l)) :
    Inv m c b p n (S.pass x1 s) := by
  have ht : ∀ h r, top (s h) r = (Finset.univ.map (key n hn)).sup (scr m c b h (p r)) := fun h r => by
    rw [Finset.sup_map, top]
    exact Finset.sup_congr rfl fun l _ => hsc h l r
  refine ⟨I.hq, I.hr, fun h r => ?_, fun h r => ?_, fun h e r => ?_⟩
  · show Att.stM s S.m (ix3 h 0 r) = _
    rw [Att.stM, hput_at, nM_at, hd_at, I.hm, ht, ← from_succ n hn]
    exact Finset.sup_union.symm
  · show Att.stL s S.m S.l (ix3 h 0 r) = _
    rw [Att.stL, hput_at, nL_at, hd_at, hd_at, I.hm, I.hl, ht, ← from_succ n hn, ← den_step (scr_ne_top hs b h (p r)) (from_disj n hn), Finset.sum_map]
    refine Ideal.add_congr rfl (Finset.sum_congr rfl fun l _ => ?_)
    rw [hsc]
  · show Att.stA x1 s S.m S.a (ix3 h e r) = _
    rw [Att.stA, hput_at, nA_at, hd_at, hd_at, I.hm, I.ha, ht, ← from_succ n hn, ← num_step (scr_ne_top hs b h (p r)) (from_disj n hn), Finset.sum_map]
    refine Ideal.add_congr rfl (Finset.sum_congr rfl fun l _ => ?_)
    rw [hsc, hx]

/-- The state the first branch sets up: no key of a later block is seen. -/
theorem Inv.init {b : Fin 4} {p : Fin 256 → Fin 4096} {n : ℕ} (hp : ∀ r, (p r).val < n * 512) (x0 : FVec Ideal S8x256x288 .f32)
    (h0 : ∀ h r (d : Fin 256), x0 (ix3 h r ⟨d.val, by omega⟩) = aq m c (ix4 b (p r) h d) * sc)
    (h1 : ∀ h r (d : Fin 32), x0 (ix3 h r ⟨256 + d.val, by omega⟩) = ar m c (ix4 b (p r) h d) * sc) :
    Inv m c b p n (Att.st0 x0) := by
  have hh : ∀ h r, ∀ k ∈ from_ n, scr m c b h (p r) k = ⊥ := fun h r k hk => by
    simp only [from_, Finset.mem_filter, Finset.mem_univ, true_and] at hk
    have := hp r
    exact if_neg (by omega)
  refine ⟨fun h r d => ?_, fun h r d => ?_, fun h r => ?_, fun h r => ?_, fun h e r => ?_⟩
  · exact (qL_at x0 h r d).trans (h0 h r d)
  · exact (qR_at x0 h r d).trans (h1 h r d)
  · rw [sup_hidden (hh h r)]
    show k0_pay4 (F := Ideal) (ix3 h 0 r) = ⊥
    pointwise [k0_pay4]
    exact ofBits_neg_inf
  · rw [den_hidden (hh h r)]
    show k0_pay5 (F := Ideal) (ix3 h 0 r) = 0
    pointwise [k0_pay5]
  · rw [num_hidden (hh h r)]
    show k0_pay6 (F := Ideal) (ix3 h e r) = 0
    pointwise [k0_pay6]

variable (m c)

theorem coord1 : ∀ t : Fin cfg0.N, (grid0.coords t 1).val = t.val / 8 % 16 :=
  (by decide +kernel : ∀ t : Fin grid0.N, (grid0.coords t 1).val = t.val / 8 % 16)

/-- The unmasked scores of a key block left of the diagonal. -/
theorem ssF_scr (t : Fin cfg0.N) {S : Att.St Ideal} (n : ℕ) (hn : n < 8) (he : n = t.val / 8 % 16 / 2 - t.val % 8) {k : ℕ}
    (I : Inv m c (bAt t) (pAt t) k S) (h : Fin 8) (l : Fin 512) (r : Fin 256) :
    Att.ssF (F := Ideal) (iblk m c 1 t) (iblk m c 2 t) S.q S.r h (ix2 l r) = sco m c (bAt t) h (pAt t r) (key n hn l) := by
  subst he
  rw [Att.ssF, scF_at, sco]
  refine Ideal.add_congr (Finset.sum_congr rfl fun d _ => ?_) (Finset.sum_congr rfl fun d _ => ?_)
  · rw [hd_at, I.hq]
    exact Ideal.mul_congr (ib1 m c t l d) rfl
  · rw [hd_at, I.hr]
    exact Ideal.mul_congr (ib2 m c t l d) rfl

theorem ssD_scr (t : Fin cfg0.N) (h0 : t.val % 8 = 0) {S : Att.St Ideal} (n : ℕ) (hn : n < 8) (he : n = t.val / 8 % 16 / 2 - t.val % 8) {k : ℕ}
    (I : Inv m c (bAt t) (pAt t) k S) (h : Fin 8) (l : Fin 512) (r : Fin 256) :
    Att.ssD (F := Ideal) (BitVec.ofNat 32 (grid0.coords t 1).val) (iblk m c 1 t) (iblk m c 2 t) S.q S.r h (ix2 l r)
      = scr m c (bAt t) h (pAt t r) (key n hn l) := by
  have hF := ssF_scr m c t n hn he I h l r
  rw [Att.ssF] at hF
  rw [Att.ssD, Att.scD, coord1]
  pointwise
  rw [hF, k0_pay33_at _ (by omega), ofBits_neg_inf, scr]
  have hi : (key n hn l).val ≤ (pAt t r).val ↔ l.val ≤ r.val + t.val / 8 % 16 % 2 * 256 := by
    show n * 512 + l.val ≤ t.val / 8 % 16 * 256 + r.val ↔ _
    omega
  by_cases hle : l.val ≤ r.val + t.val / 8 % 16 % 2 * 256
  · rw [if_pos hle, if_pos (hi.2 hle)]; rfl
  · rw [if_neg hle, if_neg (fun e => hle (hi.1 e))]; rfl

/-- A grid point where the state is set up: the diagonal block. -/
theorem step_diag (hs : ∀ b h p k, sco m c b h p k ≠ ⊤) (t : Fin cfg0.N) (h0 : t.val % 8 = 0) (S : Att.St Ideal) :
    Inv m c (bAt t) (pAt t) (t.val / 8 % 16 / 2 - t.val % 8) (Att.step (grid0.coords t) (iblk m c 0 t) (iblk m c 1 t) (iblk m c 2 t) S) := by
  have hn : t.val / 8 % 16 / 2 - t.val % 8 < 8 := by omega
  have I : Inv m c (bAt t) (pAt t) (t.val / 8 % 16 / 2 - t.val % 8 + 1) (Att.st0 (F := Ideal) (iblk m c 0 t)) :=
    Inv.init (fun r => by show t.val / 8 % 16 * 256 + r.val < _; omega) _ (ib0_lat m c t) (ib0_rope m c t)
  rw [Att.step, Att.stF, if_neg (fun e => by have := (Att.hcond0_2 t).mp e; omega), Att.stD, if_pos ((Att.hcond0_1 t).mpr h0), Att.stI,
    if_pos ((Att.hcond0_0 t).mpr h0)]
  exact I.pass hs hn _ _ (ib1 m c t) (ssD_scr m c t h0 _ hn rfl I)

/-- A grid point left of the diagonal. -/
theorem step_left (hs : ∀ b h p k, sco m c b h p k ≠ ⊤) (t : Fin cfg0.N) (h0 : 0 < t.val % 8) (h1 : t.val % 8 ≤ t.val / 8 % 16 / 2) (S : Att.St Ideal)
    (I : Inv m c (bAt t) (pAt t) (t.val / 8 % 16 / 2 - t.val % 8 + 1) S) :
    Inv m c (bAt t) (pAt t) (t.val / 8 % 16 / 2 - t.val % 8) (Att.step (grid0.coords t) (iblk m c 0 t) (iblk m c 1 t) (iblk m c 2 t) S) := by
  have hn : t.val / 8 % 16 / 2 - t.val % 8 < 8 := by omega
  rw [Att.step, Att.stF, if_pos ((Att.hcond0_2 t).mpr ⟨h0, h1⟩), Att.stD, if_neg (fun e => by have := (Att.hcond0_1 t).mp e; omega), Att.stI,
    if_neg (fun e => by have := (Att.hcond0_0 t).mp e; omega)]
  refine I.pass hs hn _ _ (ib1 m c t) fun h l r => ?_
  rw [ssF_scr m c t _ hn rfl I, scr, if_pos]
  show (t.val / 8 % 16 / 2 - t.val % 8) * 512 + l.val ≤ t.val / 8 % 16 * 256 + r.val
  omega

/-- A grid point past the last key block. -/
theorem step_past (t : Fin cfg0.N) (h1 : t.val / 8 % 16 / 2 < t.val % 8) (S : Att.St Ideal) :
    Att.step (grid0.coords t) (iblk m c 0 t) (iblk m c 1 t) (iblk m c 2 t) S = S := by
  rw [Att.step, Att.stF, if_neg (fun e => by have := (Att.hcond0_2 t).mp e; omega), Att.stD, if_neg (fun e => by have := (Att.hcond0_1 t).mp e; omega), Att.stI,
    if_neg (fun e => by have := (Att.hcond0_0 t).mp e; omega)]

/-- The state after a grid point. -/
theorem tr_inv (hs : ∀ b h p k, sco m c b h p k ≠ ⊤) : ∀ (n : ℕ) (t : Fin cfg0.N), t.val = n →
    Inv m c (bAt t) (pAt t) (t.val / 8 % 16 / 2 - t.val % 8) (Att.tr m c (t.val + 1)) := by
  intro n
  induction n with
  | zero =>
    intro t ht
    rw [Att.tr_succ]
    exact step_diag m c hs t (by omega) _
  | succ n ih =>
    intro t ht
    have hN := lt512 t
    rw [Att.tr_succ]
    by_cases h0 : t.val % 8 = 0
    · exact step_diag m c hs t h0 _
    · have I := ih ⟨n, by have := t.isLt; omega⟩ rfl
      have hb : bAt ⟨n, by have := t.isLt; omega⟩ = bAt t := Fin.ext (show n / 128 = t.val / 128 by omega)
      have hp : pAt ⟨n, by have := t.isLt; omega⟩ = pAt t := funext fun r => Fin.ext (show n / 8 % 16 * 256 + r.val = t.val / 8 % 16 * 256 + r.val by
        have : n / 8 = t.val / 8 := by omega
        rw [this])
      rw [hb, hp] at I
      have hq : n / 8 = t.val / 8 := by omega
      simp only [hq] at I
      rw [← ht] at I
      by_cases h1 : t.val % 8 ≤ t.val / 8 % 16 / 2
      · refine step_left m c hs t (by omega) h1 _ ?_
        rwa [show t.val / 8 % 16 / 2 - t.val % 8 + 1 = t.val / 8 % 16 / 2 - n % 8 by omega]
      · rw [step_past m c t (by omega)]
        rwa [show t.val / 8 % 16 / 2 - t.val % 8 = t.val / 8 % 16 / 2 - n % 8 by omega]

/-- The result for a query. -/
def res (b : Fin 4) (h : Fin 8) (p : Fin 4096) (e : Fin 256) : EReal :=
  num Finset.univ (scr m c b h p) (fun k => av m c (ix3 b k e)) * Ideal.div 1 (den Finset.univ (scr m c b h p))

/-- What the result's buffer holds from visit `last` on. -/
theorem og_at (hs : ∀ b h p k, sco m c b h p k ≠ ⊤) : ∀ (n : ℕ) (t : Fin cfg0.N), t.val = n → t.val / 8 % 16 / 2 ≤ t.val % 8 →
    ∀ (h : Fin 8) (r e : Fin 256), Att.og m c (t.val + 1) (ix3 h r e) = res m c (bAt t) h (pAt t r) e := by
  have hl : ∀ t : Fin cfg0.N, t.val % 8 = t.val / 8 % 16 / 2 →
      ∀ (h : Fin 8) (r e : Fin 256), Att.og m c (t.val + 1) (ix3 h r e) = res m c (bAt t) h (pAt t r) e := fun t hj h r e => by
    have I := tr_inv m c hs t.val t rfl
    rw [show t.val / 8 % 16 / 2 - t.val % 8 = 0 by omega] at I
    rw [Att.og_succ, Att.outB, if_pos ((Att.hcond0_3 t).mpr hj)]
    refine (outO_at _ _ h r e).trans ?_
    rw [I.ha, I.hl, from_zero, res]
  intro n
  induction n with
  | zero =>
    intro t ht hj
    exact hl t (by omega)
  | succ n ih =>
    intro t ht hj
    by_cases h1 : t.val % 8 = t.val / 8 % 16 / 2
    · exact hl t h1
    · intro h r e
      have hN := lt512 t
      have hq : n / 8 = t.val / 8 := by omega
      rw [Att.og_idle m c t (by rw [Att.hidle0_3]; exact decide_eq_true h1)]
      have I := ih ⟨n, by have := t.isLt; omega⟩ rfl (show n / 8 % 16 / 2 ≤ n % 8 by rw [hq]; omega) h r e
      have hb : bAt ⟨n, by have := t.isLt; omega⟩ = bAt t := Fin.ext (show n / 128 = t.val / 128 by omega)
      have hp : pAt ⟨n, by have := t.isLt; omega⟩ = pAt t := funext fun r => Fin.ext (show n / 8 % 16 * 256 + r.val = t.val / 8 % 16 * 256 + r.val by rw [hq])
      rw [hb, hp] at I
      rw [ht]
      exact I

/-- The kernel's result array. -/
def out : FVec Ideal S8x16384x256 .f32 := fun y => res m c ⟨(y 1).val / 4096, by have : (y 1).val < 16384 := (y 1).isLt; omega⟩ (y 0) ⟨(y 1).val % 4096, by omega⟩ (y 2)

theorem out_at (t : Fin cfg0.N) (z : S8x16384x256.Idx) (h : Fin 8) (r e : Fin 256) (e0 : (z 0).val = h.val) (e1 : (z 1).val = t.val / 8 * 256 + r.val)
    (e2 : (z 2).val = e.val) : res m c (bAt t) h (pAt t r) e = out m c z := by
  have hN := lt512 t
  have a0 : z 0 = h := Fin.ext e0
  have a2 : z 2 = e := Fin.ext e2
  have b1 : bAt t = ⟨(z 1).val / 4096, by rw [e1]; omega⟩ := Fin.ext (show t.val / 128 = _ / 4096 by rw [e1]; omega)
  have b2 : pAt t r = ⟨(z 1).val % 4096, by omega⟩ := Fin.ext (show t.val / 8 % 16 * 256 + r.val = _ % 4096 by rw [e1]; omega)
  rw [out, a0, a2, b1, b2]

theorem final (hs : ∀ b h p k, sco m c b h p k ≠ ⊤) : (Att.dats m 0 c).arrAt 3 (cfgs 0).N = out m c := by
  refine (Att.dats m 0 c).arrAt_eq_of_covers 3 (out m c) (by decide +kernel) fun t hf y => ?_
  have hj : t.val % 8 = 7 := (flush0_3 t).mp hf
  have hv := og_at m c hs t.val t rfl (by omega)
  have e0 : ((win0_3.blk t).view.emb y 0).val = (y 0).val := by blk_simp [idx t]
  have e1 : ((win0_3.blk t).view.emb y 1).val = t.val / 8 * 256 + (y 1).val := by blk_simp [idx t]
  have e2 : ((win0_3.blk t).view.emb y 2).val = (y 2).val := by blk_simp [idx t]
  have hy : (show S8x256x256.Idx from y) = ix3 (y 0) (y 1) (y 2) := eq_ix3 _
  blk_simp
  rw [Att.after0_3]
  generalize (win0_3.blk t).view.emb y = z at *
  exact (congrArg (Att.og m c (t.val + 1)) hy).trans ((hv (y 0) (y 1) (y 2)).trans (out_at m c t z (y 0) (y 1) (y 2) e0 e1 e2))

end Cert.KernelIdeal.Val

end
-- ==== Proof.Fin.lean ====
/- Finite arguments give finite scores. -/
module

public import proofs.«01_k».proof.Proof.Inv
public import proofs.«01_k».proof.Pre_finite
public import Idealize.ShloMosaic.Lib.Decide

@[expose] public section

set_option maxRecDepth 16384

noncomputable section

namespace Cert.Pre_finite

open Idealize.ShloMosaic

instance facts : Facts where
  concatenates_S4x4096x8x256_S4x4096x8x32_S4x4096x8x288_d3 := by decide
  concatenates_S4x4096x256_S4x4096x32_S4x4096x288_d2 := by decide
  bcast_S_S4x4096x8x288 := by decide
  bcast_S_S4x4096x288 := by decide
  bcast_S4x4096x288_S4x4096x1x288_0_1_3 := by decide
  bcast_S4x4096x1x288_S4x4096x8x288_0_1_2_3 := by decide

theorem ofBits_inf : Ideal.ofBits .f32 0x7F800000#32 = ⊤ := by
  simp [Ideal.ofBits, Ideal.ieee]

theorem real_of_abs {x : EReal} (h : max x (-x) < ⊤) : ∃ r : ℝ, x = r := by
  induction x with
  | bot => simp at h
  | top => simp at h
  | coe r => exact ⟨r, rfl⟩

variable (Q : FVec Ideal S4x4096x8x256 .f32) (R : FVec Ideal S4x4096x8x32 .f32) (V : FVec Ideal S4x4096x256 .f32) (K : FVec Ideal S4x4096x32 .f32)

theorem both {x y : EReal} (e : IntOp.andi (BitVec.ofBool (decide (max x (-x) < Ideal.ofBits .f32 0x7F800000#32)))
    (BitVec.ofBool (decide (max y (-y) < Ideal.ofBits .f32 0x7F800000#32))) = 1#1) : (∃ r : ℝ, x = r) ∧ ∃ r : ℝ, y = r := by
  rw [ofBits_inf] at e
  by_cases hx : max x (-x) < ⊤
  · by_cases hy : max y (-y) < ⊤
    · exact ⟨real_of_abs hx, real_of_abs hy⟩
    · rw [decide_eq_true hx, decide_eq_false hy] at e; exact absurd e (by decide)
  · by_cases hy : max y (-y) < ⊤
    · rw [decide_eq_false hx, decide_eq_true hy] at e; exact absurd e (by decide)
    · rw [decide_eq_false hx, decide_eq_false hy] at e; exact absurd e (by decide)

theorem at_lat (hf : fn (F := Ideal) Q R V K = fun _ => 1#1) (b : Fin 4) (p : Fin 4096) (h : Fin 8) (d : Fin 256) :
    (∃ r : ℝ, Q (ix4 b p h d) = r) ∧ ∃ r : ℝ, V (ix3 b p d) = r := by
  have e := congrFun hf (ix4 b p h ⟨d.val, by omega⟩)
  pointwise [fn] at e
  exact both e

theorem at_rope (hf : fn (F := Ideal) Q R V K = fun _ => 1#1) (b : Fin 4) (p : Fin 4096) (h : Fin 8) (d : Fin 32) :
    (∃ r : ℝ, R (ix4 b p h d) = r) ∧ ∃ r : ℝ, K (ix3 b p d) = r := by
  have e := congrFun hf (ix4 b p h ⟨256 + d.val, by omega⟩)
  pointwise [fn] at e
  exact both e

end Cert.Pre_finite

namespace Cert.KernelIdeal.Val

open Idealize.ShloMosaic Idealize.ShloMosaic.TcCoe Idealize.SL.Sem Cert.KernelIdeal.Gen Cert.Soft

theorem sc_real : ∃ r : ℝ, 0 ≤ r ∧ sc = r := by
  refine ⟨_, ?_, by
    rw [sc]
    simp only [Ideal.ofBits, Ideal.ieee]
    simp
    rfl⟩
  norm_num

/-- A real extended real. -/
def Re (x : EReal) : Prop := ∃ r : ℝ, x = r

theorem Re.add {x y : EReal} : Re x → Re y → Re (x + y) := by
  rintro ⟨a, rfl⟩ ⟨b, rfl⟩
  exact ⟨a + b, (EReal.coe_add a b).symm⟩

theorem Re.mul {x y : EReal} : Re x → Re y → Re (x * y) := by
  rintro ⟨a, rfl⟩ ⟨b, rfl⟩
  exact ⟨a * b, (EReal.coe_mul a b).symm⟩

theorem Re.sum {n : ℕ} {f : Fin n → EReal} (h : ∀ k, Re (f k)) : Re (∑ k, f k) := by
  choose g hg using h
  refine ⟨∑ k, g k, (Finset.sum_congr rfl fun k _ => hg k).trans ?_⟩
  exact (map_sum (⟨⟨Real.toEReal, EReal.coe_zero⟩, EReal.coe_add⟩ : ℝ →+ EReal) g Finset.univ).symm

variable (m : (ℓ : Loc nD τ sig) → Buf (Elt Ideal) ℓ) (c : Dev nD)

theorem sco_real (hf : Cert.Pre_finite.fn (F := Ideal) (aq m c) (ar m c) (av m c) (ak m c) = fun _ => 1#1) (b : Fin 4) (h : Fin 8) (p k : Fin 4096) :
    Re (sco m c b h p k) := by
  obtain ⟨s, _, hs⟩ := sc_real
  exact (Re.sum fun d => Re.mul (Cert.Pre_finite.at_lat _ _ _ _ hf b k h d).2 (Re.mul (Cert.Pre_finite.at_lat _ _ _ _ hf b p h d).1 ⟨s, hs⟩)).add
    (Re.sum fun d => Re.mul (Cert.Pre_finite.at_rope _ _ _ _ hf b k h d).2 (Re.mul (Cert.Pre_finite.at_rope _ _ _ _ hf b p h d).1 ⟨s, hs⟩))

/-- The scale taken out of the sums. -/
theorem sco_eq (b : Fin 4) (h : Fin 8) (p k : Fin 4096) : sco m c b h p k
    = ((∑ d : Fin 256, av m c (ix3 b k d) * aq m c (ix4 b p h d)) + ∑ d : Fin 32, ak m c (ix3 b k d) * ar m c (ix4 b p h d)) * sc := by
  obtain ⟨s, h0, hs⟩ := sc_real
  have p0 : 0 ≤ sc := hs ▸ EReal.coe_nonneg.2 h0
  have pt : sc ≠ ⊤ := hs ▸ EReal.coe_ne_top s
  rw [mul_comm _ sc, EReal.left_distrib_of_nonneg_of_ne_top p0 pt, mul_sum p0 pt, mul_sum p0 pt, sco]
  refine congrArg₂ (· + ·) (Finset.sum_congr rfl fun d _ => ?_) (Finset.sum_congr rfl fun d _ => ?_)
  · rw [← mul_assoc, mul_comm]
  · rw [← mul_assoc, mul_comm]

end Cert.KernelIdeal.Val

end
-- ==== Proof.Ref.lean ====
/- The reference's result read at an index. -/
module

public import proofs.«01_k».proof.Proof.Gen.ReferenceIdeal.Run
public import proofs.«01_k».proof.Proof.Soft
public import Idealize.ShloMosaic.Lib.Pointwise
public import Idealize.ShloMosaic.Lib.WordCmp
public import Idealize.ShloMosaic.PureOps.Ideal

@[expose] public section

set_option maxRecDepth 16384

noncomputable section

namespace Cert.ReferenceIdeal.Val

open Idealize.ShloMosaic Idealize.ShloMosaic.TcCoe Idealize.SL.Sem Cert.ReferenceIdeal Cert.ReferenceIdeal.Gen

variable (Q : FVec Ideal S4x4096x8x256 .f32) (R : FVec Ideal S4x4096x8x32 .f32) (V : FVec Ideal S4x4096x256 .f32) (K : FVec Ideal S4x4096x32 .f32)

/-- The masked scores, -/
def rS (Q : FVec Ideal S4x4096x8x256 .f32) (R : FVec Ideal S4x4096x8x32 .f32) (V : FVec Ideal S4x4096x256 .f32) (K : FVec Ideal S4x4096x32 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (addf (transpose S4x8x4096x4096 [0, 3, 2, 1] (Host.dotGeneral dot_S4x4096x256_S4x4096x8x256_S4x4096x4096x8_2_3_1_12_0_0 none V Q) transposes_S4x4096x4096x8_S4x8x4096x4096_0_3_2_1) (transpose S4x8x4096x4096 [0, 3, 2, 1] (Host.dotGeneral dot_S4x4096x32_S4x4096x8x32_S4x4096x4096x8_2_3_1_12_0_0 none K R) transposes_S4x4096x4096x8_S4x8x4096x4096_0_3_2_1)) (broadcastInDim S4x8x4096x4096 ![] bcast_S_S4x8x4096x4096 (constant S_ .f32 0x3DD105EC#32))) (broadcastInDim S4x8x4096x4096 ![] bcast_S_S4x8x4096x4096 (id (constant S_ .f32 0xFF800000#32)))

/-- the largest of each row, -/
def rM (Q : FVec Ideal S4x4096x8x256 .f32) (R : FVec Ideal S4x4096x8x32 .f32) (V : FVec Ideal S4x4096x256 .f32) (K : FVec Ideal S4x4096x32 .f32) : FVec Ideal S4x8x4096 .f32 :=
  Host.reduce FloatOps.maximumf (rS Q R V K) (constant S_ .f32 0xFF800000#32) reducesTo_S4x8x4096x4096_S4x8x4096_d3 h_S_

/-- the exponentials of the scores below it, -/
def rE (Q : FVec Ideal S4x4096x8x256 .f32) (R : FVec Ideal S4x4096x8x32 .f32) (V : FVec Ideal S4x4096x256 .f32) (K : FVec Ideal S4x4096x32 .f32) : FVec Ideal S4x8x4096x4096 .f32 :=
  Host.exp (subf (rS Q R V K) (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (rM Q R V K)))))

/-- and the averages. -/
def rO (Q : FVec Ideal S4x4096x8x256 .f32) (R : FVec Ideal S4x4096x8x32 .f32) (V : FVec Ideal S4x4096x256 .f32) (K : FVec Ideal S4x4096x32 .f32) : FVec Ideal S8x16384x256 .f32 :=
  shapeCast _ (transpose S8x4x4096x256 [2, 0, 1, 3] (transpose S4x4096x8x256 [0, 3, 2, 1] (Host.dotGeneral dot_S4x4096x256_S4x8x4096x4096_S4x256x8x4096_1_3_2_12_0_0 none V (Host.divf (rE Q R V K) (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (rE Q R V K) (constant S_ .f32 0x00000000#32) reducesTo_S4x8x4096x4096_S4x8x4096_d3 h_S_))))) transposes_S4x256x8x4096_S4x4096x8x256_0_3_2_1) transposes_S4x4096x8x256_S8x4x4096x256_2_0_1_3) shapeCasts_S8x4x4096x256_S8x16384x256

theorem res_eq (m : (ℓ : Loc nD τ sig) → Buf (Elt Ideal) ℓ) (c : Dev nD) :
    Value.res_main_v28 m c = rO (m ((c.tc : Thread nD τ).loc main_arg0)) (m ((c.tc : Thread nD τ).loc main_arg1)) (m ((c.tc : Thread nD τ).loc main_arg2)) (m ((c.tc : Thread nD τ).loc main_arg3)) := rfl

theorem ofBits_neg_inf : Ideal.ofBits .f32 0xFF800000#32 = ⊥ := by
  simp [Ideal.ofBits, Ideal.ieee]

theorem fold_max (f : Fin 4096 → EReal) : Finset.univ.fold max ⊥ f = Finset.univ.sup f := rfl

/-- A host maximum along the last axis. -/
theorem reduce_max {n0 n1 n2 n3 : ℕ} {u : Shape} (X : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2)
    (hi : init (Shape.Idx.first hu) = ⊥) :
    Host.reduce FloatOps.maximumf X init h hu (ix3 a b c) = Finset.univ.sup fun k : Fin n3 => X (ix4 a b c k) := by
  rw [Host.reduce_eq_fold, h.fold_fiber_r4_a3, hi]
  rfl

theorem rM_at (b : Fin 4) (h : Fin 8) (p : Fin 4096) : rM Q R V K (ix3 b h p) = Finset.univ.sup fun l : Fin 4096 => rS Q R V K (ix4 b h p l) := by
  rw [rM]
  exact reduce_max (rS Q R V K) _ _ _ b h p ofBits_neg_inf

theorem rS_at (b : Fin 4) (h : Fin 8) (p k : Fin 4096) : rS Q R V K (ix4 b h p k)
    = if k.val ≤ p.val then ((∑ d : Fin 256, V (ix3 b k d) * Q (ix4 b p h d)) + ∑ d : Fin 32, K (ix3 b k d) * R (ix4 b p h d)) * Ideal.ofBits .f32 0x3DD105EC#32 else ⊥ := by
  pointwise [rS]
  rw [WordCmp.cmpi_sle_ofNat (by omega) (by omega)]
  have hb : (id (constant S_ .f32 0xFF800000#32) : FVec Ideal S_ .f32) ix0 = ⊥ := ofBits_neg_inf
  rw [hb]
  by_cases hle : k.val ≤ p.val
  · rw [if_pos hle, decide_eq_true hle]; rfl
  · rw [if_neg hle, decide_eq_false hle]; rfl

theorem exp_at (X : FVec Ideal S4x8x4096x4096 .f32) (M : FVec Ideal S4x8x4096 .f32) (b : Fin 4) (h : Fin 8) (p k : Fin 4096) :
    (Host.exp (subf X (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M)))) : FVec Ideal S4x8x4096x4096 .f32) (ix4 b h p k) = Ideal.exp (X (ix4 b h p k) - M (ix3 b h p)) := by
  pointwise
  rw [ofBits_neg_inf, max_eq_right bot_le]

theorem rE_at (b : Fin 4) (h : Fin 8) (p k : Fin 4096) : rE Q R V K (ix4 b h p k)
    = Ideal.exp (rS Q R V K (ix4 b h p k) - Finset.univ.sup fun l : Fin 4096 => rS Q R V K (ix4 b h p l)) :=
  (exp_at (rS Q R V K) (rM Q R V K) b h p k).trans (by rw [rM_at])

theorem rO_at (h : Fin 8) (n : Fin 16384) (e : Fin 256) : rO Q R V K (ix3 h n e)
    = ∑ k : Fin 4096, V (ix3 ⟨n.val / 4096, by omega⟩ k e) * Ideal.div (rE Q R V K (ix4 ⟨n.val / 4096, by omega⟩ h ⟨n.val % 4096, by omega⟩ k))
        (∑ l : Fin 4096, rE Q R V K (ix4 ⟨n.val / 4096, by omega⟩ h ⟨n.val % 4096, by omega⟩ l)) := by
  pointwise [rO]

end Cert.ReferenceIdeal.Val

end
-- ==== Proof.Value.lean ====
/- The kernel's averages are the reference's: the scores are the same, and dividing by the row's sum commutes with the average. -/
module

public import proofs.«01_k».proof.Proof.Inv
public import proofs.«01_k».proof.Proof.Fin
public import proofs.«01_k».proof.Proof.Ref

@[expose] public section

noncomputable section

namespace Cert.KernelIdeal.Val

open Idealize.ShloMosaic Idealize.ShloMosaic.TcCoe Idealize.SL.Sem Cert.KernelIdeal Cert.KernelIdeal.Gen Cert.Soft

variable (m : (ℓ : Loc nD τ sig) → Buf (Elt Ideal) ℓ) (c : Dev nD)

theorem scr_eq (b : Fin 4) (h : Fin 8) (p k : Fin 4096) :
    Cert.ReferenceIdeal.Val.rS (aq m c) (ar m c) (av m c) (ak m c) (ix4 b h p k) = scr m c b h p k := by
  rw [Cert.ReferenceIdeal.Val.rS_at, scr, sco_eq]
  rfl

theorem rE_eq (b : Fin 4) (h : Fin 8) (p k : Fin 4096) : Cert.ReferenceIdeal.Val.rE (aq m c) (ar m c) (av m c) (ak m c) (ix4 b h p k)
    = Ideal.exp (scr m c b h p k - Finset.univ.sup (scr m c b h p)) := by
  rw [Cert.ReferenceIdeal.Val.rE_at, scr_eq]
  exact congrArg (fun f => Ideal.exp (scr m c b h p k - Finset.univ.sup f)) (funext fun l => scr_eq m c b h p l)

theorem den_ref (b : Fin 4) (h : Fin 8) (p : Fin 4096) : (∑ l : Fin 4096, Cert.ReferenceIdeal.Val.rE (aq m c) (ar m c) (av m c) (ak m c) (ix4 b h p l))
    = den Finset.univ (scr m c b h p) :=
  Finset.sum_congr rfl fun l _ => rE_eq m c b h p l

theorem avg_eq (hr : ∀ b h p k, Re (sco m c b h p k)) (b : Fin 4) (h : Fin 8) (p : Fin 4096) (e : Fin 256) :
    res m c b h p e = ∑ k : Fin 4096, av m c (ix3 b k e) * Ideal.div (Cert.ReferenceIdeal.Val.rE (aq m c) (ar m c) (av m c) (ak m c) (ix4 b h p k))
      (∑ l : Fin 4096, Cert.ReferenceIdeal.Val.rE (aq m c) (ar m c) (av m c) (ak m c) (ix4 b h p l)) := by
  have ht : ∀ b h p k, sco m c b h p k ≠ ⊤ := fun b h p k => by
    obtain ⟨x, hx⟩ := hr b h p k
    rw [hx]; exact EReal.coe_ne_top x
  have hb : scr m c b h p p ≠ ⊥ := by
    obtain ⟨x, hx⟩ := hr b h p p
    rw [scr, if_pos le_rfl, hx]; exact EReal.coe_ne_bot x
  rw [den_ref, res, num_div (den_ne_zero (scr_ne_top ht b h p) (Finset.mem_univ p) hb)]
  exact Finset.sum_congr rfl fun k _ => by rw [rE_eq]

theorem out_eq (hr : ∀ b h p k, Re (sco m c b h p k)) : Cert.ReferenceIdeal.Val.rO (aq m c) (ar m c) (av m c) (ak m c) = out m c := by
  funext y
  have hy : y = ix3 (y 0) (y 1) (y 2) := by funext i; fin_cases i <;> rfl
  rw [hy]
  exact (Cert.ReferenceIdeal.Val.rO_at (aq m c) (ar m c) (av m c) (ak m c) (y 0) (y 1) (y 2)).trans (avg_eq m c hr _ _ _ _).symm

end Cert.KernelIdeal.Val

end
-- ==== Proof.Rms.lean ====
/- Root mean square normalisation of a row, and the rows of a flattened array. -/
module

public import Idealize.ShloMosaic.Lib.Pipeline.ValueKit

@[expose] public section

noncomputable section

namespace Cert.Rms

open Idealize.ShloMosaic

/-- Element `e` of the row `x` over the root of its mean square (`n` its length) and `ε`, times the gain `g`. -/
def rms {d : ℕ} (x : Fin d → EReal) (n g : EReal) (e : Fin d) : EReal :=
  x e * Ideal.rsqrt (Ideal.div (∑ k, x k * x k) n + Ideal.ofBits .f32 0x358637BD#32) * g

/-- Row `n` of four sequences laid one after another. -/
def row {d : ℕ} (n : ℕ) (h : n < 16384) (e : Fin d) : (⟨3, ![4, 4096, d]⟩ : Shape).Idx := ix3 (⟨n / 4096, by omega⟩ : Fin 4) (⟨n % 4096, by omega⟩ : Fin 4096) e

theorem row_congr {d n n' : ℕ} (e : n = n') (h : n < 16384) (h' : n' < 16384) (k : Fin d) : row n h k = row n' h' k := by subst e; rfl

end Cert.Rms

end
-- ==== Proof.Norm.lean ====
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

public import Idealize.ShloMosaic.Lib.Pipeline.ValueKit
public import Idealize.ShloMosaic.Lib.Claim
public import proofs.«01_k».proof.Proof.Rms

@[expose] public section

set_option maxRecDepth 16384

noncomputable section

namespace Cert.Kernel5Ideal.Val

open Idealize.ShloMosaic Idealize.ShloMosaic.TcCoe Idealize.SL.Sem Cert.Kernel5Ideal Cert.Kernel5Ideal.Gen Cert.Rms

variable (m : (ℓ : Loc nD τ sig) → Buf (Elt Ideal) ℓ) (c : Dev nD)

def ax : FVec Ideal S4x4096x1024 .f32 := m ((c : Thread nD τ).loc main_arg0)
def ag : FVec Ideal S1024 .f32 := m ((c : Thread nD τ).loc main_arg1)

theorem lt_N (t : Fin cfg0.N) : t.val < 32 := lt_of_lt_of_eq t.isLt (show cfg0.N = 32 from N_0)

theorem idx : ∀ t : Fin cfg0.N, win0_0.index t = ![t.val, 0] ∧ win0_1.index t = ![0, 0] ∧ win0_2.index t = ![t.val, 0] :=
  (by decide +kernel : ∀ t : Fin grid0.N, _)

theorem ib0 (t : Fin cfg0.N) (r : Fin 512) (e : Fin 1024) :
    (show FVec Ideal S512x1024 .f32 from iblk m c 0 t) (ix2 r e) = ax m c (row (t.val * 512 + r.val) (by have := lt_N t; omega) e) := by
  have hN := lt_N t
  blk_simp [iblk]
  entry_read
  pointwise
  rw [ax]
  blk_ext [row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [idx t]

theorem pay_at (x0 : FVec Ideal S512x1024 .f32) (x1 : FVec Ideal S1x1024 .f32) (r : Fin 512) (e : Fin 1024) :
    k0_pay1 (F := Ideal) x0 x1 (ix2 r e) = rms (fun k => x0 (ix2 r k)) (Ideal.ofBits .f32 0x44800000#32) (x1 (ix2 0 e)) e := by
  pointwise [k0_pay1]
  rfl

/-- The result array. -/
def out : FVec Ideal S16384x1024 .f32 := fun y => rms (fun k => ax m c (row (y 0).val (y 0).isLt k)) (Ideal.ofBits .f32 0x44800000#32) (ag m c (ix1 (y 1))) (y 1)

theorem out_at (t : Fin cfg0.N) (z : S16384x1024.Idx) (r : Fin 512) (e : Fin 1024) (e0 : (z 0).val = t.val * 512 + r.val) (e1 : (z 1).val = e.val) :
    rms (fun k => (show FVec Ideal S512x1024 .f32 from iblk m c 0 t) (ix2 r k)) (Ideal.ofBits .f32 0x44800000#32)
      ((show FVec Ideal S1x1024 .f32 from iblk m c 1 t) (ix2 0 e)) e = out m c z := by
  have a1 : z 1 = e := Fin.ext e1
  simp only [out, ib0, ib1, a1, row_congr e0 (z 0).isLt (e0 ▸ (z 0).isLt)]

theorem final : (dats m 0 c).arrAt 2 (cfgs 0).N = out m c := by
  refine (dats m 0 c).arrAt_eq_of_covers 2 (out m c) (by decide +kernel) fun t hf y => ?_
  have e0 : ((win0_2.blk t).view.emb y 0).val = t.val * 512 + (y 0).val := by blk_simp [idx t]
  have e1 : ((win0_2.blk t).view.emb y 1).val = (y 1).val := by blk_simp [idx t]
  have hy : (show S512x1024.Idx from y) = ix2 (y 0) (y 1) := eq_ix2 _
  blk_simp
  rw [after0_2]
  generalize (win0_2.blk t).view.emb y = z at *
  frame_out
  exact (congrArg (k0_pay1 (F := Ideal) (iblk m c 0 t) (iblk m c 1 t)) hy).trans ((pay_at _ _ _ _).trans (out_at m c t z (y 0) (y 1) e0 e1))

end Cert.Kernel5Ideal.Val

namespace Cert.Reference5Ideal.Val

open Idealize.ShloMosaic Idealize.ShloMosaic.TcCoe Idealize.SL.Sem Cert.Reference5Ideal Cert.Reference5Ideal.Gen Cert.Rms

theorem ref_at (X : FVec Ideal S4x4096x1024 .f32) (G : FVec Ideal S1024 .f32) (n : Fin 16384) (e : Fin 1024) :
    (shapeCast _ (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) shapeCasts_S4x4096x1024_S16384x1024 : FVec Ideal S16384x1024 .f32) (ix2 n e)
      = rms (fun k => X (row n.val n.isLt k)) (Ideal.ofBits .f32 0x44800000#32) (G (ix1 e)) e := by
  pointwise
  rfl

theorem alg : Cert.algebraic_Kernel5Ideal_Reference5Ideal := by
  intro m g m' g' _ hagree
  refine ⟨fun c => Cert.Kernel5Ideal.Val.out m c, ?_, ?_⟩
  · exact (θ_run _ _ _).mono (fun r h c => ⟨((h c).1).trans (Cert.Kernel5Ideal.Val.final m c), (h c).2⟩)
      (Cert.Kernel5Ideal.Value.run_blocks m g)
  · run_from (Cert.Reference5Ideal.Value.run m' g')
    funext y
    rw [eq_ix2 y]
    exact ref_at _ _ _ _

end Cert.Reference5Ideal.Val

end
-- ==== Proof.Sb.lean ====
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read

@[expose] public section

end
-- ==== Proof.SbBlocks.lean ====
/- The four guarded branches of the stick-breaking kernel, each as a program of its own. -/
module

public import proofs.«01_k».proof.Proof.Gen.Kernel7Ideal.Skeleton
public import proofs.«01_k».proof.Proof.Gen.Kernel7Ideal.Launch

@[expose] public section

set_option synthInstance.maxSize 4096
set_option maxRecDepth 65536

noncomputable section

namespace Cert.Kernel7Ideal.Att

open Idealize.ShloMosaic Idealize.SL.Sem Cert.Kernel7Ideal.Gen

/-- The condition of the first branch: the query block's first visit. -/
abbrev cond0_0 (i : grid0.Coords) : Prop := Scalar.cmpi .ne (Scalar.extui (Scalar.cmpi .eq (BitVec.ofNat 32 (i 2).val) 0#32)) 0#32 = 1#1

/-- The condition of the second branch: the same. -/
abbrev cond0_1 (i : grid0.Coords) : Prop := cond0_0 i

/-- The condition of the third branch: a visit after the first, up to the query block's own number. -/
abbrev cond0_2 (i : grid0.Coords) : Prop :=
  Scalar.cmpi .ne (Scalar.extui (Scalar.andi (Scalar.cmpi .sgt (BitVec.ofNat 32 (i 2).val) 0#32)
    (Scalar.cmpi .sle (BitVec.ofNat 32 (i 2).val) (BitVec.ofNat 32 (i 1).val)))) 0#32 = 1#1

/-- The condition of the fourth branch: the last of those visits. -/
abbrev cond0_3 (i : grid0.Coords) : Prop := k0_cond4 i = 1#1

variable {F : FTy → Type} [FloatOps F]

/-- The first branch of the kernel: store the rounded query block of every head and reset the running sum and accumulator. -/
def initP (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    Prog (TpuEff nD τ sig (Elt F) Λ₀ .tc) PUnit := do
  let v42 : FVec F S256x64 .bf16 ← k0_part1 i arg3 harg3 arg4 harg4 arg5 harg5 arg6 harg6 arg7 harg7 arg8 harg8 arg9 harg9 arg10 harg10
  let v73 : FVec F S256x64 .f32 ← k0_part2 i arg3 harg3 arg4 harg4 arg5 harg5 arg6 harg6 arg7 harg7 arg8 harg8 arg9 harg9 arg10 harg10 v42
  let v75 : Vec F S1x256x64 .bf16 ← Prog.lift (.load arg8 (Rect.unit (s := S2x1024x64) ![1, 768, 0] S1x256x64.size inb_S2x1024x64_S1x256x64_1_768_0).toLoadRect (View.loadsAt_vmem h_S1x256x64))
  Prog.lift (.store arg8 (Rect.unit (s := S2x1024x64) ![1, 768, 0] S1x256x64.size inb_S2x1024x64_S1x256x64_1_768_0) (k0_pay1 v73) Finset.univ (View.stores_vmem h_S1x256x64 (harg8.storeExact_slice rfl _ packedbf16_S2x1024x64_S1x256x64_1_768_0) (fun _ => rfl)) (.inl rfl))
  let v79 : Vec F S2x1024x1 .f32 ← Prog.lift (.load arg9 (Rect.unit (s := S2x1024x1) ![0, 0, 0] S2x1024x1.size inb_S2x1024x1_S2x1024x1_0_0_0).toLoadRect (View.loadsAt_vmem h_S2x1024x1))
  Prog.lift (.store arg9 (Rect.unit (s := S2x1024x1) ![0, 0, 0] S2x1024x1.size inb_S2x1024x1_S2x1024x1_0_0_0) (k0_pay2 (F := F)) Finset.univ (View.stores_vmem_bits_univ h_S2x1024x1 rfl) (.inl rfl))
  let v83 : Vec F S2x1024x64 .f32 ← Prog.lift (.load arg10 (Rect.unit (s := S2x1024x64) ![0, 0, 0] S2x1024x64.size inb_S2x1024x64_S2x1024x64_0_0_0).toLoadRect (View.loadsAt_vmem h_S2x1024x64))
  Prog.lift (.store arg10 (Rect.unit (s := S2x1024x64) ![0, 0, 0] S2x1024x64.size inb_S2x1024x64_S2x1024x64_0_0_0) (k0_pay3 (F := F)) Finset.univ (View.stores_vmem_bits_univ h_S2x1024x64 rfl) (.inl rfl))
  pure ⟨⟩

/-- The second branch: one pass over the block of keys on the diagonal, with the causal mask. -/
def diagP (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    Prog (TpuEff nD τ sig (Elt F) Λ₀ .tc) PUnit := do
  let ⟨v15, v17, v19, v21, v25, v46, v48⟩ : Σ' (v15 : FVec F S256x128 .f32) (v17 : FVec F S1024x64 .bf16) (v19 : FVec F S1024x1 .f32) (v21 : FVec F S1024x64 .f32) (v25 : FVec F S128x64 .f32) (v46 : IVec S1024x128 1), FVec F S1024x128 .f32 ← k0_part3 i arg3 harg3 arg4 harg4 arg5 harg5 arg6 harg6 arg7 harg7 arg8 harg8 arg9 harg9 arg10 harg10
  let ⟨v78, v82, v84, v86, v89, v91⟩ : Σ' (v78 : FVec F S1024x64 .f32) (v82 : FVec F S1024x1 .f32) (v84 : FVec F S128x64 .f32) (v86 : FVec F S128x64 .f32) (v89 : BitVec 32), IVec S1024x128 32 ← k0_part4 i arg3 harg3 arg4 harg4 arg5 harg5 arg6 harg6 arg7 harg7 arg8 harg8 arg9 harg9 arg10 harg10 v15 v19 v21 v25 v46 v48
  let ⟨v123, v128, v138⟩ : Σ' (v123 : FVec F S1024x128 .f32) (v128 : FVec F S1024x128 .f32), FVec F S1024x64 .f32 ← k0_part5 i arg3 harg3 arg4 harg4 arg5 harg5 arg6 harg6 arg7 harg7 arg8 harg8 arg9 harg9 arg10 harg10 v15 v17 v82 v84 v86 v89 v91
  let ⟨v151, v153, v155, v157, v159, v162, v164, v166, v168, v169⟩ : Σ' (v151 : FVec F S1024x64 .bf16) (v153 : FVec F S1024x1 .f32) (v155 : FVec F S1024x64 .f32) (v157 : FVec F S128x64 .f32) (v159 : FVec F S128x64 .f32) (v162 : BitVec 32) (v164 : IVec S1024x128 32) (v166 : IVec S1024x128 1) (v168 : IVec S1024x128 1), BitVec 1 ← k0_part6 i arg3 harg3 arg4 harg4 arg5 harg5 arg6 harg6 arg7 harg7 arg8 harg8 arg9 harg9 arg10 harg10 v78 v82 v123 v128 v138
  let ⟨v212, v216⟩ : Σ' (v212 : FVec F S1024x64 .f32), FVec F S1024x1 .f32 ← k0_part7 i arg3 harg3 arg4 harg4 arg5 harg5 arg6 harg6 arg7 harg7 arg8 harg8 arg9 harg9 arg10 harg10 v15 v151 v153 v155 v157 v159 v162 v164 v166 v168 v169
  let ⟨v220, v241, v243, v257, v260⟩ : Σ' (v220 : FVec F S128x64 .f32) (v241 : IVec S1024x128 1) (v243 : FVec F S1024x128 .f32) (v257 : FVec F S1024x128 .f32), FVec F S1024x128 .f32 ← k0_part8 i arg3 harg3 arg4 harg4 arg5 harg5 arg6 harg6 arg7 harg7 arg8 harg8 arg9 harg9 arg10 harg10 v151
  let v278 : Vec F S1x1024x1 .f32 ← Prog.lift (.load arg9 (Rect.unit (s := S2x1024x1) ![1, 0, 0] S1x1024x1.size inb_S2x1024x1_S1x1024x1_1_0_0).toLoadRect (View.loadsAt_vmem h_S1x1024x1))
  Prog.lift (.store arg9 (Rect.unit (s := S2x1024x1) ![1, 0, 0] S1x1024x1.size inb_S2x1024x1_S1x1024x1_1_0_0) (k0_pay5 v15 v216 v257 v260) Finset.univ (View.stores_vmem_bits_univ h_S1x1024x1 rfl) (.inl rfl))
  let v281 : Vec F S1x1024x64 .f32 ← Prog.lift (.load arg10 (Rect.unit (s := S2x1024x64) ![1, 0, 0] S1x1024x64.size inb_S2x1024x64_S1x1024x64_1_0_0).toLoadRect (View.loadsAt_vmem h_S1x1024x64))
  Prog.lift (.store arg10 (Rect.unit (s := S2x1024x64) ![1, 0, 0] S1x1024x64.size inb_S2x1024x64_S1x1024x64_1_0_0) (k0_pay6 v15 v212 v216 v220 v241 v243 v257 v260) Finset.univ (View.stores_vmem_bits_univ h_S1x1024x64 rfl) (.inl rfl))
  pure ⟨⟩

/-- The third branch: one pass over a block of keys left of the diagonal, without a mask. -/
def fullP (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    Prog (TpuEff nD τ sig (Elt F) Λ₀ .tc) PUnit := do
  let ⟨v15, v17, v19, v21, v25, v39, v44, v50⟩ : Σ' (v15 : FVec F S256x128 .f32) (v17 : FVec F S1024x64 .bf16) (v19 : FVec F S1024x1 .f32) (v21 : FVec F S1024x64 .f32) (v25 : FVec F S128x64 .f32) (v39 : FVec F S1024x128 .f32) (v44 : FVec F S1024x128 .f32), FVec F S1024x128 .bf16 ← k0_part9 i arg3 harg3 arg4 harg4 arg5 harg5 arg6 harg6 arg7 harg7 arg8 harg8 arg9 harg9 arg10 harg10
  let ⟨v89, v93⟩ : Σ' (v89 : FVec F S1024x64 .f32), FVec F S1024x1 .f32 ← k0_part10 i arg3 harg3 arg4 harg4 arg5 harg5 arg6 harg6 arg7 harg7 arg8 harg8 arg9 harg9 arg10 harg10 v15 v17 v19 v21 v25 v39 v44 v50
  let ⟨v101, v103, v105, v109, v111, v123, v127, cst_64⟩ : Σ' (v101 : FVec F S1024x64 .bf16) (v103 : FVec F S1024x1 .f32) (v105 : FVec F S1024x64 .f32) (v109 : FVec F S128x64 .f32) (v111 : FVec F S1024x128 .f32) (v123 : FVec F S1024x128 .f32) (v127 : FVec F S1024x256 .f32), FVec F S1024x128 .f32 ← k0_part11 i arg3 harg3 arg4 harg4 arg5 harg5 arg6 harg6 arg7 harg7 arg8 harg8 arg9 harg9 arg10 harg10 v89 v93
  let ⟨v141, v159, v164, v173⟩ : Σ' (v141 : FVec F S1024x1 .f32) (v159 : FVec F S1024x128 .f32) (v164 : FVec F S1024x128 .f32), FVec F S1024x64 .f32 ← k0_part12 i arg3 harg3 arg4 harg4 arg5 harg5 arg6 harg6 arg7 harg7 arg8 harg8 arg9 harg9 arg10 harg10 v15 v101 v103 v105 v109 v111 v123 v127 cst_64
  let v178 : Vec F S1x1024x1 .f32 ← Prog.lift (.load arg9 (Rect.unit (s := S2x1024x1) ![1, 0, 0] S1x1024x1.size inb_S2x1024x1_S1x1024x1_1_0_0).toLoadRect (View.loadsAt_vmem h_S1x1024x1))
  Prog.lift (.store arg9 (Rect.unit (s := S2x1024x1) ![1, 0, 0] S1x1024x1.size inb_S2x1024x1_S1x1024x1_1_0_0) (k0_pay7 v141 v159 v164) Finset.univ (View.stores_vmem_bits_univ h_S1x1024x1 rfl) (.inl rfl))
  let v181 : Vec F S1x1024x64 .f32 ← Prog.lift (.load arg10 (Rect.unit (s := S2x1024x64) ![1, 0, 0] S1x1024x64.size inb_S2x1024x64_S1x1024x64_1_0_0).toLoadRect (View.loadsAt_vmem h_S1x1024x64))
  Prog.lift (.store arg10 (Rect.unit (s := S2x1024x64) ![1, 0, 0] S1x1024x64.size inb_S2x1024x64_S1x1024x64_1_0_0) (k0_pay8 v173) Finset.univ (View.stores_vmem_bits_univ h_S1x1024x64 rfl) (.inl rfl))
  pure ⟨⟩

/-- The fourth branch: store the accumulator of every head. -/
def finP (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    Prog (TpuEff nD τ sig (Elt F) Λ₀ .tc) PUnit := do
  k0_part13 i arg3 harg3 arg4 harg4 arg5 harg5 arg6 harg6 arg7 harg7 arg8 harg8 arg9 harg9 arg10 harg10
  let v39 : Vec F S1x256x64 .f32 ← Prog.lift (.load arg10 (Rect.unit (s := S2x1024x64) ![1, 256, 0] S1x256x64.size inb_S2x1024x64_S1x256x64_1_256_0).toLoadRect (View.loadsAt_vmem h_S1x256x64))
  let v41 : Vec F S1x256x64 .f32 ← Prog.lift (.load arg7 (Rect.unit (s := S1x256x512) ![0, 0, 320] S1x256x64.size inb_S1x256x512_S1x256x64_0_0_320).toLoadRect (View.loadsAt_vmem h_S1x256x64))
  Prog.lift (.store arg7 (Rect.unit (s := S1x256x512) ![0, 0, 320] S1x256x64.size inb_S1x256x512_S1x256x64_0_0_320) (k0_pay9 v39) Finset.univ (View.stores_vmem_bits_univ h_S1x256x64 rfl) (.inl rfl))
  let v44 : Vec F S1x256x64 .f32 ← Prog.lift (.load arg10 (Rect.unit (s := S2x1024x64) ![1, 512, 0] S1x256x64.size inb_S2x1024x64_S1x256x64_1_512_0).toLoadRect (View.loadsAt_vmem h_S1x256x64))
  let v46 : Vec F S1x256x64 .f32 ← Prog.lift (.load arg7 (Rect.unit (s := S1x256x512) ![0, 0, 384] S1x256x64.size inb_S1x256x512_S1x256x64_0_0_384).toLoadRect (View.loadsAt_vmem h_S1x256x64))
  Prog.lift (.store arg7 (Rect.unit (s := S1x256x512) ![0, 0, 384] S1x256x64.size inb_S1x256x512_S1x256x64_0_0_384) (k0_pay10 v44) Finset.univ (View.stores_vmem_bits_univ h_S1x256x64 rfl) (.inl rfl))
  let v49 : Vec F S1x256x64 .f32 ← Prog.lift (.load arg10 (Rect.unit (s := S2x1024x64) ![1, 768, 0] S1x256x64.size inb_S2x1024x64_S1x256x64_1_768_0).toLoadRect (View.loadsAt_vmem h_S1x256x64))
  let v51 : Vec F S1x256x64 .f32 ← Prog.lift (.load arg7 (Rect.unit (s := S1x256x512) ![0, 0, 448] S1x256x64.size inb_S1x256x512_S1x256x64_0_0_448).toLoadRect (View.loadsAt_vmem h_S1x256x64))
  Prog.lift (.store arg7 (Rect.unit (s := S1x256x512) ![0, 0, 448] S1x256x64.size inb_S1x256x512_S1x256x64_0_0_448) (k0_pay11 v49) Finset.univ (View.stores_vmem_bits_univ h_S1x256x64 rfl) (.inl rfl))
  pure ⟨⟩

/-- The kernel is its four branches, each behind its condition. -/
theorem kernel_eq (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    cc0__sb_prompt_kernel (F := F) i arg3 harg3 arg4 harg4 arg5 harg5 arg6 harg6 arg7 harg7 arg8 harg8 arg9 harg9 arg10 harg10 = (do
      if _h : cond0_0 i then initP i arg3 harg3 arg4 harg4 arg5 harg5 arg6 harg6 arg7 harg7 arg8 harg8 arg9 harg9 arg10 harg10 else pure ⟨⟩
      if _h : cond0_1 i then diagP i arg3 harg3 arg4 harg4 arg5 harg5 arg6 harg6 arg7 harg7 arg8 harg8 arg9 harg9 arg10 harg10 else pure ⟨⟩
      if _h : cond0_2 i then fullP i arg3 harg3 arg4 harg4 arg5 harg5 arg6 harg6 arg7 harg7 arg8 harg8 arg9 harg9 arg10 harg10 else pure ⟨⟩
      if _h : cond0_3 i then finP i arg3 harg3 arg4 harg4 arg5 harg5 arg6 harg6 arg7 harg7 arg8 harg8 arg9 harg9 arg10 harg10 else pure ⟨⟩
      pure ⟨⟩) := rfl

end Cert.Kernel7Ideal.Att
-- ==== Proof.SbStep.lean ====
/- One pass of the stick-breaking attention over a block of keys, head by head: what the kernel leaves in its scratch
   buffers, and what the loads and stores of the parts of its buffers read. -/
module

public import proofs.«01_k».proof.Proof.SbBlocks
public import proofs.«01_k».proof.Proof.Step

@[expose] public section

noncomputable section

namespace Cert.Kernel7Ideal.Att

open Idealize.ShloMosaic Idealize.SL.Sem Cert.Kernel7Ideal.Gen
open Cert.KernelIdeal.Att (ix3 ix3_eta ix3_eta1 readAt_all2 read_whole3)

/-! ## Parts of the buffers -/

/-- Half `h` of an array of two. -/
def hd {α : Type} {a b : ℕ} (x : (⟨3, ![2, a, b]⟩ : Shape).Idx → α) (h : Fin 2) : (⟨3, ![1, a, b]⟩ : Shape).Idx → α :=
  fun j => x (ix3 (a := 2) (b := a) (c := b) h (j 1) (j 2))

/-- The array whose half `h` is the block `G h`. -/
def hput {α : Type} {a b : ℕ} (G : Fin 2 → (⟨3, ![1, a, b]⟩ : Shape).Idx → α) : (⟨3, ![2, a, b]⟩ : Shape).Idx → α :=
  fun y => G (y 0) (ix3 (a := 1) (b := a) (c := b) 0 (y 1) (y 2))

/-- The columns of query head `h` in a query block. -/
def hdq {α : Type} (x : (⟨3, ![1, 256, 512]⟩ : Shape).Idx → α) (h : Fin 8) : (⟨3, ![1, 256, 64]⟩ : Shape).Idx → α :=
  fun j => x (ix3 (a := 1) (b := 256) (c := 512) 0 (j 1) ⟨h.val * 64 + (j 2).val, by have h2 : (j 2).val < 64 := (j 2).isLt; omega⟩)

/-- The rows of query head `h` in an array of two heads of keys by four groups of queries. -/
def hda {α : Type} (x : (⟨3, ![2, 1024, 64]⟩ : Shape).Idx → α) (h : Fin 8) : (⟨3, ![1, 256, 64]⟩ : Shape).Idx → α :=
  fun j => x (ix3 (a := 2) (b := 1024) (c := 64) ⟨h.val / 4, by omega⟩ ⟨h.val % 4 * 256 + (j 1).val, by have h1 : (j 1).val < 256 := (j 1).isLt; omega⟩ (j 2))

/-- Half `s` of the rows, and the columns of key head `h`, of a block of keys. -/
def kd {α : Type} (x : (⟨3, ![1, 256, 128]⟩ : Shape).Idx → α) (h s : Fin 2) : (⟨3, ![1, 128, 64]⟩ : Shape).Idx → α :=
  fun j => x (ix3 (a := 1) (b := 256) (c := 128) 0 ⟨s.val * 128 + (j 1).val, by have h1 : (j 1).val < 128 := (j 1).isLt; omega⟩
    ⟨h.val * 64 + (j 2).val, by have h2 : (j 2).val < 64 := (j 2).isLt; omega⟩)

/-- The query heads put under each other. -/
def putq {α : Type} (G : Fin 8 → (⟨3, ![1, 256, 64]⟩ : Shape).Idx → α) : (⟨3, ![2, 1024, 64]⟩ : Shape).Idx → α :=
  fun y => G ⟨(y 0).val * 4 + (y 1).val / 256, by have h0 : (y 0).val < 2 := (y 0).isLt; have h1 : (y 1).val < 1024 := (y 1).isLt; omega⟩
    (ix3 (a := 1) (b := 256) (c := 64) 0 ⟨(y 1).val % 256, by omega⟩ (y 2))

/-- The query heads put beside each other. -/
def puto {α : Type} (G : Fin 8 → (⟨3, ![1, 256, 64]⟩ : Shape).Idx → α) : (⟨3, ![1, 256, 512]⟩ : Shape).Idx → α :=
  fun y => G ⟨(y 2).val / 64, by have h2 : (y 2).val < 512 := (y 2).isLt; omega⟩
    (ix3 (a := 1) (b := 256) (c := 64) 0 (y 1) ⟨(y 2).val % 64, by omega⟩)

section Reads

variable {Val : EltTy → Type}

theorem readAt_hd {sig : RefSig} {κ : Kind} {sp : Space} {e : EltTy} {a b : ℕ} (m : Memref sig κ sp ⟨3, ![2, a, b]⟩ e) (hm : m.IsWhole)
    (x : (⟨3, ![2, a, b]⟩ : Shape).Idx → Val e) (n : ℕ) (hn : n < 2) (inb) :
    View.readAt Val m.view (Rect.unit (s := ⟨3, ![2, a, b]⟩) ![n, 0, 0] ![1, a, b] inb).toLoadRect (hm.unread x) = hd x ⟨n, hn⟩ := by
  funext j
  refine (congrFun (hm.read_unread x) _).trans (congrArg x (funext fun k => Fin.ext ?_))
  fin_cases k
  · show n + 1 * (j 0).val = n
    have h0 : (j 0).val < 1 := (j 0).isLt
    omega
  · show 0 + 1 * (j 1).val = (j 1).val
    omega
  · show 0 + 1 * (j 2).val = (j 2).val
    omega

theorem readAt_hdq {sig : RefSig} {κ : Kind} {sp : Space} {e : EltTy} (m : Memref sig κ sp ⟨3, ![1, 256, 512]⟩ e) (hm : m.IsWhole)
    (x : (⟨3, ![1, 256, 512]⟩ : Shape).Idx → Val e) (n : ℕ) (hn : n / 64 < 8) (hd : n / 64 * 64 = n) (inb) :
    View.readAt Val m.view (Rect.unit (s := ⟨3, ![1, 256, 512]⟩) ![0, 0, n] ![1, 256, 64] inb).toLoadRect (hm.unread x) = hdq x ⟨n / 64, hn⟩ := by
  funext j
  refine (congrFun (hm.read_unread x) _).trans (congrArg x (funext fun k => Fin.ext ?_))
  fin_cases k
  · show 0 + 1 * (j 0).val = 0
    have h0 : (j 0).val < 1 := (j 0).isLt
    omega
  · show 0 + 1 * (j 1).val = (j 1).val
    omega
  · show n + 1 * (j 2).val = n / 64 * 64 + (j 2).val
    omega

theorem readAt_hda {sig : RefSig} {κ : Kind} {sp : Space} {e : EltTy} (m : Memref sig κ sp ⟨3, ![2, 1024, 64]⟩ e) (hm : m.IsWhole)
    (x : (⟨3, ![2, 1024, 64]⟩ : Shape).Idx → Val e) (n p : ℕ) (hn : n * 4 + p / 256 < 8) (hp : p < 1024) (hd : p / 256 * 256 = p) (inb) :
    View.readAt Val m.view (Rect.unit (s := ⟨3, ![2, 1024, 64]⟩) ![n, p, 0] ![1, 256, 64] inb).toLoadRect (hm.unread x) = hda x ⟨n * 4 + p / 256, hn⟩ := by
  funext j
  refine (congrFun (hm.read_unread x) _).trans (congrArg x (funext fun k => Fin.ext ?_))
  fin_cases k
  · show n + 1 * (j 0).val = (n * 4 + p / 256) / 4
    have h0 : (j 0).val < 1 := (j 0).isLt
    omega
  · show p + 1 * (j 1).val = (n * 4 + p / 256) % 4 * 256 + (j 1).val
    omega
  · show 0 + 1 * (j 2).val = (j 2).val
    omega

theorem readAt_kd {sig : RefSig} {κ : Kind} {sp : Space} {e : EltTy} (m : Memref sig κ sp ⟨3, ![1, 256, 128]⟩ e) (hm : m.IsWhole)
    (x : (⟨3, ![1, 256, 128]⟩ : Shape).Idx → Val e) (n p : ℕ) (hn : n / 128 < 2) (hn' : n / 128 * 128 = n) (hp : p / 64 < 2) (hp' : p / 64 * 64 = p) (inb) :
    View.readAt Val m.view (Rect.unit (s := ⟨3, ![1, 256, 128]⟩) ![0, n, p] ![1, 128, 64] inb).toLoadRect (hm.unread x) = kd x ⟨p / 64, hp⟩ ⟨n / 128, hn⟩ := by
  funext j
  refine (congrFun (hm.read_unread x) _).trans (congrArg x (funext fun k => Fin.ext ?_))
  fin_cases k
  · show 0 + 1 * (j 0).val = 0
    have h0 : (j 0).val < 1 := (j 0).isLt
    omega
  · show n + 1 * (j 1).val = n / 128 * 128 + (j 1).val
    omega
  · show p + 1 * (j 2).val = p / 64 * 64 + (j 2).val
    omega

/-- What a buffer reads after a store to each of its halves. -/
theorem read_hd {sig : RefSig} {κ : Kind} {sp : Space} {e : EltTy} {a b : ℕ} (v : View sig κ sp ⟨3, ![2, a, b]⟩ e) (f : v.ty.Contents Val)
    (G : Fin 2 → (⟨3, ![1, a, b]⟩ : Shape).Idx → Val e) {i0 i1} {w0 w1 : (⟨3, ![1, a, b]⟩ : Shape).Idx → Val e} (h0 : w0 = G 0) (h1 : w1 = G 1) :
    v.read Val (v.writes Val f
      [⟨Rect.unit (s := ⟨3, ![2, a, b]⟩) ![1, 0, 0] ![1, a, b] i1, w1⟩, ⟨Rect.unit (s := ⟨3, ![2, a, b]⟩) ![0, 0, 0] ![1, a, b] i0, w0⟩]) = hput G := by
  subst h0 h1
  have key : ∀ (h : Fin 2) (inb) (x : (⟨3, ![1, a, b]⟩ : Shape).Idx), G h x = hput G ((Rect.unit (s := ⟨3, ![2, a, b]⟩) ![h.val, 0, 0] ![1, a, b] inb).emb x) := by
    intro h inb x
    have e : (Rect.unit (s := ⟨3, ![2, a, b]⟩) ![h.val, 0, 0] ![1, a, b] inb).emb x = ix3 (a := 2) (b := a) (c := b) h (x 1) (x 2) := by
      funext k
      apply Fin.ext
      fin_cases k
      · show h.val + 1 * (x 0).val = h.val
        have h0 : (x 0).val < 1 := (x 0).isLt
        omega
      · show 0 + 1 * (x 1).val = (x 1).val
        omega
      · show 0 + 1 * (x 2).val = (x 2).val
        omega
    rw [e]
    exact (congrArg (G h) (ix3_eta1 x)).symm
  have mem : ∀ (h : Fin 2) (inb) (y : (⟨3, ![2, a, b]⟩ : Shape).Idx), y 0 = h → y ∈ (Rect.unit (s := ⟨3, ![2, a, b]⟩) ![h.val, 0, 0] ![1, a, b] inb).set := by
    intro h inb y hy
    refine Rect.mem_set_unit.mpr fun k => ?_
    have h0 : (y 0).val = h.val := congrArg Fin.val hy
    fin_cases k
    · show h.val ≤ (y 0).val ∧ (y 0).val < h.val + 1
      omega
    · show 0 ≤ (y 1).val ∧ (y 1).val < 0 + a
      exact ⟨Nat.zero_le _, by have := (y 1).isLt; rw [Nat.zero_add]; exact this⟩
    · show 0 ≤ (y 2).val ∧ (y 2).val < 0 + b
      exact ⟨Nat.zero_le _, by have := (y 2).isLt; rw [Nat.zero_add]; exact this⟩
  funext y
  refine View.read_writes_apply_of_pieces v f (hput G) _ ?_ y ?_
  · intro p hp
    simp only [List.mem_cons, List.not_mem_nil, or_false] at hp
    rcases hp with rfl | rfl
    · exact key 1 i1
    · exact key 0 i0
  · obtain ⟨h, hh⟩ : ∃ h : Fin 2, y 0 = h := ⟨_, rfl⟩
    match h, hh with
    | 0, hh => exact ⟨_, List.mem_cons_of_mem _ (List.mem_cons_self), mem 0 i0 y hh⟩
    | 1, hh => exact ⟨_, List.mem_cons_self, mem 1 i1 y hh⟩

/-- What a buffer reads after a store of each query head. -/
theorem read_putq {sig : RefSig} {κ : Kind} {sp : Space} {e : EltTy} (v : View sig κ sp ⟨3, ![2, 1024, 64]⟩ e) (f : v.ty.Contents Val)
    (G : Fin 8 → (⟨3, ![1, 256, 64]⟩ : Shape).Idx → Val e) {i0 i1 i2 i3 i4 i5 i6 i7} {w0 w1 w2 w3 w4 w5 w6 w7 : (⟨3, ![1, 256, 64]⟩ : Shape).Idx → Val e}
    (h0 : w0 = G 0) (h1 : w1 = G 1) (h2 : w2 = G 2) (h3 : w3 = G 3) (h4 : w4 = G 4) (h5 : w5 = G 5) (h6 : w6 = G 6) (h7 : w7 = G 7) :
    v.read Val (v.writes Val f
      [⟨Rect.unit (s := ⟨3, ![2, 1024, 64]⟩) ![1, 768, 0] ![1, 256, 64] i7, w7⟩,
       ⟨Rect.unit (s := ⟨3, ![2, 1024, 64]⟩) ![1, 512, 0] ![1, 256, 64] i6, w6⟩,
       ⟨Rect.unit (s := ⟨3, ![2, 1024, 64]⟩) ![1, 256, 0] ![1, 256, 64] i5, w5⟩,
       ⟨Rect.unit (s := ⟨3, ![2, 1024, 64]⟩) ![1, 0, 0] ![1, 256, 64] i4, w4⟩,
       ⟨Rect.unit (s := ⟨3, ![2, 1024, 64]⟩) ![0, 768, 0] ![1, 256, 64] i3, w3⟩,
       ⟨Rect.unit (s := ⟨3, ![2, 1024, 64]⟩) ![0, 512, 0] ![1, 256, 64] i2, w2⟩,
       ⟨Rect.unit (s := ⟨3, ![2, 1024, 64]⟩) ![0, 256, 0] ![1, 256, 64] i1, w1⟩,
       ⟨Rect.unit (s := ⟨3, ![2, 1024, 64]⟩) ![0, 0, 0] ![1, 256, 64] i0, w0⟩]) = putq G := by
  subst h0 h1 h2 h3 h4 h5 h6 h7
  have key : ∀ (h : Fin 8) (inb) (x : (⟨3, ![1, 256, 64]⟩ : Shape).Idx), G h x = putq G ((Rect.unit (s := ⟨3, ![2, 1024, 64]⟩) ![h.val / 4, h.val % 4 * 256, 0] ![1, 256, 64] inb).emb x) := by
    intro h inb x
    have h0 : (x 0).val < 1 := (x 0).isLt
    have h1 : (x 1).val < 256 := (x 1).isLt
    refine congr (congrArg G (Fin.ext ?_)) ((ix3_eta1 x).symm.trans (funext fun k => Fin.ext ?_))
    · show h.val = (h.val / 4 + 1 * (x 0).val) * 4 + (h.val % 4 * 256 + 1 * (x 1).val) / 256
      omega
    · fin_cases k
      · rfl
      · show (x 1).val = (h.val % 4 * 256 + 1 * (x 1).val) % 256
        omega
      · show (x 2).val = 0 + 1 * (x 2).val
        omega
  have mem : ∀ (h : Fin 8) (inb) (y : (⟨3, ![2, 1024, 64]⟩ : Shape).Idx), (⟨(y 0).val * 4 + (y 1).val / 256, by have h0 : (y 0).val < 2 := (y 0).isLt; have h1 : (y 1).val < 1024 := (y 1).isLt; omega⟩ : Fin 8) = h →
      y ∈ (Rect.unit (s := ⟨3, ![2, 1024, 64]⟩) ![h.val / 4, h.val % 4 * 256, 0] ![1, 256, 64] inb).set := by
    intro h inb y hy
    have hh : (y 0).val * 4 + (y 1).val / 256 = h.val := congrArg Fin.val hy
    have h1 : (y 1).val < 1024 := (y 1).isLt
    have h2 : (y 2).val < 64 := (y 2).isLt
    refine Rect.mem_set_unit.mpr fun k => ?_
    fin_cases k
    · show h.val / 4 ≤ (y 0).val ∧ (y 0).val < h.val / 4 + 1
      omega
    · show h.val % 4 * 256 ≤ (y 1).val ∧ (y 1).val < h.val % 4 * 256 + 256
      omega
    · show 0 ≤ (y 2).val ∧ (y 2).val < 0 + 64
      omega
  funext y
  refine View.read_writes_apply_of_pieces v f (putq G) _ ?_ y ?_
  · intro p hp
    simp only [List.mem_cons, List.not_mem_nil, or_false] at hp
    rcases hp with rfl | rfl | rfl | rfl | rfl | rfl | rfl | rfl
    · exact key 7 i7
    · exact key 6 i6
    · exact key 5 i5
    · exact key 4 i4
    · exact key 3 i3
    · exact key 2 i2
    · exact key 1 i1
    · exact key 0 i0
  · obtain ⟨h, hh⟩ : ∃ h : Fin 8, (⟨(y 0).val * 4 + (y 1).val / 256, by have h0 : (y 0).val < 2 := (y 0).isLt; have h1 : (y 1).val < 1024 := (y 1).isLt; omega⟩ : Fin 8) = h := ⟨⟨(y 0).val * 4 + (y 1).val / 256, by have h0 : (y 0).val < 2 := (y 0).isLt; have h1 : (y 1).val < 1024 := (y 1).isLt; omega⟩, rfl⟩
    match h, hh with
    | 0, hh => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem 0 i0 y hh⟩
    | 1, hh => exact ⟨_, List.mem_cons_of_mem _ (List.mem_cons_of_mem _ (List.mem_cons_of_mem _ (List.mem_cons_of_mem _ (List.mem_cons_of_mem _ (List.mem_cons_of_mem _ (List.mem_cons_self)))))), mem 1 i1 y hh⟩
    | 2, hh => exact ⟨_, List.mem_cons_of_mem _ (List.mem_cons_of_mem _ (List.mem_cons_of_mem _ (List.mem_cons_of_mem _ (List.mem_cons_of_mem _ (List.mem_cons_self))))), mem 2 i2 y hh⟩
    | 3, hh => exact ⟨_, List.mem_cons_of_mem _ (List.mem_cons_of_mem _ (List.mem_cons_of_mem _ (List.mem_cons_of_mem _ (List.mem_cons_self)))), mem 3 i3 y hh⟩
    | 4, hh => exact ⟨_, List.mem_cons_of_mem _ (List.mem_cons_of_mem _ (List.mem_cons_of_mem _ (List.mem_cons_self))), mem 4 i4 y hh⟩
    | 5, hh => exact ⟨_, List.mem_cons_of_mem _ (List.mem_cons_of_mem _ (List.mem_cons_self)), mem 5 i5 y hh⟩
    | 6, hh => exact ⟨_, List.mem_cons_of_mem _ (List.mem_cons_self), mem 6 i6 y hh⟩
    | 7, hh => exact ⟨_, List.mem_cons_self, mem 7 i7 y hh⟩

/-- What a buffer reads after a store of the columns of each query head. -/
theorem read_puto {sig : RefSig} {κ : Kind} {sp : Space} {e : EltTy} (v : View sig κ sp ⟨3, ![1, 256, 512]⟩ e) (f : v.ty.Contents Val)
    (G : Fin 8 → (⟨3, ![1, 256, 64]⟩ : Shape).Idx → Val e) {i0 i1 i2 i3 i4 i5 i6 i7} {w0 w1 w2 w3 w4 w5 w6 w7 : (⟨3, ![1, 256, 64]⟩ : Shape).Idx → Val e}
    (h0 : w0 = G 0) (h1 : w1 = G 1) (h2 : w2 = G 2) (h3 : w3 = G 3) (h4 : w4 = G 4) (h5 : w5 = G 5) (h6 : w6 = G 6) (h7 : w7 = G 7) :
    v.read Val (v.writes Val f
      [⟨Rect.unit (s := ⟨3, ![1, 256, 512]⟩) ![0, 0, 448] ![1, 256, 64] i7, w7⟩,
       ⟨Rect.unit (s := ⟨3, ![1, 256, 512]⟩) ![0, 0, 384] ![1, 256, 64] i6, w6⟩,
       ⟨Rect.unit (s := ⟨3, ![1, 256, 512]⟩) ![0, 0, 320] ![1, 256, 64] i5, w5⟩,
       ⟨Rect.unit (s := ⟨3, ![1, 256, 512]⟩) ![0, 0, 256] ![1, 256, 64] i4, w4⟩,
       ⟨Rect.unit (s := ⟨3, ![1, 256, 512]⟩) ![0, 0, 192] ![1, 256, 64] i3, w3⟩,
       ⟨Rect.unit (s := ⟨3, ![1, 256, 512]⟩) ![0, 0, 128] ![1, 256, 64] i2, w2⟩,
       ⟨Rect.unit (s := ⟨3, ![1, 256, 512]⟩) ![0, 0, 64] ![1, 256, 64] i1, w1⟩,
       ⟨Rect.unit (s := ⟨3, ![1, 256, 512]⟩) ![0, 0, 0] ![1, 256, 64] i0, w0⟩]) = puto G := by
  subst h0 h1 h2 h3 h4 h5 h6 h7
  have key : ∀ (h : Fin 8) (inb) (x : (⟨3, ![1, 256, 64]⟩ : Shape).Idx), G h x = puto G ((Rect.unit (s := ⟨3, ![1, 256, 512]⟩) ![0, 0, h.val * 64] ![1, 256, 64] inb).emb x) := by
    intro h inb x
    have h2 : (x 2).val < 64 := (x 2).isLt
    refine congr (congrArg G (Fin.ext ?_)) ((ix3_eta1 x).symm.trans (funext fun k => Fin.ext ?_))
    · show h.val = (h.val * 64 + 1 * (x 2).val) / 64
      omega
    · fin_cases k
      · rfl
      · show (x 1).val = 0 + 1 * (x 1).val
        omega
      · show (x 2).val = (h.val * 64 + 1 * (x 2).val) % 64
        omega
  have mem : ∀ (h : Fin 8) (inb) (y : (⟨3, ![1, 256, 512]⟩ : Shape).Idx), (⟨(y 2).val / 64, by have h2 : (y 2).val < 512 := (y 2).isLt; omega⟩ : Fin 8) = h →
      y ∈ (Rect.unit (s := ⟨3, ![1, 256, 512]⟩) ![0, 0, h.val * 64] ![1, 256, 64] inb).set := by
    intro h inb y hy
    have hh : (y 2).val / 64 = h.val := congrArg Fin.val hy
    have h0 : (y 0).val < 1 := (y 0).isLt
    have h1 : (y 1).val < 256 := (y 1).isLt
    refine Rect.mem_set_unit.mpr fun k => ?_
    fin_cases k
    · show 0 ≤ (y 0).val ∧ (y 0).val < 0 + 1
      omega
    · show 0 ≤ (y 1).val ∧ (y 1).val < 0 + 256
      omega
    · show h.val * 64 ≤ (y 2).val ∧ (y 2).val < h.val * 64 + 64
      omega
  funext y
  refine View.read_writes_apply_of_pieces v f (puto G) _ ?_ y ?_
  · intro p hp
    simp only [List.mem_cons, List.not_mem_nil, or_false] at hp
    rcases hp with rfl | rfl | rfl | rfl | rfl | rfl | rfl | rfl
    · exact key 7 i7
    · exact key 6 i6
    · exact key 5 i5
    · exact key 4 i4
    · exact key 3 i3
    · exact key 2 i2
    · exact key 1 i1
    · exact key 0 i0
  · obtain ⟨h, hh⟩ : ∃ h : Fin 8, (⟨(y 2).val / 64, by have h2 : (y 2).val < 512 := (y 2).isLt; omega⟩ : Fin 8) = h := ⟨⟨(y 2).val / 64, by have h2 : (y 2).val < 512 := (y 2).isLt; omega⟩, rfl⟩
    match h, hh with
    | 0, hh => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem 0 i0 y hh⟩
    | 1, hh => exact ⟨_, List.mem_cons_of_mem _ (List.mem_cons_of_mem _ (List.mem_cons_of_mem _ (List.mem_cons_of_mem _ (List.mem_cons_of_mem _ (List.mem_cons_of_mem _ (List.mem_cons_self)))))), mem 1 i1 y hh⟩
    | 2, hh => exact ⟨_, List.mem_cons_of_mem _ (List.mem_cons_of_mem _ (List.mem_cons_of_mem _ (List.mem_cons_of_mem _ (List.mem_cons_of_mem _ (List.mem_cons_self))))), mem 2 i2 y hh⟩
    | 3, hh => exact ⟨_, List.mem_cons_of_mem _ (List.mem_cons_of_mem _ (List.mem_cons_of_mem _ (List.mem_cons_of_mem _ (List.mem_cons_self)))), mem 3 i3 y hh⟩
    | 4, hh => exact ⟨_, List.mem_cons_of_mem _ (List.mem_cons_of_mem _ (List.mem_cons_of_mem _ (List.mem_cons_self))), mem 4 i4 y hh⟩
    | 5, hh => exact ⟨_, List.mem_cons_of_mem _ (List.mem_cons_of_mem _ (List.mem_cons_self)), mem 5 i5 y hh⟩
    | 6, hh => exact ⟨_, List.mem_cons_of_mem _ (List.mem_cons_self), mem 6 i6 y hh⟩
    | 7, hh => exact ⟨_, List.mem_cons_self, mem 7 i7 y hh⟩

end Reads

variable {F : FTy → Type} [FloatOps F]

/-! ## One pass over half a block of keys -/

/-- The products of the queries with the keys. -/
def zS (q : FVec F S1024x64 .bf16) (k : Vec F S1x128x64 .f32) : FVec F S1024x128 .f32 :=
  matmul dot_S1024x64_S128x64_S1024x128_1_1_0_0_n_n none q (truncf .bf16 (shapeCast S128x64 k shapeCasts_S1x128x64_S128x64) bitsLt_bf16_f32) (constant S1024x128 .f32 0x00000000#32)

/-- The array of one float constant. -/
def cst (w : BitVec 32) : FVec F S1024x128 .f32 := broadcast S1024x128 (Scalar.ofBits .f32 w)

/-- The logarithm of what a key leaves of the stick, unmasked. -/
def nlS (z : FVec F S1024x128 .f32) : FVec F S1024x128 .f32 :=
  subf (cst 0x00000000#32) (addf (maximumf z (cst 0x00000000#32)) (log (addf (cst 0x3F800000#32) (exp (subf (cst 0x00000000#32) (absf z))))))

/-- An array kept where the mask is set, zero elsewhere; without a mask, kept. -/
def keep (mk : Option (IVec S1024x128 1)) (x : FVec F S1024x128 .f32) : FVec F S1024x128 .f32 :=
  match mk with
  | none => x
  | some m => select m x (cst 0x00000000#32)

/-- The sums of the logarithms of the later keys of the half block. -/
def aftS (tri : FVec F S256x128 .f32) (l : FVec F S1024x128 .f32) : FVec F S1024x128 .f32 :=
  matmul dot_S1024x256_S256x128_S1024x128_1_0_0_1_n_n none
    (concatenate S1024x256 1 [⟨S1024x128, l⟩, ⟨S1024x128, subf l (extf .f32 (truncf .bf16 l bitsLt_bf16_f32) bitsLt_bf16_f32)⟩] concatenates_S1024x128_S1024x128_S1024x256_d1)
    tri (constant S1024x128 .f32 0x00000000#32)

/-- The logarithms of a half block. -/
def lS (mk : Option (IVec S1024x128 1)) (q : FVec F S1024x64 .bf16) (k : Vec F S1x128x64 .f32) : FVec F S1024x128 .f32 := keep mk (nlS (zS q k))

/-- The new running sum. -/
def subR (mk : Option (IVec S1024x128 1)) (tri : FVec F S256x128 .f32) (q : FVec F S1024x64 .bf16) (k : Vec F S1x128x64 .f32) (r : FVec F S1024x1 .f32) : FVec F S1024x1 .f32 :=
  addf (addf r (extractStridedSlice S1024x1 ![0, 0] (aftS tri (lS mk q k)) slices_S1024x128_o0_0_S1024x1))
    (extractStridedSlice S1024x1 ![0, 0] (lS mk q k) slices_S1024x128_o0_0_S1024x1)

/-- The weights of the half block. -/
def aS (mk : Option (IVec S1024x128 1)) (tri : FVec F S256x128 .f32) (q : FVec F S1024x64 .bf16) (k : Vec F S1x128x64 .f32) (r : FVec F S1024x1 .f32) : FVec F S1024x128 .f32 :=
  keep mk (exp (addf (addf (addf (zS q k) (lS mk q k)) (aftS tri (lS mk q k))) (broadcastTo S1024x128 r broadcasts_S1024x1_S1024x128)))

/-- The new accumulator. -/
def subA (mk : Option (IVec S1024x128 1)) (tri : FVec F S256x128 .f32) (q : FVec F S1024x64 .bf16) (k v : Vec F S1x128x64 .f32) (r : FVec F S1024x1 .f32) (a : FVec F S1024x64 .f32) : FVec F S1024x64 .f32 :=
  addf a (matmul dot_S1024x128_S128x64_S1024x64_1_0_0_1_n_n none (truncf .bf16 (aS mk tri q k r) bitsLt_bf16_f32)
    (truncf .bf16 (shapeCast S128x64 v shapeCasts_S1x128x64_S128x64) bitsLt_bf16_f32) (constant S1024x64 .f32 0x00000000#32))

/-! ## One pass over a block of keys: its second half, then its first -/

/-- The running sum of one head after a pass; `m` the masks of the two halves. -/
def nR (m : Fin 2 → Option (IVec S1024x128 1)) (x1 : Vec F S1x256x128 .f32) (x3 : Vec F S256x128 .f32) (q : Vec F S2x1024x64 .bf16) (r : Vec F S2x1024x1 .f32) (h : Fin 2) : FVec F S1024x1 .f32 :=
  subR (m 0) (k0_pay21 x3) (k0_pay22 (hd q h)) (kd x1 h 0) (subR (m 1) (k0_pay21 x3) (k0_pay22 (hd q h)) (kd x1 h 1) (k0_pay23 (hd r h)))

/-- The accumulator of one head after a pass. -/
def nA (m : Fin 2 → Option (IVec S1024x128 1)) (x1 x2 : Vec F S1x256x128 .f32) (x3 : Vec F S256x128 .f32) (q : Vec F S2x1024x64 .bf16) (r : Vec F S2x1024x1 .f32) (a : Vec F S2x1024x64 .f32) (h : Fin 2) : FVec F S1024x64 .f32 :=
  subA (m 0) (k0_pay21 x3) (k0_pay22 (hd q h)) (kd x1 h 0) (kd x2 h 0) (subR (m 1) (k0_pay21 x3) (k0_pay22 (hd q h)) (kd x1 h 1) (k0_pay23 (hd r h)))
    (subA (m 1) (k0_pay21 x3) (k0_pay22 (hd q h)) (kd x1 h 1) (kd x2 h 1) (k0_pay23 (hd r h)) (k0_pay24 (hd a h)))

/-- The running sums of both heads after a pass. -/
def stR (m : Fin 2 → Option (IVec S1024x128 1)) (x1 : Vec F S1x256x128 .f32) (x3 : Vec F S256x128 .f32) (q : Vec F S2x1024x64 .bf16) (r : Vec F S2x1024x1 .f32) : Vec F S2x1024x1 .f32 :=
  hput fun h => shapeCast S1x1024x1 (nR m x1 x3 q r h) shapeCasts_S1024x1_S1x1024x1

/-- The accumulators of both heads after a pass. -/
def stA (m : Fin 2 → Option (IVec S1024x128 1)) (x1 x2 : Vec F S1x256x128 .f32) (x3 : Vec F S256x128 .f32) (q : Vec F S2x1024x64 .bf16) (r : Vec F S2x1024x1 .f32) (a : Vec F S2x1024x64 .f32) : Vec F S2x1024x64 .f32 :=
  hput fun h => shapeCast S1x1024x64 (nA m x1 x2 x3 q r a h) shapeCasts_S1024x64_S1x1024x64

/-- No mask. -/
def mF : Fin 2 → Option (IVec S1024x128 1) := fun _ => none

/-- The masks on the diagonal. -/
def mD : Fin 2 → Option (IVec S1024x128 1)
  | 0 => some k0_pay57
  | 1 => some k0_pay26

/-- The scaled and rounded queries the kernel keeps. -/
def qS (x0 : Vec F S1x256x512 .f32) : Vec F S2x1024x64 .bf16 := putq fun h => k0_pay12 (hdq x0 h)

/-- The result block. -/
def outO (a : Vec F S2x1024x64 .f32) : Vec F S1x256x512 .f32 := puto fun h => k0_pay91 (hda a h)

end Cert.Kernel7Ideal.Att
-- ==== Proof.SbRunInit.lean ====
/- The first branch run: the scaled and rounded queries stored and the running state reset. -/
module

public import proofs.«01_k».proof.Proof.SbStep

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KernelIdeal.Att (ix3 ix3_eta ix3_eta1 readAt_all2 read_whole3)

variable {F : FTy → Type} [FloatOps F]

local notation "𝕄" => MT nD τ sig Unit (Elt F) ℕ (UR sig nD τ) ℕ

set_option maxHeartbeats 1600000 in
/-- The first branch: the scaled and rounded queries and the empty running state. -/
theorem initP_run (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (xs0 : Vec F S2x1024x64 .bf16) (xs1 : Vec F S2x1024x1 .f32) (xs2 : Vec F S2x1024x64 .f32)
    (E : Set ℕ) (K : PUnit → sProp 𝕄) :
    iprop(owns (c : Thread nD τ) arg3 fullShare x0 ∗ owns (c : Thread nD τ) arg8 fullShare xs0 ∗ owns (c : Thread nD τ) arg9 fullShare xs1 ∗ owns (c : Thread nD τ) arg10 fullShare xs2
        ∗ (iprop(owns (c : Thread nD τ) arg3 fullShare x0 ∗ owns (c : Thread nD τ) arg8 fullShare (qS x0) ∗ owns (c : Thread nD τ) arg9 fullShare (k0_pay2 (F := F)) ∗ owns (c : Thread nD τ) arg10 fullShare (k0_pay3 (F := F))) -∗ K ⟨⟩))
      ⊢ wp frame (wpE (defs₀ (F := F)) Variants.none c none) E (initP i arg3 harg3 arg4 harg4 arg5 harg5 arg6 harg6 arg7 harg7 arg8 harg8 arg9 harg9 arg10 harg10) K := by
  unfold initP
  simp only [k0_part1_eq_skeleton, k0_part2_eq_skeleton]
  unfold owns
  iintro ⟨⟨%f3, %hf3, H3⟩, ⟨%f8, %hf8, H8⟩, ⟨%f9, %hf9, H9⟩, ⟨%f10, %hf10, H10⟩, Hk⟩
  obtain rfl := harg3.eq_unread hf3
  obtain rfl := harg8.eq_unread hf8
  obtain rfl := harg9.eq_unread hf9
  obtain rfl := harg10.eq_unread hf10
  sl_exec
  sl_step
  iapply Hk
  isplitl [H3]
  · iexists _; isplitr; · ipureintro; exact harg3.read_unread _
    iexact H3
  isplitl [H8]
  · iexists _; isplitr; swap; · iexact H8
    ipureintro
    refine read_putq (Val := Elt F) arg8.view _ (fun h => k0_pay12 (hdq x0 h)) ?_ ?_ ?_ ?_ ?_ ?_ ?_ ?_ <;>
    · sl_unfold_run_names
      simp (disch := decide) only [readAt_hdq]
      rfl
  isplitl [H9]
  · iexists _; isplitr; swap; · iexact H9
    ipureintro
    exact read_whole3 _ _ _ _
  · iexists _; isplitr; swap; · iexact H10
    ipureintro
    exact read_whole3 _ _ _ _

end Cert.Kernel7Ideal.Att
-- ==== Proof.SbRunDiag.lean ====
/- The second branch run: the masked pass over the block of keys on the diagonal. -/
module

public import proofs.«01_k».proof.Proof.SbStep

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KernelIdeal.Att (ix3 ix3_eta ix3_eta1 readAt_all2 read_whole3)

variable {F : FTy → Type} [FloatOps F]

local notation "𝕄" => MT nD τ sig Unit (Elt F) ℕ (UR sig nD τ) ℕ

set_option maxHeartbeats 1600000 in
/-- One masked pass: what it leaves in the scratch buffers. -/
theorem diagP_run (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x1 : Vec F S1x256x128 .f32) (x2 : Vec F S1x256x128 .f32) (x3 : Vec F S256x128 .f32) (xs0 : Vec F S2x1024x64 .bf16) (xs1 : Vec F S2x1024x1 .f32) (xs2 : Vec F S2x1024x64 .f32)
    (E : Set ℕ) (K : PUnit → sProp 𝕄) :
    iprop(owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare xs1 ∗ owns (c : Thread nD τ) arg10 fullShare xs2
        ∗ (iprop(owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare (stR mD x1 x3 xs0 xs1) ∗ owns (c : Thread nD τ) arg10 fullShare (stA mD x1 x2 x3 xs0 xs1 xs2)) -∗ K ⟨⟩))
      ⊢ wp frame (wpE (defs₀ (F := F)) Variants.none c none) E (diagP i arg3 harg3 arg4 harg4 arg5 harg5 arg6 harg6 arg7 harg7 arg8 harg8 arg9 harg9 arg10 harg10) K := by
  unfold diagP
  simp only [k0_part3_eq_skeleton, k0_part4_eq_skeleton, k0_part5_eq_skeleton, k0_part6_eq_skeleton, k0_part7_eq_skeleton, k0_part8_eq_skeleton]
  unfold owns
  iintro ⟨⟨%f4, %hf4, H4⟩, ⟨%f5, %hf5, H5⟩, ⟨%f6, %hf6, H6⟩, ⟨%f8, %hf8, H8⟩, ⟨%f9, %hf9, H9⟩, ⟨%f10, %hf10, H10⟩, Hk⟩
  obtain rfl := harg4.eq_unread hf4
  obtain rfl := harg5.eq_unread hf5
  obtain rfl := harg6.eq_unread hf6
  obtain rfl := harg8.eq_unread hf8
  obtain rfl := harg9.eq_unread hf9
  obtain rfl := harg10.eq_unread hf10
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H9]
  · iexists _; isplitr; swap; · iexact H9
    ipureintro
    refine read_hd (Val := Elt F) arg9.view _ (fun h => shapeCast S1x1024x1 (nR mD x1 x3 xs0 xs1 h) shapeCasts_S1024x1_S1x1024x1) ?_ ?_ <;>
    · sl_unfold_run_names
      simp (disch := decide) only [readAt_all2, readAt_hd, readAt_kd]
      rfl
  · iexists _; isplitr; swap; · iexact H10
    ipureintro
    refine read_hd (Val := Elt F) arg10.view _ (fun h => shapeCast S1x1024x64 (nA mD x1 x2 x3 xs0 xs1 xs2 h) shapeCasts_S1024x64_S1x1024x64) ?_ ?_ <;>
    · sl_unfold_run_names
      simp (disch := decide) only [readAt_all2, readAt_hd, readAt_kd]
      rfl

end Cert.Kernel7Ideal.Att
-- ==== Proof.SbRunFull.lean ====
/- The third branch run: one unmasked pass over a block of keys. -/
module

public import proofs.«01_k».proof.Proof.SbStep

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KernelIdeal.Att (ix3 ix3_eta ix3_eta1 readAt_all2 read_whole3)

variable {F : FTy → Type} [FloatOps F]

local notation "𝕄" => MT nD τ sig Unit (Elt F) ℕ (UR sig nD τ) ℕ

set_option maxHeartbeats 1600000 in
/-- One unmasked pass: what it leaves in the scratch buffers. -/
theorem fullP_run (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x1 : Vec F S1x256x128 .f32) (x2 : Vec F S1x256x128 .f32) (x3 : Vec F S256x128 .f32) (xs0 : Vec F S2x1024x64 .bf16) (xs1 : Vec F S2x1024x1 .f32) (xs2 : Vec F S2x1024x64 .f32)
    (E : Set ℕ) (K : PUnit → sProp 𝕄) :
    iprop(owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare xs1 ∗ owns (c : Thread nD τ) arg10 fullShare xs2
        ∗ (iprop(owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare (stR mF x1 x3 xs0 xs1) ∗ owns (c : Thread nD τ) arg10 fullShare (stA mF x1 x2 x3 xs0 xs1 xs2)) -∗ K ⟨⟩))
      ⊢ wp frame (wpE (defs₀ (F := F)) Variants.none c none) E (fullP i arg3 harg3 arg4 harg4 arg5 harg5 arg6 harg6 arg7 harg7 arg8 harg8 arg9 harg9 arg10 harg10) K := by
  unfold fullP
  simp only [k0_part9_eq_skeleton, k0_part10_eq_skeleton, k0_part11_eq_skeleton, k0_part12_eq_skeleton]
  unfold owns
  iintro ⟨⟨%f4, %hf4, H4⟩, ⟨%f5, %hf5, H5⟩, ⟨%f6, %hf6, H6⟩, ⟨%f8, %hf8, H8⟩, ⟨%f9, %hf9, H9⟩, ⟨%f10, %hf10, H10⟩, Hk⟩
  obtain rfl := harg4.eq_unread hf4
  obtain rfl := harg5.eq_unread hf5
  obtain rfl := harg6.eq_unread hf6
  obtain rfl := harg8.eq_unread hf8
  obtain rfl := harg9.eq_unread hf9
  obtain rfl := harg10.eq_unread hf10
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H9]
  · iexists _; isplitr; swap; · iexact H9
    ipureintro
    refine read_hd (Val := Elt F) arg9.view _ (fun h => shapeCast S1x1024x1 (nR mF x1 x3 xs0 xs1 h) shapeCasts_S1024x1_S1x1024x1) ?_ ?_ <;>
    · sl_unfold_run_names
      simp (disch := decide) only [readAt_all2, readAt_hd, readAt_kd]
      rfl
  · iexists _; isplitr; swap; · iexact H10
    ipureintro
    refine read_hd (Val := Elt F) arg10.view _ (fun h => shapeCast S1x1024x64 (nA mF x1 x2 x3 xs0 xs1 xs2 h) shapeCasts_S1024x64_S1x1024x64) ?_ ?_ <;>
    · sl_unfold_run_names
      simp (disch := decide) only [readAt_all2, readAt_hd, readAt_kd]
      rfl

end Cert.Kernel7Ideal.Att
-- ==== Proof.SbRunFin.lean ====
/- The fourth branch run: the accumulators stored beside each other. -/
module

public import proofs.«01_k».proof.Proof.SbStep

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KernelIdeal.Att (ix3 ix3_eta ix3_eta1 readAt_all2 read_whole3)

variable {F : FTy → Type} [FloatOps F]

local notation "𝕄" => MT nD τ sig Unit (Elt F) ℕ (UR sig nD τ) ℕ

set_option maxHeartbeats 1600000 in
/-- The store of the accumulators: what it leaves in the result block. -/
theorem finP_run (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (xo : Vec F S1x256x512 .f32) (xs2 : Vec F S2x1024x64 .f32)
    (E : Set ℕ) (K : PUnit → sProp 𝕄) :
    iprop(owns (c : Thread nD τ) arg7 fullShare xo ∗ owns (c : Thread nD τ) arg10 fullShare xs2
        ∗ (iprop(owns (c : Thread nD τ) arg7 fullShare (outO xs2) ∗ owns (c : Thread nD τ) arg10 fullShare xs2) -∗ K ⟨⟩))
      ⊢ wp frame (wpE (defs₀ (F := F)) Variants.none c none) E (finP i arg3 harg3 arg4 harg4 arg5 harg5 arg6 harg6 arg7 harg7 arg8 harg8 arg9 harg9 arg10 harg10) K := by
  unfold finP
  simp only [k0_part13_eq_skeleton]
  unfold owns
  iintro ⟨⟨%f7, %hf7, H7⟩, ⟨%f10, %hf10, H10⟩, Hk⟩
  obtain rfl := harg7.eq_unread hf7
  obtain rfl := harg10.eq_unread hf10
  sl_exec
  sl_step
  iapply Hk
  isplitl [H7]
  · iexists _; isplitr; swap; · iexact H7
    ipureintro
    refine read_puto (Val := Elt F) arg7.view _ (fun h => k0_pay91 (hda xs2 h)) ?_ ?_ ?_ ?_ ?_ ?_ ?_ ?_ <;>
    · sl_unfold_run_names
      simp (disch := decide) only [readAt_hda]
      rfl
  · iexists _; isplitr; · ipureintro; exact harg10.read_unread _
    iexact H10

end Cert.Kernel7Ideal.Att
-- ==== Proof.SbBody.lean ====
/- The whole body of the stick-breaking kernel at one grid point: the four branches in sequence. -/
module

public import proofs.«01_k».proof.Proof.SbRunInit
public import proofs.«01_k».proof.Proof.SbRunDiag
public import proofs.«01_k».proof.Proof.SbRunFull
public import proofs.«01_k».proof.Proof.SbRunFin

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KernelIdeal.Att (ix3 ix3_eta ix3_eta1 readAt_all2 read_whole3)

variable {F : FTy → Type} [FloatOps F]

local notation "𝕄" => MT nD τ sig Unit (Elt F) ℕ (UR sig nD τ) ℕ

/-- What the kernel keeps between grid points: the rounded queries, the running sums, the accumulators. -/
structure St (F : FTy → Type) where
  q : Vec F S2x1024x64 .bf16
  r : Vec F S2x1024x1 .f32
  a : Vec F S2x1024x64 .f32

/-- The state the first branch sets up from a query block. -/
def st0 (x0 : Vec F S1x256x512 .f32) : St F := ⟨qS x0, k0_pay2, k0_pay3⟩

/-- One pass over the block of keys `x1` and values `x2` under the masks `m`. -/
def St.pass (S : St F) (m : Fin 2 → Option (IVec S1024x128 1)) (x1 x2 : Vec F S1x256x128 .f32) (x3 : Vec F S256x128 .f32) : St F :=
  ⟨S.q, stR m x1 x3 S.q S.r, stA m x1 x2 x3 S.q S.r S.a⟩

/-- After the first branch, -/
def stI (i : grid0.Coords) (x0 : Vec F S1x256x512 .f32) (S : St F) : St F := if cond0_0 i then st0 x0 else S

/-- the second, -/
def stD (i : grid0.Coords) (x1 x2 : Vec F S1x256x128 .f32) (x3 : Vec F S256x128 .f32) (S : St F) : St F :=
  if cond0_1 i then S.pass mD x1 x2 x3 else S

/-- the third. -/
def stF (i : grid0.Coords) (x1 x2 : Vec F S1x256x128 .f32) (x3 : Vec F S256x128 .f32) (S : St F) : St F :=
  if cond0_2 i then S.pass mF x1 x2 x3 else S

/-- What a grid point does to the state. -/
def step (i : grid0.Coords) (x0 : Vec F S1x256x512 .f32) (x1 x2 : Vec F S1x256x128 .f32) (x3 : Vec F S256x128 .f32) (S : St F) : St F :=
  stF i x1 x2 x3 (stD i x1 x2 x3 (stI i x0 S))

/-- What a grid point leaves in the result block, the state after it being `S`. -/
def outB (i : grid0.Coords) (S : St F) (o : Vec F S1x256x512 .f32) : Vec F S1x256x512 .f32 := if cond0_3 i then outO S.a else o

/-- The first branch behind its condition. -/
theorem initP_opt (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (x1 x2 : Vec F S1x256x128 .f32) (x3 : Vec F S256x128 .f32) (o : Vec F S1x256x512 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (S).q ∗ owns (c : Thread nD τ) arg9 fullShare (S).r ∗ owns (c : Thread nD τ) arg10 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (stI i x0 S).q ∗ owns (c : Thread nD τ) arg9 fullShare (stI i x0 S).r ∗ owns (c : Thread nD τ) arg10 fullShare (stI i x0 S).a) -∗ K ⟨⟩))
      ⊢ wp frame (wpE (defs₀ (F := F)) Variants.none c none) E (if _h : cond0_0 i then initP i arg3 harg3 arg4 harg4 arg5 harg5 arg6 harg6 arg7 harg7 arg8 harg8 arg9 harg9 arg10 harg10 else pure ⟨⟩) K := by
  by_cases h : cond0_0 i
  · rw [dif_pos h, show stI i x0 S = st0 x0 from if_pos h]
    refine BIBase.Entails.trans ?_ (initP_run c i arg3 harg3 arg4 harg4 arg5 harg5 arg6 harg6 arg7 harg7 arg8 harg8 arg9 harg9 arg10 harg10 x0 S.q S.r S.a E K)
    iintro ⟨H3, H4, H5, H6, H7, H8, H9, H10, Hk⟩
    isplitl [H3]; · iexact H3
    isplitl [H8]; · iexact H8
    isplitl [H9]; · iexact H9
    isplitl [H10]; · iexact H10
    iintro ⟨H3, H8, H9, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg h, show stI i x0 S = S from if_neg h]
    iintro ⟨H3, H4, H5, H6, H7, H8, H9, H10, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The second branch behind its condition. -/
theorem diagP_opt (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (x1 x2 : Vec F S1x256x128 .f32) (x3 : Vec F S256x128 .f32) (o : Vec F S1x256x512 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (S).q ∗ owns (c : Thread nD τ) arg9 fullShare (S).r ∗ owns (c : Thread nD τ) arg10 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (stD i x1 x2 x3 S).q ∗ owns (c : Thread nD τ) arg9 fullShare (stD i x1 x2 x3 S).r ∗ owns (c : Thread nD τ) arg10 fullShare (stD i x1 x2 x3 S).a) -∗ K ⟨⟩))
      ⊢ wp frame (wpE (defs₀ (F := F)) Variants.none c none) E (if _h : cond0_1 i then diagP i arg3 harg3 arg4 harg4 arg5 harg5 arg6 harg6 arg7 harg7 arg8 harg8 arg9 harg9 arg10 harg10 else pure ⟨⟩) K := by
  by_cases h : cond0_1 i
  · rw [dif_pos h, show stD i x1 x2 x3 S = S.pass mD x1 x2 x3 from if_pos h]
    refine BIBase.Entails.trans ?_ (diagP_run c i arg3 harg3 arg4 harg4 arg5 harg5 arg6 harg6 arg7 harg7 arg8 harg8 arg9 harg9 arg10 harg10 x1 x2 x3 S.q S.r S.a E K)
    iintro ⟨H3, H4, H5, H6, H7, H8, H9, H10, Hk⟩
    isplitl [H4]; · iexact H4
    isplitl [H5]; · iexact H5
    isplitl [H6]; · iexact H6
    isplitl [H8]; · iexact H8
    isplitl [H9]; · iexact H9
    isplitl [H10]; · iexact H10
    iintro ⟨H4, H5, H6, H8, H9, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg h, show stD i x1 x2 x3 S = S from if_neg h]
    iintro ⟨H3, H4, H5, H6, H7, H8, H9, H10, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The third branch behind its condition. -/
theorem fullP_opt (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (x1 x2 : Vec F S1x256x128 .f32) (x3 : Vec F S256x128 .f32) (o : Vec F S1x256x512 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (S).q ∗ owns (c : Thread nD τ) arg9 fullShare (S).r ∗ owns (c : Thread nD τ) arg10 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (stF i x1 x2 x3 S).q ∗ owns (c : Thread nD τ) arg9 fullShare (stF i x1 x2 x3 S).r ∗ owns (c : Thread nD τ) arg10 fullShare (stF i x1 x2 x3 S).a) -∗ K ⟨⟩))
      ⊢ wp frame (wpE (defs₀ (F := F)) Variants.none c none) E (if _h : cond0_2 i then fullP i arg3 harg3 arg4 harg4 arg5 harg5 arg6 harg6 arg7 harg7 arg8 harg8 arg9 harg9 arg10 harg10 else pure ⟨⟩) K := by
  by_cases h : cond0_2 i
  · rw [dif_pos h, show stF i x1 x2 x3 S = S.pass mF x1 x2 x3 from if_pos h]
    refine BIBase.Entails.trans ?_ (fullP_run c i arg3 harg3 arg4 harg4 arg5 harg5 arg6 harg6 arg7 harg7 arg8 harg8 arg9 harg9 arg10 harg10 x1 x2 x3 S.q S.r S.a E K)
    iintro ⟨H3, H4, H5, H6, H7, H8, H9, H10, Hk⟩
    isplitl [H4]; · iexact H4
    isplitl [H5]; · iexact H5
    isplitl [H6]; · iexact H6
    isplitl [H8]; · iexact H8
    isplitl [H9]; · iexact H9
    isplitl [H10]; · iexact H10
    iintro ⟨H4, H5, H6, H8, H9, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg h, show stF i x1 x2 x3 S = S from if_neg h]
    iintro ⟨H3, H4, H5, H6, H7, H8, H9, H10, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The fourth branch behind its condition. -/
theorem finP_opt (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (x1 x2 : Vec F S1x256x128 .f32) (x3 : Vec F S256x128 .f32) (o : Vec F S1x256x512 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (S).q ∗ owns (c : Thread nD τ) arg9 fullShare (S).r ∗ owns (c : Thread nD τ) arg10 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outB i S o) ∗ owns (c : Thread nD τ) arg8 fullShare (S).q ∗ owns (c : Thread nD τ) arg9 fullShare (S).r ∗ owns (c : Thread nD τ) arg10 fullShare (S).a) -∗ K ⟨⟩))
      ⊢ wp frame (wpE (defs₀ (F := F)) Variants.none c none) E (if _h : cond0_3 i then finP i arg3 harg3 arg4 harg4 arg5 harg5 arg6 harg6 arg7 harg7 arg8 harg8 arg9 harg9 arg10 harg10 else pure ⟨⟩) K := by
  by_cases h : cond0_3 i
  · rw [dif_pos h, show outB i S o = outO S.a from if_pos h]
    refine BIBase.Entails.trans ?_ (finP_run c i arg3 harg3 arg4 harg4 arg5 harg5 arg6 harg6 arg7 harg7 arg8 harg8 arg9 harg9 arg10 harg10 o S.a E K)
    iintro ⟨H3, H4, H5, H6, H7, H8, H9, H10, Hk⟩
    isplitl [H7]; · iexact H7
    isplitl [H10]; · iexact H10
    iintro ⟨H7, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg h, show outB i S o = o from if_neg h]
    iintro ⟨H3, H4, H5, H6, H7, H8, H9, H10, Hk⟩
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- A branch followed by a continuation on both of its sides is the branch bound to it. -/
theorem dite_seq {c : Prop} [Decidable c] (p k : Prog (TpuEff nD τ sig (Elt F) Λ₀ .tc) PUnit) :
    (if _h : c then (p >>= fun _ => k) else k) = ((if _h : c then p else pure ⟨⟩) >>= fun _ => k) := by
  by_cases h : c
  · rw [dif_pos h, dif_pos h]
  · rw [dif_neg h, dif_neg h, pure_bind]

/-- The kernel's text as its four branches bound one after the other. -/
theorem kernel_seq (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole) :
    cc0__sb_prompt_kernel (F := F) i arg3 harg3 arg4 harg4 arg5 harg5 arg6 harg6 arg7 harg7 arg8 harg8 arg9 harg9 arg10 harg10
      = ((if _h : cond0_0 i then initP i arg3 harg3 arg4 harg4 arg5 harg5 arg6 harg6 arg7 harg7 arg8 harg8 arg9 harg9 arg10 harg10 else pure ⟨⟩ : Prog (TpuEff nD τ sig (Elt F) Λ₀ .tc) PUnit) >>= fun _ =>
        (if _h : cond0_1 i then diagP i arg3 harg3 arg4 harg4 arg5 harg5 arg6 harg6 arg7 harg7 arg8 harg8 arg9 harg9 arg10 harg10 else pure ⟨⟩ : Prog (TpuEff nD τ sig (Elt F) Λ₀ .tc) PUnit) >>= fun _ =>
        (if _h : cond0_2 i then fullP i arg3 harg3 arg4 harg4 arg5 harg5 arg6 harg6 arg7 harg7 arg8 harg8 arg9 harg9 arg10 harg10 else pure ⟨⟩ : Prog (TpuEff nD τ sig (Elt F) Λ₀ .tc) PUnit) >>= fun _ =>
        (if _h : cond0_3 i then finP i arg3 harg3 arg4 harg4 arg5 harg5 arg6 harg6 arg7 harg7 arg8 harg8 arg9 harg9 arg10 harg10 else pure ⟨⟩ : Prog (TpuEff nD τ sig (Elt F) Λ₀ .tc) PUnit) >>= fun _ => pure ⟨⟩) := by
  rw [kernel_eq]
  refine (dite_seq _ _).trans (congrArg _ (funext fun _ => ?_))
  refine (dite_seq _ _).trans (congrArg _ (funext fun _ => ?_))
  refine (dite_seq _ _).trans (congrArg _ (funext fun _ => ?_))
  exact dite_seq _ _
/-- The whole body: the state stepped, the result block stored at the last pass of a query block. -/
theorem body_run (c : Dev nD) (i : grid0.Coords) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S256x128 .f32) (harg6 : arg6.IsWhole) (arg7 : Memref sig .tc .vmem S1x256x512 .f32) (harg7 : arg7.IsWhole) (arg8 : Memref sig .tc .vmem S2x1024x64 .bf16) (harg8 : arg8.IsWhole) (arg9 : Memref sig .tc .vmem S2x1024x1 .f32) (harg9 : arg9.IsWhole) (arg10 : Memref sig .tc .vmem S2x1024x64 .f32) (harg10 : arg10.IsWhole)
    (x0 : Vec F S1x256x512 .f32) (x1 x2 : Vec F S1x256x128 .f32) (x3 : Vec F S256x128 .f32) (o : Vec F S1x256x512 .f32) (S : St F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (S).q ∗ owns (c : Thread nD τ) arg9 fullShare (S).r ∗ owns (c : Thread nD τ) arg10 fullShare (S).a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outB i (step i x0 x1 x2 x3 S) o) ∗ owns (c : Thread nD τ) arg8 fullShare (step i x0 x1 x2 x3 S).q ∗ owns (c : Thread nD τ) arg9 fullShare (step i x0 x1 x2 x3 S).r ∗ owns (c : Thread nD τ) arg10 fullShare (step i x0 x1 x2 x3 S).a) -∗ K ⟨⟩))
      ⊢ wp frame (wpE (defs₀ (F := F)) Variants.none c none) E (cc0__sb_prompt_kernel (F := F) i arg3 harg3 arg4 harg4 arg5 harg5 arg6 harg6 arg7 harg7 arg8 harg8 arg9 harg9 arg10 harg10) K := by
  rw [kernel_seq]
  iintro ⟨H3, H4, H5, H6, H7, H8, H9, H10, Hk⟩
  rw [wp_bind]
  iapply (initP_opt c i arg3 harg3 arg4 harg4 arg5 harg5 arg6 harg6 arg7 harg7 arg8 harg8 arg9 harg9 arg10 harg10 x0 x1 x2 x3 o S E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  rw [wp_bind]
  iapply (diagP_opt c i arg3 harg3 arg4 harg4 arg5 harg5 arg6 harg6 arg7 harg7 arg8 harg8 arg9 harg9 arg10 harg10 x0 x1 x2 x3 o (stI i x0 S) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  rw [wp_bind]
  iapply (fullP_opt c i arg3 harg3 arg4 harg4 arg5 harg5 arg6 harg6 arg7 harg7 arg8 harg8 arg9 harg9 arg10 harg10 x0 x1 x2 x3 o (stD i x1 x2 x3 (stI i x0 S)) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  rw [wp_bind]
  iapply (finP_opt c i arg3 harg3 arg4 harg4 arg5 harg5 arg6 harg6 arg7 harg7 arg8 harg8 arg9 harg9 arg10 harg10 x0 x1 x2 x3 o (step i x0 x1 x2 x3 S) E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel7Ideal.Att
-- ==== Proof.SbTrack.lean ====
/- The state of the stick-breaking kernel along the grid, the pipeline's proof data over it, and the run of the launch. -/
module

public import proofs.«01_k».proof.Proof.SbBody
public import proofs.«01_k».proof.Proof.Gen.Kernel7Ideal.Frame
public import Idealize.ShloMosaic.Lib.Pipeline.TableIdle
public import Idealize.ShloMosaic.Lib.Claim

@[expose] public section

set_option maxRecDepth 16384

noncomputable section

namespace Cert.Kernel7Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions at a grid point -/

theorem hcond0_0 : ∀ t : Fin cfg0.N, cond0_0 (grid0.coords t) ↔ t.val % 16 = 0 :=
  (by decide +kernel : ∀ t : Fin grid0.N, cond0_0 (grid0.coords t) ↔ t.val % 16 = 0)

theorem hcond0_1 : ∀ t : Fin cfg0.N, cond0_1 (grid0.coords t) ↔ t.val % 16 = 0 :=
  (by decide +kernel : ∀ t : Fin grid0.N, cond0_1 (grid0.coords t) ↔ t.val % 16 = 0)

/-- The unmasked pass runs at a query block's visits `1 … last`, `last` the block's number. -/
theorem hcond0_2 : ∀ t : Fin cfg0.N, cond0_2 (grid0.coords t) ↔ (0 < t.val % 16 ∧ t.val % 16 ≤ t.val / 16 % 16) :=
  (by decide +kernel : ∀ t : Fin grid0.N, cond0_2 (grid0.coords t) ↔ (0 < t.val % 16 ∧ t.val % 16 ≤ t.val / 16 % 16))

/-- The result block is stored at visit `last`. -/
theorem hcond0_3 : ∀ t : Fin cfg0.N, cond0_3 (grid0.coords t) ↔ t.val % 16 = t.val / 16 % 16 :=
  (by decide +kernel : ∀ t : Fin grid0.N, cond0_3 (grid0.coords t) ↔ t.val % 16 = t.val / 16 % 16)

/-- The result window is idle where nothing is stored. -/
theorem hidle0_4 : ∀ t : Fin cfg0.N, cfg0.idle 4 (grid0.coords t) = decide (t.val % 16 ≠ t.val / 16 % 16) :=
  (by decide +kernel : ∀ t : Fin grid0.N, idle0 4 (grid0.coords t) = decide (t.val % 16 ≠ t.val / 16 % 16))

/-- The result's buffer holds nothing of the present query block up to visit `last`. -/
theorem fresh0_4 (n : ℕ) (h : n ≤ cfg0.N) : cfg0.fresh 4 n = decide (n % 16 ≤ n / 16 % 16) := by
  refine Pipeline.Cfg.fresh_tab cfg0 4 (fun n => decide (n % 16 ≤ n / 16 % 16)) rfl (fun t => ?_) n h
  have hN : t.val < 1024 := lt_of_lt_of_eq t.isLt (show cfg0.N = 1024 from N_0)
  have hf := flush0_4 t
  rw [show cfg0.idle 4 (cfg0.grid.coords t) = _ from hidle0_4 t]
  cases hfl : (cfg0.win 4).flush t
  · rw [hfl] at hf
    have h7 : t.val % 16 ≠ 15 := fun e => Bool.false_ne_true (hf.mpr e)
    have h8 : (t.val + 1) / 16 = t.val / 16 := by omega
    simp only [Bool.false_or, ← Bool.decide_and, decide_eq_decide, h8]
    omega
  · rw [hfl] at hf
    have h7 : t.val % 16 = 15 := hf.mp rfl
    simp only [Bool.true_or, eq_comm (a := true), decide_eq_true_eq]
    omega

/-! ## The memory the body is run on -/

abbrev ms0_0 (t : Fin cfg0.N) : Memref sig .tc .vmem S1x256x512 .f32 := win0_0.stage (cfg0.slots t 0)
abbrev ms0_1 (t : Fin cfg0.N) : Memref sig .tc .vmem S1x256x128 .f32 := win0_1.stage (cfg0.slots t 1)
abbrev ms0_2 (t : Fin cfg0.N) : Memref sig .tc .vmem S1x256x128 .f32 := win0_2.stage (cfg0.slots t 2)
abbrev ms0_3 (t : Fin cfg0.N) : Memref sig .tc .vmem S256x128 .f32 := win0_3.stage (cfg0.slots t 3)
abbrev ms0_4 (t : Fin cfg0.N) : Memref sig .tc .vmem S1x256x512 .f32 := win0_4.stage (cfg0.slots t 4)
abbrev scM0_0 : Memref sig .tc .vmem S2x1024x64 .bf16 := Memref.whole cc0_scratch0
abbrev scM0_1 : Memref sig .tc .vmem S2x1024x1 .f32 := Memref.whole cc0_scratch1
abbrev scM0_2 : Memref sig .tc .vmem S2x1024x64 .f32 := Memref.whole cc0_scratch2

/-- What the launch hands the pipeline beside the windows: the scratch at any contents, and the generator's register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The state along the grid -/

/-- The state before point `n`. -/
def tr (c : Dev nD) : ℕ → St F
  | 0 => st0 (iblk m c 0 ⟨0, lt_of_lt_of_eq (by decide) N_0.symm⟩)
  | n + 1 => if h : n < cfg0.N then step (grid0.coords ⟨n, h⟩) (iblk m c 0 ⟨n, h⟩) (iblk m c 1 ⟨n, h⟩) (iblk m c 2 ⟨n, h⟩) (iblk m c 3 ⟨n, h⟩) (tr c n) else tr c n

/-- The result block before point `n`. -/
def og (c : Dev nD) : ℕ → Vec F S1x256x512 .f32
  | 0 => iblk m c 0 ⟨0, lt_of_lt_of_eq (by decide) N_0.symm⟩
  | n + 1 => if h : n < cfg0.N then outB (grid0.coords ⟨n, h⟩) (tr m c (n + 1)) (og c n) else og c n

theorem tr_succ (c : Dev nD) (t : Fin cfg0.N) :
    tr m c (t.val + 1) = step (grid0.coords t) (iblk m c 0 t) (iblk m c 1 t) (iblk m c 2 t) (iblk m c 3 t) (tr m c t.val) := by
  rw [tr, dif_pos t.isLt]

theorem og_succ (c : Dev nD) (t : Fin cfg0.N) : og m c (t.val + 1) = outB (grid0.coords t) (tr m c (t.val + 1)) (og m c t.val) := by
  rw [og, dif_pos t.isLt]

/-- Where a query block begins, the state before is forgotten. -/
theorem step_init (i : grid0.Coords) (x0 : Vec F S1x256x512 .f32) (x1 x2 : Vec F S1x256x128 .f32) (x3 : Vec F S256x128 .f32) (S S' : St F)
    (h : cond0_0 i) : step i x0 x1 x2 x3 S = step i x0 x1 x2 x3 S' := by
  unfold step stI; rw [if_pos h, if_pos h]

theorem og_idle (c : Dev nD) (t : Fin cfg0.N) (h : cfg0.idle 4 (grid0.coords t) = true) : og m c (t.val + 1) = og m c t.val := by
  rw [hidle0_4] at h
  rw [og_succ, outB, if_neg (fun e => of_decide_eq_true h ((hcond0_3 t).mp e))]

/-! ## The pipeline's proof data -/

/-- Between points: the scratch at the state, the generator's register at anything. -/
def heldAt (c : Dev nD) (n : ℕ) : sProp 𝕄 :=
  iprop(iprop(owns (c : Thread nD τ) scM0_0 fullShare (tr m c n).q ∗ owns (c : Thread nD τ) scM0_1 fullShare (tr m c n).r ∗ owns (c : Thread nD τ) scM0_2 fullShare (tr m c n).a) ∗ (∃ r, prngReg c r))

def PhiS (c : Dev nD) : (n : ℕ) → n ≤ cfg0.N → sProp 𝕄
  | 0, _ => Pipeline.ΦA spec0 c
  | n + 1, _ => heldAt m c (n + 1)

theorem PhiS_pos (c : Dev nD) (n : ℕ) (h : n ≤ cfg0.N) (hz : n ≠ 0) : PhiS m c n h = heldAt m c n := by
  cases n with
  | zero => exact absurd rfl hz
  | succ n => rfl

theorem PhiS_zero (c : Dev nD) (n : ℕ) (h : n ≤ cfg0.N) (hz : n = 0) : PhiS m c n h = Pipeline.ΦA spec0 c := by
  subst hz; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => og m c (t.val + 1)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_4 (c : Dev nD) (t : Fin cfg0.N) : (dats m 0 c).after 4 t = og m c (t.val + 1) := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Past visit `last` the result's buffer holds what visit `last` stored. -/
theorem before0_4 (c : Dev nD) (t : Fin cfg0.N) (d) (hf : cfg0.fresh 4 t.val = false) : (dats m 0 c).before 4 t d = og m c t.val := by
  have hz : t.val ≠ 0 := fun e => by
    rw [e, Pipeline.Cfg.fresh_zero] at hf; exact Bool.false_ne_true hf.symm
  rw [(dats m 0 c).before_out_traj 4 rfl (fun _ _ => rfl) (fun u hu hi _ => ?_) t.val t rfl d, hf, if_neg Bool.false_ne_true, after0_4]
  · exact congrArg (og m c) (Nat.sub_add_cancel (Nat.pos_of_ne_zero hz))
  · rw [after0_4, after0_4, og_idle m c u hi]
    exact congrArg (og m c) (Nat.sub_add_cancel (Nat.pos_of_ne_zero hu)).symm

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at a point from a state `S` whose step is the next one. -/
theorem body_at (c : Dev nD) (t : Fin cfg0.N) (o : Vec F S1x256x512 .f32) (S : St F)
    (hS : step (grid0.coords t) (iblk m c 0 t) (iblk m c 1 t) (iblk m c 2 t) (iblk m c 3 t) S = tr m c (t.val + 1)) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t) ∗ owns (c : Thread nD τ) (ms0_4 t) fullShare o
        ∗ owns (c : Thread nD τ) scM0_0 fullShare (S).q ∗ owns (c : Thread nD τ) scM0_1 fullShare (S).r ∗ owns (c : Thread nD τ) scM0_2 fullShare (S).a
        ∗ (iprop(owns (c : Thread nD τ) (ms0_0 t) fullShare (iblk m c 0 t) ∗ owns (c : Thread nD τ) (ms0_1 t) fullShare (iblk m c 1 t)
            ∗ owns (c : Thread nD τ) (ms0_2 t) fullShare (iblk m c 2 t)
            ∗ owns (c : Thread nD τ) (ms0_3 t) fullShare (iblk m c 3 t)
            ∗ owns (c : Thread nD τ) (ms0_4 t) fullShare (outB (grid0.coords t) (tr m c (t.val + 1)) o)
            ∗ owns (c : Thread nD τ) scM0_0 fullShare (tr m c (t.val + 1)).q ∗ owns (c : Thread nD τ) scM0_1 fullShare (tr m c (t.val + 1)).r ∗ owns (c : Thread nD τ) scM0_2 fullShare (tr m c (t.val + 1)).a) -∗ K ⟨⟩))
      ⊢ wp frame (wpE (defs₀ (F := F)) Variants.none c none) Set.univ (bodyAt0 t) K := by
  rw [← hS]
  unfold bodyAt0
  exact body_run c (grid0.coords t) _ _ _ _ _ _ _ _ _ _ _ _ _ _ _ _ (iblk m c 0 t) (iblk m c 1 t) (iblk m c 2 t) (iblk m c 3 t) o S Set.univ K

/-- What the body leaves in the result's buffer is what the pipeline asks. -/
theorem leaves0_4 (c : Dev nD) (t : Fin cfg0.N) (d) :
    owns (c : Thread nD τ) (ms0_4 t) fullShare (outB (grid0.coords t) (tr m c (t.val + 1)) ((dats m 0 c).before 4 t d))
      ⊢ ((dats m 0 c).leavesExact 4 t : sProp 𝕄) := by
  have hN : t.val < 1024 := lt_of_lt_of_eq t.isLt (show cfg0.N = 1024 from N_0)
  cases hi : cfg0.idle 4 (grid0.coords t)
  · have h3 : cond0_3 (grid0.coords t) := by
      rw [hidle0_4] at hi
      exact (hcond0_3 t).mpr (not_not.mp (of_decide_eq_false hi))
    unfold Dat.leavesExact
    rw [show cfg0.idle 4 (cfg0.grid.coords t) = false from hi]
    rw [after0_4, og_succ, outB, outB, if_pos h3, if_pos h3]
  · have h3 : ¬ cond0_3 (grid0.coords t) := by
      rw [hidle0_4] at hi
      exact fun e => of_decide_eq_true hi ((hcond0_3 t).mp e)
    rw [outB, if_neg h3]
    cases hf : (cfg0.win 4).flush t
    · rw [(dats m 0 c).leavesExact_idle 4 t hi hf]
      iintro H
      iexists d
      iexact H
    · unfold Dat.leavesExact
      rw [show cfg0.idle 4 (cfg0.grid.coords t) = true from hi, hf]
      have h7 := (flush0_4 t).mp hf
      have hfr : cfg0.fresh 4 t.val = false := by
        rw [fresh0_4 _ (Nat.le_of_lt t.isLt)]
        rw [hidle0_4] at hi
        have := of_decide_eq_true hi
        exact decide_eq_false (by omega)
      rw [before0_4 m c t d hfr, after0_4, og_idle m c t hi]

set_option maxHeartbeats 4000000 in
/-- The body from a state `S`, its post the pipeline's. -/
theorem body_post (c : Dev nD) (t : Fin cfg0.N) (S : St F)
    (hS : step (grid0.coords t) (iblk m c 0 t) (iblk m c 1 t) (iblk m c 2 t) (iblk m c 3 t) S = tr m c (t.val + 1)) :
    iprop(iprop(iprop(owns (c : Thread nD τ) scM0_0 fullShare (S).q ∗ owns (c : Thread nD τ) scM0_1 fullShare (S).r ∗ owns (c : Thread nD τ) scM0_2 fullShare (S).a) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
      ⊢ wp frame (wpE (defs₀ (F := F)) Variants.none c none) Set.univ (bodyAt0 t) (fun _ => bodyPost m c t) := by
  unfold bodyPost
  simp only [before0_0, before0_1, before0_2, before0_3]
  rw [show (dats m 0 c).owesAt () t.succ = (dats m 0 c).owesAt () t.castSucc from rfl]
  rw [show (dats m 0 c).Φ t.succ = heldAt m c (t.val + 1) from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  unfold heldAt
  iintro ⟨⟨⟨HS0, HS1, HS2⟩, Hg⟩, Ho, ⟨%d0, H0⟩, ⟨%d1, H1⟩, ⟨%d2, H2⟩, ⟨%d3, H3⟩, ⟨%d4, H4⟩⟩
  iapply (body_at m c t ((dats m 0 c).before 4 t d4) S hS _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iapply (leaves0_4 m c t d4)
  iexact H4

/-- The body at any point: at the first from whatever the scratch holds, elsewhere from the state. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  by_cases hz : t.val = 0
  · rw [PhiS_zero m c _ _ hz, PhiA0_eq]
    iintro ⟨⟨⟨⟨%e0, HS0⟩, ⟨%e1, HS1⟩, ⟨%e2, HS2⟩⟩, Hg⟩, Hr⟩
    iapply (body_post m c t ⟨e0, e1, e2⟩
      ((step_init _ _ _ _ _ _ _ ((hcond0_0 t).mpr (by rw [hz]))).trans (tr_succ m c t).symm))
    isplitl [HS0 HS1 HS2 Hg]
    · isplitl [HS0 HS1 HS2]
      · isplitl [HS0]; · iexact HS0
        isplitl [HS1]; · iexact HS1
        iexact HS2
      iexact Hg
    iexact Hr
  · rw [PhiS_pos m c _ _ hz]
    exact body_post m c t (tr m c t.val) (tr_succ m c t).symm

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 1024 := N_0; omega), PhiA0_eq, heldAt]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every execution ends with the arrays at the proof data's contents and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame at any float values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run _ _ _).mono (fun _ h => h.1) (run_all m ρ)))
    ((θ_run _ _ _).mono (fun _ h => h.2) (run_all m ρ))

end Cert.Kernel7Ideal.Att
-- ==== Proof.SbSame.lean ====
/- The stick-breaking kernel as printed and its idealization are one text: their body tables are equal. -/
module

public import proofs.«01_k».proof.Proof.Gen.Kernel7
public import proofs.«01_k».proof.Proof.Gen.Kernel7Ideal
public import Idealize.ShloMosaic.PureOps.BitExact

@[expose] public section

set_option maxRecDepth 16384

namespace Cert.Same7

open Idealize.ShloMosaic Idealize.SL.Sem

theorem defs₀_eq : Cert.Kernel7.defs₀ (F := Bits) = Cert.Kernel7Ideal.defs₀ (F := Bits) := by
  unfold Cert.Kernel7.defs₀ Cert.Kernel7Ideal.defs₀
  refine congrArg _ (funext fun l => funext fun a => ?_)
  match l, a with
  | ⟨0, _⟩, (t, s) => rfl
  | ⟨n + 1, h⟩, _ => exact absurd h (Nat.not_lt.2 (Nat.le_add_left _ _))

theorem defs_eq : Cert.Kernel7.defs (F := Bits) = Cert.Kernel7Ideal.defs (F := Bits) := by
  unfold Cert.Kernel7.defs Cert.Kernel7Ideal.defs
  rw [defs₀_eq]
  rfl

end Cert.Same7

end
-- ==== Proof.SbMath.lean ====
/- The arithmetic of the stick-breaking weights over the extended reals: the logarithm of what a key leaves, and the sums of
   such logarithms over the keys after a given one. -/
module

public import Idealize.ShloMosaic.PureOps.Ideal

@[expose] public section

noncomputable section

namespace Cert.Sb

open Idealize.ShloMosaic

/-- The logarithm of one plus the exponential of minus a number's size. -/
def lam (z : EReal) : EReal := Ideal.log (1 + Ideal.exp (-max z (-z)))

/-- The logarithm of what a key of score `z` leaves of the stick, -/
def nl (z : EReal) : EReal := -(max z 0 + lam z)

/-- and of what it takes. -/
def ls (z : EReal) : EReal := -(max (-z) 0 + lam (-z))

theorem lam_neg (z : EReal) : lam (-z) = lam z := by
  unfold lam; rw [neg_neg, max_comm]

theorem coe_max (x y : ℝ) : ((max x y : ℝ) : EReal) = max (x : EReal) (y : EReal) := EReal.coe_strictMono.monotone.map_max

theorem log_one : Ideal.log (1 + 0) = 0 := by
  rw [add_zero]
  show (if (1 : ℝ) ≤ 0 then ⊥ else ((Real.log 1 : ℝ) : EReal)) = 0
  rw [if_neg (by norm_num), Real.log_one, EReal.coe_zero]

theorem lam_top : lam ⊤ = 0 := by
  unfold lam
  rw [EReal.neg_top, max_eq_left bot_le, EReal.neg_top]
  exact log_one

theorem lam_bot : lam ⊥ = 0 := by rw [← EReal.neg_top, lam_neg, lam_top]

theorem lam_real (x : ℝ) : ∃ r : ℝ, lam x = r := by
  refine ⟨Real.log (1 + Real.exp (-max x (-x))), ?_⟩
  have h : (1 : EReal) + Ideal.exp (-max (x : EReal) (-(x : EReal))) = ((1 + Real.exp (-max x (-x)) : ℝ) : EReal) := by
    rw [← EReal.coe_neg, ← coe_max, ← EReal.coe_neg, EReal.coe_add, EReal.coe_one]
    rfl
  have hp : ¬(1 + Real.exp (-max x (-x)) ≤ 0) := not_le.2 (by positivity)
  unfold lam
  rw [h]
  show (if 1 + Real.exp (-max x (-x)) ≤ 0 then ⊥ else ((Real.log (1 + Real.exp (-max x (-x))) : ℝ) : EReal)) = _
  rw [if_neg hp]

theorem nl_top : nl ⊤ = ⊥ := by
  unfold nl
  rw [lam_top, add_zero, max_eq_left le_top, EReal.neg_top]

theorem nl_real {z : EReal} (h : z ≠ ⊤) : ∃ r : ℝ, nl z = r := by
  induction z with
  | top => exact absurd rfl h
  | bot => exact ⟨0, by unfold nl; rw [lam_bot, max_eq_right bot_le, add_zero, neg_zero]; rfl⟩
  | coe x =>
    obtain ⟨r, hr⟩ := lam_real x
    refine ⟨-(max x 0 + r), ?_⟩
    unfold nl
    rw [hr, ← EReal.coe_zero, ← coe_max, ← EReal.coe_add, ← EReal.coe_neg]

theorem nl_ne_top (z : EReal) : nl z ≠ ⊤ := by
  by_cases h : z = ⊤
  · rw [h, nl_top]; exact bot_ne_top
  · obtain ⟨r, hr⟩ := nl_real h
    rw [hr]; exact EReal.coe_ne_top r

theorem ls_eq {z : EReal} (h : z ≠ ⊤) : ls z = z + nl z := by
  unfold ls nl
  rw [lam_neg]
  induction z with
  | top => exact absurd rfl h
  | bot => rw [lam_bot, EReal.neg_bot, max_eq_left le_top, EReal.bot_add, add_zero, EReal.neg_top]
  | coe x =>
    obtain ⟨r, hr⟩ := lam_real x
    rw [hr, ← EReal.coe_zero, ← EReal.coe_neg, ← coe_max, ← coe_max, ← EReal.coe_add, ← EReal.coe_add, ← EReal.coe_neg, ← EReal.coe_neg, ← EReal.coe_add]
    refine congrArg _ ?_
    rcases le_total x 0 with hx | hx
    · rw [max_eq_left (by linarith), max_eq_right hx]; ring
    · rw [max_eq_right (by linarith), max_eq_left hx]; ring

/-- The two exponents: the kernel's, and the reference's, which takes the sum from the key on and subtracts the key's own part. -/
theorem expo_eq (z S : EReal) : z + nl z + S = ls z + (nl z + S - nl z) := by
  by_cases h : z = ⊤
  · rw [h, nl_top, EReal.bot_add, sub_eq_add_neg, EReal.bot_add, EReal.add_bot, EReal.add_bot, EReal.bot_add]
  · obtain ⟨r, hr⟩ := nl_real h
    rw [ls_eq h, hr]
    refine congrArg (z + ↑r + ·) ?_
    induction S with
    | bot => rw [EReal.add_bot, sub_eq_add_neg, EReal.bot_add]
    | top => rw [EReal.coe_add_top, EReal.top_sub_coe]
    | coe s => rw [← EReal.coe_add, ← EReal.coe_sub]; exact congrArg _ (by ring)

/-- A number no more than finite and its remainder below its own rounding. -/
theorem resid {x : EReal} (h : x ≠ ⊤) : x + (x - x) = x := by
  induction x with
  | top => exact absurd rfl h
  | bot => rw [EReal.bot_add]
  | coe r => rw [← EReal.coe_sub, ← EReal.coe_add]; exact congrArg _ (by ring)

/-! ## Blocks of 128 keys -/

/-- The key of row `l` of block `n`. -/
def key (n : ℕ) (hn : n < 32) : Fin 128 ↪ Fin 4096 :=
  ⟨fun l => ⟨n * 128 + l.val, by omega⟩, fun a b e => Fin.ext (by have := congrArg Fin.val e; simp only at this; omega)⟩

/-- The keys from block `n` on. -/
def from_ (n : ℕ) : Finset (Fin 4096) := Finset.univ.filter fun k => n * 128 ≤ k.val

/-- The keys after a key. -/
def gt (k : Fin 4096) : Finset (Fin 4096) := Finset.univ.filter fun l => k < l

theorem from_zero : from_ 0 = Finset.univ := by simp [from_]

theorem mem_blk (n : ℕ) (hn : n < 32) (k : Fin 4096) : k ∈ Finset.univ.map (key n hn) ↔ n * 128 ≤ k.val ∧ k.val < n * 128 + 128 := by
  simp only [Finset.mem_map, Finset.mem_univ, true_and]
  constructor
  · rintro ⟨l, rfl⟩
    show n * 128 ≤ n * 128 + l.val ∧ n * 128 + l.val < n * 128 + 128
    omega
  · intro hk
    exact ⟨⟨k.val - n * 128, by omega⟩, Fin.ext (show n * 128 + (k.val - n * 128) = k.val by omega)⟩

/-- A sum over the keys from block `n` on, block `n` apart. -/
theorem sum_from (n : ℕ) (hn : n < 32) (f : Fin 4096 → EReal) : ∑ k ∈ from_ n, f k = (∑ k ∈ from_ (n + 1), f k) + ∑ l : Fin 128, f (key n hn l) := by
  have hu : from_ n = from_ (n + 1) ∪ Finset.univ.map (key n hn) := by
    ext k
    rw [Finset.mem_union, mem_blk]
    simp only [from_, Finset.mem_filter, Finset.mem_univ, true_and]
    omega
  have hd : Disjoint (from_ (n + 1)) (Finset.univ.map (key n hn)) := by
    rw [Finset.disjoint_left]
    intro k hk
    rw [mem_blk]
    simp only [from_, Finset.mem_filter, Finset.mem_univ, true_and] at hk
    omega
  rw [hu, Finset.sum_union hd, Finset.sum_map]

/-- The later rows of a block, and the later blocks, are the later keys. -/
theorem sum_gt (n : ℕ) (hn : n < 32) (f : Fin 4096 → EReal) (j : Fin 128) :
    (∑ l : Fin 128, if j < l then f (key n hn l) else 0) + ∑ k ∈ from_ (n + 1), f k = ∑ k ∈ gt (key n hn j), f k := by
  have hu : gt (key n hn j) = (Finset.univ.filter fun l => j < l).map (key n hn) ∪ from_ (n + 1) := by
    ext k
    simp only [Finset.mem_union, Finset.mem_map, gt, from_, Finset.mem_filter, Finset.mem_univ, true_and]
    constructor
    · intro hk
      have hk' : n * 128 + j.val < k.val := hk
      by_cases h : (n + 1) * 128 ≤ k.val
      · exact Or.inr h
      · exact Or.inl ⟨⟨k.val - n * 128, by omega⟩, show j.val < k.val - n * 128 by omega, Fin.ext (show n * 128 + (k.val - n * 128) = k.val by omega)⟩
    · rintro (⟨l, hl, rfl⟩ | h)
      · have hl' : j.val < l.val := hl
        show n * 128 + j.val < n * 128 + l.val
        omega
      · show n * 128 + j.val < k.val
        omega
  have hd : Disjoint ((Finset.univ.filter fun l => j < l).map (key n hn)) (from_ (n + 1)) := by
    rw [Finset.disjoint_left]
    intro k hk hk'
    simp only [Finset.mem_map, from_, Finset.mem_filter, Finset.mem_univ, true_and] at hk hk'
    obtain ⟨l, _, rfl⟩ := hk
    have : (n + 1) * 128 ≤ n * 128 + l.val := hk'
    omega
  rw [hu, Finset.sum_union hd, Finset.sum_map, Finset.sum_filter]

/-- The first row and the rows after it are the block. -/
theorem sum_first (g : Fin 128 → EReal) : (∑ l : Fin 128, if 0 < l then g l else 0) + g 0 = ∑ l : Fin 128, g l := by
  rw [Fin.sum_univ_succ (f := g), Fin.sum_univ_succ, if_neg (lt_irrefl _), zero_add, add_comm]
  exact congrArg (g 0 + ·) (Finset.sum_congr rfl fun l _ => if_pos (Fin.succ_pos l))

/-- A key and the keys after it. -/
theorem sum_ge (f : Fin 4096 → EReal) (j : Fin 4096) : (∑ k : Fin 4096, if j ≤ k then f k else 0) = f j + ∑ k ∈ gt j, f k := by
  have hu : (Finset.univ.filter fun k => j ≤ k) = insert j (gt j) := by
    ext k
    simp only [Finset.mem_insert, gt, Finset.mem_filter, Finset.mem_univ, true_and]
    rw [le_iff_eq_or_lt]
    exact or_congr_left eq_comm
  rw [← Finset.sum_filter, hu, Finset.sum_insert (by simp [gt])]

/-- The logarithms of what the keys before position `p` leave, the scores being `z`; the other keys leave everything, -/
def L (z : Fin 4096 → EReal) (p : ℕ) (k : Fin 4096) : EReal := if k.val < p then nl (z k) else 0

/-- and their weights. -/
def W (z : Fin 4096 → EReal) (p : ℕ) (k : Fin 4096) : EReal := if k.val < p then Ideal.exp (z k + nl (z k) + ∑ l ∈ gt k, L z p l) else 0

/-- No key from block `n` on is before the position. -/
theorem sum_L_none (z : Fin 4096 → EReal) {p n : ℕ} (h : p ≤ n * 128) : ∑ k ∈ from_ n, L z p k = 0 :=
  Finset.sum_eq_zero fun k hk => by
    simp only [from_, Finset.mem_filter, Finset.mem_univ, true_and] at hk
    exact if_neg (by omega)

theorem sum_W_none (z v : Fin 4096 → EReal) {p n : ℕ} (h : p ≤ n * 128) : ∑ k ∈ from_ n, W z p k * v k = 0 :=
  Finset.sum_eq_zero fun k hk => by
    simp only [from_, Finset.mem_filter, Finset.mem_univ, true_and] at hk
    rw [W, if_neg (by omega), zero_mul]

end Cert.Sb

end
-- ==== Proof.SbPoint.lean ====
/- What the stick-breaking attention computes from half a block of keys, read at an index at the ideal instance. -/
module

public import proofs.«01_k».proof.Proof.SbBody
public import proofs.«01_k».proof.Proof.SbMath
public import Idealize.ShloMosaic.Lib.Pointwise
public import Idealize.ShloMosaic.Lib.WordCmp

@[expose] public section

set_option maxRecDepth 16384

noncomputable section

namespace Cert.Kernel7Ideal.Val

open Idealize.ShloMosaic Idealize.SL.Sem Cert.Kernel7Ideal.Gen Cert.Sb

theorem att_ix3 {a b c : ℕ} (i : Fin a) (j : Fin b) (k : Fin c) : Cert.KernelIdeal.Att.ix3 i j k = ix3 i j k := by
  funext e
  match e with
  | ⟨0, _⟩ => rfl
  | ⟨1, _⟩ => rfl
  | ⟨2, _⟩ => rfl

theorem hd_at {α : Type} {a b : ℕ} (x : (⟨3, ![2, a, b]⟩ : Shape).Idx → α) (h : Fin 2) (u : Fin 1) (i : Fin a) (j : Fin b) :
    Att.hd x h (ix3 u i j) = x (ix3 h i j) := congrArg x (att_ix3 _ _ _)

theorem hput_at {α : Type} {a b : ℕ} (G : Fin 2 → (⟨3, ![1, a, b]⟩ : Shape).Idx → α) (h : Fin 2) (i : Fin a) (j : Fin b) :
    Att.hput G (ix3 h i j) = G h (ix3 0 i j) := congrArg (G h) (att_ix3 _ _ _)

theorem kd_at {α : Type} (x : (⟨3, ![1, 256, 128]⟩ : Shape).Idx → α) (h s : Fin 2) (l : Fin 128) (d : Fin 64) :
    Att.kd x h s (ix3 0 l d) = x (ix3 0 ⟨s.val * 128 + l.val, by omega⟩ ⟨h.val * 64 + d.val, by omega⟩) := congrArg x (att_ix3 _ _ _)

theorem zS_at (q : FVec Ideal S1024x64 .bf16) (k : FVec Ideal S1x128x64 .f32) (r : Fin 1024) (l : Fin 128) :
    Att.zS (F := Ideal) q k (ix2 r l) = ∑ d : Fin 64, q (ix2 r d) * k (ix3 0 l d) := by
  pointwise [Att.zS]

theorem nlS_at (z : FVec Ideal S1024x128 .f32) (r : Fin 1024) (l : Fin 128) : Att.nlS z (ix2 r l) = nl (z (ix2 r l)) := by
  pointwise [Att.nlS, Att.cst]
  simp only [nl, lam, zero_sub]
  rfl

/-- Where a mask is set. -/
def on (mk : Option (IVec S1024x128 1)) (i : S1024x128.Idx) : Prop :=
  match mk with
  | none => True
  | some m => m i = 1#1

theorem keep_at (mk : Option (IVec S1024x128 1)) (x : FVec Ideal S1024x128 .f32) (i : S1024x128.Idx) (P : Prop) [Decidable P] (h : on mk i ↔ P) :
    Att.keep mk x i = if P then x i else 0 := by
  match mk with
  | none => exact (if_pos (h.1 trivial)).symm
  | some m =>
    show (if m i = 1#1 then x i else Ideal.ofBits .f32 0x00000000#32) = _
    have h' : m i = 1#1 ↔ P := h
    by_cases hp : P
    · rw [if_pos hp, if_pos (h'.2 hp)]
    · rw [if_neg hp, if_neg (fun e => hp (h'.1 e))]
      simp [Ideal.ofBits, Ideal.ieee]

/-- The table of later rows, twice. -/
def Tri (tri : FVec Ideal S256x128 .f32) : Prop :=
  ∀ (k : Fin 128) (j : Fin 128), tri (ix2 ⟨k.val, by omega⟩ j) = (if j < k then 1 else 0) ∧ tri (ix2 ⟨128 + k.val, by omega⟩ j) = (if j < k then 1 else 0)

theorem aftS_at {tri : FVec Ideal S256x128 .f32} (ht : Tri tri) (l : FVec Ideal S1024x128 .f32) (r : Fin 1024) (hl : ∀ k, l (ix2 r k) ≠ ⊤) (j : Fin 128) :
    Att.aftS tri l (ix2 r j) = ∑ k : Fin 128, if j < k then l (ix2 r k) else 0 := by
  pointwise [Att.aftS]
  rw [← Finset.sum_add_distrib]
  refine Finset.sum_congr rfl fun k _ => ?_
  rw [(ht k j).1, (ht k j).2]
  by_cases hj : j < k
  · simp only [if_pos hj, mul_one]
    exact resid (hl k)
  · simp only [if_neg hj, mul_zero, add_zero]

/-- The running sum after half a block, row by row. -/
theorem subR_at (mk : Option (IVec S1024x128 1)) {tri : FVec Ideal S256x128 .f32} (ht : Tri tri) (q : FVec Ideal S1024x64 .bf16) (k : FVec Ideal S1x128x64 .f32)
    (r : FVec Ideal S1024x1 .f32) (i : Fin 1024) (z : Fin 128 → EReal) (hz : ∀ l, ∑ d : Fin 64, q (ix2 i d) * k (ix3 0 l d) = z l)
    (P : Fin 128 → Prop) [DecidablePred P] (hP : ∀ l, on mk (ix2 i l) ↔ P l) :
    Att.subR (F := Ideal) mk tri q k r (ix2 i 0) = r (ix2 i 0) + ∑ l : Fin 128, if P l then nl (z l) else 0 := by
  have hl : ∀ l, Att.lS (F := Ideal) mk q k (ix2 i l) = if P l then nl (z l) else 0 := fun l => by
    rw [Att.lS, keep_at mk _ _ (P l) (hP l), nlS_at, zS_at, hz]
  have hn : ∀ l, Att.lS (F := Ideal) mk q k (ix2 i l) ≠ ⊤ := fun l => by
    rw [hl]
    split
    · exact nl_ne_top _
    · exact EReal.zero_ne_top
  have ha := aftS_at ht (Att.lS (F := Ideal) mk q k) i hn 0
  rw [Att.subR]
  generalize Att.aftS tri (Att.lS (F := Ideal) mk q k) = A at ha ⊢
  generalize Att.lS (F := Ideal) mk q k = L at ha hl ⊢
  pointwise
  have e0 : A (ix2 i 0) + L (ix2 i 0) = ∑ l : Fin 128, L (ix2 i l) := by
    rw [ha]
    exact sum_first fun l => L (ix2 i l)
  rw [add_assoc]
  refine congrArg (r (ix2 i 0) + ·) (e0.trans (Finset.sum_congr rfl fun l _ => hl l))

/-- The accumulator after half a block, row by row. -/
theorem subA_at (mk : Option (IVec S1024x128 1)) {tri : FVec Ideal S256x128 .f32} (ht : Tri tri) (q : FVec Ideal S1024x64 .bf16) (k v : FVec Ideal S1x128x64 .f32)
    (r : FVec Ideal S1024x1 .f32) (a : FVec Ideal S1024x64 .f32) (i : Fin 1024) (z : Fin 128 → EReal) (hz : ∀ l, ∑ d : Fin 64, q (ix2 i d) * k (ix3 0 l d) = z l)
    (P : Fin 128 → Prop) [DecidablePred P] (hP : ∀ l, on mk (ix2 i l) ↔ P l) (e : Fin 64) :
    Att.subA (F := Ideal) mk tri q k v r a (ix2 i e) = a (ix2 i e) + ∑ l : Fin 128, (if P l then
      Ideal.exp (z l + nl (z l) + ((∑ j : Fin 128, if l < j then (if P j then nl (z j) else 0) else 0) + r (ix2 i 0))) else 0) * v (ix3 0 l e) := by
  have hl : ∀ l, Att.lS (F := Ideal) mk q k (ix2 i l) = if P l then nl (z l) else 0 := fun l => by
    rw [Att.lS, keep_at mk _ _ (P l) (hP l), nlS_at, zS_at, hz]
  have hn : ∀ l, Att.lS (F := Ideal) mk q k (ix2 i l) ≠ ⊤ := fun l => by
    rw [hl]
    split
    · exact nl_ne_top _
    · exact EReal.zero_ne_top
  have ha : ∀ l, Att.aftS tri (Att.lS (F := Ideal) mk q k) (ix2 i l) = ∑ j : Fin 128, if l < j then (if P j then nl (z j) else 0) else 0 := fun l =>
    (aftS_at ht (Att.lS (F := Ideal) mk q k) i hn l).trans (Finset.sum_congr rfl fun j _ => by rw [hl])
  have hZ : ∀ l, Att.zS (F := Ideal) q k (ix2 i l) = z l := fun l => (zS_at q k i l).trans (hz l)
  have hw : ∀ l, Att.aS (F := Ideal) mk tri q k r (ix2 i l) = if P l then
      Ideal.exp (z l + nl (z l) + ((∑ j : Fin 128, if l < j then (if P j then nl (z j) else 0) else 0) + r (ix2 i 0))) else 0 := fun l => by
    rw [Att.aS, keep_at mk _ _ (P l) (hP l)]
    by_cases hp : P l
    · rw [if_pos hp, if_pos hp]
      have h1 := hl l
      have h2 := ha l
      have h3 := hZ l
      generalize Att.aftS tri (Att.lS (F := Ideal) mk q k) = A at h2 ⊢
      generalize Att.lS (F := Ideal) mk q k = L at h1 ⊢
      generalize Att.zS (F := Ideal) q k = Z at h3 ⊢
      pointwise
      rw [h1, h2, h3, if_pos hp, add_assoc]
    · rw [if_neg hp, if_neg hp]
  rw [Att.subA]
  generalize Att.aS (F := Ideal) mk tri q k r = W at hw ⊢
  pointwise
  refine congrArg (a (ix2 i e) + ·) (Finset.sum_congr rfl fun l _ => ?_)
  rw [hw]

theorem k0_pay26_at (i : Fin 1024) (l : Fin 128) : k0_pay26 (ix2 i l) = 1#1 ↔ 128 + l.val < i.val % 256 := by
  pointwise [k0_pay26]
  generalize hw : Scalar.select (IntOp.andi _ _) _ _ = w
  have hw' : w = BitVec.ofNat 32 (i.val % 256) := by
    rw [← hw]
    clear hw w l
    revert i
    decide +kernel
  rw [hw', WordCmp.addi_ofNat, WordCmp.cmpi_slt_ofNat (by omega) (by omega), WordCmp.ofBool_decide_eq_one_iff]
  omega

theorem k0_pay57_at (i : Fin 1024) (l : Fin 128) : k0_pay57 (ix2 i l) = 1#1 ↔ l.val < i.val % 256 := by
  pointwise [k0_pay57]
  generalize hw : Scalar.select (IntOp.andi _ _) _ _ = w
  have hw' : w = BitVec.ofNat 32 (i.val % 256) := by
    rw [← hw]
    clear hw w l
    revert i
    decide +kernel
  rw [hw', WordCmp.addi_ofNat, WordCmp.cmpi_slt_ofNat (by omega) (by omega), WordCmp.ofBool_decide_eq_one_iff]
  omega

theorem mD_on (s : Fin 2) (i : Fin 1024) (l : Fin 128) : on (Att.mD s) (ix2 i l) ↔ s.val * 128 + l.val < i.val % 256 := by
  match s with
  | 0 =>
    refine (k0_pay57_at i l).trans ?_
    show _ ↔ 0 * 128 + l.val < _
    omega
  | 1 =>
    refine (k0_pay26_at i l).trans ?_
    show _ ↔ 1 * 128 + l.val < _
    omega

/-- Half a block, the running sum being over the later keys. -/
theorem halfR (mk : Option (IVec S1024x128 1)) {tri : FVec Ideal S256x128 .f32} (ht : Tri tri) (q : FVec Ideal S1024x64 .bf16) (k : FVec Ideal S1x128x64 .f32)
    (r : FVec Ideal S1024x1 .f32) (i : Fin 1024) (z : Fin 4096 → EReal) (p : ℕ) (n : ℕ) (hn : n < 32)
    (hz : ∀ l, ∑ d : Fin 64, q (ix2 i d) * k (ix3 0 l d) = z (key n hn l)) (hP : ∀ l, on mk (ix2 i l) ↔ (key n hn l).val < p)
    (hr : r (ix2 i 0) = ∑ k ∈ from_ (n + 1), L z p k) :
    Att.subR (F := Ideal) mk tri q k r (ix2 i 0) = ∑ k ∈ from_ n, L z p k := by
  rw [subR_at mk ht q k r i _ hz _ hP, hr, sum_from n hn]
  rfl

theorem halfA (mk : Option (IVec S1024x128 1)) {tri : FVec Ideal S256x128 .f32} (ht : Tri tri) (q : FVec Ideal S1024x64 .bf16) (k v : FVec Ideal S1x128x64 .f32)
    (r : FVec Ideal S1024x1 .f32) (a : FVec Ideal S1024x64 .f32) (i : Fin 1024) (z : Fin 4096 → EReal) (p : ℕ) (n : ℕ) (hn : n < 32)
    (hz : ∀ l, ∑ d : Fin 64, q (ix2 i d) * k (ix3 0 l d) = z (key n hn l)) (hP : ∀ l, on mk (ix2 i l) ↔ (key n hn l).val < p)
    (hr : r (ix2 i 0) = ∑ k ∈ from_ (n + 1), L z p k) (e : Fin 64) (V : Fin 4096 → EReal) (hv : ∀ l, v (ix3 0 l e) = V (key n hn l))
    (ha : a (ix2 i e) = ∑ k ∈ from_ (n + 1), W z p k * V k) :
    Att.subA (F := Ideal) mk tri q k v r a (ix2 i e) = ∑ k ∈ from_ n, W z p k * V k := by
  rw [subA_at mk ht q k v r a i _ hz _ hP, ha, sum_from n hn]
  refine congrArg (_ + ·) (Finset.sum_congr rfl fun l _ => ?_)
  rw [hv, hr, W, ← sum_gt n hn]
  rfl

theorem pay21_at (x : FVec Ideal S256x128 .f32) (k : Fin 256) (j : Fin 128) : k0_pay21 (F := Ideal) x (ix2 k j) = x (ix2 k j) := by
  pointwise [k0_pay21]

theorem pay22_at (x : FVec Ideal S2x1024x64 .bf16) (h : Fin 2) (i : Fin 1024) (d : Fin 64) : k0_pay22 (F := Ideal) (Att.hd x h) (ix2 i d) = x (ix3 h i d) := by
  pointwise [k0_pay22, hd_at]

theorem pay23_at (x : FVec Ideal S2x1024x1 .f32) (h : Fin 2) (i : Fin 1024) : k0_pay23 (F := Ideal) (Att.hd x h) (ix2 i 0) = x (ix3 h i 0) := by
  pointwise [k0_pay23, hd_at]

theorem pay24_at (x : FVec Ideal S2x1024x64 .f32) (h : Fin 2) (i : Fin 1024) (e : Fin 64) : k0_pay24 (F := Ideal) (Att.hd x h) (ix2 i e) = x (ix3 h i e) := by
  pointwise [k0_pay24, hd_at]

theorem stR_at (m : Fin 2 → Option (IVec S1024x128 1)) (x1 : FVec Ideal S1x256x128 .f32) (x3 : FVec Ideal S256x128 .f32) (q : FVec Ideal S2x1024x64 .bf16) (r : FVec Ideal S2x1024x1 .f32)
    (h : Fin 2) (i : Fin 1024) : Att.stR (F := Ideal) m x1 x3 q r (ix3 h i 0) = Att.nR (F := Ideal) m x1 x3 q r h (ix2 i 0) := by
  rw [Att.stR, hput_at]
  pointwise

theorem stA_at (m : Fin 2 → Option (IVec S1024x128 1)) (x1 x2 : FVec Ideal S1x256x128 .f32) (x3 : FVec Ideal S256x128 .f32) (q : FVec Ideal S2x1024x64 .bf16) (r : FVec Ideal S2x1024x1 .f32)
    (a : FVec Ideal S2x1024x64 .f32) (h : Fin 2) (i : Fin 1024) (e : Fin 64) :
    Att.stA (F := Ideal) m x1 x2 x3 q r a (ix3 h i e) = Att.nA (F := Ideal) m x1 x2 x3 q r a h (ix2 i e) := by
  rw [Att.stA, hput_at]
  pointwise

/-- The query scale. -/
def sc : EReal := Ideal.ofBits .f32 0x3E000000#32

theorem qS_at (x0 : FVec Ideal S1x256x512 .f32) (h : Fin 2) (i : Fin 1024) (d : Fin 64) :
    Att.qS (F := Ideal) x0 (ix3 h i d) = x0 (ix3 0 ⟨i.val % 256, by omega⟩ ⟨(h.val * 4 + i.val / 256) * 64 + d.val, by omega⟩) * sc := by
  have e : Att.qS (F := Ideal) x0 (ix3 h i d) = k0_pay12 (F := Ideal) (Att.hdq x0 ⟨h.val * 4 + i.val / 256, by omega⟩) (ix3 0 ⟨i.val % 256, by omega⟩ d) :=
    congrArg (k0_pay12 (F := Ideal) (Att.hdq x0 ⟨h.val * 4 + i.val / 256, by omega⟩)) (att_ix3 _ _ _)
  rw [e]
  pointwise [k0_pay12, Att.hdq, att_ix3]
  rfl

theorem outO_at (a : FVec Ideal S2x1024x64 .f32) (r : Fin 256) (u : Fin 512) :
    Att.outO (F := Ideal) a (ix3 0 r u) = a (ix3 ⟨u.val / 256, by omega⟩ ⟨u.val / 64 % 4 * 256 + r.val, by omega⟩ ⟨u.val % 64, by omega⟩) := by
  have e : Att.outO (F := Ideal) a (ix3 0 r u) = k0_pay91 (F := Ideal) (Att.hda a ⟨u.val / 64, by omega⟩) (ix3 0 r ⟨u.val % 64, by omega⟩) :=
    congrArg (k0_pay91 (F := Ideal) (Att.hda a ⟨u.val / 64, by omega⟩)) (att_ix3 _ _ _)
  rw [e]
  pointwise [k0_pay91, Att.hda, att_ix3]
  refine congrArg a (congrArg (fun y => ix3 y _ _) (Fin.ext ?_))
  show u.val / 64 / 4 = u.val / 256
  omega

/-- A pass over a block: the second half, then the first. -/
theorem pass_at (m : Fin 2 → Option (IVec S1024x128 1)) (x1 x2 : FVec Ideal S1x256x128 .f32) (x3 : FVec Ideal S256x128 .f32) (ht : Tri x3)
    (q : FVec Ideal S2x1024x64 .bf16) (r : FVec Ideal S2x1024x1 .f32) (a : FVec Ideal S2x1024x64 .f32) (h : Fin 2) (i : Fin 1024) (z : Fin 4096 → EReal) (p : ℕ) (n : ℕ) (hn : n < 16)
    (hz : ∀ l : Fin 256, ∑ d : Fin 64, q (ix3 h i d) * x1 (ix3 0 l ⟨h.val * 64 + d.val, by omega⟩) = z ⟨n * 256 + l.val, by omega⟩)
    (hP : ∀ (s : Fin 2) (l : Fin 128), on (m s) (ix2 i l) ↔ n * 256 + (s.val * 128 + l.val) < p)
    (hr : r (ix3 h i 0) = ∑ k ∈ from_ (2 * n + 2), L z p k) :
    Att.stR (F := Ideal) m x1 x3 q r (ix3 h i 0) = ∑ k ∈ from_ (2 * n), L z p k
      ∧ ∀ (e : Fin 64) (V : Fin 4096 → EReal), (∀ l : Fin 256, x2 (ix3 0 l ⟨h.val * 64 + e.val, by omega⟩) = V ⟨n * 256 + l.val, by omega⟩) →
        a (ix3 h i e) = ∑ k ∈ from_ (2 * n + 2), W z p k * V k → Att.stA (F := Ideal) m x1 x2 x3 q r a (ix3 h i e) = ∑ k ∈ from_ (2 * n), W z p k * V k := by
  have ht' : Tri (k0_pay21 (F := Ideal) x3) := fun k j => by rw [pay21_at, pay21_at]; exact ht k j
  have hn1 : 2 * n + 1 < 32 := by omega
  have hn0 : 2 * n < 32 := by omega
  have k1 : ∀ l : Fin 128, key (2 * n + 1) hn1 l = ⟨n * 256 + (1 * 128 + l.val), by omega⟩ := fun l => Fin.ext (show (2 * n + 1) * 128 + l.val = n * 256 + (1 * 128 + l.val) by omega)
  have k0 : ∀ l : Fin 128, key (2 * n) hn0 l = ⟨n * 256 + (0 * 128 + l.val), by omega⟩ := fun l => Fin.ext (show (2 * n) * 128 + l.val = n * 256 + (0 * 128 + l.val) by omega)
  have z1 : ∀ l, ∑ d : Fin 64, k0_pay22 (F := Ideal) (Att.hd q h) (ix2 i d) * Att.kd x1 h 1 (ix3 0 l d) = z (key (2 * n + 1) hn1 l) := fun l => by
    rw [k1]
    exact (Finset.sum_congr rfl fun d _ => Ideal.mul_congr (pay22_at q h i d) (kd_at x1 h 1 l d)).trans (hz ⟨1 * 128 + l.val, by omega⟩)
  have z0 : ∀ l, ∑ d : Fin 64, k0_pay22 (F := Ideal) (Att.hd q h) (ix2 i d) * Att.kd x1 h 0 (ix3 0 l d) = z (key (2 * n) hn0 l) := fun l => by
    rw [k0]
    exact (Finset.sum_congr rfl fun d _ => Ideal.mul_congr (pay22_at q h i d) (kd_at x1 h 0 l d)).trans (hz ⟨0 * 128 + l.val, by omega⟩)
  have p1 : ∀ l, on (m 1) (ix2 i l) ↔ (key (2 * n + 1) hn1 l).val < p := fun l => by rw [k1]; exact hP 1 l
  have p0 : ∀ l, on (m 0) (ix2 i l) ↔ (key (2 * n) hn0 l).val < p := fun l => by rw [k0]; exact hP 0 l
  have r1 := (pay23_at r h i).trans hr
  have R1 := halfR (m 1) ht' (k0_pay22 (F := Ideal) (Att.hd q h)) (Att.kd x1 h 1) (k0_pay23 (F := Ideal) (Att.hd r h)) i z p (2 * n + 1) hn1 z1 p1 r1
  refine ⟨?_, fun e V hv ha => ?_⟩
  · rw [stR_at]
    exact halfR (m 0) ht' (k0_pay22 (F := Ideal) (Att.hd q h)) (Att.kd x1 h 0) _ i z p (2 * n) hn0 z0 p0 R1
  · have v1 : ∀ l, Att.kd x2 h 1 (ix3 0 l e) = V (key (2 * n + 1) hn1 l) := fun l => by
      rw [k1]
      exact (kd_at x2 h 1 l e).trans (hv ⟨1 * 128 + l.val, by omega⟩)
    have v0 : ∀ l, Att.kd x2 h 0 (ix3 0 l e) = V (key (2 * n) hn0 l) := fun l => by
      rw [k0]
      exact (kd_at x2 h 0 l e).trans (hv ⟨0 * 128 + l.val, by omega⟩)
    rw [stA_at]
    exact halfA (m 0) ht' (k0_pay22 (F := Ideal) (Att.hd q h)) (Att.kd x1 h 0) (Att.kd x2 h 0) _ _ i z p (2 * n) hn0 z0 p0 R1 e V v0
      (halfA (m 1) ht' (k0_pay22 (F := Ideal) (Att.hd q h)) (Att.kd x1 h 1) (Att.kd x2 h 1) _ _ i z p (2 * n + 1) hn1 z1 p1 r1 e V v1
        ((pay24_at a h i e).trans ha))

end Cert.Kernel7Ideal.Val

end
-- ==== Proof.SbEntry.lean ====
/- The blocks the stick-breaking attention is given, in terms of the arguments. -/
module

public import proofs.«01_k».proof.Proof.SbTrack
public import proofs.«01_k».proof.Proof.SbPoint
public import Idealize.ShloMosaic.Lib.Pipeline.ValueKit
public import Idealize.ShloMosaic.Lib.Claim

@[expose] public section

set_option maxRecDepth 16384

noncomputable section

namespace Cert.Kernel7Ideal.Val

open Idealize.ShloMosaic Idealize.ShloMosaic.TcCoe Idealize.SL.Sem Cert.Kernel7Ideal.Gen Cert.Sb

variable (m : (ℓ : Loc nD τ sig) → Buf (Elt Ideal) ℓ) (c : Dev nD)

/-- The three arguments. -/
def aq : FVec Ideal S4x4096x2x4x64 .f32 := m ((c : Thread nD τ).loc main_arg0)
def ak : FVec Ideal S4x4096x2x64 .f32 := m ((c : Thread nD τ).loc main_arg1)
def av : FVec Ideal S4x4096x2x64 .f32 := m ((c : Thread nD τ).loc main_arg2)

theorem lt1024 (t : Fin cfg0.N) : t.val < 1024 := lt_of_lt_of_eq t.isLt (show cfg0.N = 1024 from N_0)

/-- The sequence a point works on, -/
def bAt (t : Fin cfg0.N) : Fin 4 := ⟨t.val / 256, by have := lt1024 t; omega⟩
/-- the position of a row of its query block, -/
def pAt (t : Fin cfg0.N) (r : Fin 256) : Fin 4096 := ⟨t.val / 16 % 16 * 256 + r.val, by omega⟩
/-- and the position of a row of its key block. -/
def kAt (t : Fin cfg0.N) (l : Fin 256) : Fin 4096 := ⟨(t.val / 16 % 16 - t.val % 16) * 256 + l.val, by omega⟩

theorem idx : ∀ t : Fin cfg0.N, win0_0.index t = ![t.val / 256, t.val / 16 % 16, 0] ∧ win0_1.index t = ![t.val / 256, t.val / 16 % 16 - t.val % 16, 0]
    ∧ win0_2.index t = ![t.val / 256, t.val / 16 % 16 - t.val % 16, 0] ∧ win0_3.index t = ![0, 0] ∧ win0_4.index t = ![t.val / 256, t.val / 16 % 16, 0] :=
  (by decide +kernel : ∀ t : Fin grid0.N, _)

theorem ib0 (t : Fin cfg0.N) (r : Fin 256) (h : Fin 2) (g : Fin 4) (d : Fin 64) :
    (show FVec Ideal S1x256x512 .f32 from iblk m c 0 t) (ix3 0 r ⟨(h.val * 4 + g.val) * 64 + d.val, by omega⟩) = aq m c (ix5 (bAt t) (pAt t r) h g d) := by
  have hN := lt1024 t
  blk_simp [iblk]
  entry_read
  pointwise
  rw [aq]
  blk_ext [bAt, pAt, idx t]

theorem ib1 (t : Fin cfg0.N) (l : Fin 256) (h : Fin 2) (d : Fin 64) :
    (show FVec Ideal S1x256x128 .f32 from iblk m c 1 t) (ix3 0 l ⟨h.val * 64 + d.val, by omega⟩) = ak m c (ix4 (bAt t) (kAt t l) h d) := by
  have hN := lt1024 t
  blk_simp [iblk]
  entry_read
  pointwise
  rw [ak]
  blk_ext [bAt, kAt, idx t]

theorem ib2 (t : Fin cfg0.N) (l : Fin 256) (h : Fin 2) (d : Fin 64) :
    (show FVec Ideal S1x256x128 .f32 from iblk m c 2 t) (ix3 0 l ⟨h.val * 64 + d.val, by omega⟩) = av m c (ix4 (bAt t) (kAt t l) h d) := by
  have hN := lt1024 t
  blk_simp [iblk]
  entry_read
  pointwise
  rw [av]
  blk_ext [bAt, kAt, idx t]

theorem sgt_at (a b : ℕ) (ha : a < 128) (hb : b < 128) :
    FloatOps.uitofp (F := Ideal) FTy.f32 (IntOp.cmpi CmpIPredicate.sgt (BitVec.ofNat 32 a) (BitVec.ofNat 32 b)) = if b < a then (1 : EReal) else 0 := by
  rw [WordCmp.cmpi_sgt_ofNat (by omega) (by omega)]
  by_cases h : b < a
  · rw [if_pos h, decide_eq_true h]
    show (((1 : ℕ) : ℝ) : EReal) = 1
    simp
  · rw [if_neg h, decide_eq_false h]
    show (((0 : ℕ) : ℝ) : EReal) = 0
    simp

theorem ib3 (t : Fin cfg0.N) : Tri (show FVec Ideal S256x128 .f32 from iblk m c 3 t) := by
  intro k j
  have hN := lt1024 t
  have hk := k.isLt
  have hj := j.isLt
  constructor
  · have e0 : (((View.whole main_v7).slice (win0_3.rect t)).emb (ix2 (⟨k.val, by omega⟩ : Fin 256) j) 0).val = k.val := by blk_simp [idx t]
    have e1 : (((View.whole main_v7).slice (win0_3.rect t)).emb (ix2 (⟨k.val, by omega⟩ : Fin 256) j) 1).val = j.val := by blk_simp [idx t]
    blk_simp [iblk]
    entry_read
    pointwise
    rw [e0, e1, dif_pos hk, sgt_at _ _ hk hj]
    rfl
  · have e0 : (((View.whole main_v7).slice (win0_3.rect t)).emb (ix2 (⟨128 + k.val, by omega⟩ : Fin 256) j) 0).val = 128 + k.val := by blk_simp [idx t]
    have e1 : (((View.whole main_v7).slice (win0_3.rect t)).emb (ix2 (⟨128 + k.val, by omega⟩ : Fin 256) j) 1).val = j.val := by blk_simp [idx t]
    blk_simp [iblk]
    entry_read
    pointwise
    rw [e0, e1, dif_neg (by omega), show 128 + k.val - 128 = k.val by omega, sgt_at _ _ hk hj]
    rfl

end Cert.Kernel7Ideal.Val

end
-- ==== Proof.SbInv.lean ====
/- The kernel's state after every grid point: the stick broken by the keys visited, from the diagonal block down. -/
module

public import proofs.«01_k».proof.Proof.SbEntry

@[expose] public section

set_option maxRecDepth 16384

noncomputable section

namespace Cert.Kernel7Ideal.Val

open Idealize.ShloMosaic Idealize.ShloMosaic.TcCoe Idealize.SL.Sem Cert.Kernel7Ideal.Gen Cert.Sb

variable (m : (ℓ : Loc nD τ sig) → Buf (Elt Ideal) ℓ) (c : Dev nD)

/-- The score of a key for a query. -/
def sco (b : Fin 4) (h : Fin 2) (g : Fin 4) (p k : Fin 4096) : EReal :=
  ∑ d : Fin 64, aq m c (ix5 b p h g d) * sc * ak m c (ix4 b k h d)

/-- The group of a row of the state, -/
def gr (i : Fin 1024) : Fin 4 := ⟨i.val / 256, by omega⟩
/-- and its row in the query block. -/
def rw_ (i : Fin 1024) : Fin 256 := ⟨i.val % 256, by omega⟩

/-- The state holds the queries at positions `p` and the stick broken by the keys from block `n` on. -/
structure Inv (b : Fin 4) (p : Fin 256 → Fin 4096) (n : ℕ) (S : Att.St Ideal) : Prop where
  hq : ∀ (h : Fin 2) (i : Fin 1024) (d : Fin 64), S.q (ix3 h i d) = aq m c (ix5 b (p (rw_ i)) h (gr i) d) * sc
  hr : ∀ (h : Fin 2) (i : Fin 1024), S.r (ix3 h i 0) = ∑ k ∈ from_ (2 * n), L (sco m c b h (gr i) (p (rw_ i))) (p (rw_ i)).val k
  ha : ∀ (h : Fin 2) (i : Fin 1024) (e : Fin 64), S.a (ix3 h i e)
    = ∑ k ∈ from_ (2 * n), W (sco m c b h (gr i) (p (rw_ i))) (p (rw_ i)).val k * av m c (ix4 b k h e)

variable {m c}

/-- One pass over block `n`. -/
theorem Inv.pass {b : Fin 4} {p : Fin 256 → Fin 4096} {n : ℕ} (hn : n < 16) {S : Att.St Ideal} (I : Inv m c b p (n + 1) S)
    (mk : Fin 2 → Option (IVec S1024x128 1)) (x1 x2 : FVec Ideal S1x256x128 .f32) (x3 : FVec Ideal S256x128 .f32) (ht : Tri x3)
    (h1 : ∀ (l : Fin 256) (h : Fin 2) (d : Fin 64), x1 (ix3 0 l ⟨h.val * 64 + d.val, by omega⟩) = ak m c (ix4 b ⟨n * 256 + l.val, by omega⟩ h d))
    (h2 : ∀ (l : Fin 256) (h : Fin 2) (d : Fin 64), x2 (ix3 0 l ⟨h.val * 64 + d.val, by omega⟩) = av m c (ix4 b ⟨n * 256 + l.val, by omega⟩ h d))
    (hP : ∀ (s : Fin 2) (i : Fin 1024) (l : Fin 128), on (mk s) (ix2 i l) ↔ n * 256 + (s.val * 128 + l.val) < (p (rw_ i)).val) :
    Inv m c b p n (S.pass mk x1 x2 x3) := by
  have key := fun (h : Fin 2) (i : Fin 1024) => pass_at mk x1 x2 x3 ht S.q S.r S.a h i (sco m c b h (gr i) (p (rw_ i))) (p (rw_ i)).val n hn
    (fun l => Finset.sum_congr rfl fun d _ => Ideal.mul_congr (I.hq h i d) (h1 l h d)) (fun s l => hP s i l) (I.hr h i)
  exact ⟨I.hq, fun h i => (key h i).1, fun h i e => (key h i).2 e (fun k => av m c (ix4 b k h e)) (fun l => h2 l h e) (I.ha h i e)⟩

/-- The state the first branch sets up: no key of a later block is before a query. -/
theorem Inv.init {b : Fin 4} {p : Fin 256 → Fin 4096} {n : ℕ} (hp : ∀ r, (p r).val < n * 256) (x0 : FVec Ideal S1x256x512 .f32)
    (h0 : ∀ (r : Fin 256) (h : Fin 2) (g : Fin 4) (d : Fin 64), x0 (ix3 0 r ⟨(h.val * 4 + g.val) * 64 + d.val, by omega⟩) = aq m c (ix5 b (p r) h g d)) :
    Inv m c b p n (Att.st0 x0) := by
  refine ⟨fun h i d => ?_, fun h i => ?_, fun h i e => ?_⟩
  · exact (qS_at x0 h i d).trans (Ideal.mul_congr (h0 (rw_ i) h (gr i) d) rfl)
  · rw [sum_L_none _ (by have := hp (rw_ i); omega)]
    show k0_pay2 (F := Ideal) (ix3 h i 0) = 0
    pointwise [k0_pay2]
  · rw [sum_W_none _ _ (by have := hp (rw_ i); omega)]
    show k0_pay3 (F := Ideal) (ix3 h i e) = 0
    pointwise [k0_pay3]

variable (m c)

/-- A grid point where the state is set up: the diagonal block. -/
theorem step_diag (t : Fin cfg0.N) (h0 : t.val % 16 = 0) (S : Att.St Ideal) :
    Inv m c (bAt t) (pAt t) (t.val / 16 % 16 - t.val % 16) (Att.step (grid0.coords t) (iblk m c 0 t) (iblk m c 1 t) (iblk m c 2 t) (iblk m c 3 t) S) := by
  have hn : t.val / 16 % 16 - t.val % 16 < 16 := by omega
  have I : Inv m c (bAt t) (pAt t) (t.val / 16 % 16 - t.val % 16 + 1) (Att.st0 (F := Ideal) (iblk m c 0 t)) :=
    Inv.init (fun r => by show t.val / 16 % 16 * 256 + r.val < _; omega) _ (ib0 m c t)
  rw [Att.step, Att.stF, if_neg (fun e => by have := (Att.hcond0_2 t).mp e; omega), Att.stD, if_pos ((Att.hcond0_1 t).mpr h0), Att.stI,
    if_pos ((Att.hcond0_0 t).mpr h0)]
  refine I.pass hn Att.mD _ _ _ (ib3 m c t) (ib1 m c t) (ib2 m c t) fun s i l => (mD_on s i l).trans ?_
  show _ ↔ (t.val / 16 % 16 - t.val % 16) * 256 + (s.val * 128 + l.val) < t.val / 16 % 16 * 256 + i.val % 256
  omega

/-- A grid point left of the diagonal. -/
theorem step_left (t : Fin cfg0.N) (h0 : 0 < t.val % 16) (h1 : t.val % 16 ≤ t.val / 16 % 16) (S : Att.St Ideal)
    (I : Inv m c (bAt t) (pAt t) (t.val / 16 % 16 - t.val % 16 + 1) S) :
    Inv m c (bAt t) (pAt t) (t.val / 16 % 16 - t.val % 16) (Att.step (grid0.coords t) (iblk m c 0 t) (iblk m c 1 t) (iblk m c 2 t) (iblk m c 3 t) S) := by
  have hn : t.val / 16 % 16 - t.val % 16 < 16 := by omega
  rw [Att.step, Att.stF, if_pos ((Att.hcond0_2 t).mpr ⟨h0, h1⟩), Att.stD, if_neg (fun e => by have := (Att.hcond0_1 t).mp e; omega), Att.stI,
    if_neg (fun e => by have := (Att.hcond0_0 t).mp e; omega)]
  refine I.pass hn Att.mF _ _ _ (ib3 m c t) (ib1 m c t) (ib2 m c t) fun s i l => ⟨fun _ => ?_, fun _ => trivial⟩
  show (t.val / 16 % 16 - t.val % 16) * 256 + (s.val * 128 + l.val) < t.val / 16 % 16 * 256 + i.val % 256
  omega

/-- A grid point past the last key block. -/
theorem step_past (t : Fin cfg0.N) (h1 : t.val / 16 % 16 < t.val % 16) (S : Att.St Ideal) :
    Att.step (grid0.coords t) (iblk m c 0 t) (iblk m c 1 t) (iblk m c 2 t) (iblk m c 3 t) S = S := by
  rw [Att.step, Att.stF, if_neg (fun e => by have := (Att.hcond0_2 t).mp e; omega), Att.stD, if_neg (fun e => by have := (Att.hcond0_1 t).mp e; omega), Att.stI,
    if_neg (fun e => by have := (Att.hcond0_0 t).mp e; omega)]

/-- The state after a grid point. -/
theorem tr_inv : ∀ (n : ℕ) (t : Fin cfg0.N), t.val = n →
    Inv m c (bAt t) (pAt t) (t.val / 16 % 16 - t.val % 16) (Att.tr m c (t.val + 1)) := by
  intro n
  induction n with
  | zero =>
    intro t ht
    rw [Att.tr_succ]
    exact step_diag m c t (by omega) _
  | succ n ih =>
    intro t ht
    have hN := lt1024 t
    rw [Att.tr_succ]
    by_cases h0 : t.val % 16 = 0
    · exact step_diag m c t h0 _
    · have I := ih ⟨n, by have := t.isLt; omega⟩ rfl
      have hb : bAt ⟨n, by have := t.isLt; omega⟩ = bAt t := Fin.ext (show n / 256 = t.val / 256 by omega)
      have hq : n / 16 = t.val / 16 := by omega
      have hp : pAt ⟨n, by have := t.isLt; omega⟩ = pAt t := funext fun r => Fin.ext (show n / 16 % 16 * 256 + r.val = t.val / 16 % 16 * 256 + r.val by rw [hq])
      rw [hb, hp] at I
      simp only [hq] at I
      rw [← ht] at I
      by_cases h1 : t.val % 16 ≤ t.val / 16 % 16
      · refine step_left m c t (by omega) h1 _ ?_
        rwa [show t.val / 16 % 16 - t.val % 16 + 1 = t.val / 16 % 16 - n % 16 by omega]
      · rw [step_past m c t (by omega)]
        rwa [show t.val / 16 % 16 - t.val % 16 = t.val / 16 % 16 - n % 16 by omega]

/-- The result for a query. -/
def res (b : Fin 4) (h : Fin 2) (g : Fin 4) (p : Fin 4096) (e : Fin 64) : EReal :=
  ∑ k : Fin 4096, W (sco m c b h g p) p.val k * av m c (ix4 b k h e)

/-- The result for a column of the array. -/
def resc (b : Fin 4) (p : Fin 4096) (u : Fin 512) : EReal :=
  res m c b ⟨u.val / 256, by omega⟩ ⟨u.val / 64 % 4, by omega⟩ p ⟨u.val % 64, by omega⟩

/-- What the result's buffer holds from visit `last` on. -/
theorem og_at : ∀ (n : ℕ) (t : Fin cfg0.N), t.val = n → t.val / 16 % 16 ≤ t.val % 16 →
    ∀ (r : Fin 256) (u : Fin 512), Att.og m c (t.val + 1) (ix3 0 r u) = resc m c (bAt t) (pAt t r) u := by
  have hl : ∀ t : Fin cfg0.N, t.val % 16 = t.val / 16 % 16 →
      ∀ (r : Fin 256) (u : Fin 512), Att.og m c (t.val + 1) (ix3 0 r u) = resc m c (bAt t) (pAt t r) u := fun t hj r u => by
    have I := tr_inv m c t.val t rfl
    rw [show t.val / 16 % 16 - t.val % 16 = 0 by omega] at I
    rw [Att.og_succ, Att.outB, if_pos ((Att.hcond0_3 t).mpr hj)]
    refine (outO_at _ r u).trans ?_
    have eg : gr ⟨u.val / 64 % 4 * 256 + r.val, by omega⟩ = ⟨u.val / 64 % 4, by omega⟩ := Fin.ext (show (u.val / 64 % 4 * 256 + r.val) / 256 = u.val / 64 % 4 by omega)
    have er : rw_ ⟨u.val / 64 % 4 * 256 + r.val, by omega⟩ = r := Fin.ext (show (u.val / 64 % 4 * 256 + r.val) % 256 = r.val by omega)
    rw [I.ha, Nat.mul_zero, from_zero, eg, er, resc, res]
  intro n
  induction n with
  | zero =>
    intro t ht hj
    exact hl t (by omega)
  | succ n ih =>
    intro t ht hj
    by_cases h1 : t.val % 16 = t.val / 16 % 16
    · exact hl t h1
    · intro r u
      have hN := lt1024 t
      have hq : n / 16 = t.val / 16 := by omega
      rw [Att.og_idle m c t (by rw [Att.hidle0_4]; exact decide_eq_true h1)]
      have I := ih ⟨n, by have := t.isLt; omega⟩ rfl (show n / 16 % 16 ≤ n % 16 by rw [hq]; omega) r u
      have hb : bAt ⟨n, by have := t.isLt; omega⟩ = bAt t := Fin.ext (show n / 256 = t.val / 256 by omega)
      have hp : pAt ⟨n, by have := t.isLt; omega⟩ = pAt t := funext fun r => Fin.ext (show n / 16 % 16 * 256 + r.val = t.val / 16 % 16 * 256 + r.val by rw [hq])
      rw [hb, hp] at I
      rw [ht]
      exact I

/-- The kernel's result array. -/
def out : FVec Ideal S4x4096x512 .f32 := fun y => resc m c (y 0) (y 1) (y 2)

theorem out_at (t : Fin cfg0.N) (z : S4x4096x512.Idx) (r : Fin 256) (u : Fin 512) (e0 : (z 0).val = t.val / 256) (e1 : (z 1).val = t.val / 16 % 16 * 256 + r.val)
    (e2 : (z 2).val = u.val) : resc m c (bAt t) (pAt t r) u = out m c z := by
  have a0 : z 0 = bAt t := Fin.ext e0
  have a1 : z 1 = pAt t r := Fin.ext e1
  have a2 : z 2 = u := Fin.ext e2
  rw [out, a0, a1, a2]

theorem final : (Att.dats m 0 c).arrAt 4 (cfgs 0).N = out m c := by
  refine (Att.dats m 0 c).arrAt_eq_of_covers 4 (out m c) (by decide +kernel) fun t hf y => ?_
  have hj : t.val % 16 = 15 := (flush0_4 t).mp hf
  have hv := og_at m c t.val t rfl (by omega)
  have y0 : (y 0).val = 0 := by have h0 : (y 0).val < 1 := (y 0).isLt; omega
  have e0 : ((win0_4.blk t).view.emb y 0).val = t.val / 256 := by blk_simp [idx t]
  have e1 : ((win0_4.blk t).view.emb y 1).val = t.val / 16 % 16 * 256 + (y 1).val := by blk_simp [idx t]
  have e2 : ((win0_4.blk t).view.emb y 2).val = (y 2).val := by blk_simp [idx t]
  have hy : (show S1x256x512.Idx from y) = ix3 0 (y 1) (y 2) := (eq_ix3 _).trans (congrArg (fun z : Fin 1 => ix3 z (y 1) (y 2)) (Fin.ext y0))
  blk_simp
  rw [Att.after0_4]
  generalize (win0_4.blk t).view.emb y = z at *
  exact (congrArg (Att.og m c (t.val + 1)) hy).trans ((hv (y 1) (y 2)).trans (out_at m c t z (y 1) (y 2) e0 e1 e2))

end Cert.Kernel7Ideal.Val

end
-- ==== Proof.SbRef.lean ====
/- The stick-breaking reference's result read at an index. -/
module

public import proofs.«01_k».proof.Proof.Sb
public import proofs.«01_k».proof.Proof.SbMath
public import Idealize.ShloMosaic.Lib.Pointwise
public import Idealize.ShloMosaic.Lib.WordCmp
public import Idealize.ShloMosaic.PureOps.Ideal

@[expose] public section

set_option maxRecDepth 16384

noncomputable section

namespace Cert.Reference7Ideal.Val

open Idealize.ShloMosaic Idealize.ShloMosaic.TcCoe Idealize.SL.Sem Cert.Reference7Ideal Cert.Reference7Ideal.Gen Cert.Reference7Ideal.Read Cert.Sb

variable (Q : FVec Ideal S4x4096x2x4x64 .f32) (K V : FVec Ideal S4x4096x2x64 .f32)

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window of the running sum. -/
abbrev Wd : Shape := ⟨5, ![1, 1, 1, 1, 4096]⟩

/-- Its positions are those of its last axis. -/
def wdEquiv : Wd.Idx ≃ Fin 4096 where
  toFun w := w 4
  invFun k := ix5 (n0 := 1) (n1 := 1) (n2 := 1) (n3 := 1) (n4 := 4096) 0 0 0 0 k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  right_inv k := rfl

theorem sum_shift (f : Fin 4096 → EReal) (k : Fin 4096) :
    (∑ w : Fin 4096, if h : k.val + w.val < 4096 then f ⟨k.val + w.val, h⟩ else 0) = ∑ l : Fin 4096, if k ≤ l then f l else 0 := by
  rw [← Finset.sum_filter_add_sum_filter_not Finset.univ (fun w : Fin 4096 => k.val + w.val < 4096), ← Finset.sum_filter]
  rw [Finset.sum_eq_zero (s := Finset.univ.filter fun w : Fin 4096 => ¬k.val + w.val < 4096) (fun w hw => dif_neg (Finset.mem_filter.1 hw).2), add_zero]
  refine Finset.sum_bij' (fun w hw => ⟨k.val + w.val, (Finset.mem_filter.1 hw).2⟩) (fun l _ => ⟨l.val - k.val, by omega⟩) ?_ ?_ ?_ ?_ ?_
  · intro w hw
    exact Finset.mem_filter.2 ⟨Finset.mem_univ _, show k.val ≤ k.val + w.val by omega⟩
  · intro l hl
    have h : k.val ≤ l.val := (Finset.mem_filter.1 hl).2
    exact Finset.mem_filter.2 ⟨Finset.mem_univ _, show k.val + (l.val - k.val) < 4096 by omega⟩
  · intro w hw
    exact Fin.ext (show k.val + w.val - k.val = w.val by omega)
  · intro l hl
    have h : k.val ≤ l.val := (Finset.mem_filter.1 hl).2
    exact Fin.ext (show k.val + (l.val - k.val) = l.val by omega)
  · intro w hw
    exact dif_pos (Finset.mem_filter.1 hw).2

/-- The reversed running sum along the last axis. -/
theorem cumsum_at (X : FVec Ideal S4x2x4x4096x4096 .f32) (init : FVec Ideal S_ .f32) (hw) (hu : 0 < S_.numel) (hi : init (Shape.Idx.first hu) = 0)
    (b : Fin 4) (h : Fin 2) (g : Fin 4) (p k : Fin 4096) :
    (Host.reduceWindowAdd (s := S4x2x4x4096x4096) (t := S4x2x4x4096x4096) ![1, 1, 1, 1, 4096] ![1, 1, 1, 1, 1] ![0, 0, 0, 0, 0] ![0, 0, 0, 0, 4095] X init hw hu
      : FVec Ideal S4x2x4x4096x4096 .f32) (ix5 b h g p k) = ∑ l : Fin 4096, if k ≤ l then X (ix5 b h g p l) else 0 := by
  unfold Host.reduceWindowAdd
  rw [hi, Ideal.hostReduceWindowAdd_def]
  unfold Ideal.hostReduceWindowAdd Host.reduceWindow
  refine (foldl_add _ _ _).trans ?_
  rw [← Fin.sum_univ_def, zero_add, ← sum_shift]
  let e : Fin 4096 ≃ Fin Wd.numel := wdEquiv.symm.trans Wd.rowMajor
  refine (Equiv.sum_comp e _).symm.trans (Finset.sum_congr rfl fun w _ => ?_)
  have hs : Wd.rowMajor.symm (e w) = wdEquiv.symm w := Wd.rowMajor.symm_apply_apply _
  have hb := b.isLt
  have hh := h.isLt
  have hg := g.isLt
  have hp := p.isLt
  have w0 : (Wd.rowMajor.symm (e w) 0).val = 0 := by rw [hs]; rfl
  have w1 : (Wd.rowMajor.symm (e w) 1).val = 0 := by rw [hs]; rfl
  have w2 : (Wd.rowMajor.symm (e w) 2).val = 0 := by rw [hs]; rfl
  have w3 : (Wd.rowMajor.symm (e w) 3).val = 0 := by rw [hs]; rfl
  have w4 : (Wd.rowMajor.symm (e w) 4).val = w.val := by rw [hs]; rfl
  dsimp only
  split
  · next hin =>
    have h4 := (hin 4).2
    change k.val * 1 + (Wd.rowMajor.symm (e w) 4).val - 0 < 4096 at h4
    rw [w4] at h4
    have hk : k.val + w.val < 4096 := by omega
    rw [dif_pos hk]
    refine congrArg X (funext fun a => Fin.ext ?_)
    match a with
    | ⟨0, _⟩ => show b.val * 1 + (Wd.rowMajor.symm (e w) 0).val - 0 = b.val; rw [w0]; omega
    | ⟨1, _⟩ => show h.val * 1 + (Wd.rowMajor.symm (e w) 1).val - 0 = h.val; rw [w1]; omega
    | ⟨2, _⟩ => show g.val * 1 + (Wd.rowMajor.symm (e w) 2).val - 0 = g.val; rw [w2]; omega
    | ⟨3, _⟩ => show p.val * 1 + (Wd.rowMajor.symm (e w) 3).val - 0 = p.val; rw [w3]; omega
    | ⟨4, _⟩ => show k.val * 1 + (Wd.rowMajor.symm (e w) 4).val - 0 = k.val + w.val; rw [w4]; omega
  · next hin =>
    refine Eq.symm (dif_neg fun hk => hin fun a => ?_)
    match a with
    | ⟨0, _⟩ => exact ⟨Nat.zero_le _, show b.val * 1 + (Wd.rowMajor.symm (e w) 0).val - 0 < 4 by rw [w0]; omega⟩
    | ⟨1, _⟩ => exact ⟨Nat.zero_le _, show h.val * 1 + (Wd.rowMajor.symm (e w) 1).val - 0 < 2 by rw [w1]; omega⟩
    | ⟨2, _⟩ => exact ⟨Nat.zero_le _, show g.val * 1 + (Wd.rowMajor.symm (e w) 2).val - 0 < 4 by rw [w2]; omega⟩
    | ⟨3, _⟩ => exact ⟨Nat.zero_le _, show p.val * 1 + (Wd.rowMajor.symm (e w) 3).val - 0 < 4096 by rw [w3]; omega⟩
    | ⟨4, _⟩ => exact ⟨Nat.zero_le _, show k.val * 1 + (Wd.rowMajor.symm (e w) 4).val - 0 < 4096 by rw [w4]; omega⟩

/-- The reference's score of a key for a query. -/
def rz (b : Fin 4) (h : Fin 2) (g : Fin 4) (p k : Fin 4096) : EReal :=
  (∑ d : Fin 64, K (ix4 b k h d) * Q (ix5 b p h g d)) * Ideal.ofBits .f32 0x3E000000#32

theorem v3_at (b : Fin 4) (h : Fin 2) (g : Fin 4) (p k : Fin 4096) : val_main_v3 (F := Ideal) Q K (ix5 b h g p k) = rz Q K b h g p k := by
  rw [val_main_v3_apply, val_main_v1_apply, val_main_v0_apply, val_main_v2_apply, val_main_cst_apply, rz]
  refine Ideal.mul_congr (Finset.sum_congr rfl fun d _ => Ideal.mul_congr (congrArg K ?_) (congrArg Q ?_)) rfl
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

theorem v9_at (p k : Fin 4096) (i : S4096x4096.Idx) (h0 : (i 0).val = p.val) (h1 : (i 1).val = k.val) :
    val_main_v9 (F := Ideal) i = BitVec.ofBool (decide (k.val < p.val)) := by
  have hp := p.isLt
  have hk := k.isLt
  rw [val_main_v9_apply, val_main_v7_apply, val_main_v8_apply, val_main_v5_apply, val_main_v6_apply, val_main_v4_apply, val_main_v4_apply]
  show IntOp.cmpi .slt (BitVec.ofNat 32 (i 1).val) (BitVec.ofNat 32 (i 0).val) = _
  rw [h0, h1, WordCmp.cmpi_slt_ofNat (by omega) (by omega)]

theorem zero32 : Ideal.ofBits .f32 0x00000000#32 = 0 := by simp [Ideal.ofBits, Ideal.ieee]

/-- Minus the logarithm of one plus an exponential, as the reference takes it. -/
theorem softplus (x : EReal) :
    FloatOps.hostNegf (F := Ideal) (φ := .f32) (Scalar.select (FloatOps.cmpf (F := Ideal) (φ := .f32) .une (FloatOps.subf (F := Ideal) (φ := .f32) x (FloatOps.ofBits .f32 0x00000000#32)) (FloatOps.subf (F := Ideal) (φ := .f32) x (FloatOps.ofBits .f32 0x00000000#32)))
      (FloatOps.addf (F := Ideal) (φ := .f32) x (FloatOps.ofBits .f32 0x00000000#32))
      (FloatOps.addf (F := Ideal) (φ := .f32) (FloatOps.maximumf (F := Ideal) (φ := .f32) x (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) x (FloatOps.ofBits .f32 0x00000000#32)))))))) = -(max x 0 + lam x) := by
  have hz : (FloatOps.ofBits (F := Ideal) .f32 0x00000000#32 : EReal) = 0 := zero32
  rw [hz]
  have hs : FloatOps.subf (F := Ideal) (φ := .f32) x (0 : EReal) = x := sub_zero x
  rw [hs]
  have hc : FloatOps.cmpf (F := Ideal) (φ := .f32) .une x x = 0#1 := by
    show BitVec.ofBool (decide (x ≠ x)) = 0#1
    simp
  rw [hc]
  rfl

theorem v11_at (i : S4x2x4x4096x4096.Idx) : val_main_v11 (F := Ideal) Q K i = nl (val_main_v3 (F := Ideal) Q K i) := by
  simp only [val_main_v11_apply, val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply, val_main_call0_call0_v4_apply,
    val_main_call0_call0_v3_apply, val_main_call0_call0_v2_apply, val_main_call0_call0_v1_apply, val_main_call0_call0_v0_apply, val_main_call0_call0_cst_apply,
    val_main_call0_v0_apply, val_main_v10_apply]
  generalize val_main_v3 (F := Ideal) Q K i = z
  have hn : FloatOps.hostNegf (F := Ideal) (φ := .f32) (FloatOps.hostNegf (F := Ideal) (φ := .f32) z) = z := neg_neg (z : EReal)
  rw [hn]
  exact softplus z

theorem v15_at (i : S4x2x4x4096x4096.Idx) : val_main_v15 (F := Ideal) Q K i = ls (val_main_v3 (F := Ideal) Q K i) := by
  simp only [val_main_v15_apply, val_main_call3_v1_apply, val_main_call3_call0_v11_apply, val_main_call3_call0_v10_apply, val_main_call3_call0_v9_apply,
    val_main_call3_call0_v8_apply, val_main_call3_call0_v7_apply, val_main_call3_call0_v6_apply, val_main_call3_call0_v5_apply, val_main_call3_call0_v4_apply,
    val_main_call3_call0_v3_apply, val_main_call3_call0_v2_apply, val_main_call3_call0_v1_apply, val_main_call3_call0_v0_apply, val_main_call3_call0_cst_apply,
    val_main_call3_v0_apply]
  generalize val_main_v3 (F := Ideal) Q K i = z
  exact softplus (-z : EReal)

theorem sel {c : Prop} [Decidable c] (x y : EReal) : Scalar.select (BitVec.ofBool (decide c)) x y = if c then x else y := by
  by_cases h : c
  · rw [if_pos h, decide_eq_true h]; rfl
  · rw [if_neg h, decide_eq_false h]; rfl

theorem v12_at (b : Fin 4) (h : Fin 2) (g : Fin 4) (p k : Fin 4096) : val_main_v12 (F := Ideal) Q K (ix5 b h g p k) = L (rz Q K b h g p) p.val k := by
  rw [val_main_v12_apply, v11_at, v3_at, val_main_call1_v1_apply, v9_at p k _ rfl rfl, L, val_main_call1_v2_apply, val_main_call1_v0_apply, val_main_cst_0_apply]
  refine (sel _ _).trans ?_
  rw [show (FloatOps.ofBits (F := Ideal) .f32 0x00000000#32 : EReal) = 0 from zero32]

theorem v13_at (b : Fin 4) (h : Fin 2) (g : Fin 4) (p k : Fin 4096) : val_main_v13 (F := Ideal) Q K (ix5 b h g p k)
    = L (rz Q K b h g p) p.val k + ∑ l ∈ gt k, L (rz Q K b h g p) p.val l := by
  unfold val_main_v13
  rw [cumsum_at _ _ _ _ (by rw [val_main_call2_v0_apply, val_main_call2_cst_apply]; exact zero32), ← sum_ge]
  exact Finset.sum_congr rfl fun l _ => by rw [v12_at]

theorem v18_at (b : Fin 4) (h : Fin 2) (g : Fin 4) (p k : Fin 4096) : val_main_v18 (F := Ideal) Q K (ix5 b h g p k) = W (rz Q K b h g p) p.val k := by
  rw [val_main_v18_apply, val_main_call4_v1_apply, v9_at p k _ rfl rfl, W, val_main_call4_v2_apply, val_main_call4_v0_apply, val_main_cst_1_apply, val_main_v17_apply, val_main_v16_apply,
    v15_at, v3_at, val_main_v14_apply, v13_at, v12_at]
  refine (sel _ _).trans ?_
  by_cases hk : k.val < p.val
  · rw [if_pos hk, if_pos hk, expo_eq]
    have hL : L (rz Q K b h g p) p.val k = nl (rz Q K b h g p k) := if_pos hk
    rw [hL]
    rfl
  · rw [if_neg hk, if_neg hk]
    exact zero32

theorem rO_at (b : Fin 4) (p : Fin 4096) (u : Fin 512) : val_main_v21 (F := Ideal) Q K V (ix3 b p u)
    = ∑ k : Fin 4096, V (ix4 b k ⟨u.val / 256, by omega⟩ ⟨u.val % 64, by omega⟩) * W (rz Q K b ⟨u.val / 256, by omega⟩ ⟨u.val / 64 % 4, by omega⟩ p) p.val k := by
  have hb := b.isLt
  have hp := p.isLt
  have hu := u.isLt
  rw [val_main_v21_apply, val_main_v20_apply, val_main_v19_apply]
  refine Finset.sum_congr rfl fun k _ => ?_
  rw [← v18_at]
  refine congrArg₂ (· * ·) (congrArg V (funext fun a => Fin.ext ?_)) (congrArg (val_main_v18 (F := Ideal) Q K) (funext fun a => Fin.ext ?_))
  · match a with
    | ⟨0, _⟩ => show ((b.val * 4096 + p.val) * 512 + u.val) / 2097152 = b.val; omega
    | ⟨1, _⟩ => rfl
    | ⟨2, _⟩ => show ((b.val * 4096 + p.val) * 512 + u.val) / 256 % 2 = u.val / 256; omega
    | ⟨3, _⟩ => show ((b.val * 4096 + p.val) * 512 + u.val) % 64 = u.val % 64; omega
  · match a with
    | ⟨0, _⟩ => show ((b.val * 4096 + p.val) * 512 + u.val) / 2097152 = b.val; omega
    | ⟨1, _⟩ => show ((b.val * 4096 + p.val) * 512 + u.val) / 256 % 2 = u.val / 256; omega
    | ⟨2, _⟩ => show ((b.val * 4096 + p.val) * 512 + u.val) / 64 % 4 = u.val / 64 % 4; omega
    | ⟨3, _⟩ => show ((b.val * 4096 + p.val) * 512 + u.val) / 512 % 4096 = p.val; omega
    | ⟨4, _⟩ => rfl

end Cert.Reference7Ideal.Val

end
-- ==== Proof.SbValue.lean ====
/- The kernel's stick-breaking sums are the reference's: the scale is taken out of the scores. -/
module

public import proofs.«01_k».proof.Defs
public import proofs.«01_k».proof.Proof.SbInv
public import proofs.«01_k».proof.Proof.SbRef
public import proofs.«01_k».proof.Proof.Soft
public import proofs.«01_k».proof.Proof.Gen.Reference7Ideal.Run
public import Idealize.ShloMosaic.Lib.Claim

@[expose] public section

noncomputable section

namespace Cert.Kernel7Ideal.Val

open Idealize.ShloMosaic Idealize.ShloMosaic.TcCoe Idealize.SL.Sem Cert.Kernel7Ideal Cert.Kernel7Ideal.Gen Cert.Sb

variable (m : (ℓ : Loc nD τ sig) → Buf (Elt Ideal) ℓ) (c : Dev nD)

theorem sc_real : ∃ r : ℝ, 0 ≤ r ∧ sc = r := by
  refine ⟨_, ?_, by
    rw [sc]
    simp only [Ideal.ofBits, Ideal.ieee]
    simp
    rfl⟩
  norm_num

theorem rz_eq (b : Fin 4) (h : Fin 2) (g : Fin 4) (p k : Fin 4096) : Cert.Reference7Ideal.Val.rz (aq m c) (ak m c) b h g p k = sco m c b h g p k := by
  obtain ⟨s, h0, hs⟩ := sc_real
  have p0 : 0 ≤ sc := hs ▸ EReal.coe_nonneg.2 h0
  have pt : sc ≠ ⊤ := hs ▸ EReal.coe_ne_top s
  show (∑ d : Fin 64, ak m c (ix4 b k h d) * aq m c (ix5 b p h g d)) * sc = _
  rw [mul_comm _ sc, Cert.Soft.mul_sum p0 pt, sco]
  refine Finset.sum_congr rfl fun d _ => ?_
  rw [mul_comm (aq m c _) sc, mul_assoc, mul_comm (aq m c _)]

theorem resc_eq (b : Fin 4) (p : Fin 4096) (u : Fin 512) :
    Cert.Reference7Ideal.Read.val_main_v21 (F := Ideal) (aq m c) (ak m c) (av m c) (ix3 b p u) = resc m c b p u := by
  refine (Cert.Reference7Ideal.Val.rO_at (aq m c) (ak m c) (av m c) b p u).trans ?_
  unfold resc res
  refine Finset.sum_congr rfl fun k _ => ?_
  rw [mul_comm]
  exact congrArg (fun z => W z p.val k * av m c (ix4 b k ⟨u.val / 256, by omega⟩ ⟨u.val % 64, by omega⟩)) (funext fun l => rz_eq m c b _ _ p l)

theorem out_eq : Cert.Reference7Ideal.Read.val_main_v21 (F := Ideal) (aq m c) (ak m c) (av m c) = out m c := by
  funext y
  have hy : y = ix3 (y 0) (y 1) (y 2) := by funext i; fin_cases i <;> rfl
  rw [hy]
  exact resc_eq m c (y 0) (y 1) (y 2)

end Cert.Kernel7Ideal.Val

namespace Cert.Reference7Ideal.Val

open Idealize.ShloMosaic Idealize.ShloMosaic.TcCoe Idealize.SL.Sem

theorem alg : Cert.algebraic_Kernel7Ideal_Reference7Ideal := by
  intro m g m' g' _ hagree
  refine ⟨fun c => Cert.Kernel7Ideal.Val.out m c, ?_, ?_⟩
  · exact (θ_run _ _ _).mono (fun r h c => ⟨((h.1.1 c).1 4).trans (Cert.Kernel7Ideal.Val.final m c), h.2.1 c⟩)
      (θ_run_and (Cert.Kernel7Ideal.Att.run_all m g) (Cert.Kernel7Ideal.Att.frame_any m g))
  · run_from (Cert.Reference7Ideal.Value.run m' g')
    rw [Cert.Reference7Ideal.Read.val_main_v21_eq, (hagree c).1, (hagree c).2.1, (hagree c).2.2]
    exact Cert.Kernel7Ideal.Val.out_eq m c

end Cert.Reference7Ideal.Val

end
-- ==== Proof.Up.lean ====
/- The feed-forward part's norm and its two products. -/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Claim
public import proofs.«01_k».proof.Proof.Rms

@[expose] public section

set_option maxRecDepth 16384

noncomputable section

namespace Cert.Kernel3Ideal.Val

open Idealize.ShloMosaic Idealize.ShloMosaic.TcCoe Idealize.SL.Sem Cert.Kernel3Ideal Cert.Kernel3Ideal.Gen Cert.Rms

variable (m : (ℓ : Loc nD τ sig) → Buf (Elt Ideal) ℓ) (c : Dev nD)

def ax : FVec Ideal S4x4096x1024 .f32 := m ((c : Thread nD τ).loc main_arg0)
def ag : FVec Ideal S1024 .f32 := m ((c : Thread nD τ).loc main_arg1)
def wa : FVec Ideal S1024x2816 .f32 := m ((c : Thread nD τ).loc main_arg2)
def wb : FVec Ideal S1024x2816 .f32 := m ((c : Thread nD τ).loc main_arg3)

theorem lt_N (t : Fin cfg0.N) : t.val < 64 := lt_of_lt_of_eq t.isLt (show cfg0.N = 64 from N_0)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

theorem ib0 (t : Fin cfg0.N) (r : Fin 256) (e : Fin 1024) :
    (show FVec Ideal S256x1024 .f32 from iblk m c 0 t) (ix2 r e) = ax m c (row (t.val * 256 + r.val) (by have := lt_N t; omega) e) := by
  have hN := lt_N t
  blk_simp [iblk]
  entry_read
  pointwise
  rw [ax]
  blk_ext [row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [idx t]

theorem ib2 (t : Fin cfg0.N) (k : Fin 1024) (e : Fin 2816) : (show FVec Ideal S1024x2816 .bf16 from iblk m c 2 t) (ix2 k e) = wa m c (ix2 k e) := by
  have hN := lt_N t
  blk_simp [iblk]
  entry_read
  pointwise
  rw [wa]
  blk_ext [idx t]

theorem ib3 (t : Fin cfg0.N) (k : Fin 1024) (e : Fin 2816) : (show FVec Ideal S1024x2816 .bf16 from iblk m c 3 t) (ix2 k e) = wb m c (ix2 k e) := by
  have hN := lt_N t
  blk_simp [iblk]
  entry_read
  pointwise
  rw [wb]
  blk_ext [idx t]

theorem pay1_at (x0 : FVec Ideal S256x1024 .f32) (x1 : FVec Ideal S1x1024 .f32) (r : Fin 256) (e : Fin 1024) :
    k0_pay1 (F := Ideal) x0 x1 (ix2 r e) = rms (fun k => x0 (ix2 r k)) (Ideal.ofBits .f32 0x44800000#32) (x1 (ix2 0 e)) e := by
  pointwise [k0_pay1]
  rfl

theorem pay2_at (x0 : FVec Ideal S256x1024 .f32) (x1 : FVec Ideal S1x1024 .f32) (w : FVec Ideal S1024x2816 .bf16) (r : Fin 256) (e : Fin 2816) :
    k0_pay2 (F := Ideal) x0 x1 w (ix2 r e) = ∑ j : Fin 1024, rms (fun k => x0 (ix2 r k)) (Ideal.ofBits .f32 0x44800000#32) (x1 (ix2 0 j)) j * w (ix2 j e) := by
  pointwise [k0_pay2]
  exact Finset.sum_congr rfl fun j _ => by rw [pay1_at]

theorem pay3_at (x0 : FVec Ideal S256x1024 .f32) (x1 : FVec Ideal S1x1024 .f32) (w : FVec Ideal S1024x2816 .bf16) (r : Fin 256) (e : Fin 2816) :
    k0_pay3 (F := Ideal) x0 x1 w (ix2 r e) = ∑ j : Fin 1024, rms (fun k => x0 (ix2 r k)) (Ideal.ofBits .f32 0x44800000#32) (x1 (ix2 0 j)) j * w (ix2 j e) := by
  pointwise [k0_pay3]
  exact Finset.sum_congr rfl fun j _ => by rw [pay1_at]

/-- A product of the normalised rows. -/
def out (W : FVec Ideal S1024x2816 .f32) : FVec Ideal S16384x2816 .f32 := fun y => ∑ j : Fin 1024, rms (fun k => ax m c (row (y 0).val (y 0).isLt k)) (Ideal.ofBits .f32 0x44800000#32) (ag m c (ix1 j)) j * W (ix2 j (y 1))

theorem out_at (W : FVec Ideal S1024x2816 .f32) (B : FVec Ideal S1024x2816 .bf16) (hB : ∀ j e, B (ix2 j e) = W (ix2 j e)) (t : Fin cfg0.N) (z : S16384x2816.Idx) (r : Fin 256) (e : Fin 2816)
    (e0 : (z 0).val = t.val * 256 + r.val) (e1 : (z 1).val = e.val) :
    (∑ j : Fin 1024, rms (fun k => (show FVec Ideal S256x1024 .f32 from iblk m c 0 t) (ix2 r k)) (Ideal.ofBits .f32 0x44800000#32)
      ((show FVec Ideal S1x1024 .f32 from iblk m c 1 t) (ix2 0 j)) j * B (ix2 j e)) = out m c W z := by
  have a1 : z 1 = e := Fin.ext e1
  simp only [out, ib0, ib1, hB, a1, row_congr e0 (z 0).isLt (e0 ▸ (z 0).isLt)]

theorem final4 : (dats m 0 c).arrAt 4 (cfgs 0).N = out m c (wa m c) := by
  refine (dats m 0 c).arrAt_eq_of_covers 4 (out m c (wa m c)) (by decide +kernel) fun t hf y => ?_
  have e0 : ((win0_4.blk t).view.emb y 0).val = t.val * 256 + (y 0).val := by blk_simp [idx t]
  have e1 : ((win0_4.blk t).view.emb y 1).val = (y 1).val := by blk_simp [idx t]
  have hy : (show S256x2816.Idx from y) = ix2 (y 0) (y 1) := eq_ix2 _
  blk_simp
  rw [after0_4]
  generalize (win0_4.blk t).view.emb y = z at *
  frame_out
  exact (congrArg (k0_pay2 (F := Ideal) (iblk m c 0 t) (iblk m c 1 t) (iblk m c 2 t)) hy).trans
    ((pay2_at _ _ _ _ _).trans (out_at m c (wa m c) (iblk m c 2 t) (ib2 m c t) t z (y 0) (y 1) e0 e1))

theorem final5 : (dats m 0 c).arrAt 5 (cfgs 0).N = out m c (wb m c) := by
  refine (dats m 0 c).arrAt_eq_of_covers 5 (out m c (wb m c)) (by decide +kernel) fun t hf y => ?_
  have e0 : ((win0_5.blk t).view.emb y 0).val = t.val * 256 + (y 0).val := by blk_simp [idx t]
  have e1 : ((win0_5.blk t).view.emb y 1).val = (y 1).val := by blk_simp [idx t]
  have hy : (show S256x2816.Idx from y) = ix2 (y 0) (y 1) := eq_ix2 _
  blk_simp
  rw [after0_5]
  generalize (win0_5.blk t).view.emb y = z at *
  frame_out
  exact (congrArg (k0_pay3 (F := Ideal) (iblk m c 0 t) (iblk m c 1 t) (iblk m c 3 t)) hy).trans
    ((pay3_at _ _ _ _ _).trans (out_at m c (wb m c) (iblk m c 3 t) (ib3 m c t) t z (y 0) (y 1) e0 e1))

end Cert.Kernel3Ideal.Val

namespace Cert.Reference3Ideal.Val

open Idealize.ShloMosaic Idealize.ShloMosaic.TcCoe Idealize.SL.Sem Cert.Reference3Ideal Cert.Reference3Ideal.Gen Cert.Rms

theorem ref_at (X : FVec Ideal S4x4096x1024 .f32) (G : FVec Ideal S1024 .f32) (W : FVec Ideal S1024x2816 .f32) (n : Fin 16384) (e : Fin 2816) :
    (shapeCast _ (Host.dotGeneral dot_S4x4096x1024_S1024x2816_S4x4096x2816_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) W) shapeCasts_S4x4096x2816_S16384x2816 : FVec Ideal S16384x2816 .f32) (ix2 n e)
      = ∑ j : Fin 1024, rms (fun k => X (row n.val n.isLt k)) (Ideal.ofBits .f32 0x44800000#32) (G (ix1 j)) j * W (ix2 j e) := by
  pointwise
  rfl

theorem alg : Cert.algebraic_Kernel3Ideal_Reference3Ideal := by
  intro m g m' g' _ hagree
  refine ⟨fun c => Cert.Kernel3Ideal.Val.out m c (Cert.Kernel3Ideal.Val.wa m c), fun c => Cert.Kernel3Ideal.Val.out m c (Cert.Kernel3Ideal.Val.wb m c), ?_, ?_⟩
  · exact (θ_run _ _ _).mono (fun r h c => ⟨((h c).1).trans (Cert.Kernel3Ideal.Val.final4 m c), ((h c).2.1).trans (Cert.Kernel3Ideal.Val.final5 m c), (h c).2.2⟩)
      (Cert.Kernel3Ideal.Value.run_blocks m g)
  · run_from (Cert.Reference3Ideal.Value.run m' g')
    · funext y
      rw [eq_ix2 y]
      exact ref_at _ _ _ _ _
    · funext y
      rw [eq_ix2 y]
      exact ref_at _ _ _ _ _

end Cert.Reference3Ideal.Val

end
-- ==== Proof.Down.lean ====
/- The causal convolution, the activation and the down projection. -/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.Claim
public import proofs.«01_k».proof.Proof.Rms

@[expose] public section

set_option maxRecDepth 16384

noncomputable section

namespace Cert.Conv

open Idealize.ShloMosaic Idealize.ShloMosaic.TcCoe

/-- The tanh form of the activation. -/
def gel (v : EReal) : EReal :=
  v * (Ideal.ofBits .f32 0x3F000000#32 * (1 + Ideal.tanh (Ideal.ofBits .f32 0x3F4C422A#32 * (v + Ideal.ofBits .f32 0x3D372713#32 * (v * v * v)))))

/-- The three taps of one channel. -/
def taps (a b c w0 w1 w2 β : EReal) : EReal := β + w0 * a + w1 * b + w2 * c

/-- The sequence with the two rows before it. -/
def ext (U : (⟨3, ![4, 4096, 2816]⟩ : Shape).Idx → EReal) (P : (⟨3, ![4, 2, 2816]⟩ : Shape).Idx → EReal) (b : Fin 4) (n : Nat) (f : Fin 2816) : EReal :=
  if h : n < 2 then P (ix3 b ⟨n, h⟩ f) else if h' : n - 2 < 4096 then U (ix3 b ⟨n - 2, h'⟩ f) else 0

theorem ext_lt {U P b n f} (h : n < 2) : ext U P b n f = P (ix3 b ⟨n, h⟩ f) := dif_pos h

theorem ext_ge {U P b n f} (k : Nat) (hk : k < 4096) (h : n = k + 2) : ext U P b n f = U (ix3 b ⟨k, hk⟩ f) := by
  subst h
  rw [ext, dif_neg (by omega), dif_pos (by omega)]
  rfl

end Cert.Conv

namespace Cert.Kernel4Ideal.Val

open Idealize.ShloMosaic Idealize.ShloMosaic.TcCoe Idealize.SL.Sem Cert.Kernel4Ideal Cert.Kernel4Ideal.Gen Cert.Conv

variable (m : (ℓ : Loc nD τ sig) → Buf (Elt Ideal) ℓ) (c : Dev nD)

def ax : FVec Ideal S4x4096x1024 .f32 := m ((c : Thread nD τ).loc main_arg0)
def au : FVec Ideal S4x4096x2816 .f32 := m ((c : Thread nD τ).loc main_arg1)
def ag : FVec Ideal S4x4096x2816 .f32 := m ((c : Thread nD τ).loc main_arg2)
def ap : FVec Ideal S4x2x2816 .f32 := m ((c : Thread nD τ).loc main_arg3)
def aw : FVec Ideal S3x2816 .f32 := m ((c : Thread nD τ).loc main_arg4)
def ab : FVec Ideal S2816 .f32 := m ((c : Thread nD τ).loc main_arg5)
def ad : FVec Ideal S2816x1024 .f32 := m ((c : Thread nD τ).loc main_arg6)

theorem lt_N (t : Fin cfg0.N) : t.val < 64 := lt_of_lt_of_eq t.isLt (show cfg0.N = 64 from N_0)

theorem idx : ∀ t : Fin cfg0.N, win0_0.index t = ![t.val / 16, t.val % 16, 0] ∧ win0_1.index t = ![t.val / 16, t.val % 16, 0]
    ∧ win0_2.index t = ![t.val / 16, t.val % 16 * 32 - 1, 0] ∧ win0_3.index t = ![t.val / 16, 0, 0] ∧ win0_4.index t = ![t.val / 16, t.val % 16, 0]
    ∧ win0_5.index t = ![0, 0] ∧ win0_6.index t = ![0, 0] ∧ win0_7.index t = ![0, 0] ∧ win0_8.index t = ![t.val / 16, t.val % 16, 0] :=
  (by decide +kernel : ∀ t : Fin grid0.N, _)

theorem coord1 : ∀ t : Fin cfg0.N, (grid0.coords t 1).val = t.val % 16 :=
  (by decide +kernel : ∀ t : Fin grid0.N, (grid0.coords t 1).val = t.val % 16)

/-- The batch entry and a row of grid point `t`'s tile. -/
def bt (t : Fin cfg0.N) : Fin 4 := ⟨t.val / 16, by have := lt_N t; omega⟩
def rw' (t : Fin cfg0.N) (r : Fin 256) : Fin 4096 := ⟨t.val % 16 * 256 + r.val, by omega⟩

theorem ib0 (t : Fin cfg0.N) (r : Fin 256) (e : Fin 1024) :
    (show FVec Ideal S1x256x1024 .f32 from iblk m c 0 t) (ix3 0 r e) = ax m c (ix3 (bt t) (rw' t r) e) := by
  have hN := lt_N t
  blk_simp [iblk]
  entry_read
  pointwise
  rw [ax]
  blk_ext [bt, rw', idx t]

theorem ib1 (t : Fin cfg0.N) (r : Fin 256) (e : Fin 2816) :
    (show FVec Ideal S1x256x2816 .f32 from iblk m c 1 t) (ix3 0 r e) = au m c (ix3 (bt t) (rw' t r) e) := by
  have hN := lt_N t
  blk_simp [iblk]
  entry_read
  pointwise
  rw [au]
  blk_ext [bt, rw', idx t]

theorem ib2 (t : Fin cfg0.N) (ht : t.val % 16 ≠ 0) (r : Fin 8) (e : Fin 2816) :
    (show FVec Ideal S1x8x2816 .f32 from iblk m c 2 t) (ix3 0 r e) = au m c (ix3 (bt t) ⟨t.val % 16 * 256 - 8 + r.val, by omega⟩ e) := by
  have hN := lt_N t
  blk_simp [iblk]
  entry_read
  pointwise
  rw [au]
  blk_ext [bt, idx t]

theorem ib3 (t : Fin cfg0.N) (r : Fin 2) (e : Fin 2816) :
    (show FVec Ideal S1x2x2816 .f32 from iblk m c 3 t) (ix3 0 r e) = ap m c (ix3 (bt t) r e) := by
  have hN := lt_N t
  blk_simp [iblk]
  entry_read
  pointwise
  rw [ap]
  blk_ext [bt, idx t]

theorem ib4 (t : Fin cfg0.N) (r : Fin 256) (e : Fin 2816) :
    (show FVec Ideal S1x256x2816 .f32 from iblk m c 4 t) (ix3 0 r e) = ag m c (ix3 (bt t) (rw' t r) e) := by
  have hN := lt_N t
  blk_simp [iblk]
  entry_read
  pointwise
  rw [ag]
  blk_ext [bt, rw', idx t]

theorem ib5 (t : Fin cfg0.N) (k : Fin 3) (e : Fin 2816) : (show FVec Ideal S3x2816 .f32 from iblk m c 5 t) (ix2 k e) = aw m c (ix2 k e) := by
  have hN := lt_N t
  blk_simp [iblk]
  entry_read
  pointwise
  rw [aw]
  blk_ext [idx t]

theorem ib6 (t : Fin cfg0.N) (e : Fin 2816) : (show FVec Ideal S1x2816 .f32 from iblk m c 6 t) (ix2 0 e) = ab m c (ix1 e) := by
  have hN := lt_N t
  blk_simp [iblk]
  entry_read
  pointwise
  rw [ab]
  blk_ext [idx t]

theorem ib7 (t : Fin cfg0.N) (k : Fin 2816) (e : Fin 1024) : (show FVec Ideal S2816x1024 .bf16 from iblk m c 7 t) (ix2 k e) = ad m c (ix2 k e) := by
  have hN := lt_N t
  blk_simp [iblk]
  entry_read
  pointwise
  rw [ad]
  blk_ext [idx t]

theorem pay1_at (v1 : FVec Ideal S256x2816 .f32) (v14 : FVec Ideal S256x1024 .f32) (v21 v33 : FVec Ideal S256x2816 .f32) (v34 : FVec Ideal S3x2816 .f32) (v35 : FVec Ideal S1x2816 .f32)
    (v63 : FVec Ideal S1x256x2816 .f32) (v67 : FVec Ideal S2816x1024 .bf16) (r : Fin 256) (e : Fin 1024) :
    k0_pay1 (F := Ideal) v1 v14 v21 v33 v34 v35 v63 v67 (ix3 0 r e)
      = v14 (ix2 r e) + ∑ f : Fin 2816, gel (taps (v33 (ix2 r f)) (v21 (ix2 r f)) (v1 (ix2 r f)) (v34 (ix2 0 f)) (v34 (ix2 1 f)) (v34 (ix2 2 f)) (v35 (ix2 0 f))) * v63 (ix3 0 r f) * v67 (ix2 f e) := by
  pointwise [k0_pay1]
  rfl

theorem pay2_at (v0 : FVec Ideal S1x256x2816 .f32) (r : Fin 256) (f : Fin 2816) : k0_pay2 (F := Ideal) v0 (ix2 r f) = v0 (ix3 0 r f) := by
  pointwise [k0_pay2]

theorem pay4_at (v0 : FVec Ideal S1x256x1024 .f32) (r : Fin 256) (f : Fin 1024) : k0_pay4 (F := Ideal) v0 (ix2 r f) = v0 (ix3 0 r f) := by
  pointwise [k0_pay4]

theorem cmp_eq {n k : Nat} (hn : n < 4294967296) (hk : k < 4294967296) (h : n = k) : IntOp.cmpi .eq (BitVec.ofNat 32 n) (BitVec.ofNat 32 k) = 1#1 := by
  subst h
  simp [IntOp.cmpi]

theorem cmp_ne {n k : Nat} (hn : n < 4294967296) (hk : k < 4294967296) (h : n ≠ k) : IntOp.cmpi .eq (BitVec.ofNat 32 n) (BitVec.ofNat 32 k) = 0#1 := by
  have h2 : BitVec.ofNat 32 n ≠ BitVec.ofNat 32 k := fun e => h (by
    have := congrArg BitVec.toNat e
    rwa [BitVec.toNat_ofNat, BitVec.toNat_ofNat, Nat.mod_eq_of_lt hn, Nat.mod_eq_of_lt hk] at this)
  show BitVec.ofBool (BitVec.ofNat 32 n == BitVec.ofNat 32 k) = 0#1
  rw [beq_eq_false_iff_ne.mpr h2]
  rfl

theorem sel_one {α : Type} (a b : α) : Scalar.select (1#1) a b = a := rfl
theorem sel_zero {α : Type} (a b : α) : Scalar.select (0#1) a b = b := rfl

/-- The row before the tile, by whether the tile is the sequence's first. -/
theorem pay3_at (i : grid0.Coords) (a b : FVec Ideal S1x1x2816 .f32) (f : Fin 2816) :
    k0_pay3 (F := Ideal) i a b (ix2 0 f) = if (i 1).val = 0 then a (ix3 0 0 f) else b (ix3 0 0 f) := by
  have hi : (i 1).val < 16 := (i 1).isLt
  by_cases h : (i 1).val = 0
  · rw [if_pos h]
    pointwise [k0_pay3]
    exact congrArg (fun s => Scalar.select s (a (ix3 0 0 f)) (b (ix3 0 0 f))) (cmp_eq (n := (i 1).val) (k := 0) (by omega) (by omega) h)
  · rw [if_neg h]
    pointwise [k0_pay3]
    exact congrArg (fun s => Scalar.select s (a (ix3 0 0 f)) (b (ix3 0 0 f))) (cmp_ne (n := (i 1).val) (k := 0) (by omega) (by omega) h)

theorem pay5_zero (i : grid0.Coords) (v0 : FVec Ideal S1x256x2816 .f32) (a b : FVec Ideal S1x1x2816 .f32) (r : Fin 256) (f : Fin 2816) (hr : r.val = 0) :
    k0_pay5 (F := Ideal) i v0 a b (ix2 r f) = if (i 1).val = 0 then a (ix3 0 0 f) else b (ix3 0 0 f) := by
  rw [← pay3_at]
  pointwise [k0_pay5]
  rw [cmp_eq (by omega) (by omega) hr, sel_one]

theorem pay5_pos (i : grid0.Coords) (v0 : FVec Ideal S1x256x2816 .f32) (a b : FVec Ideal S1x1x2816 .f32) (r : Fin 256) (f : Fin 2816) (hr : r.val ≠ 0) :
    k0_pay5 (F := Ideal) i v0 a b (ix2 r f) = v0 (ix3 0 ⟨r.val - 1, by omega⟩ f) := by
  pointwise [k0_pay5]
  rw [cmp_ne (by omega) (by omega) hr, sel_zero, pay2_at]
  exact congrArg (fun k => v0 (ix3 0 k f)) (Fin.ext (by dsimp only; omega))

theorem pay6_zero (i : grid0.Coords) (v0 : FVec Ideal S1x256x2816 .f32) (a' b' a b : FVec Ideal S1x1x2816 .f32) (r : Fin 256) (f : Fin 2816) (hr : r.val = 0) :
    k0_pay6 (F := Ideal) i v0 a' b' a b (ix2 r f) = if (i 1).val = 0 then a' (ix3 0 0 f) else b' (ix3 0 0 f) := by
  have hi : (i 1).val < 16 := (i 1).isLt
  pointwise [k0_pay6]
  rw [cmp_ne (n := r.val) (k := 1) (by omega) (by omega) (by omega), cmp_eq (n := r.val) (k := 0) (by omega) (by omega) hr, sel_zero, sel_one]
  by_cases h : (i 1).val = 0
  · rw [if_pos h]
    exact congrArg (fun s => Scalar.select s (a' (ix3 0 0 f)) (b' (ix3 0 0 f))) (cmp_eq (n := (i 1).val) (k := 0) (by omega) (by omega) h)
  · rw [if_neg h]
    exact congrArg (fun s => Scalar.select s (a' (ix3 0 0 f)) (b' (ix3 0 0 f))) (cmp_ne (n := (i 1).val) (k := 0) (by omega) (by omega) h)

theorem pay6_one (i : grid0.Coords) (v0 : FVec Ideal S1x256x2816 .f32) (a' b' a b : FVec Ideal S1x1x2816 .f32) (r : Fin 256) (f : Fin 2816) (hr : r.val = 1) :
    k0_pay6 (F := Ideal) i v0 a' b' a b (ix2 r f) = if (i 1).val = 0 then a (ix3 0 0 f) else b (ix3 0 0 f) := by
  rw [← pay3_at]
  pointwise [k0_pay6]
  rw [cmp_eq (n := r.val) (k := 1) (by omega) (by omega) hr, sel_one]

theorem pay6_pos (i : grid0.Coords) (v0 : FVec Ideal S1x256x2816 .f32) (a' b' a b : FVec Ideal S1x1x2816 .f32) (r : Fin 256) (f : Fin 2816) (hr : 2 ≤ r.val) :
    k0_pay6 (F := Ideal) i v0 a' b' a b (ix2 r f) = v0 (ix3 0 ⟨r.val - 2, by omega⟩ f) := by
  pointwise [k0_pay6]
  rw [cmp_ne (n := r.val) (k := 1) (by omega) (by omega) (by omega), cmp_ne (n := r.val) (k := 0) (by omega) (by omega) (by omega), sel_zero, sel_zero, pay2_at]
  exact congrArg (fun k => v0 (ix3 0 k f)) (Fin.ext (by dsimp only; omega))

theorem ld1 (x : S1x2x2816.Idx → Elt Ideal .f32) (f : Fin 2816) : View.ld x r0_1 (ix3 0 0 f) = x (ix3 0 0 f) := by pointwise
theorem ld2 (x : S1x8x2816.Idx → Elt Ideal .f32) (f : Fin 2816) : View.ld x r0_2 (ix3 0 0 f) = x (ix3 0 6 f) := by pointwise
theorem ld3 (x : S1x2x2816.Idx → Elt Ideal .f32) (f : Fin 2816) : View.ld x r0_3 (ix3 0 0 f) = x (ix3 0 1 f) := by pointwise
theorem ld4 (x : S1x8x2816.Idx → Elt Ideal .f32) (f : Fin 2816) : View.ld x r0_4 (ix3 0 0 f) = x (ix3 0 7 f) := by pointwise

/-- A row and channel of the extended sequence, counted from grid point `t`'s first. -/
abbrev ex (t : Fin cfg0.N) (n : Nat) (f : Fin 2816) : EReal := ext (au m c) (ap m c) (bt t) (t.val % 16 * 256 + n) f

theorem u2_at (t : Fin cfg0.N) (r : Fin 256) (f : Fin 2816) :
    (show FVec Ideal S1x256x2816 .f32 from iblk m c 1 t) (ix3 0 r f) = ex m c t (r.val + 2) f :=
  (ib1 m c t r f).trans (ext_ge (t.val % 16 * 256 + r.val) (by omega) (by omega)).symm

/-- The row `n` before the tile. -/
theorem carry (t : Fin cfg0.N) (n : Nat) (hn : n < 2) (p q : FVec Ideal S1x1x2816 .f32) (f : Fin 2816)
    (hp : p (ix3 0 0 f) = (show FVec Ideal S1x2x2816 .f32 from iblk m c 3 t) (ix3 0 ⟨n, hn⟩ f))
    (hq : q (ix3 0 0 f) = (show FVec Ideal S1x8x2816 .f32 from iblk m c 2 t) (ix3 0 ⟨n + 6, by omega⟩ f)) :
    (if (grid0.coords t 1).val = 0 then p (ix3 0 0 f) else q (ix3 0 0 f)) = ex m c t n f := by
  rw [coord1 t, ex]
  by_cases h : t.val % 16 = 0
  · rw [if_pos h, hp, ib3, ext_lt (by omega)]
    exact congrArg (fun k => ap m c (ix3 (bt t) k f)) (Fin.ext (by dsimp only; omega))
  · rw [if_neg h, hq, ib2 m c t h, ext_ge (t.val % 16 * 256 - 2 + n) (by omega) (by omega)]
    exact congrArg (fun k => au m c (ix3 (bt t) k f)) (Fin.ext (by dsimp only; omega))

theorem u1_at (t : Fin cfg0.N) (r : Fin 256) (f : Fin 2816) :
    k0_pay5 (F := Ideal) (grid0.coords t) (iblk m c 1 t) (View.ld (iblk m c 3 t) r0_3) (View.ld (iblk m c 2 t) r0_4) (ix2 r f) = ex m c t (r.val + 1) f := by
  by_cases h : r.val = 0
  · rw [pay5_zero _ _ _ _ _ _ h, h]
    exact carry m c t 1 (by omega) _ _ f (ld3 _ _) (ld4 _ _)
  · rw [pay5_pos _ _ _ _ _ _ h]
    refine (u2_at m c t _ f).trans ?_
    exact congrArg (fun k => ex m c t k f) (by dsimp only; omega)

theorem u0_at (t : Fin cfg0.N) (r : Fin 256) (f : Fin 2816) :
    k0_pay6 (F := Ideal) (grid0.coords t) (iblk m c 1 t) (View.ld (iblk m c 3 t) r0_1) (View.ld (iblk m c 2 t) r0_2) (View.ld (iblk m c 3 t) r0_3) (View.ld (iblk m c 2 t) r0_4) (ix2 r f)
      = ex m c t r.val f := by
  by_cases h : r.val = 0
  · rw [pay6_zero _ _ _ _ _ _ _ _ h, h]
    exact carry m c t 0 (by omega) _ _ f (ld1 _ _) (ld2 _ _)
  · by_cases h1 : r.val = 1
    · rw [pay6_one _ _ _ _ _ _ _ _ h1, h1]
      exact carry m c t 1 (by omega) _ _ f (ld3 _ _) (ld4 _ _)
    · rw [pay6_pos _ _ _ _ _ _ _ _ (by omega)]
      refine (u2_at m c t _ f).trans ?_
      exact congrArg (fun k => ex m c t k f) (by dsimp only; omega)

/-- The layer's rows plus the gated, convolved and activated rows times the down weights. -/
def val (X : FVec Ideal S4x4096x1024 .f32) (U G : FVec Ideal S4x4096x2816 .f32) (P : FVec Ideal S4x2x2816 .f32) (W : FVec Ideal S3x2816 .f32) (B : FVec Ideal S2816 .f32) (D : FVec Ideal S2816x1024 .f32)
    (b : Fin 4) (n : Fin 4096) (e : Fin 1024) : EReal :=
  X (ix3 b n e) + ∑ f : Fin 2816, gel (taps (ext U P b n.val f) (ext U P b (n.val + 1) f) (ext U P b (n.val + 2) f) (W (ix2 0 f)) (W (ix2 1 f)) (W (ix2 2 f)) (B (ix1 f))) * G (ix3 b n f) * D (ix2 f e)

def out : FVec Ideal S4x4096x1024 .f32 := fun y => val (ax m c) (au m c) (ag m c) (ap m c) (aw m c) (ab m c) (ad m c) (y 0) (y 1) (y 2)

theorem out_at (t : Fin cfg0.N) (z : S4x4096x1024.Idx) (r : Fin 256) (e : Fin 1024)
    (e0 : (z 0).val = t.val / 16) (e1 : (z 1).val = t.val % 16 * 256 + r.val) (e2 : (z 2).val = e.val) :
    k0_pay1 (F := Ideal) (k0_pay2 (iblk m c 1 t)) (k0_pay4 (iblk m c 0 t))
      (k0_pay5 (F := Ideal) (grid0.coords t) (iblk m c 1 t) (View.ld (iblk m c 3 t) r0_3) (View.ld (iblk m c 2 t) r0_4))
      (k0_pay6 (F := Ideal) (grid0.coords t) (iblk m c 1 t) (View.ld (iblk m c 3 t) r0_1) (View.ld (iblk m c 2 t) r0_2) (View.ld (iblk m c 3 t) r0_3) (View.ld (iblk m c 2 t) r0_4))
      (iblk m c 5 t) (iblk m c 6 t) (iblk m c 4 t) (iblk m c 7 t) (ix3 0 r e) = out m c z := by
  have a0 : z 0 = bt t := Fin.ext e0
  have a1 : z 1 = rw' t r := Fin.ext e1
  have a2 : z 2 = e := Fin.ext e2
  rw [pay1_at, out, a0, a1, a2, val]
  refine congr (congrArg HAdd.hAdd ?_) (Finset.sum_congr rfl fun f _ => ?_)
  · exact (pay4_at _ _ _).trans (ib0 m c t r e)
  · have h2 := (pay2_at (iblk m c 1 t) r f).trans (u2_at m c t r f)
    have h5 := fun k => ib5 m c t k f
    rw [u1_at, u0_at, h2]
    exact congr (congrArg HMul.hMul (congr (congrArg HMul.hMul (congrArg gel (by
      rw [show (iblk m c 5 t : FVec Ideal S3x2816 .f32) (ix2 0 f) = _ from h5 0, show (iblk m c 5 t : FVec Ideal S3x2816 .f32) (ix2 1 f) = _ from h5 1,
        show (iblk m c 5 t : FVec Ideal S3x2816 .f32) (ix2 2 f) = _ from h5 2, show (iblk m c 6 t : FVec Ideal S1x2816 .f32) (ix2 0 f) = _ from ib6 m c t f]
      rfl))) (ib4 m c t r f))) (ib7 m c t f e)

theorem eq_one (y : S1x256x1024.Idx) : y = ix3 0 (y 1) (y 2) := by
  have h : (show Fin 1 from y 0) = 0 := Subsingleton.elim _ _
  exact (eq_ix3 y).trans (congrArg (fun k => ix3 k (y 1) (y 2)) h)

theorem final : (dats m 0 c).arrAt 8 (cfgs 0).N = out m c := by
  refine (dats m 0 c).arrAt_eq_of_covers 8 (out m c) (by decide +kernel) fun t hf y => ?_
  have e0 : ((win0_8.blk t).view.emb y 0).val = t.val / 16 := by blk_simp [idx t]
  have e1 : ((win0_8.blk t).view.emb y 1).val = t.val % 16 * 256 + (y 1).val := by blk_simp [idx t]
  have e2 : ((win0_8.blk t).view.emb y 2).val = (y 2).val := by blk_simp [idx t]
  have hy : (show S1x256x1024.Idx from y) = ix3 0 (y 1) (y 2) := eq_one _
  blk_simp
  rw [after0_8]
  generalize (win0_8.blk t).view.emb y = z at *
  frame_out
  exact (congrArg _ hy).trans (out_at m c t z (y 1) (y 2) e0 e1 e2)

end Cert.Kernel4Ideal.Val

namespace Cert.Reference4Ideal.Val

open Idealize.ShloMosaic Idealize.ShloMosaic.TcCoe Idealize.SL.Sem Cert.Reference4Ideal Cert.Reference4Ideal.Gen Cert.Conv

theorem ext_at0 (U : FVec Ideal S4x4096x2816 .f32) (P : FVec Ideal S4x2x2816 .f32) (b : Fin 4) (n : Fin 4098) (f : Fin 2816) :
    (concatenate S4x4098x2816 1 [⟨S4x2x2816, P⟩, ⟨S4x4096x2816, U⟩] concatenates_S4x2x2816_S4x4096x2816_S4x4098x2816_d1 : FVec Ideal S4x4098x2816 .f32) (ix3 b n f) = ext U P b n.val f := by
  by_cases h : n.val < 2
  · rw [ext_lt h]
    pointwise
    rw [dif_pos (by exact h)]
  · rw [ext_ge (n.val - 2) (by omega) (by omega)]
    pointwise
    rw [dif_neg (by exact h)]

def conv (U : FVec Ideal S4x4096x2816 .f32) (P : FVec Ideal S4x2x2816 .f32) (W : FVec Ideal S3x2816 .f32) (B : FVec Ideal S2816 .f32) : FVec Ideal S4x4096x2816 .f32 :=
  (addf (addf (addf (broadcastInDim S4x4096x2816 ![0, 1, 2] bcast_S1x1x2816_S4x4096x2816_0_1_2 (broadcastInDim S1x1x2816 ![2] bcast_S2816_S1x1x2816_2 B)) (mulf (broadcastInDim S4x4096x2816 ![0, 1, 2] bcast_S1x1x2816_S4x4096x2816_0_1_2 (broadcastInDim S1x1x2816 ![2] bcast_S2816_S1x1x2816_2 (shapeCast _ (extractStridedSlice S1x2816 ![0, 0] W slices_S3x2816_S1x2816_0_0) shapeCasts_S1x2816_S2816))) (extractStridedSlice S4x4096x2816 ![0, 0, 0] (concatenate S4x4098x2816 1 [⟨S4x2x2816, P⟩, ⟨S4x4096x2816, U⟩] concatenates_S4x2x2816_S4x4096x2816_S4x4098x2816_d1) slices_S4x4098x2816_S4x4096x2816_0_0_0))) (mulf (broadcastInDim S4x4096x2816 ![0, 1, 2] bcast_S1x1x2816_S4x4096x2816_0_1_2 (broadcastInDim S1x1x2816 ![2] bcast_S2816_S1x1x2816_2 (shapeCast _ (extractStridedSlice S1x2816 ![1, 0] W slices_S3x2816_S1x2816_1_0) shapeCasts_S1x2816_S2816))) (extractStridedSlice S4x4096x2816 ![0, 1, 0] (concatenate S4x4098x2816 1 [⟨S4x2x2816, P⟩, ⟨S4x4096x2816, U⟩] concatenates_S4x2x2816_S4x4096x2816_S4x4098x2816_d1) slices_S4x4098x2816_S4x4096x2816_0_1_0))) (mulf (broadcastInDim S4x4096x2816 ![0, 1, 2] bcast_S1x1x2816_S4x4096x2816_0_1_2 (broadcastInDim S1x1x2816 ![2] bcast_S2816_S1x1x2816_2 (shapeCast _ (extractStridedSlice S1x2816 ![2, 0] W slices_S3x2816_S1x2816_2_0) shapeCasts_S1x2816_S2816))) (extractStridedSlice S4x4096x2816 ![0, 2, 0] (concatenate S4x4098x2816 1 [⟨S4x2x2816, P⟩, ⟨S4x4096x2816, U⟩] concatenates_S4x2x2816_S4x4096x2816_S4x4098x2816_d1) slices_S4x4098x2816_S4x4096x2816_0_2_0)))

theorem conv_at (U : FVec Ideal S4x4096x2816 .f32) (P : FVec Ideal S4x2x2816 .f32) (W : FVec Ideal S3x2816 .f32) (B : FVec Ideal S2816 .f32) (b : Fin 4) (n : Fin 4096) (f : Fin 2816) :
    conv U P W B (ix3 b n f) = taps (ext U P b n.val f) (ext U P b (n.val + 1) f) (ext U P b (n.val + 2) f) (W (ix2 0 f)) (W (ix2 1 f)) (W (ix2 2 f)) (B (ix1 f)) := by
  rw [conv]
  generalize hC : (concatenate S4x4098x2816 1 [⟨S4x2x2816, P⟩, ⟨S4x4096x2816, U⟩] concatenates_S4x2x2816_S4x4096x2816_S4x4098x2816_d1 : FVec Ideal S4x4098x2816 .f32) = C
  have hC' : ∀ n f, C (ix3 b n f) = ext U P b n.val f := fun n f => by rw [← hC]; exact ext_at0 U P b n f
  pointwise
  rw [hC', hC', hC', taps]
  dsimp only
  rw [Nat.add_comm 1 n.val, Nat.add_comm 2 n.val]

theorem ref_at (X : FVec Ideal S4x4096x1024 .f32) (G C : FVec Ideal S4x4096x2816 .f32) (D : FVec Ideal S2816x1024 .f32) (b : Fin 4) (n : Fin 4096) (e : Fin 1024) :
    ((addf X (Host.dotGeneral dot_S4x4096x2816_S2816x1024_S4x4096x1024_2_0_01_1_n_n none (mulf (mulf C (mulf (broadcastInDim S4x4096x2816 ![] bcast_S_S4x4096x2816 (constant S_ .f32 0x3F000000#32)) (addf (broadcastInDim S4x4096x2816 ![] bcast_S_S4x4096x2816 (constant S_ .f32 0x3F800000#32)) (Host.tanh (mulf (broadcastInDim S4x4096x2816 ![] bcast_S_S4x4096x2816 (constant S_ .f32 0x3F4C422A#32)) (addf C (mulf (broadcastInDim S4x4096x2816 ![] bcast_S_S4x4096x2816 (constant S_ .f32 0x3D372713#32)) (mulf (mulf C C) C)))))))) G) D)) : FVec Ideal S4x4096x1024 .f32) (ix3 b n e)
      = X (ix3 b n e) + ∑ f : Fin 2816, gel (C (ix3 b n f)) * G (ix3 b n f) * D (ix2 f e) := by
  pointwise
  rfl

theorem ref_val (X : FVec Ideal S4x4096x1024 .f32) (U G : FVec Ideal S4x4096x2816 .f32) (P : FVec Ideal S4x2x2816 .f32) (W : FVec Ideal S3x2816 .f32) (B : FVec Ideal S2816 .f32) (D : FVec Ideal S2816x1024 .f32)
    (b : Fin 4) (n : Fin 4096) (e : Fin 1024) :
    X (ix3 b n e) + ∑ f : Fin 2816, gel (conv U P W B (ix3 b n f)) * G (ix3 b n f) * D (ix2 f e) = Cert.Kernel4Ideal.Val.val X U G P W B D b n e := by
  simp only [conv_at, Cert.Kernel4Ideal.Val.val]

theorem res_at (m : (ℓ : Loc nD τ sig) → Buf (Elt Ideal) ℓ) (c : Dev nD) (b : Fin 4) (n : Fin 4096) (e : Fin 1024) :
    (show FVec Ideal S4x4096x1024 .f32 from Cert.Reference4Ideal.Value.res_main_v39 m c) (ix3 b n e)
      = Cert.Kernel4Ideal.Val.val (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) b n e :=
  (ref_at (m ((c.tc : Thread nD τ).loc main_arg0)) (m ((c.tc : Thread nD τ).loc main_arg2))
    (conv (m ((c.tc : Thread nD τ).loc main_arg1)) (m ((c.tc : Thread nD τ).loc main_arg3)) (m ((c.tc : Thread nD τ).loc main_arg4)) (m ((c.tc : Thread nD τ).loc main_arg5)))
    (m ((c.tc : Thread nD τ).loc main_arg6)) b n e).trans (ref_val _ _ _ _ _ _ _ b n e)

theorem alg : Cert.algebraic_Kernel4Ideal_Reference4Ideal := by
  intro m g m' g' _ hagree
  refine ⟨fun c => Cert.Kernel4Ideal.Val.out m c, ?_, ?_⟩
  · exact (θ_run _ _ _).mono (fun r h c => ⟨((h c).1).trans (Cert.Kernel4Ideal.Val.final m c), (h c).2⟩) (Cert.Kernel4Ideal.Value.run_blocks m g)
  · run_from (Cert.Reference4Ideal.Value.run m' g')
    funext y
    rw [eq_ix3 y]
    refine (res_at m' c _ _ _).trans ?_
    obtain ⟨h0, h1, h2, h3, h4, h5, h6⟩ := hagree c
    rw [h0, h1, h2, h3, h4, h5, h6]
    rfl

end Cert.Reference4Ideal.Val

end
-- ==== Proof.Proj.lean ====
/- The layer's first norm and the projections from it. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.Claim
public import proofs.«01_k».proof.Proof.Rms

@[expose] public section

set_option maxRecDepth 16384

noncomputable section

namespace Cert.Prj

open Idealize.ShloMosaic Idealize.ShloMosaic.TcCoe Cert.Rms

variable (X : (⟨3, ![4, 4096, 1024]⟩ : Shape).Idx → EReal) (G : (⟨1, ![1024]⟩ : Shape).Idx → EReal) (W : (⟨2, ![1024, 6208]⟩ : Shape).Idx → EReal) (n : Fin 16384)

/-- One normalised entry of row `n`. -/
def hid (j : Fin 1024) : EReal := rms (fun k => X (row n.val n.isLt k)) (Ideal.ofBits .f32 0x44800000#32) (G (ix1 j)) j

/-- Column `k` of row `n`'s projection. -/
def prj (k : Fin 6208) : EReal := ∑ j : Fin 1024, hid X G n j * W (ix2 j k)

/-- Column `off + e`. -/
def cl (off : ℕ) {w : ℕ} (h : off + w ≤ 6208) (e : Fin w) : Fin 6208 := ⟨off + e.val, by omega⟩

/-- Columns `off` on, normed on their own. -/
def ltn (off : ℕ) (h : off + 256 ≤ 6208) (g : (⟨1, ![256]⟩ : Shape).Idx → EReal) (e : Fin 256) : EReal :=
  rms (fun k : Fin 256 => prj X G W n (cl off h k)) (Ideal.ofBits .f32 0x43800000#32) (g (ix1 e)) e

/-- The angle of position `p` in lane `k`. -/
def ang (p : Fin 4096) (k : Fin 16) : EReal :=
  FloatOps.sitofp (F := Ideal) .f32 (BitVec.ofNat 32 p.val) * Ideal.exp (Ideal.div (Ideal.ofBits .f32 0xC1135D8E#32 * FloatOps.sitofp (F := Ideal) .f32 (BitVec.ofNat 32 k.val)) (Ideal.ofBits .f32 0x41800000#32))

/-- Lane `e` of the rotated columns of row `n`. -/
def rop (e : Fin 32) : EReal :=
  if h : e.val < 16 then prj X G W n (cl 3104 (by decide) (⟨e.val, by omega⟩ : Fin 32)) * Ideal.cos (ang ⟨n.val % 4096, by omega⟩ ⟨e.val, h⟩) - prj X G W n (cl 3104 (by decide) (⟨16 + e.val, by omega⟩ : Fin 32)) * Ideal.sin (ang ⟨n.val % 4096, by omega⟩ ⟨e.val, h⟩)
  else prj X G W n (cl 3104 (by decide) (⟨16 + (e.val - 16), by omega⟩ : Fin 32)) * Ideal.cos (ang ⟨n.val % 4096, by omega⟩ ⟨e.val - 16, by omega⟩) + prj X G W n (cl 3104 (by decide) (⟨e.val - 16, by omega⟩ : Fin 32)) * Ideal.sin (ang ⟨n.val % 4096, by omega⟩ ⟨e.val - 16, by omega⟩)

end Cert.Prj

namespace Cert.Kernel2Ideal.Val

open Idealize.ShloMosaic Idealize.ShloMosaic.TcCoe Idealize.SL.Sem Cert.Kernel2Ideal Cert.Kernel2Ideal.Gen Cert.Rms Cert.Prj

variable (m : (ℓ : Loc nD τ sig) → Buf (Elt Ideal) ℓ) (c : Dev nD)

def ax : FVec Ideal S4x4096x1024 .f32 := m ((c : Thread nD τ).loc main_arg0)
def ag : FVec Ideal S1024 .f32 := m ((c : Thread nD τ).loc main_arg1)
def aw : FVec Ideal S1024x6208 .f32 := m ((c : Thread nD τ).loc main_arg2)
def aq : FVec Ideal S256 .f32 := m ((c : Thread nD τ).loc main_arg3)
def ak : FVec Ideal S256 .f32 := m ((c : Thread nD τ).loc main_arg4)

theorem lt_N (t : Fin cfg0.N) : t.val < 64 := lt_of_lt_of_eq t.isLt (show cfg0.N = 64 from N_0)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- A row of grid point `t`'s tile. -/
def nt (t : Fin cfg0.N) (r : Fin 256) : Fin 16384 := ⟨t.val * 256 + r.val, by have := lt_N t; omega⟩

theorem ib0 (t : Fin cfg0.N) (r : Fin 256) (e : Fin 1024) : (show FVec Ideal S256x1024 .f32 from iblk m c 0 t) (ix2 r e) = ax m c (row (nt t r).val (nt t r).isLt e) := by
  have hN := lt_N t
  blk_simp [iblk]
  entry_read
  pointwise
  rw [ax]
  blk_ext [nt, row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [nt, row, idx t]

theorem ib3 (t : Fin cfg0.N) (e : Fin 256) : (show FVec Ideal S1x256 .f32 from iblk m c 3 t) (ix2 0 e) = aq m c (ix1 e) := by
  have hN := lt_N t
  blk_simp [iblk]
  entry_read
  pointwise
  rw [aq]
  blk_ext [nt, row, idx t]

theorem ib4 (t : Fin cfg0.N) (e : Fin 256) : (show FVec Ideal S1x256 .f32 from iblk m c 4 t) (ix2 0 e) = ak m c (ix1 e) := by
  have hN := lt_N t
  blk_simp [iblk]
  entry_read
  pointwise
  rw [ak]
  blk_ext [nt, row, idx t]

theorem ib5 (t : Fin cfg0.N) (j : Fin 1024) (e : Fin 1824) : (show FVec Ideal S1024x1824 .bf16 from iblk m c 5 t) (ix2 j e) = aw m c (ix2 j ⟨0 + e.val, by omega⟩) := by
  have hN := lt_N t
  blk_simp [iblk]
  entry_read
  pointwise
  rw [aw]
  blk_ext [nt, row, idx t]

theorem ib6 (t : Fin cfg0.N) (j : Fin 1024) (e : Fin 512) : (show FVec Ideal S1024x512 .bf16 from iblk m c 6 t) (ix2 j e) = aw m c (ix2 j ⟨1824 + e.val, by omega⟩) := by
  have hN := lt_N t
  blk_simp [iblk]
  entry_read
  pointwise
  rw [aw]
  blk_ext [nt, row, idx t]

theorem ib7 (t : Fin cfg0.N) (j : Fin 1024) (e : Fin 128) : (show FVec Ideal S1024x128 .bf16 from iblk m c 7 t) (ix2 j e) = aw m c (ix2 j ⟨2336 + e.val, by omega⟩) := by
  have hN := lt_N t
  blk_simp [iblk]
  entry_read
  pointwise
  rw [aw]
  blk_ext [nt, row, idx t]

theorem ib8 (t : Fin cfg0.N) (j : Fin 1024) (e : Fin 128) : (show FVec Ideal S1024x128 .bf16 from iblk m c 8 t) (ix2 j e) = aw m c (ix2 j ⟨2464 + e.val, by omega⟩) := by
  have hN := lt_N t
  blk_simp [iblk]
  entry_read
  pointwise
  rw [aw]
  blk_ext [nt, row, idx t]

theorem ib9 (t : Fin cfg0.N) (j : Fin 1024) (e : Fin 256) : (show FVec Ideal S1024x256 .bf16 from iblk m c 9 t) (ix2 j e) = aw m c (ix2 j ⟨2592 + e.val, by omega⟩) := by
  have hN := lt_N t
  blk_simp [iblk]
  entry_read
  pointwise
  rw [aw]
  blk_ext [nt, row, idx t]

theorem ib10 (t : Fin cfg0.N) (j : Fin 1024) (e : Fin 256) : (show FVec Ideal S1024x256 .bf16 from iblk m c 10 t) (ix2 j e) = aw m c (ix2 j ⟨2848 + e.val, by omega⟩) := by
  have hN := lt_N t
  blk_simp [iblk]
  entry_read
  pointwise
  rw [aw]
  blk_ext [nt, row, idx t]

theorem ib12 (t : Fin cfg0.N) (j : Fin 1024) (e : Fin 3072) : (show FVec Ideal S1024x3072 .bf16 from iblk m c 12 t) (ix2 j e) = aw m c (ix2 j ⟨3136 + e.val, by omega⟩) := by
  have hN := lt_N t
  blk_simp [iblk]
  entry_read
  pointwise
  rw [aw]
  blk_ext [nt, row, idx t]

theorem pick (A : FVec Ideal S1024x6208 .f32) (u : Fin 1024) (v : Fin 64) (j : Fin 1024) (q : Fin 64) (k : Fin 6208) (e0 : u.val = j.val) (e1 : v.val = q.val)
    (hk : k.val = if q.val < 32 then 3104 + q.val else if q.val < 48 then 3104 + (16 + (q.val - 32)) else 3104 + (q.val - 32 - 16)) :
    (if h : v.val < 32 then A (ix2 u ⟨3104 + v.val, by omega⟩) else if h' : v.val - 32 < 16 then A (ix2 u ⟨3104 + (16 + (v.val - 32)), by omega⟩) else A (ix2 u ⟨3104 + (v.val - 32 - 16), by omega⟩)) = A (ix2 j k) := by
  have pt : ∀ w : Fin 6208, w.val = k.val → A (ix2 u w) = A (ix2 j k) := fun w hw => congrArg A (congr (congrArg ix2 (Fin.ext e0)) (Fin.ext hw))
  by_cases h1 : q.val < 32
  · rw [dif_pos (by omega)]
    rw [if_pos h1] at hk
    refine pt _ ?_
    dsimp only
    omega
  · rw [if_neg h1] at hk
    by_cases h2 : q.val < 48
    · rw [dif_neg (by omega), dif_pos (by omega)]
      rw [if_pos h2] at hk
      refine pt _ ?_
      dsimp only
      omega
    · rw [dif_neg (by omega), dif_neg (by omega)]
      rw [if_neg h2] at hk
      refine pt _ ?_
      dsimp only
      omega

theorem ib11 (t : Fin cfg0.N) (j : Fin 1024) (q : Fin 64) (k : Fin 6208) (hk : k.val = if q.val < 32 then 3104 + q.val else if q.val < 48 then 3104 + (16 + (q.val - 32)) else 3104 + (q.val - 32 - 16)) :
    (show FVec Ideal S1024x64 .bf16 from iblk m c 11 t) (ix2 j q) = aw m c (ix2 j k) := by
  have hN := lt_N t
  blk_simp [iblk]
  entry_read
  pointwise
  have e0 : (((View.whole main_v42).slice (win0_11.rect t)).emb (ix2 j q) 0).val = j.val := by blk_simp [idx t]
  have e1 : (((View.whole main_v42).slice (win0_11.rect t)).emb (ix2 j q) 1).val = q.val := by blk_simp [idx t]
  exact pick (aw m c) _ _ j q k e0 e1 hk

section

variable {F : FTy → Type} [FloatOps F]

/-- The operations up to the angles. -/
abbrev pre : List (HloOp τ sig (Elt F)) :=
  [StableHlo.unary main_arg2 main_v0 ((extractStridedSlice S1024x1824 ![0, 0] · slices_S1024x6208_S1024x1824_0_0) : (⟨S1024x6208, .f32⟩ : BufTy).Contents (Elt F) → (⟨S1024x1824, .f32⟩ : BufTy).Contents (Elt F)),
    StableHlo.unary main_arg2 main_v1 ((extractStridedSlice S1024x512 ![0, 1824] · slices_S1024x6208_S1024x512_0_1824) : (⟨S1024x6208, .f32⟩ : BufTy).Contents (Elt F) → (⟨S1024x512, .f32⟩ : BufTy).Contents (Elt F)),
    StableHlo.unary main_arg2 main_v2 ((extractStridedSlice S1024x128 ![0, 2336] · slices_S1024x6208_S1024x128_0_2336) : (⟨S1024x6208, .f32⟩ : BufTy).Contents (Elt F) → (⟨S1024x128, .f32⟩ : BufTy).Contents (Elt F)),
    StableHlo.unary main_arg2 main_v3 ((extractStridedSlice S1024x128 ![0, 2464] · slices_S1024x6208_S1024x128_0_2464) : (⟨S1024x6208, .f32⟩ : BufTy).Contents (Elt F) → (⟨S1024x128, .f32⟩ : BufTy).Contents (Elt F)),
    StableHlo.unary main_arg2 main_v4 ((extractStridedSlice S1024x256 ![0, 2592] · slices_S1024x6208_S1024x256_0_2592) : (⟨S1024x6208, .f32⟩ : BufTy).Contents (Elt F) → (⟨S1024x256, .f32⟩ : BufTy).Contents (Elt F)),
    StableHlo.unary main_arg2 main_v5 ((extractStridedSlice S1024x256 ![0, 2848] · slices_S1024x6208_S1024x256_0_2848) : (⟨S1024x6208, .f32⟩ : BufTy).Contents (Elt F) → (⟨S1024x256, .f32⟩ : BufTy).Contents (Elt F)),
    StableHlo.unary main_arg2 main_v6 ((extractStridedSlice S1024x32 ![0, 3104] · slices_S1024x6208_S1024x32_0_3104) : (⟨S1024x6208, .f32⟩ : BufTy).Contents (Elt F) → (⟨S1024x32, .f32⟩ : BufTy).Contents (Elt F)),
    StableHlo.unary main_arg2 main_v7 ((extractStridedSlice S1024x3072 ![0, 3136] · slices_S1024x6208_S1024x3072_0_3136) : (⟨S1024x6208, .f32⟩ : BufTy).Contents (Elt F) → (⟨S1024x3072, .f32⟩ : BufTy).Contents (Elt F)),
    StableHlo.unary main_v6 main_v8 ((extractStridedSlice S1024x16 ![0, 16] · slices_S1024x32_S1024x16_0_16) : (⟨S1024x32, .f32⟩ : BufTy).Contents (Elt F) → (⟨S1024x16, .f32⟩ : BufTy).Contents (Elt F)),
    StableHlo.unary main_v6 main_v9 ((extractStridedSlice S1024x16 ![0, 0] · slices_S1024x32_S1024x16_0_0) : (⟨S1024x32, .f32⟩ : BufTy).Contents (Elt F) → (⟨S1024x16, .f32⟩ : BufTy).Contents (Elt F)),
    StableHlo.binary main_v8 main_v9 main_v10 ((fun a b => concatenate S1024x32 1 [⟨S1024x16, a⟩, ⟨S1024x16, b⟩] concatenates_S1024x16_S1024x16_S1024x32_d1) : (⟨S1024x16, .f32⟩ : BufTy).Contents (Elt F) → (⟨S1024x16, .f32⟩ : BufTy).Contents (Elt F) → (⟨S1024x32, .f32⟩ : BufTy).Contents (Elt F)),
    StableHlo.binary main_v6 main_v10 main_v11 ((fun a b => concatenate S1024x64 1 [⟨S1024x32, a⟩, ⟨S1024x32, b⟩] concatenates_S1024x32_S1024x32_S1024x64_d1) : (⟨S1024x32, .f32⟩ : BufTy).Contents (Elt F) → (⟨S1024x32, .f32⟩ : BufTy).Contents (Elt F) → (⟨S1024x64, .f32⟩ : BufTy).Contents (Elt F)),
    StableHlo.nullary main_v12 (iotaInDim S4096 32 0),
    StableHlo.nullary main_v13 (sitofp .f32 (iotaInDim S16 32 0)),
    StableHlo.nullary main_cst (constant S_ .f32 0xC1135D8E#32),
    StableHlo.unary main_cst main_v14 (broadcastInDim S16 ![] bcast_S_S16 : (⟨S_, .f32⟩ : BufTy).Contents (Elt F) → (⟨S16, .f32⟩ : BufTy).Contents (Elt F)),
    StableHlo.binary main_v14 main_v13 main_v15 (mulf : (⟨S16, .f32⟩ : BufTy).Contents (Elt F) → (⟨S16, .f32⟩ : BufTy).Contents (Elt F) → (⟨S16, .f32⟩ : BufTy).Contents (Elt F)),
    StableHlo.nullary main_cst_0 (constant S_ .f32 0x41800000#32),
    StableHlo.unary main_cst_0 main_v16 (broadcastInDim S16 ![] bcast_S_S16 : (⟨S_, .f32⟩ : BufTy).Contents (Elt F) → (⟨S16, .f32⟩ : BufTy).Contents (Elt F)),
    StableHlo.binary main_v15 main_v16 main_v17 (Host.divf : (⟨S16, .f32⟩ : BufTy).Contents (Elt F) → (⟨S16, .f32⟩ : BufTy).Contents (Elt F) → (⟨S16, .f32⟩ : BufTy).Contents (Elt F)),
    StableHlo.unary main_v17 main_v18 (Host.exp : (⟨S16, .f32⟩ : BufTy).Contents (Elt F) → (⟨S16, .f32⟩ : BufTy).Contents (Elt F)),
    StableHlo.unary main_v12 main_v19 (sitofp .f32 : (⟨S4096, .i32⟩ : BufTy).Contents (Elt F) → (⟨S4096, .f32⟩ : BufTy).Contents (Elt F)),
    StableHlo.unary main_v19 main_v20 (broadcastInDim S4096x1 ![0] bcast_S4096_S4096x1_0 : (⟨S4096, .f32⟩ : BufTy).Contents (Elt F) → (⟨S4096x1, .f32⟩ : BufTy).Contents (Elt F)),
    StableHlo.unary main_v18 main_v21 (broadcastInDim S1x16 ![1] bcast_S16_S1x16_1 : (⟨S16, .f32⟩ : BufTy).Contents (Elt F) → (⟨S1x16, .f32⟩ : BufTy).Contents (Elt F)),
    StableHlo.unary main_v20 main_v22 (broadcastInDim S4096x16 ![0, 1] bcast_S4096x1_S4096x16_0_1 : (⟨S4096x1, .f32⟩ : BufTy).Contents (Elt F) → (⟨S4096x16, .f32⟩ : BufTy).Contents (Elt F)),
    StableHlo.unary main_v21 main_v23 (broadcastInDim S4096x16 ![0, 1] bcast_S1x16_S4096x16_0_1 : (⟨S1x16, .f32⟩ : BufTy).Contents (Elt F) → (⟨S4096x16, .f32⟩ : BufTy).Contents (Elt F)),
    StableHlo.binary main_v22 main_v23 main_v24 (mulf : (⟨S4096x16, .f32⟩ : BufTy).Contents (Elt F) → (⟨S4096x16, .f32⟩ : BufTy).Contents (Elt F) → (⟨S4096x16, .f32⟩ : BufTy).Contents (Elt F))]

/-- The table's pieces. -/
abbrev mid : List (HloOp τ sig (Elt F)) :=
  [StableHlo.unary main_v24 main_v25 (Host.cos : (⟨S4096x16, .f32⟩ : BufTy).Contents (Elt F) → (⟨S4096x16, .f32⟩ : BufTy).Contents (Elt F)),
    StableHlo.unary main_v24 main_v26 (Host.sin : (⟨S4096x16, .f32⟩ : BufTy).Contents (Elt F) → (⟨S4096x16, .f32⟩ : BufTy).Contents (Elt F)),
    StableHlo.unary main_v26 main_v27 (Host.negf : (⟨S4096x16, .f32⟩ : BufTy).Contents (Elt F) → (⟨S4096x16, .f32⟩ : BufTy).Contents (Elt F))]

/-- The table's four pieces, side by side. -/
abbrev cat : List (HloOp τ sig (Elt F)) :=
  [StableHlo.nary ![main_v25, main_v25, main_v27, main_v26] main_v28 (fun u => (concatenate S4096x64 1 [⟨S4096x16, (u 0 : (⟨S4096x16, .f32⟩ : BufTy).Contents (Elt F))⟩, ⟨S4096x16, (u 1 : (⟨S4096x16, .f32⟩ : BufTy).Contents (Elt F))⟩, ⟨S4096x16, (u 2 : (⟨S4096x16, .f32⟩ : BufTy).Contents (Elt F))⟩, ⟨S4096x16, (u 3 : (⟨S4096x16, .f32⟩ : BufTy).Contents (Elt F))⟩] concatenates_S4096x16_S4096x16_S4096x16_S4096x16_S4096x64_d1 : (⟨S4096x64, .f32⟩ : BufTy).Contents (Elt F)))]

/-- The rest. -/
abbrev post : List (HloOp τ sig (Elt F)) :=
  [StableHlo.reshape main_v28 main_v29 (rfl : (.f32 : EltTy) = .f32) shapeCasts_S4096x64_S1x4096x1x64,
    StableHlo.unary main_v29 main_v30 (broadcastInDim S4x4096x1x64 ![0, 1, 2, 3] bcast_S1x4096x1x64_S4x4096x1x64_0_1_2_3 : (⟨S1x4096x1x64, .f32⟩ : BufTy).Contents (Elt F) → (⟨S4x4096x1x64, .f32⟩ : BufTy).Contents (Elt F)),
    StableHlo.reshape main_v30 main_v31 (rfl : (.f32 : EltTy) = .f32) shapeCasts_S4x4096x1x64_S16384x64,
    StableHlo.reshape main_arg0 main_v32 (rfl : (.f32 : EltTy) = .f32) shapeCasts_S4x4096x1024_S16384x1024,
    StableHlo.reshape main_arg1 main_v33 (rfl : (.f32 : EltTy) = .f32) shapeCasts_S1024_S1x1024,
    StableHlo.reshape main_arg3 main_v34 (rfl : (.f32 : EltTy) = .f32) shapeCasts_S256_S1x256,
    StableHlo.reshape main_arg4 main_v35 (rfl : (.f32 : EltTy) = .f32) shapeCasts_S256_S1x256,
    StableHlo.unary main_v0 main_v36 ((truncf .bf16 · bitsLt_bf16_f32) : (⟨S1024x1824, .f32⟩ : BufTy).Contents (Elt F) → (⟨S1024x1824, .bf16⟩ : BufTy).Contents (Elt F)),
    StableHlo.unary main_v1 main_v37 ((truncf .bf16 · bitsLt_bf16_f32) : (⟨S1024x512, .f32⟩ : BufTy).Contents (Elt F) → (⟨S1024x512, .bf16⟩ : BufTy).Contents (Elt F)),
    StableHlo.unary main_v2 main_v38 ((truncf .bf16 · bitsLt_bf16_f32) : (⟨S1024x128, .f32⟩ : BufTy).Contents (Elt F) → (⟨S1024x128, .bf16⟩ : BufTy).Contents (Elt F)),
    StableHlo.unary main_v3 main_v39 ((truncf .bf16 · bitsLt_bf16_f32) : (⟨S1024x128, .f32⟩ : BufTy).Contents (Elt F) → (⟨S1024x128, .bf16⟩ : BufTy).Contents (Elt F)),
    StableHlo.unary main_v4 main_v40 ((truncf .bf16 · bitsLt_bf16_f32) : (⟨S1024x256, .f32⟩ : BufTy).Contents (Elt F) → (⟨S1024x256, .bf16⟩ : BufTy).Contents (Elt F)),
    StableHlo.unary main_v5 main_v41 ((truncf .bf16 · bitsLt_bf16_f32) : (⟨S1024x256, .f32⟩ : BufTy).Contents (Elt F) → (⟨S1024x256, .bf16⟩ : BufTy).Contents (Elt F)),
    StableHlo.unary main_v11 main_v42 ((truncf .bf16 · bitsLt_bf16_f32) : (⟨S1024x64, .f32⟩ : BufTy).Contents (Elt F) → (⟨S1024x64, .bf16⟩ : BufTy).Contents (Elt F)),
    StableHlo.unary main_v7 main_v43 ((truncf .bf16 · bitsLt_bf16_f32) : (⟨S1024x3072, .f32⟩ : BufTy).Contents (Elt F) → (⟨S1024x3072, .bf16⟩ : BufTy).Contents (Elt F))]

end

theorem split : (hostOps0 : List (HloOp τ sig (Elt Ideal))) = pre ++ (mid ++ (cat ++ post)) := rfl

/-- The angles. -/
def angs : FVec Ideal S4096x16 .f32 := (mulf (F := Ideal) (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))

theorem pre24 (s : Valuation τ sig (Elt Ideal)) : (show FVec Ideal S4096x16 .f32 from StableHlo.after pre s main_v24) = angs := by
  rw [angs]
  entry_read
  rfl

theorem mid25 (s : Valuation τ sig (Elt Ideal)) : (show FVec Ideal S4096x16 .f32 from StableHlo.after mid s main_v25) = Host.cos (show FVec Ideal S4096x16 .f32 from s main_v24) := by
  entry_read
  rfl

theorem mid26 (s : Valuation τ sig (Elt Ideal)) : (show FVec Ideal S4096x16 .f32 from StableHlo.after mid s main_v26) = Host.sin (show FVec Ideal S4096x16 .f32 from s main_v24) := by
  entry_read
  rfl

theorem mid27 (s : Valuation τ sig (Elt Ideal)) : (show FVec Ideal S4096x16 .f32 from StableHlo.after mid s main_v27) = Host.negf (Host.sin (show FVec Ideal S4096x16 .f32 from s main_v24)) := by
  entry_read
  rfl

theorem cat28 (s : Valuation τ sig (Elt Ideal)) (A B D : FVec Ideal S4096x16 .f32) (ha : (show FVec Ideal S4096x16 .f32 from s main_v25) = A) (hb : (show FVec Ideal S4096x16 .f32 from s main_v27) = B)
    (hd : (show FVec Ideal S4096x16 .f32 from s main_v26) = D) : (show FVec Ideal S4096x64 .f32 from StableHlo.after cat s main_v28) =
    concatenate S4096x64 1 [⟨S4096x16, A⟩, ⟨S4096x16, A⟩, ⟨S4096x16, B⟩, ⟨S4096x16, D⟩] concatenates_S4096x16_S4096x16_S4096x16_S4096x16_S4096x64_d1 := by
  subst ha hb hd
  simp only [StableHlo.after_cons, StableHlo.after_nil]
  rw [StableHlo.nary4_result]
  rfl

theorem post31 (s : Valuation τ sig (Elt Ideal)) (A : FVec Ideal S4096x64 .f32) (h : (show FVec Ideal S4096x64 .f32 from s main_v28) = A) : (show FVec Ideal S16384x64 .f32 from StableHlo.after post s main_v31) =
    shapeCast _ (broadcastInDim S4x4096x1x64 ![0, 1, 2, 3] bcast_S1x4096x1x64_S4x4096x1x64_0_1_2_3 (shapeCast _ A shapeCasts_S4096x64_S1x4096x1x64)) shapeCasts_S4x4096x1x64_S16384x64 := by
  subst h
  entry_read
  rfl

theorem v31 (m : (ℓ : Loc nD τ sig) → Buf (Elt Ideal) ℓ) (c : Dev nD) : V m c main_v31 = StableHlo.after post (StableHlo.after cat (StableHlo.after mid (StableHlo.after pre (fun b => m (c, b))))) main_v31 := by
  show StableHlo.after hostOps0 _ _ = _
  rw [split, StableHlo.after_append, StableHlo.after_append, StableHlo.after_append]

theorem angs_at (p : Fin 4096) (k : Fin 16) : angs (ix2 p k) = ang p k := by
  rw [angs, ang]
  pointwise

/-- The table as one term. -/
def tab (A : FVec Ideal S4096x16 .f32) : FVec Ideal S16384x64 .f32 :=
  shapeCast _ (broadcastInDim S4x4096x1x64 ![0, 1, 2, 3] bcast_S1x4096x1x64_S4x4096x1x64_0_1_2_3 (shapeCast _ (concatenate S4096x64 1 [⟨S4096x16, Host.cos A⟩, ⟨S4096x16, Host.cos A⟩, ⟨S4096x16, Host.negf (Host.sin A)⟩, ⟨S4096x16, Host.sin A⟩] concatenates_S4096x16_S4096x16_S4096x16_S4096x16_S4096x64_d1 : FVec Ideal S4096x64 .f32) shapeCasts_S4096x64_S1x4096x1x64)) shapeCasts_S4x4096x1x64_S16384x64

theorem rest (s : Valuation τ sig (Elt Ideal)) : (show FVec Ideal S16384x64 .f32 from StableHlo.after post (StableHlo.after cat (StableHlo.after mid s)) main_v31) = tab (show FVec Ideal S4096x16 .f32 from s main_v24) := by
  rw [tab]
  exact post31 _ _ (cat28 _ _ _ _ (mid25 s) (mid27 s) (mid26 s))

theorem v31_eq (m : (ℓ : Loc nD τ sig) → Buf (Elt Ideal) ℓ) (c : Dev nD) : (show FVec Ideal S16384x64 .f32 from V m c main_v31) = tab angs := by
  have h1 := pre24 (fun b => m (c, b))
  have h2 := v31 m c
  generalize StableHlo.after pre (fun b => m (c, b)) = s at h1 h2
  exact h2.trans ((rest s).trans (congrArg tab h1))

theorem tab_at (A : FVec Ideal S4096x16 .f32) (n : Fin 16384) (e : Fin 64) : tab A (ix2 n e) = if h : e.val < 16 then Ideal.cos (A (ix2 ⟨n.val % 4096, by omega⟩ ⟨e.val, h⟩)) else if h' : e.val - 16 < 16 then Ideal.cos (A (ix2 ⟨n.val % 4096, by omega⟩ ⟨e.val - 16, h'⟩))
    else if h'' : e.val - 16 - 16 < 16 then -Ideal.sin (A (ix2 ⟨n.val % 4096, by omega⟩ ⟨e.val - 16 - 16, h''⟩)) else Ideal.sin (A (ix2 ⟨n.val % 4096, by omega⟩ ⟨e.val - 16 - 16 - 16, by omega⟩)) := by
  rw [tab]
  pointwise

theorem ib2 (t : Fin cfg0.N) (r : Fin 256) (e : Fin 64) : (show FVec Ideal S256x64 .f32 from iblk m c 2 t) (ix2 r e) = tab angs (ix2 (nt t r) e) := by
  have hN := lt_N t
  blk_simp [iblk]
  refine (congrFun (v31_eq m c) _).trans ?_
  blk_ext [nt, idx t]

theorem tb0 (t : Fin cfg0.N) (r : Fin 256) (e : Fin 64) (h : e.val < 16) (k : Fin 16) (hk : k.val = e.val) : (show FVec Ideal S256x64 .f32 from iblk m c 2 t) (ix2 r e) = Ideal.cos (ang ⟨(nt t r).val % 4096, by omega⟩ k) := by
  refine (ib2 m c t r e).trans ((tab_at _ _ _).trans ?_)
  rw [dif_pos h]
  exact congrArg Ideal.cos ((angs_at _ _).trans (congrArg (ang _) (Fin.ext hk.symm)))

theorem tb1 (t : Fin cfg0.N) (r : Fin 256) (e : Fin 64) (h : 16 ≤ e.val ∧ e.val < 32) (k : Fin 16) (hk : k.val = e.val - 16) : (show FVec Ideal S256x64 .f32 from iblk m c 2 t) (ix2 r e) = Ideal.cos (ang ⟨(nt t r).val % 4096, by omega⟩ k) := by
  refine (ib2 m c t r e).trans ((tab_at _ _ _).trans ?_)
  rw [dif_neg (by omega), dif_pos (by omega)]
  exact congrArg Ideal.cos ((angs_at _ _).trans (congrArg (ang _) (Fin.ext hk.symm)))

theorem tb2 (t : Fin cfg0.N) (r : Fin 256) (e : Fin 64) (h : 32 ≤ e.val ∧ e.val < 48) (k : Fin 16) (hk : k.val = e.val - 16 - 16) : (show FVec Ideal S256x64 .f32 from iblk m c 2 t) (ix2 r e) = -Ideal.sin (ang ⟨(nt t r).val % 4096, by omega⟩ k) := by
  refine (ib2 m c t r e).trans ((tab_at _ _ _).trans ?_)
  rw [dif_neg (by omega), dif_neg (by omega), dif_pos (by omega)]
  exact congrArg (fun a => -Ideal.sin a) ((angs_at _ _).trans (congrArg (ang _) (Fin.ext hk.symm)))

theorem tb3 (t : Fin cfg0.N) (r : Fin 256) (e : Fin 64) (h : 48 ≤ e.val) (k : Fin 16) (hk : k.val = e.val - 16 - 16 - 16) : (show FVec Ideal S256x64 .f32 from iblk m c 2 t) (ix2 r e) = Ideal.sin (ang ⟨(nt t r).val % 4096, by omega⟩ k) := by
  refine (ib2 m c t r e).trans ((tab_at _ _ _).trans ?_)
  rw [dif_neg (by omega), dif_neg (by omega), dif_neg (by omega)]
  exact congrArg Ideal.sin ((angs_at _ _).trans (congrArg (ang _) (Fin.ext hk.symm)))

theorem pay3_at (x0 : FVec Ideal S256x1024 .f32) (x1 : FVec Ideal S1x1024 .f32) (r : Fin 256) (e : Fin 1024) :
    k0_pay3 (F := Ideal) x0 x1 (ix2 r e) = rms (fun k => x0 (ix2 r k)) (Ideal.ofBits .f32 0x44800000#32) (x1 (ix2 0 e)) e := by
  pointwise [k0_pay3]
  rfl

theorem pay4_at (x0 : FVec Ideal S256x1024 .f32) (x1 : FVec Ideal S1x1024 .f32) (w : FVec Ideal S1024x1824 .bf16) (r : Fin 256) (e : Fin 1824) :
    k0_pay4 (F := Ideal) x0 x1 w (ix2 r e) = ∑ j : Fin 1024, k0_pay3 (F := Ideal) x0 x1 (ix2 r j) * w (ix2 j e) := by
  pointwise [k0_pay4]

theorem pay5_at (x0 : FVec Ideal S256x1024 .f32) (x1 : FVec Ideal S1x1024 .f32) (w : FVec Ideal S1024x512 .bf16) (r : Fin 256) (e : Fin 512) :
    k0_pay5 (F := Ideal) x0 x1 w (ix2 r e) = ∑ j : Fin 1024, k0_pay3 (F := Ideal) x0 x1 (ix2 r j) * w (ix2 j e) := by
  pointwise [k0_pay5]

theorem pay6_at (x0 : FVec Ideal S256x1024 .f32) (x1 : FVec Ideal S1x1024 .f32) (w : FVec Ideal S1024x128 .bf16) (r : Fin 256) (e : Fin 128) :
    k0_pay6 (F := Ideal) x0 x1 w (ix2 r e) = ∑ j : Fin 1024, k0_pay3 (F := Ideal) x0 x1 (ix2 r j) * w (ix2 j e) := by
  pointwise [k0_pay6]

theorem pay8_at (h : FVec Ideal S256x1024 .bf16) (w : FVec Ideal S1024x128 .bf16) (r : Fin 256) (e : Fin 128) :
    k0_pay8 (F := Ideal) h (k0_pay7 w) (constant S256x128 .f32 0x00000000#32) (ix2 r e) = ∑ j : Fin 1024, h (ix2 r j) * w (ix2 j e) := by
  pointwise [k0_pay8, k0_pay7]

theorem pay9_at (h : FVec Ideal S256x1024 .bf16) (w : FVec Ideal S1024x3072 .bf16) (r : Fin 256) (e : Fin 3072) :
    k0_pay9 (F := Ideal) h w (ix2 r e) = ∑ j : Fin 1024, h (ix2 r j) * w (ix2 j e) := by
  pointwise [k0_pay9]

theorem pay10_at (h : FVec Ideal S256x1024 .bf16) (w : FVec Ideal S1024x256 .bf16) (g : FVec Ideal S1x256 .f32) (r : Fin 256) (e : Fin 256) :
    k0_pay10 (F := Ideal) h w g (ix2 r e) = rms (fun k => ∑ j : Fin 1024, h (ix2 r j) * w (ix2 j k)) (Ideal.ofBits .f32 0x43800000#32) (g (ix2 0 e)) e := by
  pointwise [k0_pay10]
  rfl

theorem pay11_at (h : FVec Ideal S256x1024 .bf16) (w : FVec Ideal S1024x256 .bf16) (g : FVec Ideal S1x256 .f32) (r : Fin 256) (e : Fin 256) :
    k0_pay1 (F := Ideal) (k0_pay11 h w) (k0_pay12 g) (k0_pay13 h w) (k0_pay14 (F := Ideal)) (ix2 r e)
      = rms (fun k => ∑ j : Fin 1024, h (ix2 r j) * w (ix2 j k)) (Ideal.ofBits .f32 0x43800000#32) (g (ix2 0 e)) e := by
  pointwise [k0_pay1, k0_pay11, k0_pay12, k0_pay13, k0_pay14]
  rfl

theorem pay2_at (h : FVec Ideal S256x1024 .bf16) (w : FVec Ideal S1024x64 .bf16) (v : FVec Ideal S256x64 .f32) (r : Fin 256) (e : Fin 32) :
    k0_pay2 (F := Ideal) h w v (ix2 r e) = (∑ j : Fin 1024, h (ix2 r j) * w (ix2 j ⟨e.val, by omega⟩)) * v (ix2 r ⟨e.val, by omega⟩)
      + (∑ j : Fin 1024, h (ix2 r j) * w (ix2 j ⟨32 + e.val, by omega⟩)) * v (ix2 r ⟨32 + e.val, by omega⟩) := by
  pointwise [k0_pay2]

theorem hd (t : Fin cfg0.N) (r : Fin 256) (j : Fin 1024) : k0_pay3 (F := Ideal) (iblk m c 0 t) (iblk m c 1 t) (ix2 r j) = hid (ax m c) (ag m c) (nt t r) j := by
  refine (pay3_at _ _ r j).trans ?_
  rw [hid]
  simp only [ib0, ib1]

theorem hb (t : Fin cfg0.N) (r : Fin 256) (j : Fin 1024) : (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) = hid (ax m c) (ag m c) (nt t r) j := by
  refine Eq.trans ?_ (hd m c t r j)
  rw [k0_pay15]
  pointwise [k0_pay3]

theorem ez {w : ℕ} (t : Fin cfg0.N) (z : (⟨2, ![16384, w]⟩ : Shape).Idx) (r : Fin 256) (e : Fin w) (e0 : (z 0).val = t.val * 256 + r.val) (e1 : (z 1).val = e.val) : z = ix2 (nt t r) e :=
  (eq_ix2 z).trans (congr (congrArg ix2 (Fin.ext e0)) (Fin.ext e1))

def out13 : FVec Ideal S16384x1824 .f32 := fun y => prj (ax m c) (ag m c) (aw m c) (y 0) (cl 0 (by decide) (y 1))

theorem out13_at (t : Fin cfg0.N) (r : Fin 256) (e : Fin 1824) : k0_pay4 (F := Ideal) (iblk m c 0 t) (iblk m c 1 t) (iblk m c 5 t) (ix2 r e) = prj (ax m c) (ag m c) (aw m c) (nt t r) (cl 0 (by decide) e) := by
  refine (pay4_at _ _ _ r e).trans ?_
  exact Finset.sum_congr rfl fun j _ => congr (congrArg HMul.hMul (hd m c t r j)) (ib5 m c t j e)

def out14 : FVec Ideal S16384x512 .f32 := fun y => prj (ax m c) (ag m c) (aw m c) (y 0) (cl 1824 (by decide) (y 1))

theorem out14_at (t : Fin cfg0.N) (r : Fin 256) (e : Fin 512) : k0_pay5 (F := Ideal) (iblk m c 0 t) (iblk m c 1 t) (iblk m c 6 t) (ix2 r e) = prj (ax m c) (ag m c) (aw m c) (nt t r) (cl 1824 (by decide) e) := by
  refine (pay5_at _ _ _ r e).trans ?_
  exact Finset.sum_congr rfl fun j _ => congr (congrArg HMul.hMul (hd m c t r j)) (ib6 m c t j e)

def out15 : FVec Ideal S16384x128 .f32 := fun y => prj (ax m c) (ag m c) (aw m c) (y 0) (cl 2336 (by decide) (y 1))

theorem out15_at (t : Fin cfg0.N) (r : Fin 256) (e : Fin 128) : k0_pay6 (F := Ideal) (iblk m c 0 t) (iblk m c 1 t) (iblk m c 7 t) (ix2 r e) = prj (ax m c) (ag m c) (aw m c) (nt t r) (cl 2336 (by decide) e) := by
  refine (pay6_at _ _ _ r e).trans ?_
  exact Finset.sum_congr rfl fun j _ => congr (congrArg HMul.hMul (hd m c t r j)) (ib7 m c t j e)

def out16 : FVec Ideal S16384x128 .f32 := fun y => prj (ax m c) (ag m c) (aw m c) (y 0) (cl 2464 (by decide) (y 1))

theorem out16_at (t : Fin cfg0.N) (r : Fin 256) (e : Fin 128) : k0_pay8 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay7 (iblk m c 8 t)) (constant S256x128 .f32 0x00000000#32) (ix2 r e) = prj (ax m c) (ag m c) (aw m c) (nt t r) (cl 2464 (by decide) e) := by
  refine (pay8_at _ _ r e).trans ?_
  exact Finset.sum_congr rfl fun j _ => congr (congrArg HMul.hMul (hb m c t r j)) (ib8 m c t j e)

def out20 : FVec Ideal S16384x3072 .f32 := fun y => prj (ax m c) (ag m c) (aw m c) (y 0) (cl 3136 (by decide) (y 1))

theorem out20_at (t : Fin cfg0.N) (r : Fin 256) (e : Fin 3072) : k0_pay9 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 12 t) (ix2 r e) = prj (ax m c) (ag m c) (aw m c) (nt t r) (cl 3136 (by decide) e) := by
  refine (pay9_at _ _ r e).trans ?_
  exact Finset.sum_congr rfl fun j _ => congr (congrArg HMul.hMul (hb m c t r j)) (ib12 m c t j e)

def out17 : FVec Ideal S16384x256 .f32 := fun y => ltn (ax m c) (ag m c) (aw m c) (y 0) 2592 (by decide) (aq m c) (y 1)

theorem out17_at (t : Fin cfg0.N) (r : Fin 256) (e : Fin 256) : k0_pay10 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 3 t) (ix2 r e) = ltn (ax m c) (ag m c) (aw m c) (nt t r) 2592 (by decide) (aq m c) e := by
  refine (pay10_at _ _ _ r e).trans ?_
  have hs : ∀ k : Fin 256, (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x256 .bf16 from iblk m c 9 t) (ix2 j k)) = prj (ax m c) (ag m c) (aw m c) (nt t r) (cl 2592 (by decide) k) := fun k =>
    Finset.sum_congr rfl fun j _ => congr (congrArg HMul.hMul (hb m c t r j)) (ib9 m c t j k)
  exact congrArg₂ (fun (f : Fin 256 → EReal) (g : EReal) => rms f (Ideal.ofBits .f32 0x43800000#32) g e) (funext hs) (ib3 m c t e)

def out18 : FVec Ideal S16384x256 .f32 := fun y => ltn (ax m c) (ag m c) (aw m c) (y 0) 2848 (by decide) (ak m c) (y 1)

theorem out18_at (t : Fin cfg0.N) (r : Fin 256) (e : Fin 256) : k0_pay1 (F := Ideal) (k0_pay11 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay12 (iblk m c 4 t)) (k0_pay13 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay14 (F := Ideal)) (ix2 r e) = ltn (ax m c) (ag m c) (aw m c) (nt t r) 2848 (by decide) (ak m c) e := by
  refine (pay11_at _ _ _ r e).trans ?_
  have hs : ∀ k : Fin 256, (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x256 .bf16 from iblk m c 10 t) (ix2 j k)) = prj (ax m c) (ag m c) (aw m c) (nt t r) (cl 2848 (by decide) k) := fun k =>
    Finset.sum_congr rfl fun j _ => congr (congrArg HMul.hMul (hb m c t r j)) (ib10 m c t j k)
  exact congrArg₂ (fun (f : Fin 256 → EReal) (g : EReal) => rms f (Ideal.ofBits .f32 0x43800000#32) g e) (funext hs) (ib4 m c t e)

def out19 : FVec Ideal S16384x32 .f32 := fun y => rop (ax m c) (ag m c) (aw m c) (y 0) (y 1)

theorem sum11 (t : Fin cfg0.N) (r : Fin 256) (q : Fin 64) (k : Fin 6208) (hk : k.val = if q.val < 32 then 3104 + q.val else if q.val < 48 then 3104 + (16 + (q.val - 32)) else 3104 + (q.val - 32 - 16)) :
    (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x64 .bf16 from iblk m c 11 t) (ix2 j q)) = prj (ax m c) (ag m c) (aw m c) (nt t r) k :=
  Finset.sum_congr rfl fun j _ => congr (congrArg HMul.hMul (hb m c t r j)) (ib11 m c t j q k hk)

theorem out19_at (t : Fin cfg0.N) (r : Fin 256) (e : Fin 32) : k0_pay2 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t) (iblk m c 2 t) (ix2 r e) = rop (ax m c) (ag m c) (aw m c) (nt t r) e := by
  refine (pay2_at _ _ _ r e).trans ?_
  rw [rop]
  by_cases h : e.val < 16
  · rw [dif_pos h, sub_eq_add_neg, ← mul_neg]
    refine congr (congrArg HAdd.hAdd (congr (congrArg HMul.hMul (sum11 m c t r _ _ ?_)) (tb0 m c t r _ ?_ _ ?_))) (congr (congrArg HMul.hMul (sum11 m c t r _ _ ?_)) (tb2 m c t r _ ?_ _ ?_))
    · rw [if_pos (show e.val < 32 by omega)]; rfl
    · exact h
    · rfl
    · rw [if_neg (show ¬ 32 + e.val < 32 by omega), if_pos (show 32 + e.val < 48 by omega)]
      show 3104 + (16 + e.val) = 3104 + (16 + (32 + e.val - 32))
      omega
    · show 32 ≤ 32 + e.val ∧ 32 + e.val < 48
      omega
    · show e.val = 32 + e.val - 16 - 16
      omega
  · rw [dif_neg h]
    refine congr (congrArg HAdd.hAdd (congr (congrArg HMul.hMul (sum11 m c t r _ _ ?_)) (tb1 m c t r _ ?_ _ ?_))) (congr (congrArg HMul.hMul (sum11 m c t r _ _ ?_)) (tb3 m c t r _ ?_ _ ?_))
    · rw [if_pos (show e.val < 32 by omega)]
      show 3104 + (16 + (e.val - 16)) = 3104 + e.val
      omega
    · show 16 ≤ e.val ∧ e.val < 32
      omega
    · rfl
    · rw [if_neg (show ¬ 32 + e.val < 32 by omega), if_neg (show ¬ 32 + e.val < 48 by omega)]
      show 3104 + (e.val - 16) = 3104 + (32 + e.val - 32 - 16)
      omega
    · show 48 ≤ 32 + e.val
      omega
    · show e.val - 16 = 32 + e.val - 16 - 16 - 16
      omega

theorem final13 : (dats m 0 c).arrAt 13 (cfgs 0).N = out13 m c := by
  refine (dats m 0 c).arrAt_eq_of_covers 13 (out13 m c) (by decide +kernel) fun t hf y => ?_
  have e0 : ((win0_13.blk t).view.emb y 0).val = t.val * 256 + (y 0).val := by blk_simp [idx t]
  have e1 : ((win0_13.blk t).view.emb y 1).val = (y 1).val := by blk_simp [idx t]
  have hy : (show S256x1824.Idx from y) = ix2 (y 0) (y 1) := eq_ix2 _
  blk_simp
  rw [after0_13]
  generalize (win0_13.blk t).view.emb y = z at *
  frame_out
  exact (congrArg (k0_pay4 (F := Ideal) (iblk m c 0 t) (iblk m c 1 t) (iblk m c 5 t)) hy).trans ((out13_at m c t (y 0) (y 1)).trans (congrArg (out13 m c) (ez t z (y 0) (y 1) e0 e1)).symm)

theorem final14 : (dats m 0 c).arrAt 14 (cfgs 0).N = out14 m c := by
  refine (dats m 0 c).arrAt_eq_of_covers 14 (out14 m c) (by decide +kernel) fun t hf y => ?_
  have e0 : ((win0_14.blk t).view.emb y 0).val = t.val * 256 + (y 0).val := by blk_simp [idx t]
  have e1 : ((win0_14.blk t).view.emb y 1).val = (y 1).val := by blk_simp [idx t]
  have hy : (show S256x512.Idx from y) = ix2 (y 0) (y 1) := eq_ix2 _
  blk_simp
  rw [after0_14]
  generalize (win0_14.blk t).view.emb y = z at *
  frame_out
  exact (congrArg (k0_pay5 (F := Ideal) (iblk m c 0 t) (iblk m c 1 t) (iblk m c 6 t)) hy).trans ((out14_at m c t (y 0) (y 1)).trans (congrArg (out14 m c) (ez t z (y 0) (y 1) e0 e1)).symm)

theorem final15 : (dats m 0 c).arrAt 15 (cfgs 0).N = out15 m c := by
  refine (dats m 0 c).arrAt_eq_of_covers 15 (out15 m c) (by decide +kernel) fun t hf y => ?_
  have e0 : ((win0_15.blk t).view.emb y 0).val = t.val * 256 + (y 0).val := by blk_simp [idx t]
  have e1 : ((win0_15.blk t).view.emb y 1).val = (y 1).val := by blk_simp [idx t]
  have hy : (show S256x128.Idx from y) = ix2 (y 0) (y 1) := eq_ix2 _
  blk_simp
  rw [after0_15]
  generalize (win0_15.blk t).view.emb y = z at *
  frame_out
  exact (congrArg (k0_pay6 (F := Ideal) (iblk m c 0 t) (iblk m c 1 t) (iblk m c 7 t)) hy).trans ((out15_at m c t (y 0) (y 1)).trans (congrArg (out15 m c) (ez t z (y 0) (y 1) e0 e1)).symm)

theorem final16 : (dats m 0 c).arrAt 16 (cfgs 0).N = out16 m c := by
  refine (dats m 0 c).arrAt_eq_of_covers 16 (out16 m c) (by decide +kernel) fun t hf y => ?_
  have e0 : ((win0_16.blk t).view.emb y 0).val = t.val * 256 + (y 0).val := by blk_simp [idx t]
  have e1 : ((win0_16.blk t).view.emb y 1).val = (y 1).val := by blk_simp [idx t]
  have hy : (show S256x128.Idx from y) = ix2 (y 0) (y 1) := eq_ix2 _
  blk_simp
  rw [after0_16]
  generalize (win0_16.blk t).view.emb y = z at *
  frame_out
  exact (congrArg (k0_pay8 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay7 (iblk m c 8 t)) (constant S256x128 .f32 0x00000000#32)) hy).trans ((out16_at m c t (y 0) (y 1)).trans (congrArg (out16 m c) (ez t z (y 0) (y 1) e0 e1)).symm)

theorem final17 : (dats m 0 c).arrAt 17 (cfgs 0).N = out17 m c := by
  refine (dats m 0 c).arrAt_eq_of_covers 17 (out17 m c) (by decide +kernel) fun t hf y => ?_
  have e0 : ((win0_17.blk t).view.emb y 0).val = t.val * 256 + (y 0).val := by blk_simp [idx t]
  have e1 : ((win0_17.blk t).view.emb y 1).val = (y 1).val := by blk_simp [idx t]
  have hy : (show S256x256.Idx from y) = ix2 (y 0) (y 1) := eq_ix2 _
  blk_simp
  rw [after0_17]
  generalize (win0_17.blk t).view.emb y = z at *
  frame_out
  exact (congrArg (k0_pay10 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 3 t)) hy).trans ((out17_at m c t (y 0) (y 1)).trans (congrArg (out17 m c) (ez t z (y 0) (y 1) e0 e1)).symm)

theorem final18 : (dats m 0 c).arrAt 18 (cfgs 0).N = out18 m c := by
  refine (dats m 0 c).arrAt_eq_of_covers 18 (out18 m c) (by decide +kernel) fun t hf y => ?_
  have e0 : ((win0_18.blk t).view.emb y 0).val = t.val * 256 + (y 0).val := by blk_simp [idx t]
  have e1 : ((win0_18.blk t).view.emb y 1).val = (y 1).val := by blk_simp [idx t]
  have hy : (show S256x256.Idx from y) = ix2 (y 0) (y 1) := eq_ix2 _
  blk_simp
  rw [after0_18]
  generalize (win0_18.blk t).view.emb y = z at *
  frame_out
  exact (congrArg (k0_pay1 (F := Ideal) (k0_pay11 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay12 (iblk m c 4 t)) (k0_pay13 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay14 (F := Ideal))) hy).trans ((out18_at m c t (y 0) (y 1)).trans (congrArg (out18 m c) (ez t z (y 0) (y 1) e0 e1)).symm)

theorem final19 : (dats m 0 c).arrAt 19 (cfgs 0).N = out19 m c := by
  refine (dats m 0 c).arrAt_eq_of_covers 19 (out19 m c) (by decide +kernel) fun t hf y => ?_
  have e0 : ((win0_19.blk t).view.emb y 0).val = t.val * 256 + (y 0).val := by blk_simp [idx t]
  have e1 : ((win0_19.blk t).view.emb y 1).val = (y 1).val := by blk_simp [idx t]
  have hy : (show S256x32.Idx from y) = ix2 (y 0) (y 1) := eq_ix2 _
  blk_simp
  rw [after0_19]
  generalize (win0_19.blk t).view.emb y = z at *
  frame_out
  exact (congrArg (k0_pay2 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t) (iblk m c 2 t)) hy).trans ((out19_at m c t (y 0) (y 1)).trans (congrArg (out19 m c) (ez t z (y 0) (y 1) e0 e1)).symm)

theorem final20 : (dats m 0 c).arrAt 20 (cfgs 0).N = out20 m c := by
  refine (dats m 0 c).arrAt_eq_of_covers 20 (out20 m c) (by decide +kernel) fun t hf y => ?_
  have e0 : ((win0_20.blk t).view.emb y 0).val = t.val * 256 + (y 0).val := by blk_simp [idx t]
  have e1 : ((win0_20.blk t).view.emb y 1).val = (y 1).val := by blk_simp [idx t]
  have hy : (show S256x3072.Idx from y) = ix2 (y 0) (y 1) := eq_ix2 _
  blk_simp
  rw [after0_20]
  generalize (win0_20.blk t).view.emb y = z at *
  frame_out
  exact (congrArg (k0_pay9 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 12 t)) hy).trans ((out20_at m c t (y 0) (y 1)).trans (congrArg (out20 m c) (ez t z (y 0) (y 1) e0 e1)).symm)

end Cert.Kernel2Ideal.Val

namespace Cert.Reference2Ideal.Val

open Idealize.ShloMosaic Idealize.ShloMosaic.TcCoe Idealize.SL.Sem Cert.Reference2Ideal Cert.Reference2Ideal.Gen Cert.Rms Cert.Prj

/-- All the projections of the normalised rows. -/
def proj (X : FVec Ideal S4x4096x1024 .f32) (G : FVec Ideal S1024 .f32) (W : FVec Ideal S1024x6208 .f32) : FVec Ideal S4x4096x6208 .f32 :=
  (Host.dotGeneral dot_S4x4096x1024_S1024x6208_S4x4096x6208_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) W)

theorem proj_at (X : FVec Ideal S4x4096x1024 .f32) (G : FVec Ideal S1024 .f32) (W : FVec Ideal S1024x6208 .f32) (n : Fin 16384) (k : Fin 6208) :
    proj X G W (row n.val n.isLt k) = prj X G W n k := by
  rw [proj, row]
  pointwise
  rfl

theorem r78 (Q : FVec Ideal S4x4096x6208 .f32) (n : Fin 16384) (e : Fin 1824) : (shapeCast _ (extractStridedSlice S4x4096x1824 ![0, 0, 0] Q slices_S4x4096x6208_S4x4096x1824_0_0_0) shapeCasts_S4x4096x1824_S16384x1824 : FVec Ideal S16384x1824 .f32) (ix2 n e) = Q (row n.val n.isLt ⟨0 + e.val, by omega⟩) := by
  pointwise [row]

theorem r79 (Q : FVec Ideal S4x4096x6208 .f32) (n : Fin 16384) (e : Fin 512) : (shapeCast _ (extractStridedSlice S4x4096x512 ![0, 0, 1824] Q slices_S4x4096x6208_S4x4096x512_0_0_1824) shapeCasts_S4x4096x512_S16384x512 : FVec Ideal S16384x512 .f32) (ix2 n e) = Q (row n.val n.isLt ⟨1824 + e.val, by omega⟩) := by
  pointwise [row]

theorem r80 (Q : FVec Ideal S4x4096x6208 .f32) (n : Fin 16384) (e : Fin 128) : (shapeCast _ (extractStridedSlice S4x4096x128 ![0, 0, 2336] Q slices_S4x4096x6208_S4x4096x128_0_0_2336) shapeCasts_S4x4096x128_S16384x128 : FVec Ideal S16384x128 .f32) (ix2 n e) = Q (row n.val n.isLt ⟨2336 + e.val, by omega⟩) := by
  pointwise [row]

theorem r81 (Q : FVec Ideal S4x4096x6208 .f32) (n : Fin 16384) (e : Fin 128) : (shapeCast _ (extractStridedSlice S4x4096x128 ![0, 0, 2464] Q slices_S4x4096x6208_S4x4096x128_0_0_2464) shapeCasts_S4x4096x128_S16384x128 : FVec Ideal S16384x128 .f32) (ix2 n e) = Q (row n.val n.isLt ⟨2464 + e.val, by omega⟩) := by
  pointwise [row]

theorem r85 (Q : FVec Ideal S4x4096x6208 .f32) (n : Fin 16384) (e : Fin 3072) : (shapeCast _ (extractStridedSlice S4x4096x3072 ![0, 0, 3136] Q slices_S4x4096x6208_S4x4096x3072_0_0_3136) shapeCasts_S4x4096x3072_S16384x3072 : FVec Ideal S16384x3072 .f32) (ix2 n e) = Q (row n.val n.isLt ⟨3136 + e.val, by omega⟩) := by
  pointwise [row]

theorem r82 (Q : FVec Ideal S4x4096x6208 .f32) (Gq : FVec Ideal S256 .f32) (n : Fin 16384) (e : Fin 256) : (shapeCast _ (mulf (mulf (extractStridedSlice S4x4096x256 ![0, 0, 2592] Q slices_S4x4096x6208_S4x4096x256_0_0_2592) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 2592] Q slices_S4x4096x6208_S4x4096x256_0_0_2592) (extractStridedSlice S4x4096x256 ![0, 0, 2592] Q slices_S4x4096x6208_S4x4096x256_0_0_2592)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 Gq))) shapeCasts_S4x4096x256_S16384x256 : FVec Ideal S16384x256 .f32) (ix2 n e)
    = rms (fun k : Fin 256 => Q (row n.val n.isLt ⟨2592 + k.val, by omega⟩)) (Ideal.ofBits .f32 0x43800000#32) (Gq (ix1 e)) e := by
  pointwise
  rfl

theorem r83 (Q : FVec Ideal S4x4096x6208 .f32) (Gk : FVec Ideal S256 .f32) (n : Fin 16384) (e : Fin 256) : (shapeCast _ (mulf (mulf (extractStridedSlice S4x4096x256 ![0, 0, 2848] Q slices_S4x4096x6208_S4x4096x256_0_0_2848) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 2848] Q slices_S4x4096x6208_S4x4096x256_0_0_2848) (extractStridedSlice S4x4096x256 ![0, 0, 2848] Q slices_S4x4096x6208_S4x4096x256_0_0_2848)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 Gk))) shapeCasts_S4x4096x256_S16384x256 : FVec Ideal S16384x256 .f32) (ix2 n e)
    = rms (fun k : Fin 256 => Q (row n.val n.isLt ⟨2848 + k.val, by omega⟩)) (Ideal.ofBits .f32 0x43800000#32) (Gk (ix1 e)) e := by
  pointwise
  rfl

theorem cs_at (p : Fin 4096) (k : Fin 16) : ((Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) : FVec Ideal S4096x16 .f32) (ix2 p k) = Ideal.cos (ang p k) := by
  pointwise
  rfl

theorem sn_at (p : Fin 4096) (k : Fin 16) : ((Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) : FVec Ideal S4096x16 .f32) (ix2 p k) = Ideal.sin (ang p k) := by
  pointwise
  rfl

theorem r84 (Q : FVec Ideal S4x4096x6208 .f32) (Cs Sn : FVec Ideal S4096x16 .f32) (n : Fin 16384) (e : Fin 32) :
    (shapeCast _ (concatenate S4x4096x32 2 [⟨S4x4096x16, (subf (mulf (extractStridedSlice S4x4096x16 ![0, 0, 0] (extractStridedSlice S4x4096x32 ![0, 0, 3104] Q slices_S4x4096x6208_S4x4096x32_0_0_3104) slices_S4x4096x32_S4x4096x16_0_0_0) (broadcastInDim S4x4096x16 ![0, 1, 2] bcast_S1x4096x16_S4x4096x16_0_1_2 (shapeCast _ Cs shapeCasts_S4096x16_S1x4096x16))) (mulf (extractStridedSlice S4x4096x16 ![0, 0, 16] (extractStridedSlice S4x4096x32 ![0, 0, 3104] Q slices_S4x4096x6208_S4x4096x32_0_0_3104) slices_S4x4096x32_S4x4096x16_0_0_16) (broadcastInDim S4x4096x16 ![0, 1, 2] bcast_S1x4096x16_S4x4096x16_0_1_2 (shapeCast _ Sn shapeCasts_S4096x16_S1x4096x16))))⟩, ⟨S4x4096x16, (addf (mulf (extractStridedSlice S4x4096x16 ![0, 0, 16] (extractStridedSlice S4x4096x32 ![0, 0, 3104] Q slices_S4x4096x6208_S4x4096x32_0_0_3104) slices_S4x4096x32_S4x4096x16_0_0_16) (broadcastInDim S4x4096x16 ![0, 1, 2] bcast_S1x4096x16_S4x4096x16_0_1_2 (shapeCast _ Cs shapeCasts_S4096x16_S1x4096x16))) (mulf (extractStridedSlice S4x4096x16 ![0, 0, 0] (extractStridedSlice S4x4096x32 ![0, 0, 3104] Q slices_S4x4096x6208_S4x4096x32_0_0_3104) slices_S4x4096x32_S4x4096x16_0_0_0) (broadcastInDim S4x4096x16 ![0, 1, 2] bcast_S1x4096x16_S4x4096x16_0_1_2 (shapeCast _ Sn shapeCasts_S4096x16_S1x4096x16))))⟩] concatenates_S4x4096x16_S4x4096x16_S4x4096x32_d2) shapeCasts_S4x4096x32_S16384x32 : FVec Ideal S16384x32 .f32) (ix2 n e) = if h : e.val < 16 then Q (row n.val n.isLt (cl 3104 (by decide) (⟨e.val, by omega⟩ : Fin 32))) * Cs (ix2 ⟨n.val % 4096, by omega⟩ ⟨e.val, h⟩) - Q (row n.val n.isLt (cl 3104 (by decide) (⟨16 + e.val, by omega⟩ : Fin 32))) * Sn (ix2 ⟨n.val % 4096, by omega⟩ ⟨e.val, h⟩)
      else Q (row n.val n.isLt (cl 3104 (by decide) (⟨16 + (e.val - 16), by omega⟩ : Fin 32))) * Cs (ix2 ⟨n.val % 4096, by omega⟩ ⟨e.val - 16, by omega⟩) + Q (row n.val n.isLt (cl 3104 (by decide) (⟨e.val - 16, by omega⟩ : Fin 32))) * Sn (ix2 ⟨n.val % 4096, by omega⟩ ⟨e.val - 16, by omega⟩) := by
  pointwise
  rfl

theorem rope_at (X : FVec Ideal S4x4096x1024 .f32) (G : FVec Ideal S1024 .f32) (W : FVec Ideal S1024x6208 .f32) (n : Fin 16384) (e : Fin 32) :
    (shapeCast _ (concatenate S4x4096x32 2 [⟨S4x4096x16, (subf (mulf (extractStridedSlice S4x4096x16 ![0, 0, 0] (extractStridedSlice S4x4096x32 ![0, 0, 3104] (proj X G W) slices_S4x4096x6208_S4x4096x32_0_0_3104) slices_S4x4096x32_S4x4096x16_0_0_0) (broadcastInDim S4x4096x16 ![0, 1, 2] bcast_S1x4096x16_S4x4096x16_0_1_2 (shapeCast _ (Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x16))) (mulf (extractStridedSlice S4x4096x16 ![0, 0, 16] (extractStridedSlice S4x4096x32 ![0, 0, 3104] (proj X G W) slices_S4x4096x6208_S4x4096x32_0_0_3104) slices_S4x4096x32_S4x4096x16_0_0_16) (broadcastInDim S4x4096x16 ![0, 1, 2] bcast_S1x4096x16_S4x4096x16_0_1_2 (shapeCast _ (Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x16))))⟩, ⟨S4x4096x16, (addf (mulf (extractStridedSlice S4x4096x16 ![0, 0, 16] (extractStridedSlice S4x4096x32 ![0, 0, 3104] (proj X G W) slices_S4x4096x6208_S4x4096x32_0_0_3104) slices_S4x4096x32_S4x4096x16_0_0_16) (broadcastInDim S4x4096x16 ![0, 1, 2] bcast_S1x4096x16_S4x4096x16_0_1_2 (shapeCast _ (Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x16))) (mulf (extractStridedSlice S4x4096x16 ![0, 0, 0] (extractStridedSlice S4x4096x32 ![0, 0, 3104] (proj X G W) slices_S4x4096x6208_S4x4096x32_0_0_3104) slices_S4x4096x32_S4x4096x16_0_0_0) (broadcastInDim S4x4096x16 ![0, 1, 2] bcast_S1x4096x16_S4x4096x16_0_1_2 (shapeCast _ (Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x16))))⟩] concatenates_S4x4096x16_S4x4096x16_S4x4096x32_d2) shapeCasts_S4x4096x32_S16384x32 : FVec Ideal S16384x32 .f32) (ix2 n e) = rop X G W n e := by
  refine (r84 (proj X G W) _ _ n e).trans ?_
  rw [rop]
  by_cases h : e.val < 16
  · rw [dif_pos h, dif_pos h]
    exact congr (congrArg HSub.hSub (congr (congrArg HMul.hMul (proj_at X G W n _)) (cs_at _ _))) (congr (congrArg HMul.hMul (proj_at X G W n _)) (sn_at _ _))
  · rw [dif_neg h, dif_neg h]
    exact congr (congrArg HAdd.hAdd (congr (congrArg HMul.hMul (proj_at X G W n _)) (cs_at _ _))) (congr (congrArg HMul.hMul (proj_at X G W n _)) (sn_at _ _))

theorem lat_at (X : FVec Ideal S4x4096x1024 .f32) (G : FVec Ideal S1024 .f32) (W : FVec Ideal S1024x6208 .f32) (g : FVec Ideal S256 .f32) (off : ℕ) (h : off + 256 ≤ 6208) (n : Fin 16384) (e : Fin 256) :
    rms (fun k : Fin 256 => proj X G W (row n.val n.isLt (cl off h k))) (Ideal.ofBits .f32 0x43800000#32) (g (ix1 e)) e = ltn X G W n off h g e :=
  congrArg (fun f : Fin 256 → EReal => rms f (Ideal.ofBits .f32 0x43800000#32) (g (ix1 e)) e) (funext fun k => proj_at X G W n _)

theorem res84_at (m : (ℓ : Loc nD τ sig) → Buf (Elt Ideal) ℓ) (c : Dev nD) (n : Fin 16384) (e : Fin 32) :
    (show FVec Ideal S16384x32 .f32 from Value.res_main_v84 m c) (ix2 n e) = rop (m ((c : Thread nD τ).loc main_arg0)) (m ((c : Thread nD τ).loc main_arg1)) (m ((c : Thread nD τ).loc main_arg2)) n e := by
  rw [Value.res_main_v84]
  exact rope_at _ _ _ n e

theorem alg : Cert.algebraic_Kernel2Ideal_Reference2Ideal := by
  intro m g m' g' _ hagree
  refine ⟨fun c => Cert.Kernel2Ideal.Val.out13 m c, fun c => Cert.Kernel2Ideal.Val.out14 m c, fun c => Cert.Kernel2Ideal.Val.out15 m c, fun c => Cert.Kernel2Ideal.Val.out16 m c, fun c => Cert.Kernel2Ideal.Val.out17 m c, fun c => Cert.Kernel2Ideal.Val.out18 m c, fun c => Cert.Kernel2Ideal.Val.out19 m c, fun c => Cert.Kernel2Ideal.Val.out20 m c, ?_, ?_⟩
  · exact (θ_run _ _ _).mono (fun r h c => ⟨((h c).1).trans (Cert.Kernel2Ideal.Val.final13 m c), ((h c).2.1).trans (Cert.Kernel2Ideal.Val.final14 m c), ((h c).2.2.1).trans (Cert.Kernel2Ideal.Val.final15 m c), ((h c).2.2.2.1).trans (Cert.Kernel2Ideal.Val.final16 m c), ((h c).2.2.2.2.1).trans (Cert.Kernel2Ideal.Val.final17 m c), ((h c).2.2.2.2.2.1).trans (Cert.Kernel2Ideal.Val.final18 m c), ((h c).2.2.2.2.2.2.1).trans (Cert.Kernel2Ideal.Val.final19 m c), ((h c).2.2.2.2.2.2.2.1).trans (Cert.Kernel2Ideal.Val.final20 m c), (h c).2.2.2.2.2.2.2.2⟩) (Cert.Kernel2Ideal.Value.run_blocks m g)
  · run_from (Cert.Reference2Ideal.Value.run m' g')
    · funext y
      rw [eq_ix2 y]
      exact (r78 (proj _ _ _) (y 0) (y 1)).trans (proj_at _ _ _ _ _)
    · funext y
      rw [eq_ix2 y]
      exact (r79 (proj _ _ _) (y 0) (y 1)).trans (proj_at _ _ _ _ _)
    · funext y
      rw [eq_ix2 y]
      exact (r80 (proj _ _ _) (y 0) (y 1)).trans (proj_at _ _ _ _ _)
    · funext y
      rw [eq_ix2 y]
      exact (r81 (proj _ _ _) (y 0) (y 1)).trans (proj_at _ _ _ _ _)
    · funext y
      rw [eq_ix2 y]
      exact (r82 (proj _ _ _) _ (y 0) (y 1)).trans (lat_at _ _ _ _ 2592 (by decide) (y 0) (y 1))
    · funext y
      rw [eq_ix2 y]
      exact (r83 (proj _ _ _) _ (y 0) (y 1)).trans (lat_at _ _ _ _ 2848 (by decide) (y 0) (y 1))
    · funext y
      rw [eq_ix2 y]
      refine (res84_at m' _ (y 0) (y 1)).trans ?_
      rename_i c
      obtain ⟨h0, h1, h2, -, -⟩ := hagree c
      rw [h0, h1, h2]
      rfl
    · funext y
      rw [eq_ix2 y]
      exact (r85 (proj _ _ _) (y 0) (y 1)).trans (proj_at _ _ _ _ _)

end Cert.Reference2Ideal.Val

end
-- ==== Proof.Merge.lean ====
/- The gated merge of the mixers' outputs. -/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit
public import Idealize.ShloMosaic.Lib.Claim
public import proofs.«01_k».proof.Proof.Rms

@[expose] public section

set_option maxRecDepth 16384

noncomputable section

namespace Cert.Mrg

open Idealize.ShloMosaic Idealize.ShloMosaic.TcCoe Cert.Rms

/-- The gate. -/
def sg (x : EReal) : EReal := Ideal.div 1 (1 + Ideal.exp (-x))

/-- Head `j / 64` of the latents times its value weights. -/
def lat (L : (⟨4, ![4, 4096, 8, 256]⟩ : Shape).Idx → EReal) (U : (⟨3, ![256, 8, 64]⟩ : Shape).Idx → EReal) (b : Fin 4) (n : Fin 4096) (j : Fin 512) : EReal :=
  ∑ k : Fin 256, L (ix4 b n ⟨j.val / 64, by omega⟩ k) * U (ix3 k ⟨j.val / 64, by omega⟩ ⟨j.val % 64, by omega⟩)

variable (X : (⟨3, ![4, 4096, 1024]⟩ : Shape).Idx → EReal) (C : (⟨3, ![4, 4096, 3072]⟩ : Shape).Idx → EReal) (R S : (⟨3, ![4, 4096, 512]⟩ : Shape).Idx → EReal) (L : (⟨4, ![4, 4096, 8, 256]⟩ : Shape).Idx → EReal) (U : (⟨3, ![256, 8, 64]⟩ : Shape).Idx → EReal)
  (P1 P2 P3 : (⟨2, ![512, 1024]⟩ : Shape).Idx → EReal) (W : (⟨2, ![1024, 1024]⟩ : Shape).Idx → EReal) (b : Fin 4) (n : Fin 4096)

/-- The gated sum of the three mixers, before the last product. -/
def mg (d : Fin 1024) : EReal :=
  sg (C (ix3 b n ⟨d.val, by omega⟩)) * (∑ k : Fin 512, R (ix3 b n k) * P1 (ix2 k d)) + sg (C (ix3 b n ⟨1024 + d.val, by omega⟩)) * (∑ k : Fin 512, S (ix3 b n k) * P2 (ix2 k d))
    + sg (C (ix3 b n ⟨2048 + d.val, by omega⟩)) * (∑ k : Fin 512, lat L U b n k * P3 (ix2 k d))

def val (e : Fin 1024) : EReal := X (ix3 b n e) + ∑ d : Fin 1024, mg C R S L U P1 P2 P3 b n d * W (ix2 d e)

end Cert.Mrg

namespace Cert.Kernel6Ideal.Val

open Idealize.ShloMosaic Idealize.ShloMosaic.TcCoe Idealize.SL.Sem Cert.Kernel6Ideal Cert.Kernel6Ideal.Gen Cert.Mrg

variable (m : (ℓ : Loc nD τ sig) → Buf (Elt Ideal) ℓ) (c : Dev nD)

def ax : FVec Ideal S4x4096x1024 .f32 := m ((c : Thread nD τ).loc main_arg0)
def ac : FVec Ideal S4x4096x3072 .f32 := m ((c : Thread nD τ).loc main_arg1)
def ar : FVec Ideal S4x4096x512 .f32 := m ((c : Thread nD τ).loc main_arg2)
def aq : FVec Ideal S4x4096x512 .f32 := m ((c : Thread nD τ).loc main_arg3)
def al : FVec Ideal S4x4096x8x256 .f32 := m ((c : Thread nD τ).loc main_arg4)
def au : FVec Ideal S256x8x64 .f32 := m ((c : Thread nD τ).loc main_arg5)
def ap1 : FVec Ideal S512x1024 .f32 := m ((c : Thread nD τ).loc main_arg6)
def ap2 : FVec Ideal S512x1024 .f32 := m ((c : Thread nD τ).loc main_arg7)
def ap3 : FVec Ideal S512x1024 .f32 := m ((c : Thread nD τ).loc main_arg8)
def aw : FVec Ideal S1024x1024 .f32 := m ((c : Thread nD τ).loc main_arg9)

def out : FVec Ideal S16384x1024 .f32 := fun y =>
  val (ax m c) (ac m c) (ar m c) (aq m c) (al m c) (au m c) (ap1 m c) (ap2 m c) (ap3 m c) (aw m c) ⟨(y 0).val / 4096, by have : (y 0).val < 16384 := (y 0).isLt; omega⟩ ⟨(y 0).val % 4096, by omega⟩ (y 1)

theorem lt_N (t : Fin cfg0.N) : t.val < 64 := lt_of_lt_of_eq t.isLt (show cfg0.N = 64 from N_0)

theorem idx : ∀ t : Fin cfg0.N, win0_0.index t = ![t.val, 0] ∧ win0_1.index t = ![t.val, 0] ∧ win0_2.index t = ![t.val, 0] ∧ win0_3.index t = ![t.val, 0] ∧ win0_4.index t = ![0, t.val, 0]
    ∧ win0_5.index t = ![0, 0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- The batch entry and the position of a row of grid point `t`'s tile. -/
def bt (t : Fin cfg0.N) : Fin 4 := ⟨t.val / 16, by have := lt_N t; omega⟩
def nt (t : Fin cfg0.N) (r : Fin 256) : Fin 4096 := ⟨t.val % 16 * 256 + r.val, by omega⟩

theorem ib0 (t : Fin cfg0.N) (r : Fin 256) (e : Fin 1024) : (show FVec Ideal S256x1024 .f32 from iblk m c 0 t) (ix2 r e) = ax m c (ix3 (bt t) (nt t r) e) := by
  have hN := lt_N t
  blk_simp [iblk]
  entry_read
  pointwise
  rw [ax]
  blk_ext [bt, nt, idx t]

theorem ib1 (t : Fin cfg0.N) (r : Fin 256) (e : Fin 3072) : (show FVec Ideal S256x3072 .f32 from iblk m c 1 t) (ix2 r e) = ac m c (ix3 (bt t) (nt t r) e) := by
  have hN := lt_N t
  blk_simp [iblk]
  entry_read
  pointwise
  rw [ac]
  blk_ext [bt, nt, idx t]

theorem ib2 (t : Fin cfg0.N) (r : Fin 256) (e : Fin 512) : (show FVec Ideal S256x512 .f32 from iblk m c 2 t) (ix2 r e) = ar m c (ix3 (bt t) (nt t r) e) := by
  have hN := lt_N t
  blk_simp [iblk]
  entry_read
  pointwise
  rw [ar]
  blk_ext [bt, nt, idx t]

theorem ib3 (t : Fin cfg0.N) (r : Fin 256) (e : Fin 512) : (show FVec Ideal S256x512 .f32 from iblk m c 3 t) (ix2 r e) = aq m c (ix3 (bt t) (nt t r) e) := by
  have hN := lt_N t
  blk_simp [iblk]
  entry_read
  pointwise
  rw [aq]
  blk_ext [bt, nt, idx t]

theorem ib4 (t : Fin cfg0.N) (h : Fin 8) (r k : Fin 256) : (show FVec Ideal S8x256x256 .f32 from iblk m c 4 t) (ix3 h r k) = al m c (ix4 (bt t) (nt t r) h k) := by
  have hN := lt_N t
  blk_simp [iblk]
  entry_read
  pointwise
  rw [al]
  blk_ext [bt, nt, idx t]

theorem ib5 (t : Fin cfg0.N) (h : Fin 8) (k : Fin 256) (v : Fin 64) : (show FVec Ideal S8x256x64 .bf16 from iblk m c 5 t) (ix3 h k v) = au m c (ix3 k h v) := by
  have hN := lt_N t
  blk_simp [iblk]
  entry_read
  pointwise
  rw [au]
  blk_ext [bt, nt, idx t]

theorem ib6 (t : Fin cfg0.N) (k : Fin 512) (e : Fin 1024) : (show FVec Ideal S512x1024 .bf16 from iblk m c 6 t) (ix2 k e) = ap1 m c (ix2 k e) := by
  have hN := lt_N t
  blk_simp [iblk]
  entry_read
  pointwise
  rw [ap1]
  blk_ext [bt, nt, idx t]

theorem ib7 (t : Fin cfg0.N) (k : Fin 512) (e : Fin 1024) : (show FVec Ideal S512x1024 .bf16 from iblk m c 7 t) (ix2 k e) = ap2 m c (ix2 k e) := by
  have hN := lt_N t
  blk_simp [iblk]
  entry_read
  pointwise
  rw [ap2]
  blk_ext [bt, nt, idx t]

theorem ib8 (t : Fin cfg0.N) (k : Fin 512) (e : Fin 1024) : (show FVec Ideal S512x1024 .bf16 from iblk m c 8 t) (ix2 k e) = ap3 m c (ix2 k e) := by
  have hN := lt_N t
  blk_simp [iblk]
  entry_read
  pointwise
  rw [ap3]
  blk_ext [bt, nt, idx t]

theorem ib9 (t : Fin cfg0.N) (k e : Fin 1024) : (show FVec Ideal S1024x1024 .bf16 from iblk m c 9 t) (ix2 k e) = aw m c (ix2 k e) := by
  have hN := lt_N t
  blk_simp [iblk]
  entry_read
  pointwise
  rw [aw]
  blk_ext [bt, nt, idx t]

theorem pay1_at (v95 v96 : FVec Ideal S256x1024 .f32) (v99 : FVec Ideal S1024x1024 .bf16) (r : Fin 256) (e : Fin 1024) :
    k0_pay1 (F := Ideal) v95 v96 v99 (ix2 r e) = v96 (ix2 r e) + ∑ d : Fin 1024, v95 (ix2 r d) * v99 (ix2 d e) := by
  pointwise [k0_pay1]

theorem pay8_at (v1 : FVec Ideal S256x3072 .f32) (r : Fin 256) (d : Fin 1024) : Ideal.div (k0_pay9 (F := Ideal) (ix2 r d)) (k0_pay8 (F := Ideal) v1 (ix2 r d)) = sg (v1 (ix2 r ⟨d.val, by omega⟩)) := by
  pointwise [k0_pay8, k0_pay9]
  rw [zero_sub, sg]

theorem pay10_at (v1 : FVec Ideal S256x3072 .f32) (v50 : FVec Ideal S256x512 .f32) (v56 v57 : FVec Ideal S256x1024 .f32) (v59 : FVec Ideal S256x512 .f32) (v62 : FVec Ideal S512x1024 .bf16) (v74 : FVec Ideal S256x512 .f32)
    (v77 v91 : FVec Ideal S512x1024 .bf16) (r : Fin 256) (d : Fin 1024) :
    k0_pay10 (F := Ideal) v1 v50 v56 v57 v59 v62 v74 v77 v91 (ix2 r d)
      = Ideal.div (v57 (ix2 r d)) (v56 (ix2 r d)) * (∑ k : Fin 512, v59 (ix2 r k) * v62 (ix2 k d)) + sg (v1 (ix2 r ⟨1024 + d.val, by omega⟩)) * (∑ k : Fin 512, v74 (ix2 r k) * v77 (ix2 k d))
        + sg (v1 (ix2 r ⟨2048 + d.val, by omega⟩)) * (∑ k : Fin 512, v50 (ix2 r k) * v91 (ix2 k d)) := by
  pointwise [k0_pay10]
  rw [zero_sub, zero_sub, sg, sg]

theorem pt (x4 : Vec Ideal S8x256x256 .f32) (x5 : Vec Ideal S8x256x64 .bf16) (r : Fin 256) (q q' : Fin 8) (v v' : Fin 64) (hq : q.val = q'.val) (hv : v.val = v'.val) :
    (∑ k : Fin 256, (x4 (ix3 q r k) * x5 (ix3 q k v) : EReal)) = ∑ k : Fin 256, (x4 (ix3 q' r k) * x5 (ix3 q' k v') : EReal) := by
  obtain rfl := Fin.ext hq
  obtain rfl := Fin.ext hv
  rfl

/-- The eight heads' products side by side. -/
def heads (x4 : Vec Ideal S8x256x256 .f32) (x5 : Vec Ideal S8x256x64 .bf16) : FVec Ideal S256x512 .f32 :=
  k0_pay7 (k0_pay3 (View.ld x4 r0_1) (View.ld x5 r0_2)) (k0_pay4 (View.ld x4 r0_3) (View.ld x5 r0_4)) (k0_pay5 (View.ld x4 r0_5) (View.ld x5 r0_6)) (k0_pay6 (View.ld x4 r0_7) (View.ld x5 r0_8)) (View.ld x4 r0_9) (View.ld x5 r0_10) (View.ld x4 r0_11) (View.ld x5 r0_12) (View.ld x4 r0_13) (View.ld x5 r0_14) (View.ld x4 r0_15) (View.ld x5 r0_16)

theorem heads_at (x4 : Vec Ideal S8x256x256 .f32) (x5 : Vec Ideal S8x256x64 .bf16) (r : Fin 256) (j : Fin 512) :
    heads x4 x5 (ix2 r j) = ∑ k : Fin 256, (x4 (ix3 ⟨j.val / 64, by omega⟩ r k) * x5 (ix3 ⟨j.val / 64, by omega⟩ k ⟨j.val % 64, by omega⟩) : EReal) := by
  rw [heads]
  have hj := j.isLt
  pointwise [k0_pay7, k0_pay3, k0_pay4, k0_pay5, k0_pay6]
  by_cases h0 : j.val < 64
  · rw [dif_pos (by omega)]
    refine pt x4 x5 r 0 _ _ _ ?_ ?_
    · show 0 = j.val / 64
      omega
    · dsimp only
      omega
  by_cases h1 : j.val < 128
  · rw [dif_neg (by omega), dif_pos (by omega)]
    refine pt x4 x5 r 1 _ _ _ ?_ ?_
    · show 1 = j.val / 64
      omega
    · dsimp only
      omega
  by_cases h2 : j.val < 192
  · rw [dif_neg (by omega), dif_neg (by omega), dif_pos (by omega)]
    refine pt x4 x5 r 2 _ _ _ ?_ ?_
    · show 2 = j.val / 64
      omega
    · dsimp only
      omega
  by_cases h3 : j.val < 256
  · rw [dif_neg (by omega), dif_neg (by omega), dif_neg (by omega), dif_pos (by omega)]
    refine pt x4 x5 r 3 _ _ _ ?_ ?_
    · show 3 = j.val / 64
      omega
    · dsimp only
      omega
  by_cases h4 : j.val < 320
  · rw [dif_neg (by omega), dif_neg (by omega), dif_neg (by omega), dif_neg (by omega), dif_pos (by omega)]
    refine pt x4 x5 r 4 _ _ _ ?_ ?_
    · show 4 = j.val / 64
      omega
    · dsimp only
      omega
  by_cases h5 : j.val < 384
  · rw [dif_neg (by omega), dif_neg (by omega), dif_neg (by omega), dif_neg (by omega), dif_neg (by omega), dif_pos (by omega)]
    refine pt x4 x5 r 5 _ _ _ ?_ ?_
    · show 5 = j.val / 64
      omega
    · dsimp only
      omega
  by_cases h6 : j.val < 448
  · rw [dif_neg (by omega), dif_neg (by omega), dif_neg (by omega), dif_neg (by omega), dif_neg (by omega), dif_neg (by omega), dif_pos (by omega)]
    refine pt x4 x5 r 6 _ _ _ ?_ ?_
    · show 6 = j.val / 64
      omega
    · dsimp only
      omega
  rw [dif_neg (by omega), dif_neg (by omega), dif_neg (by omega), dif_neg (by omega), dif_neg (by omega), dif_neg (by omega), dif_neg (by omega)]
  refine pt x4 x5 r 7 _ _ _ ?_ ?_
  · show 7 = j.val / 64
    omega
  · dsimp only
    omega

theorem gate_at (t : Fin cfg0.N) (r : Fin 256) (e : Fin 3072) : (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 r e) = ac m c (ix3 (bt t) (nt t r) e) := by
  refine Eq.trans ?_ (ib1 m c t r e)
  rw [k0_pay11]
  pointwise [k0_pay2]

theorem out_at (t : Fin cfg0.N) (z : S16384x1024.Idx) (r : Fin 256) (e : Fin 1024) (e0 : (z 0).val = t.val * 256 + r.val) (e1 : (z 1).val = e.val) :
    k0_pay1 (F := Ideal) (k0_pay10 (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) (heads (iblk m c 4 t) (iblk m c 5 t)) (k0_pay8 (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t))) (k0_pay9 (F := Ideal)) (iblk m c 2 t) (iblk m c 6 t) (iblk m c 3 t) (iblk m c 7 t) (iblk m c 8 t))
      (iblk m c 0 t) (iblk m c 9 t) (ix2 r e) = out m c z := by
  have hN := lt_N t
  have a0 : (⟨(z 0).val / 4096, by have : (z 0).val < 16384 := (z 0).isLt; omega⟩ : Fin 4) = bt t := Fin.ext (by simp only [bt]; omega)
  have a1 : (⟨(z 0).val % 4096, by omega⟩ : Fin 4096) = nt t r := Fin.ext (by simp only [nt]; omega)
  have a2 : z 1 = e := Fin.ext e1
  rw [pay1_at, out, a0, a1, a2, val]
  refine congr (congrArg HAdd.hAdd (ib0 m c t r e)) (Finset.sum_congr rfl fun d _ => ?_)
  refine congr (congrArg HMul.hMul ?_) (ib9 m c t d e)
  rw [pay10_at, pay8_at, mg]
  refine congr (congrArg HAdd.hAdd (congr (congrArg HAdd.hAdd (congr (congrArg HMul.hMul (congrArg sg (gate_at m c t r _))) (Finset.sum_congr rfl fun k _ => ?_)))
    (congr (congrArg HMul.hMul (congrArg sg (gate_at m c t r _))) (Finset.sum_congr rfl fun k _ => ?_)))) (congr (congrArg HMul.hMul (congrArg sg (gate_at m c t r _))) (Finset.sum_congr rfl fun k _ => ?_))
  · exact congr (congrArg HMul.hMul (ib2 m c t r k)) (ib6 m c t k d)
  · exact congr (congrArg HMul.hMul (ib3 m c t r k)) (ib7 m c t k d)
  · refine congr (congrArg HMul.hMul ?_) (ib8 m c t k d)
    rw [heads_at, lat]
    exact Finset.sum_congr rfl fun q _ => congr (congrArg HMul.hMul (ib4 m c t _ r q)) (ib5 m c t _ q _)

theorem final : (dats m 0 c).arrAt 10 (cfgs 0).N = out m c := by
  refine (dats m 0 c).arrAt_eq_of_covers 10 (out m c) (by decide +kernel) fun t hf y => ?_
  have e0 : ((win0_10.blk t).view.emb y 0).val = t.val * 256 + (y 0).val := by blk_simp [idx t]
  have e1 : ((win0_10.blk t).view.emb y 1).val = (y 1).val := by blk_simp [idx t]
  have hy : (show S256x1024.Idx from y) = ix2 (y 0) (y 1) := eq_ix2 _
  blk_simp
  rw [after0_10]
  generalize (win0_10.blk t).view.emb y = z at *
  frame_out
  exact (congrArg (k0_pay1 (F := Ideal) (k0_pay10 (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) (heads (iblk m c 4 t) (iblk m c 5 t)) (k0_pay8 (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t))) (k0_pay9 (F := Ideal)) (iblk m c 2 t) (iblk m c 6 t) (iblk m c 3 t) (iblk m c 7 t) (iblk m c 8 t))
      (iblk m c 0 t) (iblk m c 9 t)) hy).trans (out_at m c t z (y 0) (y 1) e0 e1)

end Cert.Kernel6Ideal.Val

namespace Cert.Reference6Ideal.Val

open Idealize.ShloMosaic Idealize.ShloMosaic.TcCoe Idealize.SL.Sem Cert.Reference6Ideal Cert.Reference6Ideal.Gen Cert.Rms Cert.Mrg

theorem om_at (L : FVec Ideal S4x4096x8x256 .f32) (U : FVec Ideal S256x8x64 .f32) (b : Fin 4) (n : Fin 4096) (j : Fin 512) :
    ((shapeCast _ (transpose S4x4096x8x64 [2, 3, 0, 1] (Host.dotGeneral dot_S256x8x64_S4x4096x8x256_S8x64x4x4096_0_3_2_01_1_2 none U L) transposes_S8x64x4x4096_S4x4096x8x64_2_3_0_1) shapeCasts_S4x4096x8x64_S4x4096x512) : FVec Ideal S4x4096x512 .f32) (ix3 b n j) = lat L U b n j := by
  pointwise
  rw [lat]
  exact Finset.sum_congr rfl fun k _ => mul_comm _ _

theorem ref_at (X : FVec Ideal S4x4096x1024 .f32) (C : FVec Ideal S4x4096x3072 .f32) (R S O : FVec Ideal S4x4096x512 .f32) (P1 P2 P3 : FVec Ideal S512x1024 .f32) (W : FVec Ideal S1024x1024 .f32) (n : Fin 16384) (e : Fin 1024) :
    ((shapeCast _ (addf X (Host.dotGeneral dot_S4x4096x1024_S1024x1024_S4x4096x1024_2_0_01_1_n_n none (addf (addf (mulf (shapeCast _ (extractStridedSlice S4x4096x1x1024 ![0, 0, 0, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_0_0) shapeCasts_S4x4096x1x1024_S4x4096x1024) (Host.dotGeneral dot_S4x4096x512_S512x1024_S4x4096x1024_2_0_01_1_n_n none R P1)) (mulf (shapeCast _ (extractStridedSlice S4x4096x1x1024 ![0, 0, 1, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_1_0) shapeCasts_S4x4096x1x1024_S4x4096x1024) (Host.dotGeneral dot_S4x4096x512_S512x1024_S4x4096x1024_2_0_01_1_n_n none S P2))) (mulf (shapeCast _ (extractStridedSlice S4x4096x1x1024 ![0, 0, 2, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_2_0) shapeCasts_S4x4096x1x1024_S4x4096x1024) (Host.dotGeneral dot_S4x4096x512_S512x1024_S4x4096x1024_2_0_01_1_n_n none O P3))) W)) shapeCasts_S4x4096x1024_S16384x1024) : FVec Ideal S16384x1024 .f32) (ix2 n e)
      = X (row n.val n.isLt e) + ∑ d : Fin 1024, (sg (C (row n.val n.isLt ⟨d.val, by omega⟩)) * (∑ k : Fin 512, R (row n.val n.isLt k) * P1 (ix2 k d)) + sg (C (row n.val n.isLt ⟨1024 + d.val, by omega⟩)) * (∑ k : Fin 512, S (row n.val n.isLt k) * P2 (ix2 k d))
    + sg (C (row n.val n.isLt ⟨2048 + d.val, by omega⟩)) * (∑ k : Fin 512, O (row n.val n.isLt k) * P3 (ix2 k d))) * W (ix2 d e) := by
  pointwise
  rfl

theorem val_at (X : FVec Ideal S4x4096x1024 .f32) (C : FVec Ideal S4x4096x3072 .f32) (R S : FVec Ideal S4x4096x512 .f32) (L : FVec Ideal S4x4096x8x256 .f32) (U : FVec Ideal S256x8x64 .f32) (P1 P2 P3 : FVec Ideal S512x1024 .f32) (W : FVec Ideal S1024x1024 .f32)
    (n : Fin 16384) (e : Fin 1024) :
    (shapeCast _ (addf X (Host.dotGeneral dot_S4x4096x1024_S1024x1024_S4x4096x1024_2_0_01_1_n_n none (addf (addf (mulf (shapeCast _ (extractStridedSlice S4x4096x1x1024 ![0, 0, 0, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_0_0) shapeCasts_S4x4096x1x1024_S4x4096x1024) (Host.dotGeneral dot_S4x4096x512_S512x1024_S4x4096x1024_2_0_01_1_n_n none R P1)) (mulf (shapeCast _ (extractStridedSlice S4x4096x1x1024 ![0, 0, 1, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_1_0) shapeCasts_S4x4096x1x1024_S4x4096x1024) (Host.dotGeneral dot_S4x4096x512_S512x1024_S4x4096x1024_2_0_01_1_n_n none S P2))) (mulf (shapeCast _ (extractStridedSlice S4x4096x1x1024 ![0, 0, 2, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf C)))) shapeCasts_S4x4096x3072_S4x4096x3x1024) slices_S4x4096x3x1024_S4x4096x1x1024_0_0_2_0) shapeCasts_S4x4096x1x1024_S4x4096x1024) (Host.dotGeneral dot_S4x4096x512_S512x1024_S4x4096x1024_2_0_01_1_n_n none (shapeCast _ (transpose S4x4096x8x64 [2, 3, 0, 1] (Host.dotGeneral dot_S256x8x64_S4x4096x8x256_S8x64x4x4096_0_3_2_01_1_2 none U L) transposes_S8x64x4x4096_S4x4096x8x64_2_3_0_1) shapeCasts_S4x4096x8x64_S4x4096x512) P3))) W)) shapeCasts_S4x4096x1024_S16384x1024 : FVec Ideal S16384x1024 .f32) (ix2 n e) = val X C R S L U P1 P2 P3 W ⟨n.val / 4096, by omega⟩ ⟨n.val % 4096, by omega⟩ e := by
  refine (ref_at X C R S _ P1 P2 P3 W n e).trans ?_
  refine congrArg (fun s => X (row n.val n.isLt e) + s) (Finset.sum_congr rfl fun d _ => ?_)
  refine congrArg (fun s => s * W (ix2 d e)) ?_
  refine congr (congrArg HAdd.hAdd rfl) (congrArg (HMul.hMul _) (Finset.sum_congr rfl fun k _ => ?_))
  exact congrArg (fun s => s * P3 (ix2 k d)) (om_at L U _ _ k)

theorem alg : Cert.algebraic_Kernel6Ideal_Reference6Ideal := by
  intro m g m' g' _ hagree
  refine ⟨fun c => Cert.Kernel6Ideal.Val.out m c, ?_, ?_⟩
  · exact (θ_run _ _ _).mono (fun r h c => ⟨((h c).1).trans (Cert.Kernel6Ideal.Val.final m c), (h c).2⟩) (Cert.Kernel6Ideal.Value.run_blocks m g)
  · run_from (Cert.Reference6Ideal.Value.run m' g')
    funext y
    rw [eq_ix2 y]
    exact val_at _ _ _ _ _ _ _ _ _ _ _ _

end Cert.Reference6Ideal.Val

end
-- ==== Proof.Smp.lean ====
/- The rows of the sample group, flattened. -/
module

public import proofs.«01_k».proof.Proof.Rms

@[expose] public section

noncomputable section

namespace Cert.Smp

open Idealize.ShloMosaic

/-- Entry `e` of row `n` of a stack of 128 sequences of 8 positions. -/
def row {d : ℕ} (n : ℕ) (h : n < 1024) (e : Fin d) : (⟨3, ![128, 8, d]⟩ : Shape).Idx := ix3 (⟨n / 8, by omega⟩ : Fin 128) (⟨n % 8, by omega⟩ : Fin 8) e

theorem row_congr {d n n' : ℕ} (e : n = n') (h : n < 1024) (h' : n' < 1024) (k : Fin d) : row n h k = row n' h' k := by subst e; rfl

end Cert.Smp

end
-- ==== Proof.SmpNorm.lean ====
module

public import proofs.«01_k».proof.Defs
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run

public import Idealize.ShloMosaic.Lib.Pipeline.ValueKit
public import Idealize.ShloMosaic.Lib.Claim
public import proofs.«01_k».proof.Proof.Smp

@[expose] public section

set_option maxRecDepth 16384

noncomputable section

namespace Cert.Kernel10Ideal.Val

open Idealize.ShloMosaic Idealize.ShloMosaic.TcCoe Idealize.SL.Sem Cert.Kernel10Ideal Cert.Kernel10Ideal.Gen
open Cert.Rms (rms)
open Cert.Smp

variable (m : (ℓ : Loc nD τ sig) → Buf (Elt Ideal) ℓ) (c : Dev nD)

def ax : FVec Ideal S128x8x1024 .f32 := m ((c : Thread nD τ).loc main_arg0)
def ag : FVec Ideal S1024 .f32 := m ((c : Thread nD τ).loc main_arg1)

theorem lt_N (t : Fin cfg0.N) : t.val < 2 := lt_of_lt_of_eq t.isLt (show cfg0.N = 2 from N_0)

theorem idx : ∀ t : Fin cfg0.N, win0_0.index t = ![t.val, 0] ∧ win0_1.index t = ![0, 0] ∧ win0_2.index t = ![t.val, 0] :=
  (by decide +kernel : ∀ t : Fin grid0.N, _)

theorem ib0 (t : Fin cfg0.N) (r : Fin 512) (e : Fin 1024) :
    (show FVec Ideal S512x1024 .f32 from iblk m c 0 t) (ix2 r e) = ax m c (row (t.val * 512 + r.val) (by have := lt_N t; omega) e) := by
  have hN := lt_N t
  blk_simp [iblk]
  entry_read
  pointwise
  rw [ax]
  blk_ext [row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [idx t]

theorem pay_at (x0 : FVec Ideal S512x1024 .f32) (x1 : FVec Ideal S1x1024 .f32) (r : Fin 512) (e : Fin 1024) :
    k0_pay1 (F := Ideal) x0 x1 (ix2 r e) = rms (fun k => x0 (ix2 r k)) (Ideal.ofBits .f32 0x44800000#32) (x1 (ix2 0 e)) e := by
  pointwise [k0_pay1]
  rfl

/-- The result array. -/
def out : FVec Ideal S1024x1024 .f32 := fun y => rms (fun k => ax m c (row (y 0).val (y 0).isLt k)) (Ideal.ofBits .f32 0x44800000#32) (ag m c (ix1 (y 1))) (y 1)

theorem out_at (t : Fin cfg0.N) (z : S1024x1024.Idx) (r : Fin 512) (e : Fin 1024) (e0 : (z 0).val = t.val * 512 + r.val) (e1 : (z 1).val = e.val) :
    rms (fun k => (show FVec Ideal S512x1024 .f32 from iblk m c 0 t) (ix2 r k)) (Ideal.ofBits .f32 0x44800000#32)
      ((show FVec Ideal S1x1024 .f32 from iblk m c 1 t) (ix2 0 e)) e = out m c z := by
  have a1 : z 1 = e := Fin.ext e1
  simp only [out, ib0, ib1, a1, row_congr e0 (z 0).isLt (e0 ▸ (z 0).isLt)]

theorem final : (dats m 0 c).arrAt 2 (cfgs 0).N = out m c := by
  refine (dats m 0 c).arrAt_eq_of_covers 2 (out m c) (by decide +kernel) fun t hf y => ?_
  have e0 : ((win0_2.blk t).view.emb y 0).val = t.val * 512 + (y 0).val := by blk_simp [idx t]
  have e1 : ((win0_2.blk t).view.emb y 1).val = (y 1).val := by blk_simp [idx t]
  have hy : (show S512x1024.Idx from y) = ix2 (y 0) (y 1) := eq_ix2 _
  blk_simp
  rw [after0_2]
  generalize (win0_2.blk t).view.emb y = z at *
  frame_out
  exact (congrArg (k0_pay1 (F := Ideal) (iblk m c 0 t) (iblk m c 1 t)) hy).trans ((pay_at _ _ _ _).trans (out_at m c t z (y 0) (y 1) e0 e1))

end Cert.Kernel10Ideal.Val

namespace Cert.Reference10Ideal.Val

open Idealize.ShloMosaic Idealize.ShloMosaic.TcCoe Idealize.SL.Sem Cert.Reference10Ideal Cert.Reference10Ideal.Gen
open Cert.Rms (rms)
open Cert.Smp

theorem ref_at (X : FVec Ideal S128x8x1024 .f32) (G : FVec Ideal S1024 .f32) (n : Fin 1024) (e : Fin 1024) :
    (shapeCast _ (mulf (mulf X (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf X X) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 G))) shapeCasts_S128x8x1024_S1024x1024 : FVec Ideal S1024x1024 .f32) (ix2 n e)
      = rms (fun k => X (row n.val n.isLt k)) (Ideal.ofBits .f32 0x44800000#32) (G (ix1 e)) e := by
  pointwise
  rfl

theorem alg : Cert.algebraic_Kernel10Ideal_Reference10Ideal := by
  intro m g m' g' _ hagree
  refine ⟨fun c => Cert.Kernel10Ideal.Val.out m c, ?_, ?_⟩
  · exact (θ_run _ _ _).mono (fun r h c => ⟨((h c).1).trans (Cert.Kernel10Ideal.Val.final m c), (h c).2⟩)
      (Cert.Kernel10Ideal.Value.run_blocks m g)
  · run_from (Cert.Reference10Ideal.Value.run m' g')
    funext y
    rw [eq_ix2 y]
    exact ref_at _ _ _ _

end Cert.Reference10Ideal.Val

end
-- ==== Proof.SmpUp.lean ====
/- The feed-forward part's norm and its two products. -/
module

public import proofs.«01_k».proof.Defs
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit
public import Idealize.ShloMosaic.Lib.Claim
public import proofs.«01_k».proof.Proof.Smp

@[expose] public section

set_option maxRecDepth 16384

noncomputable section

namespace Cert.Kernel9Ideal.Val

open Idealize.ShloMosaic Idealize.ShloMosaic.TcCoe Idealize.SL.Sem Cert.Kernel9Ideal Cert.Kernel9Ideal.Gen
open Cert.Rms (rms)
open Cert.Smp

variable (m : (ℓ : Loc nD τ sig) → Buf (Elt Ideal) ℓ) (c : Dev nD)

def ax : FVec Ideal S128x8x1024 .f32 := m ((c : Thread nD τ).loc main_arg0)
def ag : FVec Ideal S1024 .f32 := m ((c : Thread nD τ).loc main_arg1)
def wa : FVec Ideal S1024x2816 .f32 := m ((c : Thread nD τ).loc main_arg2)
def wb : FVec Ideal S1024x2816 .f32 := m ((c : Thread nD τ).loc main_arg3)

theorem lt_N (t : Fin cfg0.N) : t.val < 4 := lt_of_lt_of_eq t.isLt (show cfg0.N = 4 from N_0)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

theorem ib0 (t : Fin cfg0.N) (r : Fin 256) (e : Fin 1024) :
    (show FVec Ideal S256x1024 .f32 from iblk m c 0 t) (ix2 r e) = ax m c (row (t.val * 256 + r.val) (by have := lt_N t; omega) e) := by
  have hN := lt_N t
  blk_simp [iblk]
  entry_read
  pointwise
  rw [ax]
  blk_ext [row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [idx t]

theorem ib2 (t : Fin cfg0.N) (k : Fin 1024) (e : Fin 2816) : (show FVec Ideal S1024x2816 .bf16 from iblk m c 2 t) (ix2 k e) = wa m c (ix2 k e) := by
  have hN := lt_N t
  blk_simp [iblk]
  entry_read
  pointwise
  rw [wa]
  blk_ext [idx t]

theorem ib3 (t : Fin cfg0.N) (k : Fin 1024) (e : Fin 2816) : (show FVec Ideal S1024x2816 .bf16 from iblk m c 3 t) (ix2 k e) = wb m c (ix2 k e) := by
  have hN := lt_N t
  blk_simp [iblk]
  entry_read
  pointwise
  rw [wb]
  blk_ext [idx t]

theorem pay1_at (x0 : FVec Ideal S256x1024 .f32) (x1 : FVec Ideal S1x1024 .f32) (r : Fin 256) (e : Fin 1024) :
    k0_pay1 (F := Ideal) x0 x1 (ix2 r e) = rms (fun k => x0 (ix2 r k)) (Ideal.ofBits .f32 0x44800000#32) (x1 (ix2 0 e)) e := by
  pointwise [k0_pay1]
  rfl

theorem pay2_at (x0 : FVec Ideal S256x1024 .f32) (x1 : FVec Ideal S1x1024 .f32) (w : FVec Ideal S1024x2816 .bf16) (r : Fin 256) (e : Fin 2816) :
    k0_pay2 (F := Ideal) x0 x1 w (ix2 r e) = ∑ j : Fin 1024, rms (fun k => x0 (ix2 r k)) (Ideal.ofBits .f32 0x44800000#32) (x1 (ix2 0 j)) j * w (ix2 j e) := by
  pointwise [k0_pay2]
  exact Finset.sum_congr rfl fun j _ => by rw [pay1_at]

theorem pay3_at (x0 : FVec Ideal S256x1024 .f32) (x1 : FVec Ideal S1x1024 .f32) (w : FVec Ideal S1024x2816 .bf16) (r : Fin 256) (e : Fin 2816) :
    k0_pay3 (F := Ideal) x0 x1 w (ix2 r e) = ∑ j : Fin 1024, rms (fun k => x0 (ix2 r k)) (Ideal.ofBits .f32 0x44800000#32) (x1 (ix2 0 j)) j * w (ix2 j e) := by
  pointwise [k0_pay3]
  exact Finset.sum_congr rfl fun j _ => by rw [pay1_at]

/-- A product of the normalised rows. -/
def out (W : FVec Ideal S1024x2816 .f32) : FVec Ideal S1024x2816 .f32 := fun y => ∑ j : Fin 1024, rms (fun k => ax m c (row (y 0).val (y 0).isLt k)) (Ideal.ofBits .f32 0x44800000#32) (ag m c (ix1 j)) j * W (ix2 j (y 1))

theorem out_at (W : FVec Ideal S1024x2816 .f32) (B : FVec Ideal S1024x2816 .bf16) (hB : ∀ j e, B (ix2 j e) = W (ix2 j e)) (t : Fin cfg0.N) (z : S1024x2816.Idx) (r : Fin 256) (e : Fin 2816)
    (e0 : (z 0).val = t.val * 256 + r.val) (e1 : (z 1).val = e.val) :
    (∑ j : Fin 1024, rms (fun k => (show FVec Ideal S256x1024 .f32 from iblk m c 0 t) (ix2 r k)) (Ideal.ofBits .f32 0x44800000#32)
      ((show FVec Ideal S1x1024 .f32 from iblk m c 1 t) (ix2 0 j)) j * B (ix2 j e)) = out m c W z := by
  have a1 : z 1 = e := Fin.ext e1
  simp only [out, ib0, ib1, hB, a1, row_congr e0 (z 0).isLt (e0 ▸ (z 0).isLt)]

theorem final4 : (dats m 0 c).arrAt 4 (cfgs 0).N = out m c (wa m c) := by
  refine (dats m 0 c).arrAt_eq_of_covers 4 (out m c (wa m c)) (by decide +kernel) fun t hf y => ?_
  have e0 : ((win0_4.blk t).view.emb y 0).val = t.val * 256 + (y 0).val := by blk_simp [idx t]
  have e1 : ((win0_4.blk t).view.emb y 1).val = (y 1).val := by blk_simp [idx t]
  have hy : (show S256x2816.Idx from y) = ix2 (y 0) (y 1) := eq_ix2 _
  blk_simp
  rw [after0_4]
  generalize (win0_4.blk t).view.emb y = z at *
  frame_out
  exact (congrArg (k0_pay2 (F := Ideal) (iblk m c 0 t) (iblk m c 1 t) (iblk m c 2 t)) hy).trans
    ((pay2_at _ _ _ _ _).trans (out_at m c (wa m c) (iblk m c 2 t) (ib2 m c t) t z (y 0) (y 1) e0 e1))

theorem final5 : (dats m 0 c).arrAt 5 (cfgs 0).N = out m c (wb m c) := by
  refine (dats m 0 c).arrAt_eq_of_covers 5 (out m c (wb m c)) (by decide +kernel) fun t hf y => ?_
  have e0 : ((win0_5.blk t).view.emb y 0).val = t.val * 256 + (y 0).val := by blk_simp [idx t]
  have e1 : ((win0_5.blk t).view.emb y 1).val = (y 1).val := by blk_simp [idx t]
  have hy : (show S256x2816.Idx from y) = ix2 (y 0) (y 1) := eq_ix2 _
  blk_simp
  rw [after0_5]
  generalize (win0_5.blk t).view.emb y = z at *
  frame_out
  exact (congrArg (k0_pay3 (F := Ideal) (iblk m c 0 t) (iblk m c 1 t) (iblk m c 3 t)) hy).trans
    ((pay3_at _ _ _ _ _).trans (out_at m c (wb m c) (iblk m c 3 t) (ib3 m c t) t z (y 0) (y 1) e0 e1))

end Cert.Kernel9Ideal.Val

namespace Cert.Reference9Ideal.Val

open Idealize.ShloMosaic Idealize.ShloMosaic.TcCoe Idealize.SL.Sem Cert.Reference9Ideal Cert.Reference9Ideal.Gen
open Cert.Rms (rms)
open Cert.Smp

theorem ref_at (X : FVec Ideal S128x8x1024 .f32) (G : FVec Ideal S1024 .f32) (W : FVec Ideal S1024x2816 .f32) (n : Fin 1024) (e : Fin 2816) :
    (shapeCast _ (Host.dotGeneral dot_S128x8x1024_S1024x2816_S128x8x2816_2_0_01_1_n_n none (mulf (mulf X (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf X X) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 G))) W) shapeCasts_S128x8x2816_S1024x2816 : FVec Ideal S1024x2816 .f32) (ix2 n e)
      = ∑ j : Fin 1024, rms (fun k => X (row n.val n.isLt k)) (Ideal.ofBits .f32 0x44800000#32) (G (ix1 j)) j * W (ix2 j e) := by
  pointwise
  rfl

theorem alg : Cert.algebraic_Kernel9Ideal_Reference9Ideal := by
  intro m g m' g' _ hagree
  refine ⟨fun c => Cert.Kernel9Ideal.Val.out m c (Cert.Kernel9Ideal.Val.wa m c), fun c => Cert.Kernel9Ideal.Val.out m c (Cert.Kernel9Ideal.Val.wb m c), ?_, ?_⟩
  · exact (θ_run _ _ _).mono (fun r h c => ⟨((h c).1).trans (Cert.Kernel9Ideal.Val.final4 m c), ((h c).2.1).trans (Cert.Kernel9Ideal.Val.final5 m c), (h c).2.2⟩)
      (Cert.Kernel9Ideal.Value.run_blocks m g)
  · run_from (Cert.Reference9Ideal.Value.run m' g')
    · funext y
      rw [eq_ix2 y]
      exact ref_at _ _ _ _ _
    · funext y
      rw [eq_ix2 y]
      exact ref_at _ _ _ _ _

end Cert.Reference9Ideal.Val

end
-- ==== Proof.SmpProj.lean ====
/- The layer's first norm and the projections from it, at positions 8192 on. -/
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit
public import Idealize.ShloMosaic.Lib.Claim
public import proofs.«01_k».proof.Proof.Smp

@[expose] public section

set_option maxRecDepth 16384

noncomputable section

namespace Cert.Spj

open Idealize.ShloMosaic Idealize.ShloMosaic.TcCoe
open Cert.Rms (rms)
open Cert.Smp

variable (X : (⟨3, ![128, 8, 1024]⟩ : Shape).Idx → EReal) (G : (⟨1, ![1024]⟩ : Shape).Idx → EReal) (W : (⟨2, ![1024, 6208]⟩ : Shape).Idx → EReal) (n : Fin 1024)

/-- One normalised entry of row `n`. -/
def hid (j : Fin 1024) : EReal := rms (fun k => X (row n.val n.isLt k)) (Ideal.ofBits .f32 0x44800000#32) (G (ix1 j)) j

/-- Column `k` of row `n`'s projection. -/
def prj (k : Fin 6208) : EReal := ∑ j : Fin 1024, hid X G n j * W (ix2 j k)

/-- Column `off + e`. -/
def cl (off : ℕ) {w : ℕ} (h : off + w ≤ 6208) (e : Fin w) : Fin 6208 := ⟨off + e.val, by omega⟩

/-- Columns `off` on, normed on their own. -/
def ltn (off : ℕ) (h : off + 256 ≤ 6208) (g : (⟨1, ![256]⟩ : Shape).Idx → EReal) (e : Fin 256) : EReal :=
  rms (fun k : Fin 256 => prj X G W n (cl off h k)) (Ideal.ofBits .f32 0x43800000#32) (g (ix1 e)) e

/-- The angle of position `8192 + p` in lane `k`. -/
def ang (p : Fin 8) (k : Fin 16) : EReal :=
  FloatOps.sitofp (F := Ideal) .f32 (8192#32 + BitVec.ofNat 32 p.val) * Ideal.exp (Ideal.div (Ideal.ofBits .f32 0xC1135D8E#32 * FloatOps.sitofp (F := Ideal) .f32 (BitVec.ofNat 32 k.val)) (Ideal.ofBits .f32 0x41800000#32))

/-- Lane `e` of the rotated columns of row `n`. -/
def rop (e : Fin 32) : EReal :=
  if h : e.val < 16 then prj X G W n (cl 3104 (by decide) (⟨e.val, by omega⟩ : Fin 32)) * Ideal.cos (ang ⟨n.val % 8, by omega⟩ ⟨e.val, h⟩) - prj X G W n (cl 3104 (by decide) (⟨16 + e.val, by omega⟩ : Fin 32)) * Ideal.sin (ang ⟨n.val % 8, by omega⟩ ⟨e.val, h⟩)
  else prj X G W n (cl 3104 (by decide) (⟨16 + (e.val - 16), by omega⟩ : Fin 32)) * Ideal.cos (ang ⟨n.val % 8, by omega⟩ ⟨e.val - 16, by omega⟩) + prj X G W n (cl 3104 (by decide) (⟨e.val - 16, by omega⟩ : Fin 32)) * Ideal.sin (ang ⟨n.val % 8, by omega⟩ ⟨e.val - 16, by omega⟩)

end Cert.Spj

namespace Cert.Kernel8Ideal.Val

open Idealize.ShloMosaic Idealize.ShloMosaic.TcCoe Idealize.SL.Sem Cert.Kernel8Ideal Cert.Kernel8Ideal.Gen
open Cert.Rms (rms)
open Cert.Smp Cert.Spj

variable (m : (ℓ : Loc nD τ sig) → Buf (Elt Ideal) ℓ) (c : Dev nD)

def ax : FVec Ideal S128x8x1024 .f32 := m ((c : Thread nD τ).loc main_arg0)
def ag : FVec Ideal S1024 .f32 := m ((c : Thread nD τ).loc main_arg1)
def aw : FVec Ideal S1024x6208 .f32 := m ((c : Thread nD τ).loc main_arg2)
def aq : FVec Ideal S256 .f32 := m ((c : Thread nD τ).loc main_arg3)
def ak : FVec Ideal S256 .f32 := m ((c : Thread nD τ).loc main_arg4)

theorem lt_N (t : Fin cfg0.N) : t.val < 4 := lt_of_lt_of_eq t.isLt (show cfg0.N = 4 from N_0)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- A row of grid point `t`'s tile. -/
def nt (t : Fin cfg0.N) (r : Fin 256) : Fin 1024 := ⟨t.val * 256 + r.val, by have := lt_N t; omega⟩

theorem ib0 (t : Fin cfg0.N) (r : Fin 256) (e : Fin 1024) : (show FVec Ideal S256x1024 .f32 from iblk m c 0 t) (ix2 r e) = ax m c (row (nt t r).val (nt t r).isLt e) := by
  have hN := lt_N t
  blk_simp [iblk]
  entry_read
  pointwise
  rw [ax]
  blk_ext [nt, row, idx t]

theorem ib1 (t : Fin cfg0.N) (e : Fin 1024) : (show FVec Ideal S1x1024 .f32 from iblk m c 1 t) (ix2 0 e) = ag m c (ix1 e) := by
  have hN := lt_N t
  blk_simp [iblk]
  entry_read
  pointwise
  rw [ag]
  blk_ext [nt, row, idx t]

theorem ib3 (t : Fin cfg0.N) (e : Fin 256) : (show FVec Ideal S1x256 .f32 from iblk m c 3 t) (ix2 0 e) = aq m c (ix1 e) := by
  have hN := lt_N t
  blk_simp [iblk]
  entry_read
  pointwise
  rw [aq]
  blk_ext [nt, row, idx t]

theorem ib4 (t : Fin cfg0.N) (e : Fin 256) : (show FVec Ideal S1x256 .f32 from iblk m c 4 t) (ix2 0 e) = ak m c (ix1 e) := by
  have hN := lt_N t
  blk_simp [iblk]
  entry_read
  pointwise
  rw [ak]
  blk_ext [nt, row, idx t]

theorem ib5 (t : Fin cfg0.N) (j : Fin 1024) (e : Fin 1824) : (show FVec Ideal S1024x1824 .bf16 from iblk m c 5 t) (ix2 j e) = aw m c (ix2 j ⟨0 + e.val, by omega⟩) := by
  have hN := lt_N t
  blk_simp [iblk]
  entry_read
  pointwise
  rw [aw]
  blk_ext [nt, row, idx t]

theorem ib6 (t : Fin cfg0.N) (j : Fin 1024) (e : Fin 512) : (show FVec Ideal S1024x512 .bf16 from iblk m c 6 t) (ix2 j e) = aw m c (ix2 j ⟨1824 + e.val, by omega⟩) := by
  have hN := lt_N t
  blk_simp [iblk]
  entry_read
  pointwise
  rw [aw]
  blk_ext [nt, row, idx t]

theorem ib7 (t : Fin cfg0.N) (j : Fin 1024) (e : Fin 128) : (show FVec Ideal S1024x128 .bf16 from iblk m c 7 t) (ix2 j e) = aw m c (ix2 j ⟨2336 + e.val, by omega⟩) := by
  have hN := lt_N t
  blk_simp [iblk]
  entry_read
  pointwise
  rw [aw]
  blk_ext [nt, row, idx t]

theorem ib8 (t : Fin cfg0.N) (j : Fin 1024) (e : Fin 128) : (show FVec Ideal S1024x128 .bf16 from iblk m c 8 t) (ix2 j e) = aw m c (ix2 j ⟨2464 + e.val, by omega⟩) := by
  have hN := lt_N t
  blk_simp [iblk]
  entry_read
  pointwise
  rw [aw]
  blk_ext [nt, row, idx t]

theorem ib9 (t : Fin cfg0.N) (j : Fin 1024) (e : Fin 256) : (show FVec Ideal S1024x256 .bf16 from iblk m c 9 t) (ix2 j e) = aw m c (ix2 j ⟨2592 + e.val, by omega⟩) := by
  have hN := lt_N t
  blk_simp [iblk]
  entry_read
  pointwise
  rw [aw]
  blk_ext [nt, row, idx t]

theorem ib10 (t : Fin cfg0.N) (j : Fin 1024) (e : Fin 256) : (show FVec Ideal S1024x256 .bf16 from iblk m c 10 t) (ix2 j e) = aw m c (ix2 j ⟨2848 + e.val, by omega⟩) := by
  have hN := lt_N t
  blk_simp [iblk]
  entry_read
  pointwise
  rw [aw]
  blk_ext [nt, row, idx t]

theorem ib12 (t : Fin cfg0.N) (j : Fin 1024) (e : Fin 3072) : (show FVec Ideal S1024x3072 .bf16 from iblk m c 12 t) (ix2 j e) = aw m c (ix2 j ⟨3136 + e.val, by omega⟩) := by
  have hN := lt_N t
  blk_simp [iblk]
  entry_read
  pointwise
  rw [aw]
  blk_ext [nt, row, idx t]

theorem pick (A : FVec Ideal S1024x6208 .f32) (u : Fin 1024) (v : Fin 64) (j : Fin 1024) (q : Fin 64) (k : Fin 6208) (e0 : u.val = j.val) (e1 : v.val = q.val)
    (hk : k.val = if q.val < 32 then 3104 + q.val else if q.val < 48 then 3104 + (16 + (q.val - 32)) else 3104 + (q.val - 32 - 16)) :
    (if h : v.val < 32 then A (ix2 u ⟨3104 + v.val, by omega⟩) else if h' : v.val - 32 < 16 then A (ix2 u ⟨3104 + (16 + (v.val - 32)), by omega⟩) else A (ix2 u ⟨3104 + (v.val - 32 - 16), by omega⟩)) = A (ix2 j k) := by
  have pt : ∀ w : Fin 6208, w.val = k.val → A (ix2 u w) = A (ix2 j k) := fun w hw => congrArg A (congr (congrArg ix2 (Fin.ext e0)) (Fin.ext hw))
  by_cases h1 : q.val < 32
  · rw [dif_pos (by omega)]
    rw [if_pos h1] at hk
    refine pt _ ?_
    dsimp only
    omega
  · rw [if_neg h1] at hk
    by_cases h2 : q.val < 48
    · rw [dif_neg (by omega), dif_pos (by omega)]
      rw [if_pos h2] at hk
      refine pt _ ?_
      dsimp only
      omega
    · rw [dif_neg (by omega), dif_neg (by omega)]
      rw [if_neg h2] at hk
      refine pt _ ?_
      dsimp only
      omega

theorem ib11 (t : Fin cfg0.N) (j : Fin 1024) (q : Fin 64) (k : Fin 6208) (hk : k.val = if q.val < 32 then 3104 + q.val else if q.val < 48 then 3104 + (16 + (q.val - 32)) else 3104 + (q.val - 32 - 16)) :
    (show FVec Ideal S1024x64 .bf16 from iblk m c 11 t) (ix2 j q) = aw m c (ix2 j k) := by
  have hN := lt_N t
  blk_simp [iblk]
  entry_read
  pointwise
  have e0 : (((View.whole main_v44).slice (win0_11.rect t)).emb (ix2 j q) 0).val = j.val := by blk_simp [idx t]
  have e1 : (((View.whole main_v44).slice (win0_11.rect t)).emb (ix2 j q) 1).val = q.val := by blk_simp [idx t]
  exact pick (aw m c) _ _ j q k e0 e1 hk

section

variable {F : FTy → Type} [FloatOps F]

/-- The operations up to the angles. -/
abbrev pre : List (HloOp τ sig (Elt F)) :=
  [StableHlo.unary main_arg2 main_v0 ((extractStridedSlice S1024x1824 ![0, 0] · slices_S1024x6208_S1024x1824_0_0) : (⟨S1024x6208, .f32⟩ : BufTy).Contents (Elt F) → (⟨S1024x1824, .f32⟩ : BufTy).Contents (Elt F)),
    StableHlo.unary main_arg2 main_v1 ((extractStridedSlice S1024x512 ![0, 1824] · slices_S1024x6208_S1024x512_0_1824) : (⟨S1024x6208, .f32⟩ : BufTy).Contents (Elt F) → (⟨S1024x512, .f32⟩ : BufTy).Contents (Elt F)),
    StableHlo.unary main_arg2 main_v2 ((extractStridedSlice S1024x128 ![0, 2336] · slices_S1024x6208_S1024x128_0_2336) : (⟨S1024x6208, .f32⟩ : BufTy).Contents (Elt F) → (⟨S1024x128, .f32⟩ : BufTy).Contents (Elt F)),
    StableHlo.unary main_arg2 main_v3 ((extractStridedSlice S1024x128 ![0, 2464] · slices_S1024x6208_S1024x128_0_2464) : (⟨S1024x6208, .f32⟩ : BufTy).Contents (Elt F) → (⟨S1024x128, .f32⟩ : BufTy).Contents (Elt F)),
    StableHlo.unary main_arg2 main_v4 ((extractStridedSlice S1024x256 ![0, 2592] · slices_S1024x6208_S1024x256_0_2592) : (⟨S1024x6208, .f32⟩ : BufTy).Contents (Elt F) → (⟨S1024x256, .f32⟩ : BufTy).Contents (Elt F)),
    StableHlo.unary main_arg2 main_v5 ((extractStridedSlice S1024x256 ![0, 2848] · slices_S1024x6208_S1024x256_0_2848) : (⟨S1024x6208, .f32⟩ : BufTy).Contents (Elt F) → (⟨S1024x256, .f32⟩ : BufTy).Contents (Elt F)),
    StableHlo.unary main_arg2 main_v6 ((extractStridedSlice S1024x32 ![0, 3104] · slices_S1024x6208_S1024x32_0_3104) : (⟨S1024x6208, .f32⟩ : BufTy).Contents (Elt F) → (⟨S1024x32, .f32⟩ : BufTy).Contents (Elt F)),
    StableHlo.unary main_arg2 main_v7 ((extractStridedSlice S1024x3072 ![0, 3136] · slices_S1024x6208_S1024x3072_0_3136) : (⟨S1024x6208, .f32⟩ : BufTy).Contents (Elt F) → (⟨S1024x3072, .f32⟩ : BufTy).Contents (Elt F)),
    StableHlo.unary main_v6 main_v8 ((extractStridedSlice S1024x16 ![0, 16] · slices_S1024x32_S1024x16_0_16) : (⟨S1024x32, .f32⟩ : BufTy).Contents (Elt F) → (⟨S1024x16, .f32⟩ : BufTy).Contents (Elt F)),
    StableHlo.unary main_v6 main_v9 ((extractStridedSlice S1024x16 ![0, 0] · slices_S1024x32_S1024x16_0_0) : (⟨S1024x32, .f32⟩ : BufTy).Contents (Elt F) → (⟨S1024x16, .f32⟩ : BufTy).Contents (Elt F)),
    StableHlo.binary main_v8 main_v9 main_v10 ((fun a b => concatenate S1024x32 1 [⟨S1024x16, a⟩, ⟨S1024x16, b⟩] concatenates_S1024x16_S1024x16_S1024x32_d1) : (⟨S1024x16, .f32⟩ : BufTy).Contents (Elt F) → (⟨S1024x16, .f32⟩ : BufTy).Contents (Elt F) → (⟨S1024x32, .f32⟩ : BufTy).Contents (Elt F)),
    StableHlo.binary main_v6 main_v10 main_v11 ((fun a b => concatenate S1024x64 1 [⟨S1024x32, a⟩, ⟨S1024x32, b⟩] concatenates_S1024x32_S1024x32_S1024x64_d1) : (⟨S1024x32, .f32⟩ : BufTy).Contents (Elt F) → (⟨S1024x32, .f32⟩ : BufTy).Contents (Elt F) → (⟨S1024x64, .f32⟩ : BufTy).Contents (Elt F)),
    StableHlo.nullary main_v12 (iotaInDim S8 32 0),
    StableHlo.nullary main_c (constantI S_ 32 8192#32),
    StableHlo.unary main_c main_v13 (broadcastInDim S8 ![] bcast_S_S8 : (⟨S_, .i32⟩ : BufTy).Contents (Elt F) → (⟨S8, .i32⟩ : BufTy).Contents (Elt F)),
    StableHlo.binary main_v13 main_v12 main_v14 (addi : (⟨S8, .i32⟩ : BufTy).Contents (Elt F) → (⟨S8, .i32⟩ : BufTy).Contents (Elt F) → (⟨S8, .i32⟩ : BufTy).Contents (Elt F)),
    StableHlo.nullary main_v15 (sitofp .f32 (iotaInDim S16 32 0)),
    StableHlo.nullary main_cst (constant S_ .f32 0xC1135D8E#32),
    StableHlo.unary main_cst main_v16 (broadcastInDim S16 ![] bcast_S_S16 : (⟨S_, .f32⟩ : BufTy).Contents (Elt F) → (⟨S16, .f32⟩ : BufTy).Contents (Elt F)),
    StableHlo.binary main_v16 main_v15 main_v17 (mulf : (⟨S16, .f32⟩ : BufTy).Contents (Elt F) → (⟨S16, .f32⟩ : BufTy).Contents (Elt F) → (⟨S16, .f32⟩ : BufTy).Contents (Elt F)),
    StableHlo.nullary main_cst_0 (constant S_ .f32 0x41800000#32),
    StableHlo.unary main_cst_0 main_v18 (broadcastInDim S16 ![] bcast_S_S16 : (⟨S_, .f32⟩ : BufTy).Contents (Elt F) → (⟨S16, .f32⟩ : BufTy).Contents (Elt F)),
    StableHlo.binary main_v17 main_v18 main_v19 (Host.divf : (⟨S16, .f32⟩ : BufTy).Contents (Elt F) → (⟨S16, .f32⟩ : BufTy).Contents (Elt F) → (⟨S16, .f32⟩ : BufTy).Contents (Elt F)),
    StableHlo.unary main_v19 main_v20 (Host.exp : (⟨S16, .f32⟩ : BufTy).Contents (Elt F) → (⟨S16, .f32⟩ : BufTy).Contents (Elt F)),
    StableHlo.unary main_v14 main_v21 (sitofp .f32 : (⟨S8, .i32⟩ : BufTy).Contents (Elt F) → (⟨S8, .f32⟩ : BufTy).Contents (Elt F)),
    StableHlo.unary main_v21 main_v22 (broadcastInDim S8x1 ![0] bcast_S8_S8x1_0 : (⟨S8, .f32⟩ : BufTy).Contents (Elt F) → (⟨S8x1, .f32⟩ : BufTy).Contents (Elt F)),
    StableHlo.unary main_v20 main_v23 (broadcastInDim S1x16 ![1] bcast_S16_S1x16_1 : (⟨S16, .f32⟩ : BufTy).Contents (Elt F) → (⟨S1x16, .f32⟩ : BufTy).Contents (Elt F)),
    StableHlo.unary main_v22 main_v24 (broadcastInDim S8x16 ![0, 1] bcast_S8x1_S8x16_0_1 : (⟨S8x1, .f32⟩ : BufTy).Contents (Elt F) → (⟨S8x16, .f32⟩ : BufTy).Contents (Elt F)),
    StableHlo.unary main_v23 main_v25 (broadcastInDim S8x16 ![0, 1] bcast_S1x16_S8x16_0_1 : (⟨S1x16, .f32⟩ : BufTy).Contents (Elt F) → (⟨S8x16, .f32⟩ : BufTy).Contents (Elt F)),
    StableHlo.binary main_v24 main_v25 main_v26 (mulf : (⟨S8x16, .f32⟩ : BufTy).Contents (Elt F) → (⟨S8x16, .f32⟩ : BufTy).Contents (Elt F) → (⟨S8x16, .f32⟩ : BufTy).Contents (Elt F))]

/-- The table's pieces. -/
abbrev mid : List (HloOp τ sig (Elt F)) :=
  [StableHlo.unary main_v26 main_v27 (Host.cos : (⟨S8x16, .f32⟩ : BufTy).Contents (Elt F) → (⟨S8x16, .f32⟩ : BufTy).Contents (Elt F)),
    StableHlo.unary main_v26 main_v28 (Host.sin : (⟨S8x16, .f32⟩ : BufTy).Contents (Elt F) → (⟨S8x16, .f32⟩ : BufTy).Contents (Elt F)),
    StableHlo.unary main_v28 main_v29 (Host.negf : (⟨S8x16, .f32⟩ : BufTy).Contents (Elt F) → (⟨S8x16, .f32⟩ : BufTy).Contents (Elt F))]

/-- The table's four pieces, side by side. -/
abbrev cat : List (HloOp τ sig (Elt F)) :=
  [StableHlo.nary ![main_v27, main_v27, main_v29, main_v28] main_v30 (fun u => (concatenate S8x64 1 [⟨S8x16, (u 0 : (⟨S8x16, .f32⟩ : BufTy).Contents (Elt F))⟩, ⟨S8x16, (u 1 : (⟨S8x16, .f32⟩ : BufTy).Contents (Elt F))⟩, ⟨S8x16, (u 2 : (⟨S8x16, .f32⟩ : BufTy).Contents (Elt F))⟩, ⟨S8x16, (u 3 : (⟨S8x16, .f32⟩ : BufTy).Contents (Elt F))⟩] concatenates_S8x16_S8x16_S8x16_S8x16_S8x64_d1 : (⟨S8x64, .f32⟩ : BufTy).Contents (Elt F)))]

/-- The rest. -/
abbrev post : List (HloOp τ sig (Elt F)) :=
  [StableHlo.reshape main_v30 main_v31 (rfl : (.f32 : EltTy) = .f32) shapeCasts_S8x64_S1x8x1x64,
    StableHlo.unary main_v31 main_v32 (broadcastInDim S128x8x1x64 ![0, 1, 2, 3] bcast_S1x8x1x64_S128x8x1x64_0_1_2_3 : (⟨S1x8x1x64, .f32⟩ : BufTy).Contents (Elt F) → (⟨S128x8x1x64, .f32⟩ : BufTy).Contents (Elt F)),
    StableHlo.reshape main_v32 main_v33 (rfl : (.f32 : EltTy) = .f32) shapeCasts_S128x8x1x64_S1024x64,
    StableHlo.reshape main_arg0 main_v34 (rfl : (.f32 : EltTy) = .f32) shapeCasts_S128x8x1024_S1024x1024,
    StableHlo.reshape main_arg1 main_v35 (rfl : (.f32 : EltTy) = .f32) shapeCasts_S1024_S1x1024,
    StableHlo.reshape main_arg3 main_v36 (rfl : (.f32 : EltTy) = .f32) shapeCasts_S256_S1x256,
    StableHlo.reshape main_arg4 main_v37 (rfl : (.f32 : EltTy) = .f32) shapeCasts_S256_S1x256,
    StableHlo.unary main_v0 main_v38 ((truncf .bf16 · bitsLt_bf16_f32) : (⟨S1024x1824, .f32⟩ : BufTy).Contents (Elt F) → (⟨S1024x1824, .bf16⟩ : BufTy).Contents (Elt F)),
    StableHlo.unary main_v1 main_v39 ((truncf .bf16 · bitsLt_bf16_f32) : (⟨S1024x512, .f32⟩ : BufTy).Contents (Elt F) → (⟨S1024x512, .bf16⟩ : BufTy).Contents (Elt F)),
    StableHlo.unary main_v2 main_v40 ((truncf .bf16 · bitsLt_bf16_f32) : (⟨S1024x128, .f32⟩ : BufTy).Contents (Elt F) → (⟨S1024x128, .bf16⟩ : BufTy).Contents (Elt F)),
    StableHlo.unary main_v3 main_v41 ((truncf .bf16 · bitsLt_bf16_f32) : (⟨S1024x128, .f32⟩ : BufTy).Contents (Elt F) → (⟨S1024x128, .bf16⟩ : BufTy).Contents (Elt F)),
    StableHlo.unary main_v4 main_v42 ((truncf .bf16 · bitsLt_bf16_f32) : (⟨S1024x256, .f32⟩ : BufTy).Contents (Elt F) → (⟨S1024x256, .bf16⟩ : BufTy).Contents (Elt F)),
    StableHlo.unary main_v5 main_v43 ((truncf .bf16 · bitsLt_bf16_f32) : (⟨S1024x256, .f32⟩ : BufTy).Contents (Elt F) → (⟨S1024x256, .bf16⟩ : BufTy).Contents (Elt F)),
    StableHlo.unary main_v11 main_v44 ((truncf .bf16 · bitsLt_bf16_f32) : (⟨S1024x64, .f32⟩ : BufTy).Contents (Elt F) → (⟨S1024x64, .bf16⟩ : BufTy).Contents (Elt F)),
    StableHlo.unary main_v7 main_v45 ((truncf .bf16 · bitsLt_bf16_f32) : (⟨S1024x3072, .f32⟩ : BufTy).Contents (Elt F) → (⟨S1024x3072, .bf16⟩ : BufTy).Contents (Elt F))]

end

theorem split : (hostOps0 : List (HloOp τ sig (Elt Ideal))) = pre ++ (mid ++ (cat ++ post)) := rfl

/-- The angles. -/
def angs : FVec Ideal S8x16 .f32 := (mulf (F := Ideal) (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))

theorem pre24 (s : Valuation τ sig (Elt Ideal)) : (show FVec Ideal S8x16 .f32 from StableHlo.after pre s main_v26) = angs := by
  rw [angs]
  entry_read
  rfl

theorem mid25 (s : Valuation τ sig (Elt Ideal)) : (show FVec Ideal S8x16 .f32 from StableHlo.after mid s main_v27) = Host.cos (show FVec Ideal S8x16 .f32 from s main_v26) := by
  entry_read
  rfl

theorem mid26 (s : Valuation τ sig (Elt Ideal)) : (show FVec Ideal S8x16 .f32 from StableHlo.after mid s main_v28) = Host.sin (show FVec Ideal S8x16 .f32 from s main_v26) := by
  entry_read
  rfl

theorem mid27 (s : Valuation τ sig (Elt Ideal)) : (show FVec Ideal S8x16 .f32 from StableHlo.after mid s main_v29) = Host.negf (Host.sin (show FVec Ideal S8x16 .f32 from s main_v26)) := by
  entry_read
  rfl

theorem cat28 (s : Valuation τ sig (Elt Ideal)) (A B D : FVec Ideal S8x16 .f32) (ha : (show FVec Ideal S8x16 .f32 from s main_v27) = A) (hb : (show FVec Ideal S8x16 .f32 from s main_v29) = B)
    (hd : (show FVec Ideal S8x16 .f32 from s main_v28) = D) : (show FVec Ideal S8x64 .f32 from StableHlo.after cat s main_v30) =
    concatenate S8x64 1 [⟨S8x16, A⟩, ⟨S8x16, A⟩, ⟨S8x16, B⟩, ⟨S8x16, D⟩] concatenates_S8x16_S8x16_S8x16_S8x16_S8x64_d1 := by
  subst ha hb hd
  simp only [StableHlo.after_cons, StableHlo.after_nil]
  rw [StableHlo.nary4_result]
  rfl

theorem post31 (s : Valuation τ sig (Elt Ideal)) (A : FVec Ideal S8x64 .f32) (h : (show FVec Ideal S8x64 .f32 from s main_v30) = A) : (show FVec Ideal S1024x64 .f32 from StableHlo.after post s main_v33) =
    shapeCast _ (broadcastInDim S128x8x1x64 ![0, 1, 2, 3] bcast_S1x8x1x64_S128x8x1x64_0_1_2_3 (shapeCast _ A shapeCasts_S8x64_S1x8x1x64)) shapeCasts_S128x8x1x64_S1024x64 := by
  subst h
  entry_read
  rfl

theorem v31 (m : (ℓ : Loc nD τ sig) → Buf (Elt Ideal) ℓ) (c : Dev nD) : V m c main_v33 = StableHlo.after post (StableHlo.after cat (StableHlo.after mid (StableHlo.after pre (fun b => m (c, b))))) main_v33 := by
  show StableHlo.after hostOps0 _ _ = _
  rw [split, StableHlo.after_append, StableHlo.after_append, StableHlo.after_append]

theorem angs_at (p : Fin 8) (k : Fin 16) : angs (ix2 p k) = ang p k := by
  rw [angs, ang]
  pointwise
  rfl

/-- The table as one term. -/
def tab (A : FVec Ideal S8x16 .f32) : FVec Ideal S1024x64 .f32 :=
  shapeCast _ (broadcastInDim S128x8x1x64 ![0, 1, 2, 3] bcast_S1x8x1x64_S128x8x1x64_0_1_2_3 (shapeCast _ (concatenate S8x64 1 [⟨S8x16, Host.cos A⟩, ⟨S8x16, Host.cos A⟩, ⟨S8x16, Host.negf (Host.sin A)⟩, ⟨S8x16, Host.sin A⟩] concatenates_S8x16_S8x16_S8x16_S8x16_S8x64_d1 : FVec Ideal S8x64 .f32) shapeCasts_S8x64_S1x8x1x64)) shapeCasts_S128x8x1x64_S1024x64

theorem rest (s : Valuation τ sig (Elt Ideal)) : (show FVec Ideal S1024x64 .f32 from StableHlo.after post (StableHlo.after cat (StableHlo.after mid s)) main_v33) = tab (show FVec Ideal S8x16 .f32 from s main_v26) := by
  rw [tab]
  exact post31 _ _ (cat28 _ _ _ _ (mid25 s) (mid27 s) (mid26 s))

theorem v31_eq (m : (ℓ : Loc nD τ sig) → Buf (Elt Ideal) ℓ) (c : Dev nD) : (show FVec Ideal S1024x64 .f32 from V m c main_v33) = tab angs := by
  have h1 := pre24 (fun b => m (c, b))
  have h2 := v31 m c
  generalize StableHlo.after pre (fun b => m (c, b)) = s at h1 h2
  exact h2.trans ((rest s).trans (congrArg tab h1))

theorem tab_at (A : FVec Ideal S8x16 .f32) (n : Fin 1024) (e : Fin 64) : tab A (ix2 n e) = if h : e.val < 16 then Ideal.cos (A (ix2 ⟨n.val % 8, by omega⟩ ⟨e.val, h⟩)) else if h' : e.val - 16 < 16 then Ideal.cos (A (ix2 ⟨n.val % 8, by omega⟩ ⟨e.val - 16, h'⟩))
    else if h'' : e.val - 16 - 16 < 16 then -Ideal.sin (A (ix2 ⟨n.val % 8, by omega⟩ ⟨e.val - 16 - 16, h''⟩)) else Ideal.sin (A (ix2 ⟨n.val % 8, by omega⟩ ⟨e.val - 16 - 16 - 16, by omega⟩)) := by
  rw [tab]
  pointwise

theorem ib2 (t : Fin cfg0.N) (r : Fin 256) (e : Fin 64) : (show FVec Ideal S256x64 .f32 from iblk m c 2 t) (ix2 r e) = tab angs (ix2 (nt t r) e) := by
  have hN := lt_N t
  blk_simp [iblk]
  refine (congrFun (v31_eq m c) _).trans ?_
  blk_ext [nt, idx t]

theorem tb0 (t : Fin cfg0.N) (r : Fin 256) (e : Fin 64) (h : e.val < 16) (k : Fin 16) (hk : k.val = e.val) : (show FVec Ideal S256x64 .f32 from iblk m c 2 t) (ix2 r e) = Ideal.cos (ang ⟨(nt t r).val % 8, by omega⟩ k) := by
  refine (ib2 m c t r e).trans ((tab_at _ _ _).trans ?_)
  rw [dif_pos h]
  exact congrArg Ideal.cos ((angs_at _ _).trans (congrArg (ang _) (Fin.ext hk.symm)))

theorem tb1 (t : Fin cfg0.N) (r : Fin 256) (e : Fin 64) (h : 16 ≤ e.val ∧ e.val < 32) (k : Fin 16) (hk : k.val = e.val - 16) : (show FVec Ideal S256x64 .f32 from iblk m c 2 t) (ix2 r e) = Ideal.cos (ang ⟨(nt t r).val % 8, by omega⟩ k) := by
  refine (ib2 m c t r e).trans ((tab_at _ _ _).trans ?_)
  rw [dif_neg (by omega), dif_pos (by omega)]
  exact congrArg Ideal.cos ((angs_at _ _).trans (congrArg (ang _) (Fin.ext hk.symm)))

theorem tb2 (t : Fin cfg0.N) (r : Fin 256) (e : Fin 64) (h : 32 ≤ e.val ∧ e.val < 48) (k : Fin 16) (hk : k.val = e.val - 16 - 16) : (show FVec Ideal S256x64 .f32 from iblk m c 2 t) (ix2 r e) = -Ideal.sin (ang ⟨(nt t r).val % 8, by omega⟩ k) := by
  refine (ib2 m c t r e).trans ((tab_at _ _ _).trans ?_)
  rw [dif_neg (by omega), dif_neg (by omega), dif_pos (by omega)]
  exact congrArg (fun a => -Ideal.sin a) ((angs_at _ _).trans (congrArg (ang _) (Fin.ext hk.symm)))

theorem tb3 (t : Fin cfg0.N) (r : Fin 256) (e : Fin 64) (h : 48 ≤ e.val) (k : Fin 16) (hk : k.val = e.val - 16 - 16 - 16) : (show FVec Ideal S256x64 .f32 from iblk m c 2 t) (ix2 r e) = Ideal.sin (ang ⟨(nt t r).val % 8, by omega⟩ k) := by
  refine (ib2 m c t r e).trans ((tab_at _ _ _).trans ?_)
  rw [dif_neg (by omega), dif_neg (by omega), dif_neg (by omega)]
  exact congrArg Ideal.sin ((angs_at _ _).trans (congrArg (ang _) (Fin.ext hk.symm)))

theorem pay3_at (x0 : FVec Ideal S256x1024 .f32) (x1 : FVec Ideal S1x1024 .f32) (r : Fin 256) (e : Fin 1024) :
    k0_pay3 (F := Ideal) x0 x1 (ix2 r e) = rms (fun k => x0 (ix2 r k)) (Ideal.ofBits .f32 0x44800000#32) (x1 (ix2 0 e)) e := by
  pointwise [k0_pay3]
  rfl

theorem pay4_at (x0 : FVec Ideal S256x1024 .f32) (x1 : FVec Ideal S1x1024 .f32) (w : FVec Ideal S1024x1824 .bf16) (r : Fin 256) (e : Fin 1824) :
    k0_pay4 (F := Ideal) x0 x1 w (ix2 r e) = ∑ j : Fin 1024, k0_pay3 (F := Ideal) x0 x1 (ix2 r j) * w (ix2 j e) := by
  pointwise [k0_pay4]

theorem pay5_at (x0 : FVec Ideal S256x1024 .f32) (x1 : FVec Ideal S1x1024 .f32) (w : FVec Ideal S1024x512 .bf16) (r : Fin 256) (e : Fin 512) :
    k0_pay5 (F := Ideal) x0 x1 w (ix2 r e) = ∑ j : Fin 1024, k0_pay3 (F := Ideal) x0 x1 (ix2 r j) * w (ix2 j e) := by
  pointwise [k0_pay5]

theorem pay6_at (x0 : FVec Ideal S256x1024 .f32) (x1 : FVec Ideal S1x1024 .f32) (w : FVec Ideal S1024x128 .bf16) (r : Fin 256) (e : Fin 128) :
    k0_pay6 (F := Ideal) x0 x1 w (ix2 r e) = ∑ j : Fin 1024, k0_pay3 (F := Ideal) x0 x1 (ix2 r j) * w (ix2 j e) := by
  pointwise [k0_pay6]

theorem pay8_at (h : FVec Ideal S256x1024 .bf16) (w : FVec Ideal S1024x128 .bf16) (r : Fin 256) (e : Fin 128) :
    k0_pay8 (F := Ideal) h (k0_pay7 w) (constant S256x128 .f32 0x00000000#32) (ix2 r e) = ∑ j : Fin 1024, h (ix2 r j) * w (ix2 j e) := by
  pointwise [k0_pay8, k0_pay7]

theorem pay9_at (h : FVec Ideal S256x1024 .bf16) (w : FVec Ideal S1024x3072 .bf16) (r : Fin 256) (e : Fin 3072) :
    k0_pay9 (F := Ideal) h w (ix2 r e) = ∑ j : Fin 1024, h (ix2 r j) * w (ix2 j e) := by
  pointwise [k0_pay9]

theorem pay10_at (h : FVec Ideal S256x1024 .bf16) (w : FVec Ideal S1024x256 .bf16) (g : FVec Ideal S1x256 .f32) (r : Fin 256) (e : Fin 256) :
    k0_pay10 (F := Ideal) h w g (ix2 r e) = rms (fun k => ∑ j : Fin 1024, h (ix2 r j) * w (ix2 j k)) (Ideal.ofBits .f32 0x43800000#32) (g (ix2 0 e)) e := by
  pointwise [k0_pay10]
  rfl

theorem pay11_at (h : FVec Ideal S256x1024 .bf16) (w : FVec Ideal S1024x256 .bf16) (g : FVec Ideal S1x256 .f32) (r : Fin 256) (e : Fin 256) :
    k0_pay1 (F := Ideal) (k0_pay11 h w) (k0_pay12 g) (k0_pay13 h w) (k0_pay14 (F := Ideal)) (ix2 r e)
      = rms (fun k => ∑ j : Fin 1024, h (ix2 r j) * w (ix2 j k)) (Ideal.ofBits .f32 0x43800000#32) (g (ix2 0 e)) e := by
  pointwise [k0_pay1, k0_pay11, k0_pay12, k0_pay13, k0_pay14]
  rfl

theorem pay2_at (h : FVec Ideal S256x1024 .bf16) (w : FVec Ideal S1024x64 .bf16) (v : FVec Ideal S256x64 .f32) (r : Fin 256) (e : Fin 32) :
    k0_pay2 (F := Ideal) h w v (ix2 r e) = (∑ j : Fin 1024, h (ix2 r j) * w (ix2 j ⟨e.val, by omega⟩)) * v (ix2 r ⟨e.val, by omega⟩)
      + (∑ j : Fin 1024, h (ix2 r j) * w (ix2 j ⟨32 + e.val, by omega⟩)) * v (ix2 r ⟨32 + e.val, by omega⟩) := by
  pointwise [k0_pay2]

theorem hd (t : Fin cfg0.N) (r : Fin 256) (j : Fin 1024) : k0_pay3 (F := Ideal) (iblk m c 0 t) (iblk m c 1 t) (ix2 r j) = hid (ax m c) (ag m c) (nt t r) j := by
  refine (pay3_at _ _ r j).trans ?_
  rw [hid]
  simp only [ib0, ib1]

theorem hb (t : Fin cfg0.N) (r : Fin 256) (j : Fin 1024) : (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) = hid (ax m c) (ag m c) (nt t r) j := by
  refine Eq.trans ?_ (hd m c t r j)
  rw [k0_pay15]
  pointwise [k0_pay3]

theorem ez {w : ℕ} (t : Fin cfg0.N) (z : (⟨2, ![1024, w]⟩ : Shape).Idx) (r : Fin 256) (e : Fin w) (e0 : (z 0).val = t.val * 256 + r.val) (e1 : (z 1).val = e.val) : z = ix2 (nt t r) e :=
  (eq_ix2 z).trans (congr (congrArg ix2 (Fin.ext e0)) (Fin.ext e1))

def out13 : FVec Ideal S1024x1824 .f32 := fun y => prj (ax m c) (ag m c) (aw m c) (y 0) (cl 0 (by decide) (y 1))

theorem out13_at (t : Fin cfg0.N) (r : Fin 256) (e : Fin 1824) : k0_pay4 (F := Ideal) (iblk m c 0 t) (iblk m c 1 t) (iblk m c 5 t) (ix2 r e) = prj (ax m c) (ag m c) (aw m c) (nt t r) (cl 0 (by decide) e) := by
  refine (pay4_at _ _ _ r e).trans ?_
  exact Finset.sum_congr rfl fun j _ => congr (congrArg HMul.hMul (hd m c t r j)) (ib5 m c t j e)

def out14 : FVec Ideal S1024x512 .f32 := fun y => prj (ax m c) (ag m c) (aw m c) (y 0) (cl 1824 (by decide) (y 1))

theorem out14_at (t : Fin cfg0.N) (r : Fin 256) (e : Fin 512) : k0_pay5 (F := Ideal) (iblk m c 0 t) (iblk m c 1 t) (iblk m c 6 t) (ix2 r e) = prj (ax m c) (ag m c) (aw m c) (nt t r) (cl 1824 (by decide) e) := by
  refine (pay5_at _ _ _ r e).trans ?_
  exact Finset.sum_congr rfl fun j _ => congr (congrArg HMul.hMul (hd m c t r j)) (ib6 m c t j e)

def out15 : FVec Ideal S1024x128 .f32 := fun y => prj (ax m c) (ag m c) (aw m c) (y 0) (cl 2336 (by decide) (y 1))

theorem out15_at (t : Fin cfg0.N) (r : Fin 256) (e : Fin 128) : k0_pay6 (F := Ideal) (iblk m c 0 t) (iblk m c 1 t) (iblk m c 7 t) (ix2 r e) = prj (ax m c) (ag m c) (aw m c) (nt t r) (cl 2336 (by decide) e) := by
  refine (pay6_at _ _ _ r e).trans ?_
  exact Finset.sum_congr rfl fun j _ => congr (congrArg HMul.hMul (hd m c t r j)) (ib7 m c t j e)

def out16 : FVec Ideal S1024x128 .f32 := fun y => prj (ax m c) (ag m c) (aw m c) (y 0) (cl 2464 (by decide) (y 1))

theorem out16_at (t : Fin cfg0.N) (r : Fin 256) (e : Fin 128) : k0_pay8 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay7 (iblk m c 8 t)) (constant S256x128 .f32 0x00000000#32) (ix2 r e) = prj (ax m c) (ag m c) (aw m c) (nt t r) (cl 2464 (by decide) e) := by
  refine (pay8_at _ _ r e).trans ?_
  exact Finset.sum_congr rfl fun j _ => congr (congrArg HMul.hMul (hb m c t r j)) (ib8 m c t j e)

def out20 : FVec Ideal S1024x3072 .f32 := fun y => prj (ax m c) (ag m c) (aw m c) (y 0) (cl 3136 (by decide) (y 1))

theorem out20_at (t : Fin cfg0.N) (r : Fin 256) (e : Fin 3072) : k0_pay9 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 12 t) (ix2 r e) = prj (ax m c) (ag m c) (aw m c) (nt t r) (cl 3136 (by decide) e) := by
  refine (pay9_at _ _ r e).trans ?_
  exact Finset.sum_congr rfl fun j _ => congr (congrArg HMul.hMul (hb m c t r j)) (ib12 m c t j e)

def out17 : FVec Ideal S1024x256 .f32 := fun y => ltn (ax m c) (ag m c) (aw m c) (y 0) 2592 (by decide) (aq m c) (y 1)

theorem out17_at (t : Fin cfg0.N) (r : Fin 256) (e : Fin 256) : k0_pay10 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 3 t) (ix2 r e) = ltn (ax m c) (ag m c) (aw m c) (nt t r) 2592 (by decide) (aq m c) e := by
  refine (pay10_at _ _ _ r e).trans ?_
  have hs : ∀ k : Fin 256, (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x256 .bf16 from iblk m c 9 t) (ix2 j k)) = prj (ax m c) (ag m c) (aw m c) (nt t r) (cl 2592 (by decide) k) := fun k =>
    Finset.sum_congr rfl fun j _ => congr (congrArg HMul.hMul (hb m c t r j)) (ib9 m c t j k)
  exact congrArg₂ (fun (f : Fin 256 → EReal) (g : EReal) => rms f (Ideal.ofBits .f32 0x43800000#32) g e) (funext hs) (ib3 m c t e)

def out18 : FVec Ideal S1024x256 .f32 := fun y => ltn (ax m c) (ag m c) (aw m c) (y 0) 2848 (by decide) (ak m c) (y 1)

theorem out18_at (t : Fin cfg0.N) (r : Fin 256) (e : Fin 256) : k0_pay1 (F := Ideal) (k0_pay11 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay12 (iblk m c 4 t)) (k0_pay13 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay14 (F := Ideal)) (ix2 r e) = ltn (ax m c) (ag m c) (aw m c) (nt t r) 2848 (by decide) (ak m c) e := by
  refine (pay11_at _ _ _ r e).trans ?_
  have hs : ∀ k : Fin 256, (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x256 .bf16 from iblk m c 10 t) (ix2 j k)) = prj (ax m c) (ag m c) (aw m c) (nt t r) (cl 2848 (by decide) k) := fun k =>
    Finset.sum_congr rfl fun j _ => congr (congrArg HMul.hMul (hb m c t r j)) (ib10 m c t j k)
  exact congrArg₂ (fun (f : Fin 256 → EReal) (g : EReal) => rms f (Ideal.ofBits .f32 0x43800000#32) g e) (funext hs) (ib4 m c t e)

def out19 : FVec Ideal S1024x32 .f32 := fun y => rop (ax m c) (ag m c) (aw m c) (y 0) (y 1)

theorem sum11 (t : Fin cfg0.N) (r : Fin 256) (q : Fin 64) (k : Fin 6208) (hk : k.val = if q.val < 32 then 3104 + q.val else if q.val < 48 then 3104 + (16 + (q.val - 32)) else 3104 + (q.val - 32 - 16)) :
    (∑ j : Fin 1024, (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j) * (show FVec Ideal S1024x64 .bf16 from iblk m c 11 t) (ix2 j q)) = prj (ax m c) (ag m c) (aw m c) (nt t r) k :=
  Finset.sum_congr rfl fun j _ => congr (congrArg HMul.hMul (hb m c t r j)) (ib11 m c t j q k hk)

theorem out19_at (t : Fin cfg0.N) (r : Fin 256) (e : Fin 32) : k0_pay2 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t) (iblk m c 2 t) (ix2 r e) = rop (ax m c) (ag m c) (aw m c) (nt t r) e := by
  refine (pay2_at _ _ _ r e).trans ?_
  rw [rop]
  by_cases h : e.val < 16
  · rw [dif_pos h, sub_eq_add_neg, ← mul_neg]
    refine congr (congrArg HAdd.hAdd (congr (congrArg HMul.hMul (sum11 m c t r _ _ ?_)) (tb0 m c t r _ ?_ _ ?_))) (congr (congrArg HMul.hMul (sum11 m c t r _ _ ?_)) (tb2 m c t r _ ?_ _ ?_))
    · rw [if_pos (show e.val < 32 by omega)]; rfl
    · exact h
    · rfl
    · rw [if_neg (show ¬ 32 + e.val < 32 by omega), if_pos (show 32 + e.val < 48 by omega)]
      show 3104 + (16 + e.val) = 3104 + (16 + (32 + e.val - 32))
      omega
    · show 32 ≤ 32 + e.val ∧ 32 + e.val < 48
      omega
    · show e.val = 32 + e.val - 16 - 16
      omega
  · rw [dif_neg h]
    refine congr (congrArg HAdd.hAdd (congr (congrArg HMul.hMul (sum11 m c t r _ _ ?_)) (tb1 m c t r _ ?_ _ ?_))) (congr (congrArg HMul.hMul (sum11 m c t r _ _ ?_)) (tb3 m c t r _ ?_ _ ?_))
    · rw [if_pos (show e.val < 32 by omega)]
      show 3104 + (16 + (e.val - 16)) = 3104 + e.val
      omega
    · show 16 ≤ e.val ∧ e.val < 32
      omega
    · rfl
    · rw [if_neg (show ¬ 32 + e.val < 32 by omega), if_neg (show ¬ 32 + e.val < 48 by omega)]
      show 3104 + (e.val - 16) = 3104 + (32 + e.val - 32 - 16)
      omega
    · show 48 ≤ 32 + e.val
      omega
    · show e.val - 16 = 32 + e.val - 16 - 16 - 16
      omega

theorem final13 : (dats m 0 c).arrAt 13 (cfgs 0).N = out13 m c := by
  refine (dats m 0 c).arrAt_eq_of_covers 13 (out13 m c) (by decide +kernel) fun t hf y => ?_
  have e0 : ((win0_13.blk t).view.emb y 0).val = t.val * 256 + (y 0).val := by blk_simp [idx t]
  have e1 : ((win0_13.blk t).view.emb y 1).val = (y 1).val := by blk_simp [idx t]
  have hy : (show S256x1824.Idx from y) = ix2 (y 0) (y 1) := eq_ix2 _
  blk_simp
  rw [after0_13]
  generalize (win0_13.blk t).view.emb y = z at *
  frame_out
  exact (congrArg (k0_pay4 (F := Ideal) (iblk m c 0 t) (iblk m c 1 t) (iblk m c 5 t)) hy).trans ((out13_at m c t (y 0) (y 1)).trans (congrArg (out13 m c) (ez t z (y 0) (y 1) e0 e1)).symm)

theorem final14 : (dats m 0 c).arrAt 14 (cfgs 0).N = out14 m c := by
  refine (dats m 0 c).arrAt_eq_of_covers 14 (out14 m c) (by decide +kernel) fun t hf y => ?_
  have e0 : ((win0_14.blk t).view.emb y 0).val = t.val * 256 + (y 0).val := by blk_simp [idx t]
  have e1 : ((win0_14.blk t).view.emb y 1).val = (y 1).val := by blk_simp [idx t]
  have hy : (show S256x512.Idx from y) = ix2 (y 0) (y 1) := eq_ix2 _
  blk_simp
  rw [after0_14]
  generalize (win0_14.blk t).view.emb y = z at *
  frame_out
  exact (congrArg (k0_pay5 (F := Ideal) (iblk m c 0 t) (iblk m c 1 t) (iblk m c 6 t)) hy).trans ((out14_at m c t (y 0) (y 1)).trans (congrArg (out14 m c) (ez t z (y 0) (y 1) e0 e1)).symm)

theorem final15 : (dats m 0 c).arrAt 15 (cfgs 0).N = out15 m c := by
  refine (dats m 0 c).arrAt_eq_of_covers 15 (out15 m c) (by decide +kernel) fun t hf y => ?_
  have e0 : ((win0_15.blk t).view.emb y 0).val = t.val * 256 + (y 0).val := by blk_simp [idx t]
  have e1 : ((win0_15.blk t).view.emb y 1).val = (y 1).val := by blk_simp [idx t]
  have hy : (show S256x128.Idx from y) = ix2 (y 0) (y 1) := eq_ix2 _
  blk_simp
  rw [after0_15]
  generalize (win0_15.blk t).view.emb y = z at *
  frame_out
  exact (congrArg (k0_pay6 (F := Ideal) (iblk m c 0 t) (iblk m c 1 t) (iblk m c 7 t)) hy).trans ((out15_at m c t (y 0) (y 1)).trans (congrArg (out15 m c) (ez t z (y 0) (y 1) e0 e1)).symm)

theorem final16 : (dats m 0 c).arrAt 16 (cfgs 0).N = out16 m c := by
  refine (dats m 0 c).arrAt_eq_of_covers 16 (out16 m c) (by decide +kernel) fun t hf y => ?_
  have e0 : ((win0_16.blk t).view.emb y 0).val = t.val * 256 + (y 0).val := by blk_simp [idx t]
  have e1 : ((win0_16.blk t).view.emb y 1).val = (y 1).val := by blk_simp [idx t]
  have hy : (show S256x128.Idx from y) = ix2 (y 0) (y 1) := eq_ix2 _
  blk_simp
  rw [after0_16]
  generalize (win0_16.blk t).view.emb y = z at *
  frame_out
  exact (congrArg (k0_pay8 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay7 (iblk m c 8 t)) (constant S256x128 .f32 0x00000000#32)) hy).trans ((out16_at m c t (y 0) (y 1)).trans (congrArg (out16 m c) (ez t z (y 0) (y 1) e0 e1)).symm)

theorem final17 : (dats m 0 c).arrAt 17 (cfgs 0).N = out17 m c := by
  refine (dats m 0 c).arrAt_eq_of_covers 17 (out17 m c) (by decide +kernel) fun t hf y => ?_
  have e0 : ((win0_17.blk t).view.emb y 0).val = t.val * 256 + (y 0).val := by blk_simp [idx t]
  have e1 : ((win0_17.blk t).view.emb y 1).val = (y 1).val := by blk_simp [idx t]
  have hy : (show S256x256.Idx from y) = ix2 (y 0) (y 1) := eq_ix2 _
  blk_simp
  rw [after0_17]
  generalize (win0_17.blk t).view.emb y = z at *
  frame_out
  exact (congrArg (k0_pay10 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 3 t)) hy).trans ((out17_at m c t (y 0) (y 1)).trans (congrArg (out17 m c) (ez t z (y 0) (y 1) e0 e1)).symm)

theorem final18 : (dats m 0 c).arrAt 18 (cfgs 0).N = out18 m c := by
  refine (dats m 0 c).arrAt_eq_of_covers 18 (out18 m c) (by decide +kernel) fun t hf y => ?_
  have e0 : ((win0_18.blk t).view.emb y 0).val = t.val * 256 + (y 0).val := by blk_simp [idx t]
  have e1 : ((win0_18.blk t).view.emb y 1).val = (y 1).val := by blk_simp [idx t]
  have hy : (show S256x256.Idx from y) = ix2 (y 0) (y 1) := eq_ix2 _
  blk_simp
  rw [after0_18]
  generalize (win0_18.blk t).view.emb y = z at *
  frame_out
  exact (congrArg (k0_pay1 (F := Ideal) (k0_pay11 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay12 (iblk m c 4 t)) (k0_pay13 (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t)) (k0_pay14 (F := Ideal))) hy).trans ((out18_at m c t (y 0) (y 1)).trans (congrArg (out18 m c) (ez t z (y 0) (y 1) e0 e1)).symm)

theorem final19 : (dats m 0 c).arrAt 19 (cfgs 0).N = out19 m c := by
  refine (dats m 0 c).arrAt_eq_of_covers 19 (out19 m c) (by decide +kernel) fun t hf y => ?_
  have e0 : ((win0_19.blk t).view.emb y 0).val = t.val * 256 + (y 0).val := by blk_simp [idx t]
  have e1 : ((win0_19.blk t).view.emb y 1).val = (y 1).val := by blk_simp [idx t]
  have hy : (show S256x32.Idx from y) = ix2 (y 0) (y 1) := eq_ix2 _
  blk_simp
  rw [after0_19]
  generalize (win0_19.blk t).view.emb y = z at *
  frame_out
  exact (congrArg (k0_pay2 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t) (iblk m c 2 t)) hy).trans ((out19_at m c t (y 0) (y 1)).trans (congrArg (out19 m c) (ez t z (y 0) (y 1) e0 e1)).symm)

theorem final20 : (dats m 0 c).arrAt 20 (cfgs 0).N = out20 m c := by
  refine (dats m 0 c).arrAt_eq_of_covers 20 (out20 m c) (by decide +kernel) fun t hf y => ?_
  have e0 : ((win0_20.blk t).view.emb y 0).val = t.val * 256 + (y 0).val := by blk_simp [idx t]
  have e1 : ((win0_20.blk t).view.emb y 1).val = (y 1).val := by blk_simp [idx t]
  have hy : (show S256x3072.Idx from y) = ix2 (y 0) (y 1) := eq_ix2 _
  blk_simp
  rw [after0_20]
  generalize (win0_20.blk t).view.emb y = z at *
  frame_out
  exact (congrArg (k0_pay9 (F := Ideal) (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 12 t)) hy).trans ((out20_at m c t (y 0) (y 1)).trans (congrArg (out20 m c) (ez t z (y 0) (y 1) e0 e1)).symm)

end Cert.Kernel8Ideal.Val

namespace Cert.Reference8Ideal.Val

open Idealize.ShloMosaic Idealize.ShloMosaic.TcCoe Idealize.SL.Sem Cert.Reference8Ideal Cert.Reference8Ideal.Gen
open Cert.Rms (rms)
open Cert.Smp Cert.Spj

/-- All the projections of the normalised rows. -/
def proj (X : FVec Ideal S128x8x1024 .f32) (G : FVec Ideal S1024 .f32) (W : FVec Ideal S1024x6208 .f32) : FVec Ideal S128x8x6208 .f32 :=
  (Host.dotGeneral dot_S128x8x1024_S1024x6208_S128x8x6208_2_0_01_1_n_n none (mulf (mulf X (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf X X) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 G))) W)

theorem proj_at (X : FVec Ideal S128x8x1024 .f32) (G : FVec Ideal S1024 .f32) (W : FVec Ideal S1024x6208 .f32) (n : Fin 1024) (k : Fin 6208) :
    proj X G W (row n.val n.isLt k) = prj X G W n k := by
  rw [proj, row]
  pointwise
  rfl

theorem r78 (Q : FVec Ideal S128x8x6208 .f32) (n : Fin 1024) (e : Fin 1824) : (shapeCast _ (extractStridedSlice S128x8x1824 ![0, 0, 0] Q slices_S128x8x6208_S128x8x1824_0_0_0) shapeCasts_S128x8x1824_S1024x1824 : FVec Ideal S1024x1824 .f32) (ix2 n e) = Q (row n.val n.isLt ⟨0 + e.val, by omega⟩) := by
  pointwise [row]

theorem r79 (Q : FVec Ideal S128x8x6208 .f32) (n : Fin 1024) (e : Fin 512) : (shapeCast _ (extractStridedSlice S128x8x512 ![0, 0, 1824] Q slices_S128x8x6208_S128x8x512_0_0_1824) shapeCasts_S128x8x512_S1024x512 : FVec Ideal S1024x512 .f32) (ix2 n e) = Q (row n.val n.isLt ⟨1824 + e.val, by omega⟩) := by
  pointwise [row]

theorem r80 (Q : FVec Ideal S128x8x6208 .f32) (n : Fin 1024) (e : Fin 128) : (shapeCast _ (extractStridedSlice S128x8x128 ![0, 0, 2336] Q slices_S128x8x6208_S128x8x128_0_0_2336) shapeCasts_S128x8x128_S1024x128 : FVec Ideal S1024x128 .f32) (ix2 n e) = Q (row n.val n.isLt ⟨2336 + e.val, by omega⟩) := by
  pointwise [row]

theorem r81 (Q : FVec Ideal S128x8x6208 .f32) (n : Fin 1024) (e : Fin 128) : (shapeCast _ (extractStridedSlice S128x8x128 ![0, 0, 2464] Q slices_S128x8x6208_S128x8x128_0_0_2464) shapeCasts_S128x8x128_S1024x128 : FVec Ideal S1024x128 .f32) (ix2 n e) = Q (row n.val n.isLt ⟨2464 + e.val, by omega⟩) := by
  pointwise [row]

theorem r85 (Q : FVec Ideal S128x8x6208 .f32) (n : Fin 1024) (e : Fin 3072) : (shapeCast _ (extractStridedSlice S128x8x3072 ![0, 0, 3136] Q slices_S128x8x6208_S128x8x3072_0_0_3136) shapeCasts_S128x8x3072_S1024x3072 : FVec Ideal S1024x3072 .f32) (ix2 n e) = Q (row n.val n.isLt ⟨3136 + e.val, by omega⟩) := by
  pointwise [row]

theorem r82 (Q : FVec Ideal S128x8x6208 .f32) (Gq : FVec Ideal S256 .f32) (n : Fin 1024) (e : Fin 256) : (shapeCast _ (mulf (mulf (extractStridedSlice S128x8x256 ![0, 0, 2592] Q slices_S128x8x6208_S128x8x256_0_0_2592) (broadcastInDim S128x8x256 ![0, 1, 2] bcast_S128x8x1_S128x8x256_0_1_2 (Host.rsqrt (addf (Host.divf (broadcastInDim S128x8x1 ![0, 1] bcast_S128x8_S128x8x1_0_1 (Host.reduceAdd (mulf (extractStridedSlice S128x8x256 ![0, 0, 2592] Q slices_S128x8x6208_S128x8x256_0_0_2592) (extractStridedSlice S128x8x256 ![0, 0, 2592] Q slices_S128x8x6208_S128x8x256_0_0_2592)) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 Gq))) shapeCasts_S128x8x256_S1024x256 : FVec Ideal S1024x256 .f32) (ix2 n e)
    = rms (fun k : Fin 256 => Q (row n.val n.isLt ⟨2592 + k.val, by omega⟩)) (Ideal.ofBits .f32 0x43800000#32) (Gq (ix1 e)) e := by
  pointwise
  rfl

theorem r83 (Q : FVec Ideal S128x8x6208 .f32) (Gk : FVec Ideal S256 .f32) (n : Fin 1024) (e : Fin 256) : (shapeCast _ (mulf (mulf (extractStridedSlice S128x8x256 ![0, 0, 2848] Q slices_S128x8x6208_S128x8x256_0_0_2848) (broadcastInDim S128x8x256 ![0, 1, 2] bcast_S128x8x1_S128x8x256_0_1_2 (Host.rsqrt (addf (Host.divf (broadcastInDim S128x8x1 ![0, 1] bcast_S128x8_S128x8x1_0_1 (Host.reduceAdd (mulf (extractStridedSlice S128x8x256 ![0, 0, 2848] Q slices_S128x8x6208_S128x8x256_0_0_2848) (extractStridedSlice S128x8x256 ![0, 0, 2848] Q slices_S128x8x6208_S128x8x256_0_0_2848)) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 Gk))) shapeCasts_S128x8x256_S1024x256 : FVec Ideal S1024x256 .f32) (ix2 n e)
    = rms (fun k : Fin 256 => Q (row n.val n.isLt ⟨2848 + k.val, by omega⟩)) (Ideal.ofBits .f32 0x43800000#32) (Gk (ix1 e)) e := by
  pointwise
  rfl

theorem cs_at (p : Fin 8) (k : Fin 16) : ((Host.cos (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) : FVec Ideal S8x16 .f32) (ix2 p k) = Ideal.cos (ang p k) := by
  pointwise
  rfl

theorem sn_at (p : Fin 8) (k : Fin 16) : ((Host.sin (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) : FVec Ideal S8x16 .f32) (ix2 p k) = Ideal.sin (ang p k) := by
  pointwise
  rfl

theorem r84 (Q : FVec Ideal S128x8x6208 .f32) (Cs Sn : FVec Ideal S8x16 .f32) (n : Fin 1024) (e : Fin 32) :
    (shapeCast _ (concatenate S128x8x32 2 [⟨S128x8x16, (subf (mulf (extractStridedSlice S128x8x16 ![0, 0, 0] (extractStridedSlice S128x8x32 ![0, 0, 3104] Q slices_S128x8x6208_S128x8x32_0_0_3104) slices_S128x8x32_S128x8x16_0_0_0) (broadcastInDim S128x8x16 ![0, 1, 2] bcast_S1x8x16_S128x8x16_0_1_2 (shapeCast _ Cs shapeCasts_S8x16_S1x8x16))) (mulf (extractStridedSlice S128x8x16 ![0, 0, 16] (extractStridedSlice S128x8x32 ![0, 0, 3104] Q slices_S128x8x6208_S128x8x32_0_0_3104) slices_S128x8x32_S128x8x16_0_0_16) (broadcastInDim S128x8x16 ![0, 1, 2] bcast_S1x8x16_S128x8x16_0_1_2 (shapeCast _ Sn shapeCasts_S8x16_S1x8x16))))⟩, ⟨S128x8x16, (addf (mulf (extractStridedSlice S128x8x16 ![0, 0, 16] (extractStridedSlice S128x8x32 ![0, 0, 3104] Q slices_S128x8x6208_S128x8x32_0_0_3104) slices_S128x8x32_S128x8x16_0_0_16) (broadcastInDim S128x8x16 ![0, 1, 2] bcast_S1x8x16_S128x8x16_0_1_2 (shapeCast _ Cs shapeCasts_S8x16_S1x8x16))) (mulf (extractStridedSlice S128x8x16 ![0, 0, 0] (extractStridedSlice S128x8x32 ![0, 0, 3104] Q slices_S128x8x6208_S128x8x32_0_0_3104) slices_S128x8x32_S128x8x16_0_0_0) (broadcastInDim S128x8x16 ![0, 1, 2] bcast_S1x8x16_S128x8x16_0_1_2 (shapeCast _ Sn shapeCasts_S8x16_S1x8x16))))⟩] concatenates_S128x8x16_S128x8x16_S128x8x32_d2) shapeCasts_S128x8x32_S1024x32 : FVec Ideal S1024x32 .f32) (ix2 n e) = if h : e.val < 16 then Q (row n.val n.isLt (cl 3104 (by decide) (⟨e.val, by omega⟩ : Fin 32))) * Cs (ix2 ⟨n.val % 8, by omega⟩ ⟨e.val, h⟩) - Q (row n.val n.isLt (cl 3104 (by decide) (⟨16 + e.val, by omega⟩ : Fin 32))) * Sn (ix2 ⟨n.val % 8, by omega⟩ ⟨e.val, h⟩)
      else Q (row n.val n.isLt (cl 3104 (by decide) (⟨16 + (e.val - 16), by omega⟩ : Fin 32))) * Cs (ix2 ⟨n.val % 8, by omega⟩ ⟨e.val - 16, by omega⟩) + Q (row n.val n.isLt (cl 3104 (by decide) (⟨e.val - 16, by omega⟩ : Fin 32))) * Sn (ix2 ⟨n.val % 8, by omega⟩ ⟨e.val - 16, by omega⟩) := by
  pointwise
  rfl

theorem rope_at (X : FVec Ideal S128x8x1024 .f32) (G : FVec Ideal S1024 .f32) (W : FVec Ideal S1024x6208 .f32) (n : Fin 1024) (e : Fin 32) :
    (shapeCast _ (concatenate S128x8x32 2 [⟨S128x8x16, (subf (mulf (extractStridedSlice S128x8x16 ![0, 0, 0] (extractStridedSlice S128x8x32 ![0, 0, 3104] (proj X G W) slices_S128x8x6208_S128x8x32_0_0_3104) slices_S128x8x32_S128x8x16_0_0_0) (broadcastInDim S128x8x16 ![0, 1, 2] bcast_S1x8x16_S128x8x16_0_1_2 (shapeCast _ (Host.cos (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S8x16_S1x8x16))) (mulf (extractStridedSlice S128x8x16 ![0, 0, 16] (extractStridedSlice S128x8x32 ![0, 0, 3104] (proj X G W) slices_S128x8x6208_S128x8x32_0_0_3104) slices_S128x8x32_S128x8x16_0_0_16) (broadcastInDim S128x8x16 ![0, 1, 2] bcast_S1x8x16_S128x8x16_0_1_2 (shapeCast _ (Host.sin (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S8x16_S1x8x16))))⟩, ⟨S128x8x16, (addf (mulf (extractStridedSlice S128x8x16 ![0, 0, 16] (extractStridedSlice S128x8x32 ![0, 0, 3104] (proj X G W) slices_S128x8x6208_S128x8x32_0_0_3104) slices_S128x8x32_S128x8x16_0_0_16) (broadcastInDim S128x8x16 ![0, 1, 2] bcast_S1x8x16_S128x8x16_0_1_2 (shapeCast _ (Host.cos (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S8x16_S1x8x16))) (mulf (extractStridedSlice S128x8x16 ![0, 0, 0] (extractStridedSlice S128x8x32 ![0, 0, 3104] (proj X G W) slices_S128x8x6208_S128x8x32_0_0_3104) slices_S128x8x32_S128x8x16_0_0_0) (broadcastInDim S128x8x16 ![0, 1, 2] bcast_S1x8x16_S128x8x16_0_1_2 (shapeCast _ (Host.sin (mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S8x16_S1x8x16))))⟩] concatenates_S128x8x16_S128x8x16_S128x8x32_d2) shapeCasts_S128x8x32_S1024x32 : FVec Ideal S1024x32 .f32) (ix2 n e) = rop X G W n e := by
  refine (r84 (proj X G W) _ _ n e).trans ?_
  rw [rop]
  by_cases h : e.val < 16
  · rw [dif_pos h, dif_pos h]
    exact congr (congrArg HSub.hSub (congr (congrArg HMul.hMul (proj_at X G W n _)) (cs_at _ _))) (congr (congrArg HMul.hMul (proj_at X G W n _)) (sn_at _ _))
  · rw [dif_neg h, dif_neg h]
    exact congr (congrArg HAdd.hAdd (congr (congrArg HMul.hMul (proj_at X G W n _)) (cs_at _ _))) (congr (congrArg HMul.hMul (proj_at X G W n _)) (sn_at _ _))

theorem lat_at (X : FVec Ideal S128x8x1024 .f32) (G : FVec Ideal S1024 .f32) (W : FVec Ideal S1024x6208 .f32) (g : FVec Ideal S256 .f32) (off : ℕ) (h : off + 256 ≤ 6208) (n : Fin 1024) (e : Fin 256) :
    rms (fun k : Fin 256 => proj X G W (row n.val n.isLt (cl off h k))) (Ideal.ofBits .f32 0x43800000#32) (g (ix1 e)) e = ltn X G W n off h g e :=
  congrArg (fun f : Fin 256 → EReal => rms f (Ideal.ofBits .f32 0x43800000#32) (g (ix1 e)) e) (funext fun k => proj_at X G W n _)

theorem res84_at (m : (ℓ : Loc nD τ sig) → Buf (Elt Ideal) ℓ) (c : Dev nD) (n : Fin 1024) (e : Fin 32) :
    (show FVec Ideal S1024x32 .f32 from Value.res_main_v86 m c) (ix2 n e) = rop (m ((c : Thread nD τ).loc main_arg0)) (m ((c : Thread nD τ).loc main_arg1)) (m ((c : Thread nD τ).loc main_arg2)) n e := by
  rw [Value.res_main_v86]
  exact rope_at _ _ _ n e

theorem alg : Cert.algebraic_Kernel8Ideal_Reference8Ideal := by
  intro m g m' g' _ hagree
  refine ⟨fun c => Cert.Kernel8Ideal.Val.out13 m c, fun c => Cert.Kernel8Ideal.Val.out14 m c, fun c => Cert.Kernel8Ideal.Val.out15 m c, fun c => Cert.Kernel8Ideal.Val.out16 m c, fun c => Cert.Kernel8Ideal.Val.out17 m c, fun c => Cert.Kernel8Ideal.Val.out18 m c, fun c => Cert.Kernel8Ideal.Val.out19 m c, fun c => Cert.Kernel8Ideal.Val.out20 m c, ?_, ?_⟩
  · exact (θ_run _ _ _).mono (fun r h c => ⟨((h c).1).trans (Cert.Kernel8Ideal.Val.final13 m c), ((h c).2.1).trans (Cert.Kernel8Ideal.Val.final14 m c), ((h c).2.2.1).trans (Cert.Kernel8Ideal.Val.final15 m c), ((h c).2.2.2.1).trans (Cert.Kernel8Ideal.Val.final16 m c), ((h c).2.2.2.2.1).trans (Cert.Kernel8Ideal.Val.final17 m c), ((h c).2.2.2.2.2.1).trans (Cert.Kernel8Ideal.Val.final18 m c), ((h c).2.2.2.2.2.2.1).trans (Cert.Kernel8Ideal.Val.final19 m c), ((h c).2.2.2.2.2.2.2.1).trans (Cert.Kernel8Ideal.Val.final20 m c), (h c).2.2.2.2.2.2.2.2⟩) (Cert.Kernel8Ideal.Value.run_blocks m g)
  · run_from (Cert.Reference8Ideal.Value.run m' g')
    · funext y
      rw [eq_ix2 y]
      exact (r78 (proj _ _ _) (y 0) (y 1)).trans (proj_at _ _ _ _ _)
    · funext y
      rw [eq_ix2 y]
      exact (r79 (proj _ _ _) (y 0) (y 1)).trans (proj_at _ _ _ _ _)
    · funext y
      rw [eq_ix2 y]
      exact (r80 (proj _ _ _) (y 0) (y 1)).trans (proj_at _ _ _ _ _)
    · funext y
      rw [eq_ix2 y]
      exact (r81 (proj _ _ _) (y 0) (y 1)).trans (proj_at _ _ _ _ _)
    · funext y
      rw [eq_ix2 y]
      exact (r82 (proj _ _ _) _ (y 0) (y 1)).trans (lat_at _ _ _ _ 2592 (by decide) (y 0) (y 1))
    · funext y
      rw [eq_ix2 y]
      exact (r83 (proj _ _ _) _ (y 0) (y 1)).trans (lat_at _ _ _ _ 2848 (by decide) (y 0) (y 1))
    · funext y
      rw [eq_ix2 y]
      refine (res84_at m' _ (y 0) (y 1)).trans ?_
      rename_i c
      obtain ⟨h0, h1, h2, -, -⟩ := hagree c
      rw [h0, h1, h2]
      rfl
    · funext y
      rw [eq_ix2 y]
      exact (r85 (proj _ _ _) (y 0) (y 1)).trans (proj_at _ _ _ _ _)

end Cert.Reference8Ideal.Val

end
-- ==== Proof.Qp.lean ====
/- The query projection of the latent attention. -/
module

public import proofs.«01_k».proof.Defs
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Lib.Pipeline.ValueKit
public import Idealize.ShloMosaic.Lib.Claim
public import proofs.«01_k».proof.Proof.Rms

@[expose] public section

set_option maxRecDepth 16384

noncomputable section

namespace Cert.Qpr

open Idealize.ShloMosaic Idealize.ShloMosaic.TcCoe
open Cert.Rms (row)

variable (X : (⟨3, ![4, 4096, 256]⟩ : Shape).Idx → EReal) (U : (⟨3, ![256, 8, 96]⟩ : Shape).Idx → EReal) (K : (⟨3, ![256, 8, 64]⟩ : Shape).Idx → EReal) (n : Fin 16384) (h : Fin 8)

/-- The angle of position `p` in lane `k`. -/
def ang (p : Fin 4096) (k : Fin 16) : EReal :=
  FloatOps.sitofp (F := Ideal) .f32 (BitVec.ofNat 32 p.val) * Ideal.exp (Ideal.div (Ideal.ofBits .f32 0xC1135D8E#32 * FloatOps.sitofp (F := Ideal) .f32 (BitVec.ofNat 32 k.val)) (Ideal.ofBits .f32 0x41800000#32))

/-- Column `k` of head `h` of row `n`'s query. -/
def hq (k : Fin 96) : EReal := ∑ j : Fin 256, X (row n.val n.isLt j) * U (ix3 j h k)

/-- Lane `l` of the query carried into the latent space. -/
def lat (l : Fin 256) : EReal := (∑ j : Fin 64, hq X U n h ⟨j.val, by omega⟩ * K (ix3 l h j)) * Ideal.ofBits .f32 0x3DD105EC#32

/-- Lane `e` of the rotated columns of row `n`. -/
def rop (e : Fin 32) : EReal :=
  if h' : e.val < 16 then hq X U n h ⟨64 + e.val, by omega⟩ * Ideal.cos (ang ⟨n.val % 4096, by omega⟩ ⟨e.val, h'⟩) - hq X U n h ⟨64 + (16 + e.val), by omega⟩ * Ideal.sin (ang ⟨n.val % 4096, by omega⟩ ⟨e.val, h'⟩)
  else hq X U n h ⟨64 + (16 + (e.val - 16)), by omega⟩ * Ideal.cos (ang ⟨n.val % 4096, by omega⟩ ⟨e.val - 16, by omega⟩) + hq X U n h ⟨64 + (e.val - 16), by omega⟩ * Ideal.sin (ang ⟨n.val % 4096, by omega⟩ ⟨e.val - 16, by omega⟩)

/-- Lane `k` of the query the attention reads. -/
def qc (k : Fin 288) : EReal := if h' : k.val < 256 then lat X U K n h ⟨k.val, h'⟩ else rop X U n h ⟨k.val - 256, by omega⟩ * Ideal.ofBits .f32 0x3DD105EC#32

end Cert.Qpr

namespace Cert.Kernel11Ideal.Val

open Idealize.ShloMosaic Idealize.ShloMosaic.TcCoe Idealize.SL.Sem Cert.Kernel11Ideal Cert.Kernel11Ideal.Gen Cert.Qpr
open Cert.Rms (row)

variable (m : (ℓ : Loc nD τ sig) → Buf (Elt Ideal) ℓ) (c : Dev nD)

def ax : FVec Ideal S4x4096x256 .f32 := m ((c : Thread nD τ).loc main_arg0)
def au : FVec Ideal S256x8x96 .f32 := m ((c : Thread nD τ).loc main_arg1)
def ak : FVec Ideal S256x8x64 .f32 := m ((c : Thread nD τ).loc main_arg2)

theorem lt_N (t : Fin cfg0.N) : t.val < 64 := lt_of_lt_of_eq t.isLt (show cfg0.N = 64 from N_0)

theorem idx : ∀ t : Fin cfg0.N, win0_0.index t = ![t.val, 0] ∧ win0_1.index t = ![t.val, 0] ∧ win0_2.index t = ![0, 0, 0] ∧ win0_3.index t = ![0, 0, 0] ∧ win0_4.index t = ![0, 0, 0] ∧ win0_5.index t = ![0, t.val, 0] :=
  (by decide +kernel : ∀ t : Fin grid0.N, _)

/-- A row of grid point `t`'s tile. -/
def nt (t : Fin cfg0.N) (r : Fin 256) : Fin 16384 := ⟨t.val * 256 + r.val, by have := lt_N t; omega⟩

theorem ib0 (t : Fin cfg0.N) (r : Fin 256) (e : Fin 256) : (show FVec Ideal S256x256 .f32 from iblk m c 0 t) (ix2 r e) = ax m c (row (nt t r).val (nt t r).isLt e) := by
  have hN := lt_N t
  blk_simp [iblk]
  entry_read
  pointwise
  rw [ax]
  blk_ext [nt, row, idx t]

theorem ib2 (t : Fin cfg0.N) (h : Fin 8) (j : Fin 256) (e : Fin 64) : (show FVec Ideal S8x256x64 .bf16 from iblk m c 2 t) (ix3 h j e) = au m c (ix3 j h ⟨e.val, by omega⟩) := by
  have hN := lt_N t
  blk_simp [iblk]
  entry_read
  pointwise
  rw [au]
  blk_ext [idx t]

theorem ib4 (t : Fin cfg0.N) (h : Fin 8) (j : Fin 64) (e : Fin 256) : (show FVec Ideal S8x64x256 .bf16 from iblk m c 4 t) (ix3 h j e) = ak m c (ix3 e h j) := by
  have hN := lt_N t
  blk_simp [iblk]
  entry_read
  pointwise
  rw [ak]
  blk_ext [idx t]

theorem pick (A : FVec Ideal S256x8x96 .f32) (u : Fin 256) (g : Fin 8) (v : Fin 64) (j : Fin 256) (h : Fin 8) (q : Fin 64) (k : Fin 96) (e0 : u.val = j.val) (e2 : g.val = h.val) (e1 : v.val = q.val)
    (hk : k.val = if q.val < 32 then 64 + q.val else if q.val < 48 then 64 + (16 + (q.val - 32)) else 64 + (q.val - 32 - 16)) :
    (if h : v.val < 32 then A (ix3 u g ⟨64 + v.val, by omega⟩) else if h' : v.val - 32 < 16 then A (ix3 u g ⟨64 + (16 + (v.val - 32)), by omega⟩) else A (ix3 u g ⟨64 + (v.val - 32 - 16), by omega⟩)) = A (ix3 j h k) := by
  obtain rfl := Fin.ext e0
  obtain rfl := Fin.ext e2
  obtain rfl := Fin.ext e1
  have pt : ∀ w : Fin 96, w.val = k.val → A (ix3 u g w) = A (ix3 u g k) := fun w hw => congrArg (fun w => A (ix3 u g w)) (Fin.ext hw)
  split_ifs at hk ⊢ <;> first | exact pt _ hk.symm | omega

theorem ib3 (t : Fin cfg0.N) (h : Fin 8) (j : Fin 256) (q : Fin 64) (k : Fin 96) (hk : k.val = if q.val < 32 then 64 + q.val else if q.val < 48 then 64 + (16 + (q.val - 32)) else 64 + (q.val - 32 - 16)) :
    (show FVec Ideal S8x256x64 .bf16 from iblk m c 3 t) (ix3 h j q) = au m c (ix3 j h k) := by
  have hN := lt_N t
  blk_simp [iblk]
  entry_read
  pointwise
  have e0 : (((View.whole main_v9).slice (win0_3.rect t)).emb (ix3 h j q) 1).val = j.val := by blk_simp [idx t]
  have e2 : (((View.whole main_v9).slice (win0_3.rect t)).emb (ix3 h j q) 0).val = h.val := by blk_simp [idx t]
  have e1 : (((View.whole main_v9).slice (win0_3.rect t)).emb (ix3 h j q) 2).val = q.val := by blk_simp [idx t]
  exact pick (au m c) _ _ _ j h q k e0 e2 e1 hk

section

variable {F : FTy → Type} [FloatOps F]

/-- The operations up to the angles. -/
abbrev pre : List (HloOp τ sig (Elt F)) :=
  [StableHlo.unary main_arg1 main_v0 ((extractStridedSlice S256x8x32 ![0, 0, 64] · slices_S256x8x96_S256x8x32_0_0_64) : (⟨S256x8x96, .f32⟩ : BufTy).Contents (Elt F) → (⟨S256x8x32, .f32⟩ : BufTy).Contents (Elt F)),
    StableHlo.unary main_arg1 main_v1 ((extractStridedSlice S256x8x64 ![0, 0, 0] · slices_S256x8x96_S256x8x64_0_0_0) : (⟨S256x8x96, .f32⟩ : BufTy).Contents (Elt F) → (⟨S256x8x64, .f32⟩ : BufTy).Contents (Elt F)),
    StableHlo.unary main_v1 main_v2 ((transpose S8x256x64 [1, 0, 2] · transposes_S256x8x64_S8x256x64_1_0_2) : (⟨S256x8x64, .f32⟩ : BufTy).Contents (Elt F) → (⟨S8x256x64, .f32⟩ : BufTy).Contents (Elt F)),
    StableHlo.unary main_v2 main_v3 ((truncf .bf16 · bitsLt_bf16_f32) : (⟨S8x256x64, .f32⟩ : BufTy).Contents (Elt F) → (⟨S8x256x64, .bf16⟩ : BufTy).Contents (Elt F)),
    StableHlo.unary main_v0 main_v4 ((extractStridedSlice S256x8x16 ![0, 0, 16] · slices_S256x8x32_S256x8x16_0_0_16) : (⟨S256x8x32, .f32⟩ : BufTy).Contents (Elt F) → (⟨S256x8x16, .f32⟩ : BufTy).Contents (Elt F)),
    StableHlo.unary main_v0 main_v5 ((extractStridedSlice S256x8x16 ![0, 0, 0] · slices_S256x8x32_S256x8x16_0_0_0) : (⟨S256x8x32, .f32⟩ : BufTy).Contents (Elt F) → (⟨S256x8x16, .f32⟩ : BufTy).Contents (Elt F)),
    StableHlo.binary main_v4 main_v5 main_v6 ((fun a b => concatenate S256x8x32 2 [⟨S256x8x16, a⟩, ⟨S256x8x16, b⟩] concatenates_S256x8x16_S256x8x16_S256x8x32_d2) : (⟨S256x8x16, .f32⟩ : BufTy).Contents (Elt F) → (⟨S256x8x16, .f32⟩ : BufTy).Contents (Elt F) → (⟨S256x8x32, .f32⟩ : BufTy).Contents (Elt F)),
    StableHlo.binary main_v0 main_v6 main_v7 ((fun a b => concatenate S256x8x64 2 [⟨S256x8x32, a⟩, ⟨S256x8x32, b⟩] concatenates_S256x8x32_S256x8x32_S256x8x64_d2) : (⟨S256x8x32, .f32⟩ : BufTy).Contents (Elt F) → (⟨S256x8x32, .f32⟩ : BufTy).Contents (Elt F) → (⟨S256x8x64, .f32⟩ : BufTy).Contents (Elt F)),
    StableHlo.unary main_v7 main_v8 ((transpose S8x256x64 [1, 0, 2] · transposes_S256x8x64_S8x256x64_1_0_2) : (⟨S256x8x64, .f32⟩ : BufTy).Contents (Elt F) → (⟨S8x256x64, .f32⟩ : BufTy).Contents (Elt F)),
    StableHlo.unary main_v8 main_v9 ((truncf .bf16 · bitsLt_bf16_f32) : (⟨S8x256x64, .f32⟩ : BufTy).Contents (Elt F) → (⟨S8x256x64, .bf16⟩ : BufTy).Contents (Elt F)),
    StableHlo.unary main_arg2 main_v10 ((transpose S8x64x256 [1, 2, 0] · transposes_S256x8x64_S8x64x256_1_2_0) : (⟨S256x8x64, .f32⟩ : BufTy).Contents (Elt F) → (⟨S8x64x256, .f32⟩ : BufTy).Contents (Elt F)),
    StableHlo.unary main_v10 main_v11 ((truncf .bf16 · bitsLt_bf16_f32) : (⟨S8x64x256, .f32⟩ : BufTy).Contents (Elt F) → (⟨S8x64x256, .bf16⟩ : BufTy).Contents (Elt F)),
    StableHlo.nullary main_v12 (iotaInDim S4096 32 0),
    StableHlo.nullary main_v13 (sitofp .f32 (iotaInDim S16 32 0)),
    StableHlo.nullary main_cst (constant S_ .f32 0xC1135D8E#32),
    StableHlo.unary main_cst main_v14 (broadcastInDim S16 ![] bcast_S_S16 : (⟨S_, .f32⟩ : BufTy).Contents (Elt F) → (⟨S16, .f32⟩ : BufTy).Contents (Elt F)),
    StableHlo.binary main_v14 main_v13 main_v15 (mulf : (⟨S16, .f32⟩ : BufTy).Contents (Elt F) → (⟨S16, .f32⟩ : BufTy).Contents (Elt F) → (⟨S16, .f32⟩ : BufTy).Contents (Elt F)),
    StableHlo.nullary main_cst_0 (constant S_ .f32 0x41800000#32),
    StableHlo.unary main_cst_0 main_v16 (broadcastInDim S16 ![] bcast_S_S16 : (⟨S_, .f32⟩ : BufTy).Contents (Elt F) → (⟨S16, .f32⟩ : BufTy).Contents (Elt F)),
    StableHlo.binary main_v15 main_v16 main_v17 (Host.divf : (⟨S16, .f32⟩ : BufTy).Contents (Elt F) → (⟨S16, .f32⟩ : BufTy).Contents (Elt F) → (⟨S16, .f32⟩ : BufTy).Contents (Elt F)),
    StableHlo.unary main_v17 main_v18 (Host.exp : (⟨S16, .f32⟩ : BufTy).Contents (Elt F) → (⟨S16, .f32⟩ : BufTy).Contents (Elt F)),
    StableHlo.unary main_v12 main_v19 (sitofp .f32 : (⟨S4096, .i32⟩ : BufTy).Contents (Elt F) → (⟨S4096, .f32⟩ : BufTy).Contents (Elt F)),
    StableHlo.unary main_v19 main_v20 (broadcastInDim S4096x1 ![0] bcast_S4096_S4096x1_0 : (⟨S4096, .f32⟩ : BufTy).Contents (Elt F) → (⟨S4096x1, .f32⟩ : BufTy).Contents (Elt F)),
    StableHlo.unary main_v18 main_v21 (broadcastInDim S1x16 ![1] bcast_S16_S1x16_1 : (⟨S16, .f32⟩ : BufTy).Contents (Elt F) → (⟨S1x16, .f32⟩ : BufTy).Contents (Elt F)),
    StableHlo.unary main_v20 main_v22 (broadcastInDim S4096x16 ![0, 1] bcast_S4096x1_S4096x16_0_1 : (⟨S4096x1, .f32⟩ : BufTy).Contents (Elt F) → (⟨S4096x16, .f32⟩ : BufTy).Contents (Elt F)),
    StableHlo.unary main_v21 main_v23 (broadcastInDim S4096x16 ![0, 1] bcast_S1x16_S4096x16_0_1 : (⟨S1x16, .f32⟩ : BufTy).Contents (Elt F) → (⟨S4096x16, .f32⟩ : BufTy).Contents (Elt F)),
    StableHlo.binary main_v22 main_v23 main_v24 (mulf : (⟨S4096x16, .f32⟩ : BufTy).Contents (Elt F) → (⟨S4096x16, .f32⟩ : BufTy).Contents (Elt F) → (⟨S4096x16, .f32⟩ : BufTy).Contents (Elt F))]

/-- The table's pieces. -/
abbrev mid : List (HloOp τ sig (Elt F)) :=
  [StableHlo.unary main_v24 main_v25 (Host.cos : (⟨S4096x16, .f32⟩ : BufTy).Contents (Elt F) → (⟨S4096x16, .f32⟩ : BufTy).Contents (Elt F)),
    StableHlo.unary main_v24 main_v26 (Host.sin : (⟨S4096x16, .f32⟩ : BufTy).Contents (Elt F) → (⟨S4096x16, .f32⟩ : BufTy).Contents (Elt F)),
    StableHlo.unary main_v26 main_v27 (Host.negf : (⟨S4096x16, .f32⟩ : BufTy).Contents (Elt F) → (⟨S4096x16, .f32⟩ : BufTy).Contents (Elt F))]

/-- The table's four pieces, side by side. -/
abbrev cat : List (HloOp τ sig (Elt F)) :=
  [StableHlo.nary ![main_v25, main_v25, main_v27, main_v26] main_v28 (fun u => (concatenate S4096x64 1 [⟨S4096x16, (u 0 : (⟨S4096x16, .f32⟩ : BufTy).Contents (Elt F))⟩, ⟨S4096x16, (u 1 : (⟨S4096x16, .f32⟩ : BufTy).Contents (Elt F))⟩, ⟨S4096x16, (u 2 : (⟨S4096x16, .f32⟩ : BufTy).Contents (Elt F))⟩, ⟨S4096x16, (u 3 : (⟨S4096x16, .f32⟩ : BufTy).Contents (Elt F))⟩] concatenates_S4096x16_S4096x16_S4096x16_S4096x16_S4096x64_d1 : (⟨S4096x64, .f32⟩ : BufTy).Contents (Elt F)))]

/-- The rest. -/
abbrev post : List (HloOp τ sig (Elt F)) :=
  [StableHlo.reshape main_v28 main_v29 (rfl : (.f32 : EltTy) = .f32) shapeCasts_S4096x64_S1x4096x1x64,
    StableHlo.unary main_v29 main_v30 (broadcastInDim S4x4096x1x64 ![0, 1, 2, 3] bcast_S1x4096x1x64_S4x4096x1x64_0_1_2_3 : (⟨S1x4096x1x64, .f32⟩ : BufTy).Contents (Elt F) → (⟨S4x4096x1x64, .f32⟩ : BufTy).Contents (Elt F)),
    StableHlo.reshape main_v30 main_v31 (rfl : (.f32 : EltTy) = .f32) shapeCasts_S4x4096x1x64_S16384x64,
    StableHlo.reshape main_arg0 main_v32 (rfl : (.f32 : EltTy) = .f32) shapeCasts_S4x4096x256_S16384x256]

end

theorem split : (hostOps0 : List (HloOp τ sig (Elt Ideal))) = pre ++ (mid ++ (cat ++ post)) := rfl

/-- The angles. -/
def angs : FVec Ideal S4096x16 .f32 := (mulf (F := Ideal) (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))

theorem pre24 (s : Valuation τ sig (Elt Ideal)) : (show FVec Ideal S4096x16 .f32 from StableHlo.after pre s main_v24) = angs := by
  rw [angs]
  entry_read
  rfl

theorem mid25 (s : Valuation τ sig (Elt Ideal)) : (show FVec Ideal S4096x16 .f32 from StableHlo.after mid s main_v25) = Host.cos (show FVec Ideal S4096x16 .f32 from s main_v24) := by
  entry_read
  rfl

theorem mid26 (s : Valuation τ sig (Elt Ideal)) : (show FVec Ideal S4096x16 .f32 from StableHlo.after mid s main_v26) = Host.sin (show FVec Ideal S4096x16 .f32 from s main_v24) := by
  entry_read
  rfl

theorem mid27 (s : Valuation τ sig (Elt Ideal)) : (show FVec Ideal S4096x16 .f32 from StableHlo.after mid s main_v27) = Host.negf (Host.sin (show FVec Ideal S4096x16 .f32 from s main_v24)) := by
  entry_read
  rfl

theorem cat28 (s : Valuation τ sig (Elt Ideal)) (A B D : FVec Ideal S4096x16 .f32) (ha : (show FVec Ideal S4096x16 .f32 from s main_v25) = A) (hb : (show FVec Ideal S4096x16 .f32 from s main_v27) = B)
    (hd : (show FVec Ideal S4096x16 .f32 from s main_v26) = D) : (show FVec Ideal S4096x64 .f32 from StableHlo.after cat s main_v28) =
    concatenate S4096x64 1 [⟨S4096x16, A⟩, ⟨S4096x16, A⟩, ⟨S4096x16, B⟩, ⟨S4096x16, D⟩] concatenates_S4096x16_S4096x16_S4096x16_S4096x16_S4096x64_d1 := by
  subst ha hb hd
  simp only [StableHlo.after_cons, StableHlo.after_nil]
  rw [StableHlo.nary4_result]
  rfl

theorem post31 (s : Valuation τ sig (Elt Ideal)) (A : FVec Ideal S4096x64 .f32) (h : (show FVec Ideal S4096x64 .f32 from s main_v28) = A) : (show FVec Ideal S16384x64 .f32 from StableHlo.after post s main_v31) =
    shapeCast _ (broadcastInDim S4x4096x1x64 ![0, 1, 2, 3] bcast_S1x4096x1x64_S4x4096x1x64_0_1_2_3 (shapeCast _ A shapeCasts_S4096x64_S1x4096x1x64)) shapeCasts_S4x4096x1x64_S16384x64 := by
  subst h
  entry_read
  rfl

theorem v31 (m : (ℓ : Loc nD τ sig) → Buf (Elt Ideal) ℓ) (c : Dev nD) : V m c main_v31 = StableHlo.after post (StableHlo.after cat (StableHlo.after mid (StableHlo.after pre (fun b => m (c, b))))) main_v31 := by
  show StableHlo.after hostOps0 _ _ = _
  rw [split, StableHlo.after_append, StableHlo.after_append, StableHlo.after_append]

theorem angs_at (p : Fin 4096) (k : Fin 16) : angs (ix2 p k) = ang p k := by
  rw [angs, ang]
  pointwise

/-- The table as one term. -/
def tab (A : FVec Ideal S4096x16 .f32) : FVec Ideal S16384x64 .f32 :=
  shapeCast _ (broadcastInDim S4x4096x1x64 ![0, 1, 2, 3] bcast_S1x4096x1x64_S4x4096x1x64_0_1_2_3 (shapeCast _ (concatenate S4096x64 1 [⟨S4096x16, Host.cos A⟩, ⟨S4096x16, Host.cos A⟩, ⟨S4096x16, Host.negf (Host.sin A)⟩, ⟨S4096x16, Host.sin A⟩] concatenates_S4096x16_S4096x16_S4096x16_S4096x16_S4096x64_d1 : FVec Ideal S4096x64 .f32) shapeCasts_S4096x64_S1x4096x1x64)) shapeCasts_S4x4096x1x64_S16384x64

theorem rest (s : Valuation τ sig (Elt Ideal)) : (show FVec Ideal S16384x64 .f32 from StableHlo.after post (StableHlo.after cat (StableHlo.after mid s)) main_v31) = tab (show FVec Ideal S4096x16 .f32 from s main_v24) := by
  rw [tab]
  exact post31 _ _ (cat28 _ _ _ _ (mid25 s) (mid27 s) (mid26 s))

theorem v31_eq (m : (ℓ : Loc nD τ sig) → Buf (Elt Ideal) ℓ) (c : Dev nD) : (show FVec Ideal S16384x64 .f32 from V m c main_v31) = tab angs := by
  have h1 := pre24 (fun b => m (c, b))
  have h2 := v31 m c
  generalize StableHlo.after pre (fun b => m (c, b)) = s at h1 h2
  exact h2.trans ((rest s).trans (congrArg tab h1))

theorem tab_at (A : FVec Ideal S4096x16 .f32) (n : Fin 16384) (e : Fin 64) : tab A (ix2 n e) = if h : e.val < 16 then Ideal.cos (A (ix2 ⟨n.val % 4096, by omega⟩ ⟨e.val, h⟩)) else if h' : e.val - 16 < 16 then Ideal.cos (A (ix2 ⟨n.val % 4096, by omega⟩ ⟨e.val - 16, h'⟩))
    else if h'' : e.val - 16 - 16 < 16 then -Ideal.sin (A (ix2 ⟨n.val % 4096, by omega⟩ ⟨e.val - 16 - 16, h''⟩)) else Ideal.sin (A (ix2 ⟨n.val % 4096, by omega⟩ ⟨e.val - 16 - 16 - 16, by omega⟩)) := by
  rw [tab]
  pointwise

theorem ib1 (t : Fin cfg0.N) (r : Fin 256) (e : Fin 64) : (show FVec Ideal S256x64 .f32 from iblk m c 1 t) (ix2 r e) = tab angs (ix2 (nt t r) e) := by
  have hN := lt_N t
  blk_simp [iblk]
  refine (congrFun (v31_eq m c) _).trans ?_
  blk_ext [nt, idx t]

theorem tb0 (t : Fin cfg0.N) (r : Fin 256) (e : Fin 64) (h : e.val < 16) (k : Fin 16) (hk : k.val = e.val) : (show FVec Ideal S256x64 .f32 from iblk m c 1 t) (ix2 r e) = Ideal.cos (ang ⟨(nt t r).val % 4096, by omega⟩ k) := by
  refine (ib1 m c t r e).trans ((tab_at _ _ _).trans ?_)
  rw [dif_pos h]
  exact congrArg Ideal.cos ((angs_at _ _).trans (congrArg (ang _) (Fin.ext hk.symm)))

theorem tb1 (t : Fin cfg0.N) (r : Fin 256) (e : Fin 64) (h : 16 ≤ e.val ∧ e.val < 32) (k : Fin 16) (hk : k.val = e.val - 16) : (show FVec Ideal S256x64 .f32 from iblk m c 1 t) (ix2 r e) = Ideal.cos (ang ⟨(nt t r).val % 4096, by omega⟩ k) := by
  refine (ib1 m c t r e).trans ((tab_at _ _ _).trans ?_)
  rw [dif_neg (by omega), dif_pos (by omega)]
  exact congrArg Ideal.cos ((angs_at _ _).trans (congrArg (ang _) (Fin.ext hk.symm)))

theorem tb2 (t : Fin cfg0.N) (r : Fin 256) (e : Fin 64) (h : 32 ≤ e.val ∧ e.val < 48) (k : Fin 16) (hk : k.val = e.val - 16 - 16) : (show FVec Ideal S256x64 .f32 from iblk m c 1 t) (ix2 r e) = -Ideal.sin (ang ⟨(nt t r).val % 4096, by omega⟩ k) := by
  refine (ib1 m c t r e).trans ((tab_at _ _ _).trans ?_)
  rw [dif_neg (by omega), dif_neg (by omega), dif_pos (by omega)]
  exact congrArg (fun a => -Ideal.sin a) ((angs_at _ _).trans (congrArg (ang _) (Fin.ext hk.symm)))

theorem tb3 (t : Fin cfg0.N) (r : Fin 256) (e : Fin 64) (h : 48 ≤ e.val) (k : Fin 16) (hk : k.val = e.val - 16 - 16 - 16) : (show FVec Ideal S256x64 .f32 from iblk m c 1 t) (ix2 r e) = Ideal.sin (ang ⟨(nt t r).val % 4096, by omega⟩ k) := by
  refine (ib1 m c t r e).trans ((tab_at _ _ _).trans ?_)
  rw [dif_neg (by omega), dif_neg (by omega), dif_neg (by omega)]
  exact congrArg Ideal.sin ((angs_at _ _).trans (congrArg (ang _) (Fin.ext hk.symm)))

theorem ld0 {a b : ℕ} (o : ℕ) (ho : o < 8) (x : FVec Ideal ⟨3, ![8, a, b]⟩ .bf16) (inb) (j : Fin a) (e : Fin b) :
    (View.ld (S := ⟨3, ![8, a, b]⟩) (Val := Elt Ideal) (show Vec Ideal ⟨3, ![8, a, b]⟩ .bf16 from x) (Rect.unit (s := ⟨3, ![8, a, b]⟩) ![o, 0, 0] ![1, a, b] inb)) (ix3 0 j e) = x (ix3 ⟨o, ho⟩ j e) := by
  refine View.ld_unit_apply_of _ _ _ _ _ _ ?_
  intro q
  fin_cases q <;> simp [ix3]

theorem pay5_at (x0 : FVec Ideal S256x256 .f32) (A : FVec Ideal S1x256x64 .bf16) (B : FVec Ideal S1x64x256 .bf16) (r : Fin 256) (l : Fin 256) :
    k0_pay5 (F := Ideal) x0 A B (ix3 0 r l) = (∑ j : Fin 64, (∑ k : Fin 256, x0 (ix2 r k) * A (ix3 0 k j)) * B (ix3 0 j l)) * Ideal.ofBits .f32 0x3DD105EC#32 := by
  pointwise [k0_pay5, k0_pay3]

theorem pay6_at (x0 : FVec Ideal S256x256 .f32) (v : FVec Ideal S256x64 .f32) (A : FVec Ideal S1x256x64 .bf16) (r : Fin 256) (e : Fin 32) :
    k0_pay6 (F := Ideal) x0 v A (ix3 0 r e) = ((∑ k : Fin 256, x0 (ix2 r k) * A (ix3 0 k ⟨e.val, by omega⟩)) * v (ix2 r ⟨e.val, by omega⟩)
      + (∑ k : Fin 256, x0 (ix2 r k) * A (ix3 0 k ⟨32 + e.val, by omega⟩)) * v (ix2 r ⟨32 + e.val, by omega⟩)) * Ideal.ofBits .f32 0x3DD105EC#32 := by
  pointwise [k0_pay6, k0_pay3, k0_pay4]

theorem latp (t : Fin cfg0.N) (o : ℕ) (ho : o < 8) (i2 i4) (r : Fin 256) (l : Fin 256) :
    k0_pay5 (F := Ideal) (iblk m c 0 t) (View.ld (iblk m c 2 t) (Rect.unit (s := S8x256x64) ![o, 0, 0] ![1, 256, 64] i2)) (View.ld (iblk m c 4 t) (Rect.unit (s := S8x64x256) ![o, 0, 0] ![1, 64, 256] i4)) (ix3 0 r l) = lat (ax m c) (au m c) (ak m c) (nt t r) ⟨o, ho⟩ l := by
  refine (pay5_at _ _ _ r l).trans ?_
  rw [lat]
  refine congrArg (· * Ideal.ofBits .f32 0x3DD105EC#32) (Finset.sum_congr rfl fun j _ => congr (congrArg HMul.hMul (Finset.sum_congr rfl fun k _ => congr (congrArg HMul.hMul (ib0 m c t r k)) ?_)) ?_)
  · exact (ld0 o ho _ _ _ _).trans (ib2 m c t ⟨o, ho⟩ k j)
  · exact (ld0 o ho _ _ _ _).trans (ib4 m c t ⟨o, ho⟩ j l)

theorem sum3 (t : Fin cfg0.N) (o : ℕ) (ho : o < 8) (i3) (r : Fin 256) (q : Fin 64) (k : Fin 96) (hk : k.val = if q.val < 32 then 64 + q.val else if q.val < 48 then 64 + (16 + (q.val - 32)) else 64 + (q.val - 32 - 16)) :
    (∑ j : Fin 256, (show FVec Ideal S256x256 .f32 from iblk m c 0 t) (ix2 r j) * (show FVec Ideal S1x256x64 .bf16 from View.ld (iblk m c 3 t) (Rect.unit (s := S8x256x64) ![o, 0, 0] ![1, 256, 64] i3)) (ix3 0 j q)) = hq (ax m c) (au m c) (nt t r) ⟨o, ho⟩ k :=
  Finset.sum_congr rfl fun j _ => congr (congrArg HMul.hMul (ib0 m c t r j)) ((ld0 o ho _ _ _ _).trans (ib3 m c t ⟨o, ho⟩ j q k hk))

theorem ropp (t : Fin cfg0.N) (o : ℕ) (ho : o < 8) (i3) (r : Fin 256) (e : Fin 32) :
    k0_pay6 (F := Ideal) (iblk m c 0 t) (iblk m c 1 t) (View.ld (iblk m c 3 t) (Rect.unit (s := S8x256x64) ![o, 0, 0] ![1, 256, 64] i3)) (ix3 0 r e) = rop (ax m c) (au m c) (nt t r) ⟨o, ho⟩ e * Ideal.ofBits .f32 0x3DD105EC#32 := by
  refine (pay6_at _ _ _ r e).trans ?_
  refine congrArg (· * Ideal.ofBits .f32 0x3DD105EC#32) ?_
  rw [rop]
  by_cases h : e.val < 16
  · rw [dif_pos h, sub_eq_add_neg, ← mul_neg]
    refine congr (congrArg HAdd.hAdd (congr (congrArg HMul.hMul (sum3 m c t o ho i3 r _ _ ?_)) (tb0 m c t r _ ?_ _ ?_))) (congr (congrArg HMul.hMul (sum3 m c t o ho i3 r _ _ ?_)) (tb2 m c t r _ ?_ _ ?_))
    · rw [if_pos (show e.val < 32 by omega)]
    · exact h
    · rfl
    · rw [if_neg (show ¬ 32 + e.val < 32 by omega), if_pos (show 32 + e.val < 48 by omega)]
      show 64 + (16 + e.val) = 64 + (16 + (32 + e.val - 32))
      omega
    · show 32 ≤ 32 + e.val ∧ 32 + e.val < 48
      omega
    · show e.val = 32 + e.val - 16 - 16
      omega
  · rw [dif_neg h]
    refine congr (congrArg HAdd.hAdd (congr (congrArg HMul.hMul (sum3 m c t o ho i3 r _ _ ?_)) (tb1 m c t r _ ?_ _ ?_))) (congr (congrArg HMul.hMul (sum3 m c t o ho i3 r _ _ ?_)) (tb3 m c t r _ ?_ _ ?_))
    · rw [if_pos (show e.val < 32 by omega)]
      show 64 + (16 + (e.val - 16)) = 64 + e.val
      omega
    · show 16 ≤ e.val ∧ e.val < 32
      omega
    · rfl
    · rw [if_neg (show ¬ 32 + e.val < 32 by omega), if_neg (show ¬ 32 + e.val < 48 by omega)]
      show 64 + (e.val - 16) = 64 + (32 + e.val - 32 - 16)
      omega
    · show 48 ≤ 32 + e.val
      omega
    · show e.val - 16 = 32 + e.val - 16 - 16 - 16
      omega

theorem pl (t : Fin cfg0.N) (o : ℕ) (ho : o < 8) (i2 i4) (x : S1x256x256.Idx) (z : S8x16384x288.Idx) (e0 : (z 0).val = o) (e1 : (z 1).val = t.val * 256 + (x 1).val) (e2 : (z 2).val = (x 2).val) :
    k0_pay5 (F := Ideal) (iblk m c 0 t) (View.ld (iblk m c 2 t) (Rect.unit (s := S8x256x64) ![o, 0, 0] ![1, 256, 64] i2)) (View.ld (iblk m c 4 t) (Rect.unit (s := S8x64x256) ![o, 0, 0] ![1, 64, 256] i4)) x = qc (ax m c) (au m c) (ak m c) (z 1) (z 0) (z 2) := by
  have hx : x = ix3 0 (x 1) (x 2) := (eq_ix3 x).trans (congrArg (fun a => ix3 a (x 1) (x 2)) (Fin.ext (show (x 0).val = 0 by have := (x 0).isLt; change _ < 1 at this; omega)))
  have h2 : (x 2).val < 256 := (x 2).isLt
  have hz : z = ix3 ⟨o, ho⟩ (nt t (x 1)) (⟨(x 2).val, by omega⟩ : Fin 288) := (eq_ix3 z).trans (congr (congr (congrArg ix3 (Fin.ext e0)) (Fin.ext e1)) (Fin.ext e2))
  rw [hz]
  refine (congrArg (k0_pay5 (F := Ideal) _ _ _) hx).trans ((latp m c t o ho i2 i4 (x 1) (x 2)).trans ?_)
  exact ((dif_pos h2 : qc (ax m c) (au m c) (ak m c) (nt t (x 1)) ⟨o, ho⟩ ⟨(x 2).val, by omega⟩ = _)).symm

theorem pr (t : Fin cfg0.N) (o : ℕ) (ho : o < 8) (i3) (x : S1x256x32.Idx) (z : S8x16384x288.Idx) (e0 : (z 0).val = o) (e1 : (z 1).val = t.val * 256 + (x 1).val) (e2 : (z 2).val = 256 + (x 2).val) :
    k0_pay6 (F := Ideal) (iblk m c 0 t) (iblk m c 1 t) (View.ld (iblk m c 3 t) (Rect.unit (s := S8x256x64) ![o, 0, 0] ![1, 256, 64] i3)) x = qc (ax m c) (au m c) (ak m c) (z 1) (z 0) (z 2) := by
  have hx : x = ix3 0 (x 1) (x 2) := (eq_ix3 x).trans (congrArg (fun a => ix3 a (x 1) (x 2)) (Fin.ext (show (x 0).val = 0 by have := (x 0).isLt; change _ < 1 at this; omega)))
  have h2 : (x 2).val < 32 := (x 2).isLt
  have hz : z = ix3 ⟨o, ho⟩ (nt t (x 1)) (⟨256 + (x 2).val, by omega⟩ : Fin 288) := (eq_ix3 z).trans (congr (congr (congrArg ix3 (Fin.ext e0)) (Fin.ext e1)) (Fin.ext e2))
  rw [hz]
  refine (congrArg (k0_pay6 (F := Ideal) _ _ _) hx).trans ((ropp m c t o ho i3 (x 1) (x 2)).trans ?_)
  refine Eq.trans ?_ ((dif_neg (show ¬ 256 + (x 2).val < 256 by omega) : qc (ax m c) (au m c) (ak m c) (nt t (x 1)) ⟨o, ho⟩ ⟨256 + (x 2).val, by omega⟩ = _)).symm
  exact congrArg (fun e => rop (ax m c) (au m c) (nt t (x 1)) ⟨o, ho⟩ e * Ideal.ofBits .f32 0x3DD105EC#32) (Fin.ext (show (x 2).val = 256 + (x 2).val - 256 by omega))

/-- The query the attention reads. -/
def out : FVec Ideal S8x16384x288 .f32 := fun z => qc (ax m c) (au m c) (ak m c) (z 1) (z 0) (z 2)

set_option maxHeartbeats 1600000 in
theorem final : (dats m 0 c).arrAt 5 (cfgs 0).N = out m c := by
  refine (dats m 0 c).arrAt_eq_of_covers 5 (out m c) (by decide +kernel) fun t hf y => ?_
  have e0 : ((win0_5.blk t).view.emb y 0).val = (y 0).val := by blk_simp [idx t]
  have e1 : ((win0_5.blk t).view.emb y 1).val = t.val * 256 + (y 1).val := by blk_simp [idx t]
  have e2 : ((win0_5.blk t).view.emb y 2).val = (y 2).val := by blk_simp [idx t]
  blk_simp
  rw [after0_5, outsAt0]
  generalize (win0_5.blk t).view.emb y = z at *
  frame_out
  rw [out]
  canon_tiles x h using View.cover_of_tiledBy _ ![1, 256, 32] (by sl_kernel_rfl) y
  · exact pr m c t 7 (by decide) _ x z (by omega) (by omega) (by omega)
  · exact pl m c t 7 (by decide) _ _ x z (by omega) (by omega) (by omega)
  · exact pr m c t 6 (by decide) _ x z (by omega) (by omega) (by omega)
  · exact pl m c t 6 (by decide) _ _ x z (by omega) (by omega) (by omega)
  · exact pr m c t 5 (by decide) _ x z (by omega) (by omega) (by omega)
  · exact pl m c t 5 (by decide) _ _ x z (by omega) (by omega) (by omega)
  · exact pr m c t 4 (by decide) _ x z (by omega) (by omega) (by omega)
  · exact pl m c t 4 (by decide) _ _ x z (by omega) (by omega) (by omega)
  · exact pr m c t 3 (by decide) _ x z (by omega) (by omega) (by omega)
  · exact pl m c t 3 (by decide) _ _ x z (by omega) (by omega) (by omega)
  · exact pr m c t 2 (by decide) _ x z (by omega) (by omega) (by omega)
  · exact pl m c t 2 (by decide) _ _ x z (by omega) (by omega) (by omega)
  · exact pr m c t 1 (by decide) _ x z (by omega) (by omega) (by omega)
  · exact pl m c t 1 (by decide) _ _ x z (by omega) (by omega) (by omega)
  · exact pr m c t 0 (by decide) _ x z (by omega) (by omega) (by omega)
  · exact pl m c t 0 (by decide) _ _ x z (by omega) (by omega) (by omega)

end Cert.Kernel11Ideal.Val

namespace Cert.Reference11Ideal.Val

open Idealize.ShloMosaic Idealize.ShloMosaic.TcCoe Idealize.SL.Sem Cert.Reference11Ideal Cert.Reference11Ideal.Gen Cert.Qpr
open Cert.Rms (row)

/-- Row `n` of four sequences, head `h`, lane `k`. -/
def at4 {d : ℕ} (n : Fin 16384) (h : Fin 8) (k : Fin d) : (⟨4, ![4, 4096, 8, d]⟩ : Shape).Idx := ix4 (⟨n.val / 4096, by omega⟩ : Fin 4) (⟨n.val % 4096, by omega⟩ : Fin 4096) h k

theorem q_at (X : FVec Ideal S4x4096x256 .f32) (U : FVec Ideal S256x8x96 .f32) (n : Fin 16384) (h : Fin 8) (k : Fin 96) :
    (Host.dotGeneral dot_S4x4096x256_S256x8x96_S4x4096x8x96_2_0_01_12_n_n none X U : FVec Ideal S4x4096x8x96 .f32) (at4 n h k) = hq X U n h k := by
  rw [at4, hq]
  pointwise
  rfl

theorem l_at (K : FVec Ideal S256x8x64 .f32) (Q : FVec Ideal S4x4096x8x96 .f32) (n : Fin 16384) (h : Fin 8) (l : Fin 256) :
    ((transpose S4x4096x8x256 [2, 3, 0, 1] (Host.dotGeneral dot_S256x8x64_S4x4096x8x64_S8x256x4x4096_2_3_0_01_1_2 none K (extractStridedSlice S4x4096x8x64 ![0, 0, 0, 0] Q slices_S4x4096x8x96_S4x4096x8x64_0_0_0_0)) transposes_S8x256x4x4096_S4x4096x8x256_2_3_0_1) : FVec Ideal S4x4096x8x256 .f32) (at4 n h l) = ∑ j : Fin 64, K (ix3 l h j) * Q (at4 n h ⟨j.val, by omega⟩) := by
  rw [at4]
  pointwise [at4]

theorem cs_at (p : Fin 4096) (k : Fin 16) : (Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32))))))) : FVec Ideal S4096x16 .f32) (ix2 p k) = Ideal.cos (ang p k) := by
  pointwise
  rfl

theorem sn_at (p : Fin 4096) (k : Fin 16) : (Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32))))))) : FVec Ideal S4096x16 .f32) (ix2 p k) = Ideal.sin (ang p k) := by
  pointwise
  rfl

theorem all_at (Q : FVec Ideal S4x4096x8x96 .f32) (L : FVec Ideal S4x4096x8x256 .f32) (Cs Sn : FVec Ideal S4096x16 .f32) (n : Fin 16384) (h : Fin 8) (k : Fin 288) :
    (transpose S8x16384x288 [1, 0, 2] (shapeCast _ (mulf (concatenate S4x4096x8x288 3 [⟨S4x4096x8x256, L⟩, ⟨S4x4096x8x32, (concatenate S4x4096x8x32 3 [⟨S4x4096x8x16, (subf (mulf (extractStridedSlice S4x4096x8x16 ![0, 0, 0, 0] (extractStridedSlice S4x4096x8x32 ![0, 0, 0, 64] Q slices_S4x4096x8x96_S4x4096x8x32_0_0_0_64) slices_S4x4096x8x32_S4x4096x8x16_0_0_0_0) (broadcastInDim S4x4096x8x16 ![0, 1, 2, 3] bcast_S1x4096x1x16_S4x4096x8x16_0_1_2_3 (shapeCast _ Cs shapeCasts_S4096x16_S1x4096x1x16))) (mulf (extractStridedSlice S4x4096x8x16 ![0, 0, 0, 16] (extractStridedSlice S4x4096x8x32 ![0, 0, 0, 64] Q slices_S4x4096x8x96_S4x4096x8x32_0_0_0_64) slices_S4x4096x8x32_S4x4096x8x16_0_0_0_16) (broadcastInDim S4x4096x8x16 ![0, 1, 2, 3] bcast_S1x4096x1x16_S4x4096x8x16_0_1_2_3 (shapeCast _ Sn shapeCasts_S4096x16_S1x4096x1x16))))⟩, ⟨S4x4096x8x16, (addf (mulf (extractStridedSlice S4x4096x8x16 ![0, 0, 0, 16] (extractStridedSlice S4x4096x8x32 ![0, 0, 0, 64] Q slices_S4x4096x8x96_S4x4096x8x32_0_0_0_64) slices_S4x4096x8x32_S4x4096x8x16_0_0_0_16) (broadcastInDim S4x4096x8x16 ![0, 1, 2, 3] bcast_S1x4096x1x16_S4x4096x8x16_0_1_2_3 (shapeCast _ Cs shapeCasts_S4096x16_S1x4096x1x16))) (mulf (extractStridedSlice S4x4096x8x16 ![0, 0, 0, 0] (extractStridedSlice S4x4096x8x32 ![0, 0, 0, 64] Q slices_S4x4096x8x96_S4x4096x8x32_0_0_0_64) slices_S4x4096x8x32_S4x4096x8x16_0_0_0_0) (broadcastInDim S4x4096x8x16 ![0, 1, 2, 3] bcast_S1x4096x1x16_S4x4096x8x16_0_1_2_3 (shapeCast _ Sn shapeCasts_S4096x16_S1x4096x1x16))))⟩] concatenates_S4x4096x8x16_S4x4096x8x16_S4x4096x8x32_d3)⟩] concatenates_S4x4096x8x256_S4x4096x8x32_S4x4096x8x288_d3) (broadcastInDim S4x4096x8x288 ![] bcast_S_S4x4096x8x288 (constant S_ .f32 0x3DD105EC#32))) shapeCasts_S4x4096x8x288_S16384x8x288) transposes_S16384x8x288_S8x16384x288_1_0_2 : FVec Ideal S8x16384x288 .f32) (ix3 h n k) = (if h' : k.val < 256 then L (at4 n h ⟨k.val, h'⟩) else
      if h'' : k.val - 256 < 16 then Q (at4 n h ⟨64 + (k.val - 256), by omega⟩) * Cs (ix2 ⟨n.val % 4096, by omega⟩ ⟨k.val - 256, h''⟩) - Q (at4 n h ⟨64 + (16 + (k.val - 256)), by omega⟩) * Sn (ix2 ⟨n.val % 4096, by omega⟩ ⟨k.val - 256, h''⟩)
      else Q (at4 n h ⟨64 + (16 + (k.val - 256 - 16)), by omega⟩) * Cs (ix2 ⟨n.val % 4096, by omega⟩ ⟨k.val - 256 - 16, by omega⟩) + Q (at4 n h ⟨64 + (k.val - 256 - 16), by omega⟩) * Sn (ix2 ⟨n.val % 4096, by omega⟩ ⟨k.val - 256 - 16, by omega⟩)) * Ideal.ofBits .f32 0x3DD105EC#32 := by
  pointwise
  rfl

theorem val_at (X : FVec Ideal S4x4096x256 .f32) (U : FVec Ideal S256x8x96 .f32) (K : FVec Ideal S256x8x64 .f32) (n : Fin 16384) (h : Fin 8) (k : Fin 288) :
    (transpose S8x16384x288 [1, 0, 2] (shapeCast _ (mulf (concatenate S4x4096x8x288 3 [⟨S4x4096x8x256, (transpose S4x4096x8x256 [2, 3, 0, 1] (Host.dotGeneral dot_S256x8x64_S4x4096x8x64_S8x256x4x4096_2_3_0_01_1_2 none K (extractStridedSlice S4x4096x8x64 ![0, 0, 0, 0] (Host.dotGeneral dot_S4x4096x256_S256x8x96_S4x4096x8x96_2_0_01_12_n_n none X U) slices_S4x4096x8x96_S4x4096x8x64_0_0_0_0)) transposes_S8x256x4x4096_S4x4096x8x256_2_3_0_1)⟩, ⟨S4x4096x8x32, (concatenate S4x4096x8x32 3 [⟨S4x4096x8x16, (subf (mulf (extractStridedSlice S4x4096x8x16 ![0, 0, 0, 0] (extractStridedSlice S4x4096x8x32 ![0, 0, 0, 64] (Host.dotGeneral dot_S4x4096x256_S256x8x96_S4x4096x8x96_2_0_01_12_n_n none X U) slices_S4x4096x8x96_S4x4096x8x32_0_0_0_64) slices_S4x4096x8x32_S4x4096x8x16_0_0_0_0) (broadcastInDim S4x4096x8x16 ![0, 1, 2, 3] bcast_S1x4096x1x16_S4x4096x8x16_0_1_2_3 (shapeCast _ (Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x1x16))) (mulf (extractStridedSlice S4x4096x8x16 ![0, 0, 0, 16] (extractStridedSlice S4x4096x8x32 ![0, 0, 0, 64] (Host.dotGeneral dot_S4x4096x256_S256x8x96_S4x4096x8x96_2_0_01_12_n_n none X U) slices_S4x4096x8x96_S4x4096x8x32_0_0_0_64) slices_S4x4096x8x32_S4x4096x8x16_0_0_0_16) (broadcastInDim S4x4096x8x16 ![0, 1, 2, 3] bcast_S1x4096x1x16_S4x4096x8x16_0_1_2_3 (shapeCast _ (Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x1x16))))⟩, ⟨S4x4096x8x16, (addf (mulf (extractStridedSlice S4x4096x8x16 ![0, 0, 0, 16] (extractStridedSlice S4x4096x8x32 ![0, 0, 0, 64] (Host.dotGeneral dot_S4x4096x256_S256x8x96_S4x4096x8x96_2_0_01_12_n_n none X U) slices_S4x4096x8x96_S4x4096x8x32_0_0_0_64) slices_S4x4096x8x32_S4x4096x8x16_0_0_0_16) (broadcastInDim S4x4096x8x16 ![0, 1, 2, 3] bcast_S1x4096x1x16_S4x4096x8x16_0_1_2_3 (shapeCast _ (Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x1x16))) (mulf (extractStridedSlice S4x4096x8x16 ![0, 0, 0, 0] (extractStridedSlice S4x4096x8x32 ![0, 0, 0, 64] (Host.dotGeneral dot_S4x4096x256_S256x8x96_S4x4096x8x96_2_0_01_12_n_n none X U) slices_S4x4096x8x96_S4x4096x8x32_0_0_0_64) slices_S4x4096x8x32_S4x4096x8x16_0_0_0_0) (broadcastInDim S4x4096x8x16 ![0, 1, 2, 3] bcast_S1x4096x1x16_S4x4096x8x16_0_1_2_3 (shapeCast _ (Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))))) shapeCasts_S4096x16_S1x4096x1x16))))⟩] concatenates_S4x4096x8x16_S4x4096x8x16_S4x4096x8x32_d3)⟩] concatenates_S4x4096x8x256_S4x4096x8x32_S4x4096x8x288_d3) (broadcastInDim S4x4096x8x288 ![] bcast_S_S4x4096x8x288 (constant S_ .f32 0x3DD105EC#32))) shapeCasts_S4x4096x8x288_S16384x8x288) transposes_S16384x8x288_S8x16384x288_1_0_2 : FVec Ideal S8x16384x288 .f32) (ix3 h n k) = qc X U K n h k := by
  refine (all_at _ _ _ _ n h k).trans ?_
  rw [qc]
  by_cases h' : k.val < 256
  · rw [dif_pos h', dif_pos h', lat]
    refine congrArg (· * Ideal.ofBits .f32 0x3DD105EC#32) ((l_at _ _ _ _ _).trans (Finset.sum_congr rfl fun j _ => ?_))
    rw [q_at]
    exact mul_comm _ _
  · rw [dif_neg h', dif_neg h', rop]
    refine congrArg (· * Ideal.ofBits .f32 0x3DD105EC#32) ?_
    by_cases h'' : k.val - 256 < 16
    · rw [dif_pos h'', dif_pos h'']
      exact congr (congrArg HSub.hSub (congr (congrArg HMul.hMul (q_at X U n h _)) (cs_at _ _))) (congr (congrArg HMul.hMul (q_at X U n h _)) (sn_at _ _))
    · rw [dif_neg h'', dif_neg h'']
      exact congr (congrArg HAdd.hAdd (congr (congrArg HMul.hMul (q_at X U n h _)) (cs_at _ _))) (congr (congrArg HMul.hMul (q_at X U n h _)) (sn_at _ _))

theorem res_at (m : (ℓ : Loc nD τ sig) → Buf (Elt Ideal) ℓ) (c : Dev nD) (n : Fin 16384) (h : Fin 8) (k : Fin 288) :
    (show FVec Ideal S8x16384x288 .f32 from Value.res_main_v39 m c) (ix3 h n k) = qc (m ((c : Thread nD τ).loc main_arg0)) (m ((c : Thread nD τ).loc main_arg1)) (m ((c : Thread nD τ).loc main_arg2)) n h k := by
  rw [Value.res_main_v39]
  exact val_at _ _ _ n h k

theorem alg : Cert.algebraic_Kernel11Ideal_Reference11Ideal := by
  intro m g m' g' _ hagree
  refine ⟨fun c => Cert.Kernel11Ideal.Val.out m c, ?_, ?_⟩
  · exact (θ_run _ _ _).mono (fun r h c => ⟨((h c).1).trans (Cert.Kernel11Ideal.Val.final m c), (h c).2⟩) (Cert.Kernel11Ideal.Value.run_blocks m g)
  · run_from (Cert.Reference11Ideal.Value.run m' g')
    funext y
    rw [eq_ix3 y]
    refine (res_at m' _ (y 1) (y 0) (y 2)).trans ?_
    rename_i c
    obtain ⟨h0, h1, h2⟩ := hagree c
    rw [h0, h1, h2]
    rfl

end Cert.Reference11Ideal.Val

end
-- ==== Proof.RwPost.lean ====
/- The normalisation of the recurrence's output within each head, the bonus and the gate. -/
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import Idealize.ShloMosaic.Lib.Pipeline.ValueKit
public import Idealize.ShloMosaic.Lib.Claim
public import proofs.«01_k».proof.Proof.Rms

@[expose] public section

set_option maxRecDepth 16384

noncomputable section

namespace Cert.Rw

open Idealize.ShloMosaic

/-- Column `j` of the head that column `e` belongs to. -/
def hd (e : Fin 512) (j : Fin 64) : Fin 512 := ⟨e.val / 64 * 64 + j.val, by omega⟩

theorem hd_hd (e : Fin 512) (j k : Fin 64) : hd (hd e j) k = hd e k := by
  have : (e.val / 64 * 64 + j.val) / 64 = e.val / 64 := by omega
  simp only [hd, this]

/-- A product with a column of the matrix of head sums adds the columns of one head. -/
theorem head_sum (f s : Fin 512 → EReal) (e : Fin 512) (hs : ∀ k, s k = if k.val / 64 = e.val / 64 then 1 else 0) : ∑ k, f k * s k = ∑ j : Fin 64, f (hd e j) := by
  refine (Finset.sum_of_injOn (hd e) ?_ (fun _ _ => Finset.mem_coe.2 (Finset.mem_univ _)) ?_ ?_).symm
  · intro a _ b _ h
    have : e.val / 64 * 64 + a.val = e.val / 64 * 64 + b.val := congrArg Fin.val h
    exact Fin.ext (by omega)
  · intro k _ hk
    rw [hs k, if_neg, mul_zero]
    intro h
    exact hk ⟨⟨k.val % 64, by omega⟩, Finset.mem_coe.2 (Finset.mem_univ _), Fin.ext (show e.val / 64 * 64 + k.val % 64 = k.val by omega)⟩
  · intro j _
    rw [hs, if_pos, mul_one]
    show (e.val / 64 * 64 + j.val) / 64 = e.val / 64
    omega

/-- The matrix of head sums. -/
def Seg (s : FVec Ideal ⟨2, ![512, 512]⟩ .f32) : Prop := ∀ k e : Fin 512, s (ix2 k e) = if k.val / 64 = e.val / 64 then 1 else 0

theorem eq_at (a b : ℕ) (ha : a < 512) (hb : b < 512) :
    FloatOps.uitofp (F := Ideal) FTy.f32 (IntOp.cmpi CmpIPredicate.eq (BitVec.ofNat 32 a) (BitVec.ofNat 32 b)) = if a = b then (1 : EReal) else 0 := by
  rw [WordCmp.cmpi_eq_ofNat (by omega) (by omega)]
  by_cases h : a = b
  · rw [if_pos h, decide_eq_true h]
    show (((1 : ℕ) : ℝ) : EReal) = 1
    simp
  · rw [if_neg h, decide_eq_false h]
    show (((0 : ℕ) : ℝ) : EReal) = 0
    simp

/-- A product with 2⁻⁶ is a division by 64. -/
theorem div64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- The mean over a head, -/
def mean (x : Fin 512 → EReal) (e : Fin 512) : EReal := Ideal.div (∑ j, x (hd e j)) (Ideal.ofBits .f32 0x42800000#32)
/-- a row normalised within its heads, with the bonus and the gate. -/
def gn (x : Fin 512 → EReal) (lw lb bo g : EReal) (e : Fin 512) : EReal :=
  ((x e - mean x e) * Ideal.rsqrt (Ideal.div (∑ j, (x (hd e j) - mean x e) * (x (hd e j) - mean x e)) (Ideal.ofBits .f32 0x42800000#32) + Ideal.ofBits .f32 0x3A27C5AC#32) * lw + lb + bo) * g

/-- The same with products with the matrix. -/
def meanS (x : Fin 512 → EReal) (s : Fin 512 → Fin 512 → EReal) (e : Fin 512) : EReal := (∑ k, x k * s k e) * Ideal.ofBits .f32 0x3C800000#32
def gnS (x : Fin 512 → EReal) (s : Fin 512 → Fin 512 → EReal) (lw lb bo g : EReal) (e : Fin 512) : EReal :=
  ((x e - meanS x s e) * Ideal.rsqrt ((∑ k, (x k - meanS x s k) * (x k - meanS x s k) * s k e) * Ideal.ofBits .f32 0x3C800000#32 + Ideal.ofBits .f32 0x3A27C5AC#32) * lw + lb + bo) * g

theorem mean_hd (x : Fin 512 → EReal) (e : Fin 512) (j : Fin 64) : mean x (hd e j) = mean x e := by simp only [mean, hd_hd]

theorem gnS_eq (x : Fin 512 → EReal) (s : Fin 512 → Fin 512 → EReal) (hs : ∀ k e, s k e = if k.val / 64 = e.val / 64 then 1 else 0) (lw lb bo g : EReal) (e : Fin 512) :
    gnS x s lw lb bo g e = gn x lw lb bo g e := by
  have hm : ∀ e, meanS x s e = mean x e := fun e => by rw [meanS, head_sum x (fun k => s k e) e (fun k => hs k e), div64, mean]
  simp only [gnS, gn, hm]
  rw [head_sum (fun k => (x k - mean x k) * (x k - mean x k)) (fun k => s k e) e (fun k => hs k e), div64]
  simp only [mean_hd]

/-- Row `n` of four sequences laid one after another, its column split into heads. -/
def row4 (n : ℕ) (h : n < 16384) (e : Fin 512) : (⟨4, ![4, 4096, 8, 64]⟩ : Shape).Idx :=
  ix4 (⟨n / 4096, by omega⟩ : Fin 4) (⟨n % 4096, by omega⟩ : Fin 4096) (⟨e.val / 64, by omega⟩ : Fin 8) (⟨e.val % 64, by omega⟩ : Fin 64)

theorem row4_congr {n n' : ℕ} (e : n = n') (h : n < 16384) (h' : n' < 16384) (k : Fin 512) : row4 n h k = row4 n' h' k := by subst e; rfl

theorem row4_hd (n : ℕ) (h : n < 16384) (e : Fin 512) (j : Fin 64) :
    row4 n h (hd e j) = ix4 (⟨n / 4096, by omega⟩ : Fin 4) (⟨n % 4096, by omega⟩ : Fin 4096) (⟨e.val / 64, by omega⟩ : Fin 8) j := by
  have h1 : (e.val / 64 * 64 + j.val) / 64 = e.val / 64 := by omega
  have h2 : (e.val / 64 * 64 + j.val) % 64 = j.val := by omega
  simp only [row4, hd, h1, h2]

end Cert.Rw

namespace Cert.Kernel12Ideal.Val

open Idealize.ShloMosaic Idealize.ShloMosaic.TcCoe Idealize.SL.Sem Cert.Kernel12Ideal Cert.Kernel12Ideal.Gen Cert.Rms Cert.Rw

variable (m : (ℓ : Loc nD τ sig) → Buf (Elt Ideal) ℓ) (c : Dev nD)

def ao : FVec Ideal S4x4096x8x64 .f32 := m ((c : Thread nD τ).loc main_arg0)
def ab : FVec Ideal S4x4096x512 .f32 := m ((c : Thread nD τ).loc main_arg1)
def ag : FVec Ideal S4x4096x512 .f32 := m ((c : Thread nD τ).loc main_arg2)
def aw : FVec Ideal S512 .f32 := m ((c : Thread nD τ).loc main_arg3)
def al : FVec Ideal S512 .f32 := m ((c : Thread nD τ).loc main_arg4)

theorem lt_N (t : Fin cfg0.N) : t.val < 64 := lt_of_lt_of_eq t.isLt (show cfg0.N = 64 from N_0)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

theorem ib0 (t : Fin cfg0.N) (r : Fin 256) (e : Fin 512) :
    (show FVec Ideal S256x512 .f32 from iblk m c 0 t) (ix2 r e) = ao m c (row4 (t.val * 256 + r.val) (by have := lt_N t; omega) e) := by
  have hN := lt_N t
  blk_simp [iblk]
  entry_read
  pointwise
  rw [ao]
  blk_ext [row4, idx t]

theorem ib1 (t : Fin cfg0.N) (r : Fin 256) (e : Fin 512) :
    (show FVec Ideal S256x512 .f32 from iblk m c 1 t) (ix2 r e) = ab m c (row (t.val * 256 + r.val) (by have := lt_N t; omega) e) := by
  have hN := lt_N t
  blk_simp [iblk]
  entry_read
  pointwise
  rw [ab]
  blk_ext [row, idx t]

theorem ib2 (t : Fin cfg0.N) (r : Fin 256) (e : Fin 512) :
    (show FVec Ideal S256x512 .f32 from iblk m c 2 t) (ix2 r e) = ag m c (row (t.val * 256 + r.val) (by have := lt_N t; omega) e) := by
  have hN := lt_N t
  blk_simp [iblk]
  entry_read
  pointwise
  rw [ag]
  blk_ext [row, idx t]

theorem ib3 (t : Fin cfg0.N) (e : Fin 512) : (show FVec Ideal S1x512 .f32 from iblk m c 3 t) (ix2 0 e) = aw m c (ix1 e) := by
  have hN := lt_N t
  blk_simp [iblk]
  entry_read
  pointwise
  rw [aw]
  blk_ext [idx t]

theorem ib4 (t : Fin cfg0.N) (e : Fin 512) : (show FVec Ideal S1x512 .f32 from iblk m c 4 t) (ix2 0 e) = al m c (ix1 e) := by
  have hN := lt_N t
  blk_simp [iblk]
  entry_read
  pointwise
  rw [al]
  blk_ext [idx t]

theorem ib5 (t : Fin cfg0.N) : Seg (show FVec Ideal S512x512 .f32 from iblk m c 5 t) := by
  intro k e
  have hN := lt_N t
  have hk := k.isLt
  have he := e.isLt
  have e0 : (((View.whole main_v12).slice (win0_5.rect t)).emb (ix2 k e) 0).val = k.val := by blk_simp [idx t]
  have e1 : (((View.whole main_v12).slice (win0_5.rect t)).emb (ix2 k e) 1).val = e.val := by blk_simp [idx t]
  blk_simp [iblk]
  entry_read
  pointwise
  rw [e0, e1, eq_at _ _ (by omega) (by omega)]

theorem pay_at (x0 : FVec Ideal S256x512 .f32) (x1 : FVec Ideal S512x512 .f32) (x2 x3 : FVec Ideal S1x512 .f32) (x4 x5 : FVec Ideal S256x512 .f32) (r : Fin 256) (e : Fin 512) :
    k0_pay1 (F := Ideal) x0 x1 x2 x3 x4 x5 (ix2 r e) = gnS (fun k => x0 (ix2 r k)) (fun k e => x1 (ix2 k e)) (x2 (ix2 0 e)) (x3 (ix2 0 e)) (x4 (ix2 r e)) (x5 (ix2 r e)) e := by
  pointwise [k0_pay1]
  rfl

/-- The result array. -/
def out : FVec Ideal S16384x512 .f32 := fun y => gn (fun k => ao m c (row4 (y 0).val (y 0).isLt k)) (aw m c (ix1 (y 1))) (al m c (ix1 (y 1)))
  (ab m c (row (y 0).val (y 0).isLt (y 1))) (ag m c (row (y 0).val (y 0).isLt (y 1))) (y 1)

theorem out_at (t : Fin cfg0.N) (z : S16384x512.Idx) (r : Fin 256) (e : Fin 512) (e0 : (z 0).val = t.val * 256 + r.val) (e1 : (z 1).val = e.val) :
    gnS (fun k => (show FVec Ideal S256x512 .f32 from iblk m c 0 t) (ix2 r k)) (fun k e => (show FVec Ideal S512x512 .f32 from iblk m c 5 t) (ix2 k e))
      ((show FVec Ideal S1x512 .f32 from iblk m c 3 t) (ix2 0 e)) ((show FVec Ideal S1x512 .f32 from iblk m c 4 t) (ix2 0 e))
      ((show FVec Ideal S256x512 .f32 from iblk m c 1 t) (ix2 r e)) ((show FVec Ideal S256x512 .f32 from iblk m c 2 t) (ix2 r e)) e = out m c z := by
  have a1 : z 1 = e := Fin.ext e1
  rw [gnS_eq _ _ (ib5 m c t)]
  simp only [out, ib0, ib1, ib2, ib3, ib4, a1, row_congr e0 (z 0).isLt (e0 ▸ (z 0).isLt), row4_congr e0 (z 0).isLt (e0 ▸ (z 0).isLt)]

theorem final : (dats m 0 c).arrAt 6 (cfgs 0).N = out m c := by
  refine (dats m 0 c).arrAt_eq_of_covers 6 (out m c) (by decide +kernel) fun t hf y => ?_
  have e0 : ((win0_6.blk t).view.emb y 0).val = t.val * 256 + (y 0).val := by blk_simp [idx t]
  have e1 : ((win0_6.blk t).view.emb y 1).val = (y 1).val := by blk_simp [idx t]
  have hy : (show S256x512.Idx from y) = ix2 (y 0) (y 1) := eq_ix2 _
  blk_simp
  rw [after0_6]
  generalize (win0_6.blk t).view.emb y = z at *
  frame_out
  exact (congrArg (k0_pay1 (F := Ideal) (iblk m c 0 t) (iblk m c 5 t) (iblk m c 3 t) (iblk m c 4 t) (iblk m c 1 t) (iblk m c 2 t)) hy).trans
    ((pay_at _ _ _ _ _ _ _ _).trans (out_at m c t z (y 0) (y 1) e0 e1))

end Cert.Kernel12Ideal.Val

namespace Cert.Reference12Ideal.Val

open Idealize.ShloMosaic Idealize.ShloMosaic.TcCoe Idealize.SL.Sem Cert.Reference12Ideal Cert.Reference12Ideal.Gen Cert.Rms Cert.Rw

/-- The mean over each head, as the reference takes it. -/
def mn (X : FVec Ideal S4x4096x8x64 .f32) : FVec Ideal S4x4096x8x1 .f32 :=
  Host.divf (broadcastInDim S4x4096x8x1 ![0, 1, 2] bcast_S4x4096x8_S4x4096x8x1_0_1_2 (Host.reduceAdd X (constant S_ .f32 0x00000000#32) reducesTo_S4x4096x8x64_S4x4096x8_d3 h_S_)) (broadcastInDim S4x4096x8x1 ![] bcast_S_S4x4096x8x1 (constant S_ .f32 0x42800000#32))

def dv (X : FVec Ideal S4x4096x8x64 .f32) : FVec Ideal S4x4096x8x64 .f32 :=
  subf X (broadcastInDim S4x4096x8x64 ![0, 1, 2, 3] bcast_S4x4096x8x1_S4x4096x8x64_0_1_2_3 (mn X))

def hn (X : FVec Ideal S4x4096x8x64 .f32) : FVec Ideal S4x4096x8x64 .f32 :=
  mulf (dv X) (broadcastInDim S4x4096x8x64 ![0, 1, 2, 3] bcast_S4x4096x8x1_S4x4096x8x64_0_1_2_3 (Host.rsqrt (addf (mn (mulf (dv X) (dv X))) (broadcastInDim S4x4096x8x1 ![] bcast_S_S4x4096x8x1 (constant S_ .f32 0x3A27C5AC#32)))))

theorem mn_at (X : FVec Ideal S4x4096x8x64 .f32) (b : Fin 4) (p : Fin 4096) (h : Fin 8) :
    mn X (ix4 b p h 0) = Ideal.div (∑ j : Fin 64, X (ix4 b p h j)) (Ideal.ofBits .f32 0x42800000#32) := by
  rw [mn]
  pointwise

theorem dv_at (X : FVec Ideal S4x4096x8x64 .f32) (b : Fin 4) (p : Fin 4096) (h : Fin 8) (f : Fin 64) : dv X (ix4 b p h f) = X (ix4 b p h f) - mn X (ix4 b p h 0) := by
  rw [dv]
  generalize mn X = M
  pointwise

theorem hn_at (X : FVec Ideal S4x4096x8x64 .f32) (b : Fin 4) (p : Fin 4096) (h : Fin 8) (f : Fin 64) :
    hn X (ix4 b p h f) = dv X (ix4 b p h f) * Ideal.rsqrt (Ideal.div (∑ j : Fin 64, dv X (ix4 b p h j) * dv X (ix4 b p h j)) (Ideal.ofBits .f32 0x42800000#32) + Ideal.ofBits .f32 0x3A27C5AC#32) := by
  have e := mn_at (mulf (dv X) (dv X)) b p h
  rw [hn]
  generalize mn (mulf (dv X) (dv X)) = M at e ⊢
  generalize dv X = D at e ⊢
  pointwise
  exact congrArg (fun z => D (ix4 b p h f) * Ideal.rsqrt (z + Ideal.ofBits .f32 0x3A27C5AC#32)) e

theorem hn_row (X : FVec Ideal S4x4096x8x64 .f32) (n : ℕ) (hl : n < 16384) (e : Fin 512) :
    hn X (row4 n hl e) = (X (row4 n hl e) - mean (fun k => X (row4 n hl k)) e) * Ideal.rsqrt (Ideal.div (∑ j, (X (row4 n hl (hd e j)) - mean (fun k => X (row4 n hl k)) e) * (X (row4 n hl (hd e j)) - mean (fun k => X (row4 n hl k)) e)) (Ideal.ofBits .f32 0x42800000#32) + Ideal.ofBits .f32 0x3A27C5AC#32) := by
  simp only [mean, row4_hd]
  rw [row4, hn_at]
  simp only [dv_at, mn_at]

theorem top_at (H : FVec Ideal S4x4096x8x64 .f32) (B G : FVec Ideal S4x4096x512 .f32) (W L : FVec Ideal S512 .f32) (n : Fin 16384) (e : Fin 512) :
    (shapeCast _ (mulf (addf (addf (mulf (shapeCast _ H shapeCasts_S4x4096x8x64_S4x4096x512) (broadcastInDim S4x4096x512 ![0, 1, 2] bcast_S1x1x512_S4x4096x512_0_1_2 (broadcastInDim S1x1x512 ![2] bcast_S512_S1x1x512_2 W))) (broadcastInDim S4x4096x512 ![0, 1, 2] bcast_S1x1x512_S4x4096x512_0_1_2 (broadcastInDim S1x1x512 ![2] bcast_S512_S1x1x512_2 L))) B) G) shapeCasts_S4x4096x512_S16384x512 : FVec Ideal S16384x512 .f32) (ix2 n e)
      = (H (row4 n.val n.isLt e) * W (ix1 e) + L (ix1 e) + B (row n.val n.isLt e)) * G (row n.val n.isLt e) := by
  pointwise
  rfl

theorem hn_gn (X : FVec Ideal S4x4096x8x64 .f32) (B G : FVec Ideal S4x4096x512 .f32) (W L : FVec Ideal S512 .f32) (n : Fin 16384) (e : Fin 512) :
    (hn X (row4 n.val n.isLt e) * W (ix1 e) + L (ix1 e) + B (row n.val n.isLt e)) * G (row n.val n.isLt e)
      = gn (fun k => X (row4 n.val n.isLt k)) (W (ix1 e)) (L (ix1 e)) (B (row n.val n.isLt e)) (G (row n.val n.isLt e)) e := by
  rw [hn_row, gn]

theorem alg : Cert.algebraic_Kernel12Ideal_Reference12Ideal := by
  intro m g m' g' _ hagree
  refine ⟨fun c => Cert.Kernel12Ideal.Val.out m c, ?_, ?_⟩
  · exact (θ_run _ _ _).mono (fun r h c => ⟨((h c).1).trans (Cert.Kernel12Ideal.Val.final m c), (h c).2⟩)
      (Cert.Kernel12Ideal.Value.run_blocks m g)
  · run_from (Cert.Reference12Ideal.Value.run m' g')
    funext y
    rw [eq_ix2 y]
    exact (top_at (hn _) _ _ _ _ _ _).trans (hn_gn _ _ _ _ _ _ _)

end Cert.Reference12Ideal.Val

end
-- ==== Proof.RwRow.lean ====
/- The values the recurrence takes, from a row of the projected sequence. -/
module

public import Idealize.ShloMosaic.Lib.Pipeline.ValueKit
public import proofs.«01_k».proof.Proof.SbMath
public import proofs.«01_k».proof.Proof.RwPost

@[expose] public section

noncomputable section

namespace Cert.Rw

open Idealize.ShloMosaic

/-- The row before a row: for a sequence's first row, the one it starts from. -/
def prevR (C : (⟨3, ![4, 4096, 1824]⟩ : Shape).Idx → EReal) (P : (⟨2, ![4, 1824]⟩ : Shape).Idx → EReal) (b : Fin 4) (n : Fin 4096) (f : Fin 1824) : EReal :=
  if n.val = 0 then P (ix2 b f) else C (ix3 b ⟨n.val - 1, by omega⟩ f)

/-- A row moved towards the one before it. -/
def sh (C : (⟨3, ![4, 4096, 1824]⟩ : Shape).Idx → EReal) (P : (⟨2, ![4, 1824]⟩ : Shape).Idx → EReal) (M : (⟨1, ![1824]⟩ : Shape).Idx → EReal) (b : Fin 4) (n : Fin 4096) (f : Fin 1824) : EReal :=
  C (ix3 b n f) + (prevR C P b n f - C (ix3 b n f)) * M (ix1 f)

/-- `1 / (1 + exp (-z))`. -/
def sg (z : EReal) : EReal := Ideal.div 1 (1 + Ideal.exp (-z))

/-- The slices of a row. -/
def rR (x : Fin 1824 → EReal) (e : Fin 512) : EReal := x ⟨e.val, by omega⟩
def kR (x : Fin 1824 → EReal) (e : Fin 512) : EReal := x ⟨512 + e.val, by omega⟩
def vR (x : Fin 1824 → EReal) (e : Fin 512) : EReal := x ⟨1024 + e.val, by omega⟩
def wR (x : Fin 1824 → EReal) (j : Fin 64) : EReal := x ⟨1536 + j.val, by omega⟩
def aR (x : Fin 1824 → EReal) (j : Fin 64) : EReal := x ⟨1600 + j.val, by omega⟩
def gR (x : Fin 1824 → EReal) (j : Fin 160) : EReal := x ⟨1664 + j.val, by omega⟩

/-- The decay from its logit, -/
def dec (u : EReal) : EReal := Ideal.exp (-Ideal.exp (-(max u 0 + Cert.Sb.lam u) - Ideal.ofBits .f32 0x3F000000#32))
def decay (x : Fin 1824 → EReal) (w0 : EReal) (wu : Fin 64 → EReal) : EReal := dec (-(w0 + ∑ j, Ideal.tanh (wR x j) * wu j))
/-- the rate within the context, -/
def icl (x : Fin 1824 → EReal) (a0 : EReal) (au : Fin 64 → EReal) : EReal := sg (a0 + ∑ j, aR x j * au j)
/-- the gate, -/
def gate (x : Fin 1824 → EReal) (gu : Fin 160 → EReal) : EReal := ∑ j, sg (gR x j) * gu j
/-- the key normalised in its head (`kk` its products with the gains), -/
def kn (kk : Fin 512 → EReal) (e : Fin 512) : EReal := kk e * Ideal.rsqrt (max (∑ j, kk (hd e j) * kk (hd e j)) (Ideal.ofBits .f32 0x179ABE15#32))
/-- the key the state takes, -/
def kt (k a ka : EReal) : EReal := k * (1 + (a - 1) * ka)
/-- and the bonus. -/
def bon (r k rk v : Fin 512 → EReal) (e : Fin 512) : EReal := (∑ j, r (hd e j) * k (hd e j) * rk (hd e j)) * v e

/-- The values from a row. -/
def decayV (W0 : (⟨1, ![512]⟩ : Shape).Idx → EReal) (WU : (⟨2, ![64, 512]⟩ : Shape).Idx → EReal) (x : Fin 1824 → EReal) (e : Fin 512) : EReal := decay x (W0 (ix1 e)) fun j => WU (ix2 j e)
def iclV (A0 : (⟨1, ![512]⟩ : Shape).Idx → EReal) (AU : (⟨2, ![64, 512]⟩ : Shape).Idx → EReal) (x : Fin 1824 → EReal) (e : Fin 512) : EReal := icl x (A0 (ix1 e)) fun j => AU (ix2 j e)
def ktV (A0 : (⟨1, ![512]⟩ : Shape).Idx → EReal) (AU : (⟨2, ![64, 512]⟩ : Shape).Idx → EReal) (KA : (⟨1, ![512]⟩ : Shape).Idx → EReal) (x : Fin 1824 → EReal) (e : Fin 512) : EReal :=
  kt (kR x e) (iclV A0 AU x e) (KA (ix1 e))
def knV (KK : (⟨1, ![512]⟩ : Shape).Idx → EReal) (x : Fin 1824 → EReal) (e : Fin 512) : EReal := kn (fun l => kR x l * KK (ix1 l)) e
def gateV (GU : (⟨2, ![160, 512]⟩ : Shape).Idx → EReal) (x : Fin 1824 → EReal) (e : Fin 512) : EReal := gate x fun j => GU (ix2 j e)
def bonV (A0 : (⟨1, ![512]⟩ : Shape).Idx → EReal) (AU : (⟨2, ![64, 512]⟩ : Shape).Idx → EReal) (KA : (⟨1, ![512]⟩ : Shape).Idx → EReal) (RK : (⟨2, ![8, 64]⟩ : Shape).Idx → EReal) (x : Fin 1824 → EReal) (e : Fin 512) : EReal :=
  bon (rR x) (ktV A0 AU KA x) (fun l => RK (ix2 (⟨l.val / 64, by omega⟩ : Fin 8) (⟨l.val % 64, by omega⟩ : Fin 64))) (vR x) e

end Cert.Rw

end
-- ==== Proof.RwPre.lean ====
/- What the recurrence takes: the shifted mix of the columns, the decay, the rates, the keys and the gate. -/
module

public import proofs.«01_k».proof.Defs
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import Idealize.ShloMosaic.Lib.Pipeline.ValueKit
public import Idealize.ShloMosaic.Lib.Claim
public import proofs.«01_k».proof.Proof.RwRow

@[expose] public section

set_option maxRecDepth 16384

noncomputable section

namespace Cert.Kernel13Ideal.Val

open Idealize.ShloMosaic Idealize.ShloMosaic.TcCoe Idealize.SL.Sem Cert.Kernel13Ideal Cert.Kernel13Ideal.Gen Cert.Rw

variable (m : (ℓ : Loc nD τ sig) → Buf (Elt Ideal) ℓ) (c : Dev nD)

def aC : FVec Ideal S4x4096x1824 .f32 := m ((c : Thread nD τ).loc main_arg0)
def aP : FVec Ideal S4x1824 .f32 := m ((c : Thread nD τ).loc main_arg1)
def aM : FVec Ideal S1824 .f32 := m ((c : Thread nD τ).loc main_arg2)
def aw0 : FVec Ideal S512 .f32 := m ((c : Thread nD τ).loc main_arg3)
def awu : FVec Ideal S64x512 .f32 := m ((c : Thread nD τ).loc main_arg4)
def aa0 : FVec Ideal S512 .f32 := m ((c : Thread nD τ).loc main_arg5)
def aau : FVec Ideal S64x512 .f32 := m ((c : Thread nD τ).loc main_arg6)
def agu : FVec Ideal S160x512 .f32 := m ((c : Thread nD τ).loc main_arg7)
def akk : FVec Ideal S512 .f32 := m ((c : Thread nD τ).loc main_arg8)
def aka : FVec Ideal S512 .f32 := m ((c : Thread nD τ).loc main_arg9)
def ark : FVec Ideal S8x64 .f32 := m ((c : Thread nD τ).loc main_arg10)

theorem lt_N (t : Fin cfg0.N) : t.val < 64 := lt_of_lt_of_eq t.isLt (show cfg0.N = 64 from N_0)

theorem idx : ∀ t : Fin cfg0.N, win0_0.index t = ![t.val / 16, t.val % 16, 0] ∧ win0_1.index t = ![t.val / 16, t.val % 16 * 32 - 1, 0] ∧ win0_2.index t = ![t.val / 16, 0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

theorem idxo : ∀ t : Fin cfg0.N, win0_13.index t = ![t.val / 16, t.val % 16, 0] ∧ win0_14.index t = ![t.val / 16, t.val % 16, 0] ∧ win0_15.index t = ![t.val / 16, t.val % 16, 0] ∧ win0_16.index t = ![t.val / 16, t.val % 16, 0]
    ∧ win0_17.index t = ![t.val / 16, t.val % 16, 0] ∧ win0_18.index t = ![t.val / 16, t.val % 16, 0] ∧ win0_19.index t = ![t.val / 16, t.val % 16, 0] ∧ win0_20.index t = ![t.val / 16, t.val % 16, 0] :=
  (by decide +kernel : ∀ t : Fin grid0.N, _)

theorem coord1 : ∀ t : Fin cfg0.N, (grid0.coords t 1).val = t.val % 16 :=
  (by decide +kernel : ∀ t : Fin grid0.N, (grid0.coords t 1).val = t.val % 16)

/-- The batch entry and a row of grid point `t`'s tile. -/
def bt (t : Fin cfg0.N) : Fin 4 := ⟨t.val / 16, by have := lt_N t; omega⟩
def rw' (t : Fin cfg0.N) (r : Fin 256) : Fin 4096 := ⟨t.val % 16 * 256 + r.val, by omega⟩

theorem ib0 (t : Fin cfg0.N) (r : Fin 256) (f : Fin 1824) :
    (show FVec Ideal S1x256x1824 .f32 from iblk m c 0 t) (ix3 0 r f) = aC m c (ix3 (bt t) (rw' t r) f) := by
  have hN := lt_N t
  blk_simp [iblk]
  entry_read
  pointwise
  rw [aC]
  blk_ext [bt, rw', idx t]

theorem ib1 (t : Fin cfg0.N) (ht : t.val % 16 ≠ 0) (f : Fin 1824) :
    (show FVec Ideal S1x8x1824 .f32 from iblk m c 1 t) (ix3 0 7 f) = aC m c (ix3 (bt t) ⟨t.val % 16 * 256 - 1, by omega⟩ f) := by
  have hN := lt_N t
  blk_simp [iblk]
  entry_read
  pointwise
  rw [aC]
  blk_ext [bt, idx t]

theorem ib2 (t : Fin cfg0.N) (f : Fin 1824) :
    (show FVec Ideal S1x1x1824 .f32 from iblk m c 2 t) (ix3 0 0 f) = aP m c (ix2 (bt t) f) := by
  have hN := lt_N t
  blk_simp [iblk]
  entry_read
  pointwise
  rw [aP]
  blk_ext [bt, idx t]

theorem ib3 (t : Fin cfg0.N) (f : Fin 1824) :
    (show FVec Ideal S1x1824 .f32 from iblk m c 3 t) (ix2 0 f) = aM m c (ix1 f) := by
  have hN := lt_N t
  blk_simp [iblk]
  entry_read
  pointwise
  rw [aM]
  blk_ext [idx t]

theorem ib4 (t : Fin cfg0.N) (e : Fin 512) :
    (show FVec Ideal S1x512 .f32 from iblk m c 4 t) (ix2 0 e) = aw0 m c (ix1 e) := by
  have hN := lt_N t
  blk_simp [iblk]
  entry_read
  pointwise
  rw [aw0]
  blk_ext [idx t]

theorem ib6 (t : Fin cfg0.N) (e : Fin 512) :
    (show FVec Ideal S1x512 .f32 from iblk m c 6 t) (ix2 0 e) = aa0 m c (ix1 e) := by
  have hN := lt_N t
  blk_simp [iblk]
  entry_read
  pointwise
  rw [aa0]
  blk_ext [idx t]

theorem ib9 (t : Fin cfg0.N) (e : Fin 512) :
    (show FVec Ideal S1x512 .f32 from iblk m c 9 t) (ix2 0 e) = akk m c (ix1 e) := by
  have hN := lt_N t
  blk_simp [iblk]
  entry_read
  pointwise
  rw [akk]
  blk_ext [idx t]

theorem ib10 (t : Fin cfg0.N) (e : Fin 512) :
    (show FVec Ideal S1x512 .f32 from iblk m c 10 t) (ix2 0 e) = aka m c (ix1 e) := by
  have hN := lt_N t
  blk_simp [iblk]
  entry_read
  pointwise
  rw [aka]
  blk_ext [idx t]

theorem ib5 (t : Fin cfg0.N) (k : Fin 64) (e : Fin 512) :
    (show FVec Ideal S64x512 .f32 from iblk m c 5 t) (ix2 k e) = awu m c (ix2 k e) := by
  have hN := lt_N t
  blk_simp [iblk]
  entry_read
  pointwise
  rw [awu]
  blk_ext [idx t]

theorem ib7 (t : Fin cfg0.N) (k : Fin 64) (e : Fin 512) :
    (show FVec Ideal S64x512 .f32 from iblk m c 7 t) (ix2 k e) = aau m c (ix2 k e) := by
  have hN := lt_N t
  blk_simp [iblk]
  entry_read
  pointwise
  rw [aau]
  blk_ext [idx t]

theorem ib8 (t : Fin cfg0.N) (k : Fin 160) (e : Fin 512) :
    (show FVec Ideal S160x512 .f32 from iblk m c 8 t) (ix2 k e) = agu m c (ix2 k e) := by
  have hN := lt_N t
  blk_simp [iblk]
  entry_read
  pointwise
  rw [agu]
  blk_ext [idx t]

theorem ib11 (t : Fin cfg0.N) (e : Fin 512) :
    (show FVec Ideal S1x512 .f32 from iblk m c 11 t) (ix2 0 e) = ark m c (ix2 (⟨e.val / 64, by omega⟩ : Fin 8) (⟨e.val % 64, by omega⟩ : Fin 64)) := by
  have hN := lt_N t
  blk_simp [iblk]
  entry_read
  pointwise
  rw [ark]
  blk_ext [idx t]

theorem ib12 (t : Fin cfg0.N) : Seg (show FVec Ideal S512x512 .f32 from iblk m c 12 t) := by
  intro k e
  have hN := lt_N t
  have hk := k.isLt
  have he := e.isLt
  have e0 : (((View.whole main_v14).slice (win0_12.rect t)).emb (ix2 k e) 0).val = k.val := by blk_simp [idx t]
  have e1 : (((View.whole main_v14).slice (win0_12.rect t)).emb (ix2 k e) 1).val = e.val := by blk_simp [idx t]
  blk_simp [iblk]
  entry_read
  pointwise
  rw [e0, e1, eq_at _ _ (by omega) (by omega)]

theorem cmp_eq {n k : Nat} (h : n = k) : IntOp.cmpi .eq (BitVec.ofNat 32 n) (BitVec.ofNat 32 k) = 1#1 := by
  subst h
  simp [IntOp.cmpi]

theorem cmp_ne {n k : Nat} (hn : n < 4294967296) (hk : k < 4294967296) (h : n ≠ k) : IntOp.cmpi .eq (BitVec.ofNat 32 n) (BitVec.ofNat 32 k) = 0#1 := by
  have h2 : BitVec.ofNat 32 n ≠ BitVec.ofNat 32 k := fun e => h (by
    have := congrArg BitVec.toNat e
    rwa [BitVec.toNat_ofNat, BitVec.toNat_ofNat, Nat.mod_eq_of_lt hn, Nat.mod_eq_of_lt hk] at this)
  show BitVec.ofBool (BitVec.ofNat 32 n == BitVec.ofNat 32 k) = 0#1
  rw [beq_eq_false_iff_ne.mpr h2]
  rfl

theorem sel_one {α : Type} (a b : α) : Scalar.select (1#1) a b = a := rfl
theorem sel_zero {α : Type} (a b : α) : Scalar.select (0#1) a b = b := rfl

theorem pay5_zero (i : grid0.Coords) (v0 : FVec Ideal S1x256x1824 .f32) (a b : FVec Ideal S1x1x1824 .f32) (u : FVec Ideal S1x1824 .f32) (r : Fin 256) (f : Fin 1824) (hr : r.val = 0) :
    k0_pay5 (F := Ideal) i v0 a b u (ix2 r f) = v0 (ix3 0 r f) + ((if (i 1).val = 0 then a (ix3 0 0 f) else b (ix3 0 0 f)) - v0 (ix3 0 r f)) * u (ix2 0 f) := by
  have hi : (i 1).val < 16 := (i 1).isLt
  by_cases h : (i 1).val = 0
  · rw [if_pos h]
    pointwise [k0_pay5]
    rw [cmp_eq hr, sel_one]
    exact congrArg (fun s => v0 (ix3 0 r f) + (Scalar.select s (a (ix3 0 0 f)) (b (ix3 0 0 f)) - v0 (ix3 0 r f)) * u (ix2 0 f)) (cmp_eq (n := (i 1).val) (k := 0) h)
  · rw [if_neg h]
    pointwise [k0_pay5]
    rw [cmp_eq hr, sel_one]
    exact congrArg (fun s => v0 (ix3 0 r f) + (Scalar.select s (a (ix3 0 0 f)) (b (ix3 0 0 f)) - v0 (ix3 0 r f)) * u (ix2 0 f)) (cmp_ne (n := (i 1).val) (k := 0) (by omega) (by omega) h)

theorem pay5_pos (i : grid0.Coords) (v0 : FVec Ideal S1x256x1824 .f32) (a b : FVec Ideal S1x1x1824 .f32) (u : FVec Ideal S1x1824 .f32) (r : Fin 256) (f : Fin 1824) (hr : r.val ≠ 0) :
    k0_pay5 (F := Ideal) i v0 a b u (ix2 r f) = v0 (ix3 0 r f) + (v0 (ix3 0 ⟨r.val - 1, by omega⟩ f) - v0 (ix3 0 r f)) * u (ix2 0 f) := by
  pointwise [k0_pay5]
  rw [cmp_ne (by omega) (by omega) hr, sel_zero]
  exact congrArg (fun k => v0 (ix3 0 r f) + (v0 (ix3 0 k f) - v0 (ix3 0 r f)) * u (ix2 0 f)) (Fin.ext (by dsimp only; omega))

theorem ld2 (x : S1x8x1824.Idx → Elt Ideal .f32) (f : Fin 1824) : View.ld x r0_2 (ix3 0 0 f) = x (ix3 0 7 f) := by pointwise

/-- Grid point `t`'s tile of shifted rows. -/
abbrev xs (t : Fin cfg0.N) : FVec Ideal S256x1824 .f32 := k0_pay5 (F := Ideal) (grid0.coords t) (iblk m c 0 t) (iblk m c 2 t) (View.ld (iblk m c 1 t) r0_2) (iblk m c 3 t)

theorem xs_at (t : Fin cfg0.N) (r : Fin 256) (f : Fin 1824) : xs m c t (ix2 r f) = sh (aC m c) (aP m c) (aM m c) (bt t) (rw' t r) f := by
  have hC := ib0 m c t
  have hM := ib3 m c t f
  have hP := ib2 m c t f
  have hH := ld2 (iblk m c 1 t) f
  by_cases h : r.val = 0
  · refine (pay5_zero _ _ _ _ _ r f h).trans ?_
    rw [coord1 t]
    refine congr (congrArg HAdd.hAdd (hC r f)) (congr (congrArg HMul.hMul (congr (congrArg HSub.hSub ?_) (hC r f))) hM)
    by_cases h1 : t.val % 16 = 0
    · rw [if_pos h1, prevR, if_pos (by show t.val % 16 * 256 + r.val = 0; omega)]
      exact hP
    · rw [if_neg h1, prevR, if_neg (by show ¬ t.val % 16 * 256 + r.val = 0; omega)]
      refine hH.trans ((ib1 m c t h1 f).trans (congrArg (fun k => aC m c (ix3 (bt t) k f)) (Fin.ext ?_)))
      show t.val % 16 * 256 - 1 = t.val % 16 * 256 + r.val - 1
      omega
  · refine (pay5_pos _ _ _ _ _ r f h).trans ?_
    refine congr (congrArg HAdd.hAdd (hC r f)) (congr (congrArg HMul.hMul (congr (congrArg HSub.hSub ?_) (hC r f))) hM)
    rw [prevR, if_neg (by show ¬ t.val % 16 * 256 + r.val = 0; omega)]
    refine (hC ⟨r.val - 1, by omega⟩ f).trans (congrArg (fun k => aC m c (ix3 (bt t) k f)) (Fin.ext ?_))
    show t.val % 16 * 256 + (r.val - 1) = t.val % 16 * 256 + r.val - 1
    omega

section Pays

variable (i : grid0.Coords) (v0 : FVec Ideal S1x256x1824 .f32) (a b : FVec Ideal S1x1x1824 .f32) (u : FVec Ideal S1x1824 .f32) (r : Fin 256)

/-- A row of the tile. -/
abbrev xr : Fin 1824 → EReal := fun f => k0_pay5 (F := Ideal) i v0 a b u (ix2 r f)

theorem pay6_at (e : Fin 512) : k0_pay6 (F := Ideal) i v0 a b u (ix2 r e) = rR (xr i v0 a b u r) e := by
  rw [k0_pay6, rR]
  generalize hY : k0_pay5 (F := Ideal) i v0 a b u = Y
  have hx : xr i v0 a b u r = fun f => Y (ix2 r f) := by rw [← hY]
  rw [hx]
  pointwise

theorem pay7_at (e : Fin 512) : k0_pay7 (F := Ideal) i v0 a b u (ix2 r e) = kR (xr i v0 a b u r) e := by
  rw [k0_pay7, kR]
  generalize hY : k0_pay5 (F := Ideal) i v0 a b u = Y
  have hx : xr i v0 a b u r = fun f => Y (ix2 r f) := by rw [← hY]
  rw [hx]
  pointwise

theorem pay8_at (e : Fin 512) : k0_pay8 (F := Ideal) i v0 a b u (ix2 r e) = vR (xr i v0 a b u r) e := by
  rw [k0_pay8, vR]
  generalize hY : k0_pay5 (F := Ideal) i v0 a b u = Y
  have hx : xr i v0 a b u r = fun f => Y (ix2 r f) := by rw [← hY]
  rw [hx]
  pointwise

theorem pay9_at (e : Fin 64) : k0_pay9 (F := Ideal) i v0 a b u (ix2 r e) = aR (xr i v0 a b u r) e := by
  rw [k0_pay9, aR]
  generalize hY : k0_pay5 (F := Ideal) i v0 a b u = Y
  have hx : xr i v0 a b u r = fun f => Y (ix2 r f) := by rw [← hY]
  rw [hx]
  pointwise

theorem pay10_at (e : Fin 160) : k0_pay10 (F := Ideal) i v0 a b u (ix2 r e) = gR (xr i v0 a b u r) e := by
  rw [k0_pay10, gR]
  generalize hY : k0_pay5 (F := Ideal) i v0 a b u = Y
  have hx : xr i v0 a b u r = fun f => Y (ix2 r f) := by rw [← hY]
  rw [hx]
  pointwise

theorem pay11_at (w : FVec Ideal S1x512 .f32) (g : FVec Ideal S64x512 .f32) (e : Fin 512) :
    k0_pay11 (F := Ideal) i v0 a b u w g (ix2 r e) = -(w (ix2 0 e) + ∑ j : Fin 64, Ideal.tanh (wR (xr i v0 a b u r) j) * g (ix2 j e)) := by
  rw [k0_pay11]
  generalize hY : k0_pay5 (F := Ideal) i v0 a b u = Y
  have hx : xr i v0 a b u r = fun f => Y (ix2 r f) := by rw [← hY]
  rw [hx]
  pointwise
  rw [zero_sub]
  rfl

theorem pay13_at (z : FVec Ideal S256x512 .f32) (e : Fin 512) : k0_pay13 (F := Ideal) z (k0_pay12 (F := Ideal)) (ix2 r e) = dec (z (ix2 r e)) := by
  pointwise [k0_pay13, k0_pay12]
  simp only [zero_sub]
  rfl

theorem pay14_at (y : FVec Ideal S256x64 .f32) (w : FVec Ideal S1x512 .f32) (g : FVec Ideal S64x512 .f32) (e : Fin 512) :
    k0_pay14 (F := Ideal) y w g (ix2 r e) = sg (w (ix2 0 e) + ∑ j : Fin 64, y (ix2 r j) * g (ix2 j e)) := by
  pointwise [k0_pay14]
  simp only [zero_sub]
  rfl

theorem pay15_at (y : FVec Ideal S256x160 .f32) (g : FVec Ideal S160x512 .f32) (e : Fin 512) :
    k0_pay15 (F := Ideal) y g (ix2 r e) = ∑ j : Fin 160, sg (y (ix2 r j)) * g (ix2 j e) := by
  pointwise [k0_pay15]
  simp only [zero_sub]
  rfl

theorem pay16_eq (s : FVec Ideal S512x512 .f32) (k e : Fin 512) : k0_pay16 (F := Ideal) s (ix2 k e) = s (ix2 k e) := by
  pointwise [k0_pay16]

theorem pay17_at (k : FVec Ideal S256x512 .f32) (s : FVec Ideal S512x512 .f32) (hs : Seg s) (w : FVec Ideal S1x512 .f32) (e : Fin 512) :
    k0_pay17 (F := Ideal) k (k0_pay16 s) w (ix2 r e) = kn (fun l => k (ix2 r l) * w (ix2 0 l)) e := by
  have hs' : ∀ k e, k0_pay16 (F := Ideal) s (ix2 k e) = if k.val / 64 = e.val / 64 then 1 else 0 := fun k e => (pay16_eq s k e).trans (hs k e)
  generalize k0_pay16 (F := Ideal) s = S at hs'
  rw [kn, ← head_sum (fun l => k (ix2 r l) * w (ix2 0 l) * (k (ix2 r l) * w (ix2 0 l))) (fun l => S (ix2 l e)) e (fun l => hs' l e)]
  pointwise [k0_pay17]

theorem pay18_at (k y : FVec Ideal S256x512 .f32) (w : FVec Ideal S1x512 .f32) (e : Fin 512) :
    k0_pay18 (F := Ideal) k y w (ix2 r e) = kt (k (ix2 r e)) (y (ix2 r e)) (w (ix2 0 e)) := by
  pointwise [k0_pay18]
  rfl

theorem pay19_at (z : FVec Ideal S256x512 .f32) (e : Fin 512) : k0_pay19 (F := Ideal) z (ix3 0 r e) = z (ix2 r e) := by pointwise [k0_pay19]
theorem pay20_at (z : FVec Ideal S256x512 .f32) (e : Fin 512) : k0_pay20 (F := Ideal) z (ix3 0 r e) = z (ix2 r e) := by pointwise [k0_pay20]
theorem pay22_at (z : FVec Ideal S256x512 .f32) (e : Fin 512) : k0_pay22 (F := Ideal) z (ix3 0 r e) = z (ix2 r e) := by pointwise [k0_pay22]
theorem pay1_at (z : FVec Ideal S256x512 .f32) (e : Fin 512) : k0_pay1 (F := Ideal) z (ix3 0 r e) = z (ix2 r e) := by pointwise [k0_pay1]
theorem pay3_at (z : FVec Ideal S256x512 .f32) (e : Fin 512) : k0_pay3 (F := Ideal) z (ix3 0 r e) = z (ix2 r e) := by pointwise [k0_pay3]
theorem pay2_at (y z : FVec Ideal S256x512 .f32) (e : Fin 512) : k0_pay2 (F := Ideal) y z (ix3 0 r e) = z (ix2 r e) * y (ix2 r e) := by
  pointwise [k0_pay2]
theorem pay21_at (k y : FVec Ideal S256x512 .f32) (w : FVec Ideal S1x512 .f32) (e : Fin 512) :
    k0_pay21 (F := Ideal) k y w (ix3 0 r e) = kt (k (ix2 r e)) (y (ix2 r e)) (w (ix2 0 e)) := by
  rw [← pay18_at, k0_pay21]
  generalize k0_pay18 (F := Ideal) k y w = Y
  pointwise
theorem pay23_at (k : FVec Ideal S256x512 .f32) (s : FVec Ideal S512x512 .f32) (w : FVec Ideal S1x512 .f32) (e : Fin 512) :
    k0_pay23 (F := Ideal) k s w (ix2 r e) = -k0_pay17 (F := Ideal) k s w (ix2 r e) := by
  rw [k0_pay23]
  generalize k0_pay17 (F := Ideal) k s w = Y
  pointwise
  exact zero_sub _

theorem pay4_at (y v : FVec Ideal S256x512 .f32) (s : FVec Ideal S512x512 .f32) (hs : Seg s) (k : FVec Ideal S256x512 .f32) (w : FVec Ideal S1x512 .f32) (e : Fin 512) :
    k0_pay4 (F := Ideal) y v (k0_pay16 s) k w (ix3 0 r e) = bon (fun l => y (ix2 r l)) (fun l => k (ix2 r l)) (fun l => w (ix2 0 l)) (fun l => v (ix2 r l)) e := by
  have hs' : ∀ k e, k0_pay16 (F := Ideal) s (ix2 k e) = if k.val / 64 = e.val / 64 then 1 else 0 := fun k e => (pay16_eq s k e).trans (hs k e)
  generalize k0_pay16 (F := Ideal) s = S at hs'
  rw [bon, ← head_sum (fun l => y (ix2 r l) * k (ix2 r l) * w (ix2 0 l)) (fun l => S (ix2 l e)) e (fun l => hs' l e)]
  pointwise [k0_pay4]

end Pays

/-- A row of the shifted sequence. -/
abbrev X (b : Fin 4) (n : Fin 4096) : Fin 1824 → EReal := sh (aC m c) (aP m c) (aM m c) b n

/-- The results. -/
def out13 : FVec Ideal S4x4096x512 .f32 := fun y => rR (X m c (y 0) (y 1)) (y 2)
def out14 : FVec Ideal S4x4096x512 .f32 := fun y => decayV (aw0 m c) (awu m c) (X m c (y 0) (y 1)) (y 2)
def out15 : FVec Ideal S4x4096x512 .f32 := fun y => ktV (aa0 m c) (aau m c) (aka m c) (X m c (y 0) (y 1)) (y 2)
def out16 : FVec Ideal S4x4096x512 .f32 := fun y => vR (X m c (y 0) (y 1)) (y 2)
def out17 : FVec Ideal S4x4096x512 .f32 := fun y => -knV (akk m c) (X m c (y 0) (y 1)) (y 2)
def out18 : FVec Ideal S4x4096x512 .f32 := fun y => knV (akk m c) (X m c (y 0) (y 1)) (y 2) * iclV (aa0 m c) (aau m c) (X m c (y 0) (y 1)) (y 2)
def out19 : FVec Ideal S4x4096x512 .f32 := fun y => gateV (agu m c) (X m c (y 0) (y 1)) (y 2)
def out20 : FVec Ideal S4x4096x512 .f32 := fun y => bonV (aa0 m c) (aau m c) (aka m c) (ark m c) (X m c (y 0) (y 1)) (y 2)

section Tile

variable (t : Fin cfg0.N) (r : Fin 256) (e : Fin 512)

theorem xr_eq : xr (grid0.coords t) (iblk m c 0 t) (iblk m c 2 t) (View.ld (iblk m c 1 t) r0_2) (iblk m c 3 t) r = X m c (bt t) (rw' t r) := funext fun f => xs_at m c t r f

abbrev q6 := k0_pay6 (F := Ideal) (grid0.coords t) (iblk m c 0 t) (iblk m c 2 t) (View.ld (iblk m c 1 t) r0_2) (iblk m c 3 t)
theorem q6_at (e : Fin 512) : q6 m c t (ix2 r e) = rR (X m c (bt t) (rw' t r)) e := (pay6_at _ _ _ _ _ r e).trans (congrArg (fun x => rR x e) (xr_eq m c t r))

abbrev q7 := k0_pay7 (F := Ideal) (grid0.coords t) (iblk m c 0 t) (iblk m c 2 t) (View.ld (iblk m c 1 t) r0_2) (iblk m c 3 t)
theorem q7_at (e : Fin 512) : q7 m c t (ix2 r e) = kR (X m c (bt t) (rw' t r)) e := (pay7_at _ _ _ _ _ r e).trans (congrArg (fun x => kR x e) (xr_eq m c t r))

abbrev q8 := k0_pay8 (F := Ideal) (grid0.coords t) (iblk m c 0 t) (iblk m c 2 t) (View.ld (iblk m c 1 t) r0_2) (iblk m c 3 t)
theorem q8_at (e : Fin 512) : q8 m c t (ix2 r e) = vR (X m c (bt t) (rw' t r)) e := (pay8_at _ _ _ _ _ r e).trans (congrArg (fun x => vR x e) (xr_eq m c t r))

abbrev q9 := k0_pay9 (F := Ideal) (grid0.coords t) (iblk m c 0 t) (iblk m c 2 t) (View.ld (iblk m c 1 t) r0_2) (iblk m c 3 t)
theorem q9_at (e : Fin 64) : q9 m c t (ix2 r e) = aR (X m c (bt t) (rw' t r)) e := (pay9_at _ _ _ _ _ r e).trans (congrArg (fun x => aR x e) (xr_eq m c t r))

abbrev q10 := k0_pay10 (F := Ideal) (grid0.coords t) (iblk m c 0 t) (iblk m c 2 t) (View.ld (iblk m c 1 t) r0_2) (iblk m c 3 t)
theorem q10_at (e : Fin 160) : q10 m c t (ix2 r e) = gR (X m c (bt t) (rw' t r)) e := (pay10_at _ _ _ _ _ r e).trans (congrArg (fun x => gR x e) (xr_eq m c t r))

abbrev q14 := k0_pay14 (F := Ideal) (q9 m c t) (iblk m c 6 t) (iblk m c 7 t)
theorem q14_at : q14 m c t (ix2 r e) = iclV (aa0 m c) (aau m c) (X m c (bt t) (rw' t r)) e := by
  refine (pay14_at _ _ _ _ _).trans ?_
  exact congrArg sg (congr (congrArg HAdd.hAdd (ib6 m c t e)) (Finset.sum_congr rfl fun j _ => congr (congrArg HMul.hMul (q9_at m c t r j)) (ib7 m c t j e)))

abbrev q17 := k0_pay17 (F := Ideal) (q7 m c t) (k0_pay16 (iblk m c 12 t)) (iblk m c 9 t)
theorem q17_at : q17 m c t (ix2 r e) = knV (akk m c) (X m c (bt t) (rw' t r)) e := by
  refine (pay17_at _ _ _ (ib12 m c t) _ _).trans ?_
  exact congrArg (fun x => kn x e) (funext fun l => congr (congrArg HMul.hMul (q7_at m c t r l)) (ib9 m c t l))

theorem at15 : k0_pay18 (F := Ideal) (q7 m c t) (q14 m c t) (iblk m c 10 t) (ix2 r e) = ktV (aa0 m c) (aau m c) (aka m c) (X m c (bt t) (rw' t r)) e := by
  refine (pay18_at _ _ _ _ _).trans ?_
  exact congr (congr (congrArg kt (q7_at m c t r e)) (q14_at m c t r e)) (ib10 m c t e)

theorem out13_at : k0_pay19 (F := Ideal) (q6 m c t) (ix3 0 r e) = out13 m c (ix3 (bt t) (rw' t r) e) := (pay19_at _ _ _).trans (q6_at m c t r e)

theorem out14_at : k0_pay20 (F := Ideal) (k0_pay13 (F := Ideal) (k0_pay11 (F := Ideal) (grid0.coords t) (iblk m c 0 t) (iblk m c 2 t) (View.ld (iblk m c 1 t) r0_2) (iblk m c 3 t) (iblk m c 4 t) (iblk m c 5 t)) (k0_pay12 (F := Ideal))) (ix3 0 r e)
    = out14 m c (ix3 (bt t) (rw' t r) e) := by
  refine (pay20_at _ _ _).trans ((pay13_at _ _ _).trans (congrArg dec ((pay11_at _ _ _ _ _ _ _ _ _).trans (congrArg Neg.neg ?_))))
  rw [xr_eq]
  exact congr (congrArg HAdd.hAdd (ib4 m c t e)) (Finset.sum_congr rfl fun j _ => congrArg (fun z => Ideal.tanh (wR (X m c (bt t) (rw' t r)) j) * z) (ib5 m c t j e))

theorem out15_at : k0_pay21 (F := Ideal) (q7 m c t) (q14 m c t) (iblk m c 10 t) (ix3 0 r e) = out15 m c (ix3 (bt t) (rw' t r) e) :=
  (pay21_at _ _ _ _ _).trans ((pay18_at _ _ _ _ _).symm.trans (at15 m c t r e))

theorem out16_at : k0_pay22 (F := Ideal) (q8 m c t) (ix3 0 r e) = out16 m c (ix3 (bt t) (rw' t r) e) := (pay22_at _ _ _).trans (q8_at m c t r e)

theorem out17_at : k0_pay1 (F := Ideal) (k0_pay23 (F := Ideal) (q7 m c t) (k0_pay16 (iblk m c 12 t)) (iblk m c 9 t)) (ix3 0 r e) = out17 m c (ix3 (bt t) (rw' t r) e) :=
  (pay1_at _ _ _).trans ((pay23_at _ _ _ _ _).trans (congrArg Neg.neg (q17_at m c t r e)))

theorem out18_at : k0_pay2 (F := Ideal) (q14 m c t) (q17 m c t) (ix3 0 r e) = out18 m c (ix3 (bt t) (rw' t r) e) :=
  (pay2_at _ _ _ _).trans (congr (congrArg HMul.hMul (q17_at m c t r e)) (q14_at m c t r e))

theorem out19_at : k0_pay3 (F := Ideal) (k0_pay15 (F := Ideal) (q10 m c t) (iblk m c 8 t)) (ix3 0 r e) = out19 m c (ix3 (bt t) (rw' t r) e) := by
  refine (pay3_at _ _ _).trans ((pay15_at _ _ _ _).trans ?_)
  exact Finset.sum_congr rfl fun j _ => congr (congrArg HMul.hMul (congrArg sg (q10_at m c t r j))) (ib8 m c t j e)

theorem out20_at : k0_pay4 (F := Ideal) (q6 m c t) (q8 m c t) (k0_pay16 (iblk m c 12 t)) (k0_pay18 (F := Ideal) (q7 m c t) (q14 m c t) (iblk m c 10 t)) (iblk m c 11 t) (ix3 0 r e)
    = out20 m c (ix3 (bt t) (rw' t r) e) := by
  refine (pay4_at _ _ _ _ (ib12 m c t) _ _ _).trans ?_
  exact congrFun (congr (congr (congr (congrArg bon (funext fun l => q6_at m c t r l)) (funext fun l => at15 m c t r l)) (funext fun l => ib11 m c t l)) (funext fun l => q8_at m c t r l)) e

theorem ez (z : S4x4096x512.Idx) (e0 : (z 0).val = t.val / 16) (e1 : (z 1).val = t.val % 16 * 256 + r.val) (e2 : (z 2).val = e.val) : z = ix3 (bt t) (rw' t r) e := by
  have a0 : z 0 = bt t := Fin.ext e0
  have a1 : z 1 = rw' t r := Fin.ext e1
  have a2 : z 2 = e := Fin.ext e2
  rw [← a0, ← a1, ← a2]
  exact eq_ix3 z

end Tile

theorem eq_one (y : S1x256x512.Idx) : y = ix3 0 (y 1) (y 2) := by
  have h : (show Fin 1 from y 0) = 0 := Subsingleton.elim _ _
  exact (eq_ix3 y).trans (congrArg (fun k => ix3 k (y 1) (y 2)) h)

end Cert.Kernel13Ideal.Val

end
-- ==== Proof.RwPreOut.lean ====
/- The arrays of the kernel's results. -/
module

public import proofs.«01_k».proof.Defs
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import Idealize.ShloMosaic.Lib.Pipeline.ValueKit
public import Idealize.ShloMosaic.Lib.Claim
public import proofs.«01_k».proof.Proof.RwRow
public import proofs.«01_k».proof.Proof.RwPre

@[expose] public section

set_option maxRecDepth 16384

noncomputable section

namespace Cert.Kernel13Ideal.Val

open Idealize.ShloMosaic Idealize.ShloMosaic.TcCoe Idealize.SL.Sem Cert.Kernel13Ideal Cert.Kernel13Ideal.Gen Cert.Rw

variable (m : (ℓ : Loc nD τ sig) → Buf (Elt Ideal) ℓ) (c : Dev nD)

section Tile

variable (t : Fin cfg0.N)

theorem k24 : k0_pay24 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = q6 m c t := by
  rw [k0_pay24]
  simp (disch := decide) only [View.ld_unit_lit]
  rfl

theorem k25 : k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = q7 m c t := by
  rw [k0_pay25]
  simp (disch := decide) only [View.ld_unit_lit]
  rfl

theorem k26 : k0_pay26 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = q8 m c t := by
  rw [k0_pay26]
  simp (disch := decide) only [View.ld_unit_lit]
  rfl

theorem k27 : k0_pay27 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = q14 m c t := by
  rw [k0_pay27]
  simp (disch := decide) only [View.ld_unit_lit]
  rfl

theorem k28 : k0_pay28 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = k0_pay16 (F := Ideal) (iblk m c 12 t) := by
  rw [k0_pay28]
  simp (disch := decide) only [View.ld_unit_lit]

end Tile

theorem final13 : (dats m 0 c).arrAt 13 (cfgs 0).N = out13 m c := by
  refine (dats m 0 c).arrAt_eq_of_covers 13 (out13 m c) (by decide +kernel) fun t hf y => ?_
  have e0 : ((win0_13.blk t).view.emb y 0).val = t.val / 16 := by blk_simp [idxo t]
  have e1 : ((win0_13.blk t).view.emb y 1).val = t.val % 16 * 256 + (y 1).val := by blk_simp [idxo t]
  have e2 : ((win0_13.blk t).view.emb y 2).val = (y 2).val := by blk_simp [idxo t]
  have hy : (show S1x256x512.Idx from y) = ix3 0 (y 1) (y 2) := eq_one _
  blk_simp
  rw [after0_13]
  generalize (win0_13.blk t).view.emb y = z at *
  frame_out
  simp only [k24, k25, k26, k27, k28]
  exact (congrArg (k0_pay19 (F := Ideal) (q6 m c t)) hy).trans ((out13_at m c t (y 1) (y 2)).trans (congrArg (out13 m c) (ez t (y 1) (y 2) z e0 e1 e2)).symm)

theorem final14 : (dats m 0 c).arrAt 14 (cfgs 0).N = out14 m c := by
  refine (dats m 0 c).arrAt_eq_of_covers 14 (out14 m c) (by decide +kernel) fun t hf y => ?_
  have e0 : ((win0_14.blk t).view.emb y 0).val = t.val / 16 := by blk_simp [idxo t]
  have e1 : ((win0_14.blk t).view.emb y 1).val = t.val % 16 * 256 + (y 1).val := by blk_simp [idxo t]
  have e2 : ((win0_14.blk t).view.emb y 2).val = (y 2).val := by blk_simp [idxo t]
  have hy : (show S1x256x512.Idx from y) = ix3 0 (y 1) (y 2) := eq_one _
  blk_simp
  rw [after0_14]
  generalize (win0_14.blk t).view.emb y = z at *
  frame_out
  exact (congrArg (k0_pay20 (F := Ideal) (k0_pay13 (F := Ideal) (k0_pay11 (F := Ideal) (grid0.coords t) (iblk m c 0 t) (iblk m c 2 t) (View.ld (iblk m c 1 t) r0_2) (iblk m c 3 t) (iblk m c 4 t) (iblk m c 5 t)) (k0_pay12 (F := Ideal)))) hy).trans ((out14_at m c t (y 1) (y 2)).trans (congrArg (out14 m c) (ez t (y 1) (y 2) z e0 e1 e2)).symm)

theorem final15 : (dats m 0 c).arrAt 15 (cfgs 0).N = out15 m c := by
  refine (dats m 0 c).arrAt_eq_of_covers 15 (out15 m c) (by decide +kernel) fun t hf y => ?_
  have e0 : ((win0_15.blk t).view.emb y 0).val = t.val / 16 := by blk_simp [idxo t]
  have e1 : ((win0_15.blk t).view.emb y 1).val = t.val % 16 * 256 + (y 1).val := by blk_simp [idxo t]
  have e2 : ((win0_15.blk t).view.emb y 2).val = (y 2).val := by blk_simp [idxo t]
  have hy : (show S1x256x512.Idx from y) = ix3 0 (y 1) (y 2) := eq_one _
  blk_simp
  rw [after0_15]
  generalize (win0_15.blk t).view.emb y = z at *
  frame_out
  simp only [k24, k25, k26, k27, k28]
  exact (congrArg (k0_pay21 (F := Ideal) (q7 m c t) (q14 m c t) (iblk m c 10 t)) hy).trans ((out15_at m c t (y 1) (y 2)).trans (congrArg (out15 m c) (ez t (y 1) (y 2) z e0 e1 e2)).symm)

theorem final16 : (dats m 0 c).arrAt 16 (cfgs 0).N = out16 m c := by
  refine (dats m 0 c).arrAt_eq_of_covers 16 (out16 m c) (by decide +kernel) fun t hf y => ?_
  have e0 : ((win0_16.blk t).view.emb y 0).val = t.val / 16 := by blk_simp [idxo t]
  have e1 : ((win0_16.blk t).view.emb y 1).val = t.val % 16 * 256 + (y 1).val := by blk_simp [idxo t]
  have e2 : ((win0_16.blk t).view.emb y 2).val = (y 2).val := by blk_simp [idxo t]
  have hy : (show S1x256x512.Idx from y) = ix3 0 (y 1) (y 2) := eq_one _
  blk_simp
  rw [after0_16]
  generalize (win0_16.blk t).view.emb y = z at *
  frame_out
  simp only [k24, k25, k26, k27, k28]
  exact (congrArg (k0_pay22 (F := Ideal) (q8 m c t)) hy).trans ((out16_at m c t (y 1) (y 2)).trans (congrArg (out16 m c) (ez t (y 1) (y 2) z e0 e1 e2)).symm)

theorem final17 : (dats m 0 c).arrAt 17 (cfgs 0).N = out17 m c := by
  refine (dats m 0 c).arrAt_eq_of_covers 17 (out17 m c) (by decide +kernel) fun t hf y => ?_
  have e0 : ((win0_17.blk t).view.emb y 0).val = t.val / 16 := by blk_simp [idxo t]
  have e1 : ((win0_17.blk t).view.emb y 1).val = t.val % 16 * 256 + (y 1).val := by blk_simp [idxo t]
  have e2 : ((win0_17.blk t).view.emb y 2).val = (y 2).val := by blk_simp [idxo t]
  have hy : (show S1x256x512.Idx from y) = ix3 0 (y 1) (y 2) := eq_one _
  blk_simp
  rw [after0_17]
  generalize (win0_17.blk t).view.emb y = z at *
  frame_out
  simp only [k24, k25, k26, k27, k28]
  exact (congrArg (k0_pay1 (F := Ideal) (k0_pay23 (F := Ideal) (q7 m c t) (k0_pay16 (iblk m c 12 t)) (iblk m c 9 t))) hy).trans ((out17_at m c t (y 1) (y 2)).trans (congrArg (out17 m c) (ez t (y 1) (y 2) z e0 e1 e2)).symm)

theorem final18 : (dats m 0 c).arrAt 18 (cfgs 0).N = out18 m c := by
  refine (dats m 0 c).arrAt_eq_of_covers 18 (out18 m c) (by decide +kernel) fun t hf y => ?_
  have e0 : ((win0_18.blk t).view.emb y 0).val = t.val / 16 := by blk_simp [idxo t]
  have e1 : ((win0_18.blk t).view.emb y 1).val = t.val % 16 * 256 + (y 1).val := by blk_simp [idxo t]
  have e2 : ((win0_18.blk t).view.emb y 2).val = (y 2).val := by blk_simp [idxo t]
  have hy : (show S1x256x512.Idx from y) = ix3 0 (y 1) (y 2) := eq_one _
  blk_simp
  rw [after0_18]
  generalize (win0_18.blk t).view.emb y = z at *
  frame_out
  simp only [k24, k25, k26, k27, k28]
  exact (congrArg (k0_pay2 (F := Ideal) (q14 m c t) (q17 m c t)) hy).trans ((out18_at m c t (y 1) (y 2)).trans (congrArg (out18 m c) (ez t (y 1) (y 2) z e0 e1 e2)).symm)

theorem final19 : (dats m 0 c).arrAt 19 (cfgs 0).N = out19 m c := by
  refine (dats m 0 c).arrAt_eq_of_covers 19 (out19 m c) (by decide +kernel) fun t hf y => ?_
  have e0 : ((win0_19.blk t).view.emb y 0).val = t.val / 16 := by blk_simp [idxo t]
  have e1 : ((win0_19.blk t).view.emb y 1).val = t.val % 16 * 256 + (y 1).val := by blk_simp [idxo t]
  have e2 : ((win0_19.blk t).view.emb y 2).val = (y 2).val := by blk_simp [idxo t]
  have hy : (show S1x256x512.Idx from y) = ix3 0 (y 1) (y 2) := eq_one _
  blk_simp
  rw [after0_19]
  generalize (win0_19.blk t).view.emb y = z at *
  frame_out
  exact (congrArg (k0_pay3 (F := Ideal) (k0_pay15 (F := Ideal) (q10 m c t) (iblk m c 8 t))) hy).trans ((out19_at m c t (y 1) (y 2)).trans (congrArg (out19 m c) (ez t (y 1) (y 2) z e0 e1 e2)).symm)

theorem final20 : (dats m 0 c).arrAt 20 (cfgs 0).N = out20 m c := by
  refine (dats m 0 c).arrAt_eq_of_covers 20 (out20 m c) (by decide +kernel) fun t hf y => ?_
  have e0 : ((win0_20.blk t).view.emb y 0).val = t.val / 16 := by blk_simp [idxo t]
  have e1 : ((win0_20.blk t).view.emb y 1).val = t.val % 16 * 256 + (y 1).val := by blk_simp [idxo t]
  have e2 : ((win0_20.blk t).view.emb y 2).val = (y 2).val := by blk_simp [idxo t]
  have hy : (show S1x256x512.Idx from y) = ix3 0 (y 1) (y 2) := eq_one _
  blk_simp
  rw [after0_20]
  generalize (win0_20.blk t).view.emb y = z at *
  frame_out
  simp only [k24, k25, k26, k27, k28]
  exact (congrArg (k0_pay4 (F := Ideal) (q6 m c t) (q8 m c t) (k0_pay16 (iblk m c 12 t)) (k0_pay18 (F := Ideal) (q7 m c t) (q14 m c t) (iblk m c 10 t)) (iblk m c 11 t)) hy).trans ((out20_at m c t (y 1) (y 2)).trans (congrArg (out20 m c) (ez t (y 1) (y 2) z e0 e1 e2)).symm)

end Cert.Kernel13Ideal.Val

end
-- ==== Proof.RwPreRef.lean ====
/- The reference's values before the recurrence. -/
module

public import proofs.«01_k».proof.Defs
public import proofs.«01_k».proof.Proof.Gen.Reference13Ideal
public import proofs.«01_k».proof.Proof.Gen.Reference13Ideal.Run
public import Idealize.ShloMosaic.Lib.Pipeline.ValueKit
public import Idealize.ShloMosaic.Lib.Claim
public import proofs.«01_k».proof.Proof.RwRow
public import proofs.«01_k».proof.Proof.RwPreOut

@[expose] public section

set_option maxRecDepth 16384

noncomputable section

namespace Cert.Reference13Ideal.Val

open Idealize.ShloMosaic Idealize.ShloMosaic.TcCoe Idealize.SL.Sem Cert.Reference13Ideal Cert.Reference13Ideal.Gen Cert.Rw

/-- The sequence moved one row on. -/
def cc (C : FVec Ideal S4x4096x1824 .f32) (P : FVec Ideal S4x1824 .f32) : FVec Ideal S4x4096x1824 .f32 :=
  concatenate S4x4096x1824 1 [⟨S4x1x1824, (broadcastInDim S4x1x1824 ![0, 2] bcast_S4x1824_S4x1x1824_0_2 P)⟩, ⟨S4x4095x1824, (extractStridedSlice S4x4095x1824 ![0, 0, 0] C slices_S4x4096x1824_S4x4095x1824_0_0_0)⟩] concatenates_S4x1x1824_S4x4095x1824_S4x4096x1824_d1

theorem cc_at (C : FVec Ideal S4x4096x1824 .f32) (P : FVec Ideal S4x1824 .f32) (b : Fin 4) (n : Fin 4096) (f : Fin 1824) : cc C P (ix3 b n f) = prevR C P b n f := by
  rw [cc, prevR]
  by_cases h : n.val < 1
  · rw [if_pos (by omega)]
    pointwise
    rw [dif_pos (by exact h)]
  · rw [if_neg (by omega)]
    pointwise
    rw [dif_neg (by exact h)]

def xs (C : FVec Ideal S4x4096x1824 .f32) (P : FVec Ideal S4x1824 .f32) (M : FVec Ideal S1824 .f32) : FVec Ideal S4x4096x1824 .f32 :=
  addf C (mulf (subf (cc C P) C) (broadcastInDim S4x4096x1824 ![0, 1, 2] bcast_S1x1x1824_S4x4096x1824_0_1_2 (broadcastInDim S1x1x1824 ![2] bcast_S1824_S1x1x1824_2 M)))

theorem xs_at (C : FVec Ideal S4x4096x1824 .f32) (P : FVec Ideal S4x1824 .f32) (M : FVec Ideal S1824 .f32) (b : Fin 4) (n : Fin 4096) (f : Fin 1824) : xs C P M (ix3 b n f) = sh C P M b n f := by
  rw [xs, sh, ← cc_at]
  generalize cc C P = D
  pointwise

/-- An entry of an array split into heads. -/
def hx (b : Fin 4) (n : Fin 4096) (e : Fin 512) : S4x4096x8x64.Idx := ix4 b n (⟨e.val / 64, by omega⟩ : Fin 8) (⟨e.val % 64, by omega⟩ : Fin 64)

theorem hx_hd (b : Fin 4) (n : Fin 4096) (e : Fin 512) (j : Fin 64) : hx b n (hd e j) = ix4 b n (⟨e.val / 64, by omega⟩ : Fin 8) j := by
  have h1 : (e.val / 64 * 64 + j.val) / 64 = e.val / 64 := by omega
  have h2 : (e.val / 64 * 64 + j.val) % 64 = j.val := by omega
  simp only [hx, hd, h1, h2]

abbrev toH (Z : FVec Ideal S4x4096x512 .f32) : FVec Ideal S4x4096x8x64 .f32 := shapeCast _ Z shapeCasts_S4x4096x512_S4x4096x8x64
abbrev ofH (Z : FVec Ideal S4x4096x8x64 .f32) : FVec Ideal S4x4096x512 .f32 := shapeCast _ Z shapeCasts_S4x4096x8x64_S4x4096x512

theorem toH_at (Z : FVec Ideal S4x4096x512 .f32) (b : Fin 4) (n : Fin 4096) (e : Fin 512) : toH Z (hx b n e) = Z (ix3 b n e) := by
  have h : e.val / 64 * 64 + e.val % 64 = e.val := by omega
  rw [hx]
  pointwise

theorem ofH_at (Z : FVec Ideal S4x4096x8x64 .f32) (b : Fin 4) (n : Fin 4096) (e : Fin 512) : ofH Z (ix3 b n e) = Z (hx b n e) := by
  rw [hx]
  pointwise

/-- A vector along the heads. -/
abbrev wv (w : FVec Ideal S8x64 .f32) : FVec Ideal S4x4096x8x64 .f32 := broadcastInDim S4x4096x8x64 ![0, 1, 2, 3] bcast_S1x1x8x64_S4x4096x8x64_0_1_2_3 (broadcastInDim S1x1x8x64 ![2, 3] bcast_S8x64_S1x1x8x64_2_3 w)

theorem wv_at (w : FVec Ideal S8x64 .f32) (b : Fin 4) (n : Fin 4096) (e : Fin 512) : wv w (hx b n e) = w (ix2 (⟨e.val / 64, by omega⟩ : Fin 8) (⟨e.val % 64, by omega⟩ : Fin 64)) := by
  rw [hx]
  pointwise

theorem wc_at (w : FVec Ideal S512 .f32) (b : Fin 4) (n : Fin 4096) (e : Fin 512) : wv (shapeCast _ w shapeCasts_S512_S8x64) (hx b n e) = w (ix1 e) := by
  rw [wv_at]
  pointwise

/-- The slices. -/
abbrev sR (Y : FVec Ideal S4x4096x1824 .f32) : FVec Ideal S4x4096x512 .f32 := extractStridedSlice S4x4096x512 ![0, 0, 0] Y slices_S4x4096x1824_S4x4096x512_0_0_0
abbrev sK (Y : FVec Ideal S4x4096x1824 .f32) : FVec Ideal S4x4096x512 .f32 := extractStridedSlice S4x4096x512 ![0, 0, 512] Y slices_S4x4096x1824_S4x4096x512_0_0_512
abbrev sV (Y : FVec Ideal S4x4096x1824 .f32) : FVec Ideal S4x4096x512 .f32 := extractStridedSlice S4x4096x512 ![0, 0, 1024] Y slices_S4x4096x1824_S4x4096x512_0_0_1024

variable (Y : FVec Ideal S4x4096x1824 .f32) (b : Fin 4) (n : Fin 4096) (e : Fin 512)

/-- A row of the shifted sequence. -/
abbrev yr : Fin 1824 → EReal := fun f => Y (ix3 b n f)

theorem sR_at : sR Y (ix3 b n e) = rR (yr Y b n) e := by
  rw [rR]
  pointwise
theorem sK_at : sK Y (ix3 b n e) = kR (yr Y b n) e := by
  rw [kR]
  pointwise
theorem sV_at : sV Y (ix3 b n e) = vR (yr Y b n) e := by
  rw [vR]
  pointwise

theorem rH_at : toH (sR Y) (hx b n e) = rR (yr Y b n) e := (toH_at _ b n e).trans (sR_at Y b n e)
theorem kH_at : toH (sK Y) (hx b n e) = kR (yr Y b n) e := (toH_at _ b n e).trans (sK_at Y b n e)
theorem vH_at : toH (sV Y) (hx b n e) = vR (yr Y b n) e := (toH_at _ b n e).trans (sV_at Y b n e)

theorem r80 : ofH (toH (sR Y)) (ix3 b n e) = rR (yr Y b n) e := (ofH_at _ b n e).trans (rH_at Y b n e)
theorem r83 : ofH (toH (sV Y)) (ix3 b n e) = vR (yr Y b n) e := (ofH_at _ b n e).trans (vH_at Y b n e)

/-- The rate within the context. -/
def aT (A0 : FVec Ideal S512 .f32) (AU : FVec Ideal S64x512 .f32) : FVec Ideal S4x4096x512 .f32 :=
  Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (addf (broadcastInDim S4x4096x512 ![0, 1, 2] bcast_S1x1x512_S4x4096x512_0_1_2 (broadcastInDim S1x1x512 ![2] bcast_S512_S1x1x512_2 A0)) (Host.dotGeneral dot_S4x4096x64_S64x512_S4x4096x512_2_0_01_1_n_n none (extractStridedSlice S4x4096x64 ![0, 0, 1600] Y slices_S4x4096x1824_S4x4096x64_0_0_1600) AU)))))

theorem aT_at (A0 : FVec Ideal S512 .f32) (AU : FVec Ideal S64x512 .f32) : aT Y A0 AU (ix3 b n e) = iclV A0 AU (yr Y b n) e := by
  rw [aT, iclV, icl, sg]
  simp only [aR]
  pointwise

theorem aH_at (A0 : FVec Ideal S512 .f32) (AU : FVec Ideal S64x512 .f32) : toH (aT Y A0 AU) (hx b n e) = iclV A0 AU (yr Y b n) e := (toH_at _ b n e).trans (aT_at Y b n e A0 AU)

abbrev oneH : FVec Ideal S4x4096x8x64 .f32 := broadcastInDim S4x4096x8x64 ![] bcast_S_S4x4096x8x64 (constant S_ .f32 0x3F800000#32)

theorem oneH_at (i : S4x4096x8x64.Idx) : oneH i = (1 : EReal) := Ideal.ofBits_one_f32

/-- The key the state takes. -/
abbrev k2 (A0 : FVec Ideal S512 .f32) (AU : FVec Ideal S64x512 .f32) (KA : FVec Ideal S512 .f32) : FVec Ideal S4x4096x8x64 .f32 :=
  mulf (toH (sK Y)) (addf oneH (mulf (subf (toH (aT Y A0 AU)) oneH) (wv (shapeCast _ KA shapeCasts_S512_S8x64))))

theorem k2_at (A0 : FVec Ideal S512 .f32) (AU : FVec Ideal S64x512 .f32) (KA : FVec Ideal S512 .f32) : k2 Y A0 AU KA (hx b n e) = ktV A0 AU KA (yr Y b n) e := by
  show toH (sK Y) (hx b n e) * (oneH (hx b n e) + (toH (aT Y A0 AU) (hx b n e) - oneH (hx b n e)) * wv (shapeCast _ KA shapeCasts_S512_S8x64) (hx b n e)) = _
  rw [kH_at, aH_at, wc_at, oneH_at]
  rfl

theorem r82 (A0 : FVec Ideal S512 .f32) (AU : FVec Ideal S64x512 .f32) (KA : FVec Ideal S512 .f32) : ofH (k2 Y A0 AU KA) (ix3 b n e) = ktV A0 AU KA (yr Y b n) e := (ofH_at _ b n e).trans (k2_at Y b n e A0 AU KA)

/-- The sum over a head. -/
def hs (Z : FVec Ideal S4x4096x8x64 .f32) : FVec Ideal S4x4096x8x1 .f32 :=
  broadcastInDim S4x4096x8x1 ![0, 1, 2] bcast_S4x4096x8_S4x4096x8x1_0_1_2 (Host.reduceAdd Z (constant S_ .f32 0x00000000#32) reducesTo_S4x4096x8x64_S4x4096x8_d3 h_S_)

def sp (Z : FVec Ideal S4x4096x8x1 .f32) : FVec Ideal S4x4096x8x64 .f32 := broadcastInDim S4x4096x8x64 ![0, 1, 2, 3] bcast_S4x4096x8x1_S4x4096x8x64_0_1_2_3 Z

theorem sp_at (Z : FVec Ideal S4x4096x8x1 .f32) : sp Z (hx b n e) = Z (ix4 b n (⟨e.val / 64, by omega⟩ : Fin 8) 0) := by
  rw [sp, hx]
  pointwise

theorem hs_at (Z : FVec Ideal S4x4096x8x64 .f32) : hs Z (ix4 b n (⟨e.val / 64, by omega⟩ : Fin 8) 0) = ∑ j, Z (hx b n (hd e j)) := by
  simp only [hx_hd]
  rw [hs]
  pointwise

/-- The normalised key. -/
abbrev knT (KK : FVec Ideal S4x4096x8x64 .f32) : FVec Ideal S4x4096x8x64 .f32 :=
  mulf KK (sp (Host.rsqrt (maximumf (hs (mulf KK KK)) (broadcastInDim S4x4096x8x1 ![] bcast_S_S4x4096x8x1 (constant S_ .f32 0x179ABE15#32)))))

theorem knT_at (KK : FVec Ideal S4x4096x8x64 .f32) : knT KK (hx b n e) = kn (fun l => KK (hx b n l)) e := by
  show KK (hx b n e) * sp _ (hx b n e) = _
  rw [sp_at]
  show KK (hx b n e) * Ideal.rsqrt (max (hs (mulf KK KK) (ix4 b n (⟨e.val / 64, by omega⟩ : Fin 8) 0)) (Ideal.ofBits .f32 0x179ABE15#32)) = _
  rw [hs_at]
  rfl

abbrev kkT (KK : FVec Ideal S512 .f32) : FVec Ideal S4x4096x8x64 .f32 := mulf (toH (sK Y)) (wv (shapeCast _ KK shapeCasts_S512_S8x64))

theorem kkT_at (KK : FVec Ideal S512 .f32) : kkT Y KK (hx b n e) = kR (yr Y b n) e * KK (ix1 e) := by
  show toH (sK Y) (hx b n e) * wv (shapeCast _ KK shapeCasts_S512_S8x64) (hx b n e) = _
  rw [kH_at, wc_at]

theorem kn_at (KK : FVec Ideal S512 .f32) : knT (kkT Y KK) (hx b n e) = knV KK (yr Y b n) e := by
  rw [knT_at, knV]
  exact congrArg (fun x => kn x e) (funext fun l => kkT_at Y b n l KK)

theorem r84 (KK : FVec Ideal S512 .f32) : ofH (Host.negf (knT (kkT Y KK))) (ix3 b n e) = -knV KK (yr Y b n) e :=
  (ofH_at _ b n e).trans (congrArg Neg.neg (kn_at Y b n e KK))

theorem r85 (KK A0 : FVec Ideal S512 .f32) (AU : FVec Ideal S64x512 .f32) : ofH (mulf (knT (kkT Y KK)) (toH (aT Y A0 AU))) (ix3 b n e) = knV KK (yr Y b n) e * iclV A0 AU (yr Y b n) e :=
  (ofH_at _ b n e).trans (congr (congrArg HMul.hMul (kn_at Y b n e KK)) (aH_at Y b n e A0 AU))

theorem r86 (A0 : FVec Ideal S512 .f32) (AU : FVec Ideal S64x512 .f32) (KA : FVec Ideal S512 .f32) (RK : FVec Ideal S8x64 .f32) :
    ofH (mulf (sp (hs (mulf (mulf (toH (sR Y)) (k2 Y A0 AU KA)) (wv RK)))) (toH (sV Y))) (ix3 b n e) = bonV A0 AU KA RK (yr Y b n) e := by
  refine (ofH_at _ b n e).trans ?_
  show sp _ (hx b n e) * toH (sV Y) (hx b n e) = _
  rw [sp_at, hs_at, vH_at]
  refine congrArg (fun z => z * vR (yr Y b n) e) (Finset.sum_congr rfl fun j _ => ?_)
  exact congr (congrArg HMul.hMul (congr (congrArg HMul.hMul (rH_at Y b n (hd e j))) (k2_at Y b n (hd e j) A0 AU KA))) (wv_at RK b n (hd e j))

/-- The gate. -/
theorem r43 (GU : FVec Ideal S160x512 .f32) :
    (Host.dotGeneral dot_S4x4096x160_S160x512_S4x4096x512_2_0_01_1_n_n none (Host.divf (broadcastInDim S4x4096x160 ![] bcast_S_S4x4096x160 (constant S_ .f32 0x3F800000#32)) (addf (broadcastInDim S4x4096x160 ![] bcast_S_S4x4096x160 (constant S_ .f32 0x3F800000#32)) (Host.exp (Host.negf (extractStridedSlice S4x4096x160 ![0, 0, 1664] Y slices_S4x4096x1824_S4x4096x160_0_0_1664))))) GU : FVec Ideal S4x4096x512 .f32) (ix3 b n e)
      = gateV GU (yr Y b n) e := by
  rw [gateV, gate]
  simp only [gR, sg]
  pointwise

/-- The decay's logit, -/
def uT (W0 : FVec Ideal S512 .f32) (WU : FVec Ideal S64x512 .f32) : FVec Ideal S4x4096x512 .f32 :=
  Host.negf (addf (broadcastInDim S4x4096x512 ![0, 1, 2] bcast_S1x1x512_S4x4096x512_0_1_2 (broadcastInDim S1x1x512 ![2] bcast_S512_S1x1x512_2 W0)) (Host.dotGeneral dot_S4x4096x64_S64x512_S4x4096x512_2_0_01_1_n_n none (Host.tanh (extractStridedSlice S4x4096x64 ![0, 0, 1536] Y slices_S4x4096x1824_S4x4096x64_0_0_1536)) WU))

theorem uT_at (W0 : FVec Ideal S512 .f32) (WU : FVec Ideal S64x512 .f32) : uT Y W0 WU (ix3 b n e) = -(W0 (ix1 e) + ∑ j, Ideal.tanh (wR (yr Y b n) j) * WU (ix2 j e)) := by
  rw [uT]
  simp only [wR]
  pointwise

abbrev z512 : FVec Ideal S4x4096x512 .f32 := broadcastInDim S4x4096x512 ![] bcast_S_S4x4096x512 (constant S_ .f32 0x00000000#32)

/-- and the decay. -/
abbrev dT (u : FVec Ideal S4x4096x512 .f32) : FVec Ideal S4x4096x512 .f32 :=
  Host.exp (Host.negf (Host.exp (subf (Host.negf (select (cmpf .une (subf u z512) (subf u z512)) (addf u z512) (addf (maximumf u z512) (Host.log1p (Host.exp (Host.negf (Host.absf (subf u z512)))))))) (broadcastInDim S4x4096x512 ![] bcast_S_S4x4096x512 (constant S_ .f32 0x3F000000#32)))))

/-- The logarithm of one plus an exponential, as the reference takes it. -/
theorem softplus (x : EReal) :
    FloatOps.hostNegf (F := Ideal) (φ := .f32) (Scalar.select (FloatOps.cmpf (F := Ideal) (φ := .f32) .une (FloatOps.subf (F := Ideal) (φ := .f32) x (FloatOps.ofBits .f32 0x00000000#32)) (FloatOps.subf (F := Ideal) (φ := .f32) x (FloatOps.ofBits .f32 0x00000000#32)))
      (FloatOps.addf (F := Ideal) (φ := .f32) x (FloatOps.ofBits .f32 0x00000000#32))
      (FloatOps.addf (F := Ideal) (φ := .f32) (FloatOps.maximumf (F := Ideal) (φ := .f32) x (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) x (FloatOps.ofBits .f32 0x00000000#32)))))))) = -(max x 0 + Cert.Sb.lam x) := by
  have hz : (FloatOps.ofBits (F := Ideal) .f32 0x00000000#32 : EReal) = 0 := Ideal.ofBits_zero_f32
  rw [hz]
  have hs : FloatOps.subf (F := Ideal) (φ := .f32) x (0 : EReal) = x := sub_zero x
  rw [hs]
  have hc : FloatOps.cmpf (F := Ideal) (φ := .f32) .une x x = 0#1 := by
    show BitVec.ofBool (decide (x ≠ x)) = 0#1
    simp
  rw [hc]
  rfl

theorem dT_at (u : FVec Ideal S4x4096x512 .f32) (i : S4x4096x512.Idx) : dT u i = dec (u i) :=
  congrArg (fun z => Ideal.exp (-Ideal.exp (z - Ideal.ofBits .f32 0x3F000000#32))) (softplus (u i))

theorem r81 (W0 : FVec Ideal S512 .f32) (WU : FVec Ideal S64x512 .f32) : ofH (toH (dT (uT Y W0 WU))) (ix3 b n e) = decayV W0 WU (yr Y b n) e :=
  (ofH_at _ b n e).trans ((toH_at _ b n e).trans ((dT_at _ _).trans (congrArg dec (uT_at Y b n e W0 WU))))

/-- A row of the shifted sequence, over the arguments. -/
theorem yr_xs (C : FVec Ideal S4x4096x1824 .f32) (P : FVec Ideal S4x1824 .f32) (M : FVec Ideal S1824 .f32) : yr (xs C P M) b n = sh C P M b n :=
  funext fun f => xs_at C P M b n f

section Results

variable (C : FVec Ideal S4x4096x1824 .f32) (P : FVec Ideal S4x1824 .f32) (M : FVec Ideal S1824 .f32)

theorem f80 : ofH (toH (sR (xs C P M))) (ix3 b n e) = rR (sh C P M b n) e := by
  rw [r80, yr_xs]
theorem f81 (W0 : FVec Ideal S512 .f32) (WU : FVec Ideal S64x512 .f32) : ofH (toH (dT (uT (xs C P M) W0 WU))) (ix3 b n e) = decayV W0 WU (sh C P M b n) e := by
  rw [r81, yr_xs]
theorem f82 (A0 : FVec Ideal S512 .f32) (AU : FVec Ideal S64x512 .f32) (KA : FVec Ideal S512 .f32) : ofH (k2 (xs C P M) A0 AU KA) (ix3 b n e) = ktV A0 AU KA (sh C P M b n) e := by
  rw [r82, yr_xs]
theorem f83 : ofH (toH (sV (xs C P M))) (ix3 b n e) = vR (sh C P M b n) e := by
  rw [r83, yr_xs]
theorem f84 (KK : FVec Ideal S512 .f32) : ofH (Host.negf (knT (kkT (xs C P M) KK))) (ix3 b n e) = -knV KK (sh C P M b n) e := by
  rw [r84, yr_xs]
theorem f85 (KK A0 : FVec Ideal S512 .f32) (AU : FVec Ideal S64x512 .f32) : ofH (mulf (knT (kkT (xs C P M) KK)) (toH (aT (xs C P M) A0 AU))) (ix3 b n e) = knV KK (sh C P M b n) e * iclV A0 AU (sh C P M b n) e := by
  rw [r85, yr_xs]
theorem f86 (A0 : FVec Ideal S512 .f32) (AU : FVec Ideal S64x512 .f32) (KA : FVec Ideal S512 .f32) (RK : FVec Ideal S8x64 .f32) :
    ofH (mulf (sp (hs (mulf (mulf (toH (sR (xs C P M))) (k2 (xs C P M) A0 AU KA)) (wv RK)))) (toH (sV (xs C P M)))) (ix3 b n e) = bonV A0 AU KA RK (sh C P M b n) e := by
  rw [r86, yr_xs]
theorem f43 (GU : FVec Ideal S160x512 .f32) :
    (Host.dotGeneral dot_S4x4096x160_S160x512_S4x4096x512_2_0_01_1_n_n none (Host.divf (broadcastInDim S4x4096x160 ![] bcast_S_S4x4096x160 (constant S_ .f32 0x3F800000#32)) (addf (broadcastInDim S4x4096x160 ![] bcast_S_S4x4096x160 (constant S_ .f32 0x3F800000#32)) (Host.exp (Host.negf (extractStridedSlice S4x4096x160 ![0, 0, 1664] (xs C P M) slices_S4x4096x1824_S4x4096x160_0_0_1664))))) GU : FVec Ideal S4x4096x512 .f32) (ix3 b n e)
      = gateV GU (sh C P M b n) e := by
  rw [r43, yr_xs]

end Results

section Named

variable (m : (ℓ : Loc nD τ sig) → Buf (Elt Ideal) ℓ) (c : Dev nD)

theorem res81_at : (show FVec Ideal S4x4096x512 .f32 from Value.res_main_v81 m c) (ix3 b n e)
    = decayV (m ((c : Thread nD τ).loc main_arg3)) (m ((c : Thread nD τ).loc main_arg4)) (sh (m ((c : Thread nD τ).loc main_arg0)) (m ((c : Thread nD τ).loc main_arg1)) (m ((c : Thread nD τ).loc main_arg2)) b n) e := by
  rw [Value.res_main_v81]
  exact f81 b n e _ _ _ _ _

theorem res85_at : (show FVec Ideal S4x4096x512 .f32 from Value.res_main_v85 m c) (ix3 b n e)
    = knV (m ((c : Thread nD τ).loc main_arg8)) (sh (m ((c : Thread nD τ).loc main_arg0)) (m ((c : Thread nD τ).loc main_arg1)) (m ((c : Thread nD τ).loc main_arg2)) b n) e
      * iclV (m ((c : Thread nD τ).loc main_arg5)) (m ((c : Thread nD τ).loc main_arg6)) (sh (m ((c : Thread nD τ).loc main_arg0)) (m ((c : Thread nD τ).loc main_arg1)) (m ((c : Thread nD τ).loc main_arg2)) b n) e := by
  rw [Value.res_main_v85]
  exact f85 b n e _ _ _ _ _ _

theorem res86_at : (show FVec Ideal S4x4096x512 .f32 from Value.res_main_v86 m c) (ix3 b n e)
    = bonV (m ((c : Thread nD τ).loc main_arg5)) (m ((c : Thread nD τ).loc main_arg6)) (m ((c : Thread nD τ).loc main_arg9)) (m ((c : Thread nD τ).loc main_arg10)) (sh (m ((c : Thread nD τ).loc main_arg0)) (m ((c : Thread nD τ).loc main_arg1)) (m ((c : Thread nD τ).loc main_arg2)) b n) e := by
  rw [Value.res_main_v86]
  exact f86 b n e _ _ _ _ _ _ _

end Named

set_option maxHeartbeats 4000000 in
theorem alg : Cert.algebraic_Kernel13Ideal_Reference13Ideal := by
  intro m g m' g' _ hagree
  refine ⟨fun c => Cert.Kernel13Ideal.Val.out13 m c, fun c => Cert.Kernel13Ideal.Val.out14 m c, fun c => Cert.Kernel13Ideal.Val.out15 m c, fun c => Cert.Kernel13Ideal.Val.out16 m c, fun c => Cert.Kernel13Ideal.Val.out17 m c, fun c => Cert.Kernel13Ideal.Val.out18 m c, fun c => Cert.Kernel13Ideal.Val.out19 m c, fun c => Cert.Kernel13Ideal.Val.out20 m c, ?_, ?_⟩
  · exact (θ_run _ _ _).mono (fun r h c => ⟨((h c).1).trans (Cert.Kernel13Ideal.Val.final13 m c), ((h c).2.1).trans (Cert.Kernel13Ideal.Val.final14 m c), ((h c).2.2.1).trans (Cert.Kernel13Ideal.Val.final15 m c), ((h c).2.2.2.1).trans (Cert.Kernel13Ideal.Val.final16 m c), ((h c).2.2.2.2.1).trans (Cert.Kernel13Ideal.Val.final17 m c), ((h c).2.2.2.2.2.1).trans (Cert.Kernel13Ideal.Val.final18 m c), ((h c).2.2.2.2.2.2.1).trans (Cert.Kernel13Ideal.Val.final19 m c), ((h c).2.2.2.2.2.2.2.1).trans (Cert.Kernel13Ideal.Val.final20 m c), (h c).2.2.2.2.2.2.2.2⟩) (Cert.Kernel13Ideal.Value.run_blocks m g)
  · run_from (Cert.Reference13Ideal.Value.run m' g')
    · funext y
      rw [eq_ix3 y]
      exact f80 (y 0) (y 1) (y 2) _ _ _
    · funext y
      rw [eq_ix3 y]
      refine (res81_at (y 0) (y 1) (y 2) m' _).trans ?_
      rename_i c
      obtain ⟨h0, h1, h2, h3, h4, -, -, -, -, -, -⟩ := hagree c
      rw [h0, h1, h2, h3, h4]
      rfl
    · funext y
      rw [eq_ix3 y]
      exact f82 (y 0) (y 1) (y 2) _ _ _ _ _ _
    · funext y
      rw [eq_ix3 y]
      exact f83 (y 0) (y 1) (y 2) _ _ _
    · funext y
      rw [eq_ix3 y]
      exact f84 (y 0) (y 1) (y 2) _ _ _ _
    · funext y
      rw [eq_ix3 y]
      refine (res85_at (y 0) (y 1) (y 2) m' _).trans ?_
      rename_i c
      obtain ⟨h0, h1, h2, -, -, h5, h6, -, h8, -, -⟩ := hagree c
      rw [h0, h1, h2, h5, h6, h8]
      rfl
    · funext y
      rw [eq_ix3 y]
      exact f43 (y 0) (y 1) (y 2) _ _ _ _
    · funext y
      rw [eq_ix3 y]
      refine (res86_at (y 0) (y 1) (y 2) m' _).trans ?_
      rename_i c
      obtain ⟨h0, h1, h2, -, -, h5, h6, -, -, h9, h10⟩ := hagree c
      rw [h0, h1, h2, h5, h6, h9, h10]
      rfl

end Cert.Reference13Ideal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Track
public import proofs.«01_k».proof.Proof.Same
public import proofs.«01_k».proof.Proof.Value
public import proofs.«01_k».proof.Proof.Norm
public import proofs.«01_k».proof.Proof.Sb
public import proofs.«01_k».proof.Proof.SbTrack
public import proofs.«01_k».proof.Proof.SbSame
public import proofs.«01_k».proof.Proof.SbValue
public import proofs.«01_k».proof.Proof.Up
public import proofs.«01_k».proof.Proof.Down
public import proofs.«01_k».proof.Proof.Proj
public import proofs.«01_k».proof.Proof.Merge
public import Idealize.ShloMosaic.Lib.Claim
public import Idealize.ShloMosaic.Lib.Quiescent
public import Idealize.ShloMosaic.Adequacy
public import Idealize.ShloMosaic.Init
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.SmpNorm
public import proofs.«01_k».proof.Proof.SmpUp
public import proofs.«01_k».proof.Proof.SmpProj
public import proofs.«01_k».proof.Proof.Qp
public import proofs.«01_k».proof.Proof.RwPost
public import proofs.«01_k».proof.Proof.RwPre
public import proofs.«01_k».proof.Proof.RwPreRef

@[expose] public section

noncomputable section

namespace Cert.Proof

open Idealize.ShloMosaic Idealize.SL.Sem

theorem frame_kernelIdeal : Cert.quiescent_KernelIdeal := fun m ρ _ => Cert.KernelIdeal.Att.frame_any m ρ

/-- The kernel as printed and the idealized one are one text, so its frame is the same run read at bits. -/
theorem frame_kernel : Cert.quiescent_Kernel := by
  intro m ρ _
  rw [Cert.Same.defs_eq]
  exact (θ_run Cert.KernelIdeal.defs _ _).mono (fun _ h => h) (Cert.KernelIdeal.Att.frame_any (F := Bits) m ρ)

theorem frame_reference : Cert.quiescent_ReferenceIdeal := by
  intro m g _
  exact (θ_run _ _ _).mono (fun r h => ⟨fun c => (h c).2, sem_eq_zero_of_no_sems rfl r.2⟩) (Cert.ReferenceIdeal.Value.run m g)

theorem frame_kernelIdeal_finite [Cert.Pre_finite.Facts] : Cert.quiescent_KernelIdeal_pre_finite := fun m ρ _ => Cert.KernelIdeal.Att.frame_any m ρ

theorem frame_reference_finite [Cert.Pre_finite.Facts] : Cert.quiescent_ReferenceIdeal_pre_finite := by
  intro m g _
  exact (θ_run _ _ _).mono (fun r h => ⟨fun c => (h c).2, sem_eq_zero_of_no_sems rfl r.2⟩) (Cert.ReferenceIdeal.Value.run m g)

theorem algebraic : Cert.algebraic_KernelIdeal_ReferenceIdeal_pre_finite := by
  intro m g m' g' hp hagree
  have hr := fun c => Cert.KernelIdeal.Val.sco_real m c (hp c)
  have ht : ∀ c b h p k, Cert.KernelIdeal.Val.sco m c b h p k ≠ ⊤ := fun c b h p k => by
    obtain ⟨x, hx⟩ := hr c b h p k
    rw [hx]; exact EReal.coe_ne_top x
  refine ⟨fun c => Cert.KernelIdeal.Val.out m c, ?_, ?_⟩
  · exact (θ_run _ _ _).mono (fun r h c => ⟨((h.1.1 c).1 3).trans (Cert.KernelIdeal.Val.final m c (ht c)), h.2.1 c⟩)
      (θ_run_and (Cert.KernelIdeal.Att.run_all m g) (Cert.KernelIdeal.Att.frame_any m g))
  · run_from (Cert.ReferenceIdeal.Value.run m' g')
    rw [Cert.ReferenceIdeal.Val.res_eq, (hagree c).1, (hagree c).2.1, (hagree c).2.2.1, (hagree c).2.2.2]
    exact Cert.KernelIdeal.Val.out_eq m c (hr c)

theorem frame_reference2 : Cert.quiescent_Reference2Ideal := by
  intro m g _
  exact (θ_run _ _ _).mono (fun r h => ⟨fun c => (h c).2.2.2.2.2.2.2.2, sem_eq_zero_of_no_sems rfl r.2⟩) (Cert.Reference2Ideal.Value.run m g)

theorem frame_reference3 : Cert.quiescent_Reference3Ideal := by
  intro m g _
  exact (θ_run _ _ _).mono (fun r h => ⟨fun c => (h c).2.2, sem_eq_zero_of_no_sems rfl r.2⟩) (Cert.Reference3Ideal.Value.run m g)

theorem frame_reference4 : Cert.quiescent_Reference4Ideal := by
  intro m g _
  exact (θ_run _ _ _).mono (fun r h => ⟨fun c => (h c).2, sem_eq_zero_of_no_sems rfl r.2⟩) (Cert.Reference4Ideal.Value.run m g)

theorem frame_reference5 : Cert.quiescent_Reference5Ideal := by
  intro m g _
  exact (θ_run _ _ _).mono (fun r h => ⟨fun c => (h c).2, sem_eq_zero_of_no_sems rfl r.2⟩) (Cert.Reference5Ideal.Value.run m g)

theorem frame_reference6 : Cert.quiescent_Reference6Ideal := by
  intro m g _
  exact (θ_run _ _ _).mono (fun r h => ⟨fun c => (h c).2, sem_eq_zero_of_no_sems rfl r.2⟩) (Cert.Reference6Ideal.Value.run m g)

theorem frame_kernel7Ideal : Cert.quiescent_Kernel7Ideal := fun m ρ _ => Cert.Kernel7Ideal.Att.frame_any m ρ

theorem frame_kernel7 : Cert.quiescent_Kernel7 := by
  intro m ρ _
  rw [Cert.Same7.defs_eq]
  exact (θ_run Cert.Kernel7Ideal.defs _ _).mono (fun _ h => h) (Cert.Kernel7Ideal.Att.frame_any (F := Bits) m ρ)

theorem frame_reference7 : Cert.quiescent_Reference7Ideal := by
  intro m g _
  exact (θ_run _ _ _).mono (fun r h => ⟨fun c => (h c).2, sem_eq_zero_of_no_sems rfl r.2⟩) (Cert.Reference7Ideal.Value.run m g)

theorem frame_reference8 : Cert.quiescent_Reference8Ideal := by
  intro m g _
  exact (θ_run _ _ _).mono (fun r h => ⟨fun c => (h c).2.2.2.2.2.2.2.2, sem_eq_zero_of_no_sems rfl r.2⟩) (Cert.Reference8Ideal.Value.run m g)

theorem frame_reference9 : Cert.quiescent_Reference9Ideal := by
  intro m g _
  exact (θ_run _ _ _).mono (fun r h => ⟨fun c => (h c).2.2, sem_eq_zero_of_no_sems rfl r.2⟩) (Cert.Reference9Ideal.Value.run m g)

theorem frame_reference10 : Cert.quiescent_Reference10Ideal := by
  intro m g _
  exact (θ_run _ _ _).mono (fun r h => ⟨fun c => (h c).2, sem_eq_zero_of_no_sems rfl r.2⟩) (Cert.Reference10Ideal.Value.run m g)

theorem frame_reference11 : Cert.quiescent_Reference11Ideal := by
  intro m g _
  exact (θ_run _ _ _).mono (fun r h => ⟨fun c => (h c).2, sem_eq_zero_of_no_sems rfl r.2⟩) (Cert.Reference11Ideal.Value.run m g)

theorem frame_reference12 : Cert.quiescent_Reference12Ideal := by
  intro m g _
  exact (θ_run _ _ _).mono (fun r h => ⟨fun c => (h c).2, sem_eq_zero_of_no_sems rfl r.2⟩) (Cert.Reference12Ideal.Value.run m g)

theorem frame_reference13 : Cert.quiescent_Reference13Ideal := by
  intro m g _
  exact (θ_run _ _ _).mono (fun r h => ⟨fun c => (h c).2.2.2.2.2.2.2.2, sem_eq_zero_of_no_sems rfl r.2⟩) (Cert.Reference13Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_finite.facts,
    frame_kernel, frame_kernelIdeal, frame_kernelIdeal_finite, frame_reference, frame_reference_finite,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    frame_kernel7, frame_kernel7Ideal, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    trivial, algebraic, trivial, Cert.Reference2Ideal.Val.alg, trivial, Cert.Reference3Ideal.Val.alg, trivial, Cert.Reference4Ideal.Val.alg, trivial, Cert.Reference5Ideal.Val.alg, trivial, Cert.Reference6Ideal.Val.alg, trivial, Cert.Reference7Ideal.Val.alg, trivial, Cert.Reference8Ideal.Val.alg, trivial, Cert.Reference9Ideal.Val.alg, trivial, Cert.Reference10Ideal.Val.alg, trivial, Cert.Reference11Ideal.Val.alg, trivial, Cert.Reference12Ideal.Val.alg, trivial, Cert.Reference13Ideal.Val.alg⟩

end Cert.Proof

end
